-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Kernel41Ideal_finite [hPre_finite : Cert.Pre_finite.Facts] (m : (ℓ : Loc Cert.Kernel41Ideal.nD Cert.Kernel41Ideal.τ Cert.Kernel41Ideal.sig) → Buf (Elt Ideal) ℓ) : Prop :=
  ∀ c : Dev Cert.Kernel41Ideal.nD,
    (Cert.Pre_finite.fn (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1)) (m ((c.tc : Thread Cert.Kernel41Ideal.nD Cert.Kernel41Ideal.τ).loc Cert.Kernel41Ideal.main_arg2)) (m ((c.tc : Thread Cert.Kernel41Ideal.nD Cert.Kernel41Ideal.τ).loc Cert.Kernel41Ideal.main_arg3))) = (fun _ => 1#1)

def Pre_Reference41Ideal (m : (ℓ : Loc Cert.Reference41Ideal.nD Cert.Reference41Ideal.τ Cert.Reference41Ideal.sig) → Buf (Elt Ideal) ℓ) : Prop :=
  True

def Pre_Reference41Ideal_finite [hPre_finite : Cert.Pre_finite.Facts] (m : (ℓ : Loc Cert.Reference41Ideal.nD Cert.Reference41Ideal.τ Cert.Reference41Ideal.sig) → Buf (Elt Ideal) ℓ) : Prop :=
  ∀ c : Dev Cert.Reference41Ideal.nD,
    (Cert.Pre_finite.fn (F := Ideal) (m ((c.tc : Thread Cert.Reference41Ideal.nD Cert.Reference41Ideal.τ).loc Cert.Reference41Ideal.main_arg0)) (m ((c.tc : Thread Cert.Reference41Ideal.nD Cert.Reference41Ideal.τ).loc Cert.Reference41Ideal.main_arg1)) (m ((c.tc : Thread Cert.Reference41Ideal.nD Cert.Reference41Ideal.τ).loc Cert.Reference41Ideal.main_arg2)) (m ((c.tc : Thread Cert.Reference41Ideal.nD Cert.Reference41Ideal.τ).loc Cert.Reference41Ideal.main_arg3))) = (fun _ => 1#1)

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Kernel42Ideal_finite_gain [hPre_finite_gain : Cert.Pre_finite_gain.Facts] (m : (ℓ : Loc Cert.Kernel42Ideal.nD Cert.Kernel42Ideal.τ Cert.Kernel42Ideal.sig) → Buf (Elt Ideal) ℓ) : Prop :=
  ∀ c : Dev Cert.Kernel42Ideal.nD,
    (Cert.Pre_finite_gain.fn (F := Ideal) (m ((c.tc : Thread Cert.Kernel42Ideal.nD Cert.Kernel42Ideal.τ).loc Cert.Kernel42Ideal.main_arg0)) (m ((c.tc : Thread Cert.Kernel42Ideal.nD Cert.Kernel42Ideal.τ).loc Cert.Kernel42Ideal.main_arg1)) (m ((c.tc : Thread Cert.Kernel42Ideal.nD Cert.Kernel42Ideal.τ).loc Cert.Kernel42Ideal.main_arg2))) = (fun _ => 1#1)

def Pre_Reference42Ideal (m : (ℓ : Loc Cert.Reference42Ideal.nD Cert.Reference42Ideal.τ Cert.Reference42Ideal.sig) → Buf (Elt Ideal) ℓ) : Prop :=
  True

def Pre_Reference42Ideal_finite_gain [hPre_finite_gain : Cert.Pre_finite_gain.Facts] (m : (ℓ : Loc Cert.Reference42Ideal.nD Cert.Reference42Ideal.τ Cert.Reference42Ideal.sig) → Buf (Elt Ideal) ℓ) : Prop :=
  ∀ c : Dev Cert.Reference42Ideal.nD,
    (Cert.Pre_finite_gain.fn (F := Ideal) (m ((c.tc : Thread Cert.Reference42Ideal.nD Cert.Reference42Ideal.τ).loc Cert.Reference42Ideal.main_arg0)) (m ((c.tc : Thread Cert.Reference42Ideal.nD Cert.Reference42Ideal.τ).loc Cert.Reference42Ideal.main_arg1)) (m ((c.tc : Thread Cert.Reference42Ideal.nD Cert.Reference42Ideal.τ).loc Cert.Reference42Ideal.main_arg2))) = (fun _ => 1#1)

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Kernel41Ideal_pre_finite [hKernel41Ideal : Cert.Kernel41Ideal.Facts] [hPre_finite : Cert.Pre_finite.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal_finite m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Reference41Ideal_pre_finite [hReference41Ideal : Cert.Reference41Ideal.Facts] [hPre_finite : Cert.Pre_finite.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal_finite m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Kernel42Ideal_pre_finite_gain [hKernel42Ideal : Cert.Kernel42Ideal.Facts] [hPre_finite_gain : Cert.Pre_finite_gain.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal_finite_gain m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Reference42Ideal_pre_finite_gain [hReference42Ideal : Cert.Reference42Ideal.Facts] [hPre_finite_gain : Cert.Pre_finite_gain.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal_finite_gain m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v235) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg1) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg1) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg1) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg1) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_arg1) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_v4) = v2 c
          ∧ r.2.mem ((c.tc : Thread Cert.Reference23Ideal.nD Cert.Reference23Ideal.τ).loc Cert.Reference23Ideal.main_v10) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_arg1) = v0 c
          ∧ r.2.mem ((c.tc : Thread Cert.Reference24Ideal.nD Cert.Reference24Ideal.τ).loc Cert.Reference24Ideal.main_v23) = v1 c
          ∧ r.2.mem ((c.tc : Thread Cert.Reference24Ideal.nD Cert.Reference24Ideal.τ).loc Cert.Reference24Ideal.main_v4) = v2 c
          ∧ r.2.mem ((c.tc : Thread Cert.Reference24Ideal.nD Cert.Reference24Ideal.τ).loc Cert.Reference24Ideal.main_v10) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_arg1) = v0 c
          ∧ r.2.mem ((c.tc : Thread Cert.Reference25Ideal.nD Cert.Reference25Ideal.τ).loc Cert.Reference25Ideal.main_v23) = v1 c
          ∧ r.2.mem ((c.tc : Thread Cert.Reference25Ideal.nD Cert.Reference25Ideal.τ).loc Cert.Reference25Ideal.main_v4) = v2 c
          ∧ r.2.mem ((c.tc : Thread Cert.Reference25Ideal.nD Cert.Reference25Ideal.τ).loc Cert.Reference25Ideal.main_v10) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_arg1) = v0 c
          ∧ r.2.mem ((c.tc : Thread Cert.Reference26Ideal.nD Cert.Reference26Ideal.τ).loc Cert.Reference26Ideal.main_v23) = v1 c
          ∧ r.2.mem ((c.tc : Thread Cert.Reference26Ideal.nD Cert.Reference26Ideal.τ).loc Cert.Reference26Ideal.main_v4) = v2 c
          ∧ r.2.mem ((c.tc : Thread Cert.Reference26Ideal.nD Cert.Reference26Ideal.τ).loc Cert.Reference26Ideal.main_v10) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v47) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v8) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v3) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v8) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v3_0)) (v1 : (c : Dev Cert.Kernel30Ideal.nD) → Buf (Elt Ideal) ((c.tc : Thread Cert.Kernel30Ideal.nD Cert.Kernel30Ideal.τ).loc Cert.Kernel30Ideal.main_v3_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v3_0) = v0 c
          ∧ r.2.mem ((c.tc : Thread Cert.Kernel30Ideal.nD Cert.Kernel30Ideal.τ).loc Cert.Kernel30Ideal.main_v3_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v7) = v0 c
          ∧ r.2.mem ((c.tc : Thread Cert.Reference30Ideal.nD Cert.Reference30Ideal.τ).loc Cert.Reference30Ideal.main_v3) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v37) = v0 c
          ∧ r.2.mem ((c.tc : Thread Cert.Reference31Ideal.nD Cert.Reference31Ideal.τ).loc Cert.Reference31Ideal.main_v38) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v1_0)) (v1 : (c : Dev Cert.Kernel32Ideal.nD) → Buf (Elt Ideal) ((c.tc : Thread Cert.Kernel32Ideal.nD Cert.Kernel32Ideal.τ).loc Cert.Kernel32Ideal.main_v1_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1_0) = v0 c
          ∧ r.2.mem ((c.tc : Thread Cert.Kernel32Ideal.nD Cert.Kernel32Ideal.τ).loc Cert.Kernel32Ideal.main_v1_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v9) = v0 c
          ∧ r.2.mem ((c.tc : Thread Cert.Reference32Ideal.nD Cert.Reference32Ideal.τ).loc Cert.Reference32Ideal.main_v10) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v8) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v14) = v0 c
          ∧ r.2.mem ((c.tc : Thread Cert.Reference34Ideal.nD Cert.Reference34Ideal.τ).loc Cert.Reference34Ideal.main_v15) = v1 c
          ∧ r.2.mem ((c.tc : Thread Cert.Reference34Ideal.nD Cert.Reference34Ideal.τ).loc Cert.Reference34Ideal.main_v19) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v1_0)) (v1 : (c : Dev Cert.Kernel35Ideal.nD) → Buf (Elt Ideal) ((c.tc : Thread Cert.Kernel35Ideal.nD Cert.Kernel35Ideal.τ).loc Cert.Kernel35Ideal.main_v1_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v1_0) = v0 c
          ∧ r.2.mem ((c.tc : Thread Cert.Kernel35Ideal.nD Cert.Kernel35Ideal.τ).loc Cert.Kernel35Ideal.main_v1_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v13) = v0 c
          ∧ r.2.mem ((c.tc : Thread Cert.Reference35Ideal.nD Cert.Reference35Ideal.τ).loc Cert.Reference35Ideal.main_v14) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v1) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v12) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v2_0)) (v1 : (c : Dev Cert.Kernel37Ideal.nD) → Buf (Elt Ideal) ((c.tc : Thread Cert.Kernel37Ideal.nD Cert.Kernel37Ideal.τ).loc Cert.Kernel37Ideal.main_v2_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v2_0) = v0 c
          ∧ r.2.mem ((c.tc : Thread Cert.Kernel37Ideal.nD Cert.Kernel37Ideal.τ).loc Cert.Kernel37Ideal.main_v2_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v24) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v1_0)) (v1 : (c : Dev Cert.Kernel38Ideal.nD) → Buf (Elt Ideal) ((c.tc : Thread Cert.Kernel38Ideal.nD Cert.Kernel38Ideal.τ).loc Cert.Kernel38Ideal.main_v1_1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1_0) = v0 c
          ∧ r.2.mem ((c.tc : Thread Cert.Kernel38Ideal.nD Cert.Kernel38Ideal.τ).loc Cert.Kernel38Ideal.main_v1_1) = v1 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v22) = v0 c
          ∧ r.2.mem ((c.tc : Thread Cert.Reference38Ideal.nD Cert.Reference38Ideal.τ).loc Cert.Reference38Ideal.main_v23) = v1 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v3) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v85) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v1_0)) (v1 : (c : Dev Cert.Kernel40Ideal.nD) → Buf (Elt Ideal) ((c.tc : Thread Cert.Kernel40Ideal.nD Cert.Kernel40Ideal.τ).loc Cert.Kernel40Ideal.main_v1_1)) (v2 : (c : Dev Cert.Kernel40Ideal.nD) → Buf (Elt Ideal) ((c.tc : Thread Cert.Kernel40Ideal.nD Cert.Kernel40Ideal.τ).loc Cert.Kernel40Ideal.main_v1_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v1_0) = v0 c
          ∧ r.2.mem ((c.tc : Thread Cert.Kernel40Ideal.nD Cert.Kernel40Ideal.τ).loc Cert.Kernel40Ideal.main_v1_1) = v1 c
          ∧ r.2.mem ((c.tc : Thread Cert.Kernel40Ideal.nD Cert.Kernel40Ideal.τ).loc Cert.Kernel40Ideal.main_v1_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v36) = v0 c
          ∧ r.2.mem ((c.tc : Thread Cert.Reference40Ideal.nD Cert.Reference40Ideal.τ).loc Cert.Reference40Ideal.main_v37) = v1 c
          ∧ r.2.mem ((c.tc : Thread Cert.Reference40Ideal.nD Cert.Reference40Ideal.τ).loc Cert.Reference40Ideal.main_v38) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal_pre_finite [hKernel41Ideal : Cert.Kernel41Ideal.Facts] [hReference41Ideal : Cert.Reference41Ideal.Facts] [hPre_finite : Cert.Pre_finite.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal_finite m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v2_0)) (v1 : (c : Dev Cert.Kernel41Ideal.nD) → Buf (Elt Ideal) ((c.tc : Thread Cert.Kernel41Ideal.nD Cert.Kernel41Ideal.τ).loc Cert.Kernel41Ideal.main_v2_1)) (v2 : (c : Dev Cert.Kernel41Ideal.nD) → Buf (Elt Ideal) ((c.tc : Thread Cert.Kernel41Ideal.nD Cert.Kernel41Ideal.τ).loc Cert.Kernel41Ideal.main_v2_2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v2_0) = v0 c
          ∧ r.2.mem ((c.tc : Thread Cert.Kernel41Ideal.nD Cert.Kernel41Ideal.τ).loc Cert.Kernel41Ideal.main_v2_1) = v1 c
          ∧ r.2.mem ((c.tc : Thread Cert.Kernel41Ideal.nD Cert.Kernel41Ideal.τ).loc Cert.Kernel41Ideal.main_v2_2) = v2 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v57) = v0 c
          ∧ r.2.mem ((c.tc : Thread Cert.Reference41Ideal.nD Cert.Reference41Ideal.τ).loc Cert.Reference41Ideal.main_v58) = v1 c
          ∧ r.2.mem ((c.tc : Thread Cert.Reference41Ideal.nD Cert.Reference41Ideal.τ).loc Cert.Reference41Ideal.main_v59) = v2 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal_pre_finite_gain [hKernel42Ideal : Cert.Kernel42Ideal.Facts] [hReference42Ideal : Cert.Reference42Ideal.Facts] [hPre_finite_gain : Cert.Pre_finite_gain.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal_finite_gain m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v41)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v41) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v51) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  IdealRules.named_const.Statement Cert.Kernel43Ideal.κ "mask" .f32 0xF149F2CA#32 ⊥

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v3)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v3) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v66) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hPre_finite : Cert.Pre_finite.Facts) (hPre_finite_gain : Cert.Pre_finite_gain.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Kernel41Ideal_pre_finite (hKernel41Ideal := hKernel41Ideal) (hPre_finite := hPre_finite)
    ∧ quiescent_Reference41Ideal (hReference41Ideal := hReference41Ideal)
    ∧ quiescent_Reference41Ideal_pre_finite (hReference41Ideal := hReference41Ideal) (hPre_finite := hPre_finite)
    ∧ quiescent_Kernel42 (hKernel42 := hKernel42)
    ∧ quiescent_Kernel42Ideal (hKernel42Ideal := hKernel42Ideal)
    ∧ quiescent_Kernel42Ideal_pre_finite_gain (hKernel42Ideal := hKernel42Ideal) (hPre_finite_gain := hPre_finite_gain)
    ∧ quiescent_Reference42Ideal (hReference42Ideal := hReference42Ideal)
    ∧ quiescent_Reference42Ideal_pre_finite_gain (hReference42Ideal := hReference42Ideal) (hPre_finite_gain := hPre_finite_gain)
    ∧ quiescent_Kernel43 (hKernel43 := hKernel43)
    ∧ quiescent_Kernel43Ideal (hKernel43Ideal := hKernel43Ideal)
    ∧ quiescent_Reference43Ideal (hReference43Ideal := hReference43Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal_pre_finite (hKernel41Ideal := hKernel41Ideal) (hReference41Ideal := hReference41Ideal) (hPre_finite := hPre_finite)
    ∧ preserves_Kernel42_Kernel42Ideal
    ∧ algebraic_Kernel42Ideal_Reference42Ideal_pre_finite_gain (hKernel42Ideal := hKernel42Ideal) (hReference42Ideal := hReference42Ideal) (hPre_finite_gain := hPre_finite_gain)
    ∧ preserves_Kernel43_Kernel43Ideal
    ∧ algebraic_Kernel43Ideal_Reference43Ideal (hKernel43Ideal := hKernel43Ideal) (hReference43Ideal := hReference43Ideal)
-- ==== Pre_finite.lean ====
abbrev S4096x2048 : Shape := ⟨2, ![4096, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x2048 .f32) (main_arg1 : FVec F S2048 .f32) (main_arg2 : FVec F S2048 .f32) (main_arg3 : FVec F S4096x2048 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S4096x2048 .f32 := Host.absf main_arg3
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Pre_finite_gain.lean ====
abbrev S32x4096x64 : Shape := ⟨3, ![32, 4096, 64]⟩
abbrev S64 : Shape := ⟨1, ![64]⟩
abbrev S4096 : Shape := ⟨1, ![4096]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S32x4096x64 .f32) (main_arg1 : FVec F S64 .f32) (main_arg2 : IVec S4096 32) : IVec S_ 1 :=
  let main_v0 : FVec F S64 .f32 := Host.absf main_arg1
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  main_v3
-- ==== Kernel.lean ====
abbrev S2x4096x2048 : Shape := ⟨3, ![2, 4096, 2048]⟩
abbrev S2x1x2048 : Shape := ⟨3, ![2, 1, 2048]⟩
abbrev S31x2048 : Shape := ⟨2, ![31, 2048]⟩
abbrev S4096x2048 : Shape := ⟨2, ![4096, 2048]⟩
abbrev S1x2048 : Shape := ⟨2, ![1, 2048]⟩
abbrev S2x4096x128 : Shape := ⟨3, ![2, 4096, 128]⟩
abbrev S4096x128 : Shape := ⟨2, ![4096, 128]⟩
abbrev S31x128 : Shape := ⟨2, ![31, 128]⟩
abbrev S1x128 : Shape := ⟨2, ![1, 128]⟩
abbrev S2x1x128 : Shape := ⟨3, ![2, 1, 128]⟩
abbrev S31x8x128 : Shape := ⟨3, ![31, 8, 128]⟩
abbrev S3x8x128 : Shape := ⟨3, ![3, 8, 128]⟩
abbrev S1x32x128 : Shape := ⟨3, ![1, 32, 128]⟩
abbrev S32x128 : Shape := ⟨2, ![32, 128]⟩
abbrev S1x256x128 : Shape := ⟨3, ![1, 256, 128]⟩
abbrev S256x128 : Shape := ⟨2, ![256, 128]⟩
abbrev S288x128 : Shape := ⟨2, ![288, 128]⟩
abbrev S1x8x128 : Shape := ⟨3, ![1, 8, 128]⟩
abbrev S8x128 : Shape := ⟨2, ![8, 128]⟩
abbrev S32x8x128 : Shape := ⟨3, ![32, 8, 128]⟩
abbrev S128 : Shape := ⟨1, ![128]⟩
abbrev S1x1x128 : Shape := ⟨3, ![1, 1, 128]⟩

abbrev nBuf : Space → Nat
  | .hbm => 11
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S2x1x2048, .f32⟩
  | .hbm, ⟨2, _⟩ => ⟨S31x2048, .f32⟩
  | .hbm, ⟨3, _⟩ => ⟨S4096x2048, .f32⟩
  | .hbm, ⟨4, _⟩ => ⟨S2x4096x2048, .f32⟩
  | .hbm, ⟨5, _⟩ => ⟨S2x4096x2048, .f32⟩
  | .hbm, ⟨6, _⟩ => ⟨S2x4096x2048, .bf16⟩
  | .hbm, ⟨7, _⟩ => ⟨S2x4096x2048, .bf16⟩
  | .hbm, ⟨8, _⟩ => ⟨S31x2048, .f32⟩
  | .hbm, ⟨9, _⟩ => ⟨S1x2048, .f32⟩
  | .hbm, ⟨10, _⟩ => ⟨S2x1x2048, .f32⟩
  | .local _ .vmem, ⟨0, _⟩ => ⟨S2x4096x128, .bf16⟩
  | .local _ .vmem, ⟨1, _⟩ => ⟨S2x4096x128, .bf16⟩
  | .local _ .vmem, ⟨2, _⟩ => ⟨S4096x128, .f32⟩
  | .local _ .vmem, ⟨3, _⟩ => ⟨S4096x128, .f32⟩
  | .local _ .vmem, ⟨4, _⟩ => ⟨S31x128, .f32⟩
  | .local _ .vmem, ⟨5, _⟩ => ⟨S31x128, .f32⟩
  | .local _ .vmem, ⟨6, _⟩ => ⟨S2x4096x128, .bf16⟩
  | .local _ .vmem, ⟨7, _⟩ => ⟨S2x4096x128, .bf16⟩
  | .local _ .vmem, ⟨8, _⟩ => ⟨S31x128, .f32⟩
  | .local _ .vmem, ⟨9, _⟩ => ⟨S31x128, .f32⟩
  | .local _ .vmem, ⟨10, _⟩ => ⟨S1x128, .f32⟩
  | .local _ .vmem, ⟨11, _⟩ => ⟨S1x128, .f32⟩
  | .local _ .vmem, ⟨12, _⟩ => ⟨S2x1x128, .f32⟩
  | .local _ .vmem, ⟨13, _⟩ => ⟨S2x1x128, .f32⟩
  | .local _ .vmem, ⟨14, _⟩ => ⟨S31x8x128, .f32⟩
  | .local _ .vmem, ⟨15, _⟩ => ⟨S3x8x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v183 : BitVec 32 := Scalar.muli arg10 c256_i32
  v183
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v183 : BitVec 32 := Scalar.muli arg10 c256_i32
  let v184 : BitVec 32 := v183
  let c32_i32 : BitVec 32 := 32#32
  let v187 : BitVec 32 := Scalar.subi v184 c32_i32
  let c0_i32_184 : BitVec 32 := 0#32
  let v188 : BitVec 32 := Scalar.maxsi v187 c0_i32_184
  v188
def k0_off1 (k0_t1 : Fin k0_t1_loop.trips) : Fin 3 → Nat :=
  let c0_185 : Index := 0#32
  let c0_i32 : BitVec 32 := 0#32
  let c1_i32 : BitVec 32 := 1#32
  let arg10 : BitVec 32 := Scf.iv c0_i32 c1_i32 k0_t1
  let c256_i32 : BitVec 32 := 256#32
  let v183 : BitVec 32 := Scalar.muli arg10 c256_i32
  let v184 : BitVec 32 := v183
  let c32_i32 : BitVec 32 := 32#32
  let v187 : BitVec 32 := Scalar.subi v184 c32_i32
  let c0_i32_184 : BitVec 32 := 0#32
  let v188 : BitVec 32 := Scalar.maxsi v187 c0_i32_184
  let v189 : BitVec 32 := v188
  let v190 : Index := Scalar.indexCast v189
  let c0_186 : Index := 0#32
  ![0, v190.toNat, 0]
def k0_off2 (k0_t1 : Fin k0_t1_loop.trips) : Fin 3 → Nat :=
  let c0_189 : Index := 0#32
  let c0_i32 : BitVec 32 := 0#32
  let c1_i32 : BitVec 32 := 1#32
  let arg10 : BitVec 32 := Scf.iv c0_i32 c1_i32 k0_t1
  let c256_i32 : BitVec 32 := 256#32
  let v183 : BitVec 32 := Scalar.muli arg10 c256_i32
  let v184 : BitVec 32 := v183
  let v197 : Index := Scalar.indexCast v184
  let c0_190 : Index := 0#32
  ![0, v197.toNat, 0]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v183 : BitVec 32 := Scalar.muli arg10 c256_i32
  let v184 : BitVec 32 := v183
  let c32_i32_191 : BitVec 32 := 32#32
  let v202 : BitVec 32 := Scalar.subi v184 c32_i32_191
  let c0_i32_192 : BitVec 32 := 0#32
  let v203 : BitVec 32 := Scalar.maxsi v202 c0_i32_192
  v203
def k0_off3 (k0_t1 : Fin k0_t1_loop.trips) : Fin 3 → Nat :=
  let c1_193 : Index := 1#32
  let c0_i32 : BitVec 32 := 0#32
  let c1_i32 : BitVec 32 := 1#32
  let arg10 : BitVec 32 := Scf.iv c0_i32 c1_i32 k0_t1
  let c256_i32 : BitVec 32 := 256#32
  let v183 : BitVec 32 := Scalar.muli arg10 c256_i32
  let v184 : BitVec 32 := v183
  let c32_i32_191 : BitVec 32 := 32#32
  let v202 : BitVec 32 := Scalar.subi v184 c32_i32_191
  let c0_i32_192 : BitVec 32 := 0#32
  let v203 : BitVec 32 := Scalar.maxsi v202 c0_i32_192
  let v204 : BitVec 32 := v203
  let v205 : Index := Scalar.indexCast v204
  let c0_194 : Index := 0#32
  ![1, v205.toNat, 0]
def k0_off4 (k0_t1 : Fin k0_t1_loop.trips) : Fin 3 → Nat :=
  let c1_197 : Index := 1#32
  let c0_i32 : BitVec 32 := 0#32
  let c1_i32 : BitVec 32 := 1#32
  let arg10 : BitVec 32 := Scf.iv c0_i32 c1_i32 k0_t1
  let c256_i32 : BitVec 32 := 256#32
  let v183 : BitVec 32 := Scalar.muli arg10 c256_i32
  let v184 : BitVec 32 := v183
  let v212 : Index := Scalar.indexCast v184
  let c0_198 : Index := 0#32
  ![1, v212.toNat, 0]
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v183 : BitVec 32 := Scalar.muli arg10 c256_i32
  let v184 : BitVec 32 := v183
  let v225 : Index := Scalar.indexCast v184
  let c0_202 : Index := 0#32
  ![v225.toNat, 0]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v183 : BitVec 32 := Scalar.muli arg10 c256_i32
  let v184 : BitVec 32 := v183
  let c256_i32_203 : BitVec 32 := 256#32
  let v227 : BitVec 32 := Scalar.addi v184 c256_i32_203
  let c4064_i32 : BitVec 32 := 4064#32
  let v228 : BitVec 32 := Scalar.minsi v227 c4064_i32
  v228
def k0_off6 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v183 : BitVec 32 := Scalar.muli arg10 c256_i32
  let v184 : BitVec 32 := v183
  let c256_i32_203 : BitVec 32 := 256#32
  let v227 : BitVec 32 := Scalar.addi v184 c256_i32_203
  let c4064_i32 : BitVec 32 := 4064#32
  let v228 : BitVec 32 := Scalar.minsi v227 c4064_i32
  let v229 : BitVec 32 := v228
  let v230 : Index := Scalar.indexCast v229
  let c0_204 : Index := 0#32
  ![v230.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S31x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x4096x2048 : Shape := ⟨3, ![2, 4096, 2048]⟩
abbrev S2x1x2048 : Shape := ⟨3, ![2, 1, 2048]⟩
abbrev S31x2048 : Shape := ⟨2, ![31, 2048]⟩
abbrev S4096x2048 : Shape := ⟨2, ![4096, 2048]⟩
abbrev S_ : Shape := ⟨0, ![]⟩
abbrev S1x2048 : Shape := ⟨2, ![1, 2048]⟩
abbrev S1x4096x2048 : Shape := ⟨3, ![1, 4096, 2048]⟩
abbrev S30x2048 : Shape := ⟨2, ![30, 2048]⟩
abbrev S4126x2048 : Shape := ⟨2, ![4126, 2048]⟩
abbrev S16x4096x2048 : Shape := ⟨3, ![16, 4096, 2048]⟩
abbrev S15x4096x2048 : Shape := ⟨3, ![15, 4096, 2048]⟩
abbrev S31x4096x2048 : Shape := ⟨3, ![31, 4096, 2048]⟩
abbrev S31x1x2048 : Shape := ⟨3, ![31, 1, 2048]⟩
abbrev S2048 : Shape := ⟨1, ![2048]⟩
abbrev S2x2048 : Shape := ⟨2, ![2, 2048]⟩

abbrev nBuf : Space → Nat
  | .hbm => 285
  | .vmem => 0
  | .smem => 0
  | _ => 0

abbrev hbmTy0_0 (i : Nat) : BufTy := match i % 128 with
  | 0 => ⟨S2x4096x2048, .f32⟩
  | 1 => ⟨S2x1x2048, .f32⟩
  | 2 => ⟨S31x2048, .f32⟩
  | 3 => ⟨S4096x2048, .f32⟩
  | 4 => ⟨S_, .f32⟩
  | 5 => ⟨S1x2048, .f32⟩
  | 6 => ⟨S2x4096x2048, .f32⟩
  | 7 => ⟨S2x4096x2048, .f32⟩
  | 8 => ⟨S1x4096x2048, .f32⟩
  | 9 => ⟨S4096x2048, .f32⟩
  | 10 => ⟨S1x4096x2048, .f32⟩
  | 11 => ⟨S4096x2048, .f32⟩
  | 12 => ⟨S4096x2048, .f32⟩
  | 13 => ⟨S4096x2048, .f32⟩
  | 14 => ⟨S_, .f32⟩
  | 15 => ⟨S4096x2048, .f32⟩
  | 16 => ⟨S4096x2048, .f32⟩
  | 17 => ⟨S_, .f32⟩
  | 18 => ⟨S4096x2048, .f32⟩
  | 19 => ⟨S4096x2048, .f32⟩
  | 20 => ⟨S_, .f32⟩
  | 21 => ⟨S4096x2048, .f32⟩
  | 22 => ⟨S4096x2048, .f32⟩
  | 23 => ⟨S4096x2048, .f32⟩
  | 24 => ⟨S4096x2048, .f32⟩
  | 25 => ⟨S_, .f32⟩
  | 26 => ⟨S30x2048, .f32⟩
  | 27 => ⟨S4126x2048, .f32⟩
  | 28 => ⟨S_, .f32⟩
  | 29 => ⟨S30x2048, .f32⟩
  | 30 => ⟨S4096x2048, .f32⟩
  | 31 => ⟨S4096x2048, .f32⟩
  | 32 => ⟨S4096x2048, .f32⟩
  | 33 => ⟨S4096x2048, .f32⟩
  | 34 => ⟨S4096x2048, .f32⟩
  | 35 => ⟨S4096x2048, .f32⟩
  | 36 => ⟨S4096x2048, .f32⟩
  | 37 => ⟨S4096x2048, .f32⟩
  | 38 => ⟨S4096x2048, .f32⟩
  | 39 => ⟨S4096x2048, .f32⟩
  | 40 => ⟨S4096x2048, .f32⟩
  | 41 => ⟨S4096x2048, .f32⟩
  | 42 => ⟨S4096x2048, .f32⟩
  | 43 => ⟨S4096x2048, .f32⟩
  | 44 => ⟨S4096x2048, .f32⟩
  | 45 => ⟨S4096x2048, .f32⟩
  | 46 => ⟨S4096x2048, .f32⟩
  | 47 => ⟨S4096x2048, .f32⟩
  | 48 => ⟨S4096x2048, .f32⟩
  | 49 => ⟨S4096x2048, .f32⟩
  | 50 => ⟨S4096x2048, .f32⟩
  | 51 => ⟨S4096x2048, .f32⟩
  | 52 => ⟨S4096x2048, .f32⟩
  | 53 => ⟨S4096x2048, .f32⟩
  | 54 => ⟨S4096x2048, .f32⟩
  | 55 => ⟨S4096x2048, .f32⟩
  | 56 => ⟨S4096x2048, .f32⟩
  | 57 => ⟨S4096x2048, .f32⟩
  | 58 => ⟨S4096x2048, .f32⟩
  | 59 => ⟨S4096x2048, .f32⟩
  | 60 => ⟨S4096x2048, .f32⟩
  | 61 => ⟨S1x4096x2048, .f32⟩
  | 62 => ⟨S1x4096x2048, .f32⟩
  | 63 => ⟨S1x4096x2048, .f32⟩
  | 64 => ⟨S1x4096x2048, .f32⟩
  | 65 => ⟨S1x4096x2048, .f32⟩
  | 66 => ⟨S1x4096x2048, .f32⟩
  | 67 => ⟨S1x4096x2048, .f32⟩
  | 68 => ⟨S1x4096x2048, .f32⟩
  | 69 => ⟨S1x4096x2048, .f32⟩
  | 70 => ⟨S1x4096x2048, .f32⟩
  | 71 => ⟨S1x4096x2048, .f32⟩
  | 72 => ⟨S1x4096x2048, .f32⟩
  | 73 => ⟨S1x4096x2048, .f32⟩
  | 74 => ⟨S1x4096x2048, .f32⟩
  | 75 => ⟨S1x4096x2048, .f32⟩
  | 76 => ⟨S1x4096x2048, .f32⟩
  | 77 => ⟨S1x4096x2048, .f32⟩
  | 78 => ⟨S1x4096x2048, .f32⟩
  | 79 => ⟨S1x4096x2048, .f32⟩
  | 80 => ⟨S1x4096x2048, .f32⟩
  | 81 => ⟨S1x4096x2048, .f32⟩
  | 82 => ⟨S1x4096x2048, .f32⟩
  | 83 => ⟨S1x4096x2048, .f32⟩
  | 84 => ⟨S1x4096x2048, .f32⟩
  | 85 => ⟨S1x4096x2048, .f32⟩
  | 86 => ⟨S1x4096x2048, .f32⟩
  | 87 => ⟨S1x4096x2048, .f32⟩
  | 88 => ⟨S1x4096x2048, .f32⟩
  | 89 => ⟨S1x4096x2048, .f32⟩
  | 90 => ⟨S1x4096x2048, .f32⟩
  | 91 => ⟨S1x4096x2048, .f32⟩
  | 92 => ⟨S16x4096x2048, .f32⟩
  | 93 => ⟨S15x4096x2048, .f32⟩
  | 94 => ⟨S31x4096x2048, .f32⟩
  | 95 => ⟨S31x1x2048, .f32⟩
  | 96 => ⟨S31x4096x2048, .f32⟩
  | 97 => ⟨S31x4096x2048, .f32⟩
  | 98 => ⟨S_, .f32⟩
  | 99 => ⟨S4096x2048, .f32⟩
  | 100 => ⟨S4096x2048, .f32⟩
  | 101 => ⟨S4096x2048, .f32⟩
  | 102 => ⟨S4096x2048, .f32⟩
  | 103 => ⟨S_, .f32⟩
  | 104 => ⟨S2048, .f32⟩
  | 105 => ⟨S1x2048, .f32⟩
  | 106 => ⟨S31x4096x2048, .f32⟩
  | 107 => ⟨S31x4096x2048, .f32⟩
  | 108 => ⟨S31x4096x2048, .f32⟩
  | 109 => ⟨S31x4096x2048, .f32⟩
  | 110 => ⟨S_, .f32⟩
  | 111 => ⟨S31x2048, .f32⟩
  | 112 => ⟨S31x1x2048, .f32⟩
  | 113 => ⟨S_, .f32⟩
  | 114 => ⟨S31x2048, .f32⟩
  | 115 => ⟨S1x4096x2048, .f32⟩
  | 116 => ⟨S4096x2048, .f32⟩
  | 117 => ⟨S1x4096x2048, .f32⟩
  | 118 => ⟨S4096x2048, .f32⟩
  | 119 => ⟨S1x4096x2048, .f32⟩
  | 120 => ⟨S4096x2048, .f32⟩
  | 121 => ⟨S1x4096x2048, .f32⟩
  | 122 => ⟨S4096x2048, .f32⟩
  | 123 => ⟨S1x4096x2048, .f32⟩
  | 124 => ⟨S4096x2048, .f32⟩
  | 125 => ⟨S1x4096x2048, .f32⟩
  | 126 => ⟨S4096x2048, .f32⟩
  | 127 => ⟨S1x4096x2048, .f32⟩
  | _ => ⟨S2x4096x2048, .f32⟩

abbrev hbmTy0_1 (i : Nat) : BufTy := match i % 128 with
  | 0 => ⟨S4096x2048, .f32⟩
  | 1 => ⟨S1x4096x2048, .f32⟩
  | 2 => ⟨S4096x2048, .f32⟩
  | 3 => ⟨S1x4096x2048, .f32⟩
  | 4 => ⟨S4096x2048, .f32⟩
  | 5 => ⟨S1x4096x2048, .f32⟩
  | 6 => ⟨S4096x2048, .f32⟩
  | 7 => ⟨S1x4096x2048, .f32⟩
  | 8 => ⟨S4096x2048, .f32⟩
  | 9 => ⟨S1x4096x2048, .f32⟩
  | 10 => ⟨S4096x2048, .f32⟩
  | 11 => ⟨S1x4096x2048, .f32⟩
  | 12 => ⟨S4096x2048, .f32⟩
  | 13 => ⟨S1x4096x2048, .f32⟩
  | 14 => ⟨S4096x2048, .f32⟩
  | 15 => ⟨S1x4096x2048, .f32⟩
  | 16 => ⟨S4096x2048, .f32⟩
  | 17 => ⟨S1x4096x2048, .f32⟩
  | 18 => ⟨S4096x2048, .f32⟩
  | 19 => ⟨S1x4096x2048, .f32⟩
  | 20 => ⟨S4096x2048, .f32⟩
  | 21 => ⟨S1x4096x2048, .f32⟩
  | 22 => ⟨S4096x2048, .f32⟩
  | 23 => ⟨S1x4096x2048, .f32⟩
  | 24 => ⟨S4096x2048, .f32⟩
  | 25 => ⟨S1x4096x2048, .f32⟩
  | 26 => ⟨S4096x2048, .f32⟩
  | 27 => ⟨S1x4096x2048, .f32⟩
  | 28 => ⟨S4096x2048, .f32⟩
  | 29 => ⟨S1x4096x2048, .f32⟩
  | 30 => ⟨S4096x2048, .f32⟩
  | 31 => ⟨S1x4096x2048, .f32⟩
  | 32 => ⟨S4096x2048, .f32⟩
  | 33 => ⟨S1x4096x2048, .f32⟩
  | 34 => ⟨S4096x2048, .f32⟩
  | 35 => ⟨S1x4096x2048, .f32⟩
  | 36 => ⟨S4096x2048, .f32⟩
  | 37 => ⟨S1x4096x2048, .f32⟩
  | 38 => ⟨S4096x2048, .f32⟩
  | 39 => ⟨S1x4096x2048, .f32⟩
  | 40 => ⟨S4096x2048, .f32⟩
  | 41 => ⟨S1x4096x2048, .f32⟩
  | 42 => ⟨S4096x2048, .f32⟩
  | 43 => ⟨S1x4096x2048, .f32⟩
  | 44 => ⟨S4096x2048, .f32⟩
  | 45 => ⟨S1x4096x2048, .f32⟩
  | 46 => ⟨S4096x2048, .f32⟩
  | 47 => ⟨S1x4096x2048, .f32⟩
  | 48 => ⟨S4096x2048, .f32⟩
  | 49 => ⟨S_, .f32⟩
  | 50 => ⟨S4126x2048, .f32⟩
  | 51 => ⟨S_, .f32⟩
  | 52 => ⟨S4126x2048, .f32⟩
  | 53 => ⟨S4126x2048, .f32⟩
  | 54 => ⟨S_, .f32⟩
  | 55 => ⟨S4126x2048, .f32⟩
  | 56 => ⟨S4126x2048, .f32⟩
  | 57 => ⟨S_, .f32⟩
  | 58 => ⟨S4126x2048, .f32⟩
  | 59 => ⟨S4126x2048, .f32⟩
  | 60 => ⟨S_, .f32⟩
  | 61 => ⟨S4126x2048, .f32⟩
  | 62 => ⟨S4126x2048, .f32⟩
  | 63 => ⟨S_, .f32⟩
  | 64 => ⟨S4126x2048, .f32⟩
  | 65 => ⟨S4126x2048, .f32⟩
  | 66 => ⟨S_, .f32⟩
  | 67 => ⟨S4126x2048, .f32⟩
  | 68 => ⟨S4126x2048, .f32⟩
  | 69 => ⟨S_, .f32⟩
  | 70 => ⟨S4126x2048, .f32⟩
  | 71 => ⟨S4126x2048, .f32⟩
  | 72 => ⟨S_, .f32⟩
  | 73 => ⟨S4126x2048, .f32⟩
  | 74 => ⟨S4126x2048, .f32⟩
  | 75 => ⟨S_, .f32⟩
  | 76 => ⟨S4126x2048, .f32⟩
  | 77 => ⟨S4126x2048, .f32⟩
  | 78 => ⟨S_, .f32⟩
  | 79 => ⟨S4126x2048, .f32⟩
  | 80 => ⟨S4126x2048, .f32⟩
  | 81 => ⟨S_, .f32⟩
  | 82 => ⟨S4126x2048, .f32⟩
  | 83 => ⟨S4126x2048, .f32⟩
  | 84 => ⟨S_, .f32⟩
  | 85 => ⟨S4126x2048, .f32⟩
  | 86 => ⟨S4126x2048, .f32⟩
  | 87 => ⟨S_, .f32⟩
  | 88 => ⟨S4126x2048, .f32⟩
  | 89 => ⟨S4126x2048, .f32⟩
  | 90 => ⟨S_, .f32⟩
  | 91 => ⟨S4126x2048, .f32⟩
  | 92 => ⟨S4126x2048, .f32⟩
  | 93 => ⟨S_, .f32⟩
  | 94 => ⟨S4126x2048, .f32⟩
  | 95 => ⟨S4126x2048, .f32⟩
  | 96 => ⟨S_, .f32⟩
  | 97 => ⟨S4126x2048, .f32⟩
  | 98 => ⟨S4126x2048, .f32⟩
  | 99 => ⟨S_, .f32⟩
  | 100 => ⟨S4126x2048, .f32⟩
  | 101 => ⟨S4126x2048, .f32⟩
  | 102 => ⟨S_, .f32⟩
  | 103 => ⟨S4126x2048, .f32⟩
  | 104 => ⟨S4126x2048, .f32⟩
  | 105 => ⟨S_, .f32⟩
  | 106 => ⟨S4126x2048, .f32⟩
  | 107 => ⟨S4126x2048, .f32⟩
  | 108 => ⟨S_, .f32⟩
  | 109 => ⟨S4126x2048, .f32⟩
  | 110 => ⟨S4126x2048, .f32⟩
  | 111 => ⟨S_, .f32⟩
  | 112 => ⟨S4126x2048, .f32⟩
  | 113 => ⟨S4126x2048, .f32⟩
  | 114 => ⟨S_, .f32⟩
  | 115 => ⟨S4126x2048, .f32⟩
  | 116 => ⟨S4126x2048, .f32⟩
  | 117 => ⟨S_, .f32⟩
  | 118 => ⟨S4126x2048, .f32⟩
  | 119 => ⟨S4126x2048, .f32⟩
  | 120 => ⟨S_, .f32⟩
  | 121 => ⟨S4126x2048, .f32⟩
  | 122 => ⟨S4126x2048, .f32⟩
  | 123 => ⟨S_, .f32⟩
  | 124 => ⟨S4126x2048, .f32⟩
  | 125 => ⟨S4126x2048, .f32⟩
  | 126 => ⟨S_, .f32⟩
  | 127 => ⟨S4126x2048, .f32⟩
  | _ => ⟨S2x4096x2048, .f32⟩

abbrev hbmTy0_2 (i : Nat) : BufTy := match i % 128 with
  | 0 => ⟨S4126x2048, .f32⟩
  | 1 => ⟨S_, .f32⟩
  | 2 => ⟨S4126x2048, .f32⟩
  | 3 => ⟨S4126x2048, .f32⟩
  | 4 => ⟨S_, .f32⟩
  | 5 => ⟨S4126x2048, .f32⟩
  | 6 => ⟨S4126x2048, .f32⟩
  | 7 => ⟨S_, .f32⟩
  | 8 => ⟨S4126x2048, .f32⟩
  | 9 => ⟨S4126x2048, .f32⟩
  | 10 => ⟨S_, .f32⟩
  | 11 => ⟨S4126x2048, .f32⟩
  | 12 => ⟨S4126x2048, .f32⟩
  | 13 => ⟨S30x2048, .f32⟩
  | 14 => ⟨S4096x2048, .f32⟩
  | 15 => ⟨S4096x2048, .f32⟩
  | 16 => ⟨S4096x2048, .f32⟩
  | 17 => ⟨S4096x2048, .f32⟩
  | 18 => ⟨S1x4096x2048, .f32⟩
  | 19 => ⟨S_, .f32⟩
  | 20 => ⟨S2x4096x2048, .f32⟩
  | 21 => ⟨S1x4096x2048, .f32⟩
  | 22 => ⟨S_, .f32⟩
  | 23 => ⟨S2x4096x2048, .f32⟩
  | 24 => ⟨S2x4096x2048, .f32⟩
  | 25 => ⟨S_, .f32⟩
  | 26 => ⟨S2x2048, .f32⟩
  | 27 => ⟨S2x1x2048, .f32⟩
  | 28 => ⟨S2x4096x2048, .bf16⟩
  | _ => ⟨S2x4096x2048, .f32⟩

abbrev hbmTy (i : Nat) : BufTy := match i / 128 with
  | 0 => hbmTy0_0 i
  | 1 => hbmTy0_1 i
  | 2 => hbmTy0_2 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_cst_5 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_cst_6 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_cst_7 : Ref sig .tc := ⟨.hbm, 110, rfl⟩
abbrev main_v98 : Ref sig .tc := ⟨.hbm, 111, rfl⟩
abbrev main_v99 : Ref sig .tc := ⟨.hbm, 112, rfl⟩
abbrev main_cst_8 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_cst_9 : Ref sig .tc := ⟨.hbm, 177, rfl⟩
abbrev main_v163 : Ref sig .tc := ⟨.hbm, 178, rfl⟩
abbrev main_cst_10 : Ref sig .tc := ⟨.hbm, 179, rfl⟩
abbrev main_v164 : Ref sig .tc := ⟨.hbm, 180, rfl⟩
abbrev main_v165 : Ref sig .tc := ⟨.hbm, 181, rfl⟩
abbrev main_cst_11 : Ref sig .tc := ⟨.hbm, 182, rfl⟩
abbrev main_v166 : Ref sig .tc := ⟨.hbm, 183, rfl⟩
abbrev main_v167 : Ref sig .tc := ⟨.hbm, 184, rfl⟩
abbrev main_cst_12 : Ref sig .tc := ⟨.hbm, 185, rfl⟩
abbrev main_v168 : Ref sig .tc := ⟨.hbm, 186, rfl⟩
abbrev main_v169 : Ref sig .tc := ⟨.hbm, 187, rfl⟩
abbrev main_cst_13 : Ref sig .tc := ⟨.hbm, 188, rfl⟩
abbrev main_v170 : Ref sig .tc := ⟨.hbm, 189, rfl⟩
abbrev main_v171 : Ref sig .tc := ⟨.hbm, 190, rfl⟩
abbrev main_cst_14 : Ref sig .tc := ⟨.hbm, 191, rfl⟩
abbrev main_v172 : Ref sig .tc := ⟨.hbm, 192, rfl⟩
abbrev main_v173 : Ref sig .tc := ⟨.hbm, 193, rfl⟩
abbrev main_cst_15 : Ref sig .tc := ⟨.hbm, 194, rfl⟩
abbrev main_v174 : Ref sig .tc := ⟨.hbm, 195, rfl⟩
abbrev main_v175 : Ref sig .tc := ⟨.hbm, 196, rfl⟩
abbrev main_cst_16 : Ref sig .tc := ⟨.hbm, 197, rfl⟩
abbrev main_v176 : Ref sig .tc := ⟨.hbm, 198, rfl⟩
abbrev main_v177 : Ref sig .tc := ⟨.hbm, 199, rfl⟩
abbrev main_cst_17 : Ref sig .tc := ⟨.hbm, 200, rfl⟩
abbrev main_v178 : Ref sig .tc := ⟨.hbm, 201, rfl⟩
abbrev main_v179 : Ref sig .tc := ⟨.hbm, 202, rfl⟩
abbrev main_cst_18 : Ref sig .tc := ⟨.hbm, 203, rfl⟩
abbrev main_v180 : Ref sig .tc := ⟨.hbm, 204, rfl⟩
abbrev main_v181 : Ref sig .tc := ⟨.hbm, 205, rfl⟩
abbrev main_cst_19 : Ref sig .tc := ⟨.hbm, 206, rfl⟩
abbrev main_v182 : Ref sig .tc := ⟨.hbm, 207, rfl⟩
abbrev main_v183 : Ref sig .tc := ⟨.hbm, 208, rfl⟩
abbrev main_cst_20 : Ref sig .tc := ⟨.hbm, 209, rfl⟩
abbrev main_v184 : Ref sig .tc := ⟨.hbm, 210, rfl⟩
abbrev main_v185 : Ref sig .tc := ⟨.hbm, 211, rfl⟩
abbrev main_cst_21 : Ref sig .tc := ⟨.hbm, 212, rfl⟩
abbrev main_v186 : Ref sig .tc := ⟨.hbm, 213, rfl⟩
abbrev main_v187 : Ref sig .tc := ⟨.hbm, 214, rfl⟩
abbrev main_cst_22 : Ref sig .tc := ⟨.hbm, 215, rfl⟩
abbrev main_v188 : Ref sig .tc := ⟨.hbm, 216, rfl⟩
abbrev main_v189 : Ref sig .tc := ⟨.hbm, 217, rfl⟩
abbrev main_cst_23 : Ref sig .tc := ⟨.hbm, 218, rfl⟩
abbrev main_v190 : Ref sig .tc := ⟨.hbm, 219, rfl⟩
abbrev main_v191 : Ref sig .tc := ⟨.hbm, 220, rfl⟩
abbrev main_cst_24 : Ref sig .tc := ⟨.hbm, 221, rfl⟩
abbrev main_v192 : Ref sig .tc := ⟨.hbm, 222, rfl⟩
abbrev main_v193 : Ref sig .tc := ⟨.hbm, 223, rfl⟩
abbrev main_cst_25 : Ref sig .tc := ⟨.hbm, 224, rfl⟩
abbrev main_v194 : Ref sig .tc := ⟨.hbm, 225, rfl⟩
abbrev main_v195 : Ref sig .tc := ⟨.hbm, 226, rfl⟩
abbrev main_cst_26 : Ref sig .tc := ⟨.hbm, 227, rfl⟩
abbrev main_v196 : Ref sig .tc := ⟨.hbm, 228, rfl⟩
abbrev main_v197 : Ref sig .tc := ⟨.hbm, 229, rfl⟩
abbrev main_cst_27 : Ref sig .tc := ⟨.hbm, 230, rfl⟩
abbrev main_v198 : Ref sig .tc := ⟨.hbm, 231, rfl⟩
abbrev main_v199 : Ref sig .tc := ⟨.hbm, 232, rfl⟩
abbrev main_cst_28 : Ref sig .tc := ⟨.hbm, 233, rfl⟩
abbrev main_v200 : Ref sig .tc := ⟨.hbm, 234, rfl⟩
abbrev main_v201 : Ref sig .tc := ⟨.hbm, 235, rfl⟩
abbrev main_cst_29 : Ref sig .tc := ⟨.hbm, 236, rfl⟩
abbrev main_v202 : Ref sig .tc := ⟨.hbm, 237, rfl⟩
abbrev main_v203 : Ref sig .tc := ⟨.hbm, 238, rfl⟩
abbrev main_cst_30 : Ref sig .tc := ⟨.hbm, 239, rfl⟩
abbrev main_v204 : Ref sig .tc := ⟨.hbm, 240, rfl⟩
abbrev main_v205 : Ref sig .tc := ⟨.hbm, 241, rfl⟩
abbrev main_cst_31 : Ref sig .tc := ⟨.hbm, 242, rfl⟩
abbrev main_v206 : Ref sig .tc := ⟨.hbm, 243, rfl⟩
abbrev main_v207 : Ref sig .tc := ⟨.hbm, 244, rfl⟩
abbrev main_cst_32 : Ref sig .tc := ⟨.hbm, 245, rfl⟩
abbrev main_v208 : Ref sig .tc := ⟨.hbm, 246, rfl⟩
abbrev main_v209 : Ref sig .tc := ⟨.hbm, 247, rfl⟩
abbrev main_cst_33 : Ref sig .tc := ⟨.hbm, 248, rfl⟩
abbrev main_v210 : Ref sig .tc := ⟨.hbm, 249, rfl⟩
abbrev main_v211 : Ref sig .tc := ⟨.hbm, 250, rfl⟩
abbrev main_cst_34 : Ref sig .tc := ⟨.hbm, 251, rfl⟩
abbrev main_v212 : Ref sig .tc := ⟨.hbm, 252, rfl⟩
abbrev main_v213 : Ref sig .tc := ⟨.hbm, 253, rfl⟩
abbrev main_cst_35 : Ref sig .tc := ⟨.hbm, 254, rfl⟩
abbrev main_v214 : Ref sig .tc := ⟨.hbm, 255, rfl⟩
abbrev main_v215 : Ref sig .tc := ⟨.hbm, 256, rfl⟩
abbrev main_cst_36 : Ref sig .tc := ⟨.hbm, 257, rfl⟩
abbrev main_v216 : Ref sig .tc := ⟨.hbm, 258, rfl⟩
abbrev main_v217 : Ref sig .tc := ⟨.hbm, 259, rfl⟩
abbrev main_cst_37 : Ref sig .tc := ⟨.hbm, 260, rfl⟩
abbrev main_v218 : Ref sig .tc := ⟨.hbm, 261, rfl⟩
abbrev main_v219 : Ref sig .tc := ⟨.hbm, 262, rfl⟩
abbrev main_cst_38 : Ref sig .tc := ⟨.hbm, 263, rfl⟩
abbrev main_v220 : Ref sig .tc := ⟨.hbm, 264, rfl⟩
abbrev main_v221 : Ref sig .tc := ⟨.hbm, 265, rfl⟩
abbrev main_cst_39 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_cst_40 : Ref sig .tc := ⟨.hbm, 275, rfl⟩
abbrev main_v230 : Ref sig .tc := ⟨.hbm, 276, rfl⟩
abbrev main_v231 : Ref sig .tc := ⟨.hbm, 277, rfl⟩
abbrev main_cst_41 : Ref sig .tc := ⟨.hbm, 278, rfl⟩
abbrev main_v232 : Ref sig .tc := ⟨.hbm, 279, rfl⟩
abbrev main_v233 : Ref sig .tc := ⟨.hbm, 280, rfl⟩
abbrev main_cst_42 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩

abbrev nD : Nat := 1
abbrev τ : Topo := Topo.v7x

variable {F : FTy → Type} [FloatOps F]
-- ==== Kernel2.lean ====
abbrev S4096x2048 : Shape := ⟨2, ![4096, 2048]⟩
abbrev S4096x11264 : Shape := ⟨2, ![4096, 11264]⟩
abbrev S2048x4096 : Shape := ⟨2, ![2048, 4096]⟩
abbrev S4096x2x5632 : Shape := ⟨3, ![4096, 2, 5632]⟩
abbrev S2x4096x5632 : Shape := ⟨3, ![2, 4096, 5632]⟩
abbrev S4x2048x2816 : Shape := ⟨3, ![4, 2048, 2816]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S2048x4096, .f32⟩
  | .hbm, ⟨3, _⟩ => ⟨S2048x4096, .bf16⟩
  | .hbm, ⟨4, _⟩ => ⟨S4096x2x5632, .f32⟩
  | .hbm, ⟨5, _⟩ => ⟨S2x4096x5632, .f32⟩
  | .hbm, ⟨6, _⟩ => ⟨S2x4096x5632, .bf16⟩
  | .hbm, ⟨7, _⟩ => ⟨S4x2048x2816, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S_, .f32⟩
  | .hbm, ⟨3, _⟩ => ⟨S2048x11264, .f32⟩
  | .hbm, ⟨4, _⟩ => ⟨S4096x11264, .f32⟩
  | .hbm, ⟨5, _⟩ => ⟨S11264x2048, .f32⟩
  | .hbm, ⟨6, _⟩ => ⟨S2048x11264, .f32⟩
  | .hbm, ⟨7, _⟩ => ⟨S2048x4x2816, .f32⟩
  | .hbm, ⟨8, _⟩ => ⟨S4x2048x2816, .f32⟩
  | .hbm, ⟨9, _⟩ => ⟨S4x2048x2816, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2048x11264 : Shape := ⟨2, ![2048, 11264]⟩
abbrev S4096x11264 : Shape := ⟨2, ![4096, 11264]⟩
abbrev S4096x2x5632 : Shape := ⟨3, ![4096, 2, 5632]⟩
abbrev S2x4096x5632 : Shape := ⟨3, ![2, 4096, 5632]⟩
abbrev S2048x4x2816 : Shape := ⟨3, ![2048, 4, 2816]⟩
abbrev S4x2048x2816 : Shape := ⟨3, ![4, 2048, 2816]⟩
abbrev S4096x2048 : Shape := ⟨2, ![4096, 2048]⟩
abbrev S1x2048x1408 : Shape := ⟨3, ![1, 2048, 1408]⟩
abbrev S1x1024x1408 : Shape := ⟨3, ![1, 1024, 1408]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 9
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S4096x11264, .f32⟩
  | .hbm, ⟨2, _⟩ => ⟨S4096x2x5632, .f32⟩
  | .hbm, ⟨3, _⟩ => ⟨S2x4096x5632, .f32⟩
  | .hbm, ⟨4, _⟩ => ⟨S2x4096x5632, .bf16⟩
  | .hbm, ⟨5, _⟩ => ⟨S2048x4x2816, .f32⟩
  | .hbm, ⟨6, _⟩ => ⟨S4x2048x2816, .f32⟩
  | .hbm, ⟨7, _⟩ => ⟨S4x2048x2816, .bf16⟩
  | .hbm, ⟨8, _⟩ => ⟨S4096x2048, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x11264 : Shape := ⟨2, ![2048, 11264]⟩
abbrev S4096x11264 : Shape := ⟨2, ![4096, 11264]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S4096x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S4096x2048, .f32⟩
  | .hbm, ⟨6, _⟩ => ⟨S4096x2048, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x5632 : Shape := ⟨2, ![4096, 5632]⟩
abbrev S4096x2048 : Shape := ⟨2, ![4096, 2048]⟩
abbrev S5632x4096 : Shape := ⟨2, ![5632, 4096]⟩
abbrev S5632x2048 : Shape := ⟨2, ![5632, 2048]⟩
abbrev S2816x2048 : Shape := ⟨2, ![2816, 2048]⟩
abbrev S2048x512 : Shape := ⟨2, ![2048, 512]⟩
abbrev S2816x512 : Shape := ⟨2, ![2816, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S5632x4096, .f32⟩
  | .hbm, ⟨3, _⟩ => ⟨S5632x4096, .bf16⟩
  | .hbm, ⟨4, _⟩ => ⟨S4096x2048, .bf16⟩
  | .hbm, ⟨5, _⟩ => ⟨S5632x2048, .bf16⟩
  | .local _ .vmem, ⟨0, _⟩ => ⟨S2816x2048, .bf16⟩
  | .local _ .vmem, ⟨1, _⟩ => ⟨S2816x2048, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S5632x2048 : Shape := ⟨2, ![5632, 2048]⟩
abbrev S4096x2048 : Shape := ⟨2, ![4096, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S4096x2048, .bf16⟩
  | .hbm, ⟨3, _⟩ => ⟨S5632x2048, .bf16⟩
  | .hbm, ⟨4, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S5632x2048 : Shape := ⟨2, ![5632, 2048]⟩
abbrev S4096x2048 : Shape := ⟨2, ![4096, 2048]⟩
abbrev S_ : Shape := ⟨0, ![]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x5632, .f32⟩
  | .hbm, ⟨6, _⟩ => ⟨S4096x5632, .bf16⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x2048 : Shape := ⟨2, ![4096, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S2x4096x5632 : Shape := ⟨3, ![2, 4096, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x2048, .bf16⟩
  | .hbm, ⟨3, _⟩ => ⟨S2048x4x2816, .f32⟩
  | .hbm, ⟨4, _⟩ => ⟨S4x2048x2816, .f32⟩
  | .hbm, ⟨5, _⟩ => ⟨S4x2048x2816, .bf16⟩
  | .hbm, ⟨6, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x11264 : Shape := ⟨2, ![2048, 11264]⟩
abbrev S4096x11264 : Shape := ⟨2, ![4096, 11264]⟩
abbrev S4096x2x5632 : Shape := ⟨3, ![4096, 2, 5632]⟩
abbrev S2x4096x5632 : Shape := ⟨3, ![2, 4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x2x5632, .f32⟩
  | .hbm, ⟨4, _⟩ => ⟨S2x4096x5632, .f32⟩
  | .hbm, ⟨5, _⟩ => ⟨S2x4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S5632x2048, .bf16⟩
  | .hbm, ⟨5, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S4096x2048 : Shape := ⟨2, ![4096, 2048]⟩
abbrev S4096x4096 : Shape := ⟨2, ![4096, 4096]⟩
abbrev S2048x4096 : Shape := ⟨2, ![2048, 4096]⟩
abbrev S4096x2x2048 : Shape := ⟨3, ![4096, 2, 2048]⟩
abbrev S2x4096x2048 : Shape := ⟨3, ![2, 4096, 2048]⟩
abbrev S4x2048x1024 : Shape := ⟨3, ![4, 2048, 1024]⟩
abbrev S1024x4096 : Shape := ⟨2, ![1024, 4096]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S2048x4096, .f32⟩
  | .hbm, ⟨3, _⟩ => ⟨S2048x4096, .bf16⟩
  | .hbm, ⟨4, _⟩ => ⟨S4096x2x2048, .f32⟩
  | .hbm, ⟨5, _⟩ => ⟨S2x4096x2048, .f32⟩
  | .hbm, ⟨6, _⟩ => ⟨S2x4096x2048, .bf16⟩
  | .hbm, ⟨7, _⟩ => ⟨S4x2048x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S_, .f32⟩
  | .hbm, ⟨3, _⟩ => ⟨S2048x4096, .f32⟩
  | .hbm, ⟨4, _⟩ => ⟨S4096x4096, .f32⟩
  | .hbm, ⟨5, _⟩ => ⟨S4096x2048, .f32⟩
  | .hbm, ⟨6, _⟩ => ⟨S2048x4096, .f32⟩
  | .hbm, ⟨7, _⟩ => ⟨S2048x4x1024, .f32⟩
  | .hbm, ⟨8, _⟩ => ⟨S4x2048x1024, .f32⟩
  | .hbm, ⟨9, _⟩ => ⟨S4x2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2048x4096 : Shape := ⟨2, ![2048, 4096]⟩
abbrev S4096x4096 : Shape := ⟨2, ![4096, 4096]⟩
abbrev S4096x2x2048 : Shape := ⟨3, ![4096, 2, 2048]⟩
abbrev S2x4096x2048 : Shape := ⟨3, ![2, 4096, 2048]⟩
abbrev S2048x4x1024 : Shape := ⟨3, ![2048, 4, 1024]⟩
abbrev S4x2048x1024 : Shape := ⟨3, ![4, 2048, 1024]⟩
abbrev S4096x2048 : Shape := ⟨2, ![4096, 2048]⟩
abbrev S1x4096x1024 : Shape := ⟨3, ![1, 4096, 1024]⟩
abbrev S1x512x1024 : Shape := ⟨3, ![1, 512, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x2x2048, .f32⟩
  | .hbm, ⟨3, _⟩ => ⟨S2x4096x2048, .f32⟩
  | .hbm, ⟨4, _⟩ => ⟨S2x4096x2048, .bf16⟩
  | .hbm, ⟨5, _⟩ => ⟨S2048x4x1024, .f32⟩
  | .hbm, ⟨6, _⟩ => ⟨S4x2048x1024, .f32⟩
  | .hbm, ⟨7, _⟩ => ⟨S4x2048x1024, .bf16⟩
  | .hbm, ⟨8, _⟩ => ⟨S4096x2048, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x4096 : Shape := ⟨2, ![2048, 4096]⟩
abbrev S4096x4096 : Shape := ⟨2, ![4096, 4096]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x2048, .f32⟩
  | .hbm, ⟨6, _⟩ => ⟨S4096x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x2048 : Shape := ⟨2, ![4096, 2048]⟩
abbrev S2048x4096 : Shape := ⟨2, ![2048, 4096]⟩
abbrev S2048x2048 : Shape := ⟨2, ![2048, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S2048x4096, .bf16⟩
  | .hbm, ⟨4, _⟩ => ⟨S4096x2048, .bf16⟩
  | .hbm, ⟨5, _⟩ => ⟨S2048x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x2048 : Shape := ⟨2, ![2048, 2048]⟩
abbrev S4096x2048 : Shape := ⟨2, ![4096, 2048]⟩
abbrev S1024x2048 : Shape := ⟨2, ![1024, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .hbm, ⟨4, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S2048x4096 : Shape := ⟨2, ![2048, 4096]⟩
abbrev S4096 : Shape := ⟨1, ![4096]⟩
abbrev S2048x4x1024 : Shape := ⟨3, ![2048, 4, 1024]⟩
abbrev S4x2048x1024 : Shape := ⟨3, ![4, 2048, 1024]⟩
abbrev S2x1x2048 : Shape := ⟨3, ![2, 1, 2048]⟩
abbrev S2x4096x2048 : Shape := ⟨3, ![2, 4096, 2048]⟩
abbrev S2048x2048 : Shape := ⟨2, ![2048, 2048]⟩
abbrev S1x2048x1024 : Shape := ⟨3, ![1, 2048, 1024]⟩
abbrev S1x1x1024 : Shape := ⟨3, ![1, 1, 1024]⟩
abbrev S2048x1024 : Shape := ⟨2, ![2048, 1024]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096, .f32⟩
  | .hbm, ⟨3, _⟩ => ⟨S4096x2048, .bf16⟩
  | .hbm, ⟨4, _⟩ => ⟨S2048x4x1024, .f32⟩
  | .hbm, ⟨5, _⟩ => ⟨S4x2048x1024, .f32⟩
  | .hbm, ⟨6, _⟩ => ⟨S4x2048x1024, .bf16⟩
  | .hbm, ⟨7, _⟩ => ⟨S2x1x2048, .f32⟩
  | .hbm, ⟨8, _⟩ => ⟨S2x4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x2048x1024, .bf16⟩
  | .local _ .vmem, ⟨7, _⟩ => ⟨S1x2048x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S1x4096 : Shape := ⟨2, ![1, 4096]⟩
abbrev S4096x2x2048 : Shape := ⟨3, ![4096, 2, 2048]⟩
abbrev S2x4096x2048 : Shape := ⟨3, ![2, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x2x2048, .f32⟩
  | .hbm, ⟨8, _⟩ => ⟨S2x4096x2048, .f32⟩
  | .hbm, ⟨9, _⟩ => ⟨S2x4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S2048x512 : Shape := ⟨2, ![2048, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S4096x2048, .bf16⟩
  | .hbm, ⟨5, _⟩ => ⟨S2048x2048, .bf16⟩
  | .hbm, ⟨6, _⟩ => ⟨S1x2048, .f32⟩
  | .hbm, ⟨7, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference13Ideal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel14.lean ====
abbrev S4096x2048 : Shape := ⟨2, ![4096, 2048]⟩
abbrev S4096x2560 : Shape := ⟨2, ![4096, 2560]⟩
abbrev S2048x4096 : Shape := ⟨2, ![2048, 4096]⟩
abbrev S4x2048x640 : Shape := ⟨3, ![4, 2048, 640]⟩
abbrev S2048x2048 : Shape := ⟨2, ![2048, 2048]⟩
abbrev S2048x640 : Shape := ⟨2, ![2048, 640]⟩
abbrev S1x2048x640 : Shape := ⟨3, ![1, 2048, 640]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2560, .f32⟩
  | .hbm, ⟨2, _⟩ => ⟨S2048x4096, .f32⟩
  | .hbm, ⟨3, _⟩ => ⟨S2048x4096, .bf16⟩
  | .hbm, ⟨4, _⟩ => ⟨S4096x2560, .bf16⟩
  | .hbm, ⟨5, _⟩ => ⟨S4x2048x640, .bf16⟩
  | .local _ .vmem, ⟨0, _⟩ => ⟨S2048x2048, .bf16⟩
  | .local _ .vmem, ⟨1, _⟩ => ⟨S2048x2048, .bf16⟩
  | .local _ .vmem, ⟨2, _⟩ => ⟨S2048x640, .bf16⟩
  | .local _ .vmem, ⟨3, _⟩ => ⟨S2048x640, .bf16⟩
  | .local _ .vmem, ⟨4, _⟩ => ⟨S1x2048x640, .bf16⟩
  | .local _ .vmem, ⟨5, _⟩ => ⟨S1x2048x640, .bf16⟩
  | .local _ .vmem, ⟨6, _⟩ => ⟨S2048x640, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S4096x2560 : Shape := ⟨2, ![4096, 2560]⟩
abbrev S_ : Shape := ⟨0, ![]⟩
abbrev S2048x2560 : Shape := ⟨2, ![2048, 2560]⟩
abbrev S2560x2048 : Shape := ⟨2, ![2560, 2048]⟩
abbrev S2048x4x640 : Shape := ⟨3, ![2048, 4, 640]⟩
abbrev S4x2048x640 : Shape := ⟨3, ![4, 2048, 640]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2560, .f32⟩
  | .hbm, ⟨2, _⟩ => ⟨S_, .f32⟩
  | .hbm, ⟨3, _⟩ => ⟨S2048x2560, .f32⟩
  | .hbm, ⟨4, _⟩ => ⟨S4096x2560, .f32⟩
  | .hbm, ⟨5, _⟩ => ⟨S2560x2048, .f32⟩
  | .hbm, ⟨6, _⟩ => ⟨S2048x2560, .f32⟩
  | .hbm, ⟨7, _⟩ => ⟨S2048x4x640, .f32⟩
  | .hbm, ⟨8, _⟩ => ⟨S4x2048x640, .f32⟩
  | .hbm, ⟨9, _⟩ => ⟨S4x2048x640, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S2048x2560 : Shape := ⟨2, ![2048, 2560]⟩
abbrev S4096x2560 : Shape := ⟨2, ![4096, 2560]⟩
abbrev S2048x4x640 : Shape := ⟨3, ![2048, 4, 640]⟩
abbrev S4x2048x640 : Shape := ⟨3, ![4, 2048, 640]⟩
abbrev S4096x2048 : Shape := ⟨2, ![4096, 2048]⟩
abbrev S4096x640 : Shape := ⟨2, ![4096, 640]⟩
abbrev S1x512x640 : Shape := ⟨3, ![1, 512, 640]⟩
abbrev S4096x512 : Shape := ⟨2, ![4096, 512]⟩
abbrev S512x640 : Shape := ⟨2, ![512, 640]⟩

abbrev nBuf : Space → Nat
  | .hbm => 7
  | .vmem => 7
  | .smem => 0
  | _ => 0

abbrev bufTy : (tb : Table) → Fin (tcTables nBuf tb) → BufTy
  | .hbm, ⟨0, _⟩ => ⟨S2048x2560, .f32⟩
  | .hbm, ⟨1, _⟩ => ⟨S4096x2560, .f32⟩
  | .hbm, ⟨2, _⟩ => ⟨S4096x2560, .bf16⟩
  | .hbm, ⟨3, _⟩ => ⟨S2048x4x640, .f32⟩
  | .hbm, ⟨4, _⟩ => ⟨S4x2048x640, .f32⟩
  | .hbm, ⟨5, _⟩ => ⟨S4x2048x640, .bf16⟩
  | .hbm, ⟨6, _⟩ => ⟨S4096x2048, .bf16⟩
  | .local _ .vmem, ⟨0, _⟩ => ⟨S4096x640, .bf16⟩
  | .local _ .vmem, ⟨1, _⟩ => ⟨S4096x640, .bf16⟩
  | .local _ .vmem, ⟨2, _⟩ => ⟨S1x512x640, .bf16⟩
  | .local _ .vmem, ⟨3, _⟩ => ⟨S1x512x640, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x2560 : Shape := ⟨2, ![2048, 2560]⟩
abbrev S4096x2560 : Shape := ⟨2, ![4096, 2560]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S4096x2560, .f32⟩
  | .hbm, ⟨2, _⟩ => ⟨S_, .f32⟩
  | .hbm, ⟨3, _⟩ => ⟨S4096x2048, .f32⟩
  | .hbm, ⟨4, _⟩ => ⟨S4096x2560, .f32⟩
  | .hbm, ⟨5, _⟩ => ⟨S4096x2048, .f32⟩
  | .hbm, ⟨6, _⟩ => ⟨S4096x2048, .bf16⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x2048 : Shape := ⟨2, ![4096, 2048]⟩
abbrev S2048x2560 : Shape := ⟨2, ![2048, 2560]⟩
abbrev S2048x4x640 : Shape := ⟨3, ![2048, 4, 640]⟩
abbrev S4x2048x640 : Shape := ⟨3, ![4, 2048, 640]⟩
abbrev S4096x2560 : Shape := ⟨2, ![4096, 2560]⟩
abbrev S2048x2048 : Shape := ⟨2, ![2048, 2048]⟩
abbrev S1x2048x640 : Shape := ⟨3, ![1, 2048, 640]⟩
abbrev S2048x640 : Shape := ⟨2, ![2048, 640]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2560, .f32⟩
  | .hbm, ⟨2, _⟩ => ⟨S4096x2048, .bf16⟩
  | .hbm, ⟨3, _⟩ => ⟨S2048x4x640, .f32⟩
  | .hbm, ⟨4, _⟩ => ⟨S4x2048x640, .f32⟩
  | .hbm, ⟨5, _⟩ => ⟨S4x2048x640, .bf16⟩
  | .hbm, ⟨6, _⟩ => ⟨S4096x2560, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x640, .bf16⟩
  | .local _ .vmem, ⟨3, _⟩ => ⟨S1x2048x640, .bf16⟩
  | .local _ .vmem, ⟨4, _⟩ => ⟨S2048x640, .f32⟩
  | .local _ .vmem, ⟨5, _⟩ => ⟨S2048x640, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S2048x2560 : Shape := ⟨2, ![2048, 2560]⟩
abbrev S4096x2560 : Shape := ⟨2, ![4096, 2560]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2560, .f32⟩
  | .hbm, ⟨2, _⟩ => ⟨S4096x2560, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel18.lean ====
abbrev S2048x2816 : Shape := ⟨2, ![2048, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel18Ideal.lean ====
abbrev S2048x2816 : Shape := ⟨2, ![2048, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1408x2048 : Shape := ⟨2, ![1408, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel19Ideal.lean ====
abbrev S1408x2048 : Shape := ⟨2, ![1408, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2048x1024 : Shape := ⟨2, ![2048, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel20Ideal.lean ====
abbrev S2048x1024 : Shape := ⟨2, ![2048, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel21Ideal.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2048x640 : Shape := ⟨2, ![2048, 640]⟩
abbrev S256x640 : Shape := ⟨2, ![256, 640]⟩

abbrev nBuf : Space → Nat
  | .hbm => 8
  | .vmem => 16
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel22Ideal.lean ====
abbrev S2048x640 : Shape := ⟨2, ![2048, 640]⟩
abbrev S256x640 : Shape := ⟨2, ![256, 640]⟩

abbrev nBuf : Space → Nat
  | .hbm => 8
  | .vmem => 16
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S2048x640 : Shape := ⟨2, ![2048, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S_, .f32⟩
  | .hbm, ⟨5, _⟩ => ⟨S2048x640, .f32⟩
  | .hbm, ⟨6, _⟩ => ⟨S2048x640, .f32⟩
  | .hbm, ⟨7, _⟩ => ⟨S_, .f32⟩
  | .hbm, ⟨8, _⟩ => ⟨S2048x640, .f32⟩
  | .hbm, ⟨9, _⟩ => ⟨S2048x640, .f32⟩
  | .hbm, ⟨10, _⟩ => ⟨S2048x640, .f32⟩
  | .hbm, ⟨11, _⟩ => ⟨S_, .f32⟩
  | .hbm, ⟨12, _⟩ => ⟨S2048x640, .f32⟩
  | .hbm, ⟨13, _⟩ => ⟨S2048x640, .f32⟩
  | .hbm, ⟨14, _⟩ => ⟨S2048x640, .f32⟩
  | .hbm, ⟨15, _⟩ => ⟨S_, .f32⟩
  | .hbm, ⟨16, _⟩ => ⟨S2048x640, .f32⟩
  | .hbm, ⟨17, _⟩ => ⟨S2048x640, .f32⟩
  | .hbm, ⟨18, _⟩ => ⟨S2048x640, .f32⟩
  | .hbm, ⟨19, _⟩ => ⟨S_, .f32⟩
  | .hbm, ⟨20, _⟩ => ⟨S2048x640, .f32⟩
  | .hbm, ⟨21, _⟩ => ⟨S2048x640, .f32⟩
  | .hbm, ⟨22, _⟩ => ⟨S_, .f32⟩
  | .hbm, ⟨23, _⟩ => ⟨S2048x640, .f32⟩
  | .hbm, ⟨24, _⟩ => ⟨S2048x640, .f32⟩
  | .hbm, ⟨25, _⟩ => ⟨S2048x640, .f32⟩
  | .hbm, ⟨26, _⟩ => ⟨S_, .f32⟩
  | .hbm, ⟨27, _⟩ => ⟨S2048x640, .f32⟩
  | .hbm, ⟨28, _⟩ => ⟨S2048x640, .f32⟩
  | .hbm, ⟨29, _⟩ => ⟨S2048x640, .f32⟩
  | .hbm, ⟨30, _⟩ => ⟨S_, .f32⟩
  | .hbm, ⟨31, _⟩ => ⟨S2048x640, .f32⟩
  | .hbm, ⟨32, _⟩ => ⟨S2048x640, .f32⟩
  | .hbm, ⟨33, _⟩ => ⟨S2048x640, .f32⟩
  | .hbm, ⟨34, _⟩ => ⟨S_, .f32⟩
  | .hbm, ⟨35, _⟩ => ⟨S2048x640, .f32⟩
  | .hbm, ⟨36, _⟩ => ⟨S2048x640, .f32⟩
  | _, _ => ⟨S2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel23Ideal.lean ====
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S31x512 : Shape := ⟨2, ![31, 512]⟩

abbrev nBuf : Space → Nat
  | .hbm => 8
  | .vmem => 8
  | .smem => 0
  | _ => 0

abbrev bufTy : (tb : Table) → Fin (tcTables nBuf tb) → BufTy
  | .hbm, ⟨0, _⟩ => ⟨S31x512, .f32⟩
  | .hbm, ⟨1, _⟩ => ⟨S31x512, .f32⟩
  | .hbm, ⟨2, _⟩ => ⟨S31x512, .f32⟩
  | .hbm, ⟨3, _⟩ => ⟨S31x512, .f32⟩
  | .hbm, ⟨4, _⟩ => ⟨S31x512, .f32⟩
  | .hbm, ⟨5, _⟩ => ⟨S31x512, .f32⟩
  | .hbm, ⟨6, _⟩ => ⟨S31x512, .f32⟩
  | .hbm, ⟨7, _⟩ => ⟨S31x512, .f32⟩
  | .local _ .vmem, ⟨0, _⟩ => ⟨S31x512, .f32⟩
  | .local _ .vmem, ⟨1, _⟩ => ⟨S31x512, .f32⟩
  | .local _ .vmem, ⟨2, _⟩ => ⟨S31x512, .f32⟩
  | .local _ .vmem, ⟨3, _⟩ => ⟨S31x512, .f32⟩
  | .local _ .vmem, ⟨4, _⟩ => ⟨S31x512, .f32⟩
  | .local _ .vmem, ⟨5, _⟩ => ⟨S31x512, .f32⟩
  | .local _ .vmem, ⟨6, _⟩ => ⟨S31x512, .f32⟩
  | .local _ .vmem, ⟨7, _⟩ => ⟨S31x512, .f32⟩
  | _, _ => ⟨S31x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel24Ideal.lean ====
abbrev S31x512 : Shape := ⟨2, ![31, 512]⟩

abbrev nBuf : Space → Nat
  | .hbm => 8
  | .vmem => 8
  | .smem => 0
  | _ => 0

abbrev bufTy : (tb : Table) → Fin (tcTables nBuf tb) → BufTy
  | .hbm, ⟨0, _⟩ => ⟨S31x512, .f32⟩
  | .hbm, ⟨1, _⟩ => ⟨S31x512, .f32⟩
  | .hbm, ⟨2, _⟩ => ⟨S31x512, .f32⟩
  | .hbm, ⟨3, _⟩ => ⟨S31x512, .f32⟩
  | .hbm, ⟨4, _⟩ => ⟨S31x512, .f32⟩
  | .hbm, ⟨5, _⟩ => ⟨S31x512, .f32⟩
  | .hbm, ⟨6, _⟩ => ⟨S31x512, .f32⟩
  | .hbm, ⟨7, _⟩ => ⟨S31x512, .f32⟩
  | .local _ .vmem, ⟨0, _⟩ => ⟨S31x512, .f32⟩
  | .local _ .vmem, ⟨1, _⟩ => ⟨S31x512, .f32⟩
  | .local _ .vmem, ⟨2, _⟩ => ⟨S31x512, .f32⟩
  | .local _ .vmem, ⟨3, _⟩ => ⟨S31x512, .f32⟩
  | .local _ .vmem, ⟨4, _⟩ => ⟨S31x512, .f32⟩
  | .local _ .vmem, ⟨5, _⟩ => ⟨S31x512, .f32⟩
  | .local _ .vmem, ⟨6, _⟩ => ⟨S31x512, .f32⟩
  | .local _ .vmem, ⟨7, _⟩ => ⟨S31x512, .f32⟩
  | _, _ => ⟨S31x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S31x512 : Shape := ⟨2, ![31, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x512, .f32⟩
  | .hbm, ⟨1, _⟩ => ⟨S31x512, .f32⟩
  | .hbm, ⟨2, _⟩ => ⟨S31x512, .f32⟩
  | .hbm, ⟨3, _⟩ => ⟨S31x512, .f32⟩
  | .hbm, ⟨4, _⟩ => ⟨S_, .f32⟩
  | .hbm, ⟨5, _⟩ => ⟨S31x512, .f32⟩
  | .hbm, ⟨6, _⟩ => ⟨S31x512, .f32⟩
  | .hbm, ⟨7, _⟩ => ⟨S_, .f32⟩
  | .hbm, ⟨8, _⟩ => ⟨S31x512, .f32⟩
  | .hbm, ⟨9, _⟩ => ⟨S31x512, .f32⟩
  | .hbm, ⟨10, _⟩ => ⟨S31x512, .f32⟩
  | .hbm, ⟨11, _⟩ => ⟨S_, .f32⟩
  | .hbm, ⟨12, _⟩ => ⟨S31x512, .f32⟩
  | .hbm, ⟨13, _⟩ => ⟨S31x512, .f32⟩
  | .hbm, ⟨14, _⟩ => ⟨S31x512, .f32⟩
  | .hbm, ⟨15, _⟩ => ⟨S_, .f32⟩
  | .hbm, ⟨16, _⟩ => ⟨S31x512, .f32⟩
  | .hbm, ⟨17, _⟩ => ⟨S31x512, .f32⟩
  | .hbm, ⟨18, _⟩ => ⟨S31x512, .f32⟩
  | .hbm, ⟨19, _⟩ => ⟨S_, .f32⟩
  | .hbm, ⟨20, _⟩ => ⟨S31x512, .f32⟩
  | .hbm, ⟨21, _⟩ => ⟨S31x512, .f32⟩
  | .hbm, ⟨22, _⟩ => ⟨S_, .f32⟩
  | .hbm, ⟨23, _⟩ => ⟨S31x512, .f32⟩
  | .hbm, ⟨24, _⟩ => ⟨S31x512, .f32⟩
  | .hbm, ⟨25, _⟩ => ⟨S31x512, .f32⟩
  | .hbm, ⟨26, _⟩ => ⟨S_, .f32⟩
  | .hbm, ⟨27, _⟩ => ⟨S31x512, .f32⟩
  | .hbm, ⟨28, _⟩ => ⟨S31x512, .f32⟩
  | .hbm, ⟨29, _⟩ => ⟨S31x512, .f32⟩
  | .hbm, ⟨30, _⟩ => ⟨S_, .f32⟩
  | .hbm, ⟨31, _⟩ => ⟨S31x512, .f32⟩
  | .hbm, ⟨32, _⟩ => ⟨S31x512, .f32⟩
  | .hbm, ⟨33, _⟩ => ⟨S31x512, .f32⟩
  | .hbm, ⟨34, _⟩ => ⟨S_, .f32⟩
  | .hbm, ⟨35, _⟩ => ⟨S31x512, .f32⟩
  | .hbm, ⟨36, _⟩ => ⟨S31x512, .f32⟩
  | _, _ => ⟨S31x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S3x2816 : Shape := ⟨2, ![3, 2816]⟩

abbrev nBuf : Space → Nat
  | .hbm => 8
  | .vmem => 8
  | .smem => 0
  | _ => 0

abbrev bufTy : (tb : Table) → Fin (tcTables nBuf tb) → BufTy
  | .hbm, ⟨0, _⟩ => ⟨S3x2816, .f32⟩
  | .hbm, ⟨1, _⟩ => ⟨S3x2816, .f32⟩
  | .hbm, ⟨2, _⟩ => ⟨S3x2816, .f32⟩
  | .hbm, ⟨3, _⟩ => ⟨S3x2816, .f32⟩
  | .hbm, ⟨4, _⟩ => ⟨S3x2816, .f32⟩
  | .hbm, ⟨5, _⟩ => ⟨S3x2816, .f32⟩
  | .hbm, ⟨6, _⟩ => ⟨S3x2816, .f32⟩
  | .hbm, ⟨7, _⟩ => ⟨S3x2816, .f32⟩
  | .local _ .vmem, ⟨0, _⟩ => ⟨S3x2816, .f32⟩
  | .local _ .vmem, ⟨1, _⟩ => ⟨S3x2816, .f32⟩
  | .local _ .vmem, ⟨2, _⟩ => ⟨S3x2816, .f32⟩
  | .local _ .vmem, ⟨3, _⟩ => ⟨S3x2816, .f32⟩
  | .local _ .vmem, ⟨4, _⟩ => ⟨S3x2816, .f32⟩
  | .local _ .vmem, ⟨5, _⟩ => ⟨S3x2816, .f32⟩
  | .local _ .vmem, ⟨6, _⟩ => ⟨S3x2816, .f32⟩
  | .local _ .vmem, ⟨7, _⟩ => ⟨S3x2816, .f32⟩
  | _, _ => ⟨S3x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel25Ideal.lean ====
abbrev S3x2816 : Shape := ⟨2, ![3, 2816]⟩

abbrev nBuf : Space → Nat
  | .hbm => 8
  | .vmem => 8
  | .smem => 0
  | _ => 0

abbrev bufTy : (tb : Table) → Fin (tcTables nBuf tb) → BufTy
  | .hbm, ⟨0, _⟩ => ⟨S3x2816, .f32⟩
  | .hbm, ⟨1, _⟩ => ⟨S3x2816, .f32⟩
  | .hbm, ⟨2, _⟩ => ⟨S3x2816, .f32⟩
  | .hbm, ⟨3, _⟩ => ⟨S3x2816, .f32⟩
  | .hbm, ⟨4, _⟩ => ⟨S3x2816, .f32⟩
  | .hbm, ⟨5, _⟩ => ⟨S3x2816, .f32⟩
  | .hbm, ⟨6, _⟩ => ⟨S3x2816, .f32⟩
  | .hbm, ⟨7, _⟩ => ⟨S3x2816, .f32⟩
  | .local _ .vmem, ⟨0, _⟩ => ⟨S3x2816, .f32⟩
  | .local _ .vmem, ⟨1, _⟩ => ⟨S3x2816, .f32⟩
  | .local _ .vmem, ⟨2, _⟩ => ⟨S3x2816, .f32⟩
  | .local _ .vmem, ⟨3, _⟩ => ⟨S3x2816, .f32⟩
  | .local _ .vmem, ⟨4, _⟩ => ⟨S3x2816, .f32⟩
  | .local _ .vmem, ⟨5, _⟩ => ⟨S3x2816, .f32⟩
  | .local _ .vmem, ⟨6, _⟩ => ⟨S3x2816, .f32⟩
  | .local _ .vmem, ⟨7, _⟩ => ⟨S3x2816, .f32⟩
  | _, _ => ⟨S3x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S3x2816 : Shape := ⟨2, ![3, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x2816, .f32⟩
  | .hbm, ⟨1, _⟩ => ⟨S3x2816, .f32⟩
  | .hbm, ⟨2, _⟩ => ⟨S3x2816, .f32⟩
  | .hbm, ⟨3, _⟩ => ⟨S3x2816, .f32⟩
  | .hbm, ⟨4, _⟩ => ⟨S_, .f32⟩
  | .hbm, ⟨5, _⟩ => ⟨S3x2816, .f32⟩
  | .hbm, ⟨6, _⟩ => ⟨S3x2816, .f32⟩
  | .hbm, ⟨7, _⟩ => ⟨S_, .f32⟩
  | .hbm, ⟨8, _⟩ => ⟨S3x2816, .f32⟩
  | .hbm, ⟨9, _⟩ => ⟨S3x2816, .f32⟩
  | .hbm, ⟨10, _⟩ => ⟨S3x2816, .f32⟩
  | .hbm, ⟨11, _⟩ => ⟨S_, .f32⟩
  | .hbm, ⟨12, _⟩ => ⟨S3x2816, .f32⟩
  | .hbm, ⟨13, _⟩ => ⟨S3x2816, .f32⟩
  | .hbm, ⟨14, _⟩ => ⟨S3x2816, .f32⟩
  | .hbm, ⟨15, _⟩ => ⟨S_, .f32⟩
  | .hbm, ⟨16, _⟩ => ⟨S3x2816, .f32⟩
  | .hbm, ⟨17, _⟩ => ⟨S3x2816, .f32⟩
  | .hbm, ⟨18, _⟩ => ⟨S3x2816, .f32⟩
  | .hbm, ⟨19, _⟩ => ⟨S_, .f32⟩
  | .hbm, ⟨20, _⟩ => ⟨S3x2816, .f32⟩
  | .hbm, ⟨21, _⟩ => ⟨S3x2816, .f32⟩
  | .hbm, ⟨22, _⟩ => ⟨S_, .f32⟩
  | .hbm, ⟨23, _⟩ => ⟨S3x2816, .f32⟩
  | .hbm, ⟨24, _⟩ => ⟨S3x2816, .f32⟩
  | .hbm, ⟨25, _⟩ => ⟨S3x2816, .f32⟩
  | .hbm, ⟨26, _⟩ => ⟨S_, .f32⟩
  | .hbm, ⟨27, _⟩ => ⟨S3x2816, .f32⟩
  | .hbm, ⟨28, _⟩ => ⟨S3x2816, .f32⟩
  | .hbm, ⟨29, _⟩ => ⟨S3x2816, .f32⟩
  | .hbm, ⟨30, _⟩ => ⟨S_, .f32⟩
  | .hbm, ⟨31, _⟩ => ⟨S3x2816, .f32⟩
  | .hbm, ⟨32, _⟩ => ⟨S3x2816, .f32⟩
  | .hbm, ⟨33, _⟩ => ⟨S3x2816, .f32⟩
  | .hbm, ⟨34, _⟩ => ⟨S_, .f32⟩
  | .hbm, ⟨35, _⟩ => ⟨S3x2816, .f32⟩
  | .hbm, ⟨36, _⟩ => ⟨S3x2816, .f32⟩
  | _, _ => ⟨S3x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S768x128 : Shape := ⟨2, ![768, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S768x128, .f32⟩
  | .hbm, ⟨1, _⟩ => ⟨S768x128, .f32⟩
  | .hbm, ⟨2, _⟩ => ⟨S768x128, .f32⟩
  | .hbm, ⟨3, _⟩ => ⟨S768x128, .f32⟩
  | .hbm, ⟨4, _⟩ => ⟨S768x128, .f32⟩
  | .hbm, ⟨5, _⟩ => ⟨S768x128, .f32⟩
  | .hbm, ⟨6, _⟩ => ⟨S768x128, .f32⟩
  | .hbm, ⟨7, _⟩ => ⟨S768x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S768x128 : Shape := ⟨2, ![768, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x128, .f32⟩
  | .hbm, ⟨1, _⟩ => ⟨S768x128, .f32⟩
  | .hbm, ⟨2, _⟩ => ⟨S768x128, .f32⟩
  | .hbm, ⟨3, _⟩ => ⟨S768x128, .f32⟩
  | .hbm, ⟨4, _⟩ => ⟨S_, .f32⟩
  | .hbm, ⟨5, _⟩ => ⟨S768x128, .f32⟩
  | .hbm, ⟨6, _⟩ => ⟨S768x128, .f32⟩
  | .hbm, ⟨7, _⟩ => ⟨S_, .f32⟩
  | .hbm, ⟨8, _⟩ => ⟨S768x128, .f32⟩
  | .hbm, ⟨9, _⟩ => ⟨S768x128, .f32⟩
  | .hbm, ⟨10, _⟩ => ⟨S768x128, .f32⟩
  | .hbm, ⟨11, _⟩ => ⟨S_, .f32⟩
  | .hbm, ⟨12, _⟩ => ⟨S768x128, .f32⟩
  | .hbm, ⟨13, _⟩ => ⟨S768x128, .f32⟩
  | .hbm, ⟨14, _⟩ => ⟨S768x128, .f32⟩
  | .hbm, ⟨15, _⟩ => ⟨S_, .f32⟩
  | .hbm, ⟨16, _⟩ => ⟨S768x128, .f32⟩
  | .hbm, ⟨17, _⟩ => ⟨S768x128, .f32⟩
  | .hbm, ⟨18, _⟩ => ⟨S768x128, .f32⟩
  | .hbm, ⟨19, _⟩ => ⟨S_, .f32⟩
  | .hbm, ⟨20, _⟩ => ⟨S768x128, .f32⟩
  | .hbm, ⟨21, _⟩ => ⟨S768x128, .f32⟩
  | .hbm, ⟨22, _⟩ => ⟨S_, .f32⟩
  | .hbm, ⟨23, _⟩ => ⟨S768x128, .f32⟩
  | .hbm, ⟨24, _⟩ => ⟨S768x128, .f32⟩
  | .hbm, ⟨25, _⟩ => ⟨S768x128, .f32⟩
  | .hbm, ⟨26, _⟩ => ⟨S_, .f32⟩
  | .hbm, ⟨27, _⟩ => ⟨S768x128, .f32⟩
  | .hbm, ⟨28, _⟩ => ⟨S768x128, .f32⟩
  | .hbm, ⟨29, _⟩ => ⟨S768x128, .f32⟩
  | .hbm, ⟨30, _⟩ => ⟨S_, .f32⟩
  | .hbm, ⟨31, _⟩ => ⟨S768x128, .f32⟩
  | .hbm, ⟨32, _⟩ => ⟨S768x128, .f32⟩
  | .hbm, ⟨33, _⟩ => ⟨S768x128, .f32⟩
  | .hbm, ⟨34, _⟩ => ⟨S_, .f32⟩
  | .hbm, ⟨35, _⟩ => ⟨S768x128, .f32⟩
  | .hbm, ⟨36, _⟩ => ⟨S768x128, .f32⟩
  | _, _ => ⟨S768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S4096x2048 : Shape := ⟨2, ![4096, 2048]⟩
abbrev S4096x256 : Shape := ⟨2, ![4096, 256]⟩
abbrev S256x256 : Shape := ⟨2, ![256, 256]⟩
abbrev S16x256 : Shape := ⟨2, ![16, 256]⟩
abbrev S272x256 : Shape := ⟨2, ![272, 256]⟩

abbrev nBuf : Space → Nat
  | .hbm => 2
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_4 : BitVec 32 := 0#32
  let c16_i32 : BitVec 32 := 16#32
  let v18 : BitVec 32 := Scalar.addi c0_i32_4 c16_i32
  let c1_i32_5 : BitVec 32 := 1#32
  ⟨c0_i32_4, v18, c1_i32_5⟩
def k0_mult1 (k0_t1 : Fin k0_t1_loop.trips) : BitVec 32 :=
  let c0_i32_4 : BitVec 32 := 0#32
  let c1_i32_5 : BitVec 32 := 1#32
  let arg3 : BitVec 32 := Scf.iv c0_i32_4 c1_i32_5 k0_t1
  let c256_i32_7 : BitVec 32 := 256#32
  let v19 : BitVec 32 := Scalar.muli arg3 c256_i32_7
  v19
def k0_off1 (k0_t1 : Fin k0_t1_loop.trips) : Fin 2 → Nat :=
  let c0_i32_4 : BitVec 32 := 0#32
  let c1_i32_5 : BitVec 32 := 1#32
  let arg3 : BitVec 32 := Scf.iv c0_i32_4 c1_i32_5 k0_t1
  let c256_i32_7 : BitVec 32 := 256#32
  let v19 : BitVec 32 := Scalar.muli arg3 c256_i32_7
  let v20 : BitVec 32 := v19
  let v22 : Index := Scalar.indexCast v20
  let c0 : Index := 0#32
  ![v22.toNat, 0]
def k0_mult2 (k0_t1 : Fin k0_t1_loop.trips) : BitVec 32 :=
  let c0_i32_4 : BitVec 32 := 0#32
  let c1_i32_5 : BitVec 32 := 1#32
  let arg3 : BitVec 32 := Scf.iv c0_i32_4 c1_i32_5 k0_t1
  let c256_i32_7 : BitVec 32 := 256#32
  let v19 : BitVec 32 := Scalar.muli arg3 c256_i32_7
  let v20 : BitVec 32 := v19
  let c256_i32_8 : BitVec 32 := 256#32
  let v24 : BitVec 32 := Scalar.addi v20 c256_i32_8
  let c4080_i32 : BitVec 32 := 4080#32
  let v25 : BitVec 32 := Scalar.minsi v24 c4080_i32
  v25
def k0_off2 (k0_t1 : Fin k0_t1_loop.trips) : Fin 2 → Nat :=
  let c0_i32_4 : BitVec 32 := 0#32
  let c1_i32_5 : BitVec 32 := 1#32
  let arg3 : BitVec 32 := Scf.iv c0_i32_4 c1_i32_5 k0_t1
  let c256_i32_7 : BitVec 32 := 256#32
  let v19 : BitVec 32 := Scalar.muli arg3 c256_i32_7
  let v20 : BitVec 32 := v19
  let c256_i32_8 : BitVec 32 := 256#32
  let v24 : BitVec 32 := Scalar.addi v20 c256_i32_8
  let c4080_i32 : BitVec 32 := 4080#32
  let v25 : BitVec 32 := Scalar.minsi v24 c4080_i32
  let v26 : BitVec 32 := v25
  let v27 : Index := Scalar.indexCast v26
  let c0_9 : Index := 0#32
  ![v27.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference27Ideal.lean ====
abbrev S4096x2048 : Shape := ⟨2, ![4096, 2048]⟩
abbrev S4 : Shape := ⟨1, ![4]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x1x1 : Shape := ⟨3, ![4, 1, 1]⟩
abbrev S1x4096x1 : Shape := ⟨3, ![1, 4096, 1]⟩
abbrev S4x4096x1 : Shape := ⟨3, ![4, 4096, 1]⟩
abbrev S1x1x4096 : Shape := ⟨3, ![1, 1, 4096]⟩
abbrev S4x4096x4096 : Shape := ⟨3, ![4, 4096, 4096]⟩
abbrev S1x4096x4096 : Shape := ⟨3, ![1, 4096, 4096]⟩
abbrev S1x4 : Shape := ⟨2, ![1, 4]⟩
abbrev S4096x4 : Shape := ⟨2, ![4096, 4]⟩
abbrev S4096x4x512 : Shape := ⟨3, ![4096, 4, 512]⟩
abbrev S4x512x4096 : Shape := ⟨3, ![4, 512, 4096]⟩
abbrev S4096x4x1 : Shape := ⟨3, ![4096, 4, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4, .i32⟩
  | .hbm, ⟨2, _⟩ => ⟨S_, .f32⟩
  | .hbm, ⟨3, _⟩ => ⟨S4096x2048, .f32⟩
  | .hbm, ⟨4, _⟩ => ⟨S4096, .i32⟩
  | .hbm, ⟨5, _⟩ => ⟨S4096x1, .i32⟩
  | .hbm, ⟨6, _⟩ => ⟨S4096, .i32⟩
  | .hbm, ⟨7, _⟩ => ⟨S1x4096, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S4x1x1, .i32⟩
  | .hbm, ⟨12, _⟩ => ⟨S1x4096x1, .i32⟩
  | .hbm, ⟨13, _⟩ => ⟨S4x4096x1, .i32⟩
  | .hbm, ⟨14, _⟩ => ⟨S4x4096x1, .i32⟩
  | .hbm, ⟨15, _⟩ => ⟨S4x4096x1, .i32⟩
  | .hbm, ⟨16, _⟩ => ⟨S1x1x4096, .i32⟩
  | .hbm, ⟨17, _⟩ => ⟨S4x4096x4096, .i32⟩
  | .hbm, ⟨18, _⟩ => ⟨S4x4096x4096, .i32⟩
  | .hbm, ⟨19, _⟩ => ⟨S4x4096x4096, .i1⟩
  | .hbm, ⟨20, _⟩ => ⟨S1x4096x4096, .i1⟩
  | .hbm, ⟨21, _⟩ => ⟨S4x4096x4096, .i1⟩
  | .hbm, ⟨22, _⟩ => ⟨S4x4096x4096, .i1⟩
  | .hbm, ⟨23, _⟩ => ⟨S4096, .i32⟩
  | .hbm, ⟨24, _⟩ => ⟨S4096x1, .i32⟩
  | .hbm, ⟨25, _⟩ => ⟨S_, .i32⟩
  | .hbm, ⟨26, _⟩ => ⟨S4096x1, .i32⟩
  | .hbm, ⟨27, _⟩ => ⟨S4096x1, .i32⟩
  | .hbm, ⟨28, _⟩ => ⟨S1x4, .i32⟩
  | .hbm, ⟨29, _⟩ => ⟨S4096x4, .i32⟩
  | .hbm, ⟨30, _⟩ => ⟨S4096x4, .i32⟩
  | .hbm, ⟨31, _⟩ => ⟨S4096x4, .i32⟩
  | .hbm, ⟨32, _⟩ => ⟨S4x4096x4096, .f32⟩
  | .hbm, ⟨33, _⟩ => ⟨S4096x4x512, .f32⟩
  | .hbm, ⟨34, _⟩ => ⟨S4x512x4096, .f32⟩
  | .hbm, ⟨35, _⟩ => ⟨S4096x4x512, .f32⟩
  | .hbm, ⟨36, _⟩ => ⟨S4096x4, .f32⟩
  | .hbm, ⟨37, _⟩ => ⟨S4096x4x1, .f32⟩
  | .hbm, ⟨38, _⟩ => ⟨S4096x4x512, .f32⟩
  | .hbm, ⟨39, _⟩ => ⟨S4096x4x512, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x4x512, .f32⟩
  | .hbm, ⟨45, _⟩ => ⟨S4096x4x512, .f32⟩
  | .hbm, ⟨46, _⟩ => ⟨S4096x4x512, .f32⟩
  | .hbm, ⟨47, _⟩ => ⟨S4x512x4096, .f32⟩
  | .hbm, ⟨48, _⟩ => ⟨S4x512x4096, .f32⟩
  | .hbm, ⟨49, _⟩ => ⟨S4096x4x512, .f32⟩
  | .hbm, ⟨50, _⟩ => ⟨S4096x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c_0 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩

abbrev nD : Nat := 1
abbrev τ : Topo := Topo.v7x

variable {F : FTy → Type} [FloatOps F]
-- ==== Kernel28.lean ====
abbrev S4x512x512 : Shape := ⟨3, ![4, 512, 512]⟩
abbrev S4096x2048 : Shape := ⟨2, ![4096, 2048]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4x512x512, .f32⟩
  | .hbm, ⟨1, _⟩ => ⟨S4096x2048, .f32⟩
  | .hbm, ⟨2, _⟩ => ⟨S4096x2048, .bf16⟩
  | .hbm, ⟨3, _⟩ => ⟨S4x512x512, .bf16⟩
  | .hbm, ⟨4, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4x512x512 : Shape := ⟨3, ![4, 512, 512]⟩
abbrev S4096x2048 : Shape := ⟨2, ![4096, 2048]⟩
abbrev S_ : Shape := ⟨0, ![]⟩
abbrev S4096x4x512 : Shape := ⟨3, ![4096, 4, 512]⟩
abbrev S4x512x4096 : Shape := ⟨3, ![4, 512, 4096]⟩
abbrev S4x4096x512 : Shape := ⟨3, ![4, 4096, 512]⟩

abbrev nBuf : Space → Nat
  | .hbm => 12
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x4x512, .f32⟩
  | .hbm, ⟨5, _⟩ => ⟨S4x512x4096, .f32⟩
  | .hbm, ⟨6, _⟩ => ⟨S4096x4x512, .f32⟩
  | .hbm, ⟨7, _⟩ => ⟨S4096x4x512, .f32⟩
  | .hbm, ⟨8, _⟩ => ⟨S4x512x4096, .f32⟩
  | .hbm, ⟨9, _⟩ => ⟨S4x4096x512, .f32⟩
  | .hbm, ⟨10, _⟩ => ⟨S4096x4x512, .f32⟩
  | .hbm, ⟨11, _⟩ => ⟨S4096x2048, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel29.lean ====
abbrev S4096x2048 : Shape := ⟨2, ![4096, 2048]⟩
abbrev S2048x4096 : Shape := ⟨2, ![2048, 4096]⟩
abbrev S4x512x512 : Shape := ⟨3, ![4, 512, 512]⟩
abbrev S512x2048 : Shape := ⟨2, ![512, 2048]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S2048x4096, .bf16⟩
  | .hbm, ⟨4, _⟩ => ⟨S4096x2048, .bf16⟩
  | .hbm, ⟨5, _⟩ => ⟨S4x512x512, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference29Ideal.lean ====
abbrev S4096x2048 : Shape := ⟨2, ![4096, 2048]⟩
abbrev S_ : Shape := ⟨0, ![]⟩
abbrev S4x512x512 : Shape := ⟨3, ![4, 512, 512]⟩
abbrev S4096x4x512 : Shape := ⟨3, ![4096, 4, 512]⟩
abbrev S4x512x4096 : Shape := ⟨3, ![4, 512, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S4x512x512, .f32⟩
  | .hbm, ⟨4, _⟩ => ⟨S4096x4x512, .f32⟩
  | .hbm, ⟨5, _⟩ => ⟨S4x512x4096, .f32⟩
  | .hbm, ⟨6, _⟩ => ⟨S4096x4x512, .f32⟩
  | .hbm, ⟨7, _⟩ => ⟨S4096x4x512, .f32⟩
  | .hbm, ⟨8, _⟩ => ⟨S4x512x4096, .f32⟩
  | .hbm, ⟨9, _⟩ => ⟨S4x512x512, .f32⟩
  | .hbm, ⟨10, _⟩ => ⟨S4x512x512, .f32⟩
  | .hbm, ⟨11, _⟩ => ⟨S4x512x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel30.lean ====
abbrev S4096x2048 : Shape := ⟨2, ![4096, 2048]⟩
abbrev S4x512x512 : Shape := ⟨3, ![4, 512, 512]⟩
abbrev S2048 : Shape := ⟨1, ![2048]⟩
abbrev S1x2048 : Shape := ⟨2, ![1, 2048]⟩
abbrev S1024x512 : Shape := ⟨2, ![1024, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4x512x512, .f32⟩
  | .hbm, ⟨2, _⟩ => ⟨S2048, .f32⟩
  | .hbm, ⟨3, _⟩ => ⟨S4096x2048, .f32⟩
  | .hbm, ⟨4, _⟩ => ⟨S4096x2048, .bf16⟩
  | .hbm, ⟨5, _⟩ => ⟨S4x512x512, .bf16⟩
  | .hbm, ⟨6, _⟩ => ⟨S1x2048, .f32⟩
  | .hbm, ⟨7, _⟩ => ⟨S4096x2048, .f32⟩
  | .hbm, ⟨8, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference30Ideal.lean ====
abbrev S4096x2048 : Shape := ⟨2, ![4096, 2048]⟩
abbrev S4x512x512 : Shape := ⟨3, ![4, 512, 512]⟩
abbrev S2048 : Shape := ⟨1, ![2048]⟩
abbrev S4096x4x512 : Shape := ⟨3, ![4096, 4, 512]⟩
abbrev S4x512x4096 : Shape := ⟨3, ![4, 512, 4096]⟩
abbrev S1x2048 : Shape := ⟨2, ![1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x512x512, .f32⟩
  | .hbm, ⟨2, _⟩ => ⟨S2048, .f32⟩
  | .hbm, ⟨3, _⟩ => ⟨S4096x2048, .f32⟩
  | .hbm, ⟨4, _⟩ => ⟨S4096x4x512, .f32⟩
  | .hbm, ⟨5, _⟩ => ⟨S4x512x4096, .f32⟩
  | .hbm, ⟨6, _⟩ => ⟨S4096x4x512, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel31.lean ====
abbrev S4096x2048 : Shape := ⟨2, ![4096, 2048]⟩
abbrev S2048x4096 : Shape := ⟨2, ![2048, 4096]⟩
abbrev S4096x256 : Shape := ⟨2, ![4096, 256]⟩
abbrev S256x4096 : Shape := ⟨2, ![256, 4096]⟩
abbrev S16x256 : Shape := ⟨2, ![16, 256]⟩
abbrev S256x256 : Shape := ⟨2, ![256, 256]⟩
abbrev S272x256 : Shape := ⟨2, ![272, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x4096, .bf16⟩
  | .local _ .vmem, ⟨0, _⟩ => ⟨S4096x256, .f32⟩
  | .local _ .vmem, ⟨1, _⟩ => ⟨S4096x256, .f32⟩
  | .local _ .vmem, ⟨2, _⟩ => ⟨S4096x256, .bf16⟩
  | .local _ .vmem, ⟨3, _⟩ => ⟨S4096x256, .bf16⟩
  | .local _ .vmem, ⟨4, _⟩ => ⟨S256x4096, .bf16⟩
  | .local _ .vmem, ⟨5, _⟩ => ⟨S256x4096, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_4 : BitVec 32 := 0#32
  let c16_i32 : BitVec 32 := 16#32
  let v18 : BitVec 32 := Scalar.addi c0_i32_4 c16_i32
  let c1_i32_5 : BitVec 32 := 1#32
  ⟨c0_i32_4, v18, c1_i32_5⟩
def k0_mult1 (k0_t1 : Fin k0_t1_loop.trips) : BitVec 32 :=
  let c0_i32_4 : BitVec 32 := 0#32
  let c1_i32_5 : BitVec 32 := 1#32
  let arg4 : BitVec 32 := Scf.iv c0_i32_4 c1_i32_5 k0_t1
  let c256_i32_7 : BitVec 32 := 256#32
  let v19 : BitVec 32 := Scalar.muli arg4 c256_i32_7
  v19
def k0_mult2 (k0_t1 : Fin k0_t1_loop.trips) : BitVec 32 :=
  let c0_i32_4 : BitVec 32 := 0#32
  let c1_i32_5 : BitVec 32 := 1#32
  let arg4 : BitVec 32 := Scf.iv c0_i32_4 c1_i32_5 k0_t1
  let c256_i32_7 : BitVec 32 := 256#32
  let v19 : BitVec 32 := Scalar.muli arg4 c256_i32_7
  let v20 : BitVec 32 := v19
  let c16_i32_9 : BitVec 32 := 16#32
  let v22 : BitVec 32 := Scalar.subi v20 c16_i32_9
  let c0_i32_10 : BitVec 32 := 0#32
  let v23 : BitVec 32 := Scalar.maxsi v22 c0_i32_10
  v23
def k0_off1 (k0_t1 : Fin k0_t1_loop.trips) : Fin 2 → Nat :=
  let c0_i32_4 : BitVec 32 := 0#32
  let c1_i32_5 : BitVec 32 := 1#32
  let arg4 : BitVec 32 := Scf.iv c0_i32_4 c1_i32_5 k0_t1
  let c256_i32_7 : BitVec 32 := 256#32
  let v19 : BitVec 32 := Scalar.muli arg4 c256_i32_7
  let v20 : BitVec 32 := v19
  let c16_i32_9 : BitVec 32 := 16#32
  let v22 : BitVec 32 := Scalar.subi v20 c16_i32_9
  let c0_i32_10 : BitVec 32 := 0#32
  let v23 : BitVec 32 := Scalar.maxsi v22 c0_i32_10
  let v24 : BitVec 32 := v23
  let v25 : Index := Scalar.indexCast v24
  let c0 : Index := 0#32
  ![v25.toNat, 0]
def k0_off2 (k0_t1 : Fin k0_t1_loop.trips) : Fin 2 → Nat :=
  let c0_i32_4 : BitVec 32 := 0#32
  let c1_i32_5 : BitVec 32 := 1#32
  let arg4 : BitVec 32 := Scf.iv c0_i32_4 c1_i32_5 k0_t1
  let c256_i32_7 : BitVec 32 := 256#32
  let v19 : BitVec 32 := Scalar.muli arg4 c256_i32_7
  let v20 : BitVec 32 := v19
  let v30 : Index := Scalar.indexCast v20
  let c0_12 : Index := 0#32
  ![v30.toNat, 0]
def k0_off3 (k0_t1 : Fin k0_t1_loop.trips) : Fin 2 → Nat :=
  let c0_20 : Index := 0#32
  let c0_i32_4 : BitVec 32 := 0#32
  let c1_i32_5 : BitVec 32 := 1#32
  let arg4 : BitVec 32 := Scf.iv c0_i32_4 c1_i32_5 k0_t1
  let c256_i32_7 : BitVec 32 := 256#32
  let v19 : BitVec 32 := Scalar.muli arg4 c256_i32_7
  let v20 : BitVec 32 := v19
  let v69 : Index := Scalar.indexCast v20
  ![0, v69.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference31Ideal.lean ====
abbrev S4096x2048 : Shape := ⟨2, ![4096, 2048]⟩
abbrev S4 : Shape := ⟨1, ![4]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x1x1 : Shape := ⟨3, ![4, 1, 1]⟩
abbrev S1x4096x1 : Shape := ⟨3, ![1, 4096, 1]⟩
abbrev S4x4096x1 : Shape := ⟨3, ![4, 4096, 1]⟩
abbrev S1x1x4096 : Shape := ⟨3, ![1, 1, 4096]⟩
abbrev S4x4096x4096 : Shape := ⟨3, ![4, 4096, 4096]⟩
abbrev S1x4096x4096 : Shape := ⟨3, ![1, 4096, 4096]⟩
abbrev S_ : Shape := ⟨0, ![]⟩
abbrev S1x4 : Shape := ⟨2, ![1, 4]⟩
abbrev S4096x4 : Shape := ⟨2, ![4096, 4]⟩
abbrev S4096x4x512 : Shape := ⟨3, ![4096, 4, 512]⟩
abbrev S4x512x4096 : Shape := ⟨3, ![4, 512, 4096]⟩
abbrev S4096x4x1 : Shape := ⟨3, ![4096, 4, 1]⟩
abbrev S2048x4096 : Shape := ⟨2, ![2048, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4, .i32⟩
  | .hbm, ⟨2, _⟩ => ⟨S4096, .i32⟩
  | .hbm, ⟨3, _⟩ => ⟨S4096x1, .i32⟩
  | .hbm, ⟨4, _⟩ => ⟨S4096, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S4x1x1, .i32⟩
  | .hbm, ⟨10, _⟩ => ⟨S1x4096x1, .i32⟩
  | .hbm, ⟨11, _⟩ => ⟨S4x4096x1, .i32⟩
  | .hbm, ⟨12, _⟩ => ⟨S4x4096x1, .i32⟩
  | .hbm, ⟨13, _⟩ => ⟨S4x4096x1, .i32⟩
  | .hbm, ⟨14, _⟩ => ⟨S1x1x4096, .i32⟩
  | .hbm, ⟨15, _⟩ => ⟨S4x4096x4096, .i32⟩
  | .hbm, ⟨16, _⟩ => ⟨S4x4096x4096, .i32⟩
  | .hbm, ⟨17, _⟩ => ⟨S4x4096x4096, .i1⟩
  | .hbm, ⟨18, _⟩ => ⟨S1x4096x4096, .i1⟩
  | .hbm, ⟨19, _⟩ => ⟨S4x4096x4096, .i1⟩
  | .hbm, ⟨20, _⟩ => ⟨S4x4096x4096, .i1⟩
  | .hbm, ⟨21, _⟩ => ⟨S4096, .i32⟩
  | .hbm, ⟨22, _⟩ => ⟨S4096x1, .i32⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S1x4, .i32⟩
  | .hbm, ⟨27, _⟩ => ⟨S4096x4, .i32⟩
  | .hbm, ⟨28, _⟩ => ⟨S4096x4, .i32⟩
  | .hbm, ⟨29, _⟩ => ⟨S4096x4, .i32⟩
  | .hbm, ⟨30, _⟩ => ⟨S4x4096x4096, .f32⟩
  | .hbm, ⟨31, _⟩ => ⟨S4096x4x512, .f32⟩
  | .hbm, ⟨32, _⟩ => ⟨S4x512x4096, .f32⟩
  | .hbm, ⟨33, _⟩ => ⟨S4096x4x512, .f32⟩
  | .hbm, ⟨34, _⟩ => ⟨S4096x4, .f32⟩
  | .hbm, ⟨35, _⟩ => ⟨S4096x4x1, .f32⟩
  | .hbm, ⟨36, _⟩ => ⟨S4096x4x512, .f32⟩
  | .hbm, ⟨37, _⟩ => ⟨S4096x4x512, .f32⟩
  | .hbm, ⟨38, _⟩ => ⟨S4096x2048, .f32⟩
  | .hbm, ⟨39, _⟩ => ⟨S4096x2048, .f32⟩
  | .hbm, ⟨40, _⟩ => ⟨S4096x2048, .bf16⟩
  | .hbm, ⟨41, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_c_0 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩

abbrev nD : Nat := 1
abbrev τ : Topo := Topo.v7x

variable {F : FTy → Type} [FloatOps F]
-- ==== Kernel32.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .sgt arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference32Ideal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S2048, .f32⟩
  | .hbm, ⟨14, _⟩ => ⟨S4096x2048, .bf16⟩
  | .hbm, ⟨15, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel33.lean ====
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 2
  | .vmem => 3
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k0_cond2 (i : grid0.Coords) : BitVec 1 :=
  let arg0 : BitVec 32 := BitVec.ofNat 32 (i 0).val
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference33Ideal.lean ====
abbrev S4096x2048 : Shape := ⟨2, ![4096, 2048]⟩
abbrev S_ : Shape := ⟨0, ![]⟩
abbrev S2048 : Shape := ⟨1, ![2048]⟩
abbrev S1x2048 : Shape := ⟨2, ![1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S2048, .f32⟩
  | .hbm, ⟨3, _⟩ => ⟨S_, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S_, .f32⟩
  | .hbm, ⟨12, _⟩ => ⟨S2048, .f32⟩
  | .hbm, ⟨13, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel34.lean ====
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_8 : BitVec 32 := 0#32
  let v13 : BitVec 1 := Scalar.cmpi .ne v12 c0_i32_8
  v13

def k0_cond2 (i : grid0.Coords) : BitVec 1 :=
  let arg0 : BitVec 32 := BitVec.ofNat 32 (i 0).val
  let c0_i32_9 : BitVec 32 := 0#32
  let v14 : BitVec 1 := Scalar.cmpi .sgt arg0 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference34Ideal.lean ====
abbrev S4096x2048 : Shape := ⟨2, ![4096, 2048]⟩
abbrev S_ : Shape := ⟨0, ![]⟩
abbrev S4096 : Shape := ⟨1, ![4096]⟩
abbrev S2048 : Shape := ⟨1, ![2048]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .bf16⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel35.lean ====
abbrev S4096x2048 : Shape := ⟨2, ![4096, 2048]⟩
abbrev S2048 : Shape := ⟨1, ![2048]⟩
abbrev S1x2048 : Shape := ⟨2, ![1, 2048]⟩
abbrev S2048x4096 : Shape := ⟨2, ![2048, 4096]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .hbm, ⟨4, _⟩ => ⟨S2048x4096, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference35Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x4096 : Shape := ⟨2, ![2048, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel36.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference36Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel37.lean ====
abbrev S4096x2048 : Shape := ⟨2, ![4096, 2048]⟩
abbrev S2048 : Shape := ⟨1, ![2048]⟩
abbrev S1x2048 : Shape := ⟨2, ![1, 2048]⟩
abbrev S2048x4096 : Shape := ⟨2, ![2048, 4096]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S2048x4096, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | .local _ .vmem, ⟨6, _⟩ => ⟨S2048x256, .bf16⟩
  | .local _ .vmem, ⟨7, _⟩ => ⟨S2048x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference37Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x4096 : Shape := ⟨2, ![2048, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | .hbm, ⟨40, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Kernel38.lean ====
abbrev S2x4096x5632 : Shape := ⟨3, ![2, 4096, 5632]⟩
abbrev S2x3x5632 : Shape := ⟨3, ![2, 3, 5632]⟩
abbrev S2x1x5632 : Shape := ⟨3, ![2, 1, 5632]⟩
abbrev S4096x5632 : Shape := ⟨2, ![4096, 5632]⟩
abbrev S5632x4096 : Shape := ⟨2, ![5632, 4096]⟩
abbrev S2x4096x256 : Shape := ⟨3, ![2, 4096, 256]⟩
abbrev S2x3x256 : Shape := ⟨3, ![2, 3, 256]⟩
abbrev S2x1x256 : Shape := ⟨3, ![2, 1, 256]⟩
abbrev S4096x256 : Shape := ⟨2, ![4096, 256]⟩
abbrev S256x4096 : Shape := ⟨2, ![256, 4096]⟩
abbrev S1x16x256 : Shape := ⟨3, ![1, 16, 256]⟩
abbrev S16x256 : Shape := ⟨2, ![16, 256]⟩
abbrev S1x256x256 : Shape := ⟨3, ![1, 256, 256]⟩
abbrev S256x256 : Shape := ⟨2, ![256, 256]⟩
abbrev S272x256 : Shape := ⟨2, ![272, 256]⟩
abbrev S1x3x256 : Shape := ⟨3, ![1, 3, 256]⟩
abbrev S3x256 : Shape := ⟨2, ![3, 256]⟩
abbrev S1x256 : Shape := ⟨2, ![1, 256]⟩
abbrev S1x1x256 : Shape := ⟨3, ![1, 1, 256]⟩

abbrev nBuf : Space → Nat
  | .hbm => 6
  | .vmem => 10
  | .smem => 0
  | _ => 0

abbrev bufTy : (tb : Table) → Fin (tcTables nBuf tb) → BufTy
  | .hbm, ⟨0, _⟩ => ⟨S2x4096x5632, .f32⟩
  | .hbm, ⟨1, _⟩ => ⟨S2x3x5632, .f32⟩
  | .hbm, ⟨2, _⟩ => ⟨S2x1x5632, .f32⟩
  | .hbm, ⟨3, _⟩ => ⟨S2x4096x5632, .bf16⟩
  | .hbm, ⟨4, _⟩ => ⟨S4096x5632, .bf16⟩
  | .hbm, ⟨5, _⟩ => ⟨S5632x4096, .bf16⟩
  | .local _ .vmem, ⟨0, _⟩ => ⟨S2x4096x256, .bf16⟩
  | .local _ .vmem, ⟨1, _⟩ => ⟨S2x4096x256, .bf16⟩
  | .local _ .vmem, ⟨2, _⟩ => ⟨S2x3x256, .f32⟩
  | .local _ .vmem, ⟨3, _⟩ => ⟨S2x3x256, .f32⟩
  | .local _ .vmem, ⟨4, _⟩ => ⟨S2x1x256, .f32⟩
  | .local _ .vmem, ⟨5, _⟩ => ⟨S2x1x256, .f32⟩
  | .local _ .vmem, ⟨6, _⟩ => ⟨S4096x256, .bf16⟩
  | .local _ .vmem, ⟨7, _⟩ => ⟨S4096x256, .bf16⟩
  | .local _ .vmem, ⟨8, _⟩ => ⟨S256x4096, .bf16⟩
  | .local _ .vmem, ⟨9, _⟩ => ⟨S256x4096, .bf16⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  v1
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let c16_i32_2 : BitVec 32 := 16#32
  let v4 : BitVec 32 := Scalar.subi v2 c16_i32_2
  let c0_i32_3 : BitVec 32 := 0#32
  let v5 : BitVec 32 := Scalar.maxsi v4 c0_i32_3
  v5
def k0_off1 (k0_t1 : Fin k0_t1_loop.trips) : Fin 3 → Nat :=
  let c0 : Index := 0#32
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let c16_i32_2 : BitVec 32 := 16#32
  let v4 : BitVec 32 := Scalar.subi v2 c16_i32_2
  let c0_i32_3 : BitVec 32 := 0#32
  let v5 : BitVec 32 := Scalar.maxsi v4 c0_i32_3
  let v6 : BitVec 32 := v5
  let v7 : Index := Scalar.indexCast v6
  let c0_4 : Index := 0#32
  ![0, v7.toNat, 0]
def k0_off2 (k0_t1 : Fin k0_t1_loop.trips) : Fin 3 → Nat :=
  let c0_6 : Index := 0#32
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let v14 : Index := Scalar.indexCast v2
  let c0_7 : Index := 0#32
  ![0, v14.toNat, 0]
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let c16_i32_16 : BitVec 32 := 16#32
  let v42 : BitVec 32 := Scalar.subi v2 c16_i32_16
  let c0_i32_17 : BitVec 32 := 0#32
  let v43 : BitVec 32 := Scalar.maxsi v42 c0_i32_17
  v43
def k0_off3 (k0_t1 : Fin k0_t1_loop.trips) : Fin 3 → Nat :=
  let c1 : Index := 1#32
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let c16_i32_16 : BitVec 32 := 16#32
  let v42 : BitVec 32 := Scalar.subi v2 c16_i32_16
  let c0_i32_17 : BitVec 32 := 0#32
  let v43 : BitVec 32 := Scalar.maxsi v42 c0_i32_17
  let v44 : BitVec 32 := v43
  let v45 : Index := Scalar.indexCast v44
  let c0_18 : Index := 0#32
  ![1, v45.toNat, 0]
def k0_off4 (k0_t1 : Fin k0_t1_loop.trips) : Fin 3 → Nat :=
  let c1_21 : Index := 1#32
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let v52 : Index := Scalar.indexCast v2
  let c0_22 : Index := 0#32
  ![1, v52.toNat, 0]
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let v89 : Index := Scalar.indexCast v2
  let c0_34 : Index := 0#32
  ![v89.toNat, 0]
def k0_off6 (k0_t1 : Fin k0_t1_loop.trips) : Fin 2 → Nat :=
  let c0_35 : Index := 0#32
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let v92 : Index := Scalar.indexCast v2
  ![0, v92.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference38Ideal.lean ====
abbrev S2x4096x5632 : Shape := ⟨3, ![2, 4096, 5632]⟩
abbrev S2x3x5632 : Shape := ⟨3, ![2, 3, 5632]⟩
abbrev S2x1x5632 : Shape := ⟨3, ![2, 1, 5632]⟩
abbrev S_ : Shape := ⟨0, ![]⟩
abbrev S2x2x5632 : Shape := ⟨3, ![2, 2, 5632]⟩
abbrev S2x4098x5632 : Shape := ⟨3, ![2, 4098, 5632]⟩
abbrev S1x2x4096x5632 : Shape := ⟨4, ![1, 2, 4096, 5632]⟩
abbrev S3x2x4096x5632 : Shape := ⟨4, ![3, 2, 4096, 5632]⟩
abbrev S3x2x5632 : Shape := ⟨3, ![3, 2, 5632]⟩
abbrev S3x2x1x5632 : Shape := ⟨4, ![3, 2, 1, 5632]⟩
abbrev S1x4096x5632 : Shape := ⟨3, ![1, 4096, 5632]⟩
abbrev S4096x5632 : Shape := ⟨2, ![4096, 5632]⟩
abbrev S5632x4096 : Shape := ⟨2, ![5632, 4096]⟩

abbrev nBuf : Space → Nat
  | .hbm => 37
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S2x3x5632, .f32⟩
  | .hbm, ⟨2, _⟩ => ⟨S2x1x5632, .f32⟩
  | .hbm, ⟨3, _⟩ => ⟨S_, .f32⟩
  | .hbm, ⟨4, _⟩ => ⟨S2x2x5632, .f32⟩
  | .hbm, ⟨5, _⟩ => ⟨S2x4098x5632, .f32⟩
  | .hbm, ⟨6, _⟩ => ⟨S2x4096x5632, .f32⟩
  | .hbm, ⟨7, _⟩ => ⟨S2x4096x5632, .f32⟩
  | .hbm, ⟨8, _⟩ => ⟨S2x4096x5632, .f32⟩
  | .hbm, ⟨9, _⟩ => ⟨S1x2x4096x5632, .f32⟩
  | .hbm, ⟨10, _⟩ => ⟨S1x2x4096x5632, .f32⟩
  | .hbm, ⟨11, _⟩ => ⟨S1x2x4096x5632, .f32⟩
  | .hbm, ⟨12, _⟩ => ⟨S3x2x4096x5632, .f32⟩
  | .hbm, ⟨13, _⟩ => ⟨S3x2x5632, .f32⟩
  | .hbm, ⟨14, _⟩ => ⟨S3x2x1x5632, .f32⟩
  | .hbm, ⟨15, _⟩ => ⟨S3x2x4096x5632, .f32⟩
  | .hbm, ⟨16, _⟩ => ⟨S3x2x4096x5632, .f32⟩
  | .hbm, ⟨17, _⟩ => ⟨S_, .f32⟩
  | .hbm, ⟨18, _⟩ => ⟨S2x4096x5632, .f32⟩
  | .hbm, ⟨19, _⟩ => ⟨S2x4096x5632, .f32⟩
  | .hbm, ⟨20, _⟩ => ⟨S2x4096x5632, .f32⟩
  | .hbm, ⟨21, _⟩ => ⟨S1x4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S_, .f32⟩
  | .hbm, ⟨26, _⟩ => ⟨S4096x5632, .f32⟩
  | .hbm, ⟨27, _⟩ => ⟨S4096x5632, .f32⟩
  | .hbm, ⟨28, _⟩ => ⟨S_, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S1x4096x5632, .f32⟩
  | .hbm, ⟨33, _⟩ => ⟨S4096x5632, .f32⟩
  | .hbm, ⟨34, _⟩ => ⟨S4096x5632, .f32⟩
  | .hbm, ⟨35, _⟩ => ⟨S4096x5632, .bf16⟩
  | .hbm, ⟨36, _⟩ => ⟨S5632x4096, .bf16⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S2x4096x2048 : Shape := ⟨3, ![2, 4096, 2048]⟩
abbrev S2x1x2048 : Shape := ⟨3, ![2, 1, 2048]⟩
abbrev S31x2048 : Shape := ⟨2, ![31, 2048]⟩
abbrev S1x2048 : Shape := ⟨2, ![1, 2048]⟩
abbrev S4096x2048 : Shape := ⟨2, ![4096, 2048]⟩
abbrev S2x4096x128 : Shape := ⟨3, ![2, 4096, 128]⟩
abbrev S31x128 : Shape := ⟨2, ![31, 128]⟩
abbrev S1x128 : Shape := ⟨2, ![1, 128]⟩
abbrev S4096x128 : Shape := ⟨2, ![4096, 128]⟩
abbrev S1x32x128 : Shape := ⟨3, ![1, 32, 128]⟩
abbrev S32x128 : Shape := ⟨2, ![32, 128]⟩
abbrev S1x256x128 : Shape := ⟨3, ![1, 256, 128]⟩
abbrev S256x128 : Shape := ⟨2, ![256, 128]⟩
abbrev S288x128 : Shape := ⟨2, ![288, 128]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x1x2048, .f32⟩
  | .hbm, ⟨2, _⟩ => ⟨S31x2048, .f32⟩
  | .hbm, ⟨3, _⟩ => ⟨S1x2048, .f32⟩
  | .hbm, ⟨4, _⟩ => ⟨S2x4096x2048, .f32⟩
  | .hbm, ⟨5, _⟩ => ⟨S2x4096x2048, .f32⟩
  | .hbm, ⟨6, _⟩ => ⟨S2x4096x2048, .bf16⟩
  | .hbm, ⟨7, _⟩ => ⟨S4096x2048, .f32⟩
  | .local _ .vmem, ⟨0, _⟩ => ⟨S2x4096x128, .bf16⟩
  | .local _ .vmem, ⟨1, _⟩ => ⟨S2x4096x128, .bf16⟩
  | .local _ .vmem, ⟨2, _⟩ => ⟨S31x128, .f32⟩
  | .local _ .vmem, ⟨3, _⟩ => ⟨S31x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  v1
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  let v2 : BitVec 32 := v1
  let c32_i32 : BitVec 32 := 32#32
  let v4 : BitVec 32 := Scalar.subi v2 c32_i32
  let c0_i32_2 : BitVec 32 := 0#32
  let v5 : BitVec 32 := Scalar.maxsi v4 c0_i32_2
  v5
def k0_off1 (k0_t1 : Fin k0_t1_loop.trips) : Fin 3 → Nat :=
  let c0 : Index := 0#32
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  let v2 : BitVec 32 := v1
  let c32_i32 : BitVec 32 := 32#32
  let v4 : BitVec 32 := Scalar.subi v2 c32_i32
  let c0_i32_2 : BitVec 32 := 0#32
  let v5 : BitVec 32 := Scalar.maxsi v4 c0_i32_2
  let v6 : BitVec 32 := v5
  let v7 : Index := Scalar.indexCast v6
  let c0_3 : Index := 0#32
  ![0, v7.toNat, 0]
def k0_off2 (k0_t1 : Fin k0_t1_loop.trips) : Fin 3 → Nat :=
  let c0_5 : Index := 0#32
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  let v2 : BitVec 32 := v1
  let v14 : Index := Scalar.indexCast v2
  let c0_6 : Index := 0#32
  ![0, v14.toNat, 0]
def k0_mult3 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  let v2 : BitVec 32 := v1
  let c32_i32_8 : BitVec 32 := 32#32
  let v20 : BitVec 32 := Scalar.subi v2 c32_i32_8
  let c0_i32_9 : BitVec 32 := 0#32
  let v21 : BitVec 32 := Scalar.maxsi v20 c0_i32_9
  v21
def k0_off3 (k0_t1 : Fin k0_t1_loop.trips) : Fin 3 → Nat :=
  let c1 : Index := 1#32
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  let v2 : BitVec 32 := v1
  let c32_i32_8 : BitVec 32 := 32#32
  let v20 : BitVec 32 := Scalar.subi v2 c32_i32_8
  let c0_i32_9 : BitVec 32 := 0#32
  let v21 : BitVec 32 := Scalar.maxsi v20 c0_i32_9
  let v22 : BitVec 32 := v21
  let v23 : Index := Scalar.indexCast v22
  let c0_10 : Index := 0#32
  ![1, v23.toNat, 0]
def k0_off4 (k0_t1 : Fin k0_t1_loop.trips) : Fin 3 → Nat :=
  let c1_13 : Index := 1#32
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  let v2 : BitVec 32 := v1
  let v30 : Index := Scalar.indexCast v2
  let c0_14 : Index := 0#32
  ![1, v30.toNat, 0]
def k0_off5 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  let v2 : BitVec 32 := v1
  let v230 : Index := Scalar.indexCast v2
  let c0_55 : Index := 0#32
  ![v230.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference39Ideal.lean ====
abbrev S2x4096x2048 : Shape := ⟨3, ![2, 4096, 2048]⟩
abbrev S2x1x2048 : Shape := ⟨3, ![2, 1, 2048]⟩
abbrev S31x2048 : Shape := ⟨2, ![31, 2048]⟩
abbrev S1x2048 : Shape := ⟨2, ![1, 2048]⟩
abbrev S1x4096x2048 : Shape := ⟨3, ![1, 4096, 2048]⟩
abbrev S4096x2048 : Shape := ⟨2, ![4096, 2048]⟩
abbrev S_ : Shape := ⟨0, ![]⟩
abbrev S30x2048 : Shape := ⟨2, ![30, 2048]⟩
abbrev S4126x2048 : Shape := ⟨2, ![4126, 2048]⟩
abbrev S16x4096x2048 : Shape := ⟨3, ![16, 4096, 2048]⟩
abbrev S15x4096x2048 : Shape := ⟨3, ![15, 4096, 2048]⟩
abbrev S31x4096x2048 : Shape := ⟨3, ![31, 4096, 2048]⟩
abbrev S31x1x2048 : Shape := ⟨3, ![31, 1, 2048]⟩

abbrev nBuf : Space → Nat
  | .hbm => 94
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x1x2048, .f32⟩
  | .hbm, ⟨2, _⟩ => ⟨S31x2048, .f32⟩
  | .hbm, ⟨3, _⟩ => ⟨S1x2048, .f32⟩
  | .hbm, ⟨4, _⟩ => ⟨S2x4096x2048, .f32⟩
  | .hbm, ⟨5, _⟩ => ⟨S2x4096x2048, .f32⟩
  | .hbm, ⟨6, _⟩ => ⟨S1x4096x2048, .f32⟩
  | .hbm, ⟨7, _⟩ => ⟨S4096x2048, .f32⟩
  | .hbm, ⟨8, _⟩ => ⟨S1x4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S30x2048, .f32⟩
  | .hbm, ⟨21, _⟩ => ⟨S4126x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S1x4096x2048, .f32⟩
  | .hbm, ⟨54, _⟩ => ⟨S1x4096x2048, .f32⟩
  | .hbm, ⟨55, _⟩ => ⟨S1x4096x2048, .f32⟩
  | .hbm, ⟨56, _⟩ => ⟨S1x4096x2048, .f32⟩
  | .hbm, ⟨57, _⟩ => ⟨S1x4096x2048, .f32⟩
  | .hbm, ⟨58, _⟩ => ⟨S1x4096x2048, .f32⟩
  | .hbm, ⟨59, _⟩ => ⟨S1x4096x2048, .f32⟩
  | .hbm, ⟨60, _⟩ => ⟨S1x4096x2048, .f32⟩
  | .hbm, ⟨61, _⟩ => ⟨S1x4096x2048, .f32⟩
  | .hbm, ⟨62, _⟩ => ⟨S1x4096x2048, .f32⟩
  | .hbm, ⟨63, _⟩ => ⟨S1x4096x2048, .f32⟩
  | .hbm, ⟨64, _⟩ => ⟨S1x4096x2048, .f32⟩
  | .hbm, ⟨65, _⟩ => ⟨S1x4096x2048, .f32⟩
  | .hbm, ⟨66, _⟩ => ⟨S1x4096x2048, .f32⟩
  | .hbm, ⟨67, _⟩ => ⟨S1x4096x2048, .f32⟩
  | .hbm, ⟨68, _⟩ => ⟨S1x4096x2048, .f32⟩
  | .hbm, ⟨69, _⟩ => ⟨S1x4096x2048, .f32⟩
  | .hbm, ⟨70, _⟩ => ⟨S1x4096x2048, .f32⟩
  | .hbm, ⟨71, _⟩ => ⟨S1x4096x2048, .f32⟩
  | .hbm, ⟨72, _⟩ => ⟨S1x4096x2048, .f32⟩
  | .hbm, ⟨73, _⟩ => ⟨S1x4096x2048, .f32⟩
  | .hbm, ⟨74, _⟩ => ⟨S1x4096x2048, .f32⟩
  | .hbm, ⟨75, _⟩ => ⟨S1x4096x2048, .f32⟩
  | .hbm, ⟨76, _⟩ => ⟨S1x4096x2048, .f32⟩
  | .hbm, ⟨77, _⟩ => ⟨S1x4096x2048, .f32⟩
  | .hbm, ⟨78, _⟩ => ⟨S1x4096x2048, .f32⟩
  | .hbm, ⟨79, _⟩ => ⟨S1x4096x2048, .f32⟩
  | .hbm, ⟨80, _⟩ => ⟨S1x4096x2048, .f32⟩
  | .hbm, ⟨81, _⟩ => ⟨S1x4096x2048, .f32⟩
  | .hbm, ⟨82, _⟩ => ⟨S1x4096x2048, .f32⟩
  | .hbm, ⟨83, _⟩ => ⟨S1x4096x2048, .f32⟩
  | .hbm, ⟨84, _⟩ => ⟨S16x4096x2048, .f32⟩
  | .hbm, ⟨85, _⟩ => ⟨S15x4096x2048, .f32⟩
  | .hbm, ⟨86, _⟩ => ⟨S31x4096x2048, .f32⟩
  | .hbm, ⟨87, _⟩ => ⟨S31x1x2048, .f32⟩
  | .hbm, ⟨88, _⟩ => ⟨S31x4096x2048, .f32⟩
  | .hbm, ⟨89, _⟩ => ⟨S31x4096x2048, .f32⟩
  | .hbm, ⟨90, _⟩ => ⟨S_, .f32⟩
  | .hbm, ⟨91, _⟩ => ⟨S4096x2048, .f32⟩
  | .hbm, ⟨92, _⟩ => ⟨S4096x2048, .f32⟩
  | .hbm, ⟨93, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_cst_2 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩

abbrev nD : Nat := 1
abbrev τ : Topo := Topo.v7x

variable {F : FTy → Type} [FloatOps F]
-- ==== Kernel40.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference40Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel41.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v64 : BitVec 1 := Scalar.cmpi .eq arg0 c0_i32
  let v65 : BitVec 32 := Scalar.extui v64
  let c0_i32_25 : BitVec 32 := 0#32
  let v66 : BitVec 1 := Scalar.cmpi .ne v65 c0_i32_25
  v66

def k0_cond2 (i : grid0.Coords) : BitVec 1 :=
  let arg0 : BitVec 32 := BitVec.ofNat 32 (i 0).val
  let c0_i32_26 : BitVec 32 := 0#32
  let v67 : BitVec 1 := Scalar.cmpi .sgt arg0 c0_i32_26
  let v68 : BitVec 32 := Scalar.extui v67
  let c0_i32_27 : BitVec 32 := 0#32
  let v69 : BitVec 1 := Scalar.cmpi .ne v68 c0_i32_27
  v69

def k0_cond3 (i : grid0.Coords) : BitVec 1 :=
  let arg0 : BitVec 32 := BitVec.ofNat 32 (i 0).val
  let c0_i32_29 : BitVec 32 := 0#32
  let v72 : BitVec 1 := Scalar.cmpi .eq arg0 c0_i32_29
  let v73 : BitVec 32 := Scalar.extui v72
  let c0_i32_30 : BitVec 32 := 0#32
  let v74 : BitVec 1 := Scalar.cmpi .ne v73 c0_i32_30
  v74

def k0_cond4 (i : grid0.Coords) : BitVec 1 :=
  let arg0 : BitVec 32 := BitVec.ofNat 32 (i 0).val
  let c0_i32_31 : BitVec 32 := 0#32
  let v75 : BitVec 1 := Scalar.cmpi .sgt arg0 c0_i32_31
  let v76 : BitVec 32 := Scalar.extui v75
  let c0_i32_32 : BitVec 32 := 0#32
  let v77 : BitVec 1 := Scalar.cmpi .ne v76 c0_i32_32
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference41Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 95
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S_, .f32⟩
  | .hbm, ⟨56, _⟩ => ⟨S2048, .f32⟩
  | .hbm, ⟨57, _⟩ => ⟨S4096x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S2048, .f32⟩
  | .hbm, ⟨65, _⟩ => ⟨S4096x2048, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x2048, .f32⟩
  | .hbm, ⟨70, _⟩ => ⟨S4096x2048, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x2048, .f32⟩
  | .hbm, ⟨92, _⟩ => ⟨S4096x2048, .f32⟩
  | .hbm, ⟨93, _⟩ => ⟨S1x2048, .f32⟩
  | .hbm, ⟨94, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== Kernel42.lean ====
abbrev S32x4096x64 : Shape := ⟨3, ![32, 4096, 64]⟩
abbrev S64 : Shape := ⟨1, ![64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S64x1 : Shape := ⟨2, ![64, 1]⟩
abbrev S1x64 : Shape := ⟨2, ![1, 64]⟩
abbrev S64x64 : Shape := ⟨2, ![64, 64]⟩
abbrev S1x4096x64 : Shape := ⟨3, ![1, 4096, 64]⟩

abbrev nBuf : Space → Nat
  | .hbm => 55
  | .vmem => 8
  | .smem => 0
  | _ => 0

abbrev bufTy : (tb : Table) → Fin (tcTables nBuf tb) → BufTy
  | .hbm, ⟨0, _⟩ => ⟨S32x4096x64, .f32⟩
  | .hbm, ⟨1, _⟩ => ⟨S64, .f32⟩
  | .hbm, ⟨2, _⟩ => ⟨S4096, .i32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S_, .f32⟩
  | .hbm, ⟨26, _⟩ => ⟨S4096x48, .f32⟩
  | .hbm, ⟨27, _⟩ => ⟨S4096x64, .f32⟩
  | .hbm, ⟨28, _⟩ => ⟨S4096x8, .f32⟩
  | .hbm, ⟨29, _⟩ => ⟨S_, .f32⟩
  | .hbm, ⟨30, _⟩ => ⟨S4096x48, .f32⟩
  | .hbm, ⟨31, _⟩ => ⟨S4096x64, .f32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S_, .i32⟩
  | .hbm, ⟨40, _⟩ => ⟨S64, .i32⟩
  | .hbm, ⟨41, _⟩ => ⟨S64, .i1⟩
  | .hbm, ⟨42, _⟩ => ⟨S_, .i32⟩
  | .hbm, ⟨43, _⟩ => ⟨S64, .i32⟩
  | .hbm, ⟨44, _⟩ => ⟨S64, .i32⟩
  | .hbm, ⟨45, _⟩ => ⟨S64, .i32⟩
  | .hbm, ⟨46, _⟩ => ⟨S64, .i32⟩
  | .hbm, ⟨47, _⟩ => ⟨S64x1, .i32⟩
  | .hbm, ⟨48, _⟩ => ⟨S1x64, .i32⟩
  | .hbm, ⟨49, _⟩ => ⟨S64x64, .i32⟩
  | .hbm, ⟨50, _⟩ => ⟨S64x64, .i32⟩
  | .hbm, ⟨51, _⟩ => ⟨S64x64, .i1⟩
  | .hbm, ⟨52, _⟩ => ⟨S64x64, .f32⟩
  | .hbm, ⟨53, _⟩ => ⟨S1x64, .f32⟩
  | .hbm, ⟨54, _⟩ => ⟨S32x4096x64, .bf16⟩
  | .local _ .vmem, ⟨0, _⟩ => ⟨S1x4096x64, .f32⟩
  | .local _ .vmem, ⟨1, _⟩ => ⟨S1x4096x64, .f32⟩
  | .local _ .vmem, ⟨2, _⟩ => ⟨S1x64, .f32⟩
  | .local _ .vmem, ⟨3, _⟩ => ⟨S4096x64, .f32⟩
  | .local _ .vmem, ⟨4, _⟩ => ⟨S4096x64, .f32⟩
  | .local _ .vmem, ⟨5, _⟩ => ⟨S64x64, .f32⟩
  | .local _ .vmem, ⟨6, _⟩ => ⟨S1x4096x64, .bf16⟩
  | .local _ .vmem, ⟨7, _⟩ => ⟨S1x4096x64, .bf16⟩
  | _, _ => ⟨S32x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference42Ideal.lean ====
abbrev S32x4096x64 : Shape := ⟨3, ![32, 4096, 64]⟩
abbrev S64 : Shape := ⟨1, ![64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S32x4096 : Shape := ⟨2, ![32, 4096]⟩
abbrev S32x4096x1 : Shape := ⟨3, ![32, 4096, 1]⟩
abbrev S1x1x64 : Shape := ⟨3, ![1, 1, 64]⟩
abbrev S32x4096x8 : Shape := ⟨3, ![32, 4096, 8]⟩
abbrev S1x4096x8 : Shape := ⟨3, ![1, 4096, 8]⟩
abbrev S32x4096x48 : Shape := ⟨3, ![32, 4096, 48]⟩

abbrev nBuf : Space → Nat
  | .hbm => 63
  | .vmem => 0
  | .smem => 0
  | _ => 0

abbrev bufTy : (tb : Table) → Fin (tcTables nBuf tb) → BufTy
  | .hbm, ⟨0, _⟩ => ⟨S32x4096x64, .f32⟩
  | .hbm, ⟨1, _⟩ => ⟨S64, .f32⟩
  | .hbm, ⟨2, _⟩ => ⟨S4096, .i32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S32x4096x64, .f32⟩
  | .hbm, ⟨24, _⟩ => ⟨S_, .f32⟩
  | .hbm, ⟨25, _⟩ => ⟨S32x4096, .f32⟩
  | .hbm, ⟨26, _⟩ => ⟨S32x4096x1, .f32⟩
  | .hbm, ⟨27, _⟩ => ⟨S_, .f32⟩
  | .hbm, ⟨28, _⟩ => ⟨S32x4096x1, .f32⟩
  | .hbm, ⟨29, _⟩ => ⟨S32x4096x1, .f32⟩
  | .hbm, ⟨30, _⟩ => ⟨S_, .f32⟩
  | .hbm, ⟨31, _⟩ => ⟨S32x4096x1, .f32⟩
  | .hbm, ⟨32, _⟩ => ⟨S32x4096x1, .f32⟩
  | .hbm, ⟨33, _⟩ => ⟨S32x4096x1, .f32⟩
  | .hbm, ⟨34, _⟩ => ⟨S32x4096x64, .f32⟩
  | .hbm, ⟨35, _⟩ => ⟨S32x4096x64, .f32⟩
  | .hbm, ⟨36, _⟩ => ⟨S1x1x64, .f32⟩
  | .hbm, ⟨37, _⟩ => ⟨S32x4096x64, .f32⟩
  | .hbm, ⟨38, _⟩ => ⟨S32x4096x64, .f32⟩
  | .hbm, ⟨39, _⟩ => ⟨S4096x8, .f32⟩
  | .hbm, ⟨40, _⟩ => ⟨S4096x8, .f32⟩
  | .hbm, ⟨41, _⟩ => ⟨S32x4096x8, .f32⟩
  | .hbm, ⟨42, _⟩ => ⟨S32x4096x8, .f32⟩
  | .hbm, ⟨43, _⟩ => ⟨S1x4096x8, .f32⟩
  | .hbm, ⟨44, _⟩ => ⟨S32x4096x8, .f32⟩
  | .hbm, ⟨45, _⟩ => ⟨S32x4096x8, .f32⟩
  | .hbm, ⟨46, _⟩ => ⟨S1x4096x8, .f32⟩
  | .hbm, ⟨47, _⟩ => ⟨S32x4096x8, .f32⟩
  | .hbm, ⟨48, _⟩ => ⟨S32x4096x8, .f32⟩
  | .hbm, ⟨49, _⟩ => ⟨S32x4096x8, .f32⟩
  | .hbm, ⟨50, _⟩ => ⟨S1x4096x8, .f32⟩
  | .hbm, ⟨51, _⟩ => ⟨S32x4096x8, .f32⟩
  | .hbm, ⟨52, _⟩ => ⟨S32x4096x8, .f32⟩
  | .hbm, ⟨53, _⟩ => ⟨S1x4096x8, .f32⟩
  | .hbm, ⟨54, _⟩ => ⟨S32x4096x8, .f32⟩
  | .hbm, ⟨55, _⟩ => ⟨S32x4096x8, .f32⟩
  | .hbm, ⟨56, _⟩ => ⟨S32x4096x8, .f32⟩
  | .hbm, ⟨57, _⟩ => ⟨S32x4096x48, .f32⟩
  | .hbm, ⟨58, _⟩ => ⟨S32x4096x64, .f32⟩
  | .hbm, ⟨59, _⟩ => ⟨S_, .f32⟩
  | .hbm, ⟨60, _⟩ => ⟨S32x4096x64, .f32⟩
  | .hbm, ⟨61, _⟩ => ⟨S32x4096x64, .f32⟩
  | .hbm, ⟨62, _⟩ => ⟨S32x4096x64, .bf16⟩
  | _, _ => ⟨S32x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Kernel43.lean ====
abbrev S32x4096x64 : Shape := ⟨3, ![32, 4096, 64]⟩
abbrev S4x4096x64 : Shape := ⟨3, ![4, 4096, 64]⟩
abbrev S32 : Shape := ⟨1, ![32]⟩
abbrev S8x128x64 : Shape := ⟨3, ![8, 128, 64]⟩
abbrev S1x128x64 : Shape := ⟨3, ![1, 128, 64]⟩
abbrev S128x64 : Shape := ⟨2, ![128, 64]⟩
abbrev S256x64 : Shape := ⟨2, ![256, 64]⟩
abbrev S128x256 : Shape := ⟨2, ![128, 256]⟩
abbrev S1 : Shape := ⟨1, ![1]⟩
abbrev S128 : Shape := ⟨1, ![128]⟩
abbrev S128x1 : Shape := ⟨2, ![128, 1]⟩

abbrev nBuf : Space → Nat
  | .hbm => 8
  | .vmem => 12
  | .smem => 1
  | _ => 0

abbrev bufTy : (tb : Table) → Fin (tcTables nBuf tb) → BufTy
  | .hbm, ⟨0, _⟩ => ⟨S32x4096x64, .f32⟩
  | .hbm, ⟨1, _⟩ => ⟨S4x4096x64, .f32⟩
  | .hbm, ⟨2, _⟩ => ⟨S4x4096x64, .f32⟩
  | .hbm, ⟨3, _⟩ => ⟨S32, .f32⟩
  | .hbm, ⟨4, _⟩ => ⟨S32x4096x64, .bf16⟩
  | .hbm, ⟨5, _⟩ => ⟨S4x4096x64, .bf16⟩
  | .hbm, ⟨6, _⟩ => ⟨S4x4096x64, .bf16⟩
  | .hbm, ⟨7, _⟩ => ⟨S32x4096x64, .bf16⟩
  | .local _ .vmem, ⟨0, _⟩ => ⟨S8x128x64, .bf16⟩
  | .local _ .vmem, ⟨1, _⟩ => ⟨S8x128x64, .bf16⟩
  | .local _ .vmem, ⟨2, _⟩ => ⟨S1x128x64, .bf16⟩
  | .local _ .vmem, ⟨3, _⟩ => ⟨S1x128x64, .bf16⟩
  | .local _ .vmem, ⟨4, _⟩ => ⟨S1x128x64, .bf16⟩
  | .local _ .vmem, ⟨5, _⟩ => ⟨S1x128x64, .bf16⟩
  | .local _ .vmem, ⟨6, _⟩ => ⟨S1x128x64, .bf16⟩
  | .local _ .vmem, ⟨7, _⟩ => ⟨S1x128x64, .bf16⟩
  | .local _ .vmem, ⟨8, _⟩ => ⟨S1x128x64, .bf16⟩
  | .local _ .vmem, ⟨9, _⟩ => ⟨S1x128x64, .bf16⟩
  | .local _ .vmem, ⟨10, _⟩ => ⟨S8x128x64, .bf16⟩
  | .local _ .vmem, ⟨11, _⟩ => ⟨S8x128x64, .bf16⟩
  | .local _ .smem, ⟨0, _⟩ => ⟨S32, .f32⟩
  | _, _ => ⟨S32x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 32], ![false, false]⟩

def k0_off1 (i : grid0.Coords) (c0_i32_16 : BitVec 32) : Fin 1 → Nat :=
  let arg0 : BitVec 32 := BitVec.ofNat 32 (i 0).val
  let c8_i32 : BitVec 32 := 8#32
  let v30 : BitVec 32 := Scalar.muli arg0 c8_i32
  let v31 : BitVec 32 := Scalar.addi v30 c0_i32_16
  let v32 : Index := Scalar.indexCast v31
  ![v32.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel43Ideal.lean ====
variable {F : FTy → Type} [FloatOps F] [Named F]
def κ : String → Option EReal := fun
  | "mask" => some ⊥
  | _ => none
-- ==== Reference43Ideal.lean ====
abbrev S32x4096x64 : Shape := ⟨3, ![32, 4096, 64]⟩
abbrev S4x4096x64 : Shape := ⟨3, ![4, 4096, 64]⟩
abbrev S32 : Shape := ⟨1, ![32]⟩
abbrev S4x8x32x128x64 : Shape := ⟨5, ![4, 8, 32, 128, 64]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x8x1x1x1 : Shape := ⟨5, ![4, 8, 1, 1, 1]⟩
abbrev S4x32x128x64 : Shape := ⟨4, ![4, 32, 128, 64]⟩
abbrev S4x1x128x64 : Shape := ⟨4, ![4, 1, 128, 64]⟩
abbrev S4x31x128x64 : Shape := ⟨4, ![4, 31, 128, 64]⟩
abbrev S4x32x256x64 : Shape := ⟨4, ![4, 32, 256, 64]⟩
abbrev S4x32x256x8x128 : Shape := ⟨5, ![4, 32, 256, 8, 128]⟩
abbrev S4x8x32x128x256 : Shape := ⟨5, ![4, 8, 32, 128, 256]⟩
abbrev S4x8x32x128 : Shape := ⟨4, ![4, 8, 32, 128]⟩
abbrev S4x8x32x128x1 : Shape := ⟨5, ![4, 8, 32, 128, 1]⟩
abbrev S4x32x64x8x128 : Shape := ⟨5, ![4, 32, 64, 8, 128]⟩

abbrev nBuf : Space → Nat
  | .hbm => 85
  | .vmem => 0
  | .smem => 0
  | _ => 0

abbrev bufTy : (tb : Table) → Fin (tcTables nBuf tb) → BufTy
  | .hbm, ⟨0, _⟩ => ⟨S32x4096x64, .f32⟩
  | .hbm, ⟨1, _⟩ => ⟨S4x4096x64, .f32⟩
  | .hbm, ⟨2, _⟩ => ⟨S4x4096x64, .f32⟩
  | .hbm, ⟨3, _⟩ => ⟨S32, .f32⟩
  | .hbm, ⟨4, _⟩ => ⟨S4x8x32x128x64, .f32⟩
  | .hbm, ⟨5, _⟩ => ⟨S128, .i32⟩
  | .hbm, ⟨6, _⟩ => ⟨S128x1, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S256, .i32⟩
  | .hbm, ⟨11, _⟩ => ⟨S1x256, .i32⟩
  | .hbm, ⟨12, _⟩ => ⟨S128x256, .i32⟩
  | .hbm, ⟨13, _⟩ => ⟨S128x256, .i32⟩
  | .hbm, ⟨14, _⟩ => ⟨S128x256, .i32⟩
  | .hbm, ⟨15, _⟩ => ⟨S32, .i32⟩
  | .hbm, ⟨16, _⟩ => ⟨S32x1x1, .i32⟩
  | .hbm, ⟨17, _⟩ => ⟨S_, .i32⟩
  | .hbm, ⟨18, _⟩ => ⟨S32x1x1, .i32⟩
  | .hbm, ⟨19, _⟩ => ⟨S32x1x1, .i32⟩
  | .hbm, ⟨20, _⟩ => ⟨S256, .i32⟩
  | .hbm, ⟨21, _⟩ => ⟨S1x1x256, .i32⟩
  | .hbm, ⟨22, _⟩ => ⟨S32x1x256, .i32⟩
  | .hbm, ⟨23, _⟩ => ⟨S32x1x256, .i32⟩
  | .hbm, ⟨24, _⟩ => ⟨S32x1x256, .i32⟩
  | .hbm, ⟨25, _⟩ => ⟨S_, .i32⟩
  | .hbm, ⟨26, _⟩ => ⟨S32x1x256, .i32⟩
  | .hbm, ⟨27, _⟩ => ⟨S32x1x256, .i32⟩
  | .hbm, ⟨28, _⟩ => ⟨S_, .i32⟩
  | .hbm, ⟨29, _⟩ => ⟨S32x1x256, .i32⟩
  | .hbm, ⟨30, _⟩ => ⟨S32x1x256, .i1⟩
  | .hbm, ⟨31, _⟩ => ⟨S_, .i32⟩
  | .hbm, ⟨32, _⟩ => ⟨S128x256, .i32⟩
  | .hbm, ⟨33, _⟩ => ⟨S128x256, .i1⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S128x256, .i1⟩
  | .hbm, ⟨38, _⟩ => ⟨S1x128x256, .i1⟩
  | .hbm, ⟨39, _⟩ => ⟨S32x128x256, .i1⟩
  | .hbm, ⟨40, _⟩ => ⟨S32x128x256, .i1⟩
  | .hbm, ⟨41, _⟩ => ⟨S32x128x256, .i1⟩
  | .hbm, ⟨42, _⟩ => ⟨S4x8x1x1x1, .f32⟩
  | .hbm, ⟨43, _⟩ => ⟨S4x32x128x64, .f32⟩
  | .hbm, ⟨44, _⟩ => ⟨S4x1x128x64, .f32⟩
  | .hbm, ⟨45, _⟩ => ⟨S_, .f32⟩
  | .hbm, ⟨46, _⟩ => ⟨S4x1x128x64, .f32⟩
  | .hbm, ⟨47, _⟩ => ⟨S4x31x128x64, .f32⟩
  | .hbm, ⟨48, _⟩ => ⟨S4x32x128x64, .f32⟩
  | .hbm, ⟨49, _⟩ => ⟨S4x32x256x64, .f32⟩
  | .hbm, ⟨50, _⟩ => ⟨S4x32x256x8x128, .f32⟩
  | .hbm, ⟨51, _⟩ => ⟨S4x8x32x128x256, .f32⟩
  | .hbm, ⟨52, _⟩ => ⟨S_, .f32⟩
  | .hbm, ⟨53, _⟩ => ⟨S_, .f32⟩
  | .hbm, ⟨54, _⟩ => ⟨S4x8x32x128x256, .i1⟩
  | .hbm, ⟨55, _⟩ => ⟨S4x8x32x128x256, .f32⟩
  | .hbm, ⟨56, _⟩ => ⟨S4x8x32x128x256, .f32⟩
  | .hbm, ⟨57, _⟩ => ⟨S_, .f32⟩
  | .hbm, ⟨58, _⟩ => ⟨S4x8x32x128, .f32⟩
  | .hbm, ⟨59, _⟩ => ⟨S4x8x32x128x1, .f32⟩
  | .hbm, ⟨60, _⟩ => ⟨S4x8x32x128x1, .f32⟩
  | .hbm, ⟨61, _⟩ => ⟨S4x8x32x128x1, .f32⟩
  | .hbm, ⟨62, _⟩ => ⟨S4x8x32x128x256, .f32⟩
  | .hbm, ⟨63, _⟩ => ⟨S4x8x32x128x256, .f32⟩
  | .hbm, ⟨64, _⟩ => ⟨S4x8x32x128x256, .f32⟩
  | .hbm, ⟨65, _⟩ => ⟨S_, .f32⟩
  | .hbm, ⟨66, _⟩ => ⟨S4x8x32x128, .f32⟩
  | .hbm, ⟨67, _⟩ => ⟨S4x8x32x128x1, .f32⟩
  | .hbm, ⟨68, _⟩ => ⟨S4x8x32x128x1, .f32⟩
  | .hbm, ⟨69, _⟩ => ⟨S4x8x32x128x1, .f32⟩
  | .hbm, ⟨70, _⟩ => ⟨S4x8x32x128x1, .f32⟩
  | .hbm, ⟨71, _⟩ => ⟨S4x8x32x128x1, .f32⟩
  | .hbm, ⟨72, _⟩ => ⟨S4x32x128x64, .f32⟩
  | .hbm, ⟨73, _⟩ => ⟨S4x1x128x64, .f32⟩
  | .hbm, ⟨74, _⟩ => ⟨S_, .f32⟩
  | .hbm, ⟨75, _⟩ => ⟨S4x1x128x64, .f32⟩
  | .hbm, ⟨76, _⟩ => ⟨S4x31x128x64, .f32⟩
  | .hbm, ⟨77, _⟩ => ⟨S4x32x128x64, .f32⟩
  | .hbm, ⟨78, _⟩ => ⟨S4x32x256x64, .f32⟩
  | .hbm, ⟨79, _⟩ => ⟨S4x32x64x8x128, .f32⟩
  | .hbm, ⟨80, _⟩ => ⟨S4x8x32x128x64, .f32⟩
  | .hbm, ⟨81, _⟩ => ⟨S4x8x32x128x64, .f32⟩
  | .hbm, ⟨82, _⟩ => ⟨S4x8x32x128x64, .f32⟩
  | .hbm, ⟨83, _⟩ => ⟨S32x4096x64, .f32⟩
  | .hbm, ⟨84, _⟩ => ⟨S32x4096x64, .bf16⟩
  | _, _ => ⟨S32x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Proof.GluTrip.lean ====
module
public import proofs.«01_k».proof.Proof.Gen.KernelIdeal.Loops
public import Idealize.ShloMosaic.Lib.WritesUnit
public import Idealize.ShloMosaic.Lib.Ring
public import Idealize.ShloMosaic.Lib.VecWindow
public import Idealize.ShloMosaic.Lib.Pipeline.ValueKit
@[expose] public section
set_option maxRecDepth 16384
noncomputable section
set_option maxHeartbeats 4000000

/-! # One trip of the gated depthwise convolution's backward loop, read at an index -/

namespace Cert.KernelIdeal.GluBwd

open Idealize.ShloMosaic TcCoe Tactic
open Cert.KernelIdeal.Gen

/-! ## One column of the operands, as functions of the row -/

/-- Row `n` of column `c` of half `h` of the two-part input; zero beyond the last row. -/
def half (x : Vec Ideal S2x4096x128 .bf16) (h : Fin 2) (c : Fin 128) (n : ℕ) : EReal :=
  if hn : n < 4096 then x (ix3 h ⟨n, hn⟩ c) else 0

/-- Row `n` of column `c` of the cotangent; zero beyond the last row. -/
def ctg (x : Vec Ideal S4096x128 .f32) (c : Fin 128) (n : ℕ) : EReal :=
  if hn : n < 4096 then x (ix2 ⟨n, hn⟩ c) else 0

/-- Tap `j` of column `c`; zero beyond the last tap. -/
def tap (x : Vec Ideal S31x128 .f32) (c : Fin 128) (j : ℕ) : EReal :=
  if hj : j < 31 then x (ix2 ⟨j, hj⟩ c) else 0

/-- A column read 32 rows late, with zeros before its first row. -/
def late (a : ℕ → EReal) (n : ℕ) : EReal := if n < 32 then 0 else a (n - 32)

/-- The logistic function as the kernel writes it. -/
def sgm (x : EReal) : EReal := Ideal.div 1 (1 + Ideal.exp (0 - x))

theorem off1_eq : ∀ k : Fin k0_t1_loop.trips, k0_off1 k = ![0, 256 * k.val - 32, 0] := by decide +kernel
theorem off2_eq : ∀ k : Fin k0_t1_loop.trips, k0_off2 k = ![0, 256 * k.val, 0] := by decide +kernel
theorem off3_eq : ∀ k : Fin k0_t1_loop.trips, k0_off3 k = ![1, 256 * k.val - 32, 0] := by decide +kernel
theorem off4_eq : ∀ k : Fin k0_t1_loop.trips, k0_off4 k = ![1, 256 * k.val, 0] := by decide +kernel
theorem off5_eq : ∀ k : Fin k0_t1_loop.trips, k0_off5 k = ![256 * k.val, 0] := by decide +kernel
theorem off6_eq : ∀ k : Fin k0_t1_loop.trips, k0_off6 k = ![min (256 * k.val + 256) 4064, 0] := by decide +kernel
theorem trips_lt (k : Fin k0_t1_loop.trips) : k.val < 16 := Nat.lt_of_lt_of_le k.isLt k0_t1_abs.2.1

/-- The first trip's test, as a bit. -/
theorem first_eq : ∀ k : Fin k0_t1_loop.trips, Scalar.cmpi .eq (Scf.iv 0#32 1#32 k) 0#32 = if k.val = 0 then 1#1 else 0#1 := by
  decide +kernel

variable (arg1 : Memref sig .tc .vmem S2x4096x128 .bf16) (arg2 : Memref sig .tc .vmem S4096x128 .f32)
  (arg3 : Memref sig .tc .vmem S31x128 .f32)
  (X1 : BufTy.Contents (Elt Ideal) arg1.view.ty) (X2 : BufTy.Contents (Elt Ideal) arg2.view.ty)
  (X3 : BufTy.Contents (Elt Ideal) arg3.view.ty) (k : Fin k0_t1_loop.trips)

/-- A load of rows `o, o + 1, …` of half `h` of the first input, read at an index. -/
theorem load1 {n : ℕ} {off : Fin 3 → ℕ} (h : Fin 2) (o : ℕ) (ho : off = ![h.val, o, 0])
    (inb : ∀ a, off a + (![1, n, 128] : Fin 3 → ℕ) a ≤ S2x4096x128.size a) (r : Fin n) (c : Fin 128) :
    View.readAt (Elt Ideal) arg1.view (Rect.unit (s := S2x4096x128) off ![1, n, 128] inb).toLoadRect X1 (ix3 0 r c)
      = half (arg1.view.read (Elt Ideal) X1) h c (o + r.val) := by
  subst ho
  have hr : o + n ≤ 4096 := inb 1
  unfold half
  rw [dif_pos (show o + r.val < 4096 by have := r.isLt; omega)]
  refine congrArg (arg1.view.read (Elt Ideal) X1) (funext fun a => Fin.ext ?_)
  have h0 : (ix3 (0 : Fin 1) r c 0).val = 0 := rfl
  match a with
  | 0 => show h.val + 1 * 0 = h.val; omega
  | 1 => show o + 1 * r.val = o + r.val; omega
  | 2 => show 0 + 1 * c.val = c.val; omega

/-- A load of rows `o, o + 1, …` of the cotangent, read at an index. -/
theorem load2 {n : ℕ} {off : Fin 2 → ℕ} (o : ℕ) (ho : off = ![o, 0])
    (inb : ∀ a, off a + (![n, 128] : Fin 2 → ℕ) a ≤ S4096x128.size a) (r : Fin n) (c : Fin 128) :
    View.readAt (Elt Ideal) arg2.view (Rect.unit (s := S4096x128) off ![n, 128] inb).toLoadRect X2 (ix2 r c)
      = ctg (arg2.view.read (Elt Ideal) X2) c (o + r.val) := by
  subst ho
  have hr : o + n ≤ 4096 := inb 0
  unfold ctg
  rw [dif_pos (show o + r.val < 4096 by have := r.isLt; omega)]
  refine congrArg (arg2.view.read (Elt Ideal) X2) (funext fun a => Fin.ext ?_)
  match a with
  | 0 => show o + 1 * r.val = o + r.val; omega
  | 1 => show 0 + 1 * c.val = c.val; omega

/-- A load of one tap, read at a column. -/
theorem load3 (j : ℕ) (inb : ∀ a, (![j, 0] : Fin 2 → ℕ) a + (![1, 128] : Fin 2 → ℕ) a ≤ S31x128.size a) (c : Fin 128) :
    View.readAt (Elt Ideal) arg3.view (Rect.unit (s := S31x128) ![j, 0] ![1, 128] inb).toLoadRect X3 (ix2 0 c)
      = tap (arg3.view.read (Elt Ideal) X3) c j := by
  have hr : j + 1 ≤ 31 := inb 0
  unfold tap
  rw [dif_pos (show j < 31 by omega)]
  refine congrArg (arg3.view.read (Elt Ideal) X3) (funext fun a => Fin.ext ?_)
  match a with
  | 0 => show j + 1 * 0 = j; omega
  | 1 => show 0 + 1 * c.val = c.val; omega

theorem late_halo (n : ℕ) (hn : n < 32) (f : ℕ → EReal) :
    Scalar.select (Scalar.cmpi .eq (Scf.iv 0#32 1#32 k) 0#32) 0 (f (256 * k.val - 32 + n)) = late f (256 * k.val + n) := by
  rw [first_eq]
  have := trips_lt k
  unfold late
  by_cases h0 : k.val = 0
  · rw [if_pos h0, if_pos (by omega)]; rfl
  · rw [if_neg h0, if_neg (by omega), show 256 * k.val + n - 32 = 256 * k.val - 32 + n by omega]; rfl

theorem late_own (n : ℕ) (hn : ¬ n < 32) (f : ℕ → EReal) : f (256 * k.val + (n - 32)) = late f (256 * k.val + n) := by
  unfold late
  rw [if_neg (by omega), show 256 * k.val + n - 32 = 256 * k.val + (n - 32) by omega]

/-- The value half with its halo. -/
theorem r_apply (r : Fin 288) (c : Fin 128) :
    trip_k0_t1.sl.r (F := Ideal) arg1 X1 k (ix2 r c) = late (half (arg1.view.read (Elt Ideal) X1) 0 c) (256 * k.val + r.val) := by
  unfold trip_k0_t1.sl.r k0_pay3
  pointwise
  split
  · next h =>
    rw [load1 arg1 X1 0 _ (off1_eq k)]
    exact late_halo k _ h _
  · next h =>
    rw [load1 arg1 X1 0 _ (off2_eq k)]
    exact late_own k _ h _

/-- The exponential of the negated gate half with its halo. -/
theorem r1_apply (r : Fin 288) (c : Fin 128) :
    trip_k0_t1.sl.r_1 (F := Ideal) arg1 X1 k (ix2 r c) = Ideal.exp (0 - late (half (arg1.view.read (Elt Ideal) X1) 1 c) (256 * k.val + r.val)) := by
  unfold trip_k0_t1.sl.r_1 k0_pay4
  pointwise
  refine congrArg (fun x => Ideal.exp (0 - x)) ?_
  split
  · next h =>
    rw [load1 arg1 X1 1 _ (off3_eq k)]
    exact late_halo k _ h _
  · next h =>
    rw [load1 arg1 X1 1 _ (off4_eq k)]
    exact late_own k _ h _

/-- The last trip's test, as a bit. -/
theorem last_eq : ∀ k : Fin k0_t1_loop.trips, trip_k0_t1.sl.v186 k = if k.val = 15 then 1#1 else 0#1 := by
  unfold trip_k0_t1.sl.v186
  sl_unfold_words
  decide +kernel

/-- The cotangent with its halo. -/
theorem r4_apply (r : Fin 288) (c : Fin 128) :
    trip_k0_t1.sl.r_4 (F := Ideal) arg2 X2 k (ix2 r c) = ctg (arg2.view.read (Elt Ideal) X2) c (256 * k.val + r.val) := by
  unfold trip_k0_t1.sl.r_4 k0_pay8
  pointwise
  have hk := trips_lt k
  have hi : r.val < 288 := r.isLt
  split
  · rw [load2 arg2 X2 _ (off5_eq k)]
  · next h =>
    rw [load2 arg2 X2 _ (off6_eq k), last_eq]
    by_cases h0 : k.val = 15
    · rw [if_pos h0]; unfold ctg; rw [dif_neg (show ¬ 256 * k.val + r.val < 4096 by omega)]; rfl
    · rw [if_neg h0]
      show ctg _ _ (min (256 * k.val + 256) 4064 + (r.val - 256)) = _
      congr 1; omega

/-- The logistic function of the gate half, with its halo. -/
theorem r2_apply (r : Fin 288) (c : Fin 128) :
    trip_k0_t1.sl.r_2 (F := Ideal) arg1 X1 k (ix2 r c) = sgm (late (half (arg1.view.read (Elt Ideal) X1) 1 c) (256 * k.val + r.val)) := by
  unfold trip_k0_t1.sl.r_2 k0_pay6 k0_pay5 sgm
  pointwise
  rw [r1_apply]

/-- The gated value with its halo. -/
theorem r3_apply (r : Fin 288) (c : Fin 128) :
    trip_k0_t1.sl.r_3 (F := Ideal) arg1 X1 k (ix2 r c)
      = late (half (arg1.view.read (Elt Ideal) X1) 0 c) (256 * k.val + r.val)
        * sgm (late (half (arg1.view.read (Elt Ideal) X1) 1 c) (256 * k.val + r.val)) := by
  unfold trip_k0_t1.sl.r_3 k0_pay7 k0_pay6 k0_pay5 sgm
  pointwise
  rw [r1_apply, r_apply]

/-- The chunk's own rows of the cotangent. -/
theorem r5_apply (r : Fin 256) (c : Fin 128) :
    trip_k0_t1.sl.r_5 (F := Ideal) arg2 X2 k (ix2 r c) = ctg (arg2.view.read (Elt Ideal) X2) c (256 * k.val + r.val) := by
  have h := r4_apply arg2 X2 k ⟨r.val, by omega⟩ c
  unfold trip_k0_t1.sl.r_4 at h
  unfold trip_k0_t1.sl.r_5 k0_pay9
  pointwise
  exact h

/-- The first two terms of the sum over the taps: tap 30 at the own row, tap 0 at thirty rows later. -/
theorem r6_apply (r : Fin 256) (c : Fin 128) :
    trip_k0_t1.sl.r_6 (F := Ideal) arg2 arg3 X2 X3 k (ix2 r c)
      = tap (arg3.view.read (Elt Ideal) X3) c 30 * ctg (arg2.view.read (Elt Ideal) X2) c (256 * k.val + r.val)
        + tap (arg3.view.read (Elt Ideal) X3) c 0 * ctg (arg2.view.read (Elt Ideal) X2) c (256 * k.val + r.val + 30) := by
  have h := r4_apply arg2 X2 k
  unfold trip_k0_t1.sl.r_4 at h
  unfold trip_k0_t1.sl.r_6 k0_pay11 k0_pay9
  pointwise
  rw [h, h, load3, load3]
  congr 3
  show _ + (r.val + 288 - 258) % 288 = _
  omega

/-- The gradient reaching the gated value: each tap times the cotangent that many rows later. -/
theorem r36_apply (r : Fin 256) (c : Fin 128) :
    trip_k0_t1.sl.r_36 (F := Ideal) arg2 arg3 X2 X3 k (ix2 r c)
      = ∑ j ∈ Finset.range 31, tap (arg3.view.read (Elt Ideal) X3) c j * ctg (arg2.view.read (Elt Ideal) X2) c (256 * k.val + r.val + (30 - j)) := by
  simp only [trip_k0_t1.sl.r_8, trip_k0_t1.sl.r_11, trip_k0_t1.sl.r_14, trip_k0_t1.sl.r_17, trip_k0_t1.sl.r_19, trip_k0_t1.sl.r_21, trip_k0_t1.sl.r_23, trip_k0_t1.sl.r_25, trip_k0_t1.sl.r_26, trip_k0_t1.sl.r_27, trip_k0_t1.sl.r_28, trip_k0_t1.sl.r_29, trip_k0_t1.sl.r_31, trip_k0_t1.sl.r_32, trip_k0_t1.sl.r_33, trip_k0_t1.sl.r_30, trip_k0_t1.sl.r_34, trip_k0_t1.sl.r_35, trip_k0_t1.sl.r_36]
  simp only [k0_pay15, k0_pay20, k0_pay25, k0_pay30, k0_pay34, k0_pay38, k0_pay42, k0_pay45, k0_pay48, k0_pay51, k0_pay55, k0_pay53, k0_pay57, k0_pay58, k0_pay61, k0_pay64, k0_pay67]
  pointwise
  simp only [r4_apply, r6_apply, load3]
  have e : ∀ q, (258 ≤ q ∧ q < 288) → (r.val + 288 - q) % 288 = r.val + (288 - q) := fun q h => by omega
  simp (disch := decide) only [e, Nat.reduceSub, ← Nat.add_assoc]
  rw [Finset.sum_range_succ, add_comm (Finset.sum _ _)]
  simp only [Finset.sum_range_succ, Finset.sum_range_zero, zero_add, Nat.reduceSub, Nat.add_zero, Nat.sub_zero, Nat.sub_self, ← add_assoc]

/-- What a trip adds to slot `j`, sublane `s` of the tap accumulators: the chunk's rows congruent to `s` modulo eight,
    the cotangent there times the gated value `30 - j` rows before. -/
def step8 (x1 : Vec Ideal S2x4096x128 .bf16) (x2 : Vec Ideal S4096x128 .f32) (k : ℕ) (j s : ℕ) (c : Fin 128) : EReal :=
  ∑ q : Fin 32, ctg x2 c (256 * k + (q.val * 8 + s))
    * (late (half x1 0 c) (256 * k + (q.val * 8 + s) + j + 2) * sgm (late (half x1 1 c) (256 * k + (q.val * 8 + s) + j + 2)))

variable (𝒱 : Variants) (cd : Dev nD) (bd : Option 𝒱.V) (i : grid0.Coords)
 (harg1 : arg1.IsWhole) (harg2 : arg2.IsWhole) (harg3 : arg3.IsWhole) (arg4 : Memref sig .tc .vmem S2x4096x128 .bf16) (harg4 : arg4.IsWhole) (arg5 : Memref sig .tc .vmem S31x128 .f32) (harg5 : arg5.IsWhole) (arg6 : Memref sig .tc .vmem S1x128 .f32) (harg6 : arg6.IsWhole) (arg7 : Memref sig .tc .vmem S2x1x128 .f32) (harg7 : arg7.IsWhole) (arg8 : Memref sig .tc .vmem S31x8x128 .f32) (harg8 : arg8.IsWhole) (arg9 : Memref sig .tc .vmem S3x8x128 .f32) (harg9 : arg9.IsWhole)
 (f4 : BufTy.Contents (Elt Ideal) arg4.view.ty) (f8 : BufTy.Contents (Elt Ideal) arg8.view.ty) (f9 : BufTy.Contents (Elt Ideal) arg9.view.ty)

/-- A read after covering stores is what every store holding the index has there. -/
theorem read_of_allAt {sp : Space} {s : Shape} {e : EltTy} (v : View sig .tc sp s e) (f : v.ty.Contents (Elt Ideal)) (L : List (View.Piece (Elt Ideal) s e))
    (y : s.Idx) (x : Elt Ideal e) (hc : ∃ p ∈ L, y ∈ p.1.set) (h : View.AllAt L y x) :
    v.read (Elt Ideal) (v.writes (Elt Ideal) f L) y = x :=
  (View.read_writes_apply_eq_canon v f y L hc).trans (View.canon_eq_of_allAt L y x hc h)

/-- A stored slot, by its number. -/
theorem tile8 (j : Fin 31) (s : Fin 8) (c : Fin 128) (n : ℕ) (w : S1x8x128.Idx → EReal) (v : EReal)
    (H : j.val = n → w (ix3 0 s c) = v) :
    View.TileAt (S := S31x8x128) (e := .f32) (Val := Elt Ideal) (ix3 j s c) ![n, 0, 0] ![1, 8, 128] w v := by
  intro x h
  have h0 : j.val = n + (x 0).val := h 0
  have h1 : s.val = 0 + (x 1).val := h 1
  have h2 : c.val = 0 + (x 2).val := h 2
  have x0 : (x 0).val < 1 := (x 0).isLt
  have hx : x = ix3 0 s c := funext fun a => Fin.ext (by
    match a with
    | 0 => show (x 0).val = 0; omega
    | 1 => show (x 1).val = s.val; omega
    | 2 => show (x 2).val = c.val; omega)
  rw [hx]
  exact H (by omega)

/-- A load of one slot of the tap accumulators. -/
theorem load8 (j : Fin 31) (n : ℕ) (hj : j.val = n) (s : Fin 8) (c : Fin 128)
    (inb : ∀ a, (![n, 0, 0] : Fin 3 → ℕ) a + (![1, 8, 128] : Fin 3 → ℕ) a ≤ S31x8x128.size a) :
    View.readAt (Elt Ideal) arg8.view (Rect.unit (s := S31x8x128) ![n, 0, 0] ![1, 8, 128] inb).toLoadRect f8 (ix3 0 s c)
      = arg8.view.read (Elt Ideal) f8 (ix3 j s c) := by
  subst hj
  refine congrArg (arg8.view.read (Elt Ideal) f8) (funext fun a => Fin.ext ?_)
  match a with
  | 0 => show j.val + 1 * 0 = j.val; omega
  | 1 => show 0 + 1 * s.val = s.val; omega
  | 2 => show 0 + 1 * c.val = c.val; omega

/-- One slot's update: its old content and the chunk's products, rotated by `30 - j` rows. -/
theorem acc8 (j : Fin 31) (n rot : ℕ) (hj : j.val = n) (hr : n + rot = 30) (s : Fin 8) (c : Fin 128)
    (inb : ∀ a, (![n, 0, 0] : Fin 3 → ℕ) a + (![1, 8, 128] : Fin 3 → ℕ) a ≤ S31x8x128.size a) (h1 : ∀ q : Fin 32, q.val * 8 + s.val < 256)
    (h2 : ∀ q : Fin 32, (32 + (q.val * 8 + s.val) + 288 - rot) % 288 < 288) :
    View.readAt (Elt Ideal) arg8.view (Rect.unit (s := S31x8x128) ![n, 0, 0] ![1, 8, 128] inb).toLoadRect f8 (ix3 0 s c)
        + ∑ q : Fin 32, trip_k0_t1.sl.r_5 (F := Ideal) arg2 X2 k (ix2 ⟨q.val * 8 + s.val, h1 q⟩ c)
            * trip_k0_t1.sl.r_3 (F := Ideal) arg1 X1 k (ix2 ⟨(32 + (q.val * 8 + s.val) + 288 - rot) % 288, h2 q⟩ c)
      = arg8.view.read (Elt Ideal) f8 (ix3 j s c) + step8 (arg1.view.read (Elt Ideal) X1) (arg2.view.read (Elt Ideal) X2) k.val j.val s.val c := by
  rw [load8 arg8 f8 j n hj]
  refine congrArg _ (Finset.sum_congr rfl fun q _ => ?_)
  rw [r5_apply, r3_apply]
  have e : 256 * k.val + (32 + (q.val * 8 + s.val) + 288 - rot) % 288 = 256 * k.val + (q.val * 8 + s.val) + j.val + 2 := by
    have := q.isLt; have := s.isLt; omega
  show ctg _ _ (256 * k.val + (q.val * 8 + s.val)) * (late _ (256 * k.val + (32 + (q.val * 8 + s.val) + 288 - rot) % 288) * sgm (late _ (256 * k.val + (32 + (q.val * 8 + s.val) + 288 - rot) % 288))) = _
  rw [e]

/-- The last slot's update: the rows of the chunk themselves, not rotated. -/
theorem acc8_last (j : Fin 31) (hj : j.val = 30) (s : Fin 8) (c : Fin 128) (inb5) (inb6)
    (inb : ∀ a, (![30, 0, 0] : Fin 3 → ℕ) a + (![1, 8, 128] : Fin 3 → ℕ) a ≤ S31x8x128.size a) :
    k0_pay10 (F := Ideal) (trip_k0_t1.sl.v186 k) (trip_k0_t1.sl.r arg1 X1 k) (trip_k0_t1.sl.r_1 arg1 X1 k) k0_pay5
        (View.readAt (Elt Ideal) arg2.view (Rect.unit (s := S4096x128) (k0_off5 k) ![256, 128] inb5).toLoadRect X2)
        (View.readAt (Elt Ideal) arg2.view (Rect.unit (s := S4096x128) (k0_off6 k) ![32, 128] inb6).toLoadRect X2)
        (View.readAt (Elt Ideal) arg8.view (Rect.unit (s := S31x8x128) ![30, 0, 0] ![1, 8, 128] inb).toLoadRect f8) (ix3 0 s c)
      = arg8.view.read (Elt Ideal) f8 (ix3 j s c) + step8 (arg1.view.read (Elt Ideal) X1) (arg2.view.read (Elt Ideal) X2) k.val j.val s.val c := by
  have h3 := r3_apply arg1 X1 k
  have h5 := r5_apply arg2 X2 k
  unfold trip_k0_t1.sl.r_3 at h3
  unfold trip_k0_t1.sl.r_5 at h5
  generalize hx : k0_pay7 (F := Ideal) (trip_k0_t1.sl.r arg1 X1 k) (trip_k0_t1.sl.r_1 arg1 X1 k) k0_pay5 = xs at h3
  generalize ho : k0_pay9 (F := Ideal) (trip_k0_t1.sl.v186 k)
        (View.readAt (Elt Ideal) arg2.view (Rect.unit (s := S4096x128) (k0_off5 k) ![256, 128] inb5).toLoadRect X2)
        (View.readAt (Elt Ideal) arg2.view (Rect.unit (s := S4096x128) (k0_off6 k) ![32, 128] inb6).toLoadRect X2) = own at h5
  unfold k0_pay10
  rw [hx, ho]
  pointwise
  rw [load8 arg8 f8 j 30 hj]
  refine congrArg _ (Finset.sum_congr rfl fun q _ => ?_)
  rw [h5, h3]
  have e : 256 * k.val + (32 + (q.val * 8 + s.val)) = 256 * k.val + (q.val * 8 + s.val) + j.val + 2 := by omega
  show ctg _ _ (256 * k.val + (q.val * 8 + s.val)) * (late _ (256 * k.val + (32 + (q.val * 8 + s.val))) * sgm (late _ (256 * k.val + (32 + (q.val * 8 + s.val))))) = _
  rw [e]

theorem trip8 (j : Fin 31) (s : Fin 8) (c : Fin 128) :
    arg8.view.read (Elt Ideal) (arg8.view.writes (Elt Ideal) f8 (tripL_k0_t1 (F := Ideal) 𝒱 cd bd i arg1 harg1 arg2 harg2 arg3 harg3 arg4 harg4 arg5 harg5 arg6 harg6 arg7 harg7 arg8 harg8 arg9 harg9 X1 X2 X3 k f4 f8 f9).2.1) (ix3 j s c)
      = arg8.view.read (Elt Ideal) f8 (ix3 j s c) + step8 (arg1.view.read (Elt Ideal) X1) (arg2.view.read (Elt Ideal) X2) k.val j.val s.val c := by
  unfold tripL_k0_t1 trip_k0_t1
  dsimp only
  refine read_of_allAt _ _ _ _ _ (View.cover_of_tiledL _ ![1, 8, 128] (by rfl) _) ?_
  simp only [trip_k0_t1.sl.r_7, trip_k0_t1.sl.r_9, trip_k0_t1.sl.r_10, trip_k0_t1.sl.r_12, trip_k0_t1.sl.r_13, trip_k0_t1.sl.r_15, trip_k0_t1.sl.r_16, trip_k0_t1.sl.r_18, trip_k0_t1.sl.r_20, trip_k0_t1.sl.r_22, trip_k0_t1.sl.r_24]
  have hacc := acc8 arg1 arg2 X1 X2 k arg8 f8 j
  have hlast := acc8_last arg1 arg2 X1 X2 k arg8 f8 j
  generalize trip_k0_t1.sl.r_3 (F := Ideal) arg1 X1 k = xs at hacc ⊢
  generalize trip_k0_t1.sl.r_5 (F := Ideal) arg2 X2 k = own at hacc ⊢
  iterate 30
    refine View.allAt_cons_unit _ _ _ _ _ (tile8 _ _ _ _ _ _ fun hj => ?_) ?_
    · open_payloads
      pointwise
      exact hacc _ _ hj (by decide) s c _ _ _
  refine View.allAt_cons_unit _ _ _ _ _ (tile8 _ _ _ _ _ _ fun hj => ?_) (View.allAt_nil _ _)
  exact hlast hj s c _ _ _

/-! ## The input gradient's stripe and the bias accumulators -/

/-- The gradient reaching the gated value at row `n`. -/
def dglu (x2 : Vec Ideal S4096x128 .f32) (x3 : Vec Ideal S31x128 .f32) (c : Fin 128) (n : ℕ) : EReal :=
  ∑ j ∈ Finset.range 31, tap x3 c j * ctg x2 c (n + (30 - j))

/-- The gradient of the value half at row `n`. -/
def dval (x1 : Vec Ideal S2x4096x128 .bf16) (x2 : Vec Ideal S4096x128 .f32) (x3 : Vec Ideal S31x128 .f32) (c : Fin 128) (n : ℕ) : EReal :=
  dglu x2 x3 c n * sgm (half x1 1 c n)

/-- The gradient of the gate half at row `n`. -/
def dgate (x1 : Vec Ideal S2x4096x128 .bf16) (x2 : Vec Ideal S4096x128 .f32) (x3 : Vec Ideal S31x128 .f32) (c : Fin 128) (n : ℕ) : EReal :=
  dglu x2 x3 c n * half x1 0 c n * sgm (half x1 1 c n) * (1 - sgm (half x1 1 c n))

theorem late_at (f : ℕ → EReal) (n : ℕ) : late f (n + 32) = f n := by
  unfold late
  rw [if_neg (by omega), Nat.add_sub_cancel]

theorem pay70_apply (r : Fin 256) (c : Fin 128) :
    k0_pay70 (F := Ideal) (trip_k0_t1.sl.r_2 arg1 X1 k) (trip_k0_t1.sl.r_36 arg2 arg3 X2 X3 k) (ix2 r c)
      = dval (arg1.view.read (Elt Ideal) X1) (arg2.view.read (Elt Ideal) X2) (arg3.view.read (Elt Ideal) X3) c (256 * k.val + r.val) := by
  have h2 := r2_apply arg1 X1 k
  have h36 := r36_apply arg2 arg3 X2 X3 k
  generalize trip_k0_t1.sl.r_2 (F := Ideal) arg1 X1 k = sg at h2 ⊢
  generalize trip_k0_t1.sl.r_36 (F := Ideal) arg2 arg3 X2 X3 k = dg at h36 ⊢
  unfold k0_pay70 k0_pay69
  pointwise
  rw [h2, h36]
  show _ * sgm (late _ (256 * k.val + (32 + r.val))) = _
  rw [show 256 * k.val + (32 + r.val) = 256 * k.val + r.val + 32 by omega, late_at]
  rfl

theorem pay71_apply (r : Fin 256) (c : Fin 128) :
    k0_pay71 (F := Ideal) (trip_k0_t1.sl.r arg1 X1 k) (trip_k0_t1.sl.r_2 arg1 X1 k) (trip_k0_t1.sl.r_36 arg2 arg3 X2 X3 k) (ix2 r c)
      = dgate (arg1.view.read (Elt Ideal) X1) (arg2.view.read (Elt Ideal) X2) (arg3.view.read (Elt Ideal) X3) c (256 * k.val + r.val) := by
  have h := r_apply arg1 X1 k
  have h2 := r2_apply arg1 X1 k
  have h36 := r36_apply arg2 arg3 X2 X3 k
  generalize trip_k0_t1.sl.r (F := Ideal) arg1 X1 k = va at h ⊢
  generalize trip_k0_t1.sl.r_2 (F := Ideal) arg1 X1 k = sg at h2 ⊢
  generalize trip_k0_t1.sl.r_36 (F := Ideal) arg2 arg3 X2 X3 k = dg at h36 ⊢
  unfold k0_pay71 k0_pay69
  pointwise
  rw [h, h2, h36]
  show _ * late _ (256 * k.val + (32 + r.val)) * sgm (late _ (256 * k.val + (32 + r.val))) * (1 - sgm (late _ (256 * k.val + (32 + r.val)))) = _
  rw [show 256 * k.val + (32 + r.val) = 256 * k.val + r.val + 32 by omega, late_at, late_at]
  rfl

/-- What a bias accumulator sums: the cotangent, the value half's gradient, the gate half's gradient. -/
def row9 (x1 : Vec Ideal S2x4096x128 .bf16) (x2 : Vec Ideal S4096x128 .f32) (x3 : Vec Ideal S31x128 .f32) (b : Fin 3) (c : Fin 128) (n : ℕ) : EReal :=
  match b with
  | 0 => ctg x2 c n
  | 1 => dval x1 x2 x3 c n
  | 2 => dgate x1 x2 x3 c n

theorem load9 (b : Fin 3) (s : Fin 8) (c : Fin 128)
    (inb : ∀ a, (![b.val, 0, 0] : Fin 3 → ℕ) a + (![1, 8, 128] : Fin 3 → ℕ) a ≤ S3x8x128.size a) :
    View.readAt (Elt Ideal) arg9.view (Rect.unit (s := S3x8x128) ![b.val, 0, 0] ![1, 8, 128] inb).toLoadRect f9 (ix3 0 s c)
      = arg9.view.read (Elt Ideal) f9 (ix3 b s c) := by
  refine congrArg (arg9.view.read (Elt Ideal) f9) (funext fun a => Fin.ext ?_)
  match a with
  | 0 => show b.val + 1 * 0 = b.val; omega
  | 1 => show 0 + 1 * s.val = s.val; omega
  | 2 => show 0 + 1 * c.val = c.val; omega

theorem tile9 (b : Fin 3) (s : Fin 8) (c : Fin 128) (n : ℕ) (w : S1x8x128.Idx → EReal) (v : EReal)
    (H : b.val = n → w (ix3 0 s c) = v) :
    View.TileAt (S := S3x8x128) (e := .f32) (Val := Elt Ideal) (ix3 b s c) ![n, 0, 0] ![1, 8, 128] w v := by
  intro x h
  have h0 : b.val = n + (x 0).val := h 0
  have h1 : s.val = 0 + (x 1).val := h 1
  have h2 : c.val = 0 + (x 2).val := h 2
  have x0 : (x 0).val < 1 := (x 0).isLt
  have hx : x = ix3 0 s c := funext fun a => Fin.ext (by
    match a with
    | 0 => show (x 0).val = 0; omega
    | 1 => show (x 1).val = s.val; omega
    | 2 => show (x 2).val = c.val; omega)
  rw [hx]
  exact H (by omega)

/-- One trip's effect on the bias accumulators. -/
theorem trip9 (b : Fin 3) (s : Fin 8) (c : Fin 128) :
    arg9.view.read (Elt Ideal) (arg9.view.writes (Elt Ideal) f9 (tripL_k0_t1 (F := Ideal) 𝒱 cd bd i arg1 harg1 arg2 harg2 arg3 harg3 arg4 harg4 arg5 harg5 arg6 harg6 arg7 harg7 arg8 harg8 arg9 harg9 X1 X2 X3 k f4 f8 f9).2.2) (ix3 b s c)
      = arg9.view.read (Elt Ideal) f9 (ix3 b s c)
        + ∑ q : Fin 32, row9 (arg1.view.read (Elt Ideal) X1) (arg2.view.read (Elt Ideal) X2) (arg3.view.read (Elt Ideal) X3) b c (256 * k.val + (q.val * 8 + s.val)) := by
  unfold tripL_k0_t1 trip_k0_t1
  dsimp only
  refine read_of_allAt _ _ _ _ _ (View.cover_of_tiledL _ ![1, 8, 128] (by rfl) _) ?_
  simp only [trip_k0_t1.sl.r_37, trip_k0_t1.sl.r_38]
  have h5 := r5_apply arg2 X2 k
  have h70 := pay70_apply arg1 arg2 arg3 X1 X2 X3 k
  have h71 := pay71_apply arg1 arg2 arg3 X1 X2 X3 k
  generalize trip_k0_t1.sl.r_5 (F := Ideal) arg2 X2 k = own at h5 ⊢
  generalize k0_pay70 (F := Ideal) (trip_k0_t1.sl.r_2 arg1 X1 k) (trip_k0_t1.sl.r_36 arg2 arg3 X2 X3 k) = p70 at h70 ⊢
  generalize k0_pay71 (F := Ideal) (trip_k0_t1.sl.r arg1 X1 k) (trip_k0_t1.sl.r_2 arg1 X1 k) (trip_k0_t1.sl.r_36 arg2 arg3 X2 X3 k) = p71 at h71 ⊢
  refine View.allAt_cons_unit _ _ _ _ _ (tile9 _ _ _ _ _ _ fun hb => ?_) (View.allAt_cons_unit _ _ _ _ _ (tile9 _ _ _ _ _ _ fun hb => ?_) (View.allAt_cons_unit _ _ _ _ _ (tile9 _ _ _ _ _ _ fun hb => ?_) (View.allAt_nil _ _)))
  · obtain rfl : b = 2 := Fin.ext hb
    unfold k0_pay78
    pointwise
    refine congrArg₂ (· + ·) (load9 arg9 f9 2 s c _) (Finset.sum_congr rfl fun q _ => ?_)
    rw [h71]; rfl
  · obtain rfl : b = 1 := Fin.ext hb
    unfold k0_pay77
    pointwise
    refine congrArg₂ (· + ·) (load9 arg9 f9 1 s c _) (Finset.sum_congr rfl fun q _ => ?_)
    rw [h70]; rfl
  · obtain rfl : b = 0 := Fin.ext hb
    unfold k0_pay74
    pointwise
    refine congrArg₂ (· + ·) (load9 arg9 f9 0 s c _) (Finset.sum_congr rfl fun q _ => ?_)
    rw [h5]; rfl

/-- The input gradient's two halves at row `n`. -/
def row4 (x1 : Vec Ideal S2x4096x128 .bf16) (x2 : Vec Ideal S4096x128 .f32) (x3 : Vec Ideal S31x128 .f32) (h : Fin 2) (c : Fin 128) (n : ℕ) : EReal :=
  match h with
  | 0 => dval x1 x2 x3 c n
  | 1 => dgate x1 x2 x3 c n

/-- One trip's effect on the input gradient: its own 256 rows of both halves. -/
theorem trip4 (f : BufTy.Contents (Elt Ideal) arg4.view.ty) (L : List (View.Piece (Elt Ideal) S2x4096x128 .bf16)) (h : Fin 2) (n : Fin 4096) (c : Fin 128) :
    arg4.view.read (Elt Ideal) (arg4.view.writes (Elt Ideal) f ((tripL_k0_t1 (F := Ideal) 𝒱 cd bd i arg1 harg1 arg2 harg2 arg3 harg3 arg4 harg4 arg5 harg5 arg6 harg6 arg7 harg7 arg8 harg8 arg9 harg9 X1 X2 X3 k f4 f8 f9).1 ++ L)) (ix3 h n c)
      = if 256 * k.val ≤ n.val ∧ n.val < 256 * k.val + 256
        then row4 (arg1.view.read (Elt Ideal) X1) (arg2.view.read (Elt Ideal) X2) (arg3.view.read (Elt Ideal) X3) h c n.val
        else arg4.view.read (Elt Ideal) (arg4.view.writes (Elt Ideal) f L) (ix3 h n c) := by
  unfold tripL_k0_t1 trip_k0_t1
  dsimp only
  have h70 := pay70_apply arg1 arg2 arg3 X1 X2 X3 k
  have h71 := pay71_apply arg1 arg2 arg3 X1 X2 X3 k
  unfold k0_pay73 k0_pay72
  generalize k0_pay70 (F := Ideal) (trip_k0_t1.sl.r_2 arg1 X1 k) (trip_k0_t1.sl.r_36 arg2 arg3 X2 X3 k) = p70 at h70 ⊢
  generalize k0_pay71 (F := Ideal) (trip_k0_t1.sl.r arg1 X1 k) (trip_k0_t1.sl.r_2 arg1 X1 k) (trip_k0_t1.sl.r_36 arg2 arg3 X2 X3 k) = p71 at h71 ⊢
  simp only [List.cons_append, List.nil_append]
  by_cases hn : 256 * k.val ≤ n.val ∧ n.val < 256 * k.val + 256
  · rw [if_pos hn]
    match h with
    | 1 =>
      refine (View.read_writes_cons_unit_of_mem _ _ _ _ _ _ (ix3 0 ⟨n.val - 256 * k.val, by omega⟩ c) (off4_eq k) fun a => ?_).trans ?_
      · match a with
        | 0 => rfl
        | 1 => show n.val = 256 * k.val + (n.val - 256 * k.val); omega
        | 2 => show c.val = 0 + c.val; omega
      · pointwise
        rw [h71]
        show dgate _ _ _ _ (256 * k.val + (n.val - 256 * k.val)) = dgate _ _ _ _ _
        rw [Nat.add_sub_cancel' hn.1]
    | 0 =>
      refine (View.read_writes_cons_unit_of_not_mem _ _ _ _ _ _ (off4_eq k) 0 (Or.inl Nat.zero_lt_one)).trans ?_
      refine (View.read_writes_cons_unit_of_mem _ _ _ _ _ _ (ix3 0 ⟨n.val - 256 * k.val, by omega⟩ c) (off2_eq k) fun a => ?_).trans ?_
      · match a with
        | 0 => rfl
        | 1 => show n.val = 256 * k.val + (n.val - 256 * k.val); omega
        | 2 => show c.val = 0 + c.val; omega
      · pointwise
        rw [h70]
        show dval _ _ _ _ (256 * k.val + (n.val - 256 * k.val)) = dval _ _ _ _ _
        rw [Nat.add_sub_cancel' hn.1]
  · rw [if_neg hn]
    have hd : n.val < 256 * k.val ∨ 256 * k.val + 256 ≤ n.val := by omega
    refine (View.read_writes_cons_unit_of_not_mem _ _ _ _ _ _ (off4_eq k) 1 hd).trans ?_
    exact View.read_writes_cons_unit_of_not_mem _ _ _ _ _ _ (off2_eq k) 1 hd
end Cert.KernelIdeal.GluBwd
-- ==== Proof.GluExit.lean ====
module

public import proofs.«01_k».proof.Proof.Gen.KernelIdeal.Loops

/-! # What the loop over the row chunks leaves

The pieces that one trip stores into the input gradient do not depend on what the trip finds in any buffer it
writes, and those it stores into each of the two accumulators depend on that accumulator alone. So after the
loop the gradient block holds pieces that are a function of the inputs, and each accumulator holds contents that
are a function of the inputs and of its own contents at the loop's entry. -/
@[expose] public section
set_option maxRecDepth 16384
noncomputable section

namespace Cert.KernelIdeal.GluBwd

open Idealize.ShloMosaic TcCoe Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

section
variable (𝒱 : Variants) (c : Dev nD) (bd : Option 𝒱.V) (i : grid0.Coords) (arg1 : Memref sig .tc .vmem S2x4096x128 .bf16) (harg1 : arg1.IsWhole) (arg2 : Memref sig .tc .vmem S4096x128 .f32) (harg2 : arg2.IsWhole) (arg3 : Memref sig .tc .vmem S31x128 .f32) (harg3 : arg3.IsWhole) (arg4 : Memref sig .tc .vmem S2x4096x128 .bf16) (harg4 : arg4.IsWhole) (arg5 : Memref sig .tc .vmem S31x128 .f32) (harg5 : arg5.IsWhole) (arg6 : Memref sig .tc .vmem S1x128 .f32) (harg6 : arg6.IsWhole) (arg7 : Memref sig .tc .vmem S2x1x128 .f32) (harg7 : arg7.IsWhole) (arg8 : Memref sig .tc .vmem S31x8x128 .f32) (harg8 : arg8.IsWhole) (arg9 : Memref sig .tc .vmem S3x8x128 .f32) (harg9 : arg9.IsWhole) (X_arg1 : BufTy.Contents (Elt F) arg1.view.ty) (X_arg2 : BufTy.Contents (Elt F) arg2.view.ty) (X_arg3 : BufTy.Contents (Elt F) arg3.view.ty)

theorem trip_indep (k : Fin k0_t1_loop.trips) (G4 : BufTy.Contents (Elt F) arg4.view.ty) (G8 : BufTy.Contents (Elt F) arg8.view.ty) (G9 : BufTy.Contents (Elt F) arg9.view.ty) (H4 : BufTy.Contents (Elt F) arg4.view.ty) (H8 : BufTy.Contents (Elt F) arg8.view.ty) (H9 : BufTy.Contents (Elt F) arg9.view.ty) :
    (tripL_k0_t1 (F := F) 𝒱 c bd i arg1 harg1 arg2 harg2 arg3 harg3 arg4 harg4 arg5 harg5 arg6 harg6 arg7 harg7 arg8 harg8 arg9 harg9 X_arg1 X_arg2 X_arg3 k G4 G8 G9).1 = (tripL_k0_t1 (F := F) 𝒱 c bd i arg1 harg1 arg2 harg2 arg3 harg3 arg4 harg4 arg5 harg5 arg6 harg6 arg7 harg7 arg8 harg8 arg9 harg9 X_arg1 X_arg2 X_arg3 k H4 H8 H9).1
    ∧ (tripL_k0_t1 (F := F) 𝒱 c bd i arg1 harg1 arg2 harg2 arg3 harg3 arg4 harg4 arg5 harg5 arg6 harg6 arg7 harg7 arg8 harg8 arg9 harg9 X_arg1 X_arg2 X_arg3 k G4 G8 G9).2.1 = (tripL_k0_t1 (F := F) 𝒱 c bd i arg1 harg1 arg2 harg2 arg3 harg3 arg4 harg4 arg5 harg5 arg6 harg6 arg7 harg7 arg8 harg8 arg9 harg9 X_arg1 X_arg2 X_arg3 k H4 G8 H9).2.1
    ∧ (tripL_k0_t1 (F := F) 𝒱 c bd i arg1 harg1 arg2 harg2 arg3 harg3 arg4 harg4 arg5 harg5 arg6 harg6 arg7 harg7 arg8 harg8 arg9 harg9 X_arg1 X_arg2 X_arg3 k G4 G8 G9).2.2 = (tripL_k0_t1 (F := F) 𝒱 c bd i arg1 harg1 arg2 harg2 arg3 harg3 arg4 harg4 arg5 harg5 arg6 harg6 arg7 harg7 arg8 harg8 arg9 harg9 X_arg1 X_arg2 X_arg3 k H4 H8 G9).2.2 := by
  unfold tripL_k0_t1 trip_k0_t1
  exact ⟨rfl, rfl, rfl⟩

theorem pb_indep (G4 : BufTy.Contents (Elt F) arg4.view.ty) (G8 : BufTy.Contents (Elt F) arg8.view.ty) (G9 : BufTy.Contents (Elt F) arg9.view.ty) : ∀ n, n ≤ k0_t1_loop.trips →
    (pb_k0_t1 (F := F) 𝒱 c bd i arg1 harg1 arg2 harg2 arg3 harg3 arg4 harg4 arg5 harg5 arg6 harg6 arg7 harg7 arg8 harg8 arg9 harg9 X_arg1 X_arg2 X_arg3 G4 G8 G9 n).1 = (pb_k0_t1 (F := F) 𝒱 c bd i arg1 harg1 arg2 harg2 arg3 harg3 arg4 harg4 arg5 harg5 arg6 harg6 arg7 harg7 arg8 harg8 arg9 harg9 X_arg1 X_arg2 X_arg3 arg4.view.junk arg8.view.junk arg9.view.junk n).1
    ∧ (pb_k0_t1 (F := F) 𝒱 c bd i arg1 harg1 arg2 harg2 arg3 harg3 arg4 harg4 arg5 harg5 arg6 harg6 arg7 harg7 arg8 harg8 arg9 harg9 X_arg1 X_arg2 X_arg3 G4 G8 G9 n).2.1 = (pb_k0_t1 (F := F) 𝒱 c bd i arg1 harg1 arg2 harg2 arg3 harg3 arg4 harg4 arg5 harg5 arg6 harg6 arg7 harg7 arg8 harg8 arg9 harg9 X_arg1 X_arg2 X_arg3 arg4.view.junk G8 arg9.view.junk n).2.1
    ∧ (pb_k0_t1 (F := F) 𝒱 c bd i arg1 harg1 arg2 harg2 arg3 harg3 arg4 harg4 arg5 harg5 arg6 harg6 arg7 harg7 arg8 harg8 arg9 harg9 X_arg1 X_arg2 X_arg3 G4 G8 G9 n).2.2 = (pb_k0_t1 (F := F) 𝒱 c bd i arg1 harg1 arg2 harg2 arg3 harg3 arg4 harg4 arg5 harg5 arg6 harg6 arg7 harg7 arg8 harg8 arg9 harg9 X_arg1 X_arg2 X_arg3 arg4.view.junk arg8.view.junk G9 n).2.2
  | 0, _ => ⟨rfl, rfl, rfl⟩
  | n + 1, hn => by
    obtain ⟨h1, h2, h3⟩ := pb_indep G4 G8 G9 n (by omega)
    have e := fun A4 A8 A9 => (pb_k0_t1_succ (F := F) 𝒱 c bd i arg1 harg1 arg2 harg2 arg3 harg3 arg4 harg4 arg5 harg5 arg6 harg6 arg7 harg7 arg8 harg8 arg9 harg9 X_arg1 X_arg2 X_arg3 A4 A8 A9 ⟨n, hn⟩ : pb_k0_t1 (F := F) 𝒱 c bd i arg1 harg1 arg2 harg2 arg3 harg3 arg4 harg4 arg5 harg5 arg6 harg6 arg7 harg7 arg8 harg8 arg9 harg9 X_arg1 X_arg2 X_arg3 A4 A8 A9 (n + 1) = _)
    rw [e, e, e, e]
    have q8 := congrArg (arg8.view.writes (Elt F) G8) h2
    have q9 := congrArg (arg9.view.writes (Elt F) G9) h3
    refine ⟨congrArg₂ (· ++ ·) (trip_indep (F := F) 𝒱 c bd i arg1 harg1 arg2 harg2 arg3 harg3 arg4 harg4 arg5 harg5 arg6 harg6 arg7 harg7 arg8 harg8 arg9 harg9 X_arg1 X_arg2 X_arg3 ⟨n, hn⟩ _ _ _ _ _ _).1 h1, congrArg₂ (· ++ ·) ?_ h2, congrArg₂ (· ++ ·) ?_ h3⟩
    · rw [q8]; exact (trip_indep (F := F) 𝒱 c bd i arg1 harg1 arg2 harg2 arg3 harg3 arg4 harg4 arg5 harg5 arg6 harg6 arg7 harg7 arg8 harg8 arg9 harg9 X_arg1 X_arg2 X_arg3 ⟨n, hn⟩ _ _ _ _ arg8.view.junk _).2.1
    · rw [q9]; exact (trip_indep (F := F) 𝒱 c bd i arg1 harg1 arg2 harg2 arg3 harg3 arg4 harg4 arg5 harg5 arg6 harg6 arg7 harg7 arg8 harg8 arg9 harg9 X_arg1 X_arg2 X_arg3 ⟨n, hn⟩ _ _ _ _ _ arg9.view.junk).2.2

/-- The pieces the whole loop stores into the input gradient's block. -/
@[irreducible] def pieces4 : List (View.Piece (Elt F) S2x4096x128 .bf16) :=
  (pb_k0_t1 (F := F) 𝒱 c bd i arg1 harg1 arg2 harg2 arg3 harg3 arg4 harg4 arg5 harg5 arg6 harg6 arg7 harg7 arg8 harg8 arg9 harg9 X_arg1 X_arg2 X_arg3 arg4.view.junk arg8.view.junk arg9.view.junk k0_t1_loop.trips).1

/-- The tap accumulators after the loop. -/
@[irreducible] def end8 (G8 : BufTy.Contents (Elt F) arg8.view.ty) : BufTy.Contents (Elt F) arg8.view.ty :=
  arg8.view.writes (Elt F) G8 (pb_k0_t1 (F := F) 𝒱 c bd i arg1 harg1 arg2 harg2 arg3 harg3 arg4 harg4 arg5 harg5 arg6 harg6 arg7 harg7 arg8 harg8 arg9 harg9 X_arg1 X_arg2 X_arg3 arg4.view.junk G8 arg9.view.junk k0_t1_loop.trips).2.1

/-- The bias accumulators after the loop. -/
@[irreducible] def end9 (G9 : BufTy.Contents (Elt F) arg9.view.ty) : BufTy.Contents (Elt F) arg9.view.ty :=
  arg9.view.writes (Elt F) G9 (pb_k0_t1 (F := F) 𝒱 c bd i arg1 harg1 arg2 harg2 arg3 harg3 arg4 harg4 arg5 harg5 arg6 harg6 arg7 harg7 arg8 harg8 arg9 harg9 X_arg1 X_arg2 X_arg3 arg4.view.junk arg8.view.junk G9 k0_t1_loop.trips).2.2

end

/-- The loop left with its results named. -/
instance (E : Set ℕ) (𝒱 : Variants) (c : Dev nD) (bd : Option 𝒱.V) (i : grid0.Coords) (arg1 : Memref sig .tc .vmem S2x4096x128 .bf16) (harg1 : arg1.IsWhole) (arg2 : Memref sig .tc .vmem S4096x128 .f32) (harg2 : arg2.IsWhole) (arg3 : Memref sig .tc .vmem S31x128 .f32) (harg3 : arg3.IsWhole) (arg4 : Memref sig .tc .vmem S2x4096x128 .bf16) (harg4 : arg4.IsWhole) (arg5 : Memref sig .tc .vmem S31x128 .f32) (harg5 : arg5.IsWhole) (arg6 : Memref sig .tc .vmem S1x128 .f32) (harg6 : arg6.IsWhole) (arg7 : Memref sig .tc .vmem S2x1x128 .f32) (harg7 : arg7.IsWhole) (arg8 : Memref sig .tc .vmem S31x8x128 .f32) (harg8 : arg8.IsWhole) (arg9 : Memref sig .tc .vmem S3x8x128 .f32) (harg9 : arg9.IsWhole) (X_arg1 : BufTy.Contents (Elt F) arg1.view.ty) (X_arg2 : BufTy.Contents (Elt F) arg2.view.ty) (X_arg3 : BufTy.Contents (Elt F) arg3.view.ty) (G4 : BufTy.Contents (Elt F) arg4.view.ty) (G8 : BufTy.Contents (Elt F) arg8.view.ty) (G9 : BufTy.Contents (Elt F) arg9.view.ty) :
    LoopExit (loopInv_k0_t1 (F := F) 𝒱 c bd E i arg1 harg1 arg2 harg2 arg3 harg3 arg4 harg4 arg5 harg5 arg6 harg6 arg7 harg7 arg8 harg8 arg9 harg9 X_arg1 X_arg2 X_arg3 G4 G8 G9) where
  post _ := iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3)
    ∗ (arg4.view.loc (c : Thread nD τ) ↦[arg4.view.set]{fullShare} arg4.view.writes (Elt F) G4 (pieces4 (F := F) 𝒱 c bd i arg1 harg1 arg2 harg2 arg3 harg3 arg4 harg4 arg5 harg5 arg6 harg6 arg7 harg7 arg8 harg8 arg9 harg9 X_arg1 X_arg2 X_arg3))
    ∗ (arg8.view.loc (c : Thread nD τ) ↦[arg8.view.set]{fullShare} end8 (F := F) 𝒱 c bd i arg1 harg1 arg2 harg2 arg3 harg3 arg4 harg4 arg5 harg5 arg6 harg6 arg7 harg7 arg8 harg8 arg9 harg9 X_arg1 X_arg2 X_arg3 G8)
    ∗ (arg9.view.loc (c : Thread nD τ) ↦[arg9.view.set]{fullShare} end9 (F := F) 𝒱 c bd i arg1 harg1 arg2 harg2 arg3 harg3 arg4 harg4 arg5 harg5 arg6 harg6 arg7 harg7 arg8 harg8 arg9 harg9 X_arg1 X_arg2 X_arg3 G9))
  exit acc := by
    obtain ⟨e1, e2, e3⟩ := pb_indep (F := F) 𝒱 c bd i arg1 harg1 arg2 harg2 arg3 harg3 arg4 harg4 arg5 harg5 arg6 harg6 arg7 harg7 arg8 harg8 arg9 harg9 X_arg1 X_arg2 X_arg3 G4 G8 G9 k0_t1_loop.trips le_rfl
    change inv_k0_t1 (F := F) 𝒱 c bd i arg1 harg1 arg2 harg2 arg3 harg3 arg4 harg4 arg5 harg5 arg6 harg6 arg7 harg7 arg8 harg8 arg9 harg9 X_arg1 X_arg2 X_arg3 G4 G8 G9 k0_t1_loop.trips acc ⊢ _
    iintro ⟨HR_arg1, HR_arg2, HR_arg3, ⟨%f4, H4, %h4⟩, ⟨%f8, H8, %h8⟩, ⟨%f9, H9, %h9⟩⟩
    have h4' : f4 = arg4.view.writes (Elt F) G4 (pieces4 (F := F) 𝒱 c bd i arg1 harg1 arg2 harg2 arg3 harg3 arg4 harg4 arg5 harg5 arg6 harg6 arg7 harg7 arg8 harg8 arg9 harg9 X_arg1 X_arg2 X_arg3) := by unfold pieces4; rw [← e1]; exact h4
    have h8' : f8 = end8 (F := F) 𝒱 c bd i arg1 harg1 arg2 harg2 arg3 harg3 arg4 harg4 arg5 harg5 arg6 harg6 arg7 harg7 arg8 harg8 arg9 harg9 X_arg1 X_arg2 X_arg3 G8 := by unfold end8; rw [← e2]; exact h8
    have h9' : f9 = end9 (F := F) 𝒱 c bd i arg1 harg1 arg2 harg2 arg3 harg3 arg4 harg4 arg5 harg5 arg6 harg6 arg7 harg7 arg8 harg8 arg9 harg9 X_arg1 X_arg2 X_arg3 G9 := by unfold end9; rw [← e3]; exact h9
    subst h4' h8' h9'
    isplitl [HR_arg1]; · iexact HR_arg1
    isplitl [HR_arg2]; · iexact HR_arg2
    isplitl [HR_arg3]; · iexact HR_arg3
    isplitl [H4]; · iexact H4
    isplitl [H8]; · iexact H8
    iexact H9

end Cert.KernelIdeal.GluBwd
-- ==== Proof.GluSum.lean ====
module
public import proofs.«01_k».proof.Proof.GluTrip
public import proofs.«01_k».proof.Proof.GluExit
@[expose] public section
set_option maxRecDepth 16384
noncomputable section
set_option maxHeartbeats 4000000

/-! # The backward loop as a whole -/

namespace Cert.KernelIdeal.GluBwd

open Idealize.ShloMosaic TcCoe Tactic
open Cert.KernelIdeal.Gen

/-- A sum over `a * b` numbers, in `a` runs of `b`. -/
theorem sum_runs (b : ℕ) (f : ℕ → EReal) : ∀ a : ℕ, ∑ n ∈ Finset.range (a * b), f n = ∑ i ∈ Finset.range a, ∑ j ∈ Finset.range b, f (b * i + j)
  | 0 => by simp
  | a + 1 => by
    rw [Nat.add_mul, Nat.one_mul, Finset.sum_range_add, Finset.sum_range_succ, sum_runs b f a, Nat.mul_comm a b]

/-- The eight sublanes' partial sums over all chunks add up to the sum over all rows. -/
theorem sum_sublanes (f : ℕ → EReal) :
    ∑ s : Fin 8, ∑ k ∈ Finset.range 16, ∑ q : Fin 32, f (256 * k + (q.val * 8 + s.val)) = ∑ n ∈ Finset.range 4096, f n := by
  rw [Finset.sum_comm, sum_runs 256 f 16]
  refine Finset.sum_congr rfl fun k _ => ?_
  rw [Finset.sum_comm, sum_runs 8 (fun n => f (256 * k + n)) 32, Finset.sum_range]
  refine Finset.sum_congr rfl fun q _ => ?_
  rw [Finset.sum_range, Nat.mul_comm 8]

variable (arg1 : Memref sig .tc .vmem S2x4096x128 .bf16) (arg2 : Memref sig .tc .vmem S4096x128 .f32)
  (arg3 : Memref sig .tc .vmem S31x128 .f32)
  (X1 : BufTy.Contents (Elt Ideal) arg1.view.ty) (X2 : BufTy.Contents (Elt Ideal) arg2.view.ty)
  (X3 : BufTy.Contents (Elt Ideal) arg3.view.ty)
  (𝒱 : Variants) (cd : Dev nD) (bd : Option 𝒱.V) (i : grid0.Coords)
  (harg1 : arg1.IsWhole) (harg2 : arg2.IsWhole) (harg3 : arg3.IsWhole)
  (arg4 : Memref sig .tc .vmem S2x4096x128 .bf16) (harg4 : arg4.IsWhole) (arg5 : Memref sig .tc .vmem S31x128 .f32) (harg5 : arg5.IsWhole)
  (arg6 : Memref sig .tc .vmem S1x128 .f32) (harg6 : arg6.IsWhole) (arg7 : Memref sig .tc .vmem S2x1x128 .f32) (harg7 : arg7.IsWhole)
  (arg8 : Memref sig .tc .vmem S31x8x128 .f32) (harg8 : arg8.IsWhole) (arg9 : Memref sig .tc .vmem S3x8x128 .f32) (harg9 : arg9.IsWhole)

/-- The tap accumulators after the loop. -/
theorem end8_apply (G8 : BufTy.Contents (Elt Ideal) arg8.view.ty) (j : Fin 31) (s : Fin 8) (c : Fin 128) :
    arg8.view.read (Elt Ideal) (end8 (F := Ideal) 𝒱 cd bd i arg1 harg1 arg2 harg2 arg3 harg3 arg4 harg4 arg5 harg5 arg6 harg6 arg7 harg7 arg8 harg8 arg9 harg9 X1 X2 X3 G8) (ix3 j s c)
      = arg8.view.read (Elt Ideal) G8 (ix3 j s c) + ∑ k ∈ Finset.range 16, step8 (arg1.view.read (Elt Ideal) X1) (arg2.view.read (Elt Ideal) X2) k j s c := by
  unfold end8
  have key : ∀ n, n ≤ k0_t1_loop.trips →
      arg8.view.read (Elt Ideal) (arg8.view.writes (Elt Ideal) G8 (pb_k0_t1 (F := Ideal) 𝒱 cd bd i arg1 harg1 arg2 harg2 arg3 harg3 arg4 harg4 arg5 harg5 arg6 harg6 arg7 harg7 arg8 harg8 arg9 harg9 X1 X2 X3 arg4.view.junk G8 arg9.view.junk n).2.1) (ix3 j s c)
        = arg8.view.read (Elt Ideal) G8 (ix3 j s c) + ∑ k ∈ Finset.range n, step8 (arg1.view.read (Elt Ideal) X1) (arg2.view.read (Elt Ideal) X2) k j s c := by
    intro n
    induction n with
    | zero => intro _; rw [Finset.sum_range_zero, add_zero]; rfl
    | succ n ih =>
      intro hn
      rw [show pb_k0_t1 (F := Ideal) 𝒱 cd bd i arg1 harg1 arg2 harg2 arg3 harg3 arg4 harg4 arg5 harg5 arg6 harg6 arg7 harg7 arg8 harg8 arg9 harg9 X1 X2 X3 arg4.view.junk G8 arg9.view.junk (n + 1) = _ from
        pb_k0_t1_succ (F := Ideal) 𝒱 cd bd i arg1 harg1 arg2 harg2 arg3 harg3 arg4 harg4 arg5 harg5 arg6 harg6 arg7 harg7 arg8 harg8 arg9 harg9 X1 X2 X3 arg4.view.junk G8 arg9.view.junk ⟨n, hn⟩]
      dsimp only
      rw [View.writes_append, trip8, ih (by omega), Finset.sum_range_succ, add_assoc]
  exact key 16 (by decide +kernel)

/-- The bias accumulators after the loop. -/
theorem end9_apply (G9 : BufTy.Contents (Elt Ideal) arg9.view.ty) (b : Fin 3) (s : Fin 8) (c : Fin 128) :
    arg9.view.read (Elt Ideal) (end9 (F := Ideal) 𝒱 cd bd i arg1 harg1 arg2 harg2 arg3 harg3 arg4 harg4 arg5 harg5 arg6 harg6 arg7 harg7 arg8 harg8 arg9 harg9 X1 X2 X3 G9) (ix3 b s c)
      = arg9.view.read (Elt Ideal) G9 (ix3 b s c) + ∑ k ∈ Finset.range 16, ∑ q : Fin 32, row9 (arg1.view.read (Elt Ideal) X1) (arg2.view.read (Elt Ideal) X2) (arg3.view.read (Elt Ideal) X3) b c (256 * k + (q.val * 8 + s.val)) := by
  unfold end9
  have key : ∀ n, n ≤ k0_t1_loop.trips →
      arg9.view.read (Elt Ideal) (arg9.view.writes (Elt Ideal) G9 (pb_k0_t1 (F := Ideal) 𝒱 cd bd i arg1 harg1 arg2 harg2 arg3 harg3 arg4 harg4 arg5 harg5 arg6 harg6 arg7 harg7 arg8 harg8 arg9 harg9 X1 X2 X3 arg4.view.junk arg8.view.junk G9 n).2.2) (ix3 b s c)
        = arg9.view.read (Elt Ideal) G9 (ix3 b s c) + ∑ k ∈ Finset.range n, ∑ q : Fin 32, row9 (arg1.view.read (Elt Ideal) X1) (arg2.view.read (Elt Ideal) X2) (arg3.view.read (Elt Ideal) X3) b c (256 * k + (q.val * 8 + s.val)) := by
    intro n
    induction n with
    | zero => intro _; rw [Finset.sum_range_zero, add_zero]; rfl
    | succ n ih =>
      intro hn
      rw [show pb_k0_t1 (F := Ideal) 𝒱 cd bd i arg1 harg1 arg2 harg2 arg3 harg3 arg4 harg4 arg5 harg5 arg6 harg6 arg7 harg7 arg8 harg8 arg9 harg9 X1 X2 X3 arg4.view.junk arg8.view.junk G9 (n + 1) = _ from
        pb_k0_t1_succ (F := Ideal) 𝒱 cd bd i arg1 harg1 arg2 harg2 arg3 harg3 arg4 harg4 arg5 harg5 arg6 harg6 arg7 harg7 arg8 harg8 arg9 harg9 X1 X2 X3 arg4.view.junk arg8.view.junk G9 ⟨n, hn⟩]
      dsimp only
      rw [View.writes_append, trip9, ih (by omega), Finset.sum_range_succ, add_assoc]
  exact key 16 (by decide +kernel)

/-- The input gradient's block after the loop. -/
theorem pieces4_apply (f : BufTy.Contents (Elt Ideal) arg4.view.ty) (h : Fin 2) (n : Fin 4096) (c : Fin 128) :
    arg4.view.read (Elt Ideal) (arg4.view.writes (Elt Ideal) f (pieces4 (F := Ideal) 𝒱 cd bd i arg1 harg1 arg2 harg2 arg3 harg3 arg4 harg4 arg5 harg5 arg6 harg6 arg7 harg7 arg8 harg8 arg9 harg9 X1 X2 X3)) (ix3 h n c)
      = row4 (arg1.view.read (Elt Ideal) X1) (arg2.view.read (Elt Ideal) X2) (arg3.view.read (Elt Ideal) X3) h c n.val := by
  unfold pieces4
  have key : ∀ t, t ≤ k0_t1_loop.trips → n.val < 256 * t →
      arg4.view.read (Elt Ideal) (arg4.view.writes (Elt Ideal) f (pb_k0_t1 (F := Ideal) 𝒱 cd bd i arg1 harg1 arg2 harg2 arg3 harg3 arg4 harg4 arg5 harg5 arg6 harg6 arg7 harg7 arg8 harg8 arg9 harg9 X1 X2 X3 arg4.view.junk arg8.view.junk arg9.view.junk t).1) (ix3 h n c)
        = row4 (arg1.view.read (Elt Ideal) X1) (arg2.view.read (Elt Ideal) X2) (arg3.view.read (Elt Ideal) X3) h c n.val := by
    intro t
    induction t with
    | zero => intro _ h0; omega
    | succ t ih =>
      intro ht hlt
      rw [show pb_k0_t1 (F := Ideal) 𝒱 cd bd i arg1 harg1 arg2 harg2 arg3 harg3 arg4 harg4 arg5 harg5 arg6 harg6 arg7 harg7 arg8 harg8 arg9 harg9 X1 X2 X3 arg4.view.junk arg8.view.junk arg9.view.junk (t + 1) = _ from
        pb_k0_t1_succ (F := Ideal) 𝒱 cd bd i arg1 harg1 arg2 harg2 arg3 harg3 arg4 harg4 arg5 harg5 arg6 harg6 arg7 harg7 arg8 harg8 arg9 harg9 X1 X2 X3 arg4.view.junk arg8.view.junk arg9.view.junk ⟨t, ht⟩]
      dsimp only
      rw [trip4]
      by_cases hc : 256 * t ≤ n.val
      · rw [if_pos ⟨hc, by show n.val < 256 * t + 256; omega⟩]
      · rw [if_neg fun hh => hc hh.1, ih (by omega) (by omega)]
  exact key 16 (by decide +kernel) (by have := n.isLt; omega)

end Cert.KernelIdeal.GluBwd
-- ==== Proof.GluRun.lean ====
module

public import proofs.«01_k».proof.Proof.Gen.KernelIdeal.Frame.Runs
public import proofs.«01_k».proof.Proof.GluExit

@[expose] public section

set_option maxRecDepth 16384

noncomputable section

namespace Cert.KernelIdeal.GluBwd

open Cert.KernelIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's whole run on whole buffers: the pieces it stores into each of the four outputs (last first), and the proof
    that it ends with the inputs as they were and those pieces written. -/
noncomputable def kernelRun0_A (c : Dev nD) (i : grid0.Coords) (arg1 : Memref sig .tc .vmem S2x4096x128 .bf16) (harg1 : arg1.IsWhole) (arg2 : Memref sig .tc .vmem S4096x128 .f32) (harg2 : arg2.IsWhole) (arg3 : Memref sig .tc .vmem S31x128 .f32) (harg3 : arg3.IsWhole) (arg4 : Memref sig .tc .vmem S2x4096x128 .bf16) (harg4 : arg4.IsWhole) (arg5 : Memref sig .tc .vmem S31x128 .f32) (harg5 : arg5.IsWhole) (arg6 : Memref sig .tc .vmem S1x128 .f32) (harg6 : arg6.IsWhole) (arg7 : Memref sig .tc .vmem S2x1x128 .f32) (harg7 : arg7.IsWhole) (arg8 : Memref sig .tc .vmem S31x8x128 .f32) (harg8 : arg8.IsWhole) (arg9 : Memref sig .tc .vmem S3x8x128 .f32) (harg9 : arg9.IsWhole)
    (x0 : Vec F S2x4096x128 .bf16) (x1 : Vec F S4096x128 .f32) (x2 : Vec F S31x128 .f32) :
    Σ' (L3 : List (View.Piece (Elt F) S2x4096x128 .bf16)), Σ' (L4 : List (View.Piece (Elt F) S31x128 .f32)), Σ' (L5 : List (View.Piece (Elt F) S1x128 .f32)), { L6 : List (View.Piece (Elt F) S2x1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ d, owns (c : Thread nD τ) arg8 fullShare d) ∗ (∃ d, owns (c : Thread nD τ) arg9 fullShare d)) -∗ K ⟨⟩))
          ⊢ wp frame (wpE (defs₀ (F := F)) Variants.none c none) E (cc0_glu_conv_bwd i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_glu_conv_bwd_eq_skeleton]; unfold cc0_glu_conv_bwd_skel
    simp only [k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2
    sl_exec
    sl_step
    iapply Hk
    isplitl [HL0]
    · iexists _; isplitr; · ipureintro; exact harg1.read_unread _
      iexact HL0
    isplitl [HL1]
    · iexists _; isplitr; · ipureintro; exact harg2.read_unread _
      iexact HL1
    isplitl [HL2]
    · iexists _; isplitr; · ipureintro; exact harg3.read_unread _
      iexact HL2
    isplitl [HL3]; · iexists _; iexact HL3
    isplitl [H4]; · iexists _; iexact H4
    isplitl [H5]; · iexists _; iexact H5
    isplitl [H6]; · iexists _; iexact H6
    isplitl [HL4]
    · iexists _, _; isplitr; swap; · iexact HL4
      ipureintro; rfl
    iexists _, _; isplitr; swap; · iexact HL5
    ipureintro; rfl

end Cert.KernelIdeal.GluBwd

end
-- ==== Proof.GluFrame.lean ====
module

public import proofs.«01_k».proof.Proof.GluRun
public import Idealize.ShloMosaic.Lib.Claim

@[expose] public section

set_option maxRecDepth 16384

noncomputable section

namespace Cert.KernelIdeal.GluBwd

open Cert.KernelIdeal.Gen

open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces stored into output 3 cover its block. -/
theorem cover0_A_3 (c : Dev nD) (i : grid0.Coords) (arg1 : Memref sig .tc .vmem S2x4096x128 .bf16) (harg1 : arg1.IsWhole) (arg2 : Memref sig .tc .vmem S4096x128 .f32) (harg2 : arg2.IsWhole) (arg3 : Memref sig .tc .vmem S31x128 .f32) (harg3 : arg3.IsWhole) (arg4 : Memref sig .tc .vmem S2x4096x128 .bf16) (harg4 : arg4.IsWhole) (arg5 : Memref sig .tc .vmem S31x128 .f32) (harg5 : arg5.IsWhole) (arg6 : Memref sig .tc .vmem S1x128 .f32) (harg6 : arg6.IsWhole) (arg7 : Memref sig .tc .vmem S2x1x128 .f32) (harg7 : arg7.IsWhole) (arg8 : Memref sig .tc .vmem S31x8x128 .f32) (harg8 : arg8.IsWhole) (arg9 : Memref sig .tc .vmem S3x8x128 .f32) (harg9 : arg9.IsWhole)
    (x0 : Vec F S2x4096x128 .bf16) (x1 : Vec F S4096x128 .f32) (x2 : Vec F S31x128 .f32) (y : S2x4096x128.Idx) :
    ∃ pc ∈ (kernelRun0_A c i arg1 harg1 arg2 harg2 arg3 harg3 arg4 harg4 arg5 harg5 arg6 harg6 arg7 harg7 arg8 harg8 arg9 harg9 x0 x1 x2).1, y ∈ pc.1.set :=
  View.cover_of_tiledL (kernelRun0_A c i arg1 harg1 arg2 harg2 arg3 harg3 arg4 harg4 arg5 harg5 arg6 harg6 arg7 harg7 arg8 harg8 arg9 harg9 x0 x1 x2).1 S1x256x128.size (by sl_kernel_rfl) y

/-- What the run leaves in output 3's staging buffer: its pieces read back over junk. -/
def out0_A_3 (c : Dev nD) (i : grid0.Coords) (arg1 : Memref sig .tc .vmem S2x4096x128 .bf16) (harg1 : arg1.IsWhole) (arg2 : Memref sig .tc .vmem S4096x128 .f32) (harg2 : arg2.IsWhole) (arg3 : Memref sig .tc .vmem S31x128 .f32) (harg3 : arg3.IsWhole) (arg4 : Memref sig .tc .vmem S2x4096x128 .bf16) (harg4 : arg4.IsWhole) (arg5 : Memref sig .tc .vmem S31x128 .f32) (harg5 : arg5.IsWhole) (arg6 : Memref sig .tc .vmem S1x128 .f32) (harg6 : arg6.IsWhole) (arg7 : Memref sig .tc .vmem S2x1x128 .f32) (harg7 : arg7.IsWhole) (arg8 : Memref sig .tc .vmem S31x8x128 .f32) (harg8 : arg8.IsWhole) (arg9 : Memref sig .tc .vmem S3x8x128 .f32) (harg9 : arg9.IsWhole)
    (x0 : Vec F S2x4096x128 .bf16) (x1 : Vec F S4096x128 .f32) (x2 : Vec F S31x128 .f32) : Vec F S2x4096x128 .bf16 :=
  VO0_3.read (Elt F) (VO0_3.writes (Elt F) VO0_3.junk (kernelRun0_A c i arg1 harg1 arg2 harg2 arg3 harg3 arg4 harg4 arg5 harg5 arg6 harg6 arg7 harg7 arg8 harg8 arg9 harg9 x0 x1 x2).1)

/-- The pieces stored into output 4 cover its block. -/
theorem cover0_A_4 (c : Dev nD) (i : grid0.Coords) (arg1 : Memref sig .tc .vmem S2x4096x128 .bf16) (harg1 : arg1.IsWhole) (arg2 : Memref sig .tc .vmem S4096x128 .f32) (harg2 : arg2.IsWhole) (arg3 : Memref sig .tc .vmem S31x128 .f32) (harg3 : arg3.IsWhole) (arg4 : Memref sig .tc .vmem S2x4096x128 .bf16) (harg4 : arg4.IsWhole) (arg5 : Memref sig .tc .vmem S31x128 .f32) (harg5 : arg5.IsWhole) (arg6 : Memref sig .tc .vmem S1x128 .f32) (harg6 : arg6.IsWhole) (arg7 : Memref sig .tc .vmem S2x1x128 .f32) (harg7 : arg7.IsWhole) (arg8 : Memref sig .tc .vmem S31x8x128 .f32) (harg8 : arg8.IsWhole) (arg9 : Memref sig .tc .vmem S3x8x128 .f32) (harg9 : arg9.IsWhole)
    (x0 : Vec F S2x4096x128 .bf16) (x1 : Vec F S4096x128 .f32) (x2 : Vec F S31x128 .f32) (y : S31x128.Idx) :
    ∃ pc ∈ (kernelRun0_A c i arg1 harg1 arg2 harg2 arg3 harg3 arg4 harg4 arg5 harg5 arg6 harg6 arg7 harg7 arg8 harg8 arg9 harg9 x0 x1 x2).2.1, y ∈ pc.1.set :=
  View.cover_of_tiledL (kernelRun0_A c i arg1 harg1 arg2 harg2 arg3 harg3 arg4 harg4 arg5 harg5 arg6 harg6 arg7 harg7 arg8 harg8 arg9 harg9 x0 x1 x2).2.1 S1x128.size (by sl_kernel_rfl) y

/-- What the run leaves in output 4's staging buffer: its pieces read back over junk. -/
def out0_A_4 (c : Dev nD) (i : grid0.Coords) (arg1 : Memref sig .tc .vmem S2x4096x128 .bf16) (harg1 : arg1.IsWhole) (arg2 : Memref sig .tc .vmem S4096x128 .f32) (harg2 : arg2.IsWhole) (arg3 : Memref sig .tc .vmem S31x128 .f32) (harg3 : arg3.IsWhole) (arg4 : Memref sig .tc .vmem S2x4096x128 .bf16) (harg4 : arg4.IsWhole) (arg5 : Memref sig .tc .vmem S31x128 .f32) (harg5 : arg5.IsWhole) (arg6 : Memref sig .tc .vmem S1x128 .f32) (harg6 : arg6.IsWhole) (arg7 : Memref sig .tc .vmem S2x1x128 .f32) (harg7 : arg7.IsWhole) (arg8 : Memref sig .tc .vmem S31x8x128 .f32) (harg8 : arg8.IsWhole) (arg9 : Memref sig .tc .vmem S3x8x128 .f32) (harg9 : arg9.IsWhole)
    (x0 : Vec F S2x4096x128 .bf16) (x1 : Vec F S4096x128 .f32) (x2 : Vec F S31x128 .f32) : Vec F S31x128 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 x0 x1 x2).2.1)

/-- The pieces stored into output 5 cover its block. -/
theorem cover0_A_5 (c : Dev nD) (i : grid0.Coords) (arg1 : Memref sig .tc .vmem S2x4096x128 .bf16) (harg1 : arg1.IsWhole) (arg2 : Memref sig .tc .vmem S4096x128 .f32) (harg2 : arg2.IsWhole) (arg3 : Memref sig .tc .vmem S31x128 .f32) (harg3 : arg3.IsWhole) (arg4 : Memref sig .tc .vmem S2x4096x128 .bf16) (harg4 : arg4.IsWhole) (arg5 : Memref sig .tc .vmem S31x128 .f32) (harg5 : arg5.IsWhole) (arg6 : Memref sig .tc .vmem S1x128 .f32) (harg6 : arg6.IsWhole) (arg7 : Memref sig .tc .vmem S2x1x128 .f32) (harg7 : arg7.IsWhole) (arg8 : Memref sig .tc .vmem S31x8x128 .f32) (harg8 : arg8.IsWhole) (arg9 : Memref sig .tc .vmem S3x8x128 .f32) (harg9 : arg9.IsWhole)
    (x0 : Vec F S2x4096x128 .bf16) (x1 : Vec F S4096x128 .f32) (x2 : Vec F S31x128 .f32) (y : S1x128.Idx) :
    ∃ pc ∈ (kernelRun0_A c i arg1 harg1 arg2 harg2 arg3 harg3 arg4 harg4 arg5 harg5 arg6 harg6 arg7 harg7 arg8 harg8 arg9 harg9 x0 x1 x2).2.2.1, y ∈ pc.1.set :=
  View.cover_of_tiledL (kernelRun0_A c i arg1 harg1 arg2 harg2 arg3 harg3 arg4 harg4 arg5 harg5 arg6 harg6 arg7 harg7 arg8 harg8 arg9 harg9 x0 x1 x2).2.2.1 S1x128.size (by sl_kernel_rfl) y

/-- What the run leaves in output 5's staging buffer: its pieces read back over junk. -/
def out0_A_5 (c : Dev nD) (i : grid0.Coords) (arg1 : Memref sig .tc .vmem S2x4096x128 .bf16) (harg1 : arg1.IsWhole) (arg2 : Memref sig .tc .vmem S4096x128 .f32) (harg2 : arg2.IsWhole) (arg3 : Memref sig .tc .vmem S31x128 .f32) (harg3 : arg3.IsWhole) (arg4 : Memref sig .tc .vmem S2x4096x128 .bf16) (harg4 : arg4.IsWhole) (arg5 : Memref sig .tc .vmem S31x128 .f32) (harg5 : arg5.IsWhole) (arg6 : Memref sig .tc .vmem S1x128 .f32) (harg6 : arg6.IsWhole) (arg7 : Memref sig .tc .vmem S2x1x128 .f32) (harg7 : arg7.IsWhole) (arg8 : Memref sig .tc .vmem S31x8x128 .f32) (harg8 : arg8.IsWhole) (arg9 : Memref sig .tc .vmem S3x8x128 .f32) (harg9 : arg9.IsWhole)
    (x0 : Vec F S2x4096x128 .bf16) (x1 : Vec F S4096x128 .f32) (x2 : Vec F S31x128 .f32) : Vec F S1x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 x0 x1 x2).2.2.1)

/-- The pieces stored into output 6 cover its block. -/
theorem cover0_A_6 (c : Dev nD) (i : grid0.Coords) (arg1 : Memref sig .tc .vmem S2x4096x128 .bf16) (harg1 : arg1.IsWhole) (arg2 : Memref sig .tc .vmem S4096x128 .f32) (harg2 : arg2.IsWhole) (arg3 : Memref sig .tc .vmem S31x128 .f32) (harg3 : arg3.IsWhole) (arg4 : Memref sig .tc .vmem S2x4096x128 .bf16) (harg4 : arg4.IsWhole) (arg5 : Memref sig .tc .vmem S31x128 .f32) (harg5 : arg5.IsWhole) (arg6 : Memref sig .tc .vmem S1x128 .f32) (harg6 : arg6.IsWhole) (arg7 : Memref sig .tc .vmem S2x1x128 .f32) (harg7 : arg7.IsWhole) (arg8 : Memref sig .tc .vmem S31x8x128 .f32) (harg8 : arg8.IsWhole) (arg9 : Memref sig .tc .vmem S3x8x128 .f32) (harg9 : arg9.IsWhole)
    (x0 : Vec F S2x4096x128 .bf16) (x1 : Vec F S4096x128 .f32) (x2 : Vec F S31x128 .f32) (y : S2x1x128.Idx) :
    ∃ pc ∈ (kernelRun0_A c i arg1 harg1 arg2 harg2 arg3 harg3 arg4 harg4 arg5 harg5 arg6 harg6 arg7 harg7 arg8 harg8 arg9 harg9 x0 x1 x2).2.2.2.1, y ∈ pc.1.set :=
  View.cover_of_tiledL (kernelRun0_A c i arg1 harg1 arg2 harg2 arg3 harg3 arg4 harg4 arg5 harg5 arg6 harg6 arg7 harg7 arg8 harg8 arg9 harg9 x0 x1 x2).2.2.2.1 S1x1x128.size (by sl_kernel_rfl) y

/-- What the run leaves in output 6's staging buffer: its pieces read back over junk. -/
def out0_A_6 (c : Dev nD) (i : grid0.Coords) (arg1 : Memref sig .tc .vmem S2x4096x128 .bf16) (harg1 : arg1.IsWhole) (arg2 : Memref sig .tc .vmem S4096x128 .f32) (harg2 : arg2.IsWhole) (arg3 : Memref sig .tc .vmem S31x128 .f32) (harg3 : arg3.IsWhole) (arg4 : Memref sig .tc .vmem S2x4096x128 .bf16) (harg4 : arg4.IsWhole) (arg5 : Memref sig .tc .vmem S31x128 .f32) (harg5 : arg5.IsWhole) (arg6 : Memref sig .tc .vmem S1x128 .f32) (harg6 : arg6.IsWhole) (arg7 : Memref sig .tc .vmem S2x1x128 .f32) (harg7 : arg7.IsWhole) (arg8 : Memref sig .tc .vmem S31x8x128 .f32) (harg8 : arg8.IsWhole) (arg9 : Memref sig .tc .vmem S3x8x128 .f32) (harg9 : arg9.IsWhole)
    (x0 : Vec F S2x4096x128 .bf16) (x1 : Vec F S4096x128 .f32) (x2 : Vec F S31x128 .f32) : Vec F S2x1x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 x0 x1 x2).2.2.2.1)

/-! ## What the outputs hold after each point -/

/-- What the outputs' staging buffers hold after the body at point `t` (as a tuple, in window order): the run's contents at
    the point's memrefs and input blocks. -/
def outsAt0 (c : Dev nD) (t : Fin cfg0.N) : Vec F S2x4096x128 .bf16 × Vec F S31x128 .f32 × Vec F S1x128 .f32 × Vec F S2x1x128 .f32 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t))

/-! ## The pipeline's proof data -/

/-- The pipeline's proof data: arrays as the region finds them, inputs left at their blocks, outputs at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2.1
    | ⟨5, _⟩ => (outsAt0 m c t).2.2.1
    | ⟨6, _⟩ => (outsAt0 m c t).2.2.2
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2.1 := by dsimp only [dats]
theorem after0_5 (c : Dev nD) (t : Fin cfg0.N) : (dats m 0 c).after 5 t = (outsAt0 m c t).2.2.1 := by dsimp only [dats]
theorem after0_6 (c : Dev nD) (t : Fin cfg0.N) : (dats m 0 c).after 6 t = (outsAt0 m c t).2.2.2 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body runs at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_3 out0_A_4 out0_A_5 out0_A_6; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t)).2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, ⟨%e3, H3⟩, ⟨%e4, H4⟩, ⟨%e5, H5⟩, ⟨%e6, H6⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the run ends with the pipeline's arrays named and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.GluBwd

end
-- ==== Proof.GluValue.lean ====
module

public import proofs.«01_k».proof.Proof.GluFrame
public import Idealize.ShloMosaic.Lib.Pipeline.Value

@[expose] public section

noncomputable section

namespace Cert.KernelIdeal.GluBwd

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output 3. -/
theorem flushed3 (c : Dev nD) (t : Fin cfg0.N) :
    (dats m 0 c).flushed 3 t = (cfg0.win 3).cut (grid0.coords t) ((outsAt0 m c t).1) := by
  show (cfg0.win 3).cut (grid0.coords t) ((dats m 0 c).after 3 t) = _
  rw [after0_3]

/-- The same, by name. -/
theorem flushed3_A (c : Dev nD) (t : Fin cfg0.N) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t)) := by
  simp only [flushed3, outsAt0]

/-- Distinct points have distinct blocks. -/
theorem idx_inj3 : ∀ t t' : Fin cfg0.N, win0_3.index t = win0_3.index t' → t = t' :=
  (by decide +kernel : ∀ t t' : Fin grid0.N, win0_3.index t = win0_3.index t' → t = t')

/-- So the points write disjoint blocks. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- Block `t` of the final array is what point `t` wrote back. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- What point `t` writes back to output 4. -/
theorem flushed4 (c : Dev nD) (t : Fin cfg0.N) :
    (dats m 0 c).flushed 4 t = (cfg0.win 4).cut (grid0.coords t) ((outsAt0 m c t).2.1) := by
  show (cfg0.win 4).cut (grid0.coords t) ((dats m 0 c).after 4 t) = _
  rw [after0_4]

/-- The same, by name. -/
theorem flushed4_A (c : Dev nD) (t : Fin cfg0.N) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t)) := by
  simp only [flushed4, outsAt0]

/-- Distinct points have distinct blocks. -/
theorem idx_inj4 : ∀ t t' : Fin cfg0.N, win0_4.index t = win0_4.index t' → t = t' :=
  (by decide +kernel : ∀ t t' : Fin grid0.N, win0_4.index t = win0_4.index t' → t = t')

/-- So the points write disjoint blocks. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- Block `t` of the final array is what point `t` wrote back. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- What point `t` writes back to output 5. -/
theorem flushed5 (c : Dev nD) (t : Fin cfg0.N) :
    (dats m 0 c).flushed 5 t = (cfg0.win 5).cut (grid0.coords t) ((outsAt0 m c t).2.2.1) := by
  show (cfg0.win 5).cut (grid0.coords t) ((dats m 0 c).after 5 t) = _
  rw [after0_5]

/-- The same, by name. -/
theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t)) := by
  simp only [flushed5, outsAt0]

/-- Distinct points have distinct blocks. -/
theorem idx_inj5 : ∀ t t' : Fin cfg0.N, win0_5.index t = win0_5.index t' → t = t' :=
  (by decide +kernel : ∀ t t' : Fin grid0.N, win0_5.index t = win0_5.index t' → t = t')

/-- So the points write disjoint blocks. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- Block `t` of the final array is what point `t` wrote back. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- What point `t` writes back to output 6. -/
theorem flushed6 (c : Dev nD) (t : Fin cfg0.N) :
    (dats m 0 c).flushed 6 t = (cfg0.win 6).cut (grid0.coords t) ((outsAt0 m c t).2.2.2) := by
  show (cfg0.win 6).cut (grid0.coords t) ((dats m 0 c).after 6 t) = _
  rw [after0_6]

/-- The same, by name. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t)) := by
  simp only [flushed6, outsAt0]

/-- Distinct points have distinct blocks. -/
theorem idx_inj6 : ∀ t t' : Fin cfg0.N, win0_6.index t = win0_6.index t' → t = t' :=
  (by decide +kernel : ∀ t t' : Fin grid0.N, win0_6.index t = win0_6.index t' → t = t')

/-- So the points write disjoint blocks. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- Block `t` of the final array is what point `t` wrote back. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v3_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v3_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_3) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 1 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 1).trans (((dats m 0 c).arrAt_in 1 rfl _).trans ((A_eq m c 1).trans (V_main_arg3 m c)))

/-- The run, with each output array named and the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_v3_2) = (dats m 0 c).arrAt 5 cfg0.N
      ∧ r.2.mem ((c : Thread nD τ).loc main_v3_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post3 m r h c,
      post4 m r h c,
      post5 m r h c,
      post6 m r h c,
      kept_main_arg0 m r h c,
      kept_main_arg1 m r h c,
      kept_main_arg2 m r h c,
      kept_main_arg3 m r h c⟩)
    (run_main m ρ)

end Cert.KernelIdeal.GluBwd

end
-- ==== Proof.GluOut.lean ====
module
public import proofs.«01_k».proof.Proof.GluSum
public import proofs.«01_k».proof.Proof.GluValue
@[expose] public section
set_option maxRecDepth 16384
noncomputable section
set_option maxHeartbeats 4000000

/-! # What one grid point leaves in each output's block -/

namespace Cert.KernelIdeal.GluBwd

open Idealize.ShloMosaic TcCoe Tactic
open Cert.KernelIdeal.Gen

variable (c : Dev nD) (i : grid0.Coords) (arg1 : Memref sig .tc .vmem S2x4096x128 .bf16) (harg1 : arg1.IsWhole) (arg2 : Memref sig .tc .vmem S4096x128 .f32) (harg2 : arg2.IsWhole)
  (arg3 : Memref sig .tc .vmem S31x128 .f32) (harg3 : arg3.IsWhole) (arg4 : Memref sig .tc .vmem S2x4096x128 .bf16) (harg4 : arg4.IsWhole) (arg5 : Memref sig .tc .vmem S31x128 .f32) (harg5 : arg5.IsWhole)
  (arg6 : Memref sig .tc .vmem S1x128 .f32) (harg6 : arg6.IsWhole) (arg7 : Memref sig .tc .vmem S2x1x128 .f32) (harg7 : arg7.IsWhole)
  (arg8 : Memref sig .tc .vmem S31x8x128 .f32) (harg8 : arg8.IsWhole) (arg9 : Memref sig .tc .vmem S3x8x128 .f32) (harg9 : arg9.IsWhole)
  (x0 : Vec Ideal S2x4096x128 .bf16) (x1 : Vec Ideal S4096x128 .f32) (x2 : Vec Ideal S31x128 .f32)

/-- Row `n`'s part of the gradient of tap `j`. -/
def row8 (x0 : Vec Ideal S2x4096x128 .bf16) (x1 : Vec Ideal S4096x128 .f32) (j : ℕ) (c : Fin 128) (n : ℕ) : EReal :=
  ctg x1 c n * (late (half x0 0 c) (n + j + 2) * sgm (late (half x0 1 c) (n + j + 2)))

/-- The input gradient's block. -/
theorem out3_apply (h : Fin 2) (n : Fin 4096) (cc : Fin 128) :
    out0_A_3 c i arg1 harg1 arg2 harg2 arg3 harg3 arg4 harg4 arg5 harg5 arg6 harg6 arg7 harg7 arg8 harg8 arg9 harg9 x0 x1 x2 (ix3 h n cc) = row4 x0 x1 x2 h cc n.val := by
  unfold out0_A_3
  have key := pieces4_apply arg1 arg2 arg3 (harg1.unread x0) (harg2.unread x1) (harg3.unread x2) Variants.none c none i harg1 harg2 harg3 arg4 harg4 arg5 harg5 arg6 harg6 arg7 harg7 arg8 harg8 arg9 harg9 arg4.view.junk h n cc
  rw [harg1.read_unread, harg2.read_unread, harg3.read_unread] at key
  rw [← key]
  have hc := cover0_A_3 c i arg1 harg1 arg2 harg2 arg3 harg3 arg4 harg4 arg5 harg5 arg6 harg6 arg7 harg7 arg8 harg8 arg9 harg9 x0 x1 x2 (ix3 h n cc)
  exact (View.read_writes_apply_eq_canon _ _ _ _ hc).trans (View.read_writes_apply_eq_canon _ _ _ _ hc).symm

/-- A stored row of the tap gradient, by its number. -/
theorem tile5 (j : Fin 31) (cc : Fin 128) (n : ℕ) (w : S1x128.Idx → EReal) (v : EReal) (H : j.val = n → w (ix2 0 cc) = v) :
    View.TileAt (S := S31x128) (e := .f32) (Val := Elt Ideal) (ix2 j cc) ![n, 0] ![1, 128] w v := by
  intro x h
  have h0 : j.val = n + (x 0).val := h 0
  have h1 : cc.val = 0 + (x 1).val := h 1
  have b0 : (x 0).val < 1 := (x 0).isLt
  have hx : x = ix2 0 cc := funext fun a => Fin.ext (by
    match a with
    | 0 => show (x 0).val = 0; omega
    | 1 => show (x 1).val = cc.val; omega)
  rw [hx]
  exact H (by omega)

/-- A whole buffer filled with zeros reads zero. -/
theorem zeros8 (y : S31x8x128.Idx) : arg8.view.read (Elt Ideal) (arg8.view.writes (Elt Ideal) arg8.view.junk (kernelRun0_A.sl.HS0_1 (F := Ideal))) y = 0 := by
  unfold kernelRun0_A.sl.HS0_1
  refine (View.read_writes_cons_unit_of_mem _ _ _ _ _ _ y rfl fun a => ?_).trans ?_
  · match a with
    | 0 => exact (Nat.zero_add _).symm
    | 1 => exact (Nat.zero_add _).symm
    | 2 => exact (Nat.zero_add _).symm
  · exact Ideal.ofBits_zero .f32

theorem zeros9 (y : S3x8x128.Idx) : arg9.view.read (Elt Ideal) (arg9.view.writes (Elt Ideal) arg9.view.junk (kernelRun0_A.sl.HS1_1 (F := Ideal))) y = 0 := by
  unfold kernelRun0_A.sl.HS1_1
  refine (View.read_writes_cons_unit_of_mem _ _ _ _ _ _ y rfl fun a => ?_).trans ?_
  · match a with
    | 0 => exact (Nat.zero_add _).symm
    | 1 => exact (Nat.zero_add _).symm
    | 2 => exact (Nat.zero_add _).symm
  · exact Ideal.ofBits_zero .f32

/-- The tap accumulators at the end of the point. -/
theorem slots8 (j : Fin 31) (s : Fin 8) (cc : Fin 128) :
    arg8.view.read (Elt Ideal) (end8 (F := Ideal) Variants.none c none i arg1 harg1 arg2 harg2 arg3 harg3 arg4 harg4 arg5 harg5 arg6 harg6 arg7 harg7 arg8 harg8 arg9 harg9 (harg1.unread x0) (harg2.unread x1) (harg3.unread x2) (arg8.view.writes (Elt Ideal) arg8.view.junk kernelRun0_A.sl.HS0_1)) (ix3 j s cc)
      = ∑ k ∈ Finset.range 16, ∑ q : Fin 32, row8 x0 x1 j cc (256 * k + (q.val * 8 + s.val)) := by
  rw [end8_apply, zeros8, zero_add, harg1.read_unread, harg2.read_unread]
  rfl

theorem slots9 (b : Fin 3) (s : Fin 8) (cc : Fin 128) :
    arg9.view.read (Elt Ideal) (end9 (F := Ideal) Variants.none c none i arg1 harg1 arg2 harg2 arg3 harg3 arg4 harg4 arg5 harg5 arg6 harg6 arg7 harg7 arg8 harg8 arg9 harg9 (harg1.unread x0) (harg2.unread x1) (harg3.unread x2) (arg9.view.writes (Elt Ideal) arg9.view.junk kernelRun0_A.sl.HS1_1)) (ix3 b s cc)
      = ∑ k ∈ Finset.range 16, ∑ q : Fin 32, row9 x0 x1 x2 b cc (256 * k + (q.val * 8 + s.val)) := by
  rw [end9_apply, zeros9, zero_add, harg1.read_unread, harg2.read_unread, harg3.read_unread]

/-- The tap gradient's block. -/
theorem out4_apply (j : Fin 31) (cc : Fin 128) :
    out0_A_4 c i arg1 harg1 arg2 harg2 arg3 harg3 arg4 harg4 arg5 harg5 arg6 harg6 arg7 harg7 arg8 harg8 arg9 harg9 x0 x1 x2 (ix2 j cc) = ∑ n ∈ Finset.range 4096, row8 x0 x1 j cc n := by
  unfold out0_A_4
  refine read_of_allAt _ _ _ _ _ (cover0_A_4 c i arg1 harg1 arg2 harg2 arg3 harg3 arg4 harg4 arg5 harg5 arg6 harg6 arg7 harg7 arg8 harg8 arg9 harg9 x0 x1 x2 _) ?_
  unfold kernelRun0_A
  dsimp only
  simp only [kernelRun0_A.sl.r, kernelRun0_A.sl.r_1, kernelRun0_A.sl.r_2, kernelRun0_A.sl.r_3, kernelRun0_A.sl.r_4, kernelRun0_A.sl.r_5]
  simp only [kernelRun0_A.sl.v9, kernelRun0_A.sl.v14, kernelRun0_A.sl.v19, kernelRun0_A.sl.v24, kernelRun0_A.sl.v29, kernelRun0_A.sl.v34, kernelRun0_A.sl.v39, kernelRun0_A.sl.v44, kernelRun0_A.sl.v49, kernelRun0_A.sl.v54, kernelRun0_A.sl.v59, kernelRun0_A.sl.v64, kernelRun0_A.sl.v69, kernelRun0_A.sl.v74, kernelRun0_A.sl.v79, kernelRun0_A.sl.v84, kernelRun0_A.sl.v89, kernelRun0_A.sl.v94, kernelRun0_A.sl.v99, kernelRun0_A.sl.v104, kernelRun0_A.sl.v109, kernelRun0_A.sl.v114, kernelRun0_A.sl.v119, kernelRun0_A.sl.v124, kernelRun0_A.sl.v129, kernelRun0_A.sl.v134, kernelRun0_A.sl.v139, kernelRun0_A.sl.v144, kernelRun0_A.sl.v149, kernelRun0_A.sl.v154, kernelRun0_A.sl.v159]
  have h8 := slots8 c i arg1 harg1 arg2 harg2 arg3 harg3 arg4 harg4 arg5 harg5 arg6 harg6 arg7 harg7 arg8 harg8 arg9 harg9 x0 x1 x2
  generalize end8 (F := Ideal) Variants.none c none i arg1 harg1 arg2 harg2 arg3 harg3 arg4 harg4 arg5 harg5 arg6 harg6 arg7 harg7 arg8 harg8 arg9 harg9 (harg1.unread x0) (harg2.unread x1) (harg3.unread x2) _ = e at h8 ⊢
  rw [← sum_sublanes]
  iterate 31 (refine View.allAt_cons_unit _ _ _ _ _ (tile5 _ _ _ _ _ fun hj => ?_) ?_; · open_payloads; pointwise; exact Finset.sum_congr rfl fun s _ => (congrArg (fun t : Fin 31 => arg8.view.read (Elt Ideal) e (ix3 t s cc)) (Fin.ext hj).symm).trans (h8 j s cc))
  exact View.allAt_nil _ _

/-- The convolution bias's gradient. -/
theorem out5_apply (cc : Fin 128) :
    out0_A_5 c i arg1 harg1 arg2 harg2 arg3 harg3 arg4 harg4 arg5 harg5 arg6 harg6 arg7 harg7 arg8 harg8 arg9 harg9 x0 x1 x2 (ix2 0 cc) = ∑ n ∈ Finset.range 4096, ctg x1 cc n := by
  unfold out0_A_5 kernelRun0_A
  dsimp only
  refine (View.read_writes_cons_unit_of_mem _ _ _ _ _ _ (ix2 0 cc) rfl fun a => ?_).trans ?_
  · match a with
    | 0 => rfl
    | 1 => exact (Nat.zero_add _).symm
  simp only [kernelRun0_A.sl.v164]
  have h9 := slots9 c i arg1 harg1 arg2 harg2 arg3 harg3 arg4 harg4 arg5 harg5 arg6 harg6 arg7 harg7 arg8 harg8 arg9 harg9 x0 x1 x2
  generalize end9 (F := Ideal) Variants.none c none i arg1 harg1 arg2 harg2 arg3 harg3 arg4 harg4 arg5 harg5 arg6 harg6 arg7 harg7 arg8 harg8 arg9 harg9 (harg1.unread x0) (harg2.unread x1) (harg3.unread x2) _ = e at h9 ⊢
  rw [← sum_sublanes]
  open_payloads
  pointwise
  exact Finset.sum_congr rfl fun s _ => h9 0 s cc

/-- The input bias's gradient. -/
theorem out6_apply (h : Fin 2) (cc : Fin 128) :
    out0_A_6 c i arg1 harg1 arg2 harg2 arg3 harg3 arg4 harg4 arg5 harg5 arg6 harg6 arg7 harg7 arg8 harg8 arg9 harg9 x0 x1 x2 (ix3 h 0 cc) = ∑ n ∈ Finset.range 4096, row4 x0 x1 x2 h cc n := by
  unfold out0_A_6 kernelRun0_A
  dsimp only
  have h9 := slots9 c i arg1 harg1 arg2 harg2 arg3 harg3 arg4 harg4 arg5 harg5 arg6 harg6 arg7 harg7 arg8 harg8 arg9 harg9 x0 x1 x2
  match h with
  | 1 =>
    refine (View.read_writes_cons_unit_of_mem _ _ _ _ _ _ (ix3 0 0 cc) rfl fun a => ?_).trans ?_
    · match a with
      | 0 => rfl
      | 1 => rfl
      | 2 => exact (Nat.zero_add _).symm
    simp only [kernelRun0_A.sl.v176]
    generalize end9 (F := Ideal) Variants.none c none i arg1 harg1 arg2 harg2 arg3 harg3 arg4 harg4 arg5 harg5 arg6 harg6 arg7 harg7 arg8 harg8 arg9 harg9 (harg1.unread x0) (harg2.unread x1) (harg3.unread x2) _ = e at h9 ⊢
    rw [← sum_sublanes]
    open_payloads
    pointwise
    exact Finset.sum_congr rfl fun s _ => h9 2 s cc
  | 0 =>
    refine (View.read_writes_cons_unit_of_not_mem _ _ _ _ _ _ rfl 0 (Or.inl Nat.zero_lt_one)).trans ?_
    refine (View.read_writes_cons_unit_of_mem _ _ _ _ _ _ (ix3 0 0 cc) rfl fun a => ?_).trans ?_
    · match a with
      | 0 => rfl
      | 1 => rfl
      | 2 => exact (Nat.zero_add _).symm
    simp only [kernelRun0_A.sl.r_6, kernelRun0_A.sl.v169]
    generalize end9 (F := Ideal) Variants.none c none i arg1 harg1 arg2 harg2 arg3 harg3 arg4 harg4 arg5 harg5 arg6 harg6 arg7 harg7 arg8 harg8 arg9 harg9 (harg1.unread x0) (harg2.unread x1) (harg3.unread x2) _ = e at h9 ⊢
    rw [← sum_sublanes]
    open_payloads
    pointwise
    exact Finset.sum_congr rfl fun s _ => h9 1 s cc

end Cert.KernelIdeal.GluBwd
-- ==== Proof.GluCol.lean ====
module
public import Idealize.ShloMosaic.Lib.Ring
public import Idealize.ShloMosaic.Lib.Pipeline.ValueKit
@[expose] public section
noncomputable section

/-! # The gradients of one column, as functions of the row

The gated depthwise convolution treats its columns separately. What both programs compute is stated here once, for one
column: its value half `a`, its gate half `b`, its taps `w` and its cotangent `g`, each a function of a natural number
that is zero past the operand's last row. -/

namespace Cert.GluCol

open Idealize.ShloMosaic

/-- The logistic function. -/
def gate (x : EReal) : EReal := Ideal.div 1 (1 + Ideal.exp (-x))

/-- A column read 30 rows late, with zeros before its first row. -/
def past (f : ℕ → EReal) (n : ℕ) : EReal := if n < 30 then 0 else f (n - 30)

/-- The gradient of the gated input at row `n`: the convolution of the cotangent with the taps turned round. -/
def dgated (w g : ℕ → EReal) (n : ℕ) : EReal := ∑ j ∈ Finset.range 31, w j * g (n + (30 - j))

/-- The gradient of half `h` of the input at row `n`. -/
def drow (a b w g : ℕ → EReal) (h : Fin 2) (n : ℕ) : EReal :=
  match h with
  | 0 => dgated w g n * gate (b n)
  | 1 => dgated w g n * a n * gate (b n) * (1 - gate (b n))

/-- Row `n`'s part of the gradient of tap `j`. -/
def dtap (a b g : ℕ → EReal) (j n : ℕ) : EReal := g n * past (fun i => a i * gate (b i)) (n + j)

/-- Column `c` of half `h` of the product plus its bias. -/
def ucol (p : (⟨3, ![2, 4096, 2048]⟩ : Shape).Idx → EReal) (b : (⟨3, ![2, 1, 2048]⟩ : Shape).Idx → EReal)
    (h : Fin 2) (c : Fin 2048) (n : ℕ) : EReal :=
  if hn : n < 4096 then p (ix3 h ⟨n, hn⟩ c) + b (ix3 h 0 c) else 0

/-- Column `c` of the cotangent. -/
def gcol (g : (⟨2, ![4096, 2048]⟩ : Shape).Idx → EReal) (c : Fin 2048) (n : ℕ) : EReal :=
  if hn : n < 4096 then g (ix2 ⟨n, hn⟩ c) else 0

/-- Column `c` of the taps. -/
def wcol (w : (⟨2, ![31, 2048]⟩ : Shape).Idx → EReal) (c : Fin 2048) (j : ℕ) : EReal :=
  if hj : j < 31 then w (ix2 ⟨j, hj⟩ c) else 0

end Cert.GluCol

end
-- ==== Proof.GluArr.lean ====
module
public import proofs.«01_k».proof.Proof.GluOut
public import proofs.«01_k».proof.Proof.GluCol
public import Idealize.ShloMosaic.Lib.Claim
@[expose] public section
set_option maxRecDepth 16384
noncomputable section
set_option maxHeartbeats 4000000

/-! # The kernel's four result arrays, read at an index -/

namespace Cert.KernelIdeal.GluBwd

open Idealize.ShloMosaic TcCoe Tactic
open Cert.KernelIdeal.Gen Cert.GluCol

variable (m : (ℓ : Loc nD τ sig) → Buf (Elt Ideal) ℓ) (c : Dev nD)

/-- The column of the whole array that is column `cc` of block `t`. -/
def col (t : Fin cfg0.N) (cc : Fin 128) : Fin 2048 := ⟨128 * t.val + cc.val, by
  have h : t.val < 16 := t.isLt
  omega⟩

theorem index0 : ∀ t : Fin cfg0.N, win0_0.index t = ![0, 0, t.val] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)

/-- A column of the two-part input's block. -/
theorem half_blk (t : Fin cfg0.N) (h : Fin 2) (cc : Fin 128) :
    half (iblk m c 0 t) h cc = ucol (m ((c : Thread nD τ).loc main_arg0)) (m ((c : Thread nD τ).loc main_arg1)) h (col t cc) := by
  funext n
  unfold half ucol
  split
  · next hn =>
    blk_simp [iblk]
    entry_read
    pointwise
    refine congrArg₂ (· + ·) (congrArg (m (c, Proc.tc.devRef main_arg0)) ?_) (congrArg (m (c, Proc.tc.devRef main_arg1)) ?_)
    · blk_ext [index0, col]
    · blk_ext [index0, col]
  · rfl

/-- A column of the cotangent's block. -/
theorem ctg_blk (t : Fin cfg0.N) (cc : Fin 128) :
    ctg (iblk m c 1 t) cc = gcol (m ((c : Thread nD τ).loc main_arg3)) (col t cc) := by
  funext n
  unfold ctg gcol
  split
  · next hn =>
    blk_simp [iblk]
    rw [show V m c (Pipeline.arrRef spec0 1) = _ from V_main_arg3 m c]
    refine congrArg (m ((c : Thread nD τ).loc main_arg3)) ?_
    blk_ext [index1, col]
  · rfl

/-- A column of the taps' block. -/
theorem tap_blk (t : Fin cfg0.N) (cc : Fin 128) :
    tap (iblk m c 2 t) cc = wcol (m ((c : Thread nD τ).loc main_arg2)) (col t cc) := by
  funext n
  unfold tap wcol
  split
  · next hn =>
    blk_simp [iblk]
    rw [show V m c (Pipeline.arrRef spec0 2) = _ from V_main_arg2 m c]
    refine congrArg (m ((c : Thread nD τ).loc main_arg2)) ?_
    blk_ext [index2, col]
  · rfl

theorem index3 : ∀ t : Fin cfg0.N, win0_3.index t = ![0, 0, t.val] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, t.val] := (by decide +kernel : ∀ t : Fin grid0.N, _)
theorem index6 : ∀ t : Fin cfg0.N, win0_6.index t = ![0, 0, t.val] := (by decide +kernel : ∀ t : Fin grid0.N, _)

/-- The kernel writes the logistic function with a subtraction from zero. -/
theorem sgm_eq (x : EReal) : sgm x = gate x := by
  unfold sgm gate
  rw [zero_sub]

/-- A row of the input gradient's block. -/
theorem row4_blk (t : Fin cfg0.N) (h : Fin 2) (cc : Fin 128) (n : ℕ) :
    row4 (iblk m c 0 t) (iblk m c 1 t) (iblk m c 2 t) h cc n
      = drow (ucol (m ((c : Thread nD τ).loc main_arg0)) (m ((c : Thread nD τ).loc main_arg1)) 0 (col t cc))
          (ucol (m ((c : Thread nD τ).loc main_arg0)) (m ((c : Thread nD τ).loc main_arg1)) 1 (col t cc))
          (wcol (m ((c : Thread nD τ).loc main_arg2)) (col t cc)) (gcol (m ((c : Thread nD τ).loc main_arg3)) (col t cc)) h n := by
  match h with
  | 0 =>
    show dval _ _ _ _ _ = _
    unfold dval dglu
    rw [half_blk, ctg_blk, tap_blk, sgm_eq]
    rfl
  | 1 =>
    show dgate _ _ _ _ _ = _
    unfold dgate dglu
    rw [half_blk, half_blk, ctg_blk, tap_blk, sgm_eq]
    rfl

/-- A row's part of the tap gradient's block. -/
theorem row8_blk (t : Fin cfg0.N) (j : ℕ) (cc : Fin 128) (n : ℕ) :
    row8 (iblk m c 0 t) (iblk m c 1 t) j cc n
      = dtap (ucol (m ((c : Thread nD τ).loc main_arg0)) (m ((c : Thread nD τ).loc main_arg1)) 0 (col t cc))
          (ucol (m ((c : Thread nD τ).loc main_arg0)) (m ((c : Thread nD τ).loc main_arg1)) 1 (col t cc))
          (gcol (m ((c : Thread nD τ).loc main_arg3)) (col t cc)) j n := by
  unfold row8 dtap
  rw [half_blk, half_blk, ctg_blk]
  refine congrArg _ ?_
  unfold late past
  by_cases h : n + j < 30
  · rw [if_pos (show n + j + 2 < 32 by omega), if_pos h, zero_mul]
  · rw [if_neg (show ¬ n + j + 2 < 32 by omega), if_neg (show ¬ n + j + 2 < 32 by omega), if_neg h, sgm_eq, show n + j + 2 - 32 = n + j - 30 by omega]

/-- The input gradient. -/
def gradU : Buf (Elt Ideal) ((c : Thread nD τ).loc main_v3_0) := fun i =>
  drow (ucol (m ((c : Thread nD τ).loc main_arg0)) (m ((c : Thread nD τ).loc main_arg1)) 0 (i 2))
    (ucol (m ((c : Thread nD τ).loc main_arg0)) (m ((c : Thread nD τ).loc main_arg1)) 1 (i 2))
    (wcol (m ((c : Thread nD τ).loc main_arg2)) (i 2)) (gcol (m ((c : Thread nD τ).loc main_arg3)) (i 2)) (i 0) (i 1).val

/-- The tap gradient. -/
def gradW : Buf (Elt Ideal) ((c : Thread nD τ).loc main_v3_1) := fun i =>
  show EReal from ∑ n ∈ Finset.range 4096, dtap (ucol (m ((c : Thread nD τ).loc main_arg0)) (m ((c : Thread nD τ).loc main_arg1)) 0 (i 1))
    (ucol (m ((c : Thread nD τ).loc main_arg0)) (m ((c : Thread nD τ).loc main_arg1)) 1 (i 1))
    (gcol (m ((c : Thread nD τ).loc main_arg3)) (i 1)) (i 0).val n

/-- The gradient of the convolution's bias. -/
def gradB : Buf (Elt Ideal) ((c : Thread nD τ).loc main_v3_2) := fun i =>
  show EReal from ∑ n ∈ Finset.range 4096, gcol (m ((c : Thread nD τ).loc main_arg3)) (i 1) n

/-- The gradient of the input's bias. -/
def gradBin : Buf (Elt Ideal) ((c : Thread nD τ).loc main_v3_3) := fun i =>
  show EReal from ∑ n ∈ Finset.range 4096, drow (ucol (m ((c : Thread nD τ).loc main_arg0)) (m ((c : Thread nD τ).loc main_arg1)) 0 (i 2))
    (ucol (m ((c : Thread nD τ).loc main_arg0)) (m ((c : Thread nD τ).loc main_arg1)) 1 (i 2))
    (wcol (m ((c : Thread nD τ).loc main_arg2)) (i 2)) (gcol (m ((c : Thread nD τ).loc main_arg3)) (i 2)) (i 0) n

theorem final3 : (dats m 0 c).arrAt 3 cfg0.N = gradU m c := by
  refine (dats m 0 c).arrAt_eq_of_covers 3 _ (by decide +kernel) fun t hf y => ?_
  blk_simp
  rw [after0_3]
  unfold outsAt0
  rw [eq_ix3 y]
  refine (out3_apply c _ _ _ _ _ _ _ _ _ _ _ _ _ _ _ _ _ _ _ _ _ _ (y 0) (y 1) (y 2)).trans ?_
  refine (row4_blk m c t (y 0) (y 2) (y 1).val).trans ?_
  have e : ((cfg0.win 3).blk t).view.emb (ix3 (y 0) (y 1) (y 2)) = ix3 (y 0) (y 1) (col t (y 2)) := by blk_ext [index3, col]
  exact (congrArg (gradU m c) e).symm

theorem final4 : (dats m 0 c).arrAt 4 cfg0.N = gradW m c := by
  refine (dats m 0 c).arrAt_eq_of_covers 4 _ (by decide +kernel) fun t hf y => ?_
  blk_simp
  rw [after0_4]
  unfold outsAt0
  rw [eq_ix2 y]
  refine (out4_apply c _ _ _ _ _ _ _ _ _ _ _ _ _ _ _ _ _ _ _ _ _ _ (y 0) (y 1)).trans ?_
  have e : ((cfg0.win 4).blk t).view.emb (ix2 (y 0) (y 1)) = ix2 (y 0) (col t (y 1)) := by blk_ext [index4, col]
  refine Eq.trans ?_ (congrArg (gradW m c) e).symm
  exact Finset.sum_congr rfl fun n _ => row8_blk m c t (y 0).val (y 1) n

theorem final5 : (dats m 0 c).arrAt 5 cfg0.N = gradB m c := by
  refine (dats m 0 c).arrAt_eq_of_covers 5 _ (by decide +kernel) fun t hf y => ?_
  blk_simp
  rw [after0_5]
  unfold outsAt0
  have ey : y = ix2 0 (y 1) := by blk_ext
  rw [ey]
  refine (out5_apply c _ _ _ _ _ _ _ _ _ _ _ _ _ _ _ _ _ _ _ _ _ _ (y 1)).trans ?_
  have e : ((cfg0.win 5).blk t).view.emb (ix2 0 (y 1)) = ix2 0 (col t (y 1)) := by blk_ext [index5, col]
  refine Eq.trans ?_ (congrArg (gradB m c) e).symm
  exact Finset.sum_congr rfl fun n _ => congrFun (ctg_blk m c t (y 1)) n

theorem final6 : (dats m 0 c).arrAt 6 cfg0.N = gradBin m c := by
  refine (dats m 0 c).arrAt_eq_of_covers 6 _ (by decide +kernel) fun t hf y => ?_
  blk_simp
  rw [after0_6]
  unfold outsAt0
  have ey : y = ix3 (y 0) 0 (y 2) := by blk_ext
  rw [ey]
  refine (out6_apply c _ _ _ _ _ _ _ _ _ _ _ _ _ _ _ _ _ _ _ _ _ _ (y 0) (y 2)).trans ?_
  have e : ((cfg0.win 6).blk t).view.emb (ix3 (y 0) 0 (y 2)) = ix3 (y 0) 0 (col t (y 2)) := by blk_ext [index6, col]
  refine Eq.trans ?_ (congrArg (gradBin m c) e).symm
  exact Finset.sum_congr rfl fun n _ => row4_blk m c t (y 0) (y 2) n

end Cert.KernelIdeal.GluBwd

end
-- ==== Proof.GluRef.lean ====
module
public import proofs.«01_k».proof.Proof.GluCol
public import proofs.«01_k».proof.Proof.Gen.ReferenceIdeal.Read
public import Idealize.ShloMosaic.Lib.Pointwise
public import Idealize.ShloMosaic.Lib.KernelVsHost
@[expose] public section
set_option maxRecDepth 16384
noncomputable section
set_option maxHeartbeats 4000000

/-! # The reference's four results, read at an index -/

namespace Cert.ReferenceIdeal.GluRef

open Idealize.ShloMosaic TcCoe Tactic
open Cert.ReferenceIdeal Cert.ReferenceIdeal.Gen Cert.ReferenceIdeal.Read Cert.GluCol

variable (x0 : (⟨S2x4096x2048, .f32⟩ : BufTy).Contents (Elt Ideal)) (x1 : (⟨S2x1x2048, .f32⟩ : BufTy).Contents (Elt Ideal))
  (x2 : (⟨S31x2048, .f32⟩ : BufTy).Contents (Elt Ideal)) (x3 : (⟨S4096x2048, .f32⟩ : BufTy).Contents (Elt Ideal))

/-- The value half plus its bias. -/
theorem v4_at (n : Fin 4096) (c : Fin 2048) : val_main_v4 (F := Ideal) x0 x1 (ix2 n c) = ucol x0 x1 0 c n.val := by
  rw [ucol, dif_pos n.isLt]
  unfold val_main_v4 val_main_v3 val_main_v2 val_main_v1
  pointwise

/-- The gate half plus its bias. -/
theorem v6_at (n : Fin 4096) (c : Fin 2048) : val_main_v6 (F := Ideal) x0 x1 (ix2 n c) = ucol x0 x1 1 c n.val := by
  rw [ucol, dif_pos n.isLt]
  unfold val_main_v6 val_main_v5 val_main_v2 val_main_v1
  pointwise

/-- The gate. -/
theorem v12_at (n : Fin 4096) (c : Fin 2048) : val_main_v12 (F := Ideal) x0 x1 (ix2 n c) = gate (ucol x0 x1 1 c n.val) := by
  rw [← v6_at]
  unfold val_main_v12 val_main_v11 val_main_v10 val_main_v9 val_main_v8 val_main_v7 val_main_cst_0 val_main_cst_1 gate
  generalize val_main_v6 (F := Ideal) x0 x1 = y
  pointwise

/-- The gate's derivative. -/
theorem v15_at (n : Fin 4096) (c : Fin 2048) :
    val_main_v15 (F := Ideal) x0 x1 (ix2 n c) = gate (ucol x0 x1 1 c n.val) * (1 - gate (ucol x0 x1 1 c n.val)) := by
  rw [← v12_at]
  unfold val_main_v15 val_main_v14 val_main_v13 val_main_cst_2
  generalize val_main_v12 (F := Ideal) x0 x1 = y
  pointwise

/-- The gated input. -/
theorem v16_at (n : Fin 4096) (c : Fin 2048) :
    val_main_v16 (F := Ideal) x0 x1 (ix2 n c) = ucol x0 x1 0 c n.val * gate (ucol x0 x1 1 c n.val) := by
  rw [← v12_at, ← v4_at]
  rfl

/-- The gated input with 30 rows of zeros before it. -/
theorem v18_at (q : Fin 4126) (c : Fin 2048) :
    val_main_v18 (F := Ideal) x0 x1 (ix2 q c) = past (fun i => ucol x0 x1 0 c i * gate (ucol x0 x1 1 c i)) q.val := by
  unfold past
  split
  · next h =>
    unfold val_main_v18
    rw [concatenate_pair_apply_left (t := S4126x2048) (s₁ := S30x2048) (s₂ := S4096x2048) 0 _ _ _ (ix2 q c) rfl (ix2 ⟨q.val, h⟩ c)
      (fun b => by match b with | ⟨0, _⟩ => rfl | ⟨1, _⟩ => rfl)]
    unfold val_main_v17 val_main_cst_3
    pointwise
  · next h =>
    have hq : q.val - 30 < 4096 := by have := q.isLt; omega
    have e := v16_at x0 x1 ⟨q.val - 30, hq⟩ c
    dsimp only at e ⊢
    rw [← e]
    unfold val_main_v18
    generalize val_main_v16 (F := Ideal) x0 x1 = y
    generalize val_main_v17 (F := Ideal) = z
    exact concatenate_pair_apply_right (t := S4126x2048) (s₁ := S30x2048) (s₂ := S4096x2048) 0 _ _ _ (ix2 q c) rfl rfl (ix2 ⟨q.val - 30, hq⟩ c)
      (fun b hb => by match b with | ⟨0, _⟩ => exact absurd rfl hb | ⟨1, _⟩ => rfl) (show q.val - 30 + 30 = q.val by omega)

/-- A piece of the stack of shifted copies: the copy starting `o` rows down, `k`-th of `T`, where copies are numbered from `base`. -/
theorem piece_at {T : ℕ} (y : S4126x2048.Idx → EReal) (o k base : ℕ) (h : S4126x2048.Slices ![o, 0] S4096x2048)
    (hb : S4096x2048.BroadcastsInDim S1x4096x2048 (![1, 2] : Fin 2 → Fin S1x4096x2048.rank)) (j : Fin T) (n : Fin 4096) (c : Fin 2048)
    (q : Fin 4126) (hq : q.val = n.val + (j.val + base)) (ho : o = k + base) :
    PieceAt (t := (⟨3, ![T, 4096, 2048]⟩ : Shape)) 0 (ix3 j n c) (y (ix2 q c)) S1x4096x2048
      (broadcastInDim S1x4096x2048 ![1, 2] hb (extractStridedSlice S4096x2048 ![o, 0] y h)) k := by
  intro hj hr i h0 hoff
  have hjk : j.val = k := hj
  have e : i = ix3 0 n c := funext fun a => Fin.ext (by
    match a with
    | ⟨0, _⟩ => exact h0
    | ⟨1, _⟩ => exact hoff 1 (show (1 : Fin 3) ≠ 0 by decide)
    | ⟨2, _⟩ => exact hoff 2 (show (2 : Fin 3) ≠ 0 by decide))
  subst e
  rw [broadcastInDim_apply _ hb _ (ix3 0 n c) (ix2 n c) (fun a => match a with
    | ⟨0, _⟩ => by show n.val = if (4096 : Nat) = 1 then 0 else n.val; rw [if_neg (by decide)]
    | ⟨1, _⟩ => by show c.val = if (2048 : Nat) = 1 then 0 else c.val; rw [if_neg (by decide)])]
  exact extractStridedSlice_apply ![o, 0] y h (ix2 n c) (ix2 q c) (fun a => match a with
    | ⟨0, _⟩ => by show q.val = o + n.val; omega
    | ⟨1, _⟩ => by show c.val = 0 + c.val; omega)

/-- The first sixteen copies. -/
theorem v82_at (j : Fin 16) (n : Fin 4096) (c : Fin 2048) :
    val_main_v82 (F := Ideal) x0 x1 (ix3 j n c) = val_main_v18 (F := Ideal) x0 x1 (ix2 ⟨n.val + (j.val + 0), by omega⟩ c) := by
  unfold val_main_v82
  refine concatenate_unit_eq _ _ _ _ _ rfl ?_
  exact ⟨piece_at _ 0 0 0 slices_S4126x2048_S4096x2048_0_0 bcast_S4096x2048_S1x4096x2048_1_2 j n c _ rfl rfl, piece_at _ 1 1 0 slices_S4126x2048_S4096x2048_1_0 bcast_S4096x2048_S1x4096x2048_1_2 j n c _ rfl rfl, piece_at _ 2 2 0 slices_S4126x2048_S4096x2048_2_0 bcast_S4096x2048_S1x4096x2048_1_2 j n c _ rfl rfl, piece_at _ 3 3 0 slices_S4126x2048_S4096x2048_3_0 bcast_S4096x2048_S1x4096x2048_1_2 j n c _ rfl rfl, piece_at _ 4 4 0 slices_S4126x2048_S4096x2048_4_0 bcast_S4096x2048_S1x4096x2048_1_2 j n c _ rfl rfl, piece_at _ 5 5 0 slices_S4126x2048_S4096x2048_5_0 bcast_S4096x2048_S1x4096x2048_1_2 j n c _ rfl rfl, piece_at _ 6 6 0 slices_S4126x2048_S4096x2048_6_0 bcast_S4096x2048_S1x4096x2048_1_2 j n c _ rfl rfl, piece_at _ 7 7 0 slices_S4126x2048_S4096x2048_7_0 bcast_S4096x2048_S1x4096x2048_1_2 j n c _ rfl rfl, piece_at _ 8 8 0 slices_S4126x2048_S4096x2048_8_0 bcast_S4096x2048_S1x4096x2048_1_2 j n c _ rfl rfl, piece_at _ 9 9 0 slices_S4126x2048_S4096x2048_9_0 bcast_S4096x2048_S1x4096x2048_1_2 j n c _ rfl rfl, piece_at _ 10 10 0 slices_S4126x2048_S4096x2048_10_0 bcast_S4096x2048_S1x4096x2048_1_2 j n c _ rfl rfl, piece_at _ 11 11 0 slices_S4126x2048_S4096x2048_11_0 bcast_S4096x2048_S1x4096x2048_1_2 j n c _ rfl rfl, piece_at _ 12 12 0 slices_S4126x2048_S4096x2048_12_0 bcast_S4096x2048_S1x4096x2048_1_2 j n c _ rfl rfl, piece_at _ 13 13 0 slices_S4126x2048_S4096x2048_13_0 bcast_S4096x2048_S1x4096x2048_1_2 j n c _ rfl rfl, piece_at _ 14 14 0 slices_S4126x2048_S4096x2048_14_0 bcast_S4096x2048_S1x4096x2048_1_2 j n c _ rfl rfl, piece_at _ 15 15 0 slices_S4126x2048_S4096x2048_15_0 bcast_S4096x2048_S1x4096x2048_1_2 j n c _ rfl rfl, trivial⟩

/-- The other fifteen. -/
theorem v83_at (j : Fin 15) (n : Fin 4096) (c : Fin 2048) :
    val_main_v83 (F := Ideal) x0 x1 (ix3 j n c) = val_main_v18 (F := Ideal) x0 x1 (ix2 ⟨n.val + (j.val + 16), by omega⟩ c) := by
  unfold val_main_v83
  refine concatenate_unit_eq _ _ _ _ _ rfl ?_
  exact ⟨piece_at _ 16 0 16 slices_S4126x2048_S4096x2048_16_0 bcast_S4096x2048_S1x4096x2048_1_2 j n c _ rfl rfl, piece_at _ 17 1 16 slices_S4126x2048_S4096x2048_17_0 bcast_S4096x2048_S1x4096x2048_1_2 j n c _ rfl rfl, piece_at _ 18 2 16 slices_S4126x2048_S4096x2048_18_0 bcast_S4096x2048_S1x4096x2048_1_2 j n c _ rfl rfl, piece_at _ 19 3 16 slices_S4126x2048_S4096x2048_19_0 bcast_S4096x2048_S1x4096x2048_1_2 j n c _ rfl rfl, piece_at _ 20 4 16 slices_S4126x2048_S4096x2048_20_0 bcast_S4096x2048_S1x4096x2048_1_2 j n c _ rfl rfl, piece_at _ 21 5 16 slices_S4126x2048_S4096x2048_21_0 bcast_S4096x2048_S1x4096x2048_1_2 j n c _ rfl rfl, piece_at _ 22 6 16 slices_S4126x2048_S4096x2048_22_0 bcast_S4096x2048_S1x4096x2048_1_2 j n c _ rfl rfl, piece_at _ 23 7 16 slices_S4126x2048_S4096x2048_23_0 bcast_S4096x2048_S1x4096x2048_1_2 j n c _ rfl rfl, piece_at _ 24 8 16 slices_S4126x2048_S4096x2048_24_0 bcast_S4096x2048_S1x4096x2048_1_2 j n c _ rfl rfl, piece_at _ 25 9 16 slices_S4126x2048_S4096x2048_25_0 bcast_S4096x2048_S1x4096x2048_1_2 j n c _ rfl rfl, piece_at _ 26 10 16 slices_S4126x2048_S4096x2048_26_0 bcast_S4096x2048_S1x4096x2048_1_2 j n c _ rfl rfl, piece_at _ 27 11 16 slices_S4126x2048_S4096x2048_27_0 bcast_S4096x2048_S1x4096x2048_1_2 j n c _ rfl rfl, piece_at _ 28 12 16 slices_S4126x2048_S4096x2048_28_0 bcast_S4096x2048_S1x4096x2048_1_2 j n c _ rfl rfl, piece_at _ 29 13 16 slices_S4126x2048_S4096x2048_29_0 bcast_S4096x2048_S1x4096x2048_1_2 j n c _ rfl rfl, piece_at _ 30 14 16 slices_S4126x2048_S4096x2048_30_0 bcast_S4096x2048_S1x4096x2048_1_2 j n c _ rfl rfl, trivial⟩

/-- The whole stack. -/
theorem v84_at (j : Fin 31) (n : Fin 4096) (c : Fin 2048) :
    val_main_v84 (F := Ideal) x0 x1 (ix3 j n c) = val_main_v18 (F := Ideal) x0 x1 (ix2 ⟨n.val + j.val, by omega⟩ c) := by
  by_cases h : j.val < 16
  · have e := v82_at x0 x1 ⟨j.val, h⟩ n c
    refine Eq.trans ?_ e
    unfold val_main_v84
    exact concatenate_pair_apply_left (t := S31x4096x2048) (s₁ := S16x4096x2048) (s₂ := S15x4096x2048) 0 _ _ _ (ix3 j n c) rfl (ix3 ⟨j.val, h⟩ n c)
      (fun b => by match b with | ⟨0, _⟩ => rfl | ⟨1, _⟩ => rfl | ⟨2, _⟩ => rfl)
  · have h' : j.val - 16 < 15 := by have := j.isLt; omega
    have e := v83_at x0 x1 ⟨j.val - 16, h'⟩ n c
    have ej : j.val - 16 + 16 = j.val := by omega
    simp only [ej] at e
    refine Eq.trans ?_ e
    unfold val_main_v84
    exact concatenate_pair_apply_right (t := S31x4096x2048) (s₁ := S16x4096x2048) (s₂ := S15x4096x2048) 0 _ _ _ (ix3 j n c) rfl rfl (ix3 ⟨j.val - 16, h'⟩ n c)
      (fun b hb => by match b with | ⟨0, _⟩ => exact absurd rfl hb | ⟨1, _⟩ => rfl | ⟨2, _⟩ => rfl) (show j.val - 16 + 16 = j.val by omega)

/-- The cotangent, repeated over the taps. -/
theorem v94_at (j : Fin 31) (n : Fin 4096) (c : Fin 2048) : val_main_v94 (F := Ideal) x3 (ix3 j n c) = gcol x3 c n.val := by
  rw [gcol, dif_pos n.isLt, val_main_v94_apply, val_main_v91_apply]
  exact congrArg x3 (funext fun a => Fin.ext (by
    have h0 := n.isLt
    have h1 := c.isLt
    match a with
    | ⟨0, _⟩ => show (n.val * 2048 + c.val) / 2048 = n.val; omega
    | ⟨1, _⟩ => show (n.val * 2048 + c.val) % 2048 = c.val; omega))

/-- The taps, repeated over the rows. -/
theorem v95_at (j : Fin 31) (n : Fin 4096) (c : Fin 2048) : val_main_v95 (F := Ideal) x2 (ix3 j n c) = wcol x2 c j.val := by
  rw [wcol, dif_pos j.isLt, val_main_v95_apply, val_main_v85_apply]
  exact congrArg x2 (funext fun a => Fin.ext (by match a with | ⟨0, _⟩ => rfl | ⟨1, _⟩ => rfl))

/-- One tap times the cotangent, set `o` rows down among zeros. -/
theorem term_at (o u : ℕ) (ho : o < 31) (h1 : S31x4096x2048.Slices ![o, 0, 0] S1x4096x2048) (h2 : S1x4096x2048.ShapeCasts S4096x2048)
    (h3 : S4096x2048.Pads (![o, 0] : Fin 2 → Nat) ![u, 0] ![0, 0] S4126x2048) (q : Fin 4126) (c : Fin 2048) :
    pad S4126x2048 ![o, 0] ![u, 0] ![0, 0] (shapeCast S4096x2048 (extractStridedSlice S1x4096x2048 ![o, 0, 0] (val_main_v96 (F := Ideal) x2 x3) h1) h2)
      (constant (F := Ideal) S_ .f32 0x00000000#32) h3 h_S_ (ix2 q c) = if o ≤ q.val then wcol x2 c o * gcol x3 c (q.val - o) else 0 := by
  by_cases hq : o ≤ q.val ∧ q.val - o < 4096
  · rw [if_pos hq.1, pad_apply_of_inside _ _ _ _ _ h3 h_S_ (ix2 q c) (ix2 ⟨q.val - o, hq.2⟩ c) (fun a => match a with
      | ⟨0, _⟩ => by show q.val = o + (q.val - o) * (0 + 1); omega
      | ⟨1, _⟩ => by show c.val = 0 + c.val * (0 + 1); omega),
      shapeCast_apply _ h2 (ix2 ⟨q.val - o, hq.2⟩ c) (ix3 0 ⟨q.val - o, hq.2⟩ c) (by
        rewrite [Shape.rowMajor_val_three, Shape.rowMajor_val_two]
        show ((0 * 4096 + (q.val - o)) * 2048 + c.val) = (q.val - o) * 2048 + c.val
        omega),
      extractStridedSlice_apply ![o, 0, 0] _ h1 (ix3 0 ⟨q.val - o, hq.2⟩ c) (ix3 ⟨o, ho⟩ ⟨q.val - o, hq.2⟩ c) (fun a => match a with
      | ⟨0, _⟩ => by show o = o + 0; omega
      | ⟨1, _⟩ => by show q.val - o = 0 + (q.val - o); omega
      | ⟨2, _⟩ => by show c.val = 0 + c.val; omega),
      val_main_v96_apply, v95_at, v94_at]
    rfl
  · rw [pad_apply_of_not_inside _ _ _ _ _ h3 h_S_ (ix2 q c) 0 (fun h => hq ⟨h.1, by
      have := h.2.2
      change (q.val - o) / (0 + 1) < 4096 at this
      omega⟩)]
    show Ideal.ofBits .f32 0x00000000#32 = _
    rw [Ideal.ofBits_zero .f32]
    split
    · next h => rw [gcol, dif_neg (fun h' => hq ⟨h, h'⟩), mul_zero]
    · rfl

/-- The sum of all the shifted products, at row `n + 30`: the gradient of the gated input at row `n`. -/
theorem v225_at (n : Fin 4096) (c : Fin 2048) : val_main_v225 (F := Ideal) x2 x3 (ix2 n c) = dgated (wcol x2 c) (gcol x3 c) n.val := by
  rw [val_main_v225_apply]
  have hi : idx_main_v225 (ix2 n c) = ix2 (⟨30 + n.val, by omega⟩ : Fin 4126) c := funext fun a => Fin.ext (by match a with | ⟨0, _⟩ => rfl | ⟨1, _⟩ => rfl)
  rw [hi]
  have t0 : val_main_v222 (F := Ideal) x2 x3 (ix2 (⟨30 + n.val, by omega⟩ : Fin 4126) c) = wcol x2 c 0 * gcol x3 c (n.val + (30 - 0)) :=
    (term_at x2 x3 0 30 (by decide) slices_S31x4096x2048_S1x4096x2048_0_0_0 shapeCasts_S1x4096x2048_S4096x2048 pads_S4096x2048_S4126x2048_0300_000 _ c).trans
      ((if_pos (show 0 ≤ 30 + n.val by omega)).trans (congrArg (fun i => wcol x2 c 0 * gcol x3 c i) (show 30 + n.val - 0 = n.val + (30 - 0) by omega)))
  have t1 : val_main_v220 (F := Ideal) x2 x3 (ix2 (⟨30 + n.val, by omega⟩ : Fin 4126) c) = wcol x2 c 1 * gcol x3 c (n.val + (30 - 1)) :=
    (term_at x2 x3 1 29 (by decide) slices_S31x4096x2048_S1x4096x2048_1_0_0 shapeCasts_S1x4096x2048_S4096x2048 pads_S4096x2048_S4126x2048_1290_000 _ c).trans
      ((if_pos (show 1 ≤ 30 + n.val by omega)).trans (congrArg (fun i => wcol x2 c 1 * gcol x3 c i) (show 30 + n.val - 1 = n.val + (30 - 1) by omega)))
  have t2 : val_main_v218 (F := Ideal) x2 x3 (ix2 (⟨30 + n.val, by omega⟩ : Fin 4126) c) = wcol x2 c 2 * gcol x3 c (n.val + (30 - 2)) :=
    (term_at x2 x3 2 28 (by decide) slices_S31x4096x2048_S1x4096x2048_2_0_0 shapeCasts_S1x4096x2048_S4096x2048 pads_S4096x2048_S4126x2048_2280_000_2 _ c).trans
      ((if_pos (show 2 ≤ 30 + n.val by omega)).trans (congrArg (fun i => wcol x2 c 2 * gcol x3 c i) (show 30 + n.val - 2 = n.val + (30 - 2) by omega)))
  have t3 : val_main_v216 (F := Ideal) x2 x3 (ix2 (⟨30 + n.val, by omega⟩ : Fin 4126) c) = wcol x2 c 3 * gcol x3 c (n.val + (30 - 3)) :=
    (term_at x2 x3 3 27 (by decide) slices_S31x4096x2048_S1x4096x2048_3_0_0 shapeCasts_S1x4096x2048_S4096x2048 pads_S4096x2048_S4126x2048_3270_000 _ c).trans
      ((if_pos (show 3 ≤ 30 + n.val by omega)).trans (congrArg (fun i => wcol x2 c 3 * gcol x3 c i) (show 30 + n.val - 3 = n.val + (30 - 3) by omega)))
  have t4 : val_main_v214 (F := Ideal) x2 x3 (ix2 (⟨30 + n.val, by omega⟩ : Fin 4126) c) = wcol x2 c 4 * gcol x3 c (n.val + (30 - 4)) :=
    (term_at x2 x3 4 26 (by decide) slices_S31x4096x2048_S1x4096x2048_4_0_0 shapeCasts_S1x4096x2048_S4096x2048 pads_S4096x2048_S4126x2048_4260_000 _ c).trans
      ((if_pos (show 4 ≤ 30 + n.val by omega)).trans (congrArg (fun i => wcol x2 c 4 * gcol x3 c i) (show 30 + n.val - 4 = n.val + (30 - 4) by omega)))
  have t5 : val_main_v212 (F := Ideal) x2 x3 (ix2 (⟨30 + n.val, by omega⟩ : Fin 4126) c) = wcol x2 c 5 * gcol x3 c (n.val + (30 - 5)) :=
    (term_at x2 x3 5 25 (by decide) slices_S31x4096x2048_S1x4096x2048_5_0_0 shapeCasts_S1x4096x2048_S4096x2048 pads_S4096x2048_S4126x2048_5250_000 _ c).trans
      ((if_pos (show 5 ≤ 30 + n.val by omega)).trans (congrArg (fun i => wcol x2 c 5 * gcol x3 c i) (show 30 + n.val - 5 = n.val + (30 - 5) by omega)))
  have t6 : val_main_v210 (F := Ideal) x2 x3 (ix2 (⟨30 + n.val, by omega⟩ : Fin 4126) c) = wcol x2 c 6 * gcol x3 c (n.val + (30 - 6)) :=
    (term_at x2 x3 6 24 (by decide) slices_S31x4096x2048_S1x4096x2048_6_0_0 shapeCasts_S1x4096x2048_S4096x2048 pads_S4096x2048_S4126x2048_6240_000 _ c).trans
      ((if_pos (show 6 ≤ 30 + n.val by omega)).trans (congrArg (fun i => wcol x2 c 6 * gcol x3 c i) (show 30 + n.val - 6 = n.val + (30 - 6) by omega)))
  have t7 : val_main_v208 (F := Ideal) x2 x3 (ix2 (⟨30 + n.val, by omega⟩ : Fin 4126) c) = wcol x2 c 7 * gcol x3 c (n.val + (30 - 7)) :=
    (term_at x2 x3 7 23 (by decide) slices_S31x4096x2048_S1x4096x2048_7_0_0 shapeCasts_S1x4096x2048_S4096x2048 pads_S4096x2048_S4126x2048_7230_000 _ c).trans
      ((if_pos (show 7 ≤ 30 + n.val by omega)).trans (congrArg (fun i => wcol x2 c 7 * gcol x3 c i) (show 30 + n.val - 7 = n.val + (30 - 7) by omega)))
  have t8 : val_main_v206 (F := Ideal) x2 x3 (ix2 (⟨30 + n.val, by omega⟩ : Fin 4126) c) = wcol x2 c 8 * gcol x3 c (n.val + (30 - 8)) :=
    (term_at x2 x3 8 22 (by decide) slices_S31x4096x2048_S1x4096x2048_8_0_0 shapeCasts_S1x4096x2048_S4096x2048 pads_S4096x2048_S4126x2048_8220_000 _ c).trans
      ((if_pos (show 8 ≤ 30 + n.val by omega)).trans (congrArg (fun i => wcol x2 c 8 * gcol x3 c i) (show 30 + n.val - 8 = n.val + (30 - 8) by omega)))
  have t9 : val_main_v204 (F := Ideal) x2 x3 (ix2 (⟨30 + n.val, by omega⟩ : Fin 4126) c) = wcol x2 c 9 * gcol x3 c (n.val + (30 - 9)) :=
    (term_at x2 x3 9 21 (by decide) slices_S31x4096x2048_S1x4096x2048_9_0_0 shapeCasts_S1x4096x2048_S4096x2048 pads_S4096x2048_S4126x2048_9210_000 _ c).trans
      ((if_pos (show 9 ≤ 30 + n.val by omega)).trans (congrArg (fun i => wcol x2 c 9 * gcol x3 c i) (show 30 + n.val - 9 = n.val + (30 - 9) by omega)))
  have t10 : val_main_v202 (F := Ideal) x2 x3 (ix2 (⟨30 + n.val, by omega⟩ : Fin 4126) c) = wcol x2 c 10 * gcol x3 c (n.val + (30 - 10)) :=
    (term_at x2 x3 10 20 (by decide) slices_S31x4096x2048_S1x4096x2048_10_0_0 shapeCasts_S1x4096x2048_S4096x2048 pads_S4096x2048_S4126x2048_10200_000 _ c).trans
      ((if_pos (show 10 ≤ 30 + n.val by omega)).trans (congrArg (fun i => wcol x2 c 10 * gcol x3 c i) (show 30 + n.val - 10 = n.val + (30 - 10) by omega)))
  have t11 : val_main_v200 (F := Ideal) x2 x3 (ix2 (⟨30 + n.val, by omega⟩ : Fin 4126) c) = wcol x2 c 11 * gcol x3 c (n.val + (30 - 11)) :=
    (term_at x2 x3 11 19 (by decide) slices_S31x4096x2048_S1x4096x2048_11_0_0 shapeCasts_S1x4096x2048_S4096x2048 pads_S4096x2048_S4126x2048_11190_000 _ c).trans
      ((if_pos (show 11 ≤ 30 + n.val by omega)).trans (congrArg (fun i => wcol x2 c 11 * gcol x3 c i) (show 30 + n.val - 11 = n.val + (30 - 11) by omega)))
  have t12 : val_main_v198 (F := Ideal) x2 x3 (ix2 (⟨30 + n.val, by omega⟩ : Fin 4126) c) = wcol x2 c 12 * gcol x3 c (n.val + (30 - 12)) :=
    (term_at x2 x3 12 18 (by decide) slices_S31x4096x2048_S1x4096x2048_12_0_0 shapeCasts_S1x4096x2048_S4096x2048 pads_S4096x2048_S4126x2048_12180_000 _ c).trans
      ((if_pos (show 12 ≤ 30 + n.val by omega)).trans (congrArg (fun i => wcol x2 c 12 * gcol x3 c i) (show 30 + n.val - 12 = n.val + (30 - 12) by omega)))
  have t13 : val_main_v196 (F := Ideal) x2 x3 (ix2 (⟨30 + n.val, by omega⟩ : Fin 4126) c) = wcol x2 c 13 * gcol x3 c (n.val + (30 - 13)) :=
    (term_at x2 x3 13 17 (by decide) slices_S31x4096x2048_S1x4096x2048_13_0_0 shapeCasts_S1x4096x2048_S4096x2048 pads_S4096x2048_S4126x2048_13170_000 _ c).trans
      ((if_pos (show 13 ≤ 30 + n.val by omega)).trans (congrArg (fun i => wcol x2 c 13 * gcol x3 c i) (show 30 + n.val - 13 = n.val + (30 - 13) by omega)))
  have t14 : val_main_v194 (F := Ideal) x2 x3 (ix2 (⟨30 + n.val, by omega⟩ : Fin 4126) c) = wcol x2 c 14 * gcol x3 c (n.val + (30 - 14)) :=
    (term_at x2 x3 14 16 (by decide) slices_S31x4096x2048_S1x4096x2048_14_0_0 shapeCasts_S1x4096x2048_S4096x2048 pads_S4096x2048_S4126x2048_14160_000 _ c).trans
      ((if_pos (show 14 ≤ 30 + n.val by omega)).trans (congrArg (fun i => wcol x2 c 14 * gcol x3 c i) (show 30 + n.val - 14 = n.val + (30 - 14) by omega)))
  have t15 : val_main_v192 (F := Ideal) x2 x3 (ix2 (⟨30 + n.val, by omega⟩ : Fin 4126) c) = wcol x2 c 15 * gcol x3 c (n.val + (30 - 15)) :=
    (term_at x2 x3 15 15 (by decide) slices_S31x4096x2048_S1x4096x2048_15_0_0 shapeCasts_S1x4096x2048_S4096x2048 pads_S4096x2048_S4126x2048_15150_000 _ c).trans
      ((if_pos (show 15 ≤ 30 + n.val by omega)).trans (congrArg (fun i => wcol x2 c 15 * gcol x3 c i) (show 30 + n.val - 15 = n.val + (30 - 15) by omega)))
  have t16 : val_main_v190 (F := Ideal) x2 x3 (ix2 (⟨30 + n.val, by omega⟩ : Fin 4126) c) = wcol x2 c 16 * gcol x3 c (n.val + (30 - 16)) :=
    (term_at x2 x3 16 14 (by decide) slices_S31x4096x2048_S1x4096x2048_16_0_0 shapeCasts_S1x4096x2048_S4096x2048 pads_S4096x2048_S4126x2048_16140_000 _ c).trans
      ((if_pos (show 16 ≤ 30 + n.val by omega)).trans (congrArg (fun i => wcol x2 c 16 * gcol x3 c i) (show 30 + n.val - 16 = n.val + (30 - 16) by omega)))
  have t17 : val_main_v188 (F := Ideal) x2 x3 (ix2 (⟨30 + n.val, by omega⟩ : Fin 4126) c) = wcol x2 c 17 * gcol x3 c (n.val + (30 - 17)) :=
    (term_at x2 x3 17 13 (by decide) slices_S31x4096x2048_S1x4096x2048_17_0_0 shapeCasts_S1x4096x2048_S4096x2048 pads_S4096x2048_S4126x2048_17130_000 _ c).trans
      ((if_pos (show 17 ≤ 30 + n.val by omega)).trans (congrArg (fun i => wcol x2 c 17 * gcol x3 c i) (show 30 + n.val - 17 = n.val + (30 - 17) by omega)))
  have t18 : val_main_v186 (F := Ideal) x2 x3 (ix2 (⟨30 + n.val, by omega⟩ : Fin 4126) c) = wcol x2 c 18 * gcol x3 c (n.val + (30 - 18)) :=
    (term_at x2 x3 18 12 (by decide) slices_S31x4096x2048_S1x4096x2048_18_0_0 shapeCasts_S1x4096x2048_S4096x2048 pads_S4096x2048_S4126x2048_18120_000 _ c).trans
      ((if_pos (show 18 ≤ 30 + n.val by omega)).trans (congrArg (fun i => wcol x2 c 18 * gcol x3 c i) (show 30 + n.val - 18 = n.val + (30 - 18) by omega)))
  have t19 : val_main_v184 (F := Ideal) x2 x3 (ix2 (⟨30 + n.val, by omega⟩ : Fin 4126) c) = wcol x2 c 19 * gcol x3 c (n.val + (30 - 19)) :=
    (term_at x2 x3 19 11 (by decide) slices_S31x4096x2048_S1x4096x2048_19_0_0 shapeCasts_S1x4096x2048_S4096x2048 pads_S4096x2048_S4126x2048_19110_000 _ c).trans
      ((if_pos (show 19 ≤ 30 + n.val by omega)).trans (congrArg (fun i => wcol x2 c 19 * gcol x3 c i) (show 30 + n.val - 19 = n.val + (30 - 19) by omega)))
  have t20 : val_main_v182 (F := Ideal) x2 x3 (ix2 (⟨30 + n.val, by omega⟩ : Fin 4126) c) = wcol x2 c 20 * gcol x3 c (n.val + (30 - 20)) :=
    (term_at x2 x3 20 10 (by decide) slices_S31x4096x2048_S1x4096x2048_20_0_0 shapeCasts_S1x4096x2048_S4096x2048 pads_S4096x2048_S4126x2048_20100_000 _ c).trans
      ((if_pos (show 20 ≤ 30 + n.val by omega)).trans (congrArg (fun i => wcol x2 c 20 * gcol x3 c i) (show 30 + n.val - 20 = n.val + (30 - 20) by omega)))
  have t21 : val_main_v180 (F := Ideal) x2 x3 (ix2 (⟨30 + n.val, by omega⟩ : Fin 4126) c) = wcol x2 c 21 * gcol x3 c (n.val + (30 - 21)) :=
    (term_at x2 x3 21 9 (by decide) slices_S31x4096x2048_S1x4096x2048_21_0_0 shapeCasts_S1x4096x2048_S4096x2048 pads_S4096x2048_S4126x2048_2190_000 _ c).trans
      ((if_pos (show 21 ≤ 30 + n.val by omega)).trans (congrArg (fun i => wcol x2 c 21 * gcol x3 c i) (show 30 + n.val - 21 = n.val + (30 - 21) by omega)))
  have t22 : val_main_v178 (F := Ideal) x2 x3 (ix2 (⟨30 + n.val, by omega⟩ : Fin 4126) c) = wcol x2 c 22 * gcol x3 c (n.val + (30 - 22)) :=
    (term_at x2 x3 22 8 (by decide) slices_S31x4096x2048_S1x4096x2048_22_0_0 shapeCasts_S1x4096x2048_S4096x2048 pads_S4096x2048_S4126x2048_2280_000 _ c).trans
      ((if_pos (show 22 ≤ 30 + n.val by omega)).trans (congrArg (fun i => wcol x2 c 22 * gcol x3 c i) (show 30 + n.val - 22 = n.val + (30 - 22) by omega)))
  have t23 : val_main_v176 (F := Ideal) x2 x3 (ix2 (⟨30 + n.val, by omega⟩ : Fin 4126) c) = wcol x2 c 23 * gcol x3 c (n.val + (30 - 23)) :=
    (term_at x2 x3 23 7 (by decide) slices_S31x4096x2048_S1x4096x2048_23_0_0 shapeCasts_S1x4096x2048_S4096x2048 pads_S4096x2048_S4126x2048_2370_000 _ c).trans
      ((if_pos (show 23 ≤ 30 + n.val by omega)).trans (congrArg (fun i => wcol x2 c 23 * gcol x3 c i) (show 30 + n.val - 23 = n.val + (30 - 23) by omega)))
  have t24 : val_main_v174 (F := Ideal) x2 x3 (ix2 (⟨30 + n.val, by omega⟩ : Fin 4126) c) = wcol x2 c 24 * gcol x3 c (n.val + (30 - 24)) :=
    (term_at x2 x3 24 6 (by decide) slices_S31x4096x2048_S1x4096x2048_24_0_0 shapeCasts_S1x4096x2048_S4096x2048 pads_S4096x2048_S4126x2048_2460_000 _ c).trans
      ((if_pos (show 24 ≤ 30 + n.val by omega)).trans (congrArg (fun i => wcol x2 c 24 * gcol x3 c i) (show 30 + n.val - 24 = n.val + (30 - 24) by omega)))
  have t25 : val_main_v172 (F := Ideal) x2 x3 (ix2 (⟨30 + n.val, by omega⟩ : Fin 4126) c) = wcol x2 c 25 * gcol x3 c (n.val + (30 - 25)) :=
    (term_at x2 x3 25 5 (by decide) slices_S31x4096x2048_S1x4096x2048_25_0_0 shapeCasts_S1x4096x2048_S4096x2048 pads_S4096x2048_S4126x2048_2550_000 _ c).trans
      ((if_pos (show 25 ≤ 30 + n.val by omega)).trans (congrArg (fun i => wcol x2 c 25 * gcol x3 c i) (show 30 + n.val - 25 = n.val + (30 - 25) by omega)))
  have t26 : val_main_v170 (F := Ideal) x2 x3 (ix2 (⟨30 + n.val, by omega⟩ : Fin 4126) c) = wcol x2 c 26 * gcol x3 c (n.val + (30 - 26)) :=
    (term_at x2 x3 26 4 (by decide) slices_S31x4096x2048_S1x4096x2048_26_0_0 shapeCasts_S1x4096x2048_S4096x2048 pads_S4096x2048_S4126x2048_2640_000 _ c).trans
      ((if_pos (show 26 ≤ 30 + n.val by omega)).trans (congrArg (fun i => wcol x2 c 26 * gcol x3 c i) (show 30 + n.val - 26 = n.val + (30 - 26) by omega)))
  have t27 : val_main_v168 (F := Ideal) x2 x3 (ix2 (⟨30 + n.val, by omega⟩ : Fin 4126) c) = wcol x2 c 27 * gcol x3 c (n.val + (30 - 27)) :=
    (term_at x2 x3 27 3 (by decide) slices_S31x4096x2048_S1x4096x2048_27_0_0 shapeCasts_S1x4096x2048_S4096x2048 pads_S4096x2048_S4126x2048_2730_000 _ c).trans
      ((if_pos (show 27 ≤ 30 + n.val by omega)).trans (congrArg (fun i => wcol x2 c 27 * gcol x3 c i) (show 30 + n.val - 27 = n.val + (30 - 27) by omega)))
  have t28 : val_main_v166 (F := Ideal) x2 x3 (ix2 (⟨30 + n.val, by omega⟩ : Fin 4126) c) = wcol x2 c 28 * gcol x3 c (n.val + (30 - 28)) :=
    (term_at x2 x3 28 2 (by decide) slices_S31x4096x2048_S1x4096x2048_28_0_0 shapeCasts_S1x4096x2048_S4096x2048 pads_S4096x2048_S4126x2048_2820_000 _ c).trans
      ((if_pos (show 28 ≤ 30 + n.val by omega)).trans (congrArg (fun i => wcol x2 c 28 * gcol x3 c i) (show 30 + n.val - 28 = n.val + (30 - 28) by omega)))
  have t29 : val_main_v164 (F := Ideal) x2 x3 (ix2 (⟨30 + n.val, by omega⟩ : Fin 4126) c) = wcol x2 c 29 * gcol x3 c (n.val + (30 - 29)) :=
    (term_at x2 x3 29 1 (by decide) slices_S31x4096x2048_S1x4096x2048_29_0_0 shapeCasts_S1x4096x2048_S4096x2048 pads_S4096x2048_S4126x2048_2910_000 _ c).trans
      ((if_pos (show 29 ≤ 30 + n.val by omega)).trans (congrArg (fun i => wcol x2 c 29 * gcol x3 c i) (show 30 + n.val - 29 = n.val + (30 - 29) by omega)))
  have t30 : val_main_v163 (F := Ideal) x2 x3 (ix2 (⟨30 + n.val, by omega⟩ : Fin 4126) c) = wcol x2 c 30 * gcol x3 c (n.val + (30 - 30)) :=
    (term_at x2 x3 30 0 (by decide) slices_S31x4096x2048_S1x4096x2048_30_0_0 shapeCasts_S1x4096x2048_S4096x2048 pads_S4096x2048_S4126x2048_3000_000 _ c).trans
      ((if_pos (show 30 ≤ 30 + n.val by omega)).trans (congrArg (fun i => wcol x2 c 30 * gcol x3 c i) (show 30 + n.val - 30 = n.val + (30 - 30) by omega)))
  simp only [val_main_v223_apply, val_main_v221_apply, val_main_v219_apply, val_main_v217_apply, val_main_v215_apply, val_main_v213_apply, val_main_v211_apply, val_main_v209_apply, val_main_v207_apply, val_main_v205_apply, val_main_v203_apply, val_main_v201_apply, val_main_v199_apply, val_main_v197_apply, val_main_v195_apply, val_main_v193_apply, val_main_v191_apply, val_main_v189_apply, val_main_v187_apply, val_main_v185_apply, val_main_v183_apply, val_main_v181_apply, val_main_v179_apply, val_main_v177_apply, val_main_v175_apply, val_main_v173_apply, val_main_v171_apply, val_main_v169_apply, val_main_v167_apply, val_main_v165_apply, t0, t1, t2, t3, t4, t5, t6, t7, t8, t9, t10, t11, t12, t13, t14, t15, t16, t17, t18, t19, t20, t21, t22, t23, t24, t25, t26, t27, t28, t29, t30, Ideal.addf_def]
  unfold dgated
  rw [← Finset.sum_range_reflect]
  simp only [Finset.sum_range_succ, Finset.sum_range_zero, zero_add]

/-- The pair of gradients, before the final change of format. -/
theorem v233_at (h : Fin 2) (n : Fin 4096) (c : Fin 2048) :
    val_main_v233 (F := Ideal) x0 x1 x2 x3 (ix3 h n c) = drow (ucol x0 x1 0 c) (ucol x0 x1 1 c) (wcol x2 c) (gcol x3 c) h n.val := by
  have z40 : ∀ i, val_main_cst_40 (F := Ideal) i = 0 := fun i => Ideal.ofBits_zero .f32
  have z41 : ∀ i, val_main_cst_41 (F := Ideal) i = 0 := fun i => Ideal.ofBits_zero .f32
  have i229 : idx_main_v229 (ix3 0 n c) = ix2 n c := funext fun a => Fin.ext (by match a with | ⟨0, _⟩ => rfl | ⟨1, _⟩ => rfl)
  have i231 : idx_main_v231 (ix3 0 n c) = ix2 n c := funext fun a => Fin.ext (by match a with | ⟨0, _⟩ => rfl | ⟨1, _⟩ => rfl)
  rw [val_main_v233_apply]
  match h with
  | 0 =>
    have a : val_main_v230 (F := Ideal) x0 x1 x2 x3 (ix3 0 n c) = 0 := by
      unfold val_main_v230
      rw [pad_apply_of_not_inside _ _ _ _ _ _ h_S_ (ix3 0 n c) 0 (fun h => Nat.not_succ_le_zero 0 h.1), z40]
    have b : val_main_v232 (F := Ideal) x0 x1 x2 x3 (ix3 0 n c) = val_main_v231 (F := Ideal) x0 x1 x2 x3 (ix3 0 n c) := by
      unfold val_main_v232
      exact pad_apply_of_inside _ _ _ _ _ _ h_S_ (ix3 0 n c) (ix3 0 n c) (fun a => match a with
        | ⟨0, _⟩ => rfl
        | ⟨1, _⟩ => by show n.val = 0 + n.val * (0 + 1); omega
        | ⟨2, _⟩ => by show c.val = 0 + c.val * (0 + 1); omega)
    rw [a, b, val_main_v231_apply, i231, val_main_v227_apply, v225_at, v12_at, Ideal.addf_def, Ideal.mulf_def, zero_add]
    rfl
  | 1 =>
    have a : val_main_v232 (F := Ideal) x0 x1 x2 x3 (ix3 1 n c) = 0 := by
      unfold val_main_v232
      rw [pad_apply_of_not_inside _ _ _ _ _ _ h_S_ (ix3 1 n c) 0 (fun h => by
        have := h.2.2
        change (1 - 0) / (0 + 1) < 1 at this
        omega), z41]
    have b : val_main_v230 (F := Ideal) x0 x1 x2 x3 (ix3 1 n c) = val_main_v229 (F := Ideal) x0 x1 x2 x3 (ix3 0 n c) := by
      unfold val_main_v230
      exact pad_apply_of_inside _ _ _ _ _ _ h_S_ (ix3 1 n c) (ix3 0 n c) (fun a => match a with
        | ⟨0, _⟩ => rfl
        | ⟨1, _⟩ => by show n.val = 0 + n.val * (0 + 1); omega
        | ⟨2, _⟩ => by show c.val = 0 + c.val * (0 + 1); omega)
    rw [a, b, val_main_v229_apply, i229, val_main_v228_apply, val_main_v226_apply, v225_at, v4_at, v15_at, Ideal.addf_def, Ideal.mulf_def, Ideal.mulf_def, add_zero]
    show _ = dgated _ _ _ * _ * _ * _
    rw [mul_comm (ucol x0 x1 0 c n.val), mul_assoc _ (gate _)]

/-- The gradient of the input. -/
theorem v236_at (h : Fin 2) (n : Fin 4096) (c : Fin 2048) :
    val_main_v236 (F := Ideal) x0 x1 x2 x3 (ix3 h n c) = drow (ucol x0 x1 0 c) (ucol x0 x1 1 c) (wcol x2 c) (gcol x3 c) h n.val := by
  rw [← v233_at]
  rfl

/-- The gradient of the taps. -/
theorem v100_at (j : Fin 31) (c : Fin 2048) :
    val_main_v100 (F := Ideal) x0 x1 x3 (ix2 j c) = ∑ n ∈ Finset.range 4096, dtap (ucol x0 x1 0 c) (ucol x0 x1 1 c) (gcol x3 c) j.val n := by
  have z7 : ∀ i, val_main_cst_7 (F := Ideal) i = 0 := fun i => Ideal.ofBits_zero .f32
  have z8 : ∀ i, val_main_cst_8 (F := Ideal) i = 0 := fun i => Ideal.ofBits_zero .f32
  have hi : idx_main_v99 (idx_main_v100 (ix2 j c) 0) = ix2 j c := funext fun a => Fin.ext (by
    have h0 := j.isLt
    have h1 := c.isLt
    match a with
    | ⟨0, _⟩ => show ((j.val * 1 + 0) * 2048 + c.val) / 2048 = j.val; omega
    | ⟨1, _⟩ => show ((j.val * 1 + 0) * 2048 + c.val) % 2048 = c.val; omega)
  rw [val_main_v100_apply, z8, zero_add, Fin.sum_univ_one, val_main_v99_apply, hi, val_main_v98_apply, z7, zero_add, ← Fin.sum_univ_eq_sum_range]
  refine Finset.sum_congr rfl fun n _ => ?_
  have hk : idx_main_v98 (ix2 j c) n = ix3 j n c := funext fun a => Fin.ext (by match a with | ⟨0, _⟩ => rfl | ⟨1, _⟩ => rfl | ⟨2, _⟩ => rfl)
  rw [hk, val_main_v97_apply, v94_at, v84_at, v18_at]
  rfl

/-- The gradient of the convolution's bias. -/
theorem v93_at (c : Fin 2048) : val_main_v93 (F := Ideal) x3 (ix2 0 c) = ∑ n ∈ Finset.range 4096, gcol x3 c n := by
  have z6 : ∀ i, val_main_cst_6 (F := Ideal) i = 0 := fun i => Ideal.ofBits_zero .f32
  rw [val_main_v93_apply, val_main_v92_apply, z6, zero_add, ← Fin.sum_univ_eq_sum_range]
  refine Finset.sum_congr rfl fun n _ => ?_
  rw [gcol, dif_pos n.isLt]
  exact congrArg x3 (funext fun a => Fin.ext (by
    have h1 := c.isLt
    match a with
    | ⟨0, _⟩ => rfl
    | ⟨1, _⟩ => show 0 * 2048 + c.val = c.val; omega))

/-- The gradient of the input's bias. -/
theorem v235_at (h : Fin 2) (c : Fin 2048) :
    val_main_v235 (F := Ideal) x0 x1 x2 x3 (ix3 h 0 c) = ∑ n ∈ Finset.range 4096, drow (ucol x0 x1 0 c) (ucol x0 x1 1 c) (wcol x2 c) (gcol x3 c) h n := by
  have z42 : ∀ i, val_main_cst_42 (F := Ideal) i = 0 := fun i => Ideal.ofBits_zero .f32
  rw [val_main_v235_apply, val_main_v234_apply, z42, zero_add, ← Fin.sum_univ_eq_sum_range]
  refine Finset.sum_congr rfl fun n _ => ?_
  have hk : idx_main_v234 (idx_main_v235 (ix3 h 0 c)) n = ix3 h n c := funext fun a => Fin.ext (by
    have h0 := h.isLt
    have h1 := c.isLt
    match a with
    | ⟨0, _⟩ => show ((h.val * 1 + 0) * 2048 + c.val) / 2048 = h.val; omega
    | ⟨1, _⟩ => rfl
    | ⟨2, _⟩ => show ((h.val * 1 + 0) * 2048 + c.val) % 2048 = c.val; omega)
  rw [hk, v233_at]

end Cert.ReferenceIdeal.GluRef

end
-- ==== Proof.GluSame.lean ====
module
public import proofs.«01_k».proof.Defs
public import proofs.«01_k».proof.Proof.Gen.Kernel
public import proofs.«01_k».proof.Proof.Gen.KernelIdeal
@[expose] public section
set_option maxRecDepth 100000
noncomputable section
set_option maxHeartbeats 4000000

/-! # The kernel and its idealization have one text -/

namespace Cert.GluSame

open Idealize.ShloMosaic
variable {F : FTy → Type} [FloatOps F]

theorem body_eq : @Cert.Kernel.cc0_glu_conv_bwd F _ _ = @Cert.KernelIdeal.cc0_glu_conv_bwd F _ _ := rfl

theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := F) = Cert.KernelIdeal.defs (F := F) := congrArg (Pipeline.defs Cert.KernelIdeal.pcfgs) defs₀_eq

end Cert.GluSame

end
-- ==== Proof.GluClaim.lean ====
module
public import proofs.«01_k».proof.Defs
public import proofs.«01_k».proof.Proof.Gen.Kernel
public import proofs.«01_k».proof.Proof.GluArr
public import proofs.«01_k».proof.Proof.GluRef
public import proofs.«01_k».proof.Proof.GluSame
public import Idealize.ShloMosaic.Lib.QuiescentFlight
@[expose] public section
set_option maxRecDepth 16384
noncomputable section
set_option maxHeartbeats 4000000

/-! # The five claims about the gated depthwise convolution's backward -/

namespace Cert.Proof

open Idealize.ShloMosaic Idealize.ShloMosaic.TcCoe Idealize.SL.Sem Idealize.ShloMosaic.StableHlo
open KernelIdeal.GluBwd

theorem frame_Kernel : quiescent_Kernel := by
  intro m ρ _
  rw [Cert.GluSame.defs_eq]
  exact (θ_run _ _ _).mono (fun _ h => h) (KernelIdeal.GluBwd.frame (F := Bits) m ρ)

theorem frame_KernelIdeal : quiescent_KernelIdeal := fun m ρ _ => KernelIdeal.GluBwd.frame m ρ

theorem frame_ReferenceIdeal : quiescent_ReferenceIdeal := fun m ρ _ =>
  (θ_run _ _ _).mono (fun r h => ⟨fun c => (h c).2.2.2.2, sem_eq_zero_of_no_sems (by decide) r.2⟩)
    (ReferenceIdeal.Value.run m ρ)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (h0 : m' ((c.tc : Thread ReferenceIdeal.nD ReferenceIdeal.τ).loc ReferenceIdeal.main_arg0) = m ((c.tc : Thread KernelIdeal.nD KernelIdeal.τ).loc KernelIdeal.main_arg0))
  (h1 : m' ((c.tc : Thread ReferenceIdeal.nD ReferenceIdeal.τ).loc ReferenceIdeal.main_arg1) = m ((c.tc : Thread KernelIdeal.nD KernelIdeal.τ).loc KernelIdeal.main_arg1))
  (h2 : m' ((c.tc : Thread ReferenceIdeal.nD ReferenceIdeal.τ).loc ReferenceIdeal.main_arg2) = m ((c.tc : Thread KernelIdeal.nD KernelIdeal.τ).loc KernelIdeal.main_arg2))
  (h3 : m' ((c.tc : Thread ReferenceIdeal.nD ReferenceIdeal.τ).loc ReferenceIdeal.main_arg3) = m ((c.tc : Thread KernelIdeal.nD KernelIdeal.τ).loc KernelIdeal.main_arg3))

include h0 h1 h2 h3 in
/-- The reference's gradient of the input is the kernel's. -/
theorem gradU_ref : ReferenceIdeal.Read.val_main_v236 (F := Ideal) (launchContents m' c (Proc.devRef .tc ReferenceIdeal.main_arg0))
    (launchContents m' c (Proc.devRef .tc ReferenceIdeal.main_arg1)) (launchContents m' c (Proc.devRef .tc ReferenceIdeal.main_arg2))
    (launchContents m' c (Proc.devRef .tc ReferenceIdeal.main_arg3)) = gradU m c := by
  rw [launchContents_devRef, launchContents_devRef, launchContents_devRef, launchContents_devRef, h0, h1, h2, h3]
  funext i
  rw [eq_ix3 i]
  exact ReferenceIdeal.GluRef.v236_at _ _ _ _ (i 0) (i 1) (i 2)

include h0 h1 h3 in
/-- The reference's gradient of the taps is the kernel's. -/
theorem gradW_ref : ReferenceIdeal.Read.val_main_v100 (F := Ideal) (launchContents m' c (Proc.devRef .tc ReferenceIdeal.main_arg0))
    (launchContents m' c (Proc.devRef .tc ReferenceIdeal.main_arg1))
    (launchContents m' c (Proc.devRef .tc ReferenceIdeal.main_arg3)) = gradW m c := by
  rw [launchContents_devRef, launchContents_devRef, launchContents_devRef, h0, h1, h3]
  funext i
  rw [eq_ix2 i]
  exact ReferenceIdeal.GluRef.v100_at _ _ _ (i 0) (i 1)

include h3 in
/-- The reference's gradient of the convolution's bias is the kernel's. -/
theorem gradB_ref : ReferenceIdeal.Read.val_main_v93 (F := Ideal) (launchContents m' c (Proc.devRef .tc ReferenceIdeal.main_arg3)) = gradB m c := by
  rw [launchContents_devRef, h3]
  funext i
  have e : i = ix2 0 (i 1) := (eq_ix2 i).trans (congrArg (ix2 · (i 1)) (Fin.eq_zero (i 0)))
  rw [e]
  exact ReferenceIdeal.GluRef.v93_at _ (i 1)

include h0 h1 h2 h3 in
/-- The reference's gradient of the input's bias is the kernel's. -/
theorem gradBin_ref : ReferenceIdeal.Read.val_main_v235 (F := Ideal) (launchContents m' c (Proc.devRef .tc ReferenceIdeal.main_arg0))
    (launchContents m' c (Proc.devRef .tc ReferenceIdeal.main_arg1)) (launchContents m' c (Proc.devRef .tc ReferenceIdeal.main_arg2))
    (launchContents m' c (Proc.devRef .tc ReferenceIdeal.main_arg3)) = gradBin m c := by
  rw [launchContents_devRef, launchContents_devRef, launchContents_devRef, launchContents_devRef, h0, h1, h2, h3]
  funext i
  have e : i = ix3 (i 0) 0 (i 2) := (eq_ix3 i).trans (congrArg (ix3 (i 0) · (i 2)) (Fin.eq_zero (i 1)))
  rw [e]
  exact ReferenceIdeal.GluRef.v235_at _ _ _ _ (i 0) (i 2)

theorem value_KernelIdeal : algebraic_KernelIdeal_ReferenceIdeal := by
  intro m ρ m' ρ' _ hag
  refine ⟨gradU m, gradW m, gradB m, gradBin m, ?_, ?_⟩
  · refine (θ_run _ _ _).mono (fun _ h c => ?_) (run_blocks m ρ)
    obtain ⟨a, b, d, e, k⟩ := h c
    exact ⟨a.trans (final3 m c), b.trans (final4 m c), d.trans (final5 m c), e.trans (final6 m c), k⟩
  · refine (θ_run _ _ _).mono (fun _ h c => ?_) (ReferenceIdeal.Value.run m' ρ')
    obtain ⟨a, b, d, e, k⟩ := h c
    obtain ⟨h0, h1, h2, h3⟩ := hag c
    exact ⟨a.trans ((ReferenceIdeal.Read.val_main_v236_eq _).trans (gradU_ref m m' c h0 h1 h2 h3)),
      b.trans ((ReferenceIdeal.Read.val_main_v100_eq _).trans (gradW_ref m m' c h0 h1 h3)),
      d.trans ((ReferenceIdeal.Read.val_main_v93_eq _).trans (gradB_ref m m' c h3)),
      e.trans ((ReferenceIdeal.Read.val_main_v235_eq _).trans (gradBin_ref m m' c h0 h1 h2 h3)), k⟩

end Cert.Proof

end
-- ==== Proof.Lib.lean ====
/- What of the library the modules of the products, the norms, the steps and the attention use. -/
module
public import proofs.«01_k».proof.Defs
public import Idealize.ShloMosaic.Lib.ValueIdx
public import Idealize.ShloMosaic.Lib.Pointwise
public import Idealize.ShloMosaic.Lib.Claim
public import Idealize.ShloMosaic.Lib.Pipeline.ValueKit
public import Idealize.ShloMosaic.Lib.QuiescentFlight
-- ==== Proof.UpW.lean ====
module
public import proofs.«01_k».proof.Proof.Gen.Kernel2.Frame
public import proofs.«01_k».proof.Proof.Gen.Kernel2Ideal.Value
public import proofs.«01_k».proof.Proof.Gen.Reference2Ideal.Run
public import proofs.«01_k».proof.Proof.Lib
@[expose] public section
set_option maxRecDepth 16384
noncomputable section
set_option maxHeartbeats 4000000

/-! # The gradient of the feed-forward input weights

The kernel multiplies blocks of 1024 by 2048 and 2048 by 1408, adds two of them in an accumulator and stores the
sum as a block of the result, which is laid out as four column blocks. -/

namespace Cert.Kernel2Ideal.UpW

open Idealize.ShloMosaic TcCoe Tactic
open Cert.Kernel2Ideal.Gen

variable (m : (ℓ : Loc nD τ sig) → Buf (Elt Ideal) ℓ) (c : Dev nD)

/-- The product of one left and one right block, at one place. -/
def prod (x : Vec Ideal S1024x2048 .bf16) (y : Vec Ideal S1x2048x1408 .bf16) (j : S1024x1408.Idx) : EReal :=
  ∑ k : Fin 2048, (show EReal from x (ix2 (j 0) k)) * (show EReal from y (ix3 0 k (j 1)))

theorem pay2_apply (x : Vec Ideal S1024x2048 .bf16) (y : Vec Ideal S1x2048x1408 .bf16) (j : S1024x1408.Idx) :
    k0_pay2 x y j = prod x y j := by
  unfold k0_pay2 k0_pay1 prod
  pointwise

theorem pay3_apply (x : Vec Ideal S1024x2048 .bf16) (y : Vec Ideal S1x2048x1408 .bf16) (v : Vec Ideal S1024x1408 .f32) (j : S1024x1408.Idx) :
    k0_pay3 x y v j = (show EReal from v j) + prod x y j := by
  unfold k0_pay3 k0_pay1 prod
  pointwise

/-! ## Which block each grid point reads and writes -/

theorem index0 : ∀ t : Fin cfg0.N, win0_0.index t = ![t.val / 16, t.val % 2] := (by decide +kernel : ∀ t : Fin grid0.N, _)
theorem index1 : ∀ t : Fin cfg0.N, win0_1.index t = ![t.val / 2 % 8 / 4, t.val % 2, t.val / 2 % 4] := (by decide +kernel : ∀ t : Fin grid0.N, _)
theorem index2 : ∀ t : Fin cfg0.N, win0_2.index t = ![t.val / 2 % 8 / 2, t.val / 16, t.val / 2 % 2] := (by decide +kernel : ∀ t : Fin grid0.N, _)

/-- The left block, read from the argument it is cut from. -/
theorem left_blk (t : Fin cfg0.N) (r : Fin 1024) (k : Fin 2048) (a : Fin 4096) (b : Fin 2048) (ha : a.val = 2048 * (t.val % 2) + k.val) (hb : b.val = 1024 * (t.val / 16) + r.val) :
    iblk m c 0 t (ix2 r k) = m ((c : Thread nD τ).loc main_arg0) (ix2 a b) := by
  blk_simp [iblk]
  entry_read
  pointwise
  refine congrArg (m ((c : Thread nD τ).loc main_arg0)) ?_
  blk_ext [index0]

/-- The right block, read from the argument it is cut from. -/
theorem right_blk (t : Fin cfg0.N) (q : Fin 1408) (k : Fin 2048) (a : Fin 4096) (b : Fin 11264) (ha : a.val = 2048 * (t.val % 2) + k.val) (hb : b.val = 1408 * (t.val / 2 % 8) + q.val) :
    iblk m c 1 t (ix3 0 k q) = m ((c : Thread nD τ).loc main_arg1) (ix2 a b) := by
  blk_simp [iblk]
  entry_read
  pointwise
  refine congrArg (m ((c : Thread nD τ).loc main_arg1)) ?_
  blk_ext [index1]

/-! ## The accumulator -/

theorem acc_first (t : Fin cfg0.N) (h : t.val % 2 = 0) (j : S1024x1408.Idx) :
    (outsAt0 m c t.val t.isLt).2 j = (0 : EReal) + prod (iblk m c 0 t) (iblk m c 1 t) j := by
  rw [outsAt0_A m c t h (by omega) (by omega)]
  frame_out
  rw [pay2_apply, zero_add]

theorem acc_next (t : Fin cfg0.N) (h : ¬ t.val % 2 = 0) (j : S1024x1408.Idx) :
    (outsAt0 m c t.val t.isLt).2 j
      = (show EReal from (outsAt0 m c (t.val - 1) (Nat.lt_of_le_of_lt (Nat.sub_le _ _) t.isLt)).2 j)
        + prod (iblk m c 0 t) (iblk m c 1 t) j := by
  rw [outsAt0_B m c t h (by omega) (by omega)]
  frame_out
  rw [pay3_apply, (Memref.isWhole_whole _).read_unread]

/-- After its last step the accumulator holds the sum over the whole contracted axis. -/
theorem acc_sum (t : Fin cfg0.N) (h : t.val % 2 = 1) (j : S1024x1408.Idx) (f : Fin 4096 → EReal)
    (hf : ∀ (s : Fin 2) (k : Fin 2048) (p : Fin cfg0.N) (_ : p.val = 2 * (t.val / 2) + s.val) (l : Fin 4096) (_ : l.val = s.val * 2048 + k.val),
      (show EReal from iblk m c 0 p (ix2 (j 0) k)) * (show EReal from iblk m c 1 p (ix3 0 k (j 1))) = f l) :
    (outsAt0 m c t.val t.isLt).2 j = ∑ l, f l := by
  rw [Pipeline.eq_sum_fin_of_reset_step_apply_of_flush (fun n h => (outsAt0 m c n h).2) 2 (fun _ => (0 : EReal))
    (fun p => prod (iblk m c 0 p) (iblk m c 1 p)) (acc_first m c) (acc_next m c) t h j, zero_add]
  exact Fin.sum_mul_add_congr fun s k hl => hf s k _ rfl _ rfl

/-- The last step stores the accumulator, rounded, as the result's block. -/
theorem out_last (t : Fin cfg0.N) (h : t.val % 2 = 1) (j : S1x1024x1408.Idx) :
    (outsAt0 m c t.val t.isLt).1 j = (outsAt0 m c t.val t.isLt).2 (ix2 (j 1) (j 2)) := by
  rw [outsAt0_B m c t (by omega) h h]
  frame_out
  unfold k0_pay4
  pointwise

/-! ## The result -/

/-- The gradient of the weights, as four column blocks. -/
def grad : Buf (Elt Ideal) ((c : Thread nD τ).loc main_v5) := fun i =>
  show EReal from ∑ l : Fin 4096, (show EReal from m ((c : Thread nD τ).loc main_arg0) (ix2 l (i 1)))
    * (show EReal from m ((c : Thread nD τ).loc main_arg1) (ix2 l ⟨2816 * (i 0).val + (i 2).val, by
        have h0 : (i 0).val < 4 := (i 0).isLt
        have h2 : (i 2).val < 2816 := (i 2).isLt
        omega⟩))

/-- The result array holds the gradient. -/
theorem final2 : (dats m 0 c).arrAt 2 cfg0.N = grad m c := by
  refine (dats m 0 c).arrAt_eq_of_covers 2 _ (by decide +kernel) fun t hf y => ?_
  blk_simp
  rw [after0_2]
  have hN : t.val < 32 := t.isLt
  have e0 : ((win0_2.blk t).view.emb y 0).val = t.val / 2 % 8 / 2 := by blk_simp [index2]
  have e1 : ((win0_2.blk t).view.emb y 1).val = t.val / 16 * 1024 + (y 1).val := by blk_simp [index2]
  have e2 : ((win0_2.blk t).view.emb y 2).val = t.val / 2 % 2 * 1408 + (y 2).val := by blk_simp [index2]
  have ht : t.val % 2 = 1 := (flush0_2 t).mp hf
  refine (out_last m c t ht y).trans ?_
  refine acc_sum m c t ht _ _ fun s k p e l hl => congrArg₂ (· * ·) ?_ ?_
  · refine left_blk m c p _ _ _ _ (by omega) (e1.trans ?_)
    show _ = _ + (y 1).val
    omega
  · refine right_blk m c p _ _ _ _ (by omega) ?_
    show 2816 * ((win0_2.blk t).view.emb y 0).val + ((win0_2.blk t).view.emb y 2).val = _ + (y 2).val
    rw [e0, e2]
    omega

end Cert.Kernel2Ideal.UpW

namespace Cert.Proof

open Idealize.ShloMosaic TcCoe Idealize.SL.Sem StableHlo Tactic

theorem frame_Kernel2 : quiescent_Kernel2 := fun m ρ _ => Kernel2.Gen.frame m ρ

theorem frame_Kernel2Ideal : quiescent_Kernel2Ideal := fun m ρ _ => Kernel2Ideal.Gen.frame m ρ

theorem frame_Reference2Ideal : quiescent_Reference2Ideal := fun m ρ _ =>
  (θ_run _ _ _).mono (fun r h => ⟨fun c => (h c).2, sem_eq_zero_of_no_sems (by decide) r.2⟩)
    (Reference2Ideal.Value.run m ρ)

section
open Reference2Ideal Reference2Ideal.Gen

/-- The reference's result, read at one place. -/
theorem ref2_at (x : Vec Ideal S4096x2048 .f32) (y : Vec Ideal S4096x11264 .f32) (i : S4x2048x2816.Idx) (b : Fin 11264)
    (hb : b.val = 2816 * (i 0).val + (i 2).val) :
    truncf (F := Ideal) .bf16 (transpose S4x2048x2816 [1, 0, 2] (shapeCast _ (transpose S2048x11264 [1, 0] (Host.dotGeneral (F := Ideal) (φ₁ := .f32) (φ₂ := .f32) dot_S4096x11264_S4096x2048_S11264x2048_0_0_1_1_n_n none y x) transposes_S11264x2048_S2048x11264_1_0) shapeCasts_S2048x11264_S2048x4x2816) transposes_S2048x4x2816_S4x2048x2816_1_0_2) bitsLt_bf16_f32 i
      = (show EReal from ∑ l : Fin 4096, (show EReal from x (ix2 l (i 1))) * (show EReal from y (ix2 l b))) := by
  pointwise
  refine Finset.sum_congr rfl fun l _ => (mul_comm _ _).trans (congrArg₂ (· * ·) rfl (congrArg (fun q => y (ix2 l q)) (Fin.ext ?_)))
  show (i 0).val * 2816 + (i 2).val = b.val
  omega

end

theorem value_Kernel2Ideal : algebraic_Kernel2Ideal_Reference2Ideal := by
  intro m ρ m' ρ' _ hag
  refine ⟨Kernel2Ideal.UpW.grad m, ?_, ?_⟩
  · exact (θ_run _ _ _).mono (fun _ h c => ⟨(h c).1.trans (Kernel2Ideal.UpW.final2 m c), (h c).2⟩)
      (Kernel2Ideal.Value.run_blocks m ρ)
  · refine (θ_run _ _ _).mono (fun _ h c => ⟨(h c).1.trans ?_, (h c).2⟩) (Reference2Ideal.Value.run m' ρ')
    obtain ⟨h0, h1⟩ := hag c
    rw [h0, h1]
    funext i
    exact ref2_at _ _ i _ rfl

end Cert.Proof

end
-- ==== Proof.UpX.lean ====
module
public import proofs.«01_k».proof.Proof.Gen.Kernel3.Frame
public import proofs.«01_k».proof.Proof.Gen.Kernel3Ideal.Value
public import proofs.«01_k».proof.Proof.Gen.Reference3Ideal.Run
public import proofs.«01_k».proof.Proof.Lib
@[expose] public section
set_option maxRecDepth 16384
noncomputable section
set_option maxHeartbeats 4000000

/-! # The gradient of the feed-forward layer's input

The kernel multiplies blocks of 2048 by 1408 and 1024 by 1408 along their last axes, adds eight of them in an
accumulator and stores the sum as a block of the result. -/

namespace Cert.Kernel3Ideal.UpX

open Idealize.ShloMosaic TcCoe Tactic
open Cert.Kernel3Ideal.Gen

variable (m : (ℓ : Loc nD τ sig) → Buf (Elt Ideal) ℓ) (c : Dev nD)

/-- The product of one left and one right block, at one place. -/
def prod (x : Vec Ideal S1x2048x1408 .bf16) (y : Vec Ideal S1x1024x1408 .bf16) (j : S2048x1024.Idx) : EReal :=
  ∑ k : Fin 1408, (show EReal from x (ix3 0 (j 0) k)) * (show EReal from y (ix3 0 (j 1) k))

theorem pay2_apply (x : Vec Ideal S1x2048x1408 .bf16) (y : Vec Ideal S1x1024x1408 .bf16) (j : S2048x1024.Idx) :
    k0_pay2 x y j = prod x y j := by
  unfold k0_pay2 k0_pay1 prod
  pointwise

theorem pay3_apply (x : Vec Ideal S1x2048x1408 .bf16) (y : Vec Ideal S1x1024x1408 .bf16) (v : Vec Ideal S2048x1024 .f32) (j : S2048x1024.Idx) :
    k0_pay3 x y v j = (show EReal from v j) + prod x y j := by
  unfold k0_pay3 k0_pay1 prod
  pointwise

/-! ## Which block each grid point reads and writes -/

theorem index0 : ∀ t : Fin cfg0.N, win0_0.index t = ![t.val % 8 / 4, t.val / 16, t.val % 4] := (by decide +kernel : ∀ t : Fin grid0.N, _)
theorem index1 : ∀ t : Fin cfg0.N, win0_1.index t = ![t.val % 8 / 2, t.val / 8 % 2, t.val % 2] := (by decide +kernel : ∀ t : Fin grid0.N, _)
theorem index2 : ∀ t : Fin cfg0.N, win0_2.index t = ![t.val / 16, t.val / 8 % 2] := (by decide +kernel : ∀ t : Fin grid0.N, _)

/-- The left block, read from the argument it is cut from. -/
theorem left_blk (t : Fin cfg0.N) (r : Fin 2048) (k : Fin 1408) (a : Fin 4096) (b : Fin 11264) (ha : a.val = 2048 * (t.val / 16) + r.val) (hb : b.val = 1408 * (t.val % 8) + k.val) :
    iblk m c 0 t (ix3 0 r k) = m ((c : Thread nD τ).loc main_arg1) (ix2 a b) := by
  blk_simp [iblk]
  entry_read
  pointwise
  refine congrArg (m ((c : Thread nD τ).loc main_arg1)) ?_
  blk_ext [index0]

/-- The right block, read from the argument it is cut from. -/
theorem right_blk (t : Fin cfg0.N) (q : Fin 1024) (k : Fin 1408) (a : Fin 2048) (b : Fin 11264) (ha : a.val = 1024 * (t.val / 8 % 2) + q.val) (hb : b.val = 1408 * (t.val % 8) + k.val) :
    iblk m c 1 t (ix3 0 q k) = m ((c : Thread nD τ).loc main_arg0) (ix2 a b) := by
  blk_simp [iblk]
  entry_read
  pointwise
  refine congrArg (m ((c : Thread nD τ).loc main_arg0)) ?_
  blk_ext [index1]

/-! ## The accumulator -/

theorem acc_first (t : Fin cfg0.N) (h : t.val % 8 = 0) (j : S2048x1024.Idx) :
    (outsAt0 m c t.val t.isLt).2 j = (0 : EReal) + prod (iblk m c 0 t) (iblk m c 1 t) j := by
  rw [outsAt0_A m c t h (by omega) (by omega)]
  frame_out
  rw [pay2_apply, zero_add]

theorem acc_next (t : Fin cfg0.N) (h : ¬ t.val % 8 = 0) (j : S2048x1024.Idx) :
    (outsAt0 m c t.val t.isLt).2 j
      = (show EReal from (outsAt0 m c (t.val - 1) (Nat.lt_of_le_of_lt (Nat.sub_le _ _) t.isLt)).2 j)
        + prod (iblk m c 0 t) (iblk m c 1 t) j := by
  by_cases h7 : t.val % 8 = 7
  · rw [outsAt0_C m c t h (by omega) h7]
    frame_out
    rw [pay3_apply, (Memref.isWhole_whole _).read_unread]
  · rw [outsAt0_B m c t h (by omega) h7]
    frame_out
    rw [pay3_apply, (Memref.isWhole_whole _).read_unread]

/-- After its last step the accumulator holds the sum over the whole contracted axis. -/
theorem acc_sum (t : Fin cfg0.N) (h : t.val % 8 = 7) (j : S2048x1024.Idx) (f : Fin 11264 → EReal)
    (hf : ∀ (s : Fin 8) (k : Fin 1408) (p : Fin cfg0.N) (_ : p.val = 8 * (t.val / 8) + s.val) (l : Fin 11264) (_ : l.val = s.val * 1408 + k.val),
      (show EReal from iblk m c 0 p (ix3 0 (j 0) k)) * (show EReal from iblk m c 1 p (ix3 0 (j 1) k)) = f l) :
    (outsAt0 m c t.val t.isLt).2 j = ∑ l, f l := by
  rw [Pipeline.eq_sum_fin_of_reset_step_apply_of_flush (fun n h => (outsAt0 m c n h).2) 8 (fun _ => (0 : EReal))
    (fun p => prod (iblk m c 0 p) (iblk m c 1 p)) (acc_first m c) (acc_next m c) t h j, zero_add]
  exact Fin.sum_mul_add_congr fun s k hl => hf s k _ rfl _ rfl

/-- The last step stores the accumulator, rounded, as the result's block. -/
theorem out_last (t : Fin cfg0.N) (h : t.val % 8 = 7) (j : S2048x1024.Idx) :
    (outsAt0 m c t.val t.isLt).1 j = (outsAt0 m c t.val t.isLt).2 (j) := by
  rw [outsAt0_C m c t (by omega) (by omega) h]
  frame_out
  unfold k0_pay4
  pointwise

/-! ## The result -/

/-- The gradient of the layer's input. -/
def grad : Buf (Elt Ideal) ((c : Thread nD τ).loc main_v6) := fun i =>
  show EReal from ∑ l : Fin 11264, (show EReal from m ((c : Thread nD τ).loc main_arg1) (ix2 (i 0) l))
    * (show EReal from m ((c : Thread nD τ).loc main_arg0) (ix2 (i 1) l))

/-- The result array holds the gradient. -/
theorem final2 : (dats m 0 c).arrAt 2 cfg0.N = grad m c := by
  refine (dats m 0 c).arrAt_eq_of_covers 2 _ (by decide +kernel) fun t hf y => ?_
  blk_simp
  rw [after0_2]
  have hN : t.val < 32 := t.isLt
  have e0 : ((win0_2.blk t).view.emb y 0).val = t.val / 16 * 2048 + (y 0).val := by blk_simp [index2]
  have e1 : ((win0_2.blk t).view.emb y 1).val = t.val / 8 % 2 * 1024 + (y 1).val := by blk_simp [index2]
  have ht : t.val % 8 = 7 := (flush0_2 t).mp hf
  refine (out_last m c t ht y).trans ?_
  refine acc_sum m c t ht _ _ fun s k p e l hl => congrArg₂ (· * ·) ?_ ?_
  · refine left_blk m c p _ _ _ _ (e0.trans ?_) (by omega)
    show _ = _ + (y 0).val
    omega
  · refine right_blk m c p _ _ _ _ (e1.trans ?_) (by omega)
    show _ = _ + (y 1).val
    omega

end Cert.Kernel3Ideal.UpX

namespace Cert.Proof

open Idealize.ShloMosaic TcCoe Idealize.SL.Sem StableHlo Tactic

theorem frame_Kernel3 : quiescent_Kernel3 := fun m ρ _ => Kernel3.Gen.frame m ρ

theorem frame_Kernel3Ideal : quiescent_Kernel3Ideal := fun m ρ _ => Kernel3Ideal.Gen.frame m ρ

theorem frame_Reference3Ideal : quiescent_Reference3Ideal := fun m ρ _ =>
  (θ_run _ _ _).mono (fun r h => ⟨fun c => (h c).2, sem_eq_zero_of_no_sems (by decide) r.2⟩)
    (Reference3Ideal.Value.run m ρ)

section
open Reference3Ideal Reference3Ideal.Gen

/-- The reference's result, read at one place. -/
theorem ref3_at (x : Vec Ideal S2048x11264 .f32) (y : Vec Ideal S4096x11264 .f32) (i : S4096x2048.Idx) :
    truncf (F := Ideal) .bf16 (Host.dotGeneral (F := Ideal) (φ₁ := .f32) (φ₂ := .f32) dot_S4096x11264_S2048x11264_S4096x2048_1_1_0_0_n_n none y x) bitsLt_bf16_f32 i
      = (show EReal from ∑ l : Fin 11264, (show EReal from y (ix2 (i 0) l)) * (show EReal from x (ix2 (i 1) l))) := by
  pointwise

end

theorem value_Kernel3Ideal : algebraic_Kernel3Ideal_Reference3Ideal := by
  intro m ρ m' ρ' _ hag
  refine ⟨Kernel3Ideal.UpX.grad m, ?_, ?_⟩
  · exact (θ_run _ _ _).mono (fun _ h c => ⟨(h c).1.trans (Kernel3Ideal.UpX.final2 m c), (h c).2⟩)
      (Kernel3Ideal.Value.run_blocks m ρ)
  · refine (θ_run _ _ _).mono (fun _ h c => ⟨(h c).1.trans ?_, (h c).2⟩) (Reference3Ideal.Value.run m' ρ')
    obtain ⟨h0, h1⟩ := hag c
    rw [h0, h1]
    funext i
    exact ref3_at _ _ i

end Cert.Proof

end
-- ==== Proof.DownW.lean ====
module
public import proofs.«01_k».proof.Proof.Gen.Kernel4.Frame
public import proofs.«01_k».proof.Proof.Gen.Kernel4Ideal.Value
public import proofs.«01_k».proof.Proof.Gen.Reference4Ideal.Run
public import proofs.«01_k».proof.Proof.Lib
@[expose] public section
set_option maxRecDepth 16384
noncomputable section
set_option maxHeartbeats 4000000

/-! # The gradient of the feed-forward output weights

The kernel multiplies blocks of 2816 by 2048 and 2048 by 512, adds two of them in an accumulator and stores the
sum as a block of the result. -/

namespace Cert.Kernel4Ideal.DownW

open Idealize.ShloMosaic TcCoe Tactic
open Cert.Kernel4Ideal.Gen

variable (m : (ℓ : Loc nD τ sig) → Buf (Elt Ideal) ℓ) (c : Dev nD)

/-- The product of one left and one right block, at one place. -/
def prod (x : Vec Ideal S2816x2048 .bf16) (y : Vec Ideal S2048x512 .bf16) (j : S2816x512.Idx) : EReal :=
  ∑ k : Fin 2048, (show EReal from x (ix2 (j 0) k)) * (show EReal from y (ix2 k (j 1)))

theorem pay2_apply (x : Vec Ideal S2816x2048 .bf16) (y : Vec Ideal S2048x512 .bf16) (j : S2816x512.Idx) :
    k0_pay2 x y j = prod x y j := by
  unfold k0_pay2 k0_pay1 prod
  pointwise

theorem pay3_apply (x : Vec Ideal S2816x2048 .bf16) (y : Vec Ideal S2048x512 .bf16) (v : Vec Ideal S2816x512 .f32) (j : S2816x512.Idx) :
    k0_pay3 x y v j = (show EReal from v j) + prod x y j := by
  unfold k0_pay3 k0_pay1 prod
  pointwise

/-! ## Which block each grid point reads and writes -/

theorem index0 : ∀ t : Fin cfg0.N, win0_0.index t = ![t.val / 8, t.val % 2] := (by decide +kernel : ∀ t : Fin grid0.N, _)
theorem index1 : ∀ t : Fin cfg0.N, win0_1.index t = ![t.val % 2, t.val / 2 % 4] := (by decide +kernel : ∀ t : Fin grid0.N, _)
theorem index2 : ∀ t : Fin cfg0.N, win0_2.index t = ![t.val / 8, t.val / 2 % 4] := (by decide +kernel : ∀ t : Fin grid0.N, _)

/-- The left block, read from the argument it is cut from. -/
theorem left_blk (t : Fin cfg0.N) (r : Fin 2816) (k : Fin 2048) (a : Fin 4096) (b : Fin 5632) (ha : a.val = 2048 * (t.val % 2) + k.val) (hb : b.val = 2816 * (t.val / 8) + r.val) :
    iblk m c 0 t (ix2 r k) = m ((c : Thread nD τ).loc main_arg0) (ix2 a b) := by
  blk_simp [iblk]
  entry_read
  pointwise
  refine congrArg (m ((c : Thread nD τ).loc main_arg0)) ?_
  blk_ext [index0]

/-- The right block, read from the argument it is cut from. -/
theorem right_blk (t : Fin cfg0.N) (q : Fin 512) (k : Fin 2048) (a : Fin 4096) (b : Fin 2048) (ha : a.val = 2048 * (t.val % 2) + k.val) (hb : b.val = 512 * (t.val / 2 % 4) + q.val) :
    iblk m c 1 t (ix2 k q) = m ((c : Thread nD τ).loc main_arg1) (ix2 a b) := by
  blk_simp [iblk]
  entry_read
  pointwise
  refine congrArg (m ((c : Thread nD τ).loc main_arg1)) ?_
  blk_ext [index1]

/-! ## The accumulator -/

theorem acc_first (t : Fin cfg0.N) (h : t.val % 2 = 0) (j : S2816x512.Idx) :
    (outsAt0 m c t.val t.isLt).2 j = (0 : EReal) + prod (iblk m c 0 t) (iblk m c 1 t) j := by
  rw [outsAt0_A m c t h (by omega) (by omega)]
  frame_out
  rw [pay2_apply, zero_add]

theorem acc_next (t : Fin cfg0.N) (h : ¬ t.val % 2 = 0) (j : S2816x512.Idx) :
    (outsAt0 m c t.val t.isLt).2 j
      = (show EReal from (outsAt0 m c (t.val - 1) (Nat.lt_of_le_of_lt (Nat.sub_le _ _) t.isLt)).2 j)
        + prod (iblk m c 0 t) (iblk m c 1 t) j := by
  rw [outsAt0_B m c t h (by omega) (by omega)]
  frame_out
  rw [pay3_apply, (Memref.isWhole_whole _).read_unread]

/-- After its last step the accumulator holds the sum over the whole contracted axis. -/
theorem acc_sum (t : Fin cfg0.N) (h : t.val % 2 = 1) (j : S2816x512.Idx) (f : Fin 4096 → EReal)
    (hf : ∀ (s : Fin 2) (k : Fin 2048) (p : Fin cfg0.N) (_ : p.val = 2 * (t.val / 2) + s.val) (l : Fin 4096) (_ : l.val = s.val * 2048 + k.val),
      (show EReal from iblk m c 0 p (ix2 (j 0) k)) * (show EReal from iblk m c 1 p (ix2 k (j 1))) = f l) :
    (outsAt0 m c t.val t.isLt).2 j = ∑ l, f l := by
  rw [Pipeline.eq_sum_fin_of_reset_step_apply_of_flush (fun n h => (outsAt0 m c n h).2) 2 (fun _ => (0 : EReal))
    (fun p => prod (iblk m c 0 p) (iblk m c 1 p)) (acc_first m c) (acc_next m c) t h j, zero_add]
  exact Fin.sum_mul_add_congr fun s k hl => hf s k _ rfl _ rfl

/-- The last step stores the accumulator, rounded, as the result's block. -/
theorem out_last (t : Fin cfg0.N) (h : t.val % 2 = 1) (j : S2816x512.Idx) :
    (outsAt0 m c t.val t.isLt).1 j = (outsAt0 m c t.val t.isLt).2 (j) := by
  rw [outsAt0_B m c t (by omega) (by omega) h]
  frame_out
  unfold k0_pay4
  pointwise

/-! ## The result -/

/-- The gradient of the weights. -/
def grad : Buf (Elt Ideal) ((c : Thread nD τ).loc main_v3) := fun i =>
  show EReal from ∑ l : Fin 4096, (show EReal from m ((c : Thread nD τ).loc main_arg0) (ix2 l (i 0)))
    * (show EReal from m ((c : Thread nD τ).loc main_arg1) (ix2 l (i 1)))

/-- The result array holds the gradient. -/
theorem final2 : (dats m 0 c).arrAt 2 cfg0.N = grad m c := by
  refine (dats m 0 c).arrAt_eq_of_covers 2 _ (by decide +kernel) fun t hf y => ?_
  blk_simp
  rw [after0_2]
  have hN : t.val < 16 := t.isLt
  have e0 : ((win0_2.blk t).view.emb y 0).val = t.val / 8 * 2816 + (y 0).val := by blk_simp [index2]
  have e1 : ((win0_2.blk t).view.emb y 1).val = t.val / 2 % 4 * 512 + (y 1).val := by blk_simp [index2]
  have ht : t.val % 2 = 1 := (flush0_2 t).mp hf
  refine (out_last m c t ht y).trans ?_
  refine acc_sum m c t ht _ _ fun s k p e l hl => congrArg₂ (· * ·) ?_ ?_
  · refine left_blk m c p _ _ _ _ (by omega) (e0.trans ?_)
    show _ = _ + (y 0).val
    omega
  · refine right_blk m c p _ _ _ _ (by omega) (e1.trans ?_)
    show _ = _ + (y 1).val
    omega

end Cert.Kernel4Ideal.DownW

namespace Cert.Proof

open Idealize.ShloMosaic TcCoe Idealize.SL.Sem StableHlo Tactic

theorem frame_Kernel4 : quiescent_Kernel4 := fun m ρ _ => Kernel4.Gen.frame m ρ

theorem frame_Kernel4Ideal : quiescent_Kernel4Ideal := fun m ρ _ => Kernel4Ideal.Gen.frame m ρ

theorem frame_Reference4Ideal : quiescent_Reference4Ideal := fun m ρ _ =>
  (θ_run _ _ _).mono (fun r h => ⟨fun c => (h c).2, sem_eq_zero_of_no_sems (by decide) r.2⟩)
    (Reference4Ideal.Value.run m ρ)

section
open Reference4Ideal Reference4Ideal.Gen

/-- The reference's result, read at one place. -/
theorem ref4_at (x : Vec Ideal S4096x5632 .f32) (y : Vec Ideal S4096x2048 .f32) (i : S5632x2048.Idx) :
    truncf (F := Ideal) .bf16 (transpose S5632x2048 [1, 0] (Host.dotGeneral (F := Ideal) (φ₁ := .f32) (φ₂ := .f32) dot_S4096x2048_S4096x5632_S2048x5632_0_0_1_1_n_n none y x) transposes_S2048x5632_S5632x2048_1_0) bitsLt_bf16_f32 i
      = (show EReal from ∑ l : Fin 4096, (show EReal from x (ix2 l (i 0))) * (show EReal from y (ix2 l (i 1)))) := by
  pointwise
  refine Finset.sum_congr rfl fun l _ => mul_comm _ _

end

theorem value_Kernel4Ideal : algebraic_Kernel4Ideal_Reference4Ideal := by
  intro m ρ m' ρ' _ hag
  refine ⟨Kernel4Ideal.DownW.grad m, ?_, ?_⟩
  · exact (θ_run _ _ _).mono (fun _ h c => ⟨(h c).1.trans (Kernel4Ideal.DownW.final2 m c), (h c).2⟩)
      (Kernel4Ideal.Value.run_blocks m ρ)
  · refine (θ_run _ _ _).mono (fun _ h c => ⟨(h c).1.trans ?_, (h c).2⟩) (Reference4Ideal.Value.run m' ρ')
    obtain ⟨h0, h1⟩ := hag c
    rw [h0, h1]
    funext i
    exact ref4_at _ _ i

end Cert.Proof

end
-- ==== Proof.DownX.lean ====
module
public import proofs.«01_k».proof.Proof.Gen.Kernel5.Frame
public import proofs.«01_k».proof.Proof.Gen.Kernel5Ideal.Value
public import proofs.«01_k».proof.Proof.Gen.Reference5Ideal.Run
public import proofs.«01_k».proof.Proof.Lib
@[expose] public section
set_option maxRecDepth 16384
noncomputable section
set_option maxHeartbeats 4000000

/-! # The gradient of the feed-forward output product's left factor

The kernel multiplies blocks of 1024 by 2048 and 1408 by 2048 along their last axes and stores each product,
rounded, as a block of the result. The contracted axis isn't cut. -/

namespace Cert.Kernel5Ideal.DownX

open Idealize.ShloMosaic TcCoe Tactic
open Cert.Kernel5Ideal.Gen

variable (m : (ℓ : Loc nD τ sig) → Buf (Elt Ideal) ℓ) (c : Dev nD)

/-- The product of one left and one right block, at one place. -/
def prod (x : Vec Ideal S1024x2048 .bf16) (y : Vec Ideal S1408x2048 .bf16) (j : S1024x1408.Idx) : EReal :=
  ∑ k : Fin 2048, (show EReal from x (ix2 (j 0) k)) * (show EReal from y (ix2 (j 1) k))

theorem out_apply (x : Vec Ideal S1024x2048 .bf16) (y : Vec Ideal S1408x2048 .bf16) (j : S1024x1408.Idx) :
    out0_2 x y j = prod x y (j) := by
  frame_out
  unfold k0_pay1 prod
  pointwise

/-! ## Which block each grid point reads and writes -/

theorem index0 : ∀ t : Fin cfg0.N, win0_0.index t = ![t.val / 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, t.val % 4] := (by decide +kernel : ∀ t : Fin grid0.N, _)

/-- The left block, read from the argument it is cut from. -/
theorem left_blk (t : Fin cfg0.N) (r : Fin 1024) (k : Fin 2048) (a : Fin 4096) (b : Fin 2048) (ha : a.val = 1024 * (t.val / 4) + r.val) (hb : b.val = k.val) :
    iblk m c 0 t (ix2 r k) = m ((c : Thread nD τ).loc main_arg1) (ix2 a b) := by
  blk_simp [iblk]
  entry_read
  pointwise
  refine congrArg (m ((c : Thread nD τ).loc main_arg1)) ?_
  blk_ext [index0]

/-- The right block, read from the argument it is cut from. -/
theorem right_blk (t : Fin cfg0.N) (q : Fin 1408) (k : Fin 2048) (a : Fin 5632) (b : Fin 2048) (ha : a.val = 1408 * (t.val % 4) + q.val) (hb : b.val = k.val) :
    iblk m c 1 t (ix2 q k) = m ((c : Thread nD τ).loc main_arg0) (ix2 a b) := by
  blk_simp [iblk]
  entry_read
  pointwise
  refine congrArg (m ((c : Thread nD τ).loc main_arg0)) ?_
  blk_ext [index1]

/-! ## The result -/

/-- The gradient of the left factor. -/
def grad : Buf (Elt Ideal) ((c : Thread nD τ).loc main_v2) := fun i =>
  show EReal from ∑ l : Fin 2048, (show EReal from m ((c : Thread nD τ).loc main_arg1) (ix2 (i 0) l))
    * (show EReal from m ((c : Thread nD τ).loc main_arg0) (ix2 (i 1) l))

/-- The result array holds the gradient. -/
theorem final2 : (dats m 0 c).arrAt 2 cfg0.N = grad m c := by
  refine (dats m 0 c).arrAt_eq_of_covers 2 _ (by decide +kernel) fun t hf y => ?_
  blk_simp
  rw [after0_2]
  have hN : t.val < 16 := t.isLt
  have e0 : ((win0_2.blk t).view.emb y 0).val = t.val / 4 * 1024 + (y 0).val := by blk_simp [index2]
  have e1 : ((win0_2.blk t).view.emb y 1).val = t.val % 4 * 1408 + (y 1).val := by blk_simp [index2]
  refine (out_apply _ _ y).trans ?_
  refine Finset.sum_congr rfl fun k _ => congrArg₂ (· * ·) ?_ ?_
  · refine left_blk m c t _ _ _ _ (e0.trans ?_) rfl
    show _ = _ + (y 0).val
    omega
  · refine right_blk m c t _ _ _ _ (e1.trans ?_) rfl
    show _ = _ + (y 1).val
    omega

end Cert.Kernel5Ideal.DownX

namespace Cert.Proof

open Idealize.ShloMosaic TcCoe Idealize.SL.Sem StableHlo Tactic

theorem frame_Kernel5 : quiescent_Kernel5 := fun m ρ _ => Kernel5.Gen.frame m ρ

theorem frame_Kernel5Ideal : quiescent_Kernel5Ideal := fun m ρ _ => Kernel5Ideal.Gen.frame m ρ

theorem frame_Reference5Ideal : quiescent_Reference5Ideal := fun m ρ _ =>
  (θ_run _ _ _).mono (fun r h => ⟨fun c => (h c).2, sem_eq_zero_of_no_sems (by decide) r.2⟩)
    (Reference5Ideal.Value.run m ρ)

section
open Reference5Ideal Reference5Ideal.Gen

/-- The reference's result, read at one place. -/
theorem ref5_at (x : Vec Ideal S5632x2048 .f32) (y : Vec Ideal S4096x2048 .f32) (i : S4096x5632.Idx) :
    truncf (F := Ideal) .bf16 (Host.dotGeneral (F := Ideal) (φ₁ := .f32) (φ₂ := .f32) dot_S4096x2048_S5632x2048_S4096x5632_1_1_0_0_n_n none y x) bitsLt_bf16_f32 i
      = (show EReal from ∑ l : Fin 2048, (show EReal from y (ix2 (i 0) l)) * (show EReal from x (ix2 (i 1) l))) := by
  pointwise

end

theorem value_Kernel5Ideal : algebraic_Kernel5Ideal_Reference5Ideal := by
  intro m ρ m' ρ' _ hag
  refine ⟨Kernel5Ideal.DownX.grad m, ?_, ?_⟩
  · exact (θ_run _ _ _).mono (fun _ h c => ⟨(h c).1.trans (Kernel5Ideal.DownX.final2 m c), (h c).2⟩)
      (Kernel5Ideal.Value.run_blocks m ρ)
  · refine (θ_run _ _ _).mono (fun _ h c => ⟨(h c).1.trans ?_, (h c).2⟩) (Reference5Ideal.Value.run m' ρ')
    obtain ⟨h0, h1⟩ := hag c
    rw [h0, h1]
    funext i
    exact ref5_at _ _ i

end Cert.Proof

end
-- ==== Proof.UpF.lean ====
module
public import proofs.«01_k».proof.Proof.Gen.Kernel6.Frame
public import proofs.«01_k».proof.Proof.Gen.Kernel6Ideal.Value
public import proofs.«01_k».proof.Proof.Gen.Reference6Ideal.Run
public import proofs.«01_k».proof.Proof.Lib
@[expose] public section
set_option maxRecDepth 16384
noncomputable section
set_option maxHeartbeats 4000000

/-! # The feed-forward up product

The kernel multiplies blocks of 1024 by 2048 and 2048 by 1408 and stores each product, rounded, as a block of the
result, which is laid out as gate half and value half. -/

namespace Cert.Kernel6Ideal.UpF

open Idealize.ShloMosaic TcCoe Tactic
open Cert.Kernel6Ideal.Gen

variable (m : (ℓ : Loc nD τ sig) → Buf (Elt Ideal) ℓ) (c : Dev nD)

/-- The product of one left and one right block, at one place. -/
def prod (x : Vec Ideal S1024x2048 .bf16) (y : Vec Ideal S1x2048x1408 .bf16) (j : S1024x1408.Idx) : EReal :=
  ∑ k : Fin 2048, (show EReal from x (ix2 (j 0) k)) * (show EReal from y (ix3 0 k (j 1)))

theorem out_apply (x : Vec Ideal S1024x2048 .bf16) (y : Vec Ideal S1x2048x1408 .bf16) (j : S1x1024x1408.Idx) :
    out0_2 x y j = prod x y (ix2 (j 1) (j 2)) := by
  frame_out
  unfold k0_pay1 prod
  pointwise

/-! ## Which block each grid point reads and writes -/

theorem index0 : ∀ t : Fin cfg0.N, win0_0.index t = ![t.val / 8, 0] := (by decide +kernel : ∀ t : Fin grid0.N, _)
theorem index1 : ∀ t : Fin cfg0.N, win0_1.index t = ![t.val % 8 / 2, 0, t.val % 2] := (by decide +kernel : ∀ t : Fin grid0.N, _)
theorem index2 : ∀ t : Fin cfg0.N, win0_2.index t = ![t.val % 8 / 4, t.val / 8, t.val % 4] := (by decide +kernel : ∀ t : Fin grid0.N, _)

/-- The left block, read from the argument it is cut from. -/
theorem left_blk (t : Fin cfg0.N) (r : Fin 1024) (k : Fin 2048) (a : Fin 4096) (b : Fin 2048) (ha : a.val = 1024 * (t.val / 8) + r.val) (hb : b.val = k.val) :
    iblk m c 0 t (ix2 r k) = m ((c : Thread nD τ).loc main_arg0) (ix2 a b) := by
  blk_simp [iblk]
  entry_read
  pointwise
  refine congrArg (m ((c : Thread nD τ).loc main_arg0)) ?_
  blk_ext [index0]

/-- The right block, read from the argument it is cut from. -/
theorem right_blk (t : Fin cfg0.N) (q : Fin 1408) (k : Fin 2048) (a : Fin 2048) (b : Fin 11264) (ha : a.val = k.val) (hb : b.val = 1408 * (t.val % 8) + q.val) :
    iblk m c 1 t (ix3 0 k q) = m ((c : Thread nD τ).loc main_arg1) (ix2 a b) := by
  blk_simp [iblk]
  entry_read
  pointwise
  refine congrArg (m ((c : Thread nD τ).loc main_arg1)) ?_
  blk_ext [index1]

/-! ## The result -/

/-- The product, as two halves. -/
def grad : Buf (Elt Ideal) ((c : Thread nD τ).loc main_v4) := fun i =>
  (show EReal from ∑ l : Fin 2048, (show EReal from m ((c : Thread nD τ).loc main_arg0) (ix2 (i 1) l))
    * (show EReal from m ((c : Thread nD τ).loc main_arg1) (ix2 l ⟨5632 * (i 0).val + (i 2).val, by
        have h0 : (i 0).val < 2 := (i 0).isLt
        have h2 : (i 2).val < 5632 := (i 2).isLt
        omega⟩)))

/-- The result array holds it. -/
theorem final2 : (dats m 0 c).arrAt 2 cfg0.N = grad m c := by
  refine (dats m 0 c).arrAt_eq_of_covers 2 _ (by decide +kernel) fun t hf y => ?_
  blk_simp
  rw [after0_2]
  have hN : t.val < 32 := t.isLt
  have e0 : ((win0_2.blk t).view.emb y 0).val = t.val % 8 / 4 := by blk_simp [index2]
  have e1 : ((win0_2.blk t).view.emb y 1).val = t.val / 8 * 1024 + (y 1).val := by blk_simp [index2]
  have e2 : ((win0_2.blk t).view.emb y 2).val = t.val % 4 * 1408 + (y 2).val := by blk_simp [index2]
  refine (out_apply _ _ y).trans ?_
  refine Finset.sum_congr rfl fun k _ => congrArg₂ (fun a b : EReal => a * b) ?_ ?_
  · refine left_blk m c t _ _ _ _ (e1.trans ?_) rfl
    show _ = _ + (y 1).val
    omega
  · refine right_blk m c t _ _ _ _ rfl ?_
    show 5632 * ((win0_2.blk t).view.emb y 0).val + ((win0_2.blk t).view.emb y 2).val = _ + (y 2).val
    rw [e0, e2]
    omega

end Cert.Kernel6Ideal.UpF

namespace Cert.Proof

open Idealize.ShloMosaic TcCoe Idealize.SL.Sem StableHlo Tactic

theorem frame_Kernel6 : quiescent_Kernel6 := fun m ρ _ => Kernel6.Gen.frame m ρ

theorem frame_Kernel6Ideal : quiescent_Kernel6Ideal := fun m ρ _ => Kernel6Ideal.Gen.frame m ρ

theorem frame_Reference6Ideal : quiescent_Reference6Ideal := fun m ρ _ =>
  (θ_run _ _ _).mono (fun r h => ⟨fun c => (h c).2, sem_eq_zero_of_no_sems (by decide) r.2⟩)
    (Reference6Ideal.Value.run m ρ)

section
open Reference6Ideal Reference6Ideal.Gen

/-- The reference's result, read at one place. -/
theorem ref6_at (x : Vec Ideal S4096x2048 .f32) (y : Vec Ideal S2048x11264 .f32) (i : S2x4096x5632.Idx) (b : Fin 11264)
    (hb : b.val = 5632 * (i 0).val + (i 2).val) :
    truncf (F := Ideal) .bf16 (transpose S2x4096x5632 [1, 0, 2] (shapeCast _ (Host.dotGeneral (F := Ideal) (φ₁ := .f32) (φ₂ := .f32) dot_S4096x2048_S2048x11264_S4096x11264_1_0_0_1_n_n none x y) shapeCasts_S4096x11264_S4096x2x5632) transposes_S4096x2x5632_S2x4096x5632_1_0_2) bitsLt_bf16_f32 i
      = (show EReal from ∑ l : Fin 2048, (show EReal from x (ix2 (i 1) l)) * (show EReal from y (ix2 l b))) := by
  pointwise
  refine Finset.sum_congr rfl fun l _ => congrArg₂ (fun a b : EReal => a * b) rfl (congrArg (fun q => y (ix2 l q)) (Fin.ext ?_))
  show (i 0).val * 5632 + (i 2).val = b.val
  omega

end

theorem value_Kernel6Ideal : algebraic_Kernel6Ideal_Reference6Ideal := by
  intro m ρ m' ρ' _ hag
  refine ⟨Kernel6Ideal.UpF.grad m, ?_, ?_⟩
  · exact (θ_run _ _ _).mono (fun _ h c => ⟨(h c).1.trans (Kernel6Ideal.UpF.final2 m c), (h c).2⟩)
      (Kernel6Ideal.Value.run_blocks m ρ)
  · refine (θ_run _ _ _).mono (fun _ h c => ⟨(h c).1.trans ?_, (h c).2⟩) (Reference6Ideal.Value.run m' ρ')
    obtain ⟨h0, h1⟩ := hag c
    rw [h0, h1]
    funext i
    exact ref6_at _ _ i _ rfl

end Cert.Proof

end
-- ==== Proof.DownF.lean ====
module
public import proofs.«01_k».proof.Proof.Gen.Kernel7.Frame
public import proofs.«01_k».proof.Proof.Gen.Kernel7Ideal.Value
public import proofs.«01_k».proof.Proof.Gen.Reference7Ideal.Run
public import proofs.«01_k».proof.Proof.Lib
@[expose] public section
set_option maxRecDepth 16384
noncomputable section
set_option maxHeartbeats 4000000

/-! # The feed-forward down product, with the residual

The kernel multiplies blocks of 1024 by 5632 and 5632 by 512, adds the block of the residual and stores the sum. -/

namespace Cert.Kernel7Ideal.DownF

open Idealize.ShloMosaic TcCoe Tactic
open Cert.Kernel7Ideal.Gen

variable (m : (ℓ : Loc nD τ sig) → Buf (Elt Ideal) ℓ) (c : Dev nD)

/-- The product of one left and one right block, at one place. -/
def prod (x : Vec Ideal S1024x5632 .bf16) (y : Vec Ideal S5632x512 .bf16) (j : S1024x512.Idx) : EReal :=
  ∑ k : Fin 5632, (show EReal from x (ix2 (j 0) k)) * (show EReal from y (ix2 k (j 1)))

theorem out_apply (x : Vec Ideal S1024x5632 .bf16) (y : Vec Ideal S5632x512 .bf16) (z : Vec Ideal S1024x512 .f32) (j : S1024x512.Idx) :
    out0_3 x y z j = prod x y (j) + (show EReal from z j) := by
  frame_out
  unfold k0_pay1 prod
  pointwise

/-! ## Which block each grid point reads and writes -/

theorem index0 : ∀ t : Fin cfg0.N, win0_0.index t = ![t.val / 4, 0] := (by decide +kernel : ∀ t : Fin grid0.N, _)
theorem index1 : ∀ t : Fin cfg0.N, win0_1.index t = ![0, t.val % 4] := (by decide +kernel : ∀ t : Fin grid0.N, _)
theorem index3 : ∀ t : Fin cfg0.N, win0_3.index t = ![t.val / 4, t.val % 4] := (by decide +kernel : ∀ t : Fin grid0.N, _)

/-- The left block, read from the argument it is cut from. -/
theorem left_blk (t : Fin cfg0.N) (r : Fin 1024) (k : Fin 5632) (a : Fin 4096) (b : Fin 5632) (ha : a.val = 1024 * (t.val / 4) + r.val) (hb : b.val = k.val) :
    iblk m c 0 t (ix2 r k) = m ((c : Thread nD τ).loc main_arg0) (ix2 a b) := by
  blk_simp [iblk]
  entry_read
  pointwise
  refine congrArg (m ((c : Thread nD τ).loc main_arg0)) ?_
  blk_ext [index0]

/-- The right block, read from the argument it is cut from. -/
theorem right_blk (t : Fin cfg0.N) (q : Fin 512) (k : Fin 5632) (a : Fin 5632) (b : Fin 2048) (ha : a.val = k.val) (hb : b.val = 512 * (t.val % 4) + q.val) :
    iblk m c 1 t (ix2 k q) = m ((c : Thread nD τ).loc main_arg1) (ix2 a b) := by
  blk_simp [iblk]
  entry_read
  pointwise
  refine congrArg (m ((c : Thread nD τ).loc main_arg1)) ?_
  blk_ext [index1]

theorem indexX2 : ∀ t : Fin cfg0.N, win0_2.index t = ![t.val / 4, t.val % 4] := (by decide +kernel : ∀ t : Fin grid0.N, _)

/-- The block of the residual, read from the argument it is cut from. -/
theorem resid_blk (t : Fin cfg0.N) (j : S1024x512.Idx) (i : S4096x2048.Idx) (h0 : (i 0).val = 1024 * (t.val / 4) + (j 0).val) (h1 : (i 1).val = 512 * (t.val % 4) + (j 1).val) : iblk m c 2 t (j) = m ((c : Thread nD τ).loc main_arg2) (i) := by
  blk_simp [iblk]
  entry_read
  pointwise
  refine congrArg (m ((c : Thread nD τ).loc main_arg2)) ?_
  blk_ext [indexX2]

/-! ## The result -/

/-- The product plus the residual. -/
def grad : Buf (Elt Ideal) ((c : Thread nD τ).loc main_v2) := fun i =>
  (show EReal from ∑ l : Fin 5632, (show EReal from m ((c : Thread nD τ).loc main_arg0) (ix2 (i 0) l))
    * (show EReal from m ((c : Thread nD τ).loc main_arg1) (ix2 l (i 1)))) + (show EReal from m ((c : Thread nD τ).loc main_arg2) i)

/-- The result array holds it. -/
theorem final3 : (dats m 0 c).arrAt 3 cfg0.N = grad m c := by
  refine (dats m 0 c).arrAt_eq_of_covers 3 _ (by decide +kernel) fun t hf y => ?_
  blk_simp
  rw [after0_3]
  have hN : t.val < 16 := t.isLt
  have e0 : ((win0_3.blk t).view.emb y 0).val = t.val / 4 * 1024 + (y 0).val := by blk_simp [index3]
  have e1 : ((win0_3.blk t).view.emb y 1).val = t.val % 4 * 512 + (y 1).val := by blk_simp [index3]
  refine (out_apply _ _ _ y).trans ?_
  refine congrArg₂ (fun a b : EReal => a + b) ?_ (resid_blk m c t y _ (e0.trans (by omega)) (e1.trans (by omega)))
  refine Finset.sum_congr rfl fun k _ => congrArg₂ (fun a b : EReal => a * b) ?_ ?_
  · refine left_blk m c t _ _ _ _ (e0.trans ?_) rfl
    show _ = _ + (y 0).val
    omega
  · refine right_blk m c t _ _ _ _ rfl (e1.trans ?_)
    show _ = _ + (y 1).val
    omega

end Cert.Kernel7Ideal.DownF

namespace Cert.Proof

open Idealize.ShloMosaic TcCoe Idealize.SL.Sem StableHlo Tactic

theorem frame_Kernel7 : quiescent_Kernel7 := fun m ρ _ => Kernel7.Gen.frame m ρ

theorem frame_Kernel7Ideal : quiescent_Kernel7Ideal := fun m ρ _ => Kernel7Ideal.Gen.frame m ρ

theorem frame_Reference7Ideal : quiescent_Reference7Ideal := fun m ρ _ =>
  (θ_run _ _ _).mono (fun r h => ⟨fun c => (h c).2, sem_eq_zero_of_no_sems (by decide) r.2⟩)
    (Reference7Ideal.Value.run m ρ)

section
open Reference7Ideal Reference7Ideal.Gen

/-- The reference's result, read at one place. -/
theorem ref7_at (x : Vec Ideal S4096x5632 .f32) (y : Vec Ideal S5632x2048 .f32) (z : Vec Ideal S4096x2048 .f32) (i : S4096x2048.Idx) :
    addf z (Host.dotGeneral (F := Ideal) (φ₁ := .f32) (φ₂ := .f32) dot_S4096x5632_S5632x2048_S4096x2048_1_0_0_1_n_n none x y) i
      = (show EReal from ∑ l : Fin 5632, (show EReal from x (ix2 (i 0) l)) * (show EReal from y (ix2 l (i 1)))) + (show EReal from z i) := by
  pointwise
  exact add_comm _ _

end

theorem value_Kernel7Ideal : algebraic_Kernel7Ideal_Reference7Ideal := by
  intro m ρ m' ρ' _ hag
  refine ⟨Kernel7Ideal.DownF.grad m, ?_, ?_⟩
  · exact (θ_run _ _ _).mono (fun _ h c => ⟨(h c).1.trans (Kernel7Ideal.DownF.final3 m c), (h c).2⟩)
      (Kernel7Ideal.Value.run_blocks m ρ)
  · refine (θ_run _ _ _).mono (fun _ h c => ⟨(h c).1.trans ?_, (h c).2⟩) (Reference7Ideal.Value.run m' ρ')
    obtain ⟨h0, h1, h2⟩ := hag c
    rw [h0, h1, h2]
    funext i
    exact ref7_at _ _ _ i

end Cert.Proof

end
-- ==== Proof.ConfInW.lean ====
module
public import proofs.«01_k».proof.Proof.Gen.Kernel8.Frame
public import proofs.«01_k».proof.Proof.Gen.Kernel8Ideal.Value
public import proofs.«01_k».proof.Proof.Gen.Reference8Ideal.Run
public import proofs.«01_k».proof.Proof.Lib
@[expose] public section
set_option maxRecDepth 16384
noncomputable section
set_option maxHeartbeats 4000000

/-! # The gradient of the Conformer module's input weights

The kernel multiplies blocks of 1024 by 4096 and 4096 by 1024 and stores each product, rounded, as a block of the
result, which is laid out as four column blocks. The contracted axis isn't cut. -/

namespace Cert.Kernel8Ideal.ConfInW

open Idealize.ShloMosaic TcCoe Tactic
open Cert.Kernel8Ideal.Gen

variable (m : (ℓ : Loc nD τ sig) → Buf (Elt Ideal) ℓ) (c : Dev nD)

/-- The product of one left and one right block, at one place. -/
def prod (x : Vec Ideal S1024x4096 .bf16) (y : Vec Ideal S1x4096x1024 .bf16) (j : S1024x1024.Idx) : EReal :=
  ∑ k : Fin 4096, (show EReal from x (ix2 (j 0) k)) * (show EReal from y (ix3 0 k (j 1)))

theorem out_apply (x : Vec Ideal S1024x4096 .bf16) (y : Vec Ideal S1x4096x1024 .bf16) (j : S1x1024x1024.Idx) :
    out0_2 x y j = prod x y (ix2 (j 1) (j 2)) := by
  frame_out
  unfold k0_pay1 prod
  pointwise

/-! ## Which block each grid point reads and writes -/

theorem index0 : ∀ t : Fin cfg0.N, win0_0.index t = ![t.val / 4, 0] := (by decide +kernel : ∀ t : Fin grid0.N, _)
theorem index1 : ∀ t : Fin cfg0.N, win0_1.index t = ![t.val % 4 / 2, 0, t.val % 2] := (by decide +kernel : ∀ t : Fin grid0.N, _)
theorem index2 : ∀ t : Fin cfg0.N, win0_2.index t = ![t.val % 4, t.val / 4, 0] := (by decide +kernel : ∀ t : Fin grid0.N, _)

/-- The left block, read from the argument it is cut from. -/
theorem left_blk (t : Fin cfg0.N) (r : Fin 1024) (k : Fin 4096) (a : Fin 4096) (b : Fin 2048) (ha : a.val = k.val) (hb : b.val = 1024 * (t.val / 4) + r.val) :
    iblk m c 0 t (ix2 r k) = m ((c : Thread nD τ).loc main_arg0) (ix2 a b) := by
  blk_simp [iblk]
  entry_read
  pointwise
  refine congrArg (m ((c : Thread nD τ).loc main_arg0)) ?_
  blk_ext [index0]

/-- The right block, read from the argument it is cut from. -/
theorem right_blk (t : Fin cfg0.N) (q : Fin 1024) (k : Fin 4096) (a : Fin 4096) (b : Fin 4096) (ha : a.val = k.val) (hb : b.val = 1024 * (t.val % 4) + q.val) :
    iblk m c 1 t (ix3 0 k q) = m ((c : Thread nD τ).loc main_arg1) (ix2 a b) := by
  blk_simp [iblk]
  entry_read
  pointwise
  refine congrArg (m ((c : Thread nD τ).loc main_arg1)) ?_
  blk_ext [index1]

/-! ## The result -/

/-- The gradient of the weights, as four column blocks. -/
def grad : Buf (Elt Ideal) ((c : Thread nD τ).loc main_v5) := fun i =>
  (show EReal from ∑ l : Fin 4096, (show EReal from m ((c : Thread nD τ).loc main_arg0) (ix2 l (i 1)))
    * (show EReal from m ((c : Thread nD τ).loc main_arg1) (ix2 l ⟨1024 * (i 0).val + (i 2).val, by
        have h0 : (i 0).val < 4 := (i 0).isLt
        have h2 : (i 2).val < 1024 := (i 2).isLt
        omega⟩)))

/-- The result array holds it. -/
theorem final2 : (dats m 0 c).arrAt 2 cfg0.N = grad m c := by
  refine (dats m 0 c).arrAt_eq_of_covers 2 _ (by decide +kernel) fun t hf y => ?_
  blk_simp
  rw [after0_2]
  have hN : t.val < 8 := t.isLt
  have e0 : ((win0_2.blk t).view.emb y 0).val = t.val % 4 := by blk_simp [index2]
  have e1 : ((win0_2.blk t).view.emb y 1).val = t.val / 4 * 1024 + (y 1).val := by blk_simp [index2]
  have e2 : ((win0_2.blk t).view.emb y 2).val = (y 2).val := by blk_simp [index2]
  refine (out_apply _ _ y).trans ?_
  refine Finset.sum_congr rfl fun k _ => congrArg₂ (fun a b : EReal => a * b) ?_ ?_
  · refine left_blk m c t _ _ _ _ rfl (e1.trans ?_)
    show _ = _ + (y 1).val
    omega
  · refine right_blk m c t _ _ _ _ rfl ?_
    show 1024 * ((win0_2.blk t).view.emb y 0).val + ((win0_2.blk t).view.emb y 2).val = _ + (y 2).val
    rw [e0, e2]

end Cert.Kernel8Ideal.ConfInW

namespace Cert.Proof

open Idealize.ShloMosaic TcCoe Idealize.SL.Sem StableHlo Tactic

theorem frame_Kernel8 : quiescent_Kernel8 := fun m ρ _ => Kernel8.Gen.frame m ρ

theorem frame_Kernel8Ideal : quiescent_Kernel8Ideal := fun m ρ _ => Kernel8Ideal.Gen.frame m ρ

theorem frame_Reference8Ideal : quiescent_Reference8Ideal := fun m ρ _ =>
  (θ_run _ _ _).mono (fun r h => ⟨fun c => (h c).2, sem_eq_zero_of_no_sems (by decide) r.2⟩)
    (Reference8Ideal.Value.run m ρ)

section
open Reference8Ideal Reference8Ideal.Gen

/-- The reference's result, read at one place. -/
theorem ref8_at (x : Vec Ideal S4096x2048 .f32) (y : Vec Ideal S4096x4096 .f32) (i : S4x2048x1024.Idx) (b : Fin 4096)
    (hb : b.val = 1024 * (i 0).val + (i 2).val) :
    truncf (F := Ideal) .bf16 (transpose S4x2048x1024 [1, 0, 2] (shapeCast _ (transpose S2048x4096 [1, 0] (Host.dotGeneral (F := Ideal) (φ₁ := .f32) (φ₂ := .f32) dot_S4096x4096_S4096x2048_S4096x2048_0_0_1_1_n_n none y x) transposes_S4096x2048_S2048x4096_1_0) shapeCasts_S2048x4096_S2048x4x1024) transposes_S2048x4x1024_S4x2048x1024_1_0_2) bitsLt_bf16_f32 i
      = (show EReal from ∑ l : Fin 4096, (show EReal from x (ix2 l (i 1))) * (show EReal from y (ix2 l b))) := by
  pointwise
  refine Finset.sum_congr rfl fun l _ => (mul_comm _ _).trans (congrArg₂ (· * ·) rfl (congrArg (fun q => y (ix2 l q)) (Fin.ext ?_)))
  show (i 0).val * 1024 + (i 2).val = b.val
  omega

end

theorem value_Kernel8Ideal : algebraic_Kernel8Ideal_Reference8Ideal := by
  intro m ρ m' ρ' _ hag
  refine ⟨Kernel8Ideal.ConfInW.grad m, ?_, ?_⟩
  · exact (θ_run _ _ _).mono (fun _ h c => ⟨(h c).1.trans (Kernel8Ideal.ConfInW.final2 m c), (h c).2⟩)
      (Kernel8Ideal.Value.run_blocks m ρ)
  · refine (θ_run _ _ _).mono (fun _ h c => ⟨(h c).1.trans ?_, (h c).2⟩) (Reference8Ideal.Value.run m' ρ')
    obtain ⟨h0, h1⟩ := hag c
    rw [h0, h1]
    funext i
    exact ref8_at _ _ i _ rfl

end Cert.Proof

end
-- ==== Proof.ConfInX.lean ====
module
public import proofs.«01_k».proof.Proof.Gen.Kernel9.Frame
public import proofs.«01_k».proof.Proof.Gen.Kernel9Ideal.Value
public import proofs.«01_k».proof.Proof.Gen.Reference9Ideal.Run
public import proofs.«01_k».proof.Proof.Lib
@[expose] public section
set_option maxRecDepth 16384
noncomputable section
set_option maxHeartbeats 4000000

/-! # The gradient of the Conformer module's input

The kernel multiplies blocks of 4096 by 1024 and 512 by 1024 along their last axes, adds four of them in an
accumulator and stores the sum as a block of the result. -/

namespace Cert.Kernel9Ideal.ConfInX

open Idealize.ShloMosaic TcCoe Tactic
open Cert.Kernel9Ideal.Gen

variable (m : (ℓ : Loc nD τ sig) → Buf (Elt Ideal) ℓ) (c : Dev nD)

/-- The product of one left and one right block, at one place. -/
def prod (x : Vec Ideal S1x4096x1024 .bf16) (y : Vec Ideal S1x512x1024 .bf16) (j : S4096x512.Idx) : EReal :=
  ∑ k : Fin 1024, (show EReal from x (ix3 0 (j 0) k)) * (show EReal from y (ix3 0 (j 1) k))

theorem pay2_apply (x : Vec Ideal S1x4096x1024 .bf16) (y : Vec Ideal S1x512x1024 .bf16) (j : S4096x512.Idx) :
    k0_pay2 x y j = prod x y j := by
  unfold k0_pay2 k0_pay1 prod
  pointwise

theorem pay3_apply (x : Vec Ideal S1x4096x1024 .bf16) (y : Vec Ideal S1x512x1024 .bf16) (v : Vec Ideal S4096x512 .f32) (j : S4096x512.Idx) :
    k0_pay3 x y v j = (show EReal from v j) + prod x y j := by
  unfold k0_pay3 k0_pay1 prod
  pointwise

/-! ## Which block each grid point reads and writes -/

theorem index0 : ∀ t : Fin cfg0.N, win0_0.index t = ![t.val % 4 / 2, 0, t.val % 2] := (by decide +kernel : ∀ t : Fin grid0.N, _)
theorem index1 : ∀ t : Fin cfg0.N, win0_1.index t = ![t.val % 4, t.val / 4, 0] := (by decide +kernel : ∀ t : Fin grid0.N, _)
theorem index2 : ∀ t : Fin cfg0.N, win0_2.index t = ![0, t.val / 4] := (by decide +kernel : ∀ t : Fin grid0.N, _)

/-- The left block, read from the argument it is cut from. -/
theorem left_blk (t : Fin cfg0.N) (r : Fin 4096) (k : Fin 1024) (a : Fin 4096) (b : Fin 4096) (ha : a.val = r.val) (hb : b.val = 1024 * (t.val % 4) + k.val) :
    iblk m c 0 t (ix3 0 r k) = m ((c : Thread nD τ).loc main_arg1) (ix2 a b) := by
  blk_simp [iblk]
  entry_read
  pointwise
  refine congrArg (m ((c : Thread nD τ).loc main_arg1)) ?_
  blk_ext [index0]

/-- The right block, read from the argument it is cut from. -/
theorem right_blk (t : Fin cfg0.N) (q : Fin 512) (k : Fin 1024) (a : Fin 2048) (b : Fin 4096) (ha : a.val = 512 * (t.val / 4) + q.val) (hb : b.val = 1024 * (t.val % 4) + k.val) :
    iblk m c 1 t (ix3 0 q k) = m ((c : Thread nD τ).loc main_arg0) (ix2 a b) := by
  blk_simp [iblk]
  entry_read
  pointwise
  refine congrArg (m ((c : Thread nD τ).loc main_arg0)) ?_
  blk_ext [index1]

/-! ## The accumulator -/

theorem acc_first (t : Fin cfg0.N) (h : t.val % 4 = 0) (j : S4096x512.Idx) :
    (outsAt0 m c t.val t.isLt).2 j = (0 : EReal) + prod (iblk m c 0 t) (iblk m c 1 t) j := by
  rw [outsAt0_A m c t h (by omega) (by omega)]
  frame_out
  rw [pay2_apply, zero_add]

theorem acc_next (t : Fin cfg0.N) (h : ¬ t.val % 4 = 0) (j : S4096x512.Idx) :
    (outsAt0 m c t.val t.isLt).2 j
      = (show EReal from (outsAt0 m c (t.val - 1) (Nat.lt_of_le_of_lt (Nat.sub_le _ _) t.isLt)).2 j)
        + prod (iblk m c 0 t) (iblk m c 1 t) j := by
  by_cases h7 : t.val % 4 = 3
  · rw [outsAt0_C m c t h (by omega) h7]
    frame_out
    rw [pay3_apply, (Memref.isWhole_whole _).read_unread]
  · rw [outsAt0_B m c t h (by omega) h7]
    frame_out
    rw [pay3_apply, (Memref.isWhole_whole _).read_unread]

/-- After its last step the accumulator holds the sum over the whole contracted axis. -/
theorem acc_sum (t : Fin cfg0.N) (h : t.val % 4 = 3) (j : S4096x512.Idx) (f : Fin 4096 → EReal)
    (hf : ∀ (s : Fin 4) (k : Fin 1024) (p : Fin cfg0.N) (_ : p.val = 4 * (t.val / 4) + s.val) (l : Fin 4096) (_ : l.val = s.val * 1024 + k.val),
      (show EReal from iblk m c 0 p (ix3 0 (j 0) k)) * (show EReal from iblk m c 1 p (ix3 0 (j 1) k)) = f l) :
    (outsAt0 m c t.val t.isLt).2 j = ∑ l, f l := by
  rw [Pipeline.eq_sum_fin_of_reset_step_apply_of_flush (fun n h => (outsAt0 m c n h).2) 4 (fun _ => (0 : EReal))
    (fun p => prod (iblk m c 0 p) (iblk m c 1 p)) (acc_first m c) (acc_next m c) t h j, zero_add]
  exact Fin.sum_mul_add_congr fun s k hl => hf s k _ rfl _ rfl

/-- The last step stores the accumulator, rounded, as the result's block. -/
theorem out_last (t : Fin cfg0.N) (h : t.val % 4 = 3) (j : S4096x512.Idx) :
    (outsAt0 m c t.val t.isLt).1 j = (outsAt0 m c t.val t.isLt).2 (j) := by
  rw [outsAt0_C m c t (by omega) (by omega) h]
  frame_out
  unfold k0_pay4
  pointwise

/-! ## The result -/

/-- The gradient of the layer's input. -/
def grad : Buf (Elt Ideal) ((c : Thread nD τ).loc main_v6) := fun i =>
  show EReal from ∑ l : Fin 4096, (show EReal from m ((c : Thread nD τ).loc main_arg1) (ix2 (i 0) l))
    * (show EReal from m ((c : Thread nD τ).loc main_arg0) (ix2 (i 1) l))

/-- The result array holds the gradient. -/
theorem final2 : (dats m 0 c).arrAt 2 cfg0.N = grad m c := by
  refine (dats m 0 c).arrAt_eq_of_covers 2 _ (by decide +kernel) fun t hf y => ?_
  blk_simp
  rw [after0_2]
  have hN : t.val < 16 := t.isLt
  have e0 : ((win0_2.blk t).view.emb y 0).val = (y 0).val := by blk_simp [index2]
  have e1 : ((win0_2.blk t).view.emb y 1).val = t.val / 4 * 512 + (y 1).val := by blk_simp [index2]
  have ht : t.val % 4 = 3 := (flush0_2 t).mp hf
  refine (out_last m c t ht y).trans ?_
  refine acc_sum m c t ht _ _ fun s k p e l hl => congrArg₂ (· * ·) ?_ ?_
  · refine left_blk m c p _ _ _ _ e0 (by omega)
  · refine right_blk m c p _ _ _ _ (e1.trans ?_) (by omega)
    show _ = _ + (y 1).val
    omega

end Cert.Kernel9Ideal.ConfInX

namespace Cert.Proof

open Idealize.ShloMosaic TcCoe Idealize.SL.Sem StableHlo Tactic

theorem frame_Kernel9 : quiescent_Kernel9 := fun m ρ _ => Kernel9.Gen.frame m ρ

theorem frame_Kernel9Ideal : quiescent_Kernel9Ideal := fun m ρ _ => Kernel9Ideal.Gen.frame m ρ

theorem frame_Reference9Ideal : quiescent_Reference9Ideal := fun m ρ _ =>
  (θ_run _ _ _).mono (fun r h => ⟨fun c => (h c).2, sem_eq_zero_of_no_sems (by decide) r.2⟩)
    (Reference9Ideal.Value.run m ρ)

section
open Reference9Ideal Reference9Ideal.Gen

/-- The reference's result, read at one place. -/
theorem ref9_at (x : Vec Ideal S2048x4096 .f32) (y : Vec Ideal S4096x4096 .f32) (i : S4096x2048.Idx) :
    truncf (F := Ideal) .bf16 (Host.dotGeneral (F := Ideal) (φ₁ := .f32) (φ₂ := .f32) dot_S4096x4096_S2048x4096_S4096x2048_1_1_0_0_n_n none y x) bitsLt_bf16_f32 i
      = (show EReal from ∑ l : Fin 4096, (show EReal from y (ix2 (i 0) l)) * (show EReal from x (ix2 (i 1) l))) := by
  pointwise

end

theorem value_Kernel9Ideal : algebraic_Kernel9Ideal_Reference9Ideal := by
  intro m ρ m' ρ' _ hag
  refine ⟨Kernel9Ideal.ConfInX.grad m, ?_, ?_⟩
  · exact (θ_run _ _ _).mono (fun _ h c => ⟨(h c).1.trans (Kernel9Ideal.ConfInX.final2 m c), (h c).2⟩)
      (Kernel9Ideal.Value.run_blocks m ρ)
  · refine (θ_run _ _ _).mono (fun _ h c => ⟨(h c).1.trans ?_, (h c).2⟩) (Reference9Ideal.Value.run m' ρ')
    obtain ⟨h0, h1⟩ := hag c
    rw [h0, h1]
    funext i
    exact ref9_at _ _ i

end Cert.Proof

end
-- ==== Proof.ConfOutW.lean ====
module
public import proofs.«01_k».proof.Proof.Gen.Kernel10.Frame
public import proofs.«01_k».proof.Proof.Gen.Kernel10Ideal.Value
public import proofs.«01_k».proof.Proof.Gen.Reference10Ideal.Run
public import proofs.«01_k».proof.Proof.Lib
@[expose] public section
set_option maxRecDepth 16384
noncomputable section
set_option maxHeartbeats 4000000

/-! # The gradient of the output weights of the Conformer module and of the attention

The kernel multiplies blocks of 1024 by 4096 and 4096 by 1024 and stores each product, rounded, as a block of the
result. The contracted axis isn't cut. -/

namespace Cert.Kernel10Ideal.ConfOutW

open Idealize.ShloMosaic TcCoe Tactic
open Cert.Kernel10Ideal.Gen

variable (m : (ℓ : Loc nD τ sig) → Buf (Elt Ideal) ℓ) (c : Dev nD)

/-- The product of one left and one right block, at one place. -/
def prod (x : Vec Ideal S1024x4096 .bf16) (y : Vec Ideal S4096x1024 .bf16) (j : S1024x1024.Idx) : EReal :=
  ∑ k : Fin 4096, (show EReal from x (ix2 (j 0) k)) * (show EReal from y (ix2 k (j 1)))

theorem out_apply (x : Vec Ideal S1024x4096 .bf16) (y : Vec Ideal S4096x1024 .bf16) (j : S1024x1024.Idx) :
    out0_2 x y j = prod x y (j) := by
  frame_out
  unfold k0_pay1 prod
  pointwise

/-! ## Which block each grid point reads and writes -/

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

/-- The left block, read from the argument it is cut from. -/
theorem left_blk (t : Fin cfg0.N) (r : Fin 1024) (k : Fin 4096) (a : Fin 4096) (b : Fin 2048) (ha : a.val = k.val) (hb : b.val = 1024 * (t.val / 2) + r.val) :
    iblk m c 0 t (ix2 r k) = m ((c : Thread nD τ).loc main_arg0) (ix2 a b) := by
  blk_simp [iblk]
  entry_read
  pointwise
  refine congrArg (m ((c : Thread nD τ).loc main_arg0)) ?_
  blk_ext [index0]

/-- The right block, read from the argument it is cut from. -/
theorem right_blk (t : Fin cfg0.N) (q : Fin 1024) (k : Fin 4096) (a : Fin 4096) (b : Fin 2048) (ha : a.val = k.val) (hb : b.val = 1024 * (t.val % 2) + q.val) :
    iblk m c 1 t (ix2 k q) = m ((c : Thread nD τ).loc main_arg1) (ix2 a b) := by
  blk_simp [iblk]
  entry_read
  pointwise
  refine congrArg (m ((c : Thread nD τ).loc main_arg1)) ?_
  blk_ext [index1]

/-! ## The result -/

/-- The gradient of the weights. -/
def grad : Buf (Elt Ideal) ((c : Thread nD τ).loc main_v3) := fun i =>
  (show EReal from ∑ l : Fin 4096, (show EReal from m ((c : Thread nD τ).loc main_arg0) (ix2 l (i 0)))
    * (show EReal from m ((c : Thread nD τ).loc main_arg1) (ix2 l (i 1))))

/-- The result array holds it. -/
theorem final2 : (dats m 0 c).arrAt 2 cfg0.N = grad m c := by
  refine (dats m 0 c).arrAt_eq_of_covers 2 _ (by decide +kernel) fun t hf y => ?_
  blk_simp
  rw [after0_2]
  have hN : t.val < 4 := t.isLt
  have e0 : ((win0_2.blk t).view.emb y 0).val = t.val / 2 * 1024 + (y 0).val := by blk_simp [index2]
  have e1 : ((win0_2.blk t).view.emb y 1).val = t.val % 2 * 1024 + (y 1).val := by blk_simp [index2]
  refine (out_apply _ _ y).trans ?_
  refine Finset.sum_congr rfl fun k _ => congrArg₂ (fun a b : EReal => a * b) ?_ ?_
  · refine left_blk m c t _ _ _ _ rfl (e0.trans ?_)
    show _ = _ + (y 0).val
    omega
  · refine right_blk m c t _ _ _ _ rfl (e1.trans ?_)
    show _ = _ + (y 1).val
    omega

end Cert.Kernel10Ideal.ConfOutW

namespace Cert.Proof

open Idealize.ShloMosaic TcCoe Idealize.SL.Sem StableHlo Tactic

theorem frame_Kernel10 : quiescent_Kernel10 := fun m ρ _ => Kernel10.Gen.frame m ρ

theorem frame_Kernel10Ideal : quiescent_Kernel10Ideal := fun m ρ _ => Kernel10Ideal.Gen.frame m ρ

theorem frame_Reference10Ideal : quiescent_Reference10Ideal := fun m ρ _ =>
  (θ_run _ _ _).mono (fun r h => ⟨fun c => (h c).2, sem_eq_zero_of_no_sems (by decide) r.2⟩)
    (Reference10Ideal.Value.run m ρ)

section
open Reference10Ideal Reference10Ideal.Gen

/-- The reference's result, read at one place. -/
theorem ref10_at (x : Vec Ideal S4096x2048 .f32) (y : Vec Ideal S4096x2048 .f32) (i : S2048x2048.Idx) :
    truncf (F := Ideal) .bf16 (transpose S2048x2048 [1, 0] (Host.dotGeneral (F := Ideal) (φ₁ := .f32) (φ₂ := .f32) dot_S4096x2048_S4096x2048_S2048x2048_0_0_1_1_n_n none y x) transposes_S2048x2048_S2048x2048_1_0) bitsLt_bf16_f32 i
      = (show EReal from ∑ l : Fin 4096, (show EReal from x (ix2 l (i 0))) * (show EReal from y (ix2 l (i 1)))) := by
  pointwise
  refine Finset.sum_congr rfl fun l _ => mul_comm _ _

end

theorem value_Kernel10Ideal : algebraic_Kernel10Ideal_Reference10Ideal := by
  intro m ρ m' ρ' _ hag
  refine ⟨Kernel10Ideal.ConfOutW.grad m, ?_, ?_⟩
  · exact (θ_run _ _ _).mono (fun _ h c => ⟨(h c).1.trans (Kernel10Ideal.ConfOutW.final2 m c), (h c).2⟩)
      (Kernel10Ideal.Value.run_blocks m ρ)
  · refine (θ_run _ _ _).mono (fun _ h c => ⟨(h c).1.trans ?_, (h c).2⟩) (Reference10Ideal.Value.run m' ρ')
    obtain ⟨h0, h1⟩ := hag c
    rw [h0, h1]
    funext i
    exact ref10_at _ _ i

end Cert.Proof

end
-- ==== Proof.ConfOutX.lean ====
module
public import proofs.«01_k».proof.Proof.Gen.Kernel11.Frame
public import proofs.«01_k».proof.Proof.Gen.Kernel11Ideal.Value
public import proofs.«01_k».proof.Proof.Gen.Reference11Ideal.Run
public import proofs.«01_k».proof.Proof.Lib
@[expose] public section
set_option maxRecDepth 16384
noncomputable section
set_option maxHeartbeats 4000000

/-! # The gradient of the left factor of the output product of the Conformer module and of the attention

The kernel multiplies blocks of 2048 by 2048 and 1024 by 2048 along their last axes and stores each product,
rounded, as a block of the result. The contracted axis isn't cut. -/

namespace Cert.Kernel11Ideal.ConfOutX

open Idealize.ShloMosaic TcCoe Tactic
open Cert.Kernel11Ideal.Gen

variable (m : (ℓ : Loc nD τ sig) → Buf (Elt Ideal) ℓ) (c : Dev nD)

/-- The product of one left and one right block, at one place. -/
def prod (x : Vec Ideal S2048x2048 .bf16) (y : Vec Ideal S1024x2048 .bf16) (j : S2048x1024.Idx) : EReal :=
  ∑ k : Fin 2048, (show EReal from x (ix2 (j 0) k)) * (show EReal from y (ix2 (j 1) k))

theorem out_apply (x : Vec Ideal S2048x2048 .bf16) (y : Vec Ideal S1024x2048 .bf16) (j : S2048x1024.Idx) :
    out0_2 x y j = prod x y (j) := by
  frame_out
  unfold k0_pay1 prod
  pointwise

/-! ## Which block each grid point reads and writes -/

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

/-- The left block, read from the argument it is cut from. -/
theorem left_blk (t : Fin cfg0.N) (r : Fin 2048) (k : Fin 2048) (a : Fin 4096) (b : Fin 2048) (ha : a.val = 2048 * (t.val / 2) + r.val) (hb : b.val = k.val) :
    iblk m c 0 t (ix2 r k) = m ((c : Thread nD τ).loc main_arg1) (ix2 a b) := by
  blk_simp [iblk]
  entry_read
  pointwise
  refine congrArg (m ((c : Thread nD τ).loc main_arg1)) ?_
  blk_ext [index0]

/-- The right block, read from the argument it is cut from. -/
theorem right_blk (t : Fin cfg0.N) (q : Fin 1024) (k : Fin 2048) (a : Fin 2048) (b : Fin 2048) (ha : a.val = 1024 * (t.val % 2) + q.val) (hb : b.val = k.val) :
    iblk m c 1 t (ix2 q k) = m ((c : Thread nD τ).loc main_arg0) (ix2 a b) := by
  blk_simp [iblk]
  entry_read
  pointwise
  refine congrArg (m ((c : Thread nD τ).loc main_arg0)) ?_
  blk_ext [index1]

/-! ## The result -/

/-- The gradient of the left factor. -/
def grad : Buf (Elt Ideal) ((c : Thread nD τ).loc main_v2) := fun i =>
  (show EReal from ∑ l : Fin 2048, (show EReal from m ((c : Thread nD τ).loc main_arg1) (ix2 (i 0) l))
    * (show EReal from m ((c : Thread nD τ).loc main_arg0) (ix2 (i 1) l)))

/-- The result array holds it. -/
theorem final2 : (dats m 0 c).arrAt 2 cfg0.N = grad m c := by
  refine (dats m 0 c).arrAt_eq_of_covers 2 _ (by decide +kernel) fun t hf y => ?_
  blk_simp
  rw [after0_2]
  have hN : t.val < 4 := t.isLt
  have e0 : ((win0_2.blk t).view.emb y 0).val = t.val / 2 * 2048 + (y 0).val := by blk_simp [index2]
  have e1 : ((win0_2.blk t).view.emb y 1).val = t.val % 2 * 1024 + (y 1).val := by blk_simp [index2]
  refine (out_apply _ _ y).trans ?_
  refine Finset.sum_congr rfl fun k _ => congrArg₂ (fun a b : EReal => a * b) ?_ ?_
  · refine left_blk m c t _ _ _ _ (e0.trans ?_) rfl
    show _ = _ + (y 0).val
    omega
  · refine right_blk m c t _ _ _ _ (e1.trans ?_) rfl
    show _ = _ + (y 1).val
    omega

end Cert.Kernel11Ideal.ConfOutX

namespace Cert.Proof

open Idealize.ShloMosaic TcCoe Idealize.SL.Sem StableHlo Tactic

theorem frame_Kernel11 : quiescent_Kernel11 := fun m ρ _ => Kernel11.Gen.frame m ρ

theorem frame_Kernel11Ideal : quiescent_Kernel11Ideal := fun m ρ _ => Kernel11Ideal.Gen.frame m ρ

theorem frame_Reference11Ideal : quiescent_Reference11Ideal := fun m ρ _ =>
  (θ_run _ _ _).mono (fun r h => ⟨fun c => (h c).2, sem_eq_zero_of_no_sems (by decide) r.2⟩)
    (Reference11Ideal.Value.run m ρ)

section
open Reference11Ideal Reference11Ideal.Gen

/-- The reference's result, read at one place. -/
theorem ref11_at (x : Vec Ideal S2048x2048 .f32) (y : Vec Ideal S4096x2048 .f32) (i : S4096x2048.Idx) :
    truncf (F := Ideal) .bf16 (Host.dotGeneral (F := Ideal) (φ₁ := .f32) (φ₂ := .f32) dot_S4096x2048_S2048x2048_S4096x2048_1_1_0_0_n_n none y x) bitsLt_bf16_f32 i
      = (show EReal from ∑ l : Fin 2048, (show EReal from y (ix2 (i 0) l)) * (show EReal from x (ix2 (i 1) l))) := by
  pointwise

end

theorem value_Kernel11Ideal : algebraic_Kernel11Ideal_Reference11Ideal := by
  intro m ρ m' ρ' _ hag
  refine ⟨Kernel11Ideal.ConfOutX.grad m, ?_, ?_⟩
  · exact (θ_run _ _ _).mono (fun _ h c => ⟨(h c).1.trans (Kernel11Ideal.ConfOutX.final2 m c), (h c).2⟩)
      (Kernel11Ideal.Value.run_blocks m ρ)
  · refine (θ_run _ _ _).mono (fun _ h c => ⟨(h c).1.trans ?_, (h c).2⟩) (Reference11Ideal.Value.run m' ρ')
    obtain ⟨h0, h1⟩ := hag c
    rw [h0, h1]
    funext i
    exact ref11_at _ _ i

end Cert.Proof

end
-- ==== Proof.ConfInF.lean ====
module
public import proofs.«01_k».proof.Proof.Gen.Kernel12.Frame
public import proofs.«01_k».proof.Proof.Gen.Kernel12Ideal.Value
public import proofs.«01_k».proof.Proof.Gen.Reference12Ideal.Run
public import proofs.«01_k».proof.Proof.Lib
@[expose] public section
set_option maxRecDepth 16384
noncomputable section
set_option maxHeartbeats 4000000

/-! # The Conformer module's input product, with bias

The kernel multiplies blocks of 2048 by 2048 and 2048 by 1024, adds the bias and stores the sum, rounded, as a block
of the result, which is laid out as value half and gate half. -/

namespace Cert.Kernel12Ideal.ConfInF

open Idealize.ShloMosaic TcCoe Tactic
open Cert.Kernel12Ideal.Gen

variable (m : (ℓ : Loc nD τ sig) → Buf (Elt Ideal) ℓ) (c : Dev nD)

/-- The product of one left and one right block, at one place. -/
def prod (x : Vec Ideal S2048x2048 .bf16) (y : Vec Ideal S1x2048x1024 .bf16) (j : S2048x1024.Idx) : EReal :=
  ∑ k : Fin 2048, (show EReal from x (ix2 (j 0) k)) * (show EReal from y (ix3 0 k (j 1)))

theorem out_apply (x : Vec Ideal S2048x2048 .bf16) (y : Vec Ideal S1x2048x1024 .bf16) (v : Vec Ideal S1x1x1024 .f32) (j : S1x2048x1024.Idx) :
    out0_3 x y v j = prod x y (ix2 (j 1) (j 2)) + (show EReal from v (ix3 0 0 (j 2))) := by
  frame_out
  unfold k0_pay1 prod
  pointwise

/-! ## Which block each grid point reads and writes -/

theorem index0 : ∀ t : Fin cfg0.N, win0_0.index t = ![t.val / 4, 0] := (by decide +kernel : ∀ t : Fin grid0.N, _)
theorem index1 : ∀ t : Fin cfg0.N, win0_1.index t = ![t.val % 4, 0, 0] := (by decide +kernel : ∀ t : Fin grid0.N, _)
theorem index3 : ∀ t : Fin cfg0.N, win0_3.index t = ![t.val % 4 / 2, t.val / 4, t.val % 2] := (by decide +kernel : ∀ t : Fin grid0.N, _)

/-- The left block, read from the argument it is cut from. -/
theorem left_blk (t : Fin cfg0.N) (r : Fin 2048) (k : Fin 2048) (a : Fin 4096) (b : Fin 2048) (ha : a.val = 2048 * (t.val / 4) + r.val) (hb : b.val = k.val) :
    iblk m c 0 t (ix2 r k) = m ((c : Thread nD τ).loc main_arg0) (ix2 a b) := by
  blk_simp [iblk]
  entry_read
  pointwise
  refine congrArg (m ((c : Thread nD τ).loc main_arg0)) ?_
  blk_ext [index0]

/-- The right block, read from the argument it is cut from. -/
theorem right_blk (t : Fin cfg0.N) (q : Fin 1024) (k : Fin 2048) (a : Fin 2048) (b : Fin 4096) (ha : a.val = k.val) (hb : b.val = 1024 * (t.val % 4) + q.val) :
    iblk m c 1 t (ix3 0 k q) = m ((c : Thread nD τ).loc main_arg1) (ix2 a b) := by
  blk_simp [iblk]
  entry_read
  pointwise
  refine congrArg (m ((c : Thread nD τ).loc main_arg1)) ?_
  blk_ext [index1]

theorem indexX2 : ∀ t : Fin cfg0.N, win0_2.index t = ![t.val % 4 / 2, 0, t.val % 2] := (by decide +kernel : ∀ t : Fin grid0.N, _)

/-- The block of the bias, read from the argument it is cut from. -/
theorem bias_blk (t : Fin cfg0.N) (q : Fin 1024) (a : Fin 4096) (ha : a.val = 1024 * (t.val % 4) + q.val) : iblk m c 2 t (ix3 0 0 q) = m ((c : Thread nD τ).loc main_arg2) (ix1 a) := by
  blk_simp [iblk]
  entry_read
  pointwise
  refine congrArg (m ((c : Thread nD τ).loc main_arg2)) ?_
  blk_ext [indexX2]

/-! ## The result -/

/-- The product plus the bias, as two halves. -/
def grad : Buf (Elt Ideal) ((c : Thread nD τ).loc main_v5) := fun i =>
  (show EReal from ∑ l : Fin 2048, (show EReal from m ((c : Thread nD τ).loc main_arg0) (ix2 (i 1) l))
    * (show EReal from m ((c : Thread nD τ).loc main_arg1) (ix2 l ⟨2048 * (i 0).val + (i 2).val, by
        have h0 : (i 0).val < 2 := (i 0).isLt
        have h2 : (i 2).val < 2048 := (i 2).isLt
        omega⟩))) + (show EReal from m ((c : Thread nD τ).loc main_arg2) (ix1 ⟨2048 * (i 0).val + (i 2).val, by
        have h0 : (i 0).val < 2 := (i 0).isLt
        have h2 : (i 2).val < 2048 := (i 2).isLt
        omega⟩))

/-- The result array holds it. -/
theorem final3 : (dats m 0 c).arrAt 3 cfg0.N = grad m c := by
  refine (dats m 0 c).arrAt_eq_of_covers 3 _ (by decide +kernel) fun t hf y => ?_
  blk_simp
  rw [after0_3]
  have hN : t.val < 8 := t.isLt
  have e0 : ((win0_3.blk t).view.emb y 0).val = t.val % 4 / 2 := by blk_simp [index3]
  have e1 : ((win0_3.blk t).view.emb y 1).val = t.val / 4 * 2048 + (y 1).val := by blk_simp [index3]
  have e2 : ((win0_3.blk t).view.emb y 2).val = t.val % 2 * 1024 + (y 2).val := by blk_simp [index3]
  have ec : 2048 * ((win0_3.blk t).view.emb y 0).val + ((win0_3.blk t).view.emb y 2).val = 1024 * (t.val % 4) + (y 2).val := by
    rw [e0, e2]
    omega
  refine (out_apply _ _ _ y).trans ?_
  refine congrArg₂ (fun a b : EReal => a + b) ?_ (bias_blk m c t (y 2) _ ec)
  refine Finset.sum_congr rfl fun k _ => congrArg₂ (fun a b : EReal => a * b) ?_ ?_
  · refine left_blk m c t _ _ _ _ (e1.trans ?_) rfl
    show _ = _ + (y 1).val
    omega
  · refine right_blk m c t _ _ _ _ rfl ec

end Cert.Kernel12Ideal.ConfInF

namespace Cert.Proof

open Idealize.ShloMosaic TcCoe Idealize.SL.Sem StableHlo Tactic

theorem frame_Kernel12 : quiescent_Kernel12 := fun m ρ _ => Kernel12.Gen.frame m ρ

theorem frame_Kernel12Ideal : quiescent_Kernel12Ideal := fun m ρ _ => Kernel12Ideal.Gen.frame m ρ

theorem frame_Reference12Ideal : quiescent_Reference12Ideal := fun m ρ _ =>
  (θ_run _ _ _).mono (fun r h => ⟨fun c => (h c).2, sem_eq_zero_of_no_sems (by decide) r.2⟩)
    (Reference12Ideal.Value.run m ρ)

section
open Reference12Ideal Reference12Ideal.Gen

/-- The reference's result, read at one place. -/
theorem ref12_at (x : Vec Ideal S4096x2048 .f32) (y : Vec Ideal S2048x4096 .f32) (v : Vec Ideal S4096 .f32) (i : S2x4096x2048.Idx) (b : Fin 4096)
    (hb : b.val = 2048 * (i 0).val + (i 2).val) :
    truncf (F := Ideal) .bf16 (transpose S2x4096x2048 [1, 0, 2] (shapeCast _ (addf (Host.dotGeneral (F := Ideal) (φ₁ := .f32) (φ₂ := .f32) dot_S4096x2048_S2048x4096_S4096x4096_1_0_0_1_n_n none x y) (broadcastInDim S4096x4096 ![0, 1] bcast_S1x4096_S4096x4096_0_1 (broadcastInDim S1x4096 ![1] bcast_S4096_S1x4096_1 v))) shapeCasts_S4096x4096_S4096x2x2048) transposes_S4096x2x2048_S2x4096x2048_1_0_2) bitsLt_bf16_f32 i
      = (show EReal from ∑ l : Fin 2048, (show EReal from x (ix2 (i 1) l)) * (show EReal from y (ix2 l b))) + (show EReal from v (ix1 b)) := by
  pointwise
  have e : (⟨(i 0).val * 2048 + (i 2).val, by
      have h0 : (i 0).val < 2 := (i 0).isLt
      have h2 : (i 2).val < 2048 := (i 2).isLt
      omega⟩ : Fin 4096) = b := Fin.ext (by
    show (i 0).val * 2048 + (i 2).val = b.val
    omega)
  rw [← e]

end

theorem value_Kernel12Ideal : algebraic_Kernel12Ideal_Reference12Ideal := by
  intro m ρ m' ρ' _ hag
  refine ⟨Kernel12Ideal.ConfInF.grad m, ?_, ?_⟩
  · exact (θ_run _ _ _).mono (fun _ h c => ⟨(h c).1.trans (Kernel12Ideal.ConfInF.final3 m c), (h c).2⟩)
      (Kernel12Ideal.Value.run_blocks m ρ)
  · refine (θ_run _ _ _).mono (fun _ h c => ⟨(h c).1.trans ?_, (h c).2⟩) (Reference12Ideal.Value.run m' ρ')
    obtain ⟨h0, h1, h2⟩ := hag c
    rw [h0, h1, h2]
    funext i
    exact ref12_at _ _ _ i _ rfl

end Cert.Proof

end
-- ==== Proof.ConfOutF.lean ====
module
public import proofs.«01_k».proof.Proof.Gen.Kernel13.Frame
public import proofs.«01_k».proof.Proof.Gen.Kernel13Ideal.Value
public import proofs.«01_k».proof.Proof.Gen.Reference13Ideal.Run
public import proofs.«01_k».proof.Proof.Lib
@[expose] public section
set_option maxRecDepth 16384
noncomputable section
set_option maxHeartbeats 4000000

/-! # The Conformer module's output product, with bias and residual

The kernel multiplies blocks of 2048 by 2048 and 2048 by 512, adds the bias and the block of the residual and stores
the sum. -/

namespace Cert.Kernel13Ideal.ConfOutF

open Idealize.ShloMosaic TcCoe Tactic
open Cert.Kernel13Ideal.Gen

variable (m : (ℓ : Loc nD τ sig) → Buf (Elt Ideal) ℓ) (c : Dev nD)

/-- The product of one left and one right block, at one place. -/
def prod (x : Vec Ideal S2048x2048 .bf16) (y : Vec Ideal S2048x512 .bf16) (j : S2048x512.Idx) : EReal :=
  ∑ k : Fin 2048, (show EReal from x (ix2 (j 0) k)) * (show EReal from y (ix2 k (j 1)))

theorem out_apply (x : Vec Ideal S2048x2048 .bf16) (y : Vec Ideal S2048x512 .bf16) (v : Vec Ideal S1x512 .f32) (z : Vec Ideal S2048x512 .f32) (j : S2048x512.Idx) :
    out0_4 x y v z j = prod x y (j) + (show EReal from v (ix2 0 (j 1))) + (show EReal from z j) := by
  frame_out
  unfold k0_pay1 prod
  pointwise

/-! ## Which block each grid point reads and writes -/

theorem index0 : ∀ t : Fin cfg0.N, win0_0.index t = ![t.val / 4, 0] := (by decide +kernel : ∀ t : Fin grid0.N, _)
theorem index1 : ∀ t : Fin cfg0.N, win0_1.index t = ![0, t.val % 4] := (by decide +kernel : ∀ t : Fin grid0.N, _)
theorem index4 : ∀ t : Fin cfg0.N, win0_4.index t = ![t.val / 4, t.val % 4] := (by decide +kernel : ∀ t : Fin grid0.N, _)

/-- The left block, read from the argument it is cut from. -/
theorem left_blk (t : Fin cfg0.N) (r : Fin 2048) (k : Fin 2048) (a : Fin 4096) (b : Fin 2048) (ha : a.val = 2048 * (t.val / 4) + r.val) (hb : b.val = k.val) :
    iblk m c 0 t (ix2 r k) = m ((c : Thread nD τ).loc main_arg0) (ix2 a b) := by
  blk_simp [iblk]
  entry_read
  pointwise
  refine congrArg (m ((c : Thread nD τ).loc main_arg0)) ?_
  blk_ext [index0]

/-- The right block, read from the argument it is cut from. -/
theorem right_blk (t : Fin cfg0.N) (q : Fin 512) (k : Fin 2048) (a : Fin 2048) (b : Fin 2048) (ha : a.val = k.val) (hb : b.val = 512 * (t.val % 4) + q.val) :
    iblk m c 1 t (ix2 k q) = m ((c : Thread nD τ).loc main_arg1) (ix2 a b) := by
  blk_simp [iblk]
  entry_read
  pointwise
  refine congrArg (m ((c : Thread nD τ).loc main_arg1)) ?_
  blk_ext [index1]

theorem indexX2 : ∀ t : Fin cfg0.N, win0_2.index t = ![0, t.val % 4] := (by decide +kernel : ∀ t : Fin grid0.N, _)

/-- The block of the bias, read from the argument it is cut from. -/
theorem bias_blk (t : Fin cfg0.N) (q : Fin 512) (a : Fin 2048) (ha : a.val = 512 * (t.val % 4) + q.val) : iblk m c 2 t (ix2 0 q) = m ((c : Thread nD τ).loc main_arg2) (ix1 a) := by
  blk_simp [iblk]
  entry_read
  pointwise
  refine congrArg (m ((c : Thread nD τ).loc main_arg2)) ?_
  blk_ext [indexX2]

theorem indexX3 : ∀ t : Fin cfg0.N, win0_3.index t = ![t.val / 4, t.val % 4] := (by decide +kernel : ∀ t : Fin grid0.N, _)

/-- The block of the residual, read from the argument it is cut from. -/
theorem resid_blk (t : Fin cfg0.N) (j : S2048x512.Idx) (i : S4096x2048.Idx) (h0 : (i 0).val = 2048 * (t.val / 4) + (j 0).val) (h1 : (i 1).val = 512 * (t.val % 4) + (j 1).val) : iblk m c 3 t (j) = m ((c : Thread nD τ).loc main_arg3) (i) := by
  blk_simp [iblk]
  entry_read
  pointwise
  refine congrArg (m ((c : Thread nD τ).loc main_arg3)) ?_
  blk_ext [indexX3]

/-! ## The result -/

/-- The product plus the bias plus the residual. -/
def grad : Buf (Elt Ideal) ((c : Thread nD τ).loc main_v3) := fun i =>
  (show EReal from ∑ l : Fin 2048, (show EReal from m ((c : Thread nD τ).loc main_arg0) (ix2 (i 0) l))
    * (show EReal from m ((c : Thread nD τ).loc main_arg1) (ix2 l (i 1)))) + (show EReal from m ((c : Thread nD τ).loc main_arg2) (ix1 (i 1))) + (show EReal from m ((c : Thread nD τ).loc main_arg3) i)

/-- The result array holds it. -/
theorem final4 : (dats m 0 c).arrAt 4 cfg0.N = grad m c := by
  refine (dats m 0 c).arrAt_eq_of_covers 4 _ (by decide +kernel) fun t hf y => ?_
  blk_simp
  rw [after0_4]
  have hN : t.val < 8 := t.isLt
  have e0 : ((win0_4.blk t).view.emb y 0).val = t.val / 4 * 2048 + (y 0).val := by blk_simp [index4]
  have e1 : ((win0_4.blk t).view.emb y 1).val = t.val % 4 * 512 + (y 1).val := by blk_simp [index4]
  refine (out_apply _ _ _ _ y).trans ?_
  refine congrArg₂ (fun a b : EReal => a + b) ?_ (resid_blk m c t y _ (e0.trans (by omega)) (e1.trans (by omega)))
  refine congrArg₂ (fun a b : EReal => a + b) ?_ (bias_blk m c t (y 1) _ (e1.trans (by omega)))
  refine Finset.sum_congr rfl fun k _ => congrArg₂ (fun a b : EReal => a * b) ?_ ?_
  · refine left_blk m c t _ _ _ _ (e0.trans ?_) rfl
    show _ = _ + (y 0).val
    omega
  · refine right_blk m c t _ _ _ _ rfl (e1.trans ?_)
    show _ = _ + (y 1).val
    omega

end Cert.Kernel13Ideal.ConfOutF

namespace Cert.Proof

open Idealize.ShloMosaic TcCoe Idealize.SL.Sem StableHlo Tactic

theorem frame_Kernel13 : quiescent_Kernel13 := fun m ρ _ => Kernel13.Gen.frame m ρ

theorem frame_Kernel13Ideal : quiescent_Kernel13Ideal := fun m ρ _ => Kernel13Ideal.Gen.frame m ρ

theorem frame_Reference13Ideal : quiescent_Reference13Ideal := fun m ρ _ =>
  (θ_run _ _ _).mono (fun r h => ⟨fun c => (h c).2, sem_eq_zero_of_no_sems (by decide) r.2⟩)
    (Reference13Ideal.Value.run m ρ)

section
open Reference13Ideal Reference13Ideal.Gen

/-- The reference's result, read at one place. -/
theorem ref13_at (x : Vec Ideal S4096x2048 .f32) (y : Vec Ideal S2048x2048 .f32) (v : Vec Ideal S2048 .f32) (z : Vec Ideal S4096x2048 .f32) (i : S4096x2048.Idx) :
    addf z (addf (Host.dotGeneral (F := Ideal) (φ₁ := .f32) (φ₂ := .f32) dot_S4096x2048_S2048x2048_S4096x2048_1_0_0_1_n_n none x y) (broadcastInDim S4096x2048 ![0, 1] bcast_S1x2048_S4096x2048_0_1 (broadcastInDim S1x2048 ![1] bcast_S2048_S1x2048_1 v))) i
      = (show EReal from ∑ l : Fin 2048, (show EReal from x (ix2 (i 0) l)) * (show EReal from y (ix2 l (i 1)))) + (show EReal from v (ix1 (i 1))) + (show EReal from z i) := by
  pointwise
  exact add_comm _ _

end

theorem value_Kernel13Ideal : algebraic_Kernel13Ideal_Reference13Ideal := by
  intro m ρ m' ρ' _ hag
  refine ⟨Kernel13Ideal.ConfOutF.grad m, ?_, ?_⟩
  · exact (θ_run _ _ _).mono (fun _ h c => ⟨(h c).1.trans (Kernel13Ideal.ConfOutF.final4 m c), (h c).2⟩)
      (Kernel13Ideal.Value.run_blocks m ρ)
  · refine (θ_run _ _ _).mono (fun _ h c => ⟨(h c).1.trans ?_, (h c).2⟩) (Reference13Ideal.Value.run m' ρ')
    obtain ⟨h0, h1, h2, h3⟩ := hag c
    rw [h0, h1, h2, h3]
    funext i
    exact ref13_at _ _ _ _ i

end Cert.Proof

end
-- ==== Proof.QkvW.lean ====
module
public import proofs.«01_k».proof.Proof.Gen.Kernel14.Frame
public import proofs.«01_k».proof.Proof.Gen.Kernel14Ideal.Value
public import proofs.«01_k».proof.Proof.Gen.Reference14Ideal.Run
public import proofs.«01_k».proof.Proof.Lib
@[expose] public section
set_option maxRecDepth 16384
noncomputable section
set_option maxHeartbeats 4000000

/-! # The gradient of the weights of the projection to queries, keys and values

The kernel multiplies blocks of 2048 by 2048 and 2048 by 640, adds two of them in an accumulator and stores the
sum as a block of the result, which is laid out as four column blocks. -/

namespace Cert.Kernel14Ideal.QkvW

open Idealize.ShloMosaic TcCoe Tactic
open Cert.Kernel14Ideal.Gen

variable (m : (ℓ : Loc nD τ sig) → Buf (Elt Ideal) ℓ) (c : Dev nD)

/-- The product of one left and one right block, at one place. -/
def prod (x : Vec Ideal S2048x2048 .bf16) (y : Vec Ideal S2048x640 .bf16) (j : S2048x640.Idx) : EReal :=
  ∑ k : Fin 2048, (show EReal from x (ix2 (j 0) k)) * (show EReal from y (ix2 k (j 1)))

theorem pay2_apply (x : Vec Ideal S2048x2048 .bf16) (y : Vec Ideal S2048x640 .bf16) (j : S2048x640.Idx) :
    k0_pay2 x y j = prod x y j := by
  unfold k0_pay2 k0_pay1 prod
  pointwise

theorem pay3_apply (x : Vec Ideal S2048x2048 .bf16) (y : Vec Ideal S2048x640 .bf16) (v : Vec Ideal S2048x640 .f32) (j : S2048x640.Idx) :
    k0_pay3 x y v j = (show EReal from v j) + prod x y j := by
  unfold k0_pay3 k0_pay1 prod
  pointwise

/-! ## Which block each grid point reads and writes -/

theorem index0 : ∀ t : Fin cfg0.N, win0_0.index t = ![0, t.val % 2] := (by decide +kernel : ∀ t : Fin grid0.N, _)
theorem index1 : ∀ t : Fin cfg0.N, win0_1.index t = ![t.val % 2, t.val / 2] := (by decide +kernel : ∀ t : Fin grid0.N, _)
theorem index2 : ∀ t : Fin cfg0.N, win0_2.index t = ![t.val / 2, 0, 0] := (by decide +kernel : ∀ t : Fin grid0.N, _)

/-- The left block, read from the argument it is cut from. -/
theorem left_blk (t : Fin cfg0.N) (r : Fin 2048) (k : Fin 2048) (a : Fin 4096) (b : Fin 2048) (ha : a.val = 2048 * (t.val % 2) + k.val) (hb : b.val = r.val) :
    iblk m c 0 t (ix2 r k) = m ((c : Thread nD τ).loc main_arg0) (ix2 a b) := by
  blk_simp [iblk]
  entry_read
  pointwise
  refine congrArg (m ((c : Thread nD τ).loc main_arg0)) ?_
  blk_ext [index0]

/-- The right block, read from the argument it is cut from. -/
theorem right_blk (t : Fin cfg0.N) (q : Fin 640) (k : Fin 2048) (a : Fin 4096) (b : Fin 2560) (ha : a.val = 2048 * (t.val % 2) + k.val) (hb : b.val = 640 * (t.val / 2) + q.val) :
    iblk m c 1 t (ix2 k q) = m ((c : Thread nD τ).loc main_arg1) (ix2 a b) := by
  blk_simp [iblk]
  entry_read
  pointwise
  refine congrArg (m ((c : Thread nD τ).loc main_arg1)) ?_
  blk_ext [index1]

/-! ## The accumulator -/

theorem acc_first (t : Fin cfg0.N) (h : t.val % 2 = 0) (j : S2048x640.Idx) :
    (outsAt0 m c t.val t.isLt).2 j = (0 : EReal) + prod (iblk m c 0 t) (iblk m c 1 t) j := by
  rw [outsAt0_A m c t h (by omega) (by omega)]
  frame_out
  rw [pay2_apply, zero_add]

theorem acc_next (t : Fin cfg0.N) (h : ¬ t.val % 2 = 0) (j : S2048x640.Idx) :
    (outsAt0 m c t.val t.isLt).2 j
      = (show EReal from (outsAt0 m c (t.val - 1) (Nat.lt_of_le_of_lt (Nat.sub_le _ _) t.isLt)).2 j)
        + prod (iblk m c 0 t) (iblk m c 1 t) j := by
  rw [outsAt0_B m c t h (by omega) (by omega)]
  frame_out
  rw [pay3_apply, (Memref.isWhole_whole _).read_unread]

/-- After its last step the accumulator holds the sum over the whole contracted axis. -/
theorem acc_sum (t : Fin cfg0.N) (h : t.val % 2 = 1) (j : S2048x640.Idx) (f : Fin 4096 → EReal)
    (hf : ∀ (s : Fin 2) (k : Fin 2048) (p : Fin cfg0.N) (_ : p.val = 2 * (t.val / 2) + s.val) (l : Fin 4096) (_ : l.val = s.val * 2048 + k.val),
      (show EReal from iblk m c 0 p (ix2 (j 0) k)) * (show EReal from iblk m c 1 p (ix2 k (j 1))) = f l) :
    (outsAt0 m c t.val t.isLt).2 j = ∑ l, f l := by
  rw [Pipeline.eq_sum_fin_of_reset_step_apply_of_flush (fun n h => (outsAt0 m c n h).2) 2 (fun _ => (0 : EReal))
    (fun p => prod (iblk m c 0 p) (iblk m c 1 p)) (acc_first m c) (acc_next m c) t h j, zero_add]
  exact Fin.sum_mul_add_congr fun s k hl => hf s k _ rfl _ rfl

/-- The last step stores the accumulator, rounded, as the result's block. -/
theorem out_last (t : Fin cfg0.N) (h : t.val % 2 = 1) (j : S1x2048x640.Idx) :
    (outsAt0 m c t.val t.isLt).1 j = (outsAt0 m c t.val t.isLt).2 (ix2 (j 1) (j 2)) := by
  rw [outsAt0_B m c t (by omega) h h]
  frame_out
  unfold k0_pay4
  pointwise

/-! ## The result -/

/-- The gradient of the weights, as four column blocks. -/
def grad : Buf (Elt Ideal) ((c : Thread nD τ).loc main_v3) := fun i =>
  show EReal from ∑ l : Fin 4096, (show EReal from m ((c : Thread nD τ).loc main_arg0) (ix2 l (i 1)))
    * (show EReal from m ((c : Thread nD τ).loc main_arg1) (ix2 l ⟨640 * (i 0).val + (i 2).val, by
        have h0 : (i 0).val < 4 := (i 0).isLt
        have h2 : (i 2).val < 640 := (i 2).isLt
        omega⟩))

/-- The result array holds the gradient. -/
theorem final2 : (dats m 0 c).arrAt 2 cfg0.N = grad m c := by
  refine (dats m 0 c).arrAt_eq_of_covers 2 _ (by decide +kernel) fun t hf y => ?_
  blk_simp
  rw [after0_2]
  have hN : t.val < 8 := t.isLt
  have e0 : ((win0_2.blk t).view.emb y 0).val = t.val / 2 := by blk_simp [index2]
  have e1 : ((win0_2.blk t).view.emb y 1).val = (y 1).val := by blk_simp [index2]
  have e2 : ((win0_2.blk t).view.emb y 2).val = (y 2).val := by blk_simp [index2]
  have ht : t.val % 2 = 1 := (flush0_2 t).mp hf
  refine (out_last m c t ht y).trans ?_
  refine acc_sum m c t ht _ _ fun s k p e l hl => congrArg₂ (· * ·) ?_ ?_
  · refine left_blk m c p _ _ _ _ (by omega) e1
  · refine right_blk m c p _ _ _ _ (by omega) ?_
    show 640 * ((win0_2.blk t).view.emb y 0).val + ((win0_2.blk t).view.emb y 2).val = _ + (y 2).val
    rw [e0, e2]
    omega

end Cert.Kernel14Ideal.QkvW

namespace Cert.Proof

open Idealize.ShloMosaic TcCoe Idealize.SL.Sem StableHlo Tactic

theorem frame_Kernel14 : quiescent_Kernel14 := fun m ρ _ => Kernel14.Gen.frame m ρ

theorem frame_Kernel14Ideal : quiescent_Kernel14Ideal := fun m ρ _ => Kernel14Ideal.Gen.frame m ρ

theorem frame_Reference14Ideal : quiescent_Reference14Ideal := fun m ρ _ =>
  (θ_run _ _ _).mono (fun r h => ⟨fun c => (h c).2, sem_eq_zero_of_no_sems (by decide) r.2⟩)
    (Reference14Ideal.Value.run m ρ)

section
open Reference14Ideal Reference14Ideal.Gen

/-- The reference's result, read at one place. -/
theorem ref14_at (x : Vec Ideal S4096x2048 .f32) (y : Vec Ideal S4096x2560 .f32) (i : S4x2048x640.Idx) (b : Fin 2560)
    (hb : b.val = 640 * (i 0).val + (i 2).val) :
    truncf (F := Ideal) .bf16 (transpose S4x2048x640 [1, 0, 2] (shapeCast _ (transpose S2048x2560 [1, 0] (Host.dotGeneral (F := Ideal) (φ₁ := .f32) (φ₂ := .f32) dot_S4096x2560_S4096x2048_S2560x2048_0_0_1_1_n_n none y x) transposes_S2560x2048_S2048x2560_1_0) shapeCasts_S2048x2560_S2048x4x640) transposes_S2048x4x640_S4x2048x640_1_0_2) bitsLt_bf16_f32 i
      = (show EReal from ∑ l : Fin 4096, (show EReal from x (ix2 l (i 1))) * (show EReal from y (ix2 l b))) := by
  pointwise
  refine Finset.sum_congr rfl fun l _ => (mul_comm _ _).trans (congrArg₂ (· * ·) rfl (congrArg (fun q => y (ix2 l q)) (Fin.ext ?_)))
  show (i 0).val * 640 + (i 2).val = b.val
  omega

end

theorem value_Kernel14Ideal : algebraic_Kernel14Ideal_Reference14Ideal := by
  intro m ρ m' ρ' _ hag
  refine ⟨Kernel14Ideal.QkvW.grad m, ?_, ?_⟩
  · exact (θ_run _ _ _).mono (fun _ h c => ⟨(h c).1.trans (Kernel14Ideal.QkvW.final2 m c), (h c).2⟩)
      (Kernel14Ideal.Value.run_blocks m ρ)
  · refine (θ_run _ _ _).mono (fun _ h c => ⟨(h c).1.trans ?_, (h c).2⟩) (Reference14Ideal.Value.run m' ρ')
    obtain ⟨h0, h1⟩ := hag c
    rw [h0, h1]
    funext i
    exact ref14_at _ _ i _ rfl

end Cert.Proof

end
-- ==== Proof.QkvX.lean ====
module
public import proofs.«01_k».proof.Proof.Gen.Kernel15.Frame
public import proofs.«01_k».proof.Proof.Gen.Kernel15Ideal.Value
public import proofs.«01_k».proof.Proof.Gen.Reference15Ideal.Run
public import proofs.«01_k».proof.Proof.Lib
@[expose] public section
set_option maxRecDepth 16384
noncomputable section
set_option maxHeartbeats 4000000

/-! # The gradient of the left factor of the projection to queries, keys and values

The kernel multiplies blocks of 4096 by 640 and 512 by 640 along their last axes, adds four of them in an
accumulator and stores the sum as a block of the result. -/

namespace Cert.Kernel15Ideal.QkvX

open Idealize.ShloMosaic TcCoe Tactic
open Cert.Kernel15Ideal.Gen

variable (m : (ℓ : Loc nD τ sig) → Buf (Elt Ideal) ℓ) (c : Dev nD)

/-- The product of one left and one right block, at one place. -/
def prod (x : Vec Ideal S4096x640 .bf16) (y : Vec Ideal S1x512x640 .bf16) (j : S4096x512.Idx) : EReal :=
  ∑ k : Fin 640, (show EReal from x (ix2 (j 0) k)) * (show EReal from y (ix3 0 (j 1) k))

theorem pay2_apply (x : Vec Ideal S4096x640 .bf16) (y : Vec Ideal S1x512x640 .bf16) (j : S4096x512.Idx) :
    k0_pay2 x y j = prod x y j := by
  unfold k0_pay2 k0_pay1 prod
  pointwise

theorem pay3_apply (x : Vec Ideal S4096x640 .bf16) (y : Vec Ideal S1x512x640 .bf16) (v : Vec Ideal S4096x512 .f32) (j : S4096x512.Idx) :
    k0_pay3 x y v j = (show EReal from v j) + prod x y j := by
  unfold k0_pay3 k0_pay1 prod
  pointwise

/-! ## Which block each grid point reads and writes -/

theorem index0 : ∀ t : Fin cfg0.N, win0_0.index t = ![0, t.val % 4] := (by decide +kernel : ∀ t : Fin grid0.N, _)
theorem index1 : ∀ t : Fin cfg0.N, win0_1.index t = ![t.val % 4, t.val / 4, 0] := (by decide +kernel : ∀ t : Fin grid0.N, _)
theorem index2 : ∀ t : Fin cfg0.N, win0_2.index t = ![0, t.val / 4] := (by decide +kernel : ∀ t : Fin grid0.N, _)

/-- The left block, read from the argument it is cut from. -/
theorem left_blk (t : Fin cfg0.N) (r : Fin 4096) (k : Fin 640) (a : Fin 4096) (b : Fin 2560) (ha : a.val = r.val) (hb : b.val = 640 * (t.val % 4) + k.val) :
    iblk m c 0 t (ix2 r k) = m ((c : Thread nD τ).loc main_arg1) (ix2 a b) := by
  blk_simp [iblk]
  entry_read
  pointwise
  refine congrArg (m ((c : Thread nD τ).loc main_arg1)) ?_
  blk_ext [index0]

/-- The right block, read from the argument it is cut from. -/
theorem right_blk (t : Fin cfg0.N) (q : Fin 512) (k : Fin 640) (a : Fin 2048) (b : Fin 2560) (ha : a.val = 512 * (t.val / 4) + q.val) (hb : b.val = 640 * (t.val % 4) + k.val) :
    iblk m c 1 t (ix3 0 q k) = m ((c : Thread nD τ).loc main_arg0) (ix2 a b) := by
  blk_simp [iblk]
  entry_read
  pointwise
  refine congrArg (m ((c : Thread nD τ).loc main_arg0)) ?_
  blk_ext [index1]

/-! ## The accumulator -/

theorem acc_first (t : Fin cfg0.N) (h : t.val % 4 = 0) (j : S4096x512.Idx) :
    (outsAt0 m c t.val t.isLt).2 j = (0 : EReal) + prod (iblk m c 0 t) (iblk m c 1 t) j := by
  rw [outsAt0_A m c t h (by omega) (by omega)]
  frame_out
  rw [pay2_apply, zero_add]

theorem acc_next (t : Fin cfg0.N) (h : ¬ t.val % 4 = 0) (j : S4096x512.Idx) :
    (outsAt0 m c t.val t.isLt).2 j
      = (show EReal from (outsAt0 m c (t.val - 1) (Nat.lt_of_le_of_lt (Nat.sub_le _ _) t.isLt)).2 j)
        + prod (iblk m c 0 t) (iblk m c 1 t) j := by
  by_cases h7 : t.val % 4 = 3
  · rw [outsAt0_C m c t h (by omega) h7]
    frame_out
    rw [pay3_apply, (Memref.isWhole_whole _).read_unread]
  · rw [outsAt0_B m c t h (by omega) h7]
    frame_out
    rw [pay3_apply, (Memref.isWhole_whole _).read_unread]

/-- After its last step the accumulator holds the sum over the whole contracted axis. -/
theorem acc_sum (t : Fin cfg0.N) (h : t.val % 4 = 3) (j : S4096x512.Idx) (f : Fin 2560 → EReal)
    (hf : ∀ (s : Fin 4) (k : Fin 640) (p : Fin cfg0.N) (_ : p.val = 4 * (t.val / 4) + s.val) (l : Fin 2560) (_ : l.val = s.val * 640 + k.val),
      (show EReal from iblk m c 0 p (ix2 (j 0) k)) * (show EReal from iblk m c 1 p (ix3 0 (j 1) k)) = f l) :
    (outsAt0 m c t.val t.isLt).2 j = ∑ l, f l := by
  rw [Pipeline.eq_sum_fin_of_reset_step_apply_of_flush (fun n h => (outsAt0 m c n h).2) 4 (fun _ => (0 : EReal))
    (fun p => prod (iblk m c 0 p) (iblk m c 1 p)) (acc_first m c) (acc_next m c) t h j, zero_add]
  exact Fin.sum_mul_add_congr fun s k hl => hf s k _ rfl _ rfl

/-- The last step stores the accumulator, rounded, as the result's block. -/
theorem out_last (t : Fin cfg0.N) (h : t.val % 4 = 3) (j : S4096x512.Idx) :
    (outsAt0 m c t.val t.isLt).1 j = (outsAt0 m c t.val t.isLt).2 (j) := by
  rw [outsAt0_C m c t (by omega) (by omega) h]
  frame_out
  unfold k0_pay4
  pointwise

/-! ## The result -/

/-- The gradient of the layer's input. -/
def grad : Buf (Elt Ideal) ((c : Thread nD τ).loc main_v4) := fun i =>
  show EReal from ∑ l : Fin 2560, (show EReal from m ((c : Thread nD τ).loc main_arg1) (ix2 (i 0) l))
    * (show EReal from m ((c : Thread nD τ).loc main_arg0) (ix2 (i 1) l))

/-- The result array holds the gradient. -/
theorem final2 : (dats m 0 c).arrAt 2 cfg0.N = grad m c := by
  refine (dats m 0 c).arrAt_eq_of_covers 2 _ (by decide +kernel) fun t hf y => ?_
  blk_simp
  rw [after0_2]
  have hN : t.val < 16 := t.isLt
  have e0 : ((win0_2.blk t).view.emb y 0).val = (y 0).val := by blk_simp [index2]
  have e1 : ((win0_2.blk t).view.emb y 1).val = t.val / 4 * 512 + (y 1).val := by blk_simp [index2]
  have ht : t.val % 4 = 3 := (flush0_2 t).mp hf
  refine (out_last m c t ht y).trans ?_
  refine acc_sum m c t ht _ _ fun s k p e l hl => congrArg₂ (· * ·) ?_ ?_
  · refine left_blk m c p _ _ _ _ e0 (by omega)
  · refine right_blk m c p _ _ _ _ (e1.trans ?_) (by omega)
    show _ = _ + (y 1).val
    omega

end Cert.Kernel15Ideal.QkvX

namespace Cert.Proof

open Idealize.ShloMosaic TcCoe Idealize.SL.Sem StableHlo Tactic

theorem frame_Kernel15 : quiescent_Kernel15 := fun m ρ _ => Kernel15.Gen.frame m ρ

theorem frame_Kernel15Ideal : quiescent_Kernel15Ideal := fun m ρ _ => Kernel15Ideal.Gen.frame m ρ

theorem frame_Reference15Ideal : quiescent_Reference15Ideal := fun m ρ _ =>
  (θ_run _ _ _).mono (fun r h => ⟨fun c => (h c).2, sem_eq_zero_of_no_sems (by decide) r.2⟩)
    (Reference15Ideal.Value.run m ρ)

section
open Reference15Ideal Reference15Ideal.Gen

/-- The reference's result, read at one place. -/
theorem ref15_at (x : Vec Ideal S2048x2560 .f32) (y : Vec Ideal S4096x2560 .f32) (i : S4096x2048.Idx) :
    truncf (F := Ideal) .bf16 (Host.dotGeneral (F := Ideal) (φ₁ := .f32) (φ₂ := .f32) dot_S4096x2560_S2048x2560_S4096x2048_1_1_0_0_n_n none y x) bitsLt_bf16_f32 i
      = (show EReal from ∑ l : Fin 2560, (show EReal from y (ix2 (i 0) l)) * (show EReal from x (ix2 (i 1) l))) := by
  pointwise

end

theorem value_Kernel15Ideal : algebraic_Kernel15Ideal_Reference15Ideal := by
  intro m ρ m' ρ' _ hag
  refine ⟨Kernel15Ideal.QkvX.grad m, ?_, ?_⟩
  · exact (θ_run _ _ _).mono (fun _ h c => ⟨(h c).1.trans (Kernel15Ideal.QkvX.final2 m c), (h c).2⟩)
      (Kernel15Ideal.Value.run_blocks m ρ)
  · refine (θ_run _ _ _).mono (fun _ h c => ⟨(h c).1.trans ?_, (h c).2⟩) (Reference15Ideal.Value.run m' ρ')
    obtain ⟨h0, h1⟩ := hag c
    rw [h0, h1]
    funext i
    exact ref15_at _ _ i

end Cert.Proof

end
-- ==== Proof.QkvF.lean ====
module
public import proofs.«01_k».proof.Proof.Gen.Kernel16.Frame
public import proofs.«01_k».proof.Proof.Gen.Kernel16Ideal.Value
public import proofs.«01_k».proof.Proof.Gen.Reference16Ideal.Run
public import proofs.«01_k».proof.Proof.Lib
@[expose] public section
set_option maxRecDepth 16384
noncomputable section
set_option maxHeartbeats 4000000

/-! # The attention's projection to queries, keys and values

The kernel multiplies blocks of 2048 by 2048 and 2048 by 640 and stores each product as a block of the result. -/

namespace Cert.Kernel16Ideal.QkvF

open Idealize.ShloMosaic TcCoe Tactic
open Cert.Kernel16Ideal.Gen

variable (m : (ℓ : Loc nD τ sig) → Buf (Elt Ideal) ℓ) (c : Dev nD)

/-- The product of one left and one right block, at one place. -/
def prod (x : Vec Ideal S2048x2048 .bf16) (y : Vec Ideal S1x2048x640 .bf16) (j : S2048x640.Idx) : EReal :=
  ∑ k : Fin 2048, (show EReal from x (ix2 (j 0) k)) * (show EReal from y (ix3 0 k (j 1)))

theorem out_apply (x : Vec Ideal S2048x2048 .bf16) (y : Vec Ideal S1x2048x640 .bf16) (j : S2048x640.Idx) :
    out0_2 x y j = prod x y (j) := by
  frame_out
  unfold k0_pay1 prod
  pointwise

/-! ## Which block each grid point reads and writes -/

theorem index0 : ∀ t : Fin cfg0.N, win0_0.index t = ![t.val / 4, 0] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, t.val % 4] := (by decide +kernel : ∀ t : Fin grid0.N, _)

/-- The left block, read from the argument it is cut from. -/
theorem left_blk (t : Fin cfg0.N) (r : Fin 2048) (k : Fin 2048) (a : Fin 4096) (b : Fin 2048) (ha : a.val = 2048 * (t.val / 4) + r.val) (hb : b.val = k.val) :
    iblk m c 0 t (ix2 r k) = m ((c : Thread nD τ).loc main_arg0) (ix2 a b) := by
  blk_simp [iblk]
  entry_read
  pointwise
  refine congrArg (m ((c : Thread nD τ).loc main_arg0)) ?_
  blk_ext [index0]

/-- The right block, read from the argument it is cut from. -/
theorem right_blk (t : Fin cfg0.N) (q : Fin 640) (k : Fin 2048) (a : Fin 2048) (b : Fin 2560) (ha : a.val = k.val) (hb : b.val = 640 * (t.val % 4) + q.val) :
    iblk m c 1 t (ix3 0 k q) = m ((c : Thread nD τ).loc main_arg1) (ix2 a b) := by
  blk_simp [iblk]
  entry_read
  pointwise
  refine congrArg (m ((c : Thread nD τ).loc main_arg1)) ?_
  blk_ext [index1]

/-! ## The result -/

/-- The product. -/
def grad : Buf (Elt Ideal) ((c : Thread nD τ).loc main_v4) := fun i =>
  (show EReal from ∑ l : Fin 2048, (show EReal from m ((c : Thread nD τ).loc main_arg0) (ix2 (i 0) l))
    * (show EReal from m ((c : Thread nD τ).loc main_arg1) (ix2 l (i 1))))

/-- The result array holds it. -/
theorem final2 : (dats m 0 c).arrAt 2 cfg0.N = grad m c := by
  refine (dats m 0 c).arrAt_eq_of_covers 2 _ (by decide +kernel) fun t hf y => ?_
  blk_simp
  rw [after0_2]
  have hN : t.val < 8 := t.isLt
  have e0 : ((win0_2.blk t).view.emb y 0).val = t.val / 4 * 2048 + (y 0).val := by blk_simp [index2]
  have e1 : ((win0_2.blk t).view.emb y 1).val = t.val % 4 * 640 + (y 1).val := by blk_simp [index2]
  refine (out_apply _ _ y).trans ?_
  refine Finset.sum_congr rfl fun k _ => congrArg₂ (fun a b : EReal => a * b) ?_ ?_
  · refine left_blk m c t _ _ _ _ (e0.trans ?_) rfl
    show _ = _ + (y 0).val
    omega
  · refine right_blk m c t _ _ _ _ rfl (e1.trans ?_)
    show _ = _ + (y 1).val
    omega

end Cert.Kernel16Ideal.QkvF

namespace Cert.Proof

open Idealize.ShloMosaic TcCoe Idealize.SL.Sem StableHlo Tactic

theorem frame_Kernel16 : quiescent_Kernel16 := fun m ρ _ => Kernel16.Gen.frame m ρ

theorem frame_Kernel16Ideal : quiescent_Kernel16Ideal := fun m ρ _ => Kernel16Ideal.Gen.frame m ρ

theorem frame_Reference16Ideal : quiescent_Reference16Ideal := fun m ρ _ =>
  (θ_run _ _ _).mono (fun r h => ⟨fun c => (h c).2, sem_eq_zero_of_no_sems (by decide) r.2⟩)
    (Reference16Ideal.Value.run m ρ)

section
open Reference16Ideal Reference16Ideal.Gen

/-- The reference's result, read at one place. -/
theorem ref16_at (x : Vec Ideal S4096x2048 .f32) (y : Vec Ideal S2048x2560 .f32) (i : S4096x2560.Idx) :
    Host.dotGeneral (F := Ideal) (φ₁ := .f32) (φ₂ := .f32) dot_S4096x2048_S2048x2560_S4096x2560_1_0_0_1_n_n none x y i
      = (show EReal from ∑ l : Fin 2048, (show EReal from x (ix2 (i 0) l)) * (show EReal from y (ix2 l (i 1)))) := by
  pointwise

end

theorem value_Kernel16Ideal : algebraic_Kernel16Ideal_Reference16Ideal := by
  intro m ρ m' ρ' _ hag
  refine ⟨Kernel16Ideal.QkvF.grad m, ?_, ?_⟩
  · exact (θ_run _ _ _).mono (fun _ h c => ⟨(h c).1.trans (Kernel16Ideal.QkvF.final2 m c), (h c).2⟩)
      (Kernel16Ideal.Value.run_blocks m ρ)
  · refine (θ_run _ _ _).mono (fun _ h c => ⟨(h c).1.trans ?_, (h c).2⟩) (Reference16Ideal.Value.run m' ρ')
    obtain ⟨h0, h1⟩ := hag c
    rw [h0, h1]
    funext i
    exact ref16_at _ _ i

end Cert.Proof

end
-- ==== Proof.AttOutF.lean ====
module
public import proofs.«01_k».proof.Proof.Gen.Kernel17.Frame
public import proofs.«01_k».proof.Proof.Gen.Kernel17Ideal.Value
public import proofs.«01_k».proof.Proof.Gen.Reference17Ideal.Run
public import proofs.«01_k».proof.Proof.Lib
@[expose] public section
set_option maxRecDepth 16384
noncomputable section
set_option maxHeartbeats 4000000

/-! # The attention's output product, with the residual

The kernel multiplies blocks of 2048 by 2048 and 2048 by 512, adds the block of the residual and stores the sum. -/

namespace Cert.Kernel17Ideal.AttOutF

open Idealize.ShloMosaic TcCoe Tactic
open Cert.Kernel17Ideal.Gen

variable (m : (ℓ : Loc nD τ sig) → Buf (Elt Ideal) ℓ) (c : Dev nD)

/-- The product of one left and one right block, at one place. -/
def prod (x : Vec Ideal S2048x2048 .bf16) (y : Vec Ideal S2048x512 .bf16) (j : S2048x512.Idx) : EReal :=
  ∑ k : Fin 2048, (show EReal from x (ix2 (j 0) k)) * (show EReal from y (ix2 k (j 1)))

theorem out_apply (x : Vec Ideal S2048x2048 .bf16) (y : Vec Ideal S2048x512 .bf16) (z : Vec Ideal S2048x512 .f32) (j : S2048x512.Idx) :
    out0_3 x y z j = prod x y (j) + (show EReal from z j) := by
  frame_out
  unfold k0_pay1 prod
  pointwise

/-! ## Which block each grid point reads and writes -/

theorem index0 : ∀ t : Fin cfg0.N, win0_0.index t = ![t.val / 4, 0] := (by decide +kernel : ∀ t : Fin grid0.N, _)
theorem index1 : ∀ t : Fin cfg0.N, win0_1.index t = ![0, t.val % 4] := (by decide +kernel : ∀ t : Fin grid0.N, _)
theorem index3 : ∀ t : Fin cfg0.N, win0_3.index t = ![t.val / 4, t.val % 4] := (by decide +kernel : ∀ t : Fin grid0.N, _)

/-- The left block, read from the argument it is cut from. -/
theorem left_blk (t : Fin cfg0.N) (r : Fin 2048) (k : Fin 2048) (a : Fin 4096) (b : Fin 2048) (ha : a.val = 2048 * (t.val / 4) + r.val) (hb : b.val = k.val) :
    iblk m c 0 t (ix2 r k) = m ((c : Thread nD τ).loc main_arg0) (ix2 a b) := by
  blk_simp [iblk]
  entry_read
  pointwise
  refine congrArg (m ((c : Thread nD τ).loc main_arg0)) ?_
  blk_ext [index0]

/-- The right block, read from the argument it is cut from. -/
theorem right_blk (t : Fin cfg0.N) (q : Fin 512) (k : Fin 2048) (a : Fin 2048) (b : Fin 2048) (ha : a.val = k.val) (hb : b.val = 512 * (t.val % 4) + q.val) :
    iblk m c 1 t (ix2 k q) = m ((c : Thread nD τ).loc main_arg1) (ix2 a b) := by
  blk_simp [iblk]
  entry_read
  pointwise
  refine congrArg (m ((c : Thread nD τ).loc main_arg1)) ?_
  blk_ext [index1]

theorem indexX2 : ∀ t : Fin cfg0.N, win0_2.index t = ![t.val / 4, t.val % 4] := (by decide +kernel : ∀ t : Fin grid0.N, _)

/-- The block of the residual, read from the argument it is cut from. -/
theorem resid_blk (t : Fin cfg0.N) (j : S2048x512.Idx) (i : S4096x2048.Idx) (h0 : (i 0).val = 2048 * (t.val / 4) + (j 0).val) (h1 : (i 1).val = 512 * (t.val % 4) + (j 1).val) : iblk m c 2 t (j) = m ((c : Thread nD τ).loc main_arg2) (i) := by
  blk_simp [iblk]
  entry_read
  pointwise
  refine congrArg (m ((c : Thread nD τ).loc main_arg2)) ?_
  blk_ext [indexX2]

/-! ## The result -/

/-- The product plus the residual. -/
def grad : Buf (Elt Ideal) ((c : Thread nD τ).loc main_v2) := fun i =>
  (show EReal from ∑ l : Fin 2048, (show EReal from m ((c : Thread nD τ).loc main_arg0) (ix2 (i 0) l))
    * (show EReal from m ((c : Thread nD τ).loc main_arg1) (ix2 l (i 1)))) + (show EReal from m ((c : Thread nD τ).loc main_arg2) i)

/-- The result array holds it. -/
theorem final3 : (dats m 0 c).arrAt 3 cfg0.N = grad m c := by
  refine (dats m 0 c).arrAt_eq_of_covers 3 _ (by decide +kernel) fun t hf y => ?_
  blk_simp
  rw [after0_3]
  have hN : t.val < 8 := t.isLt
  have e0 : ((win0_3.blk t).view.emb y 0).val = t.val / 4 * 2048 + (y 0).val := by blk_simp [index3]
  have e1 : ((win0_3.blk t).view.emb y 1).val = t.val % 4 * 512 + (y 1).val := by blk_simp [index3]
  refine (out_apply _ _ _ y).trans ?_
  refine congrArg₂ (fun a b : EReal => a + b) ?_ (resid_blk m c t y _ (e0.trans (by omega)) (e1.trans (by omega)))
  refine Finset.sum_congr rfl fun k _ => congrArg₂ (fun a b : EReal => a * b) ?_ ?_
  · refine left_blk m c t _ _ _ _ (e0.trans ?_) rfl
    show _ = _ + (y 0).val
    omega
  · refine right_blk m c t _ _ _ _ rfl (e1.trans ?_)
    show _ = _ + (y 1).val
    omega

end Cert.Kernel17Ideal.AttOutF

namespace Cert.Proof

open Idealize.ShloMosaic TcCoe Idealize.SL.Sem StableHlo Tactic

theorem frame_Kernel17 : quiescent_Kernel17 := fun m ρ _ => Kernel17.Gen.frame m ρ

theorem frame_Kernel17Ideal : quiescent_Kernel17Ideal := fun m ρ _ => Kernel17Ideal.Gen.frame m ρ

theorem frame_Reference17Ideal : quiescent_Reference17Ideal := fun m ρ _ =>
  (θ_run _ _ _).mono (fun r h => ⟨fun c => (h c).2, sem_eq_zero_of_no_sems (by decide) r.2⟩)
    (Reference17Ideal.Value.run m ρ)

section
open Reference17Ideal Reference17Ideal.Gen

/-- The reference's result, read at one place. -/
theorem ref17_at (x : Vec Ideal S4096x2048 .f32) (y : Vec Ideal S2048x2048 .f32) (z : Vec Ideal S4096x2048 .f32) (i : S4096x2048.Idx) :
    addf z (Host.dotGeneral (F := Ideal) (φ₁ := .f32) (φ₂ := .f32) dot_S4096x2048_S2048x2048_S4096x2048_1_0_0_1_n_n none x y) i
      = (show EReal from ∑ l : Fin 2048, (show EReal from x (ix2 (i 0) l)) * (show EReal from y (ix2 l (i 1)))) + (show EReal from z i) := by
  pointwise
  exact add_comm _ _

end

theorem value_Kernel17Ideal : algebraic_Kernel17Ideal_Reference17Ideal := by
  intro m ρ m' ρ' _ hag
  refine ⟨Kernel17Ideal.AttOutF.grad m, ?_, ?_⟩
  · exact (θ_run _ _ _).mono (fun _ h c => ⟨(h c).1.trans (Kernel17Ideal.AttOutF.final3 m c), (h c).2⟩)
      (Kernel17Ideal.Value.run_blocks m ρ)
  · refine (θ_run _ _ _).mono (fun _ h c => ⟨(h c).1.trans ?_, (h c).2⟩) (Reference17Ideal.Value.run m' ρ')
    obtain ⟨h0, h1, h2⟩ := hag c
    rw [h0, h1, h2]
    funext i
    exact ref17_at _ _ _ i

end Cert.Proof

end
-- ==== Proof.Adam.lean ====
module
public import Idealize.ShloMosaic.PureOps.Ideal
public import Idealize.ShloMosaic.Lib.Pointwise
@[expose] public section
noncomputable section

/-! # One step of AdamW, at one place

The new moments and the change of the weight, from the weight, its gradient and its two moments. The numbers are the
float words of the two decay rates and their complements, of the two corrections, of the small number beside the root, of
the decay of the weight and of the negated learning rate. -/

namespace Cert.Adam

open Idealize.ShloMosaic

/-- The number that a float word stands for. -/
abbrev lit (b : BitVec 32) : EReal := (Scalar.ofBits .f32 b : Ideal .f32)

/-- The new first moment. -/
def first (x g : EReal) : EReal := lit 0x3F666666#32 * x + lit 0x3DCCCCCD#32 * g

/-- The new second moment. -/
def second (x g : EReal) : EReal := lit 0x3F7FBE77#32 * x + lit 0x3A83126F#32 * (g * g)

/-- The change of the weight. -/
def delta (w g x y : EReal) : EReal :=
  lit 0xBA83126F#32 * (Ideal.div (Ideal.div (first x g) (lit 0x3F26BD02#32))
    (Ideal.sqrt (Ideal.div (second y g) (lit 0x3C231ACC#32)) + lit 0x322BCC77#32) + lit 0x3C23D70A#32 * w)

end Cert.Adam

end
-- ==== Proof.StepUp.lean ====
module
public import proofs.«01_k».proof.Proof.Adam
public import proofs.«01_k».proof.Proof.Gen.Kernel18.Frame
public import proofs.«01_k».proof.Proof.Gen.Kernel18Ideal.Value
public import proofs.«01_k».proof.Proof.Gen.Reference18Ideal.Run
public import proofs.«01_k».proof.Proof.Lib
@[expose] public section
set_option maxRecDepth 16384
noncomputable section

/-! # AdamW for the up weights of a feed-forward layer: blocks of 64 rows of 2816 -/

namespace Cert.Kernel18Ideal.StepUp

open Idealize.ShloMosaic TcCoe Tactic Cert.Adam
open Cert.Kernel18Ideal.Gen

variable (m : (ℓ : Loc nD τ sig) → Buf (Elt Ideal) ℓ) (c : Dev nD)

/-- The four results: the gradient itself, the change of the weight, and the new moments. -/
def grad : Buf (Elt Ideal) ((c : Thread nD τ).loc main_v0_0) := fun i => m ((c : Thread nD τ).loc main_arg1) i
def newD : Buf (Elt Ideal) ((c : Thread nD τ).loc main_v0_1) := fun i =>
  delta (m ((c : Thread nD τ).loc main_arg0) i) (m ((c : Thread nD τ).loc main_arg1) i)
    (m ((c : Thread nD τ).loc main_arg2) i) (m ((c : Thread nD τ).loc main_arg3) i)
def newX : Buf (Elt Ideal) ((c : Thread nD τ).loc main_v0_2) := fun i =>
  first (m ((c : Thread nD τ).loc main_arg2) i) (m ((c : Thread nD τ).loc main_arg1) i)
def newY : Buf (Elt Ideal) ((c : Thread nD τ).loc main_v0_3) := fun i =>
  second (m ((c : Thread nD τ).loc main_arg3) i) (m ((c : Thread nD τ).loc main_arg1) i)

theorem final4 : (dats m 0 c).arrAt 4 cfg0.N = grad m c := by
  refine (dats m 0 c).arrAt_eq_of_covers 4 _ (by decide +kernel) fun t hf y => ?_
  blk_simp
  rw [after0_4]
  frame_out
  rfl

theorem final5 : (dats m 0 c).arrAt 5 cfg0.N = newD m c := by
  refine (dats m 0 c).arrAt_eq_of_covers 5 _ (by decide +kernel) fun t hf y => ?_
  blk_simp
  rw [after0_5]
  frame_out
  rfl

theorem final6 : (dats m 0 c).arrAt 6 cfg0.N = newX m c := by
  refine (dats m 0 c).arrAt_eq_of_covers 6 _ (by decide +kernel) fun t hf y => ?_
  blk_simp
  rw [after0_6]
  frame_out
  rfl

theorem final7 : (dats m 0 c).arrAt 7 cfg0.N = newY m c := by
  refine (dats m 0 c).arrAt_eq_of_covers 7 _ (by decide +kernel) fun t hf y => ?_
  blk_simp
  rw [after0_7]
  frame_out
  rfl

end Cert.Kernel18Ideal.StepUp

namespace Cert.Proof

open Idealize.ShloMosaic TcCoe Idealize.SL.Sem StableHlo Tactic

theorem frame_Kernel18 : quiescent_Kernel18 := fun m ρ _ => Kernel18.Gen.frame m ρ

theorem frame_Kernel18Ideal : quiescent_Kernel18Ideal := fun m ρ _ => Kernel18Ideal.Gen.frame m ρ

theorem frame_Reference18Ideal : quiescent_Reference18Ideal := fun m ρ _ =>
  (θ_run _ _ _).mono
    (fun r h => ⟨fun c => (h c).2.2.2.2, sem_eq_zero_of_no_sems (by decide) r.2⟩)
    (Reference18Ideal.Value.run m ρ)

theorem value_Kernel18Ideal : algebraic_Kernel18Ideal_Reference18Ideal := by
  intro m ρ m' ρ' _ hag
  refine ⟨Kernel18Ideal.StepUp.grad m, Kernel18Ideal.StepUp.newD m, Kernel18Ideal.StepUp.newX m, Kernel18Ideal.StepUp.newY m,
    (θ_run _ _ _).mono (fun _ h c => ?_) (Kernel18Ideal.Value.run_blocks m ρ),
    (θ_run _ _ _).mono (fun _ h c => ?_) (Reference18Ideal.Value.run m' ρ')⟩
  · obtain ⟨r0, r1, r2, r3, hr⟩ := h c
    exact ⟨r0.trans (Kernel18Ideal.StepUp.final4 m c), r1.trans (Kernel18Ideal.StepUp.final5 m c),
      r2.trans (Kernel18Ideal.StepUp.final6 m c), r3.trans (Kernel18Ideal.StepUp.final7 m c), hr⟩
  · obtain ⟨h0, h1, h2, h3⟩ := hag c
    obtain ⟨r0, r1, r2, r3, hr⟩ := h c
    refine ⟨r0.trans ?_, r1.trans ?_, r2.trans ?_, r3.trans ?_, hr⟩
    · rw [h1]; rfl
    · rw [h0, h1, h2, h3]; rfl
    · rw [h1, h2]; rfl
    · rw [h1, h3]; rfl

end Cert.Proof

end
-- ==== Proof.StepDown.lean ====
module
public import proofs.«01_k».proof.Proof.Adam
public import proofs.«01_k».proof.Proof.Gen.Kernel19.Frame
public import proofs.«01_k».proof.Proof.Gen.Kernel19Ideal.Value
public import proofs.«01_k».proof.Proof.Gen.Reference19Ideal.Run
public import proofs.«01_k».proof.Proof.Lib
@[expose] public section
set_option maxRecDepth 16384
noncomputable section

/-! # AdamW for the down weights of a feed-forward layer: blocks of 128 rows of 2048 -/

namespace Cert.Kernel19Ideal.StepDown

open Idealize.ShloMosaic TcCoe Tactic Cert.Adam
open Cert.Kernel19Ideal.Gen

variable (m : (ℓ : Loc nD τ sig) → Buf (Elt Ideal) ℓ) (c : Dev nD)

/-- The four results: the gradient itself, the change of the weight, and the new moments. -/
def grad : Buf (Elt Ideal) ((c : Thread nD τ).loc main_v0_0) := fun i => m ((c : Thread nD τ).loc main_arg1) i
def newD : Buf (Elt Ideal) ((c : Thread nD τ).loc main_v0_1) := fun i =>
  delta (m ((c : Thread nD τ).loc main_arg0) i) (m ((c : Thread nD τ).loc main_arg1) i)
    (m ((c : Thread nD τ).loc main_arg2) i) (m ((c : Thread nD τ).loc main_arg3) i)
def newX : Buf (Elt Ideal) ((c : Thread nD τ).loc main_v0_2) := fun i =>
  first (m ((c : Thread nD τ).loc main_arg2) i) (m ((c : Thread nD τ).loc main_arg1) i)
def newY : Buf (Elt Ideal) ((c : Thread nD τ).loc main_v0_3) := fun i =>
  second (m ((c : Thread nD τ).loc main_arg3) i) (m ((c : Thread nD τ).loc main_arg1) i)

theorem final4 : (dats m 0 c).arrAt 4 cfg0.N = grad m c := by
  refine (dats m 0 c).arrAt_eq_of_covers 4 _ (by decide +kernel) fun t hf y => ?_
  blk_simp
  rw [after0_4]
  frame_out
  rfl

theorem final5 : (dats m 0 c).arrAt 5 cfg0.N = newD m c := by
  refine (dats m 0 c).arrAt_eq_of_covers 5 _ (by decide +kernel) fun t hf y => ?_
  blk_simp
  rw [after0_5]
  frame_out
  rfl

theorem final6 : (dats m 0 c).arrAt 6 cfg0.N = newX m c := by
  refine (dats m 0 c).arrAt_eq_of_covers 6 _ (by decide +kernel) fun t hf y => ?_
  blk_simp
  rw [after0_6]
  frame_out
  rfl

theorem final7 : (dats m 0 c).arrAt 7 cfg0.N = newY m c := by
  refine (dats m 0 c).arrAt_eq_of_covers 7 _ (by decide +kernel) fun t hf y => ?_
  blk_simp
  rw [after0_7]
  frame_out
  rfl

end Cert.Kernel19Ideal.StepDown

namespace Cert.Proof

open Idealize.ShloMosaic TcCoe Idealize.SL.Sem StableHlo Tactic

theorem frame_Kernel19 : quiescent_Kernel19 := fun m ρ _ => Kernel19.Gen.frame m ρ

theorem frame_Kernel19Ideal : quiescent_Kernel19Ideal := fun m ρ _ => Kernel19Ideal.Gen.frame m ρ

theorem frame_Reference19Ideal : quiescent_Reference19Ideal := fun m ρ _ =>
  (θ_run _ _ _).mono
    (fun r h => ⟨fun c => (h c).2.2.2.2, sem_eq_zero_of_no_sems (by decide) r.2⟩)
    (Reference19Ideal.Value.run m ρ)

theorem value_Kernel19Ideal : algebraic_Kernel19Ideal_Reference19Ideal := by
  intro m ρ m' ρ' _ hag
  refine ⟨Kernel19Ideal.StepDown.grad m, Kernel19Ideal.StepDown.newD m, Kernel19Ideal.StepDown.newX m, Kernel19Ideal.StepDown.newY m,
    (θ_run _ _ _).mono (fun _ h c => ?_) (Kernel19Ideal.Value.run_blocks m ρ),
    (θ_run _ _ _).mono (fun _ h c => ?_) (Reference19Ideal.Value.run m' ρ')⟩
  · obtain ⟨r0, r1, r2, r3, hr⟩ := h c
    exact ⟨r0.trans (Kernel19Ideal.StepDown.final4 m c), r1.trans (Kernel19Ideal.StepDown.final5 m c),
      r2.trans (Kernel19Ideal.StepDown.final6 m c), r3.trans (Kernel19Ideal.StepDown.final7 m c), hr⟩
  · obtain ⟨h0, h1, h2, h3⟩ := hag c
    obtain ⟨r0, r1, r2, r3, hr⟩ := h c
    refine ⟨r0.trans ?_, r1.trans ?_, r2.trans ?_, r3.trans ?_, hr⟩
    · rw [h1]; rfl
    · rw [h0, h1, h2, h3]; rfl
    · rw [h1, h2]; rfl
    · rw [h1, h3]; rfl

end Cert.Proof

end
-- ==== Proof.StepConfIn.lean ====
module
public import proofs.«01_k».proof.Proof.Adam
public import proofs.«01_k».proof.Proof.Gen.Kernel20.Frame
public import proofs.«01_k».proof.Proof.Gen.Kernel20Ideal.Value
public import proofs.«01_k».proof.Proof.Gen.Reference20Ideal.Run
public import proofs.«01_k».proof.Proof.Lib
@[expose] public section
set_option maxRecDepth 16384
noncomputable section

/-! # AdamW for the input weights of a Conformer module: blocks of 256 rows of 1024 -/

namespace Cert.Kernel20Ideal.StepConfIn

open Idealize.ShloMosaic TcCoe Tactic Cert.Adam
open Cert.Kernel20Ideal.Gen

variable (m : (ℓ : Loc nD τ sig) → Buf (Elt Ideal) ℓ) (c : Dev nD)

/-- The four results: the gradient itself, the change of the weight, and the new moments. -/
def grad : Buf (Elt Ideal) ((c : Thread nD τ).loc main_v0_0) := fun i => m ((c : Thread nD τ).loc main_arg1) i
def newD : Buf (Elt Ideal) ((c : Thread nD τ).loc main_v0_1) := fun i =>
  delta (m ((c : Thread nD τ).loc main_arg0) i) (m ((c : Thread nD τ).loc main_arg1) i)
    (m ((c : Thread nD τ).loc main_arg2) i) (m ((c : Thread nD τ).loc main_arg3) i)
def newX : Buf (Elt Ideal) ((c : Thread nD τ).loc main_v0_2) := fun i =>
  first (m ((c : Thread nD τ).loc main_arg2) i) (m ((c : Thread nD τ).loc main_arg1) i)
def newY : Buf (Elt Ideal) ((c : Thread nD τ).loc main_v0_3) := fun i =>
  second (m ((c : Thread nD τ).loc main_arg3) i) (m ((c : Thread nD τ).loc main_arg1) i)

theorem final4 : (dats m 0 c).arrAt 4 cfg0.N = grad m c := by
  refine (dats m 0 c).arrAt_eq_of_covers 4 _ (by decide +kernel) fun t hf y => ?_
  blk_simp
  rw [after0_4]
  frame_out
  rfl

theorem final5 : (dats m 0 c).arrAt 5 cfg0.N = newD m c := by
  refine (dats m 0 c).arrAt_eq_of_covers 5 _ (by decide +kernel) fun t hf y => ?_
  blk_simp
  rw [after0_5]
  frame_out
  rfl

theorem final6 : (dats m 0 c).arrAt 6 cfg0.N = newX m c := by
  refine (dats m 0 c).arrAt_eq_of_covers 6 _ (by decide +kernel) fun t hf y => ?_
  blk_simp
  rw [after0_6]
  frame_out
  rfl

theorem final7 : (dats m 0 c).arrAt 7 cfg0.N = newY m c := by
  refine (dats m 0 c).arrAt_eq_of_covers 7 _ (by decide +kernel) fun t hf y => ?_
  blk_simp
  rw [after0_7]
  frame_out
  rfl

end Cert.Kernel20Ideal.StepConfIn

namespace Cert.Proof

open Idealize.ShloMosaic TcCoe Idealize.SL.Sem StableHlo Tactic

theorem frame_Kernel20 : quiescent_Kernel20 := fun m ρ _ => Kernel20.Gen.frame m ρ

theorem frame_Kernel20Ideal : quiescent_Kernel20Ideal := fun m ρ _ => Kernel20Ideal.Gen.frame m ρ

theorem frame_Reference20Ideal : quiescent_Reference20Ideal := fun m ρ _ =>
  (θ_run _ _ _).mono
    (fun r h => ⟨fun c => (h c).2.2.2.2, sem_eq_zero_of_no_sems (by decide) r.2⟩)
    (Reference20Ideal.Value.run m ρ)

theorem value_Kernel20Ideal : algebraic_Kernel20Ideal_Reference20Ideal := by
  intro m ρ m' ρ' _ hag
  refine ⟨Kernel20Ideal.StepConfIn.grad m, Kernel20Ideal.StepConfIn.newD m, Kernel20Ideal.StepConfIn.newX m, Kernel20Ideal.StepConfIn.newY m,
    (θ_run _ _ _).mono (fun _ h c => ?_) (Kernel20Ideal.Value.run_blocks m ρ),
    (θ_run _ _ _).mono (fun _ h c => ?_) (Reference20Ideal.Value.run m' ρ')⟩
  · obtain ⟨r0, r1, r2, r3, hr⟩ := h c
    exact ⟨r0.trans (Kernel20Ideal.StepConfIn.final4 m c), r1.trans (Kernel20Ideal.StepConfIn.final5 m c),
      r2.trans (Kernel20Ideal.StepConfIn.final6 m c), r3.trans (Kernel20Ideal.StepConfIn.final7 m c), hr⟩
  · obtain ⟨h0, h1, h2, h3⟩ := hag c
    obtain ⟨r0, r1, r2, r3, hr⟩ := h c
    refine ⟨r0.trans ?_, r1.trans ?_, r2.trans ?_, r3.trans ?_, hr⟩
    · rw [h1]; rfl
    · rw [h0, h1, h2, h3]; rfl
    · rw [h1, h2]; rfl
    · rw [h1, h3]; rfl

end Cert.Proof

end
-- ==== Proof.StepConfOut.lean ====
module
public import proofs.«01_k».proof.Proof.Adam
public import proofs.«01_k».proof.Proof.Gen.Kernel21.Frame
public import proofs.«01_k».proof.Proof.Gen.Kernel21Ideal.Value
public import proofs.«01_k».proof.Proof.Gen.Reference21Ideal.Run
public import proofs.«01_k».proof.Proof.Lib
@[expose] public section
set_option maxRecDepth 16384
noncomputable section

/-! # AdamW for the output weights of a Conformer module or of the attention: blocks of 128 rows of 2048 -/

namespace Cert.Kernel21Ideal.StepConfOut

open Idealize.ShloMosaic TcCoe Tactic Cert.Adam
open Cert.Kernel21Ideal.Gen

variable (m : (ℓ : Loc nD τ sig) → Buf (Elt Ideal) ℓ) (c : Dev nD)

/-- The four results: the gradient itself, the change of the weight, and the new moments. -/
def grad : Buf (Elt Ideal) ((c : Thread nD τ).loc main_v0_0) := fun i => m ((c : Thread nD τ).loc main_arg1) i
def newD : Buf (Elt Ideal) ((c : Thread nD τ).loc main_v0_1) := fun i =>
  delta (m ((c : Thread nD τ).loc main_arg0) i) (m ((c : Thread nD τ).loc main_arg1) i)
    (m ((c : Thread nD τ).loc main_arg2) i) (m ((c : Thread nD τ).loc main_arg3) i)
def newX : Buf (Elt Ideal) ((c : Thread nD τ).loc main_v0_2) := fun i =>
  first (m ((c : Thread nD τ).loc main_arg2) i) (m ((c : Thread nD τ).loc main_arg1) i)
def newY : Buf (Elt Ideal) ((c : Thread nD τ).loc main_v0_3) := fun i =>
  second (m ((c : Thread nD τ).loc main_arg3) i) (m ((c : Thread nD τ).loc main_arg1) i)

theorem final4 : (dats m 0 c).arrAt 4 cfg0.N = grad m c := by
  refine (dats m 0 c).arrAt_eq_of_covers 4 _ (by decide +kernel) fun t hf y => ?_
  blk_simp
  rw [after0_4]
  frame_out
  rfl

theorem final5 : (dats m 0 c).arrAt 5 cfg0.N = newD m c := by
  refine (dats m 0 c).arrAt_eq_of_covers 5 _ (by decide +kernel) fun t hf y => ?_
  blk_simp
  rw [after0_5]
  frame_out
  rfl

theorem final6 : (dats m 0 c).arrAt 6 cfg0.N = newX m c := by
  refine (dats m 0 c).arrAt_eq_of_covers 6 _ (by decide +kernel) fun t hf y => ?_
  blk_simp
  rw [after0_6]
  frame_out
  rfl

theorem final7 : (dats m 0 c).arrAt 7 cfg0.N = newY m c := by
  refine (dats m 0 c).arrAt_eq_of_covers 7 _ (by decide +kernel) fun t hf y => ?_
  blk_simp
  rw [after0_7]
  frame_out
  rfl

end Cert.Kernel21Ideal.StepConfOut

namespace Cert.Proof

open Idealize.ShloMosaic TcCoe Idealize.SL.Sem StableHlo Tactic

theorem frame_Kernel21 : quiescent_Kernel21 := fun m ρ _ => Kernel21.Gen.frame m ρ

theorem frame_Kernel21Ideal : quiescent_Kernel21Ideal := fun m ρ _ => Kernel21Ideal.Gen.frame m ρ

theorem frame_Reference21Ideal : quiescent_Reference21Ideal := fun m ρ _ =>
  (θ_run _ _ _).mono
    (fun r h => ⟨fun c => (h c).2.2.2.2, sem_eq_zero_of_no_sems (by decide) r.2⟩)
    (Reference21Ideal.Value.run m ρ)

theorem value_Kernel21Ideal : algebraic_Kernel21Ideal_Reference21Ideal := by
  intro m ρ m' ρ' _ hag
  refine ⟨Kernel21Ideal.StepConfOut.grad m, Kernel21Ideal.StepConfOut.newD m, Kernel21Ideal.StepConfOut.newX m, Kernel21Ideal.StepConfOut.newY m,
    (θ_run _ _ _).mono (fun _ h c => ?_) (Kernel21Ideal.Value.run_blocks m ρ),
    (θ_run _ _ _).mono (fun _ h c => ?_) (Reference21Ideal.Value.run m' ρ')⟩
  · obtain ⟨r0, r1, r2, r3, hr⟩ := h c
    exact ⟨r0.trans (Kernel21Ideal.StepConfOut.final4 m c), r1.trans (Kernel21Ideal.StepConfOut.final5 m c),
      r2.trans (Kernel21Ideal.StepConfOut.final6 m c), r3.trans (Kernel21Ideal.StepConfOut.final7 m c), hr⟩
  · obtain ⟨h0, h1, h2, h3⟩ := hag c
    obtain ⟨r0, r1, r2, r3, hr⟩ := h c
    refine ⟨r0.trans ?_, r1.trans ?_, r2.trans ?_, r3.trans ?_, hr⟩
    · rw [h1]; rfl
    · rw [h0, h1, h2, h3]; rfl
    · rw [h1, h2]; rfl
    · rw [h1, h3]; rfl

end Cert.Proof

end
-- ==== Proof.StepQkv.lean ====
module
public import proofs.«01_k».proof.Proof.Adam
public import proofs.«01_k».proof.Proof.Gen.Kernel22.Frame
public import proofs.«01_k».proof.Proof.Gen.Kernel22Ideal.Value
public import proofs.«01_k».proof.Proof.Gen.Reference22Ideal.Run
public import proofs.«01_k».proof.Proof.Lib
@[expose] public section
set_option maxRecDepth 16384
noncomputable section

/-! # AdamW for the attention's projection to queries, keys and values: blocks of 256 rows of 640 -/

namespace Cert.Kernel22Ideal.StepQkv

open Idealize.ShloMosaic TcCoe Tactic Cert.Adam
open Cert.Kernel22Ideal.Gen

variable (m : (ℓ : Loc nD τ sig) → Buf (Elt Ideal) ℓ) (c : Dev nD)

/-- The four results: the gradient itself, the change of the weight, and the new moments. -/
def grad : Buf (Elt Ideal) ((c : Thread nD τ).loc main_v0_0) := fun i => m ((c : Thread nD τ).loc main_arg1) i
def newD : Buf (Elt Ideal) ((c : Thread nD τ).loc main_v0_1) := fun i =>
  delta (m ((c : Thread nD τ).loc main_arg0) i) (m ((c : Thread nD τ).loc main_arg1) i)
    (m ((c : Thread nD τ).loc main_arg2) i) (m ((c : Thread nD τ).loc main_arg3) i)
def newX : Buf (Elt Ideal) ((c : Thread nD τ).loc main_v0_2) := fun i =>
  first (m ((c : Thread nD τ).loc main_arg2) i) (m ((c : Thread nD τ).loc main_arg1) i)
def newY : Buf (Elt Ideal) ((c : Thread nD τ).loc main_v0_3) := fun i =>
  second (m ((c : Thread nD τ).loc main_arg3) i) (m ((c : Thread nD τ).loc main_arg1) i)

theorem final4 : (dats m 0 c).arrAt 4 cfg0.N = grad m c := by
  refine (dats m 0 c).arrAt_eq_of_covers 4 _ (by decide +kernel) fun t hf y => ?_
  blk_simp
  rw [after0_4]
  frame_out
  rfl

theorem final5 : (dats m 0 c).arrAt 5 cfg0.N = newD m c := by
  refine (dats m 0 c).arrAt_eq_of_covers 5 _ (by decide +kernel) fun t hf y => ?_
  blk_simp
  rw [after0_5]
  frame_out
  rfl

theorem final6 : (dats m 0 c).arrAt 6 cfg0.N = newX m c := by
  refine (dats m 0 c).arrAt_eq_of_covers 6 _ (by decide +kernel) fun t hf y => ?_
  blk_simp
  rw [after0_6]
  frame_out
  rfl

theorem final7 : (dats m 0 c).arrAt 7 cfg0.N = newY m c := by
  refine (dats m 0 c).arrAt_eq_of_covers 7 _ (by decide +kernel) fun t hf y => ?_
  blk_simp
  rw [after0_7]
  frame_out
  rfl

end Cert.Kernel22Ideal.StepQkv

namespace Cert.Proof

open Idealize.ShloMosaic TcCoe Idealize.SL.Sem StableHlo Tactic

theorem frame_Kernel22 : quiescent_Kernel22 := fun m ρ _ => Kernel22.Gen.frame m ρ

theorem frame_Kernel22Ideal : quiescent_Kernel22Ideal := fun m ρ _ => Kernel22Ideal.Gen.frame m ρ

theorem frame_Reference22Ideal : quiescent_Reference22Ideal := fun m ρ _ =>
  (θ_run _ _ _).mono
    (fun r h => ⟨fun c => (h c).2.2.2.2, sem_eq_zero_of_no_sems (by decide) r.2⟩)
    (Reference22Ideal.Value.run m ρ)

theorem value_Kernel22Ideal : algebraic_Kernel22Ideal_Reference22Ideal := by
  intro m ρ m' ρ' _ hag
  refine ⟨Kernel22Ideal.StepQkv.grad m, Kernel22Ideal.StepQkv.newD m, Kernel22Ideal.StepQkv.newX m, Kernel22Ideal.StepQkv.newY m,
    (θ_run _ _ _).mono (fun _ h c => ?_) (Kernel22Ideal.Value.run_blocks m ρ),
    (θ_run _ _ _).mono (fun _ h c => ?_) (Reference22Ideal.Value.run m' ρ')⟩
  · obtain ⟨r0, r1, r2, r3, hr⟩ := h c
    exact ⟨r0.trans (Kernel22Ideal.StepQkv.final4 m c), r1.trans (Kernel22Ideal.StepQkv.final5 m c),
      r2.trans (Kernel22Ideal.StepQkv.final6 m c), r3.trans (Kernel22Ideal.StepQkv.final7 m c), hr⟩
  · obtain ⟨h0, h1, h2, h3⟩ := hag c
    obtain ⟨r0, r1, r2, r3, hr⟩ := h c
    refine ⟨r0.trans ?_, r1.trans ?_, r2.trans ?_, r3.trans ?_, hr⟩
    · rw [h1]; rfl
    · rw [h0, h1, h2, h3]; rfl
    · rw [h1, h2]; rfl
    · rw [h1, h3]; rfl

end Cert.Proof

end
-- ==== Proof.StepGroup.lean ====
module
public import proofs.«01_k».proof.Proof.Adam
public import proofs.«01_k».proof.Proof.Gen.Kernel23.Frame
public import proofs.«01_k».proof.Proof.Gen.Kernel23Ideal.Value
public import proofs.«01_k».proof.Proof.Gen.Reference23Ideal.Run
public import proofs.«01_k».proof.Proof.Lib
@[expose] public section
set_option maxRecDepth 16384
noncomputable section

/-! # AdamW for the group weights of the pooling mixer: blocks of 512 rows of 512 -/

namespace Cert.Kernel23Ideal.StepGroup

open Idealize.ShloMosaic TcCoe Tactic Cert.Adam
open Cert.Kernel23Ideal.Gen

variable (m : (ℓ : Loc nD τ sig) → Buf (Elt Ideal) ℓ) (c : Dev nD)

/-- The four results: the gradient itself, the change of the weight, and the new moments. -/
def grad : Buf (Elt Ideal) ((c : Thread nD τ).loc main_v0_0) := fun i => m ((c : Thread nD τ).loc main_arg1) i
def newD : Buf (Elt Ideal) ((c : Thread nD τ).loc main_v0_1) := fun i =>
  delta (m ((c : Thread nD τ).loc main_arg0) i) (m ((c : Thread nD τ).loc main_arg1) i)
    (m ((c : Thread nD τ).loc main_arg2) i) (m ((c : Thread nD τ).loc main_arg3) i)
def newX : Buf (Elt Ideal) ((c : Thread nD τ).loc main_v0_2) := fun i =>
  first (m ((c : Thread nD τ).loc main_arg2) i) (m ((c : Thread nD τ).loc main_arg1) i)
def newY : Buf (Elt Ideal) ((c : Thread nD τ).loc main_v0_3) := fun i =>
  second (m ((c : Thread nD τ).loc main_arg3) i) (m ((c : Thread nD τ).loc main_arg1) i)

theorem final4 : (dats m 0 c).arrAt 4 cfg0.N = grad m c := by
  refine (dats m 0 c).arrAt_eq_of_covers 4 _ (by decide +kernel) fun t hf y => ?_
  blk_simp
  rw [after0_4]
  frame_out
  rfl

theorem final5 : (dats m 0 c).arrAt 5 cfg0.N = newD m c := by
  refine (dats m 0 c).arrAt_eq_of_covers 5 _ (by decide +kernel) fun t hf y => ?_
  blk_simp
  rw [after0_5]
  frame_out
  rfl

theorem final6 : (dats m 0 c).arrAt 6 cfg0.N = newX m c := by
  refine (dats m 0 c).arrAt_eq_of_covers 6 _ (by decide +kernel) fun t hf y => ?_
  blk_simp
  rw [after0_6]
  frame_out
  rfl

theorem final7 : (dats m 0 c).arrAt 7 cfg0.N = newY m c := by
  refine (dats m 0 c).arrAt_eq_of_covers 7 _ (by decide +kernel) fun t hf y => ?_
  blk_simp
  rw [after0_7]
  frame_out
  rfl

end Cert.Kernel23Ideal.StepGroup

namespace Cert.Proof

open Idealize.ShloMosaic TcCoe Idealize.SL.Sem StableHlo Tactic

theorem frame_Kernel23 : quiescent_Kernel23 := fun m ρ _ => Kernel23.Gen.frame m ρ

theorem frame_Kernel23Ideal : quiescent_Kernel23Ideal := fun m ρ _ => Kernel23Ideal.Gen.frame m ρ

theorem frame_Reference23Ideal : quiescent_Reference23Ideal := fun m ρ _ =>
  (θ_run _ _ _).mono
    (fun r h => ⟨fun c => (h c).2.2.2.2, sem_eq_zero_of_no_sems (by decide) r.2⟩)
    (Reference23Ideal.Value.run m ρ)

theorem value_Kernel23Ideal : algebraic_Kernel23Ideal_Reference23Ideal := by
  intro m ρ m' ρ' _ hag
  refine ⟨Kernel23Ideal.StepGroup.grad m, Kernel23Ideal.StepGroup.newD m, Kernel23Ideal.StepGroup.newX m, Kernel23Ideal.StepGroup.newY m,
    (θ_run _ _ _).mono (fun _ h c => ?_) (Kernel23Ideal.Value.run_blocks m ρ),
    (θ_run _ _ _).mono (fun _ h c => ?_) (Reference23Ideal.Value.run m' ρ')⟩
  · obtain ⟨r0, r1, r2, r3, hr⟩ := h c
    exact ⟨r0.trans (Kernel23Ideal.StepGroup.final4 m c), r1.trans (Kernel23Ideal.StepGroup.final5 m c),
      r2.trans (Kernel23Ideal.StepGroup.final6 m c), r3.trans (Kernel23Ideal.StepGroup.final7 m c), hr⟩
  · obtain ⟨h0, h1, h2, h3⟩ := hag c
    obtain ⟨r0, r1, r2, r3, hr⟩ := h c
    refine ⟨r0.trans ?_, r1.trans ?_, r2.trans ?_, r3.trans ?_, hr⟩
    · rw [h1]; rfl
    · rw [h0, h1, h2, h3]; rfl
    · rw [h1, h2]; rfl
    · rw [h1, h3]; rfl

end Cert.Proof

end
-- ==== Proof.StepConfTaps.lean ====
module
public import proofs.«01_k».proof.Proof.Adam
public import proofs.«01_k».proof.Proof.Gen.Kernel24.Frame
public import proofs.«01_k».proof.Proof.Gen.Kernel24Ideal.Value
public import proofs.«01_k».proof.Proof.Gen.Reference24Ideal.Run
public import proofs.«01_k».proof.Proof.Lib
@[expose] public section
set_option maxRecDepth 16384
noncomputable section

/-! # AdamW for the depthwise taps of a Conformer module: blocks of 31 rows of 512 -/

namespace Cert.Kernel24Ideal.StepConfTaps

open Idealize.ShloMosaic TcCoe Tactic Cert.Adam
open Cert.Kernel24Ideal.Gen

variable (m : (ℓ : Loc nD τ sig) → Buf (Elt Ideal) ℓ) (c : Dev nD)

/-- The four results: the gradient itself, the change of the weight, and the new moments. -/
def grad : Buf (Elt Ideal) ((c : Thread nD τ).loc main_v0_0) := fun i => m ((c : Thread nD τ).loc main_arg1) i
def newD : Buf (Elt Ideal) ((c : Thread nD τ).loc main_v0_1) := fun i =>
  delta (m ((c : Thread nD τ).loc main_arg0) i) (m ((c : Thread nD τ).loc main_arg1) i)
    (m ((c : Thread nD τ).loc main_arg2) i) (m ((c : Thread nD τ).loc main_arg3) i)
def newX : Buf (Elt Ideal) ((c : Thread nD τ).loc main_v0_2) := fun i =>
  first (m ((c : Thread nD τ).loc main_arg2) i) (m ((c : Thread nD τ).loc main_arg1) i)
def newY : Buf (Elt Ideal) ((c : Thread nD τ).loc main_v0_3) := fun i =>
  second (m ((c : Thread nD τ).loc main_arg3) i) (m ((c : Thread nD τ).loc main_arg1) i)

theorem final4 : (dats m 0 c).arrAt 4 cfg0.N = grad m c := by
  refine (dats m 0 c).arrAt_eq_of_covers 4 _ (by decide +kernel) fun t hf y => ?_
  blk_simp
  rw [after0_4]
  frame_out
  rfl

theorem final5 : (dats m 0 c).arrAt 5 cfg0.N = newD m c := by
  refine (dats m 0 c).arrAt_eq_of_covers 5 _ (by decide +kernel) fun t hf y => ?_
  blk_simp
  rw [after0_5]
  frame_out
  rfl

theorem final6 : (dats m 0 c).arrAt 6 cfg0.N = newX m c := by
  refine (dats m 0 c).arrAt_eq_of_covers 6 _ (by decide +kernel) fun t hf y => ?_
  blk_simp
  rw [after0_6]
  frame_out
  rfl

theorem final7 : (dats m 0 c).arrAt 7 cfg0.N = newY m c := by
  refine (dats m 0 c).arrAt_eq_of_covers 7 _ (by decide +kernel) fun t hf y => ?_
  blk_simp
  rw [after0_7]
  frame_out
  rfl

end Cert.Kernel24Ideal.StepConfTaps

namespace Cert.Proof

open Idealize.ShloMosaic TcCoe Idealize.SL.Sem StableHlo Tactic

theorem frame_Kernel24 : quiescent_Kernel24 := fun m ρ _ => Kernel24.Gen.frame m ρ

theorem frame_Kernel24Ideal : quiescent_Kernel24Ideal := fun m ρ _ => Kernel24Ideal.Gen.frame m ρ

theorem frame_Reference24Ideal : quiescent_Reference24Ideal := fun m ρ _ =>
  (θ_run _ _ _).mono
    (fun r h => ⟨fun c => (h c).2.2.2.2, sem_eq_zero_of_no_sems (by decide) r.2⟩)
    (Reference24Ideal.Value.run m ρ)

theorem value_Kernel24Ideal : algebraic_Kernel24Ideal_Reference24Ideal := by
  intro m ρ m' ρ' _ hag
  refine ⟨Kernel24Ideal.StepConfTaps.grad m, Kernel24Ideal.StepConfTaps.newD m, Kernel24Ideal.StepConfTaps.newX m, Kernel24Ideal.StepConfTaps.newY m,
    (θ_run _ _ _).mono (fun _ h c => ?_) (Kernel24Ideal.Value.run_blocks m ρ),
    (θ_run _ _ _).mono (fun _ h c => ?_) (Reference24Ideal.Value.run m' ρ')⟩
  · obtain ⟨r0, r1, r2, r3, hr⟩ := h c
    exact ⟨r0.trans (Kernel24Ideal.StepConfTaps.final4 m c), r1.trans (Kernel24Ideal.StepConfTaps.final5 m c),
      r2.trans (Kernel24Ideal.StepConfTaps.final6 m c), r3.trans (Kernel24Ideal.StepConfTaps.final7 m c), hr⟩
  · obtain ⟨h0, h1, h2, h3⟩ := hag c
    obtain ⟨r0, r1, r2, r3, hr⟩ := h c
    refine ⟨r0.trans ?_, r1.trans ?_, r2.trans ?_, r3.trans ?_, hr⟩
    · rw [h1]; rfl
    · rw [h0, h1, h2, h3]; rfl
    · rw [h1, h2]; rfl
    · rw [h1, h3]; rfl

end Cert.Proof

end
-- ==== Proof.StepFfnTaps.lean ====
module
public import proofs.«01_k».proof.Proof.Adam
public import proofs.«01_k».proof.Proof.Gen.Kernel25.Frame
public import proofs.«01_k».proof.Proof.Gen.Kernel25Ideal.Value
public import proofs.«01_k».proof.Proof.Gen.Reference25Ideal.Run
public import proofs.«01_k».proof.Proof.Lib
@[expose] public section
set_option maxRecDepth 16384
noncomputable section

/-! # AdamW for the depthwise taps of a feed-forward layer: blocks of 3 rows of 2816 -/

namespace Cert.Kernel25Ideal.StepFfnTaps

open Idealize.ShloMosaic TcCoe Tactic Cert.Adam
open Cert.Kernel25Ideal.Gen

variable (m : (ℓ : Loc nD τ sig) → Buf (Elt Ideal) ℓ) (c : Dev nD)

/-- The four results: the gradient itself, the change of the weight, and the new moments. -/
def grad : Buf (Elt Ideal) ((c : Thread nD τ).loc main_v0_0) := fun i => m ((c : Thread nD τ).loc main_arg1) i
def newD : Buf (Elt Ideal) ((c : Thread nD τ).loc main_v0_1) := fun i =>
  delta (m ((c : Thread nD τ).loc main_arg0) i) (m ((c : Thread nD τ).loc main_arg1) i)
    (m ((c : Thread nD τ).loc main_arg2) i) (m ((c : Thread nD τ).loc main_arg3) i)
def newX : Buf (Elt Ideal) ((c : Thread nD τ).loc main_v0_2) := fun i =>
  first (m ((c : Thread nD τ).loc main_arg2) i) (m ((c : Thread nD τ).loc main_arg1) i)
def newY : Buf (Elt Ideal) ((c : Thread nD τ).loc main_v0_3) := fun i =>
  second (m ((c : Thread nD τ).loc main_arg3) i) (m ((c : Thread nD τ).loc main_arg1) i)

theorem final4 : (dats m 0 c).arrAt 4 cfg0.N = grad m c := by
  refine (dats m 0 c).arrAt_eq_of_covers 4 _ (by decide +kernel) fun t hf y => ?_
  blk_simp
  rw [after0_4]
  frame_out
  rfl

theorem final5 : (dats m 0 c).arrAt 5 cfg0.N = newD m c := by
  refine (dats m 0 c).arrAt_eq_of_covers 5 _ (by decide +kernel) fun t hf y => ?_
  blk_simp
  rw [after0_5]
  frame_out
  rfl

theorem final6 : (dats m 0 c).arrAt 6 cfg0.N = newX m c := by
  refine (dats m 0 c).arrAt_eq_of_covers 6 _ (by decide +kernel) fun t hf y => ?_
  blk_simp
  rw [after0_6]
  frame_out
  rfl

theorem final7 : (dats m 0 c).arrAt 7 cfg0.N = newY m c := by
  refine (dats m 0 c).arrAt_eq_of_covers 7 _ (by decide +kernel) fun t hf y => ?_
  blk_simp
  rw [after0_7]
  frame_out
  rfl

end Cert.Kernel25Ideal.StepFfnTaps

namespace Cert.Proof

open Idealize.ShloMosaic TcCoe Idealize.SL.Sem StableHlo Tactic

theorem frame_Kernel25 : quiescent_Kernel25 := fun m ρ _ => Kernel25.Gen.frame m ρ

theorem frame_Kernel25Ideal : quiescent_Kernel25Ideal := fun m ρ _ => Kernel25Ideal.Gen.frame m ρ

theorem frame_Reference25Ideal : quiescent_Reference25Ideal := fun m ρ _ =>
  (θ_run _ _ _).mono
    (fun r h => ⟨fun c => (h c).2.2.2.2, sem_eq_zero_of_no_sems (by decide) r.2⟩)
    (Reference25Ideal.Value.run m ρ)

theorem value_Kernel25Ideal : algebraic_Kernel25Ideal_Reference25Ideal := by
  intro m ρ m' ρ' _ hag
  refine ⟨Kernel25Ideal.StepFfnTaps.grad m, Kernel25Ideal.StepFfnTaps.newD m, Kernel25Ideal.StepFfnTaps.newX m, Kernel25Ideal.StepFfnTaps.newY m,
    (θ_run _ _ _).mono (fun _ h c => ?_) (Kernel25Ideal.Value.run_blocks m ρ),
    (θ_run _ _ _).mono (fun _ h c => ?_) (Reference25Ideal.Value.run m' ρ')⟩
  · obtain ⟨r0, r1, r2, r3, hr⟩ := h c
    exact ⟨r0.trans (Kernel25Ideal.StepFfnTaps.final4 m c), r1.trans (Kernel25Ideal.StepFfnTaps.final5 m c),
      r2.trans (Kernel25Ideal.StepFfnTaps.final6 m c), r3.trans (Kernel25Ideal.StepFfnTaps.final7 m c), hr⟩
  · obtain ⟨h0, h1, h2, h3⟩ := hag c
    obtain ⟨r0, r1, r2, r3, hr⟩ := h c
    refine ⟨r0.trans ?_, r1.trans ?_, r2.trans ?_, r3.trans ?_, hr⟩
    · rw [h1]; rfl
    · rw [h0, h1, h2, h3]; rfl
    · rw [h1, h2]; rfl
    · rw [h1, h3]; rfl

end Cert.Proof

end
-- ==== Proof.StepSmall.lean ====
module
public import proofs.«01_k».proof.Proof.Adam
public import proofs.«01_k».proof.Proof.Gen.Kernel26.Frame
public import proofs.«01_k».proof.Proof.Gen.Kernel26Ideal.Value
public import proofs.«01_k».proof.Proof.Gen.Reference26Ideal.Run
public import proofs.«01_k».proof.Proof.Lib
@[expose] public section
set_option maxRecDepth 16384
noncomputable section

/-! # AdamW for the weights that every device holds, packed: blocks of 256 rows of 128 -/

namespace Cert.Kernel26Ideal.StepSmall

open Idealize.ShloMosaic TcCoe Tactic Cert.Adam
open Cert.Kernel26Ideal.Gen

variable (m : (ℓ : Loc nD τ sig) → Buf (Elt Ideal) ℓ) (c : Dev nD)

/-- The four results: the gradient itself, the change of the weight, and the new moments. -/
def grad : Buf (Elt Ideal) ((c : Thread nD τ).loc main_v0_0) := fun i => m ((c : Thread nD τ).loc main_arg1) i
def newD : Buf (Elt Ideal) ((c : Thread nD τ).loc main_v0_1) := fun i =>
  delta (m ((c : Thread nD τ).loc main_arg0) i) (m ((c : Thread nD τ).loc main_arg1) i)
    (m ((c : Thread nD τ).loc main_arg2) i) (m ((c : Thread nD τ).loc main_arg3) i)
def newX : Buf (Elt Ideal) ((c : Thread nD τ).loc main_v0_2) := fun i =>
  first (m ((c : Thread nD τ).loc main_arg2) i) (m ((c : Thread nD τ).loc main_arg1) i)
def newY : Buf (Elt Ideal) ((c : Thread nD τ).loc main_v0_3) := fun i =>
  second (m ((c : Thread nD τ).loc main_arg3) i) (m ((c : Thread nD τ).loc main_arg1) i)

theorem final4 : (dats m 0 c).arrAt 4 cfg0.N = grad m c := by
  refine (dats m 0 c).arrAt_eq_of_covers 4 _ (by decide +kernel) fun t hf y => ?_
  blk_simp
  rw [after0_4]
  frame_out
  rfl

theorem final5 : (dats m 0 c).arrAt 5 cfg0.N = newD m c := by
  refine (dats m 0 c).arrAt_eq_of_covers 5 _ (by decide +kernel) fun t hf y => ?_
  blk_simp
  rw [after0_5]
  frame_out
  rfl

theorem final6 : (dats m 0 c).arrAt 6 cfg0.N = newX m c := by
  refine (dats m 0 c).arrAt_eq_of_covers 6 _ (by decide +kernel) fun t hf y => ?_
  blk_simp
  rw [after0_6]
  frame_out
  rfl

theorem final7 : (dats m 0 c).arrAt 7 cfg0.N = newY m c := by
  refine (dats m 0 c).arrAt_eq_of_covers 7 _ (by decide +kernel) fun t hf y => ?_
  blk_simp
  rw [after0_7]
  frame_out
  rfl

end Cert.Kernel26Ideal.StepSmall

namespace Cert.Proof

open Idealize.ShloMosaic TcCoe Idealize.SL.Sem StableHlo Tactic

theorem frame_Kernel26 : quiescent_Kernel26 := fun m ρ _ => Kernel26.Gen.frame m ρ

theorem frame_Kernel26Ideal : quiescent_Kernel26Ideal := fun m ρ _ => Kernel26Ideal.Gen.frame m ρ

theorem frame_Reference26Ideal : quiescent_Reference26Ideal := fun m ρ _ =>
  (θ_run _ _ _).mono
    (fun r h => ⟨fun c => (h c).2.2.2.2, sem_eq_zero_of_no_sems (by decide) r.2⟩)
    (Reference26Ideal.Value.run m ρ)

theorem value_Kernel26Ideal : algebraic_Kernel26Ideal_Reference26Ideal := by
  intro m ρ m' ρ' _ hag
  refine ⟨Kernel26Ideal.StepSmall.grad m, Kernel26Ideal.StepSmall.newD m, Kernel26Ideal.StepSmall.newX m, Kernel26Ideal.StepSmall.newY m,
    (θ_run _ _ _).mono (fun _ h c => ?_) (Kernel26Ideal.Value.run_blocks m ρ),
    (θ_run _ _ _).mono (fun _ h c => ?_) (Reference26Ideal.Value.run m' ρ')⟩
  · obtain ⟨r0, r1, r2, r3, hr⟩ := h c
    exact ⟨r0.trans (Kernel26Ideal.StepSmall.final4 m c), r1.trans (Kernel26Ideal.StepSmall.final5 m c),
      r2.trans (Kernel26Ideal.StepSmall.final6 m c), r3.trans (Kernel26Ideal.StepSmall.final7 m c), hr⟩
  · obtain ⟨h0, h1, h2, h3⟩ := hag c
    obtain ⟨r0, r1, r2, r3, hr⟩ := h c
    refine ⟨r0.trans ?_, r1.trans ?_, r2.trans ?_, r3.trans ?_, hr⟩
    · rw [h1]; rfl
    · rw [h0, h1, h2, h3]; rfl
    · rw [h1, h2]; rfl
    · rw [h1, h3]; rfl

end Cert.Proof

end
-- ==== Proof.PoolTrip.lean ====
module
public import proofs.«01_k».proof.Proof.Gen.Kernel27Ideal.Loops
public import Idealize.ShloMosaic.Lib.WritesUnit
public import Idealize.ShloMosaic.Lib.Ring
public import Idealize.ShloMosaic.Lib.VecWindow
public import Idealize.ShloMosaic.Lib.Pipeline.ValueKit
@[expose] public section
set_option maxRecDepth 16384
noncomputable section
set_option maxHeartbeats 4000000

/-! # One trip of the pooling gradient's loop, read at an index -/

namespace Cert.Kernel27Ideal.Pool

open Idealize.ShloMosaic TcCoe Tactic
open Cert.Kernel27Ideal.Gen

/-- Row `n` of column `c` of the cotangent; zero beyond the last row. -/
def ctg (x : Vec Ideal S4096x256 .f32) (c : Fin 256) (n : ℕ) : EReal :=
  if hn : n < 4096 then x (ix2 ⟨n, hn⟩ c) else 0

/-- How many rows the window of `w` rows that ends with row `n` holds. -/
def count (w n : ℕ) : EReal := ((min (n + 1) w : ℕ) : ℝ)

/-- A column over the counts. -/
def mean (w : ℕ) (a : ℕ → EReal) (n : ℕ) : EReal := Ideal.div (a n) (count w n)

/-- Two, four, eight and sixteen consecutive entries. -/
def sum2 (a : ℕ → EReal) (n : ℕ) : EReal := a n + a (n + 1)
def sum4 (a : ℕ → EReal) (n : ℕ) : EReal := sum2 a n + sum2 a (n + 2)
def sum8 (a : ℕ → EReal) (n : ℕ) : EReal := sum4 a n + sum4 a (n + 4)
def sum16 (a : ℕ → EReal) (n : ℕ) : EReal := sum8 a n + sum8 a (n + 8)

/-- The sum over a window of the group. -/
def window (g : Fin 4) (a : ℕ → EReal) (n : ℕ) : EReal :=
  match g with
  | 0 => sum2 a n
  | 1 => sum4 a n
  | 2 => sum8 a n
  | 3 => sum16 a n

theorem off1_eq : ∀ k : Fin k0_t1_loop.trips, k0_off1 k = ![256 * k.val, 0] := by decide +kernel
theorem off2_eq : ∀ k : Fin k0_t1_loop.trips, k0_off2 k = ![min (256 * k.val + 256) 4080, 0] := by decide +kernel
theorem trips_lt (k : Fin k0_t1_loop.trips) : k.val < 16 := Nat.lt_of_lt_of_le k.isLt k0_t1_abs.2.1

/-- The last trip's test, as a bit. -/
theorem last_eq : ∀ k : Fin k0_t1_loop.trips, Scalar.cmpi .eq (Scf.iv 0#32 1#32 k) 15#32 = if k.val = 15 then 1#1 else 0#1 := by
  decide +kernel

/-- The row number as the kernel computes it. -/
theorem start_eq : ∀ k : Fin k0_t1_loop.trips, Scalar.muli (Scf.iv 0#32 1#32 k) 256#32 = BitVec.ofNat 32 (256 * k.val) := by
  decide +kernel

/-- A load of rows `o, o + 1, …`, read at an index. -/
theorem load1 {sg : RefSig} (arg1 : Memref sg .tc .vmem S4096x256 .f32) (X1 : BufTy.Contents (Elt Ideal) arg1.view.ty) {n : ℕ} {off : Fin 2 → ℕ} (o : ℕ) (ho : off = ![o, 0])
    (inb : ∀ a, off a + (![n, 256] : Fin 2 → ℕ) a ≤ S4096x256.size a) (r : Fin n) (c : Fin 256) :
    View.readAt (Elt Ideal) arg1.view (Rect.unit (s := S4096x256) off ![n, 256] inb).toLoadRect X1 (ix2 r c)
      = ctg (arg1.view.read (Elt Ideal) X1) c (o + r.val) := by
  subst ho
  have hr : o + n ≤ 4096 := inb 0
  unfold ctg
  rw [dif_pos (show o + r.val < 4096 by have := r.isLt; omega)]
  refine congrArg (arg1.view.read (Elt Ideal) X1) (funext fun a => Fin.ext ?_)
  match a with
  | 0 => show o + 1 * r.val = o + r.val; omega
  | 1 => show 0 + 1 * c.val = c.val; omega

/-- A row's number plus one, as the kernel computes it. -/
theorem number (k : Fin k0_t1_loop.trips) (r : ℕ) (hr : r < 272) :
    (FloatOps.sitofp (F := Ideal) .f32 (IntOp.addi (IntOp.addi (Scalar.muli (Scf.iv 0#32 1#32 k) 256#32) (BitVec.ofNat 32 r)) 1#32) : EReal)
      = ((256 * k.val + r + 1 : ℕ) : ℝ) := by
  have hk := trips_lt k
  rw [start_eq]
  have e : IntOp.addi (IntOp.addi (BitVec.ofNat 32 (256 * k.val)) (BitVec.ofNat 32 r)) 1#32 = BitVec.ofNat 32 (256 * k.val + r + 1) := by
    show BitVec.ofNat 32 (256 * k.val) + BitVec.ofNat 32 r + BitVec.ofNat 32 1 = _
    rw [← BitVec.ofNat_add, ← BitVec.ofNat_add]
  rw [e]
  show (((BitVec.ofNat 32 (256 * k.val + r + 1)).toInt : ℝ) : EReal) = _
  have t : (BitVec.ofNat 32 (256 * k.val + r + 1)).toInt = ((256 * k.val + r + 1 : ℕ) : ℤ) := by
    rw [BitVec.toInt_eq_toNat_of_lt, BitVec.toNat_ofNat, Nat.mod_eq_of_lt] <;> (try rw [BitVec.toNat_ofNat, Nat.mod_eq_of_lt]) <;> omega
  rw [t, Int.cast_natCast]

/-- The window's length. -/
theorem width : ∀ g : Fin 4, (Scalar.shli 2#32 (BitVec.ofNat 32 g.val)).toInt = ((2 ^ (g.val + 1) : ℕ) : ℤ) := by decide +kernel

/-- The kernel's count. -/
theorem count_eq (k : Fin k0_t1_loop.trips) (r : ℕ) (hr : r < 272) (g : Fin 4) :
    min (FloatOps.sitofp (F := Ideal) .f32 (IntOp.addi (IntOp.addi (Scalar.muli (Scf.iv 0#32 1#32 k) 256#32) (BitVec.ofNat 32 r)) 1#32) : EReal)
      (((Scalar.shli 2#32 (BitVec.ofNat 32 g.val)).toInt : ℝ) : EReal) = count (2 ^ (g.val + 1)) (256 * k.val + r) := by
  rw [number k r hr, width, Int.cast_natCast, ← EReal.coe_strictMono.monotone.map_min, ← Nat.cast_min]
  rfl

section
variable (g : Fin 4) (k : Fin k0_t1_loop.trips) (x : Vec Ideal S256x256 .f32) (y : Vec Ideal S16x256 .f32) (c : Fin 256) (a : ℕ → EReal)

/-- The chunk's rows, and the sixteen after them with the last trip's factor, are entries of one column. -/
def Reads : Prop := (∀ r : Fin 256, x (ix2 r c) = a (256 * k.val + r.val))
  ∧ ∀ r : Fin 16, Scalar.select (Scalar.cmpi .eq (Scf.iv 0#32 1#32 k) 15#32) (0 : EReal) (y (ix2 r c)) = a (256 * k.val + 256 + r.val)

variable {k x y c a} (H : Reads k x y c a)
include H

theorem pay2_apply (r : Fin 272) : k0_pay2 (F := Ideal) 0#32 1#32 k x y (ix2 r c) = a (256 * k.val + r.val) := by
  unfold k0_pay2
  pointwise
  split
  · next h => exact H.1 _
  · next h =>
    refine (H.2 _).trans (congrArg a ?_)
    show 256 * k.val + 256 + (r.val - 256) = _
    omega

/-- A window of two. -/
theorem pay3_apply (r : Fin 272) (hr : r.val < 271) :
    k0_pay3 (F := Ideal) (BitVec.ofNat 32 g.val) 0#32 1#32 k x y (ix2 r c) = sum2 (mean (2 ^ (g.val + 1)) a) (256 * k.val + r.val) := by
  unfold k0_pay3
  pointwise
  have e : (r.val + 272 - 271) % 272 = r.val + 1 := by omega
  rw [count_eq k _ r.isLt, count_eq k _ (Nat.mod_lt _ (by omega)), pay2_apply H, pay2_apply H]
  show Ideal.div (a (256 * k.val + r.val)) _ + Ideal.div (a (256 * k.val + (r.val + 272 - 271) % 272)) (count _ (256 * k.val + (r.val + 272 - 271) % 272)) = _
  rw [e]
  rfl

theorem pay4_apply (r : Fin 256) :
    k0_pay4 (F := Ideal) (BitVec.ofNat 32 g.val) 0#32 1#32 k x y (ix2 r c) = sum2 (mean (2 ^ (g.val + 1)) a) (256 * k.val + r.val) := by
  unfold k0_pay4
  pointwise
  exact pay3_apply g H _ (by show r.val < 271; have := r.isLt; omega)

/-- A window of `2 ^ (g + 1)`. -/
theorem sel_apply (r : Fin 256) :
    Scalar.select (Scalar.cmpi .eq (BitVec.ofNat 32 g.val) 0#32) (k0_pay4 (F := Ideal) (BitVec.ofNat 32 g.val) 0#32 1#32 k x y (ix2 r c))
      (k0_pay5 (F := Ideal) (BitVec.ofNat 32 g.val) 0#32 1#32 k x y (ix2 r c)) = window g (mean (2 ^ (g.val + 1)) a) (256 * k.val + r.val) := by
  have hr := r.isLt
  have P : ∀ (d : ℕ) (s : Fin 272), s.val = r.val + d → d ≤ 14 →
      k0_pay3 (F := Ideal) (BitVec.ofNat 32 g.val) 0#32 1#32 k x y (ix2 s c) = sum2 (mean (2 ^ (g.val + 1)) a) (256 * k.val + r.val + d) := fun d s hs hd => by
    rw [pay3_apply g H s (by omega), hs, ← Nat.add_assoc]
  rw [pay4_apply g H]
  unfold k0_pay5
  pointwise
  rw [P 0 ⟨r.val, _⟩ rfl (by omega), P 2 ⟨(r.val + 272 - 270) % 272, _⟩ (by show (r.val + 272 - 270) % 272 = _; omega) (by omega),
    P 4 ⟨(r.val + 272 - 268) % 272, _⟩ (by show (r.val + 272 - 268) % 272 = _; omega) (by omega),
    P 6 ⟨((r.val + 272 - 268) % 272 + 272 - 270) % 272, _⟩ (by show ((r.val + 272 - 268) % 272 + 272 - 270) % 272 = _; omega) (by omega),
    P 8 ⟨(r.val + 272 - 264) % 272, _⟩ (by show (r.val + 272 - 264) % 272 = _; omega) (by omega),
    P 10 ⟨((r.val + 272 - 264) % 272 + 272 - 270) % 272, _⟩ (by show ((r.val + 272 - 264) % 272 + 272 - 270) % 272 = _; omega) (by omega),
    P 12 ⟨((r.val + 272 - 264) % 272 + 272 - 268) % 272, _⟩ (by show ((r.val + 272 - 264) % 272 + 272 - 268) % 272 = _; omega) (by omega),
    P 14 ⟨(((r.val + 272 - 264) % 272 + 272 - 268) % 272 + 272 - 270) % 272, _⟩ (by show (((r.val + 272 - 264) % 272 + 272 - 268) % 272 + 272 - 270) % 272 = _; omega) (by omega)]
  match g with
  | 0 => rfl
  | 1 => rfl
  | 2 => rfl
  | 3 => rfl
end

/-- The gradient at row `n` of a column. -/
def rowOf (g : Fin 4) (x : Vec Ideal S4096x256 .f32) (c : Fin 256) (n : ℕ) : EReal :=
  window g (mean (2 ^ (g.val + 1)) (ctg x c)) n - ctg x c n

section
variable (𝒱 : Variants) (cd : Dev nD) (bd : Option 𝒱.V) (i : grid0.Coords) (arg1 : Memref sig .tc .vmem S4096x256 .f32) (harg1 : arg1.IsWhole)
  (arg2 : Memref sig .tc .vmem S4096x256 .f32) (harg2 : arg2.IsWhole) (g : Fin 4) (X1 : BufTy.Contents (Elt Ideal) arg1.view.ty) (k : Fin k0_t1_loop.trips)

/-- What one trip reads. -/
theorem reads (c : Fin 256) : Reads k (View.readAt (Elt Ideal) arg1.view (Rect.unit (s := S4096x256) (k0_off1 k) S256x256.size (k0_off1_inb k)).toLoadRect X1)
    (View.readAt (Elt Ideal) arg1.view (Rect.unit (s := S4096x256) (k0_off2 k) S16x256.size (k0_off2_inb k)).toLoadRect X1) c (ctg (arg1.view.read (Elt Ideal) X1) c) := by
  refine ⟨fun r => load1 arg1 X1 _ (off1_eq k) _ r c, fun r => ?_⟩
  have := trips_lt k
  have := r.isLt
  rw [last_eq]
  by_cases h : k.val = 15
  · rw [if_pos h]
    unfold ctg
    rw [dif_neg (by omega)]
    rfl
  · rw [if_neg h]
    refine (load1 arg1 X1 _ (off2_eq k) _ r c).trans (congrArg _ ?_)
    omega

/-- One trip's effect on the result's block: its own 256 rows. -/
theorem trip_apply (f : BufTy.Contents (Elt Ideal) arg2.view.ty) (L : List (View.Piece (Elt Ideal) S4096x256 .f32)) (n : Fin 4096) (c : Fin 256) :
    arg2.view.read (Elt Ideal) (arg2.view.writes (Elt Ideal) f (tripL_k0_t1 (F := Ideal) 𝒱 cd bd i arg1 harg1 arg2 harg2 (BitVec.ofNat 32 g.val) X1 k ++ L)) (ix2 n c)
      = if 256 * k.val ≤ n.val ∧ n.val < 256 * k.val + 256 then rowOf g (arg1.view.read (Elt Ideal) X1) c n.val
        else arg2.view.read (Elt Ideal) (arg2.view.writes (Elt Ideal) f L) (ix2 n c) := by
  unfold tripL_k0_t1 trip_k0_t1
  dsimp only
  simp only [List.cons_append, List.nil_append]
  by_cases hn : 256 * k.val ≤ n.val ∧ n.val < 256 * k.val + 256
  · rw [if_pos hn]
    refine (View.read_writes_cons_unit_of_mem _ _ _ _ _ _ (ix2 ⟨n.val - 256 * k.val, by omega⟩ c) (off1_eq k) fun a => ?_).trans ?_
    · match a with
      | 0 => show n.val = 256 * k.val + (n.val - 256 * k.val); omega
      | 1 => show c.val = 0 + c.val; omega
    · unfold k0_pay1 trip_k0_t1.sl.r trip_k0_t1.sl.r_1 trip_k0_t1.sl.r_2 trip_k0_t1.sl.v60
      pointwise
      have H := reads arg1 X1 k c
      refine congrArg₂ (fun a b : EReal => a - b) ((sel_apply g H _).trans ?_) ((pay2_apply H _).trans ?_)
      · show window g _ (256 * k.val + (n.val - 256 * k.val)) = _
        rw [Nat.add_sub_cancel' hn.1]
      · show ctg _ c (256 * k.val + (n.val - 256 * k.val)) = _
        rw [Nat.add_sub_cancel' hn.1]
  · rw [if_neg hn]
    have hd : n.val < 256 * k.val ∨ 256 * k.val + 256 ≤ n.val := by omega
    exact View.read_writes_cons_unit_of_not_mem _ _ _ _ _ _ (off1_eq k) 0 hd

/-- The result's block after the loop. -/
theorem loop_apply (f : BufTy.Contents (Elt Ideal) arg2.view.ty) (n : Fin 4096) (c : Fin 256) :
    arg2.view.read (Elt Ideal) (arg2.view.writes (Elt Ideal) f (pb_k0_t1 (F := Ideal) 𝒱 cd bd i arg1 harg1 arg2 harg2 (BitVec.ofNat 32 g.val) X1 k0_t1_loop.trips)) (ix2 n c)
      = rowOf g (arg1.view.read (Elt Ideal) X1) c n.val := by
  have key : ∀ t, t ≤ k0_t1_loop.trips → n.val < 256 * t →
      arg2.view.read (Elt Ideal) (arg2.view.writes (Elt Ideal) f (pb_k0_t1 (F := Ideal) 𝒱 cd bd i arg1 harg1 arg2 harg2 (BitVec.ofNat 32 g.val) X1 t)) (ix2 n c)
        = rowOf g (arg1.view.read (Elt Ideal) X1) c n.val := by
    intro t
    induction t with
    | zero => intro _ h0; omega
    | succ t ih =>
      intro ht hlt
      rw [show pb_k0_t1 (F := Ideal) 𝒱 cd bd i arg1 harg1 arg2 harg2 (BitVec.ofNat 32 g.val) X1 (t + 1) = _ from
        pb_k0_t1_succ (F := Ideal) 𝒱 cd bd i arg1 harg1 arg2 harg2 (BitVec.ofNat 32 g.val) X1 ⟨t, ht⟩]
      rw [trip_apply]
      by_cases hc : 256 * t ≤ n.val
      · rw [if_pos ⟨hc, by show n.val < 256 * t + 256; omega⟩]
      · rw [if_neg fun hh => hc hh.1, ih (by omega) (by omega)]
  have h16 : k0_t1_loop.trips = 16 := by decide +kernel
  exact key _ le_rfl (by have := n.isLt; omega)
end

/-- The same sums as one. -/
theorem window_eq (g : Fin 4) (a : ℕ → EReal) (n : ℕ) : window g a n = ∑ j ∈ Finset.range (2 ^ (g.val + 1)), a (n + j) := by
  match g with
  | 0 => simp only [window, sum2, Finset.sum_range_succ, Finset.sum_range_zero, zero_add, Nat.add_zero, Nat.reduceAdd, Nat.reducePow, Fin.val_zero]
  | 1 =>
    show sum4 a n = ∑ j ∈ Finset.range 4, a (n + j)
    simp only [sum4, sum2, Finset.sum_range_succ, Finset.sum_range_zero, zero_add, Nat.add_zero, Nat.add_assoc, add_assoc, Nat.reduceAdd]
  | 2 =>
    show sum8 a n = ∑ j ∈ Finset.range 8, a (n + j)
    simp only [sum8, sum4, sum2, Finset.sum_range_succ, Finset.sum_range_zero, zero_add, Nat.add_zero, Nat.add_assoc, add_assoc, Nat.reduceAdd]
  | 3 =>
    show sum16 a n = ∑ j ∈ Finset.range 16, a (n + j)
    simp only [sum16, sum8, sum4, sum2, Finset.sum_range_succ, Finset.sum_range_zero, zero_add, Nat.add_zero, Nat.add_assoc, add_assoc, Nat.reduceAdd]

end Cert.Kernel27Ideal.Pool
-- ==== Proof.PoolBwd.lean ====
module
public import proofs.«01_k».proof.Proof.PoolTrip
public import proofs.«01_k».proof.Proof.Gen.Kernel27.Frame
public import proofs.«01_k».proof.Proof.Gen.Kernel27Ideal.Value
public import proofs.«01_k».proof.Proof.Gen.Reference27Ideal.Run
public import proofs.«01_k».proof.Proof.Lib
@[expose] public section
set_option maxRecDepth 16384
noncomputable section
set_option maxHeartbeats 4000000

/-! # The gradient of the pooling of the pooling mixer

A grid point holds 256 columns, all of one group. At row `n` the kernel adds the cotangent over its count at the rows
`n, n + 1, …` of the group's window by doublings, and subtracts the cotangent. -/

namespace Cert.Kernel27Ideal.Pool

open Idealize.ShloMosaic TcCoe Tactic
open Cert.Kernel27Ideal.Gen

variable (m : (ℓ : Loc nD τ sig) → Buf (Elt Ideal) ℓ) (c : Dev nD)

theorem index0 : ∀ t : Fin cfg0.N, win0_0.index t = ![0, t.val] := (by decide +kernel : ∀ t : Fin grid0.N, _)
theorem index1 : ∀ t : Fin cfg0.N, win0_1.index t = ![0, t.val] := (by decide +kernel : ∀ t : Fin grid0.N, _)

/-- The group that the kernel computes from the grid coordinate. -/
theorem group_eq (t : Fin cfg0.N) : kernelRun0_A.sl.v17 (grid0.coords t) = BitVec.ofNat 32 (t.val / 2) := by
  revert t
  change ∀ t : Fin grid0.N, kernelRun0_A.sl.v17 (grid0.coords t) = BitVec.ofNat 32 (t.val / 2)
  unfold kernelRun0_A.sl.v17
  sl_unfold_words
  decide +kernel

/-- What one grid point stores. -/
theorem stored (i : grid0.Coords) (arg1 : Memref sig .tc .vmem S4096x256 .f32) (harg1 : arg1.IsWhole)
    (arg2 : Memref sig .tc .vmem S4096x256 .f32) (harg2 : arg2.IsWhole) (x0 : Vec Ideal S4096x256 .f32) :
    (kernelRun0_A c i arg1 harg1 arg2 harg2 x0).1
      = pb_k0_t1 Variants.none c none i arg1 harg1 arg2 harg2 (kernelRun0_A.sl.v17 i) (harg1.unread x0) k0_t1_loop.trips := by
  unfold kernelRun0_A
  rfl

/-- Row `n` of column `q` of an array of 2048 columns; zero beyond the last row. -/
def column (x : Vec Ideal S4096x2048 .f32) (q : Fin 2048) (n : ℕ) : EReal :=
  if hn : n < 4096 then x (ix2 ⟨n, hn⟩ q) else 0

/-- The gradient, at one place. -/
def at_ (x : Vec Ideal S4096x2048 .f32) (i : S4096x2048.Idx) : EReal :=
  (∑ j ∈ Finset.range (2 ^ ((i 1).val / 512 + 1)), mean (2 ^ ((i 1).val / 512 + 1)) (column x (i 1)) ((i 0).val + j)) - x i

/-- The gradient. -/
def grad : Buf (Elt Ideal) ((c : Thread nD τ).loc main_v0) := at_ (m ((c : Thread nD τ).loc main_arg0))

/-- The result's block. -/
theorem out_apply (t : Fin cfg0.N) (g : Fin 4) (hg : t.val / 2 = g.val) (n : Fin 4096) (q : Fin 256) :
    outsAt0 m c t (ix2 n q) = rowOf g (iblk m c 0 t) q n.val := by
  have hc := cover0_A_1 c (grid0.coords t) (ms0_0 t) (hs0_0 t) (ms0_1 t) (hs0_1 t) (iblk m c 0 t) (ix2 n q)
  have key := loop_apply Variants.none c none (grid0.coords t) (ms0_0 t) (hs0_0 t) (ms0_1 t) (hs0_1 t) g ((hs0_0 t).unread (iblk m c 0 t)) (ms0_1 t).view.junk n q
  rw [(hs0_0 t).read_unread] at key
  unfold outsAt0 out0_A_1
  refine Eq.trans ?_ key
  rw [stored, group_eq, hg] at hc ⊢
  exact (View.read_writes_apply_eq_canon _ _ _ _ hc).trans (View.read_writes_apply_eq_canon _ _ _ _ hc).symm

/-- A column of a grid point's block is a column of the cotangent. -/
theorem ctg_blk (t : Fin cfg0.N) (q : Fin 256) (b : Fin 2048) (hb : b.val = t.val * 256 + q.val) :
    ctg (iblk m c 0 t) q = column (m ((c : Thread nD τ).loc main_arg0)) b := by
  funext n
  unfold ctg column
  by_cases hn : n < 4096
  · rw [dif_pos hn, dif_pos hn]
    blk_simp [iblk]
    refine congrArg (m ((c : Thread nD τ).loc main_arg0)) ?_
    blk_ext [index0]
  · rw [dif_neg hn, dif_neg hn]

/-- The result array holds the gradient. -/
theorem final1 : (dats m 0 c).arrAt 1 cfg0.N = grad m c := by
  refine (dats m 0 c).arrAt_eq_of_covers 1 _ (by decide +kernel) fun t hf y => ?_
  blk_simp
  rw [after0_1]
  have hN : t.val < 8 := t.isLt
  have e0 : ((win0_1.blk t).view.emb y 0).val = (y 0).val := by blk_simp [index1]
  have e1 : ((win0_1.blk t).view.emb y 1).val = t.val * 256 + (y 1).val := by blk_simp [index1]
  have hy : (y 1).val < 256 := (y 1).isLt
  have hg : ((win0_1.blk t).view.emb y 1).val / 512 = t.val / 2 := by omega
  obtain ⟨n, q, rfl⟩ : ∃ (n : Fin 4096) (q : Fin 256), y = ix2 n q := ⟨y 0, y 1, by funext a; match a with | 0 => rfl | 1 => rfl⟩
  generalize (win0_1.blk t).view.emb (ix2 n q) = i at e0 e1 hg ⊢
  refine (out_apply m c t ⟨t.val / 2, by omega⟩ rfl n q).trans ?_
  unfold rowOf
  rw [window_eq, ctg_blk m c t q (i 1) e1]
  show _ = at_ (m ((c : Thread nD τ).loc main_arg0)) i
  unfold at_
  rw [hg, e0]
  refine congrArg₂ (fun a b : EReal => a - b) rfl ?_
  show column _ _ n.val = _
  unfold column
  rw [dif_pos n.isLt]
  refine congrArg (m ((c : Thread nD τ).loc main_arg0)) (funext fun a => Fin.ext ?_)
  match a with
  | 0 => exact e0.symm
  | 1 => rfl

end Cert.Kernel27Ideal.Pool

/-! ## The reference's words and its sum over the rows -/

namespace Cert.Kernel27Ideal.Pool

open Idealize.ShloMosaic Idealize.ShloMosaic.TcCoe

/-- The signed value of a small number's word. -/
theorem toInt_small (a : ℕ) (h : a < 5000) : (BitVec.ofNat 32 a).toInt = (a : ℤ) := by
  rw [BitVec.toInt_eq_toNat_of_lt, BitVec.toNat_ofNat, Nat.mod_eq_of_lt] <;> (try rw [BitVec.toNat_ofNat, Nat.mod_eq_of_lt]) <;> omega

/-- The count of a window, as the reference computes it. -/
theorem count_word (w n : ℕ) (hw : w < 17) (hn : n < 4096) :
    (FloatOps.sitofp (F := Ideal) .f32 (IntOp.minsi (IntOp.addi (BitVec.ofNat 32 n) 1#32) (BitVec.ofNat 32 w)) : EReal) = count w n := by
  have e : IntOp.addi (BitVec.ofNat 32 n) 1#32 = BitVec.ofNat 32 (n + 1) := by
    show BitVec.ofNat 32 n + BitVec.ofNat 32 1 = _
    rw [← BitVec.ofNat_add]
  have k : (IntOp.minsi (BitVec.ofNat 32 (n + 1)) (BitVec.ofNat 32 w)).toInt = ((min (n + 1) w : ℕ) : ℤ) := by
    unfold IntOp.minsi
    rw [BitVec.slt_eq_decide, toInt_small _ (by omega), toInt_small _ (by omega)]
    by_cases h : n + 1 < w
    · rw [if_pos (by simpa using by omega), toInt_small _ (by omega), Nat.min_eq_left (by omega)]
    · rw [if_neg (by simpa using by omega), toInt_small _ (by omega), Nat.min_eq_right (by omega)]
  rw [e]
  show (((IntOp.minsi (BitVec.ofNat 32 (n + 1)) (BitVec.ofNat 32 w)).toInt : ℝ) : EReal) = _
  rw [k, Int.cast_natCast]
  rfl

/-- Whether row `s` is in the window that ends with row `n`, as the reference computes it. -/
theorem inside_word (w s n : ℕ) (hw : w < 17) (hs : s < 4096) (hn : n < 4096) :
    (FloatOps.uitofp (F := Ideal) .f32 (IntOp.andi (IntOp.cmpi .sle (BitVec.ofNat 32 s) (BitVec.ofNat 32 n))
        (IntOp.cmpi .sgt (BitVec.ofNat 32 s) (IntOp.subi (BitVec.ofNat 32 n) (BitVec.ofNat 32 w)))) : EReal)
      = if s ≤ n ∧ n < s + w then 1 else 0 := by
  have k : (IntOp.subi (BitVec.ofNat 32 n) (BitVec.ofNat 32 w)).toInt = (n : ℤ) - (w : ℤ) := by
    show (BitVec.ofNat 32 n - BitVec.ofNat 32 w).toInt = _
    rw [BitVec.toInt_sub, toInt_small _ (by omega), toInt_small _ (by omega), Int.bmod_eq_of_le] <;> omega
  show (((BitVec.ofBool (BitVec.sle (BitVec.ofNat 32 s) (BitVec.ofNat 32 n))
    &&& BitVec.ofBool (BitVec.slt (IntOp.subi (BitVec.ofNat 32 n) (BitVec.ofNat 32 w)) (BitVec.ofNat 32 s))).toNat : ℝ) : EReal) = _
  rw [BitVec.sle_eq_decide, BitVec.slt_eq_decide, k, toInt_small _ (by omega), toInt_small _ (by omega)]
  by_cases h1 : s ≤ n
  · by_cases h2 : n < s + w
    · rw [if_pos ⟨h1, h2⟩, decide_eq_true (by omega : (s : ℤ) ≤ (n : ℤ)), decide_eq_true (by omega : (n : ℤ) - (w : ℤ) < (s : ℤ))]
      simp
    · rw [if_neg fun h => h2 h.2, decide_eq_false (by omega : ¬ (n : ℤ) - (w : ℤ) < (s : ℤ))]
      simp
  · rw [if_neg fun h => h1 h.1, decide_eq_false (by omega : ¬ (s : ℤ) ≤ (n : ℤ))]
    simp

/-- A sum over the rows with the window's indicator is the sum over the window. -/
theorem sum_inside (w s : ℕ) (a : ℕ → EReal) (ha : ∀ n, 4096 ≤ n → a n = 0) :
    (∑ n : Fin 4096, a n.val * (if s ≤ n.val ∧ n.val < s + w then 1 else 0)) = ∑ j ∈ Finset.range w, a (s + j) := by
  rw [Fin.sum_univ_eq_sum_range (fun n => a n * (if s ≤ n ∧ n < s + w then 1 else 0)) 4096]
  simp only [mul_ite, mul_one, mul_zero]
  rw [← Finset.sum_filter]
  have e : (∑ j ∈ Finset.range w, a (s + j)) = ∑ n ∈ Finset.Ico s (s + w), a n := by
    rw [Finset.sum_Ico_eq_sum_range, Nat.add_sub_cancel_left]
  rw [e, ← Finset.sum_filter_of_ne (p := fun n => n < 4096) (s := Finset.Ico s (s + w))
    fun n _ hn => Nat.lt_of_not_le fun h => hn (ha n h)]
  refine Finset.sum_congr (Finset.ext fun n => ?_) fun _ _ => rfl
  simp only [Finset.mem_filter, Finset.mem_range, Finset.mem_Ico]
  omega

/-- A mean is zero beyond the last row. -/
theorem mean_beyond (w : ℕ) (hw : 0 < w) (x : Vec Ideal S4096x2048 .f32) (q : Fin 2048) (n : ℕ) (hn : 4096 ≤ n) :
    mean w (column x q) n = 0 := by
  unfold mean column count
  rw [dif_neg (by omega), Ideal.div_coe (Nat.cast_ne_zero.mpr (by omega)), zero_mul]

end Cert.Kernel27Ideal.Pool

namespace Cert.Proof

open Idealize.ShloMosaic TcCoe Idealize.SL.Sem StableHlo Tactic

theorem frame_Kernel27 : quiescent_Kernel27 := fun m ρ _ => Kernel27.Gen.frame m ρ

theorem frame_Kernel27Ideal : quiescent_Kernel27Ideal := fun m ρ _ => Kernel27Ideal.Gen.frame m ρ

theorem frame_Reference27Ideal : quiescent_Reference27Ideal := fun m ρ _ =>
  (θ_run _ _ _).mono (fun r h => ⟨fun c => (h c).2, sem_eq_zero_of_no_sems (by decide) r.2⟩)
    (Reference27Ideal.Value.run m ρ)

section
open Reference27Ideal Reference27Ideal.Gen

/-- The reference's result, read at one place. -/
theorem ref27_at (x : Vec Ideal S4096x2048 .f32) (i : S4096x2048.Idx) :
    addf (F := Ideal) (Host.negf x) (shapeCast _ (transpose S4096x4x512 [2, 0, 1] (Host.dotGeneral dot_S4x512x4096_S4x4096x4096_S4x512x4096_2_1_1_2_0_0 none (transpose S4x512x4096 [1, 2, 0] (Host.divf (shapeCast _ (shapeCast _ x shapeCasts_S4096x2048_S4096x2048) shapeCasts_S4096x2048_S4096x4x512) (broadcastInDim S4096x4x512 ![0, 1, 2] bcast_S4096x4x1_S4096x4x512_0_1_2 (broadcastInDim S4096x4x1 ![0, 1] bcast_S4096x4_S4096x4x1_0_1 (sitofp .f32 (minsi (broadcastInDim S4096x4 ![0, 1] bcast_S4096x1_S4096x4_0_1 (addi (broadcastInDim S4096x1 ![0] bcast_S4096_S4096x1_0 (iotaInDim S4096 32 0)) (broadcastInDim S4096x1 ![] bcast_S_S4096x1 (constantI S_ 32 1#32)))) (broadcastInDim S4096x4 ![0, 1] bcast_S1x4_S4096x4_0_1 (broadcastInDim S1x4 ![1] bcast_S4_S1x4_1 ((fun i => lit0 (S4.rowMajor i)) : IVec S4 32)))))))) transposes_S4096x4x512_S4x512x4096_1_2_0) (uitofp .f32 (andi (broadcastInDim S4x4096x4096 ![0, 1, 2] bcast_S1x4096x4096_S4x4096x4096_0_1_2 (broadcastInDim S1x4096x4096 ![1, 2] bcast_S4096x4096_S1x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) (cmpi .sgt (broadcastInDim S4x4096x4096 ![0, 1, 2] bcast_S1x1x4096_S4x4096x4096_0_1_2 (broadcastInDim S1x1x4096 ![1, 2] bcast_S1x4096_S1x1x4096_1_2 (broadcastInDim S1x4096 ![1] bcast_S4096_S1x4096_1 (iotaInDim S4096 32 0)))) (broadcastInDim S4x4096x4096 ![0, 1, 2] bcast_S4x4096x1_S4x4096x4096_0_1_2 (subi (broadcastInDim S4x4096x1 ![0, 1, 2] bcast_S1x4096x1_S4x4096x1_0_1_2 (broadcastInDim S1x4096x1 ![1, 2] bcast_S4096x1_S1x4096x1_1_2 (broadcastInDim S4096x1 ![0] bcast_S4096_S4096x1_0 (iotaInDim S4096 32 0)))) (broadcastInDim S4x4096x1 ![0, 1, 2] bcast_S4x1x1_S4x4096x1_0_1_2 (broadcastInDim S4x1x1 ![0] bcast_S4_S4x1x1_0 ((fun i => lit0 (S4.rowMajor i)) : IVec S4 32)))))))) ) transposes_S4x512x4096_S4096x4x512_2_0_1) shapeCasts_S4096x4x512_S4096x2048) i
      = Kernel27Ideal.Pool.at_ x i := by
  pointwise
  have hb : (i 1).val < 2048 := (i 1).isLt
  have hs : (i 0).val < 4096 := (i 0).isLt
  have hl : ∀ g : Fin 4, lit0 (S4.rowMajor (ix1 g)) = BitVec.ofNat 32 (2 ^ (g.val + 1)) := by decide +kernel
  have hw : ∀ g : Fin 4, 2 ^ (g.val + 1) < 17 := by decide +kernel
  have hq : (i 1).val / 512 < 4 := by omega
  have hr := hl ⟨(i 1).val / 512, hq⟩
  have hW : 2 ^ ((i 1).val / 512 + 1) < 17 := hw ⟨(i 1).val / 512, hq⟩
  have hz := Kernel27Ideal.Pool.sum_inside (2 ^ ((i 1).val / 512 + 1)) (i 0).val _
    (Kernel27Ideal.Pool.mean_beyond (2 ^ ((i 1).val / 512 + 1)) (Nat.two_pow_pos _) x (i 1))
  unfold Kernel27Ideal.Pool.at_
  refine Eq.trans ?_ (congrArg (fun a : EReal => a - x i) hz)
  refine (add_comm _ _).trans (congrArg₂ (fun a b : EReal => a + b) (Finset.sum_congr rfl fun n _ => ?_) rfl)
  have hn : n.val < 4096 := n.isLt
  refine congrArg₂ (fun a b : EReal => a * b) ?_ ?_
  · unfold Kernel27Ideal.Pool.mean Kernel27Ideal.Pool.column
    rw [dif_pos hn, ← Kernel27Ideal.Pool.count_word _ _ hW hn]
    exact congrArg (fun b => Ideal.div (x (ix2 n (i 1))) (FloatOps.sitofp (F := Ideal) .f32 (IntOp.minsi (IntOp.addi (BitVec.ofNat 32 n.val) 1#32) b))) hr
  · rw [← Kernel27Ideal.Pool.inside_word _ _ _ hW hs hn]
    exact congrArg (fun b => (FloatOps.uitofp (F := Ideal) .f32 (IntOp.andi (IntOp.cmpi .sle (BitVec.ofNat 32 (i 0).val) (BitVec.ofNat 32 n.val))
      (IntOp.cmpi .sgt (BitVec.ofNat 32 (i 0).val) (IntOp.subi (BitVec.ofNat 32 n.val) b))))) hr

end

theorem value_Kernel27Ideal : algebraic_Kernel27Ideal_Reference27Ideal := by
  intro m ρ m' ρ' _ hag
  refine ⟨Kernel27Ideal.Pool.grad m, ?_, ?_⟩
  · exact (θ_run _ _ _).mono (fun _ h c => ⟨(h c).1.trans (Kernel27Ideal.Pool.final1 m c), (h c).2⟩)
      (Kernel27Ideal.Value.run_blocks m ρ)
  · refine (θ_run _ _ _).mono (fun _ h c => ⟨(h c).1.trans ?_, (h c).2⟩) (Reference27Ideal.Value.run m' ρ')
    have h0 := hag c
    rw [h0]
    funext i
    exact ref27_at _ i

end Cert.Proof

end
-- ==== Proof.PoolX.lean ====
module
public import proofs.«01_k».proof.Proof.Gen.Kernel28.Frame
public import proofs.«01_k».proof.Proof.Gen.Kernel28Ideal.Value
public import proofs.«01_k».proof.Proof.Gen.Reference28Ideal.Run
public import proofs.«01_k».proof.Proof.Lib
@[expose] public section
set_option maxRecDepth 16384
noncomputable section
set_option maxHeartbeats 4000000

/-! # The gradient of the pooling mixer's grouped product's left factor

The kernel multiplies blocks of 1024 by 512, one for each group of columns, and the group's 512 by 512 weights along
their last axes and stores each product as a block of the result. -/

namespace Cert.Kernel28Ideal.PoolX

open Idealize.ShloMosaic TcCoe Tactic
open Cert.Kernel28Ideal.Gen

variable (m : (ℓ : Loc nD τ sig) → Buf (Elt Ideal) ℓ) (c : Dev nD)

/-- The product of one left and one right block, at one place. -/
def prod (x : Vec Ideal S1024x512 .bf16) (y : Vec Ideal S1x512x512 .bf16) (j : S1024x512.Idx) : EReal :=
  ∑ k : Fin 512, (show EReal from x (ix2 (j 0) k)) * (show EReal from y (ix3 0 (j 1) k))

theorem out_apply (x : Vec Ideal S1024x512 .bf16) (y : Vec Ideal S1x512x512 .bf16) (j : S1024x512.Idx) :
    out0_2 x y j = prod x y (j) := by
  frame_out
  unfold k0_pay1 prod
  pointwise

/-! ## Which block each grid point reads and writes -/

theorem index0 : ∀ t : Fin cfg0.N, win0_0.index t = ![t.val / 4, t.val % 4] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, t.val % 4] := (by decide +kernel : ∀ t : Fin grid0.N, _)

/-- The left block, read from the argument it is cut from. -/
theorem left_blk (t : Fin cfg0.N) (r : Fin 1024) (k : Fin 512) (a : Fin 4096) (b : Fin 2048) (ha : a.val = 1024 * (t.val / 4) + r.val) (hb : b.val = 512 * (t.val % 4) + k.val) :
    iblk m c 0 t (ix2 r k) = m ((c : Thread nD τ).loc main_arg1) (ix2 a b) := by
  blk_simp [iblk]
  entry_read
  pointwise
  refine congrArg (m ((c : Thread nD τ).loc main_arg1)) ?_
  blk_ext [index0]

/-- The right block, read from the argument it is cut from. -/
theorem right_blk (t : Fin cfg0.N) (q : Fin 512) (k : Fin 512) (a : Fin 4) (s b : Fin 512) (hs : s.val = q.val) (ha : a.val = t.val % 4) (hb : b.val = k.val) :
    iblk m c 1 t (ix3 0 q k) = m ((c : Thread nD τ).loc main_arg0) (ix3 a s b) := by
  blk_simp [iblk]
  entry_read
  pointwise
  refine congrArg (m ((c : Thread nD τ).loc main_arg0)) ?_
  blk_ext [index1]

/-! ## The result -/

/-- The group a column lies in. -/
def group (j : Fin 2048) : Fin 4 := ⟨j.val / 512, by omega⟩

/-- Its place in the group. -/
def rest (j : Fin 2048) : Fin 512 := ⟨j.val % 512, by omega⟩

/-- Column `l` of that group. -/
def part (j : Fin 2048) (l : Fin 512) : Fin 2048 := ⟨512 * (j.val / 512) + l.val, by omega⟩

/-- The gradient of the left factor. -/
def grad : Buf (Elt Ideal) ((c : Thread nD τ).loc main_v2) := fun i =>
  (show EReal from ∑ l : Fin 512, (show EReal from m ((c : Thread nD τ).loc main_arg1) (ix2 (i 0) (part (i 1) l)))
    * (show EReal from m ((c : Thread nD τ).loc main_arg0) (ix3 (group (i 1)) (rest (i 1)) l)))

/-- The result array holds it. -/
theorem final2 : (dats m 0 c).arrAt 2 cfg0.N = grad m c := by
  refine (dats m 0 c).arrAt_eq_of_covers 2 _ (by decide +kernel) fun t hf y => ?_
  blk_simp
  rw [after0_2]
  have hN : t.val < 16 := t.isLt
  have e0 : ((win0_2.blk t).view.emb y 0).val = t.val / 4 * 1024 + (y 0).val := by blk_simp [index2]
  have e1 : ((win0_2.blk t).view.emb y 1).val = t.val % 4 * 512 + (y 1).val := by blk_simp [index2]
  have hy : (y 1).val < 512 := (y 1).isLt
  have hg : (group ((win0_2.blk t).view.emb y 1)).val = t.val % 4 := by
    show ((win0_2.blk t).view.emb y 1).val / 512 = _
    omega
  have hr : (rest ((win0_2.blk t).view.emb y 1)).val = (y 1).val := by
    show ((win0_2.blk t).view.emb y 1).val % 512 = _
    omega
  refine (out_apply _ _ y).trans ?_
  refine Finset.sum_congr rfl fun k _ => congrArg₂ (fun a b : EReal => a * b) ?_ ?_
  · refine left_blk m c t _ _ _ _ (e0.trans ?_) ?_
    · show _ = _ + (y 0).val
      omega
    · show 512 * (((win0_2.blk t).view.emb y 1).val / 512) + k.val = _
      omega
  · refine right_blk m c t _ _ _ _ _ hr hg rfl

end Cert.Kernel28Ideal.PoolX

namespace Cert.Proof

open Idealize.ShloMosaic TcCoe Idealize.SL.Sem StableHlo Tactic

theorem frame_Kernel28 : quiescent_Kernel28 := fun m ρ _ => Kernel28.Gen.frame m ρ

theorem frame_Kernel28Ideal : quiescent_Kernel28Ideal := fun m ρ _ => Kernel28Ideal.Gen.frame m ρ

theorem frame_Reference28Ideal : quiescent_Reference28Ideal := fun m ρ _ =>
  (θ_run _ _ _).mono (fun r h => ⟨fun c => (h c).2, sem_eq_zero_of_no_sems (by decide) r.2⟩)
    (Reference28Ideal.Value.run m ρ)

section
open Reference28Ideal Reference28Ideal.Gen

/-- The reference's result, read at one place. -/
theorem ref28_at (x : Vec Ideal S4x512x512 .f32) (y : Vec Ideal S4096x2048 .f32) (i : S4096x2048.Idx) (g : Fin 4) (q : Fin 512) (b : Fin 512 → Fin 2048)
    (hg : g.val = (i 1).val / 512) (hq : q.val = (i 1).val % 512) (hb : ∀ l, (b l).val = 512 * ((i 1).val / 512) + l.val) :
    shapeCast S4096x2048 (transpose S4096x4x512 [1, 0, 2] (Host.dotGeneral (F := Ideal) (φ₁ := .f32) (φ₂ := .f32) dot_S4x512x4096_S4x512x512_S4x4096x512_1_2_2_1_0_0 none (transpose S4x512x4096 [1, 2, 0] (shapeCast _ y shapeCasts_S4096x2048_S4096x4x512) transposes_S4096x4x512_S4x512x4096_1_2_0) x) transposes_S4x4096x512_S4096x4x512_1_0_2) shapeCasts_S4096x4x512_S4096x2048 i
      = (show EReal from ∑ l : Fin 512, (show EReal from y (ix2 (i 0) (b l))) * (show EReal from x (ix3 g q l))) := by
  pointwise
  refine Finset.sum_congr rfl fun l _ => (congrArg₂ (fun a b : EReal => a * b)
    (congrArg (fun c => y (ix2 (i 0) c)) (Fin.ext ?_)) (congrArg₂ (fun a b => x (ix3 a b l)) (Fin.ext hg.symm) (Fin.ext hq.symm)))
  show (i 1).val / 512 * 512 + l.val = (b l).val
  have := hb l
  omega

end

theorem value_Kernel28Ideal : algebraic_Kernel28Ideal_Reference28Ideal := by
  intro m ρ m' ρ' _ hag
  refine ⟨Kernel28Ideal.PoolX.grad m, ?_, ?_⟩
  · exact (θ_run _ _ _).mono (fun _ h c => ⟨(h c).1.trans (Kernel28Ideal.PoolX.final2 m c), (h c).2⟩)
      (Kernel28Ideal.Value.run_blocks m ρ)
  · refine (θ_run _ _ _).mono (fun _ h c => ⟨(h c).1.trans ?_, (h c).2⟩) (Reference28Ideal.Value.run m' ρ')
    obtain ⟨h0, h1⟩ := hag c
    rw [h0, h1]
    funext i
    exact ref28_at _ _ i _ _ _ rfl rfl fun _ => rfl

end Cert.Proof

end
-- ==== Proof.PoolW.lean ====
module
public import proofs.«01_k».proof.Proof.Gen.Kernel29.Frame
public import proofs.«01_k».proof.Proof.Gen.Kernel29Ideal.Value
public import proofs.«01_k».proof.Proof.Gen.Reference29Ideal.Run
public import proofs.«01_k».proof.Proof.Lib
@[expose] public section
set_option maxRecDepth 16384
noncomputable section
set_option maxHeartbeats 4000000

/-! # The gradient of the pooling mixer's group weights

The kernel multiplies blocks of 512 by 2048 and 2048 by 512, two for each of the four groups of columns, adds the two
in an accumulator and stores the sum as the group's block of the result. -/

namespace Cert.Kernel29Ideal.PoolW

open Idealize.ShloMosaic TcCoe Tactic
open Cert.Kernel29Ideal.Gen

variable (m : (ℓ : Loc nD τ sig) → Buf (Elt Ideal) ℓ) (c : Dev nD)

/-- The product of one left and one right block, at one place. -/
def prod (x : Vec Ideal S512x2048 .bf16) (y : Vec Ideal S2048x512 .bf16) (j : S512x512.Idx) : EReal :=
  ∑ k : Fin 2048, (show EReal from x (ix2 (j 0) k)) * (show EReal from y (ix2 k (j 1)))

theorem pay2_apply (x : Vec Ideal S512x2048 .bf16) (y : Vec Ideal S2048x512 .bf16) (j : S512x512.Idx) :
    k0_pay2 x y j = prod x y j := by
  unfold k0_pay2 k0_pay1 prod
  pointwise

theorem pay3_apply (x : Vec Ideal S512x2048 .bf16) (y : Vec Ideal S2048x512 .bf16) (v : Vec Ideal S512x512 .f32) (j : S512x512.Idx) :
    k0_pay3 x y v j = (show EReal from v j) + prod x y j := by
  unfold k0_pay3 k0_pay1 prod
  pointwise

/-! ## Which block each grid point reads and writes -/

theorem index0 : ∀ t : Fin cfg0.N, win0_0.index t = ![t.val / 2, t.val % 2] := (by decide +kernel : ∀ t : Fin grid0.N, _)
theorem index1 : ∀ t : Fin cfg0.N, win0_1.index t = ![t.val % 2, t.val / 2] := (by decide +kernel : ∀ t : Fin grid0.N, _)
theorem index2 : ∀ t : Fin cfg0.N, win0_2.index t = ![t.val / 2, 0, 0] := (by decide +kernel : ∀ t : Fin grid0.N, _)

/-- The left block, read from the argument it is cut from. -/
theorem left_blk (t : Fin cfg0.N) (r : Fin 512) (k : Fin 2048) (a : Fin 4096) (b : Fin 2048) (ha : a.val = 2048 * (t.val % 2) + k.val) (hb : b.val = 512 * (t.val / 2) + r.val) :
    iblk m c 0 t (ix2 r k) = m ((c : Thread nD τ).loc main_arg0) (ix2 a b) := by
  blk_simp [iblk]
  entry_read
  pointwise
  refine congrArg (m ((c : Thread nD τ).loc main_arg0)) ?_
  blk_ext [index0]

/-- The right block, read from the argument it is cut from. -/
theorem right_blk (t : Fin cfg0.N) (q : Fin 512) (k : Fin 2048) (a : Fin 4096) (b : Fin 2048) (ha : a.val = 2048 * (t.val % 2) + k.val) (hb : b.val = 512 * (t.val / 2) + q.val) :
    iblk m c 1 t (ix2 k q) = m ((c : Thread nD τ).loc main_arg1) (ix2 a b) := by
  blk_simp [iblk]
  entry_read
  pointwise
  refine congrArg (m ((c : Thread nD τ).loc main_arg1)) ?_
  blk_ext [index1]

/-! ## The accumulator -/

theorem acc_first (t : Fin cfg0.N) (h : t.val % 2 = 0) (j : S512x512.Idx) :
    (outsAt0 m c t.val t.isLt).2 j = (0 : EReal) + prod (iblk m c 0 t) (iblk m c 1 t) j := by
  rw [outsAt0_A m c t h (by omega) (by omega)]
  frame_out
  rw [pay2_apply, zero_add]

theorem acc_next (t : Fin cfg0.N) (h : ¬ t.val % 2 = 0) (j : S512x512.Idx) :
    (outsAt0 m c t.val t.isLt).2 j
      = (show EReal from (outsAt0 m c (t.val - 1) (Nat.lt_of_le_of_lt (Nat.sub_le _ _) t.isLt)).2 j)
        + prod (iblk m c 0 t) (iblk m c 1 t) j := by
  rw [outsAt0_B m c t h (by omega) (by omega)]
  frame_out
  rw [pay3_apply, (Memref.isWhole_whole _).read_unread]

/-- After its last step the accumulator holds the sum over the whole contracted axis. -/
theorem acc_sum (t : Fin cfg0.N) (h : t.val % 2 = 1) (j : S512x512.Idx) (f : Fin 4096 → EReal)
    (hf : ∀ (s : Fin 2) (k : Fin 2048) (p : Fin cfg0.N) (_ : p.val = 2 * (t.val / 2) + s.val) (l : Fin 4096) (_ : l.val = s.val * 2048 + k.val),
      (show EReal from iblk m c 0 p (ix2 (j 0) k)) * (show EReal from iblk m c 1 p (ix2 k (j 1))) = f l) :
    (outsAt0 m c t.val t.isLt).2 j = ∑ l, f l := by
  rw [Pipeline.eq_sum_fin_of_reset_step_apply_of_flush (fun n h => (outsAt0 m c n h).2) 2 (fun _ => (0 : EReal))
    (fun p => prod (iblk m c 0 p) (iblk m c 1 p)) (acc_first m c) (acc_next m c) t h j, zero_add]
  exact Fin.sum_mul_add_congr fun s k hl => hf s k _ rfl _ rfl

/-- The last step stores the accumulator, rounded, as the result's block. -/
theorem out_last (t : Fin cfg0.N) (h : t.val % 2 = 1) (j : S1x512x512.Idx) :
    (outsAt0 m c t.val t.isLt).1 j = (outsAt0 m c t.val t.isLt).2 (ix2 (j 1) (j 2)) := by
  rw [outsAt0_B m c t (by omega) h h]
  frame_out
  unfold k0_pay4
  pointwise

/-! ## The result -/

/-- Column `r` of group `g`. -/
def col (g : Fin 4) (r : Fin 512) : Fin 2048 := ⟨512 * g.val + r.val, by omega⟩

/-- The gradient of the weights, as four column blocks. -/
def grad : Buf (Elt Ideal) ((c : Thread nD τ).loc main_v3) := fun i =>
  show EReal from ∑ l : Fin 4096, (show EReal from m ((c : Thread nD τ).loc main_arg0) (ix2 l (col (i 0) (i 1))))
    * (show EReal from m ((c : Thread nD τ).loc main_arg1) (ix2 l (col (i 0) (i 2))))

/-- The result array holds the gradient. -/
theorem final2 : (dats m 0 c).arrAt 2 cfg0.N = grad m c := by
  refine (dats m 0 c).arrAt_eq_of_covers 2 _ (by decide +kernel) fun t hf y => ?_
  blk_simp
  rw [after0_2]
  have hN : t.val < 8 := t.isLt
  have e0 : ((win0_2.blk t).view.emb y 0).val = t.val / 2 := by blk_simp [index2]
  have e1 : ((win0_2.blk t).view.emb y 1).val = (y 1).val := by blk_simp [index2]
  have e2 : ((win0_2.blk t).view.emb y 2).val = (y 2).val := by blk_simp [index2]
  have ht : t.val % 2 = 1 := (flush0_2 t).mp hf
  refine (out_last m c t ht y).trans ?_
  refine acc_sum m c t ht _ _ fun s k p e l hl => congrArg₂ (· * ·) ?_ ?_
  · refine left_blk m c p _ _ _ _ (by omega) ?_
    show 512 * ((win0_2.blk t).view.emb y 0).val + ((win0_2.blk t).view.emb y 1).val = _ + (y 1).val
    rw [e0, e1]
    omega
  · refine right_blk m c p _ _ _ _ (by omega) ?_
    show 512 * ((win0_2.blk t).view.emb y 0).val + ((win0_2.blk t).view.emb y 2).val = _ + (y 2).val
    rw [e0, e2]
    omega

end Cert.Kernel29Ideal.PoolW

namespace Cert.Proof

open Idealize.ShloMosaic TcCoe Idealize.SL.Sem StableHlo Tactic

theorem frame_Kernel29 : quiescent_Kernel29 := fun m ρ _ => Kernel29.Gen.frame m ρ

theorem frame_Kernel29Ideal : quiescent_Kernel29Ideal := fun m ρ _ => Kernel29Ideal.Gen.frame m ρ

theorem frame_Reference29Ideal : quiescent_Reference29Ideal := fun m ρ _ =>
  (θ_run _ _ _).mono (fun r h => ⟨fun c => (h c).2, sem_eq_zero_of_no_sems (by decide) r.2⟩)
    (Reference29Ideal.Value.run m ρ)

section
open Reference29Ideal Reference29Ideal.Gen

/-- The reference's result, read at one place. -/
theorem ref29_at (x : Vec Ideal S4096x2048 .f32) (y : Vec Ideal S4096x2048 .f32) (i : S4x512x512.Idx) (a b : Fin 2048) (ha : a.val = 512 * (i 0).val + (i 1).val)
    (hb : b.val = 512 * (i 0).val + (i 2).val) :
    truncf (F := Ideal) .bf16 (transpose S4x512x512 [0, 2, 1] (Host.dotGeneral (F := Ideal) (φ₁ := .f32) (φ₂ := .f32) dot_S4x512x4096_S4096x4x512_S4x512x512_2_0_1_2_0_1 none (transpose S4x512x4096 [1, 2, 0] (shapeCast _ y shapeCasts_S4096x2048_S4096x4x512) transposes_S4096x4x512_S4x512x4096_1_2_0) (shapeCast _ x shapeCasts_S4096x2048_S4096x4x512)) transposes_S4x512x512_S4x512x512_0_2_1) bitsLt_bf16_f32 i
      = (show EReal from ∑ l : Fin 4096, (show EReal from x (ix2 l a)) * (show EReal from y (ix2 l b))) := by
  pointwise
  refine Finset.sum_congr rfl fun l _ => (mul_comm _ _).trans (congrArg₂ (fun a b : EReal => a * b)
    (congrArg (fun q => x (ix2 l q)) (Fin.ext ?_)) (congrArg (fun q => y (ix2 l q)) (Fin.ext ?_)))
  · show (i 0).val * 512 + (i 1).val = a.val
    omega
  · show (i 0).val * 512 + (i 2).val = b.val
    omega

end

theorem value_Kernel29Ideal : algebraic_Kernel29Ideal_Reference29Ideal := by
  intro m ρ m' ρ' _ hag
  refine ⟨Kernel29Ideal.PoolW.grad m, ?_, ?_⟩
  · exact (θ_run _ _ _).mono (fun _ h c => ⟨(h c).1.trans (Kernel29Ideal.PoolW.final2 m c), (h c).2⟩)
      (Kernel29Ideal.Value.run_blocks m ρ)
  · refine (θ_run _ _ _).mono (fun _ h c => ⟨(h c).1.trans ?_, (h c).2⟩) (Reference29Ideal.Value.run m' ρ')
    obtain ⟨h0, h1⟩ := hag c
    rw [h0, h1]
    funext i
    exact ref29_at _ _ i _ _ rfl rfl

end Cert.Proof

end
-- ==== Proof.PoolF.lean ====
module
public import proofs.«01_k».proof.Proof.Gen.Kernel30.Frame
public import proofs.«01_k».proof.Proof.Gen.Kernel30Ideal.Value
public import proofs.«01_k».proof.Proof.Gen.Reference30Ideal.Run
public import proofs.«01_k».proof.Proof.Lib
@[expose] public section
set_option maxRecDepth 16384
noncomputable section
set_option maxHeartbeats 4000000

/-! # The pooling mixer's grouped product, scaled and with the residual

The kernel multiplies blocks of 1024 by 512, one for each group of columns, and the group's 512 by 512 weights, stores
each product, and stores it scaled by column and added to the block of the residual. -/

namespace Cert.Kernel30Ideal.PoolF

open Idealize.ShloMosaic TcCoe Tactic
open Cert.Kernel30Ideal.Gen

variable (m : (ℓ : Loc nD τ sig) → Buf (Elt Ideal) ℓ) (c : Dev nD)

/-- The product of one left and one right block, at one place. -/
def prod (x : Vec Ideal S1024x512 .bf16) (y : Vec Ideal S1x512x512 .bf16) (j : S1024x512.Idx) : EReal :=
  ∑ k : Fin 512, (show EReal from x (ix2 (j 0) k)) * (show EReal from y (ix3 0 k (j 1)))

theorem out_apply (x : Vec Ideal S1024x512 .bf16) (y : Vec Ideal S1x512x512 .bf16) (v : Vec Ideal S1x512 .f32) (z : Vec Ideal S1024x512 .f32) (j : S1024x512.Idx) :
    out0_5 x y v z j = prod x y (j) := by
  frame_out
  unfold k0_pay1 prod
  pointwise

theorem out4_apply (x : Vec Ideal S1024x512 .bf16) (y : Vec Ideal S1x512x512 .bf16) (v : Vec Ideal S1x512 .f32) (z : Vec Ideal S1024x512 .f32) (j : S1024x512.Idx) :
    out0_4 x y v z j = prod x y j * (show EReal from v (ix2 0 (j 1))) + (show EReal from z j) := by
  frame_out
  unfold k0_pay2 k0_pay1 prod
  pointwise

/-! ## Which block each grid point reads and writes -/

theorem index0 : ∀ t : Fin cfg0.N, win0_0.index t = ![t.val / 4, t.val % 4] := (by decide +kernel : ∀ t : Fin grid0.N, _)
theorem index1 : ∀ t : Fin cfg0.N, win0_1.index t = ![t.val % 4, 0, 0] := (by decide +kernel : ∀ t : Fin grid0.N, _)
theorem index4 : ∀ t : Fin cfg0.N, win0_4.index t = ![t.val / 4, t.val % 4] := (by decide +kernel : ∀ t : Fin grid0.N, _)
theorem index5 : ∀ t : Fin cfg0.N, win0_5.index t = ![t.val / 4, t.val % 4] := (by decide +kernel : ∀ t : Fin grid0.N, _)

/-- The left block, read from the argument it is cut from. -/
theorem left_blk (t : Fin cfg0.N) (r : Fin 1024) (k : Fin 512) (a : Fin 4096) (b : Fin 2048) (ha : a.val = 1024 * (t.val / 4) + r.val) (hb : b.val = 512 * (t.val % 4) + k.val) :
    iblk m c 0 t (ix2 r k) = m ((c : Thread nD τ).loc main_arg0) (ix2 a b) := by
  blk_simp [iblk]
  entry_read
  pointwise
  refine congrArg (m ((c : Thread nD τ).loc main_arg0)) ?_
  blk_ext [index0]

/-- The right block, read from the argument it is cut from. -/
theorem right_blk (t : Fin cfg0.N) (q : Fin 512) (k : Fin 512) (a : Fin 4) (s b : Fin 512) (hs : s.val = q.val) (ha : a.val = t.val % 4) (hb : b.val = k.val) :
    iblk m c 1 t (ix3 0 k q) = m ((c : Thread nD τ).loc main_arg1) (ix3 a b s) := by
  blk_simp [iblk]
  entry_read
  pointwise
  refine congrArg (m ((c : Thread nD τ).loc main_arg1)) ?_
  blk_ext [index1]

theorem indexX2 : ∀ t : Fin cfg0.N, win0_2.index t = ![0, t.val % 4] := (by decide +kernel : ∀ t : Fin grid0.N, _)

/-- The block of the scale, read from the argument it is cut from. -/
theorem scale_blk (t : Fin cfg0.N) (q : Fin 512) (a : Fin 2048) (ha : a.val = 512 * (t.val % 4) + q.val) : iblk m c 2 t (ix2 0 q) = m ((c : Thread nD τ).loc main_arg2) (ix1 a) := by
  blk_simp [iblk]
  entry_read
  pointwise
  refine congrArg (m ((c : Thread nD τ).loc main_arg2)) ?_
  blk_ext [indexX2]

theorem indexX3 : ∀ t : Fin cfg0.N, win0_3.index t = ![t.val / 4, t.val % 4] := (by decide +kernel : ∀ t : Fin grid0.N, _)

/-- The block of the residual, read from the argument it is cut from. -/
theorem resid_blk (t : Fin cfg0.N) (j : S1024x512.Idx) (i : S4096x2048.Idx) (h0 : (i 0).val = 1024 * (t.val / 4) + (j 0).val) (h1 : (i 1).val = 512 * (t.val % 4) + (j 1).val) : iblk m c 3 t (j) = m ((c : Thread nD τ).loc main_arg3) (i) := by
  blk_simp [iblk]
  entry_read
  pointwise
  refine congrArg (m ((c : Thread nD τ).loc main_arg3)) ?_
  blk_ext [indexX3]

/-! ## The result -/

/-- The group a column lies in. -/
def group (j : Fin 2048) : Fin 4 := ⟨j.val / 512, by omega⟩

/-- Its place in the group. -/
def rest (j : Fin 2048) : Fin 512 := ⟨j.val % 512, by omega⟩

/-- Column `l` of that group. -/
def part (j : Fin 2048) (l : Fin 512) : Fin 2048 := ⟨512 * (j.val / 512) + l.val, by omega⟩

/-- The product. -/
def raw : Buf (Elt Ideal) ((c : Thread nD τ).loc main_v3_1) := fun i =>
  (show EReal from ∑ l : Fin 512, (show EReal from m ((c : Thread nD τ).loc main_arg0) (ix2 (i 0) (part (i 1) l)))
    * (show EReal from m ((c : Thread nD τ).loc main_arg1) (ix3 (group (i 1)) l (rest (i 1)))))

/-- The product, scaled by column, plus the residual. -/
def mixed : Buf (Elt Ideal) ((c : Thread nD τ).loc main_v3_0) := fun i =>
  (show EReal from raw m c i) * (show EReal from m ((c : Thread nD τ).loc main_arg2) (ix1 (i 1)))
    + (show EReal from m ((c : Thread nD τ).loc main_arg3) i)

/-- The second result array holds the product. -/
theorem final5 : (dats m 0 c).arrAt 5 cfg0.N = raw m c := by
  refine (dats m 0 c).arrAt_eq_of_covers 5 _ (by decide +kernel) fun t hf y => ?_
  blk_simp
  rw [after0_5]
  have hN : t.val < 16 := t.isLt
  have e0 : ((win0_5.blk t).view.emb y 0).val = t.val / 4 * 1024 + (y 0).val := by blk_simp [index5]
  have e1 : ((win0_5.blk t).view.emb y 1).val = t.val % 4 * 512 + (y 1).val := by blk_simp [index5]
  have hy : (y 1).val < 512 := (y 1).isLt
  have hg : (group ((win0_5.blk t).view.emb y 1)).val = t.val % 4 := by
    show ((win0_5.blk t).view.emb y 1).val / 512 = _
    omega
  have hr : (rest ((win0_5.blk t).view.emb y 1)).val = (y 1).val := by
    show ((win0_5.blk t).view.emb y 1).val % 512 = _
    omega
  refine (out_apply _ _ _ _ y).trans ?_
  refine Finset.sum_congr rfl fun k _ => congrArg₂ (fun a b : EReal => a * b) ?_ ?_
  · refine left_blk m c t _ _ _ _ (e0.trans ?_) ?_
    · show _ = _ + (y 0).val
      omega
    · show 512 * (((win0_5.blk t).view.emb y 1).val / 512) + k.val = _
      omega
  · refine right_blk m c t _ _ _ _ _ hr hg rfl

/-- The first result array holds the scaled product plus the residual. -/
theorem final4 : (dats m 0 c).arrAt 4 cfg0.N = mixed m c := by
  refine (dats m 0 c).arrAt_eq_of_covers 4 _ (by decide +kernel) fun t hf y => ?_
  blk_simp
  rw [after0_4]
  have hN : t.val < 16 := t.isLt
  have e0 : ((win0_4.blk t).view.emb y 0).val = t.val / 4 * 1024 + (y 0).val := by blk_simp [index4]
  have e1 : ((win0_4.blk t).view.emb y 1).val = t.val % 4 * 512 + (y 1).val := by blk_simp [index4]
  have hy : (y 1).val < 512 := (y 1).isLt
  have hg : (group ((win0_4.blk t).view.emb y 1)).val = t.val % 4 := by
    show ((win0_4.blk t).view.emb y 1).val / 512 = _
    omega
  have hr : (rest ((win0_4.blk t).view.emb y 1)).val = (y 1).val := by
    show ((win0_4.blk t).view.emb y 1).val % 512 = _
    omega
  refine (out4_apply _ _ _ _ y).trans ?_
  refine congrArg₂ (fun a b : EReal => a + b) ?_ (resid_blk m c t y _ (e0.trans (by omega)) (e1.trans (by omega)))
  refine congrArg₂ (fun a b : EReal => a * b) ?_ (scale_blk m c t (y 1) _ (e1.trans (by omega)))
  refine Finset.sum_congr rfl fun k _ => congrArg₂ (fun a b : EReal => a * b) ?_ ?_
  · refine left_blk m c t _ _ _ _ (e0.trans ?_) ?_
    · show _ = _ + (y 0).val
      omega
    · show 512 * (((win0_4.blk t).view.emb y 1).val / 512) + k.val = _
      omega
  · refine right_blk m c t _ _ _ _ _ hr hg rfl

end Cert.Kernel30Ideal.PoolF

namespace Cert.Proof

open Idealize.ShloMosaic TcCoe Idealize.SL.Sem StableHlo Tactic

theorem frame_Kernel30 : quiescent_Kernel30 := fun m ρ _ => Kernel30.Gen.frame m ρ

theorem frame_Kernel30Ideal : quiescent_Kernel30Ideal := fun m ρ _ => Kernel30Ideal.Gen.frame m ρ

theorem frame_Reference30Ideal : quiescent_Reference30Ideal := fun m ρ _ =>
  (θ_run _ _ _).mono (fun r h => ⟨fun c => (h c).2.2, sem_eq_zero_of_no_sems (by decide) r.2⟩)
    (Reference30Ideal.Value.run m ρ)

section
open Reference30Ideal Reference30Ideal.Gen

/-- The reference's result, read at one place. -/
theorem ref30_at (x : Vec Ideal S4096x2048 .f32) (y : Vec Ideal S4x512x512 .f32) (i : S4096x2048.Idx) (g : Fin 4) (q : Fin 512) (b : Fin 512 → Fin 2048)
    (hg : g.val = (i 1).val / 512) (hq : q.val = (i 1).val % 512) (hb : ∀ l, (b l).val = 512 * ((i 1).val / 512) + l.val) :
    shapeCast S4096x2048 (transpose S4096x4x512 [2, 0, 1] (Host.dotGeneral (F := Ideal) (φ₁ := .f32) (φ₂ := .f32) dot_S4x512x512_S4096x4x512_S4x512x4096_1_2_2_0_0_1 none y (shapeCast _ x shapeCasts_S4096x2048_S4096x4x512)) transposes_S4x512x4096_S4096x4x512_2_0_1) shapeCasts_S4096x4x512_S4096x2048 i
      = (show EReal from ∑ l : Fin 512, (show EReal from x (ix2 (i 0) (b l))) * (show EReal from y (ix3 g l q))) := by
  pointwise
  refine Finset.sum_congr rfl fun l _ => (mul_comm _ _).trans (congrArg₂ (fun a b : EReal => a * b)
    (congrArg (fun c => x (ix2 (i 0) c)) (Fin.ext ?_)) (congrArg₂ (fun a b => y (ix3 a l b)) (Fin.ext hg.symm) (Fin.ext hq.symm)))
  show (i 1).val / 512 * 512 + l.val = (b l).val
  have := hb l
  omega

/-- The scaled product plus the residual, read at one place. -/
theorem ref30_mixed_at (x : Vec Ideal S4096x2048 .f32) (y : Vec Ideal S4x512x512 .f32) (v : Vec Ideal S2048 .f32) (z : Vec Ideal S4096x2048 .f32) (i : S4096x2048.Idx) (g : Fin 4) (q : Fin 512) (b : Fin 512 → Fin 2048)
    (hg : g.val = (i 1).val / 512) (hq : q.val = (i 1).val % 512) (hb : ∀ l, (b l).val = 512 * ((i 1).val / 512) + l.val) :
    addf z (mulf (shapeCast S4096x2048 (transpose S4096x4x512 [2, 0, 1] (Host.dotGeneral (F := Ideal) (φ₁ := .f32) (φ₂ := .f32) dot_S4x512x512_S4096x4x512_S4x512x4096_1_2_2_0_0_1 none y (shapeCast _ x shapeCasts_S4096x2048_S4096x4x512)) transposes_S4x512x4096_S4096x4x512_2_0_1) shapeCasts_S4096x4x512_S4096x2048) (broadcastInDim S4096x2048 ![0, 1] bcast_S1x2048_S4096x2048_0_1 (broadcastInDim S1x2048 ![1] bcast_S2048_S1x2048_1 v))) i
      = (show EReal from ∑ l : Fin 512, (show EReal from x (ix2 (i 0) (b l))) * (show EReal from y (ix3 g l q)))
        * (show EReal from v (ix1 (i 1))) + (show EReal from z i) := by
  rw [← ref30_at x y i g q b hg hq hb]
  refine (add_comm _ _).trans (congrArg (fun w : EReal => w + z i) (congrArg (fun w : EReal => _ * w) ?_))
  pointwise

end

theorem value_Kernel30Ideal : algebraic_Kernel30Ideal_Reference30Ideal := by
  intro m ρ m' ρ' _ hag
  refine ⟨Kernel30Ideal.PoolF.mixed m, Kernel30Ideal.PoolF.raw m, ?_, ?_⟩
  · exact (θ_run _ _ _).mono (fun _ h c => ⟨(h c).1.trans (Kernel30Ideal.PoolF.final4 m c),
        (h c).2.1.trans (Kernel30Ideal.PoolF.final5 m c), (h c).2.2⟩)
      (Kernel30Ideal.Value.run_blocks m ρ)
  · refine (θ_run _ _ _).mono (fun _ h c => ⟨(h c).1.trans ?_, (h c).2.1.trans ?_, (h c).2.2⟩) (Reference30Ideal.Value.run m' ρ')
    · obtain ⟨h0, h1, h2, h3⟩ := hag c
      rw [h0, h1, h2, h3]
      funext i
      exact ref30_mixed_at _ _ _ _ i _ _ _ rfl rfl fun _ => rfl
    · obtain ⟨h0, h1, h2, h3⟩ := hag c
      rw [h0, h1]
      funext i
      exact ref30_at _ _ i _ _ _ rfl rfl fun _ => rfl

end Cert.Proof

end
-- ==== Proof.PoolFwd.lean ====
module
public import proofs.«01_k».proof.Defs
public import proofs.«01_k».proof.Proof.PoolBwd
public import proofs.«01_k».proof.Proof.Gen.Kernel31.Frame
public import proofs.«01_k».proof.Proof.Gen.Kernel31Ideal.Value
public import proofs.«01_k».proof.Proof.Gen.Reference31Ideal.Run
@[expose] public section
set_option maxRecDepth 16384
noncomputable section
set_option maxHeartbeats 4000000

/-! # The pooling of the pooling mixer

A grid point holds 256 columns, all of one group. At row `n` the kernel adds the rows `n, n - 1, …` of the group's window
by doublings, divides by the count, and subtracts the row. It stores the result, and its transpose. -/

namespace Cert.Kernel31Ideal.Pool

open Idealize.ShloMosaic TcCoe Tactic
open Cert.Kernel31Ideal.Gen
open Cert.Kernel27Ideal.Pool (ctg count column load1 count_eq count_word inside_word start_eq)

/-- A column with sixteen zeros in front. -/
def early (a : ℕ → EReal) (n : ℕ) : EReal := if 16 ≤ n then a (n - 16) else 0

/-- Two, four, eight and sixteen consecutive entries, the last at `n`. -/
def back2 (a : ℕ → EReal) (n : ℕ) : EReal := a n + a (n - 1)
def back4 (a : ℕ → EReal) (n : ℕ) : EReal := back2 a n + back2 a (n - 2)
def back8 (a : ℕ → EReal) (n : ℕ) : EReal := back4 a n + back4 a (n - 4)
def back16 (a : ℕ → EReal) (n : ℕ) : EReal := back8 a n + back8 a (n - 8)

/-- The sum over a window of the group. -/
def back (g : Fin 4) (a : ℕ → EReal) (n : ℕ) : EReal :=
  match g with
  | 0 => back2 a n
  | 1 => back4 a n
  | 2 => back8 a n
  | 3 => back16 a n

/-- The same sums as one. -/
theorem back_eq (g : Fin 4) (a : ℕ → EReal) (n : ℕ) : back g a n = ∑ j ∈ Finset.range (2 ^ (g.val + 1)), a (n - j) := by
  match g with
  | 0 =>
    show back2 a n = ∑ j ∈ Finset.range 2, a (n - j)
    simp only [back2, Finset.sum_range_succ, Finset.sum_range_zero, zero_add, Nat.sub_zero]
  | 1 =>
    show back4 a n = ∑ j ∈ Finset.range 4, a (n - j)
    simp only [back4, back2, Finset.sum_range_succ, Finset.sum_range_zero, zero_add, Nat.sub_zero, Nat.sub_sub, add_assoc, Nat.reduceAdd]
  | 2 =>
    show back8 a n = ∑ j ∈ Finset.range 8, a (n - j)
    simp only [back8, back4, back2, Finset.sum_range_succ, Finset.sum_range_zero, zero_add, Nat.sub_zero, Nat.sub_sub, add_assoc, Nat.reduceAdd]
  | 3 =>
    show back16 a n = ∑ j ∈ Finset.range 16, a (n - j)
    simp only [back16, back8, back4, back2, Finset.sum_range_succ, Finset.sum_range_zero, zero_add, Nat.sub_zero, Nat.sub_sub, add_assoc, Nat.reduceAdd]

theorem off1_eq : ∀ k : Fin k0_t1_loop.trips, k0_off1 k = ![256 * k.val - 16, 0] := by decide +kernel
theorem off2_eq : ∀ k : Fin k0_t1_loop.trips, k0_off2 k = ![256 * k.val, 0] := by decide +kernel
theorem off3_eq : ∀ k : Fin k0_t1_loop.trips, k0_off3 k = ![0, 256 * k.val] := by decide +kernel
theorem trips_lt (k : Fin k0_t1_loop.trips) : k.val < 16 := Nat.lt_of_lt_of_le k.isLt k0_t1_abs.2.1

/-- The first trip's test, as a bit. -/
theorem first_eq : ∀ k : Fin k0_t1_loop.trips, Scalar.cmpi .eq (Scf.iv 0#32 1#32 k) 0#32 = if k.val = 0 then 1#1 else 0#1 := by
  decide +kernel

section
variable (g : Fin 4) (k : Fin k0_t1_loop.trips) (x : Vec Ideal S256x256 .f32) (y : Vec Ideal S16x256 .f32) (c : Fin 256) (a : ℕ → EReal)

/-- The sixteen rows before the chunk with the first trip's factor, and the chunk's rows, are entries of one column. -/
def Reads : Prop := (∀ r : Fin 256, x (ix2 r c) = a (256 * k.val + 16 + r.val))
  ∧ ∀ r : Fin 16, Scalar.select (Scalar.cmpi .eq (Scf.iv 0#32 1#32 k) 0#32) (0 : EReal) (y (ix2 r c)) = a (256 * k.val + r.val)

/-- The kernel's count. -/
theorem pay6_apply (r : Fin 256) :
    k0_pay6 (F := Ideal) (BitVec.ofNat 32 g.val) 0#32 1#32 k (ix2 r c) = count (2 ^ (g.val + 1)) (256 * k.val + r.val) := by
  unfold k0_pay6
  pointwise
  exact count_eq k r.val (by have := r.isLt; omega) g

variable {k x y c a} (H : Reads k x y c a)
include H

theorem pay4_apply (r : Fin 272) : k0_pay4 (F := Ideal) 0#32 1#32 k y x (ix2 r c) = a (256 * k.val + r.val) := by
  unfold k0_pay4
  pointwise
  split
  · next h => exact H.2 _
  · next h =>
    refine (H.1 _).trans (congrArg a ?_)
    show 256 * k.val + 16 + (r.val - 16) = _
    omega

/-- A window of `2 ^ (g + 1)`. -/
theorem pay5_apply (r : Fin 256) :
    k0_pay5 (F := Ideal) (BitVec.ofNat 32 g.val) 0#32 1#32 k y x (ix2 r c) = back g a (256 * k.val + 16 + r.val) := by
  have hr := r.isLt
  unfold k0_pay5
  pointwise
  simp only [pay4_apply H]
  have N : ∀ d s : ℕ, d ≤ s → s < 272 → 256 * k.val + (s + 272 - d) % 272 = 256 * k.val + s - d := fun d s h1 h2 => by omega
  simp (disch := omega) only [N]
  simp only [← Nat.add_assoc]
  match g with
  | 0 => rfl
  | 1 => rfl
  | 2 => rfl
  | 3 => rfl

/-- What one trip stores. -/
theorem pay1_apply (r : Fin 256) :
    k0_pay1 (F := Ideal) (k0_pay4 0#32 1#32 k y x) (k0_pay5 (BitVec.ofNat 32 g.val) 0#32 1#32 k y x) (k0_pay6 (BitVec.ofNat 32 g.val) 0#32 1#32 k) (ix2 r c)
      = Ideal.div (back g a (256 * k.val + r.val + 16)) (count (2 ^ (g.val + 1)) (256 * k.val + r.val)) - a (256 * k.val + r.val + 16) := by
  unfold k0_pay1
  pointwise
  rw [pay5_apply g H, pay6_apply, pay4_apply H]
  have e : 256 * k.val + 16 + r.val = 256 * k.val + r.val + 16 := by omega
  have e' : 256 * k.val + (16 + r.val) = 256 * k.val + r.val + 16 := by omega
  rw [e]
  show _ - a (256 * k.val + (16 + r.val)) = _
  rw [e']
end

/-- The pooling at row `n` of a column. -/
def rowOf (g : Fin 4) (a : ℕ → EReal) (n : ℕ) : EReal :=
  Ideal.div (back g (early a) (n + 16)) (count (2 ^ (g.val + 1)) n) - a n

section
variable (𝒱 : Variants) (cd : Dev nD) (bd : Option 𝒱.V) (i : grid0.Coords) (arg1 : Memref sig .tc .vmem S4096x256 .f32) (harg1 : arg1.IsWhole)
  (arg2 : Memref sig .tc .vmem S4096x256 .bf16) (harg2 : arg2.IsWhole) (arg3 : Memref sig .tc .vmem S256x4096 .bf16) (harg3 : arg3.IsWhole)
  (g : Fin 4) (X1 : BufTy.Contents (Elt Ideal) arg1.view.ty) (k : Fin k0_t1_loop.trips)

/-- What one trip reads. -/
theorem reads (c : Fin 256) : Reads k (View.readAt (Elt Ideal) arg1.view (Rect.unit (s := S4096x256) (k0_off2 k) S256x256.size (k0_off2_inb k)).toLoadRect X1)
    (View.readAt (Elt Ideal) arg1.view (Rect.unit (s := S4096x256) (k0_off1 k) S16x256.size (k0_off1_inb k)).toLoadRect X1) c (early (ctg (arg1.view.read (Elt Ideal) X1) c)) := by
  have := trips_lt k
  refine ⟨fun r => ?_, fun r => ?_⟩
  · refine (load1 arg1 X1 _ (off2_eq k) _ r c).trans ?_
    unfold early
    rw [if_pos (by omega)]
    exact congrArg _ (by omega)
  · rw [first_eq]
    unfold early
    have := r.isLt
    by_cases h : k.val = 0
    · rw [if_pos h, if_neg (by omega)]
      rfl
    · rw [if_neg h, if_pos (by omega)]
      refine (load1 arg1 X1 _ (off1_eq k) _ r c).trans (congrArg _ ?_)
      omega

/-- One trip's value at its own row. -/
theorem pay_row (c : Fin 256) (n : ℕ) (hn : 256 * k.val ≤ n ∧ n < 256 * k.val + 256) {x y} (H : Reads k x y c (early (ctg (arg1.view.read (Elt Ideal) X1) c))) :
    k0_pay1 (F := Ideal) (k0_pay4 0#32 1#32 k y x) (k0_pay5 (BitVec.ofNat 32 g.val) 0#32 1#32 k y x) (k0_pay6 (BitVec.ofNat 32 g.val) 0#32 1#32 k) (ix2 (⟨n - 256 * k.val, by omega⟩ : Fin 256) c)
      = rowOf g (ctg (arg1.view.read (Elt Ideal) X1) c) n := by
  refine (pay1_apply g H _).trans ?_
  have e : 256 * k.val + (n - 256 * k.val) = n := by omega
  show Ideal.div (back g _ (256 * k.val + (n - 256 * k.val) + 16)) (count _ (256 * k.val + (n - 256 * k.val))) - early _ (256 * k.val + (n - 256 * k.val) + 16) = _
  rw [e]
  unfold rowOf
  refine congrArg₂ (fun a b : EReal => a - b) rfl ?_
  unfold early
  rw [if_pos (by omega), Nat.add_sub_cancel]

/-- One trip's effect on the first result's block: its own 256 rows. -/
theorem trip_apply (f : BufTy.Contents (Elt Ideal) arg2.view.ty) (L : List (View.Piece (Elt Ideal) S4096x256 .bf16)) (n : Fin 4096) (c : Fin 256) :
    arg2.view.read (Elt Ideal) (arg2.view.writes (Elt Ideal) f ((tripL_k0_t1 (F := Ideal) 𝒱 cd bd i arg1 harg1 arg2 harg2 arg3 harg3 (BitVec.ofNat 32 g.val) X1 k).1 ++ L)) (ix2 n c)
      = if 256 * k.val ≤ n.val ∧ n.val < 256 * k.val + 256 then rowOf g (ctg (arg1.view.read (Elt Ideal) X1) c) n.val
        else arg2.view.read (Elt Ideal) (arg2.view.writes (Elt Ideal) f L) (ix2 n c) := by
  unfold tripL_k0_t1 trip_k0_t1
  dsimp only
  simp only [List.cons_append, List.nil_append]
  by_cases hn : 256 * k.val ≤ n.val ∧ n.val < 256 * k.val + 256
  · rw [if_pos hn]
    refine (View.read_writes_cons_unit_of_mem _ _ _ _ _ _ (ix2 ⟨n.val - 256 * k.val, by omega⟩ c) (off2_eq k) fun a => ?_).trans ?_
    · match a with
      | 0 => show n.val = 256 * k.val + (n.val - 256 * k.val); omega
      | 1 => show c.val = 0 + c.val; omega
    · exact pay_row arg1 g X1 k c n.val hn (reads arg1 X1 k c)
  · rw [if_neg hn]
    have hd : n.val < 256 * k.val ∨ 256 * k.val + 256 ≤ n.val := by omega
    exact View.read_writes_cons_unit_of_not_mem _ _ _ _ _ _ (off2_eq k) 0 hd

/-- One trip's effect on the second result's block: its own 256 columns. -/
theorem trip_apply' (f : BufTy.Contents (Elt Ideal) arg3.view.ty) (L : List (View.Piece (Elt Ideal) S256x4096 .bf16)) (n : Fin 4096) (c : Fin 256) :
    arg3.view.read (Elt Ideal) (arg3.view.writes (Elt Ideal) f ((tripL_k0_t1 (F := Ideal) 𝒱 cd bd i arg1 harg1 arg2 harg2 arg3 harg3 (BitVec.ofNat 32 g.val) X1 k).2 ++ L)) (ix2 c n)
      = if 256 * k.val ≤ n.val ∧ n.val < 256 * k.val + 256 then rowOf g (ctg (arg1.view.read (Elt Ideal) X1) c) n.val
        else arg3.view.read (Elt Ideal) (arg3.view.writes (Elt Ideal) f L) (ix2 c n) := by
  unfold tripL_k0_t1 trip_k0_t1
  dsimp only
  simp only [List.cons_append, List.nil_append]
  by_cases hn : 256 * k.val ≤ n.val ∧ n.val < 256 * k.val + 256
  · rw [if_pos hn]
    refine (View.read_writes_cons_unit_of_mem _ _ _ _ _ _ (ix2 c ⟨n.val - 256 * k.val, by omega⟩) (off3_eq k) fun a => ?_).trans ?_
    · match a with
      | 0 => show c.val = 0 + c.val; omega
      | 1 => show n.val = 256 * k.val + (n.val - 256 * k.val); omega
    · unfold k0_pay3
      pointwise
      exact pay_row arg1 g X1 k c n.val hn (reads arg1 X1 k c)
  · rw [if_neg hn]
    have hd : n.val < 256 * k.val ∨ 256 * k.val + 256 ≤ n.val := by omega
    exact View.read_writes_cons_unit_of_not_mem _ _ _ _ _ _ (off3_eq k) 1 hd

/-- The results' blocks after the loop. -/
theorem loop_apply (f : BufTy.Contents (Elt Ideal) arg2.view.ty) (f' : BufTy.Contents (Elt Ideal) arg3.view.ty) (n : Fin 4096) (c : Fin 256) :
    arg2.view.read (Elt Ideal) (arg2.view.writes (Elt Ideal) f (pb_k0_t1 (F := Ideal) 𝒱 cd bd i arg1 harg1 arg2 harg2 arg3 harg3 (BitVec.ofNat 32 g.val) X1 k0_t1_loop.trips).1) (ix2 n c)
      = rowOf g (ctg (arg1.view.read (Elt Ideal) X1) c) n.val
    ∧ arg3.view.read (Elt Ideal) (arg3.view.writes (Elt Ideal) f' (pb_k0_t1 (F := Ideal) 𝒱 cd bd i arg1 harg1 arg2 harg2 arg3 harg3 (BitVec.ofNat 32 g.val) X1 k0_t1_loop.trips).2) (ix2 c n)
      = rowOf g (ctg (arg1.view.read (Elt Ideal) X1) c) n.val := by
  have key : ∀ t, t ≤ k0_t1_loop.trips → n.val < 256 * t →
      arg2.view.read (Elt Ideal) (arg2.view.writes (Elt Ideal) f (pb_k0_t1 (F := Ideal) 𝒱 cd bd i arg1 harg1 arg2 harg2 arg3 harg3 (BitVec.ofNat 32 g.val) X1 t).1) (ix2 n c)
        = rowOf g (ctg (arg1.view.read (Elt Ideal) X1) c) n.val
      ∧ arg3.view.read (Elt Ideal) (arg3.view.writes (Elt Ideal) f' (pb_k0_t1 (F := Ideal) 𝒱 cd bd i arg1 harg1 arg2 harg2 arg3 harg3 (BitVec.ofNat 32 g.val) X1 t).2) (ix2 c n)
        = rowOf g (ctg (arg1.view.read (Elt Ideal) X1) c) n.val := by
    intro t
    induction t with
    | zero => intro _ h0; omega
    | succ t ih =>
      intro ht hlt
      rw [show pb_k0_t1 (F := Ideal) 𝒱 cd bd i arg1 harg1 arg2 harg2 arg3 harg3 (BitVec.ofNat 32 g.val) X1 (t + 1) = _ from
        pb_k0_t1_succ (F := Ideal) 𝒱 cd bd i arg1 harg1 arg2 harg2 arg3 harg3 (BitVec.ofNat 32 g.val) X1 ⟨t, ht⟩]
      rw [trip_apply, trip_apply']
      by_cases hc : 256 * t ≤ n.val
      · have hh : 256 * t ≤ n.val ∧ n.val < 256 * t + 256 := ⟨hc, by omega⟩
        exact ⟨if_pos hh, if_pos hh⟩
      · have hh : ¬ (256 * t ≤ n.val ∧ n.val < 256 * t + 256) := fun hh => hc hh.1
        have := ih (by omega) (by omega)
        exact ⟨(if_neg hh).trans this.1, (if_neg hh).trans this.2⟩
  have h16 : k0_t1_loop.trips = 16 := by decide +kernel
  exact key _ le_rfl (by have := n.isLt; omega)
end

/-- A sum over the rows with the window's indicator is the sum over the window, back from its last row. -/
theorem sum_before (w n : ℕ) (hw : w ≤ 16) (hn : n < 4096) (a : ℕ → EReal) :
    (∑ s : Fin 4096, a s.val * (if s.val ≤ n ∧ n < s.val + w then 1 else 0)) = ∑ j ∈ Finset.range w, early a (n + 16 - j) := by
  rw [Fin.sum_univ_eq_sum_range (fun s => a s * (if s ≤ n ∧ n < s + w then 1 else 0)) 4096]
  simp only [mul_ite, mul_one, mul_zero, early]
  rw [← Finset.sum_filter, ← Finset.sum_filter]
  refine Finset.sum_nbij' (fun s => n - s) (fun j => n - j) ?_ ?_ ?_ ?_ ?_ <;>
    simp only [Finset.mem_filter, Finset.mem_range] <;> intro s hs
  · omega
  · omega
  · omega
  · omega
  · exact congrArg a (by omega)

variable (m : (ℓ : Loc nD τ sig) → Buf (Elt Ideal) ℓ) (c : Dev nD)

theorem index0 : ∀ t : Fin cfg0.N, win0_0.index t = ![0, t.val] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![t.val, 0] := (by decide +kernel : ∀ t : Fin grid0.N, _)

/-- The group that the kernel computes from the grid coordinate. -/
theorem group_eq (t : Fin cfg0.N) : kernelRun0_A.sl.v17 (grid0.coords t) = BitVec.ofNat 32 (t.val / 2) := by
  revert t
  change ∀ t : Fin grid0.N, kernelRun0_A.sl.v17 (grid0.coords t) = BitVec.ofNat 32 (t.val / 2)
  unfold kernelRun0_A.sl.v17
  sl_unfold_words
  decide +kernel

section
variable (i : grid0.Coords) (arg1 : Memref sig .tc .vmem S4096x256 .f32) (harg1 : arg1.IsWhole)
    (arg2 : Memref sig .tc .vmem S4096x256 .bf16) (harg2 : arg2.IsWhole) (arg3 : Memref sig .tc .vmem S256x4096 .bf16) (harg3 : arg3.IsWhole)
    (x0 : Vec Ideal S4096x256 .f32)

/-- What one grid point stores. -/
theorem stored : (kernelRun0_A c i arg1 harg1 arg2 harg2 arg3 harg3 x0).1
      = (pb_k0_t1 Variants.none c none i arg1 harg1 arg2 harg2 arg3 harg3 (kernelRun0_A.sl.v17 i) (harg1.unread x0) k0_t1_loop.trips).1 := by
  unfold kernelRun0_A
  rfl
theorem stored' : (kernelRun0_A c i arg1 harg1 arg2 harg2 arg3 harg3 x0).2.1
      = (pb_k0_t1 Variants.none c none i arg1 harg1 arg2 harg2 arg3 harg3 (kernelRun0_A.sl.v17 i) (harg1.unread x0) k0_t1_loop.trips).2 := by
  unfold kernelRun0_A
  rfl
end

/-- The pooling, at one place. -/
def at_ (x : Vec Ideal S4096x2048 .f32) (n : Fin 4096) (q : Fin 2048) : EReal :=
  Ideal.div (∑ j ∈ Finset.range (2 ^ (q.val / 512 + 1)), early (column x q) (n.val + 16 - j)) (count (2 ^ (q.val / 512 + 1)) n.val) - x (ix2 n q)

/-- The results' blocks. -/
theorem out_apply (t : Fin cfg0.N) (g : Fin 4) (hg : t.val / 2 = g.val) (n : Fin 4096) (q : Fin 256) :
    (outsAt0 m c t).1 (ix2 n q) = rowOf g (ctg (iblk m c 0 t) q) n.val := by
  have hc := cover0_A_1 c (grid0.coords t) (ms0_0 t) (hs0_0 t) (ms0_1 t) (hs0_1 t) (ms0_2 t) (hs0_2 t) (iblk m c 0 t) (ix2 n q)
  have key := (loop_apply Variants.none c none (grid0.coords t) (ms0_0 t) (hs0_0 t) (ms0_1 t) (hs0_1 t) (ms0_2 t) (hs0_2 t) g
    ((hs0_0 t).unread (iblk m c 0 t)) (ms0_1 t).view.junk (ms0_2 t).view.junk n q).1
  rw [(hs0_0 t).read_unread] at key
  unfold outsAt0 out0_A_1
  refine Eq.trans ?_ key
  dsimp only
  rw [stored, group_eq, hg] at hc ⊢
  exact (View.read_writes_apply_eq_canon _ _ _ _ hc).trans (View.read_writes_apply_eq_canon _ _ _ _ hc).symm
theorem out_apply' (t : Fin cfg0.N) (g : Fin 4) (hg : t.val / 2 = g.val) (n : Fin 4096) (q : Fin 256) :
    (outsAt0 m c t).2 (ix2 q n) = rowOf g (ctg (iblk m c 0 t) q) n.val := by
  have hc := cover0_A_2 c (grid0.coords t) (ms0_0 t) (hs0_0 t) (ms0_1 t) (hs0_1 t) (ms0_2 t) (hs0_2 t) (iblk m c 0 t) (ix2 q n)
  have key := (loop_apply Variants.none c none (grid0.coords t) (ms0_0 t) (hs0_0 t) (ms0_1 t) (hs0_1 t) (ms0_2 t) (hs0_2 t) g
    ((hs0_0 t).unread (iblk m c 0 t)) (ms0_1 t).view.junk (ms0_2 t).view.junk n q).2
  rw [(hs0_0 t).read_unread] at key
  unfold outsAt0 out0_A_2
  refine Eq.trans ?_ key
  dsimp only
  rw [stored', group_eq, hg] at hc ⊢
  exact (View.read_writes_apply_eq_canon _ _ _ _ hc).trans (View.read_writes_apply_eq_canon _ _ _ _ hc).symm

/-- A column of a grid point's block is a column of the argument. -/
theorem ctg_blk (t : Fin cfg0.N) (q : Fin 256) (b : Fin 2048) (hb : b.val = t.val * 256 + q.val) :
    ctg (iblk m c 0 t) q = column (m ((c : Thread nD τ).loc main_arg0)) b := by
  funext n
  unfold ctg column
  by_cases hn : n < 4096
  · rw [dif_pos hn, dif_pos hn]
    blk_simp [iblk]
    refine congrArg (m ((c : Thread nD τ).loc main_arg0)) ?_
    blk_ext [index0]
  · rw [dif_neg hn, dif_neg hn]

/-- A grid point's value is the pooling's. -/
theorem rowOf_eq (t : Fin cfg0.N) (g : Fin 4) (hg : t.val / 2 = g.val) (n : Fin 4096) (q : Fin 256) (b : Fin 2048) (hb : b.val = t.val * 256 + q.val) :
    rowOf g (ctg (iblk m c 0 t) q) n.val = at_ (m ((c : Thread nD τ).loc main_arg0)) n b := by
  have hq := q.isLt
  unfold rowOf at_
  rw [back_eq, ctg_blk m c t q b hb, show b.val / 512 = g.val by omega]
  refine congrArg₂ (fun a b : EReal => a - b) rfl ?_
  unfold column
  rw [dif_pos n.isLt]

/-- The two results. -/
def mixed : Buf (Elt Ideal) ((c : Thread nD τ).loc main_v0_0) := fun i => at_ (m ((c : Thread nD τ).loc main_arg0)) (i 0) (i 1)
def mixed' : Buf (Elt Ideal) ((c : Thread nD τ).loc main_v0_1) := fun i => at_ (m ((c : Thread nD τ).loc main_arg0)) (i 1) (i 0)

theorem final1 : (dats m 0 c).arrAt 1 cfg0.N = mixed m c := by
  refine (dats m 0 c).arrAt_eq_of_covers 1 _ (by decide +kernel) fun t hf y => ?_
  blk_simp
  rw [after0_1]
  have hN : t.val < 8 := t.isLt
  have e0 : ((win0_1.blk t).view.emb y 0).val = (y 0).val := by blk_simp [index1]
  have e1 : ((win0_1.blk t).view.emb y 1).val = t.val * 256 + (y 1).val := by blk_simp [index1]
  obtain ⟨n, q, rfl⟩ : ∃ (n : Fin 4096) (q : Fin 256), y = ix2 n q := ⟨y 0, y 1, by funext a; match a with | 0 => rfl | 1 => rfl⟩
  generalize (win0_1.blk t).view.emb (ix2 n q) = i at e0 e1 ⊢
  refine (out_apply m c t ⟨t.val / 2, by omega⟩ rfl n q).trans ((rowOf_eq m c t _ rfl n q (i 1) e1).trans ?_)
  exact congrArg (fun n => at_ (m ((c : Thread nD τ).loc main_arg0)) n (i 1)) (Fin.ext e0.symm)

theorem final2 : (dats m 0 c).arrAt 2 cfg0.N = mixed' m c := by
  refine (dats m 0 c).arrAt_eq_of_covers 2 _ (by decide +kernel) fun t hf y => ?_
  blk_simp
  rw [after0_2]
  have hN : t.val < 8 := t.isLt
  have e0 : ((win0_2.blk t).view.emb y 0).val = t.val * 256 + (y 0).val := by blk_simp [index2]
  have e1 : ((win0_2.blk t).view.emb y 1).val = (y 1).val := by blk_simp [index2]
  obtain ⟨q, n, rfl⟩ : ∃ (q : Fin 256) (n : Fin 4096), y = ix2 q n := ⟨y 0, y 1, by funext a; match a with | 0 => rfl | 1 => rfl⟩
  generalize (win0_2.blk t).view.emb (ix2 q n) = i at e0 e1 ⊢
  refine (out_apply' m c t ⟨t.val / 2, by omega⟩ rfl n q).trans ((rowOf_eq m c t _ rfl n q (i 0) e0).trans ?_)
  exact congrArg (fun n => at_ (m ((c : Thread nD τ).loc main_arg0)) n (i 0)) (Fin.ext e1.symm)

end Cert.Kernel31Ideal.Pool

namespace Cert.Proof

open Idealize.ShloMosaic TcCoe Idealize.SL.Sem StableHlo Tactic

theorem frame_Kernel31 : quiescent_Kernel31 := fun m ρ _ => Kernel31.Gen.frame m ρ

theorem frame_Kernel31Ideal : quiescent_Kernel31Ideal := fun m ρ _ => Kernel31Ideal.Gen.frame m ρ

theorem frame_Reference31Ideal : quiescent_Reference31Ideal := fun m ρ _ =>
  (θ_run _ _ _).mono (fun r h => ⟨fun c => (h c).2.2, sem_eq_zero_of_no_sems (by decide) r.2⟩)
    (Reference31Ideal.Value.run m ρ)

section
open Reference31Ideal Reference31Ideal.Gen

/-- The reference's first result, read at one place. -/
theorem ref31_at (x : Vec Ideal S4096x2048 .f32) (i : S4096x2048.Idx) :
    (truncf .bf16 (subf (F := Ideal) (shapeCast _ (Host.divf (transpose S4096x4x512 [2, 0, 1] (Host.dotGeneral (F := Ideal) (φ₁ := .f32) (φ₂ := .f32) dot_S4096x4x512_S4x4096x4096_S4x512x4096_0_2_2_1_1_0 none (shapeCast _ x shapeCasts_S4096x2048_S4096x4x512) (uitofp .f32 (andi (broadcastInDim S4x4096x4096 ![0, 1, 2] bcast_S1x4096x4096_S4x4096x4096_0_1_2 (broadcastInDim S1x4096x4096 ![1, 2] bcast_S4096x4096_S1x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) (cmpi .sgt (broadcastInDim S4x4096x4096 ![0, 1, 2] bcast_S1x1x4096_S4x4096x4096_0_1_2 (broadcastInDim S1x1x4096 ![1, 2] bcast_S1x4096_S1x1x4096_1_2 (broadcastInDim S1x4096 ![1] bcast_S4096_S1x4096_1 (iotaInDim S4096 32 0)))) (broadcastInDim S4x4096x4096 ![0, 1, 2] bcast_S4x4096x1_S4x4096x4096_0_1_2 (subi (broadcastInDim S4x4096x1 ![0, 1, 2] bcast_S1x4096x1_S4x4096x1_0_1_2 (broadcastInDim S1x4096x1 ![1, 2] bcast_S4096x1_S1x4096x1_1_2 (broadcastInDim S4096x1 ![0] bcast_S4096_S4096x1_0 (iotaInDim S4096 32 0)))) (broadcastInDim S4x4096x1 ![0, 1, 2] bcast_S4x1x1_S4x4096x1_0_1_2 (broadcastInDim S4x1x1 ![0] bcast_S4_S4x1x1_0 ((fun i => lit0 (S4.rowMajor i)) : IVec S4 32))))))))) transposes_S4x512x4096_S4096x4x512_2_0_1) (broadcastInDim S4096x4x512 ![0, 1, 2] bcast_S4096x4x1_S4096x4x512_0_1_2 (broadcastInDim S4096x4x1 ![0, 1] bcast_S4096x4_S4096x4x1_0_1 (sitofp .f32 (minsi (broadcastInDim S4096x4 ![0, 1] bcast_S4096x1_S4096x4_0_1 (addi (broadcastInDim S4096x1 ![0] bcast_S4096_S4096x1_0 (iotaInDim S4096 32 0)) (broadcastInDim S4096x1 ![] bcast_S_S4096x1 (constantI S_ 32 1#32)))) (broadcastInDim S4096x4 ![0, 1] bcast_S1x4_S4096x4_0_1 (broadcastInDim S1x4 ![1] bcast_S4_S1x4_1 ((fun i => lit0 (S4.rowMajor i)) : IVec S4 32)))))))) shapeCasts_S4096x4x512_S4096x2048) x) bitsLt_bf16_f32) i
      = Kernel31Ideal.Pool.at_ x (i 0) (i 1) := by
  pointwise
  have hb : (i 1).val < 2048 := (i 1).isLt
  have hs : (i 0).val < 4096 := (i 0).isLt
  have hl : ∀ g : Fin 4, lit0 (S4.rowMajor (ix1 g)) = BitVec.ofNat 32 (2 ^ (g.val + 1)) := by decide +kernel
  have hw : ∀ g : Fin 4, 2 ^ (g.val + 1) < 17 := by decide +kernel
  have hq : (i 1).val / 512 < 4 := by omega
  have hr := hl ⟨(i 1).val / 512, hq⟩
  have hW : 2 ^ ((i 1).val / 512 + 1) < 17 := hw ⟨(i 1).val / 512, hq⟩
  have hz := Kernel31Ideal.Pool.sum_before (2 ^ ((i 1).val / 512 + 1)) (i 0).val (by omega) hs (Kernel27Ideal.Pool.column x (i 1))
  unfold Kernel31Ideal.Pool.at_
  refine congrArg₂ (fun a b : EReal => a - b) (congrArg₂ Ideal.div ((Finset.sum_congr rfl fun n _ => ?_).trans hz) ?_) (congrArg x ?_)
  · have hn : n.val < 4096 := n.isLt
    refine congrArg₂ (fun a b : EReal => a * b) ?_ ?_
    · unfold Kernel27Ideal.Pool.column
      rw [dif_pos hn]
    · rw [← Kernel27Ideal.Pool.inside_word _ _ _ hW hn hs]
      exact congrArg (fun b => (FloatOps.uitofp (F := Ideal) .f32 (IntOp.andi (IntOp.cmpi .sle (BitVec.ofNat 32 n.val) (BitVec.ofNat 32 (i 0).val))
        (IntOp.cmpi .sgt (BitVec.ofNat 32 n.val) (IntOp.subi (BitVec.ofNat 32 (i 0).val) b))))) hr
  · rw [← Kernel27Ideal.Pool.count_word _ _ hW hs]
    exact congrArg (fun b => (FloatOps.sitofp (F := Ideal) .f32 (IntOp.minsi (IntOp.addi (BitVec.ofNat 32 (i 0).val) 1#32) b))) hr
  · funext a
    match a with
    | 0 => rfl
    | 1 => rfl

/-- A transpose, read at one place. -/
theorem transposed31 (v : Vec Ideal S4096x2048 .bf16) (i : S2048x4096.Idx) :
    transpose S2048x4096 [1, 0] v transposes_S4096x2048_S2048x4096_1_0 i = v (ix2 (i 1) (i 0)) := by
  pointwise

end

theorem value_Kernel31Ideal : algebraic_Kernel31Ideal_Reference31Ideal := by
  intro m ρ m' ρ' _ hag
  refine ⟨Kernel31Ideal.Pool.mixed m, Kernel31Ideal.Pool.mixed' m, ?_, ?_⟩
  · exact (θ_run _ _ _).mono (fun _ h c => ⟨(h c).1.trans (Kernel31Ideal.Pool.final1 m c),
      (h c).2.1.trans (Kernel31Ideal.Pool.final2 m c), (h c).2.2⟩) (Kernel31Ideal.Value.run_blocks m ρ)
  · refine (θ_run _ _ _).mono (fun _ h c => ⟨(h c).1.trans ?_, (h c).2.1.trans ?_, (h c).2.2⟩) (Reference31Ideal.Value.run m' ρ')
    · have h0 := hag c
      rw [h0]
      funext i
      exact ref31_at _ i
    · have h0 := hag c
      rw [h0]
      funext i
      exact (transposed31 _ i).trans (ref31_at _ (ix2 (i 1) (i 0)))

end Cert.Proof

end
-- ==== Proof.Scale.lean ====
module
public import proofs.«01_k».proof.Proof.Gen.Kernel32.Frame
public import proofs.«01_k».proof.Proof.Gen.Kernel32Ideal.Value
public import proofs.«01_k».proof.Proof.Gen.Reference32Ideal.Run
public import proofs.«01_k».proof.Proof.Lib
@[expose] public section
set_option maxRecDepth 16384
noncomputable section
set_option maxHeartbeats 4000000

/-! # The gradient through the pooling layer's scale

The kernel multiplies blocks of 256 rows by the scale, adds up the rows of the product with the scaled value's
argument, and accumulates these sums over the blocks. -/

namespace Cert.Kernel32Ideal.Scale

open Idealize.ShloMosaic TcCoe Tactic
open Cert.Kernel32Ideal.Gen

variable (m : (ℓ : Loc nD τ sig) → Buf (Elt Ideal) ℓ) (c : Dev nD)

/-- The sum of the rows of a product of blocks, at one place. -/
def part (x y : Vec Ideal S256x2048 .f32) (j : S1x2048.Idx) : EReal :=
  ∑ k : Fin 256, (show EReal from x (ix2 k (j 1))) * (show EReal from y (ix2 k (j 1)))

theorem pay1_apply (x : Vec Ideal S256x2048 .f32) (v : Vec Ideal S1x2048 .f32) (j : S256x2048.Idx) :
    k0_pay1 x v j = (show EReal from x j) * (show EReal from v (ix2 0 (j 1))) := by
  unfold k0_pay1
  pointwise

theorem pay2_apply (x y : Vec Ideal S256x2048 .f32) (j : S1x2048.Idx) : k0_pay2 x y j = part x y j := by
  unfold k0_pay2 part
  pointwise

theorem pay3_apply (x y : Vec Ideal S256x2048 .f32) (v : Vec Ideal S1x2048 .f32) (j : S1x2048.Idx) :
    k0_pay3 x y v j = (show EReal from v j) + part x y j := by
  unfold k0_pay3 k0_pay2 part
  pointwise

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)

theorem acc_first (t : Fin cfg0.N) (h : t.val % 16 = 0) (j : S1x2048.Idx) :
    (outsAt0 m c t.val t.isLt).2 j = (0 : EReal) + part (iblk m c 0 t) (iblk m c 1 t) j := by
  have hN : t.val < 16 := t.isLt
  rw [outsAt0_A m c t h (by omega)]
  frame_out
  rw [pay2_apply, zero_add]

theorem acc_next (t : Fin cfg0.N) (h : ¬ t.val % 16 = 0) (j : S1x2048.Idx) :
    (outsAt0 m c t.val t.isLt).2 j
      = (show EReal from (outsAt0 m c (t.val - 1) (Nat.lt_of_le_of_lt (Nat.sub_le _ _) t.isLt)).2 j) + part (iblk m c 0 t) (iblk m c 1 t) j := by
  rw [outsAt0_B m c t h (by omega)]
  frame_out
  rw [pay3_apply]

theorem out_apply (t : Fin cfg0.N) (j : S256x2048.Idx) :
    (outsAt0 m c t.val t.isLt).1 j = (show EReal from iblk m c 0 t j) * (show EReal from iblk m c 2 t (ix2 0 (j 1))) := by
  have hN : t.val < 16 := t.isLt
  by_cases h : t.val % 16 = 0
  · rw [outsAt0_A m c t h (by omega)]
    frame_out
    rw [pay1_apply]
  · rw [outsAt0_B m c t h (by omega)]
    frame_out
    rw [pay1_apply]

/-- The blocks' entries, read from the arguments they are cut from. -/
theorem grad_blk (t : Fin cfg0.N) (j : S256x2048.Idx) (i : S4096x2048.Idx) (h0 : (i 0).val = t.val * 256 + (j 0).val) (h1 : (i 1).val = (j 1).val) :
    iblk m c 0 t j = m ((c : Thread nD τ).loc main_arg0) i := by
  blk_simp [iblk]
  refine congrArg (m ((c : Thread nD τ).loc main_arg0)) ?_
  blk_ext [index0]
theorem value_blk (t : Fin cfg0.N) (j : S256x2048.Idx) (i : S4096x2048.Idx) (h0 : (i 0).val = t.val * 256 + (j 0).val) (h1 : (i 1).val = (j 1).val) :
    iblk m c 1 t j = m ((c : Thread nD τ).loc main_arg1) i := by
  blk_simp [iblk]
  refine congrArg (m ((c : Thread nD τ).loc main_arg1)) ?_
  blk_ext [index1]
theorem scale_blk (t : Fin cfg0.N) (q a : Fin 2048) (ha : a.val = q.val) : iblk m c 2 t (ix2 0 q) = m ((c : Thread nD τ).loc main_arg2) (ix1 a) := by
  blk_simp [iblk]
  entry_read
  pointwise
  refine congrArg (m ((c : Thread nD τ).loc main_arg2)) ?_
  blk_ext [index2]

/-- The two results. -/
def scaled : Buf (Elt Ideal) ((c : Thread nD τ).loc main_v1_0) := fun i =>
  (show EReal from m ((c : Thread nD τ).loc main_arg0) i) * (show EReal from m ((c : Thread nD τ).loc main_arg2) (ix1 (i 1)))
def total : Buf (Elt Ideal) ((c : Thread nD τ).loc main_v1_1) := fun i =>
  show EReal from ∑ n : Fin 4096, (show EReal from m ((c : Thread nD τ).loc main_arg0) (ix2 n (i 1))) * (show EReal from m ((c : Thread nD τ).loc main_arg1) (ix2 n (i 1)))

theorem final3 : (dats m 0 c).arrAt 3 cfg0.N = scaled m c := by
  refine (dats m 0 c).arrAt_eq_of_covers 3 _ (by decide +kernel) fun t hf y => ?_
  blk_simp
  rw [after0_3]
  have e0 : ((win0_3.blk t).view.emb y 0).val = t.val * 256 + (y 0).val := by blk_simp [index3]
  have e1 : ((win0_3.blk t).view.emb y 1).val = (y 1).val := by blk_simp [index3]
  generalize (win0_3.blk t).view.emb y = i at e0 e1 ⊢
  refine (out_apply m c t y).trans ?_
  exact congrArg₂ (fun a b : EReal => a * b) (grad_blk m c t y i e0 e1) (scale_blk m c t (y 1) (i 1) e1)

theorem final4 : (dats m 0 c).arrAt 4 cfg0.N = total m c := by
  refine (dats m 0 c).arrAt_eq_of_covers 4 _ (by decide +kernel) fun t hf y => ?_
  blk_simp
  rw [after0_4]
  have hN : t.val < 16 := t.isLt
  have e1 : ((win0_4.blk t).view.emb y 1).val = (y 1).val := by blk_simp [index4]
  have ht : t.val % 16 = 15 := (flush0_4 t).mp hf
  generalize (win0_4.blk t).view.emb y = i at e1 ⊢
  rw [Pipeline.eq_sum_fin_of_reset_step_apply_of_flush (fun n h => (outsAt0 m c n h).2) 16 (fun _ => (0 : EReal))
    (fun p => part (iblk m c 0 p) (iblk m c 1 p)) (acc_first m c) (acc_next m c) t ht y, zero_add]
  refine Fin.sum_mul_add_congr fun s k hl => ?_
  have hs : s.val * 256 + k.val = (16 * (t.val / 16) + s.val) * 256 + k.val := by omega
  exact congrArg₂ (fun a b : EReal => a * b) (grad_blk m c _ (ix2 k (y 1)) (ix2 _ (i 1)) hs e1) (value_blk m c _ (ix2 k (y 1)) (ix2 _ (i 1)) hs e1)

end Cert.Kernel32Ideal.Scale

namespace Cert.Proof

open Idealize.ShloMosaic TcCoe Idealize.SL.Sem StableHlo Tactic

theorem frame_Kernel32 : quiescent_Kernel32 := fun m ρ _ => Kernel32.Gen.frame m ρ

theorem frame_Kernel32Ideal : quiescent_Kernel32Ideal := fun m ρ _ => Kernel32Ideal.Gen.frame m ρ

theorem frame_Reference32Ideal : quiescent_Reference32Ideal := fun m ρ _ =>
  (θ_run _ _ _).mono (fun r h => ⟨fun c => (h c).2.2, sem_eq_zero_of_no_sems (by decide) r.2⟩)
    (Reference32Ideal.Value.run m ρ)

section
open Reference32Ideal Reference32Ideal.Gen

/-- The reference's results, read at one place. -/
theorem ref32_at (x : Vec Ideal S4096x2048 .f32) (s : Vec Ideal S2048 .f32) (i : S4096x2048.Idx) :
    (truncf .bf16 (mulf x (broadcastInDim S4096x2048 ![0, 1] bcast_S1x2048_S4096x2048_0_1 (broadcastInDim S1x2048 ![1] bcast_S2048_S1x2048_1 s))) bitsLt_bf16_f32 : FVec Ideal S4096x2048 .bf16) i
      = (show EReal from x i) * (show EReal from s (ix1 (i 1))) := by
  pointwise
theorem ref32_at' (x y : Vec Ideal S4096x2048 .f32) (i : S1x2048.Idx) :
    (shapeCast _ (Host.reduceAdd (shapeCast _ (Host.reduceAdd (mulf y x) (constant S_ .f32 0x00000000#32) reducesTo_S4096x2048_S2048_d0 h_S_) shapeCasts_S2048_S1x2048) (constant S_ .f32 0x00000000#32) reducesTo_S1x2048_S2048_d0 h_S_) shapeCasts_S2048_S1x2048 : FVec Ideal S1x2048 .f32) i
      = ∑ n : Fin 4096, (show EReal from x (ix2 n (i 1))) * (show EReal from y (ix2 n (i 1))) := by
  pointwise
  refine (Fin.sum_univ_one _).trans (Finset.sum_congr rfl fun n _ => ?_)
  exact mul_comm (G := EReal) _ _

end

theorem value_Kernel32Ideal : algebraic_Kernel32Ideal_Reference32Ideal := by
  intro m ρ m' ρ' _ hag
  refine ⟨Kernel32Ideal.Scale.scaled m, Kernel32Ideal.Scale.total m, ?_, ?_⟩
  · exact (θ_run _ _ _).mono (fun _ h c => ⟨(h c).1.trans (Kernel32Ideal.Scale.final3 m c),
      (h c).2.1.trans (Kernel32Ideal.Scale.final4 m c), (h c).2.2⟩) (Kernel32Ideal.Value.run_blocks m ρ)
  · refine (θ_run _ _ _).mono (fun _ h c => ⟨(h c).1.trans ?_, (h c).2.1.trans ?_, (h c).2.2⟩) (Reference32Ideal.Value.run m' ρ')
    · obtain ⟨h0, h1, h2⟩ := hag c
      rw [h0, h2]
      funext i
      exact ref32_at _ _ i
    · obtain ⟨h0, h1, h2⟩ := hag c
      rw [h0, h1]
      funext i
      exact ref32_at' _ _ i

end Cert.Proof

end
-- ==== Proof.Rows.lean ====
module
public import proofs.«01_k».proof.Proof.Gen.Kernel33.Frame
public import proofs.«01_k».proof.Proof.Gen.Kernel33Ideal.Value
public import proofs.«01_k».proof.Proof.Gen.Reference33Ideal.Run
public import proofs.«01_k».proof.Proof.Lib
@[expose] public section
set_option maxRecDepth 16384
noncomputable section
set_option maxHeartbeats 4000000

/-! # The sum of a gradient's rows

The kernel adds up the rows of each block of 256 and accumulates the sums over the blocks. -/

namespace Cert.Kernel33Ideal.Rows

open Idealize.ShloMosaic TcCoe Tactic
open Cert.Kernel33Ideal.Gen

variable (m : (ℓ : Loc nD τ sig) → Buf (Elt Ideal) ℓ) (c : Dev nD)

/-- The sum of a block's rows, at one place. -/
def part (x : Vec Ideal S256x2048 .f32) (j : S1x2048.Idx) : EReal := ∑ k : Fin 256, (show EReal from x (ix2 k (j 1)))

theorem pay1_apply (x : Vec Ideal S256x2048 .f32) (j : S1x2048.Idx) : k0_pay1 x j = part x j := by
  unfold k0_pay1 part
  pointwise

theorem pay2_apply (x : Vec Ideal S256x2048 .f32) (v : Vec Ideal S1x2048 .f32) (j : S1x2048.Idx) :
    k0_pay2 x v j = (show EReal from v j) + part x j := by
  unfold k0_pay2 k0_pay1 part
  pointwise

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)

theorem acc_first (t : Fin cfg0.N) (h : t.val % 16 = 0) (j : S1x2048.Idx) :
    outsAt0 m c t.val t.isLt j = (0 : EReal) + part (iblk m c 0 t) j := by
  have hN : t.val < 16 := t.isLt
  rw [outsAt0_A m c t h (by omega)]
  frame_out
  rw [pay1_apply, zero_add]

theorem acc_next (t : Fin cfg0.N) (h : ¬ t.val % 16 = 0) (j : S1x2048.Idx) :
    outsAt0 m c t.val t.isLt j
      = (show EReal from outsAt0 m c (t.val - 1) (Nat.lt_of_le_of_lt (Nat.sub_le _ _) t.isLt) j) + part (iblk m c 0 t) j := by
  rw [outsAt0_B m c t h (by omega)]
  frame_out
  rw [pay2_apply]

/-- A block's entry, read from the argument it is cut from. -/
theorem row_blk (t : Fin cfg0.N) (r : Fin 256) (q : Fin 2048) (a : Fin 4096) (ha : a.val = t.val * 256 + r.val) :
    iblk m c 0 t (ix2 r q) = m ((c : Thread nD τ).loc main_arg0) (ix2 a q) := by
  blk_simp [iblk]
  refine congrArg (m ((c : Thread nD τ).loc main_arg0)) ?_
  blk_ext [index0]

/-- The sum over all the rows. -/
def total : Buf (Elt Ideal) ((c : Thread nD τ).loc main_v0) := fun i =>
  show EReal from ∑ n : Fin 4096, (show EReal from m ((c : Thread nD τ).loc main_arg0) (ix2 n (i 1)))

theorem final1 : (dats m 0 c).arrAt 1 cfg0.N = total m c := by
  refine (dats m 0 c).arrAt_eq_of_covers 1 _ (by decide +kernel) fun t hf y => ?_
  blk_simp
  rw [after0_1]
  have hN : t.val < 16 := t.isLt
  have e1 : ((win0_1.blk t).view.emb y 1).val = (y 1).val := by blk_simp [index1]
  have ht : t.val % 16 = 15 := (flush0_1 t).mp hf
  generalize (win0_1.blk t).view.emb y = i at e1 ⊢
  rw [Pipeline.eq_sum_fin_of_reset_step_apply_of_flush (outsAt0 m c) 16 (fun _ => (0 : EReal))
    (fun p => part (iblk m c 0 p)) (acc_first m c) (acc_next m c) t ht y, zero_add]
  refine Fin.sum_mul_add_congr fun s k hl => ?_
  have hq : y 1 = i 1 := Fin.ext e1.symm
  show (show EReal from iblk m c 0 _ (ix2 k (y 1))) = _
  rw [hq]
  exact row_blk m c _ k (i 1) _ (by show s.val * 256 + k.val = (16 * (t.val / 16) + s.val) * 256 + k.val; omega)

end Cert.Kernel33Ideal.Rows

namespace Cert.Proof

open Idealize.ShloMosaic TcCoe Idealize.SL.Sem StableHlo Tactic

theorem frame_Kernel33 : quiescent_Kernel33 := fun m ρ _ => Kernel33.Gen.frame m ρ

theorem frame_Kernel33Ideal : quiescent_Kernel33Ideal := fun m ρ _ => Kernel33Ideal.Gen.frame m ρ

theorem frame_Reference33Ideal : quiescent_Reference33Ideal := fun m ρ _ =>
  (θ_run _ _ _).mono (fun r h => ⟨fun c => (h c).2, sem_eq_zero_of_no_sems (by decide) r.2⟩)
    (Reference33Ideal.Value.run m ρ)

section
open Reference33Ideal Reference33Ideal.Gen

/-- The reference's result, read at one place. -/
theorem ref33_at (x : Vec Ideal S4096x2048 .f32) (i : S1x2048.Idx) :
    (shapeCast _ (Host.reduceAdd (shapeCast _ (Host.reduceAdd x (constant S_ .f32 0x00000000#32) reducesTo_S4096x2048_S2048_d0 h_S_) shapeCasts_S2048_S1x2048) (constant S_ .f32 0x00000000#32) reducesTo_S1x2048_S2048_d0 h_S_) shapeCasts_S2048_S1x2048 : FVec Ideal S1x2048 .f32) i
      = ∑ n : Fin 4096, (show EReal from x (ix2 n (i 1))) := by
  pointwise
  exact Fin.sum_univ_one _

end

theorem value_Kernel33Ideal : algebraic_Kernel33Ideal_Reference33Ideal := by
  intro m ρ m' ρ' _ hag
  refine ⟨Kernel33Ideal.Rows.total m, ?_, ?_⟩
  · exact (θ_run _ _ _).mono (fun _ h c => ⟨(h c).1.trans (Kernel33Ideal.Rows.final1 m c), (h c).2⟩) (Kernel33Ideal.Value.run_blocks m ρ)
  · refine (θ_run _ _ _).mono (fun _ h c => ⟨(h c).1.trans ?_, (h c).2⟩) (Reference33Ideal.Value.run m' ρ')
    have h0 := hag c
    rw [h0]
    funext i
    exact ref33_at _ i

end Cert.Proof

end
-- ==== Proof.Loss.lean ====
module
public import proofs.«01_k».proof.Proof.Gen.Kernel34.Frame
public import proofs.«01_k».proof.Proof.Gen.Kernel34Ideal.Value
public import proofs.«01_k».proof.Proof.Gen.Reference34Ideal.Run
public import proofs.«01_k».proof.Proof.Lib
@[expose] public section
set_option maxRecDepth 16384
noncomputable section
set_option maxHeartbeats 4000000

/-! # The loss head

The kernel subtracts blocks of 256 rows, stores the difference over the width in both precisions, adds up the rows
of its square and accumulates these sums over the blocks. -/

namespace Cert.Kernel34Ideal.Loss

open Idealize.ShloMosaic TcCoe Tactic
open Cert.Kernel34Ideal.Gen

variable (m : (ℓ : Loc nD τ sig) → Buf (Elt Ideal) ℓ) (c : Dev nD)

/-- A difference over the width. -/
def slope (a b : EReal) : EReal := (a - b) * Ideal.ofBits FTy.f32 973078528#32

/-- The square of a difference. -/
def square (a b : EReal) : EReal := (a - b) * (a - b)

/-- The sum of the rows' squares, at one place. -/
def part (x y : Vec Ideal S256x2048 .f32) (j : S1x2048.Idx) : EReal := ∑ k : Fin 256, square (x (ix2 k (j 1))) (y (ix2 k (j 1)))

theorem pay2_apply (x y : Vec Ideal S256x2048 .f32) (j : S256x2048.Idx) : k0_pay2 x y j = slope (x j) (y j) := by
  unfold k0_pay2 k0_pay1 slope
  pointwise

theorem pay3_apply (x y : Vec Ideal S256x2048 .f32) (j : S256x2048.Idx) : k0_pay3 x y j = slope (x j) (y j) := by
  unfold k0_pay3 k0_pay2 k0_pay1 slope
  pointwise

theorem pay4_apply (x y : Vec Ideal S256x2048 .f32) (j : S1x2048.Idx) : k0_pay4 x y j = part x y j := by
  unfold k0_pay4 k0_pay1 part square
  pointwise

theorem pay5_apply (x y : Vec Ideal S256x2048 .f32) (v : Vec Ideal S1x2048 .f32) (j : S1x2048.Idx) :
    k0_pay5 x y v j = (show EReal from v j) + part x y j := by
  unfold k0_pay5 k0_pay4 k0_pay1 part square
  pointwise

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)

theorem acc_first (t : Fin cfg0.N) (h : t.val % 16 = 0) (j : S1x2048.Idx) :
    (outsAt0 m c t.val t.isLt).2.2 j = (0 : EReal) + part (iblk m c 0 t) (iblk m c 1 t) j := by
  have hN : t.val < 16 := t.isLt
  rw [outsAt0_A m c t h (by omega)]
  frame_out
  rw [pay4_apply, zero_add]

theorem acc_next (t : Fin cfg0.N) (h : ¬ t.val % 16 = 0) (j : S1x2048.Idx) :
    (outsAt0 m c t.val t.isLt).2.2 j
      = (show EReal from (outsAt0 m c (t.val - 1) (Nat.lt_of_le_of_lt (Nat.sub_le _ _) t.isLt)).2.2 j) + part (iblk m c 0 t) (iblk m c 1 t) j := by
  rw [outsAt0_B m c t h (by omega)]
  frame_out
  rw [pay5_apply]

theorem out_apply (t : Fin cfg0.N) (j : S256x2048.Idx) :
    (outsAt0 m c t.val t.isLt).1 j = slope (iblk m c 0 t j) (iblk m c 1 t j) := by
  have hN : t.val < 16 := t.isLt
  by_cases h : t.val % 16 = 0
  · rw [outsAt0_A m c t h (by omega)]
    frame_out
    rw [pay2_apply]
  · rw [outsAt0_B m c t h (by omega)]
    frame_out
    rw [pay2_apply]

theorem out_apply' (t : Fin cfg0.N) (j : S256x2048.Idx) :
    (outsAt0 m c t.val t.isLt).2.1 j = slope (iblk m c 0 t j) (iblk m c 1 t j) := by
  have hN : t.val < 16 := t.isLt
  by_cases h : t.val % 16 = 0
  · rw [outsAt0_A m c t h (by omega)]
    frame_out
    rw [pay3_apply]
  · rw [outsAt0_B m c t h (by omega)]
    frame_out
    rw [pay3_apply]

/-- The blocks' entries, read from the arguments they are cut from. -/
theorem value_blk (t : Fin cfg0.N) (j : S256x2048.Idx) (i : S4096x2048.Idx) (h0 : (i 0).val = t.val * 256 + (j 0).val) (h1 : (i 1).val = (j 1).val) :
    iblk m c 0 t j = m ((c : Thread nD τ).loc main_arg0) i := by
  blk_simp [iblk]
  refine congrArg (m ((c : Thread nD τ).loc main_arg0)) ?_
  blk_ext [index0]
theorem target_blk (t : Fin cfg0.N) (j : S256x2048.Idx) (i : S4096x2048.Idx) (h0 : (i 0).val = t.val * 256 + (j 0).val) (h1 : (i 1).val = (j 1).val) :
    iblk m c 1 t j = m ((c : Thread nD τ).loc main_arg1) i := by
  blk_simp [iblk]
  refine congrArg (m ((c : Thread nD τ).loc main_arg1)) ?_
  blk_ext [index1]

/-- The three results. -/
def grad : Buf (Elt Ideal) ((c : Thread nD τ).loc main_v0_0) := fun i =>
  slope (m ((c : Thread nD τ).loc main_arg0) i) (m ((c : Thread nD τ).loc main_arg1) i)
def grad' : Buf (Elt Ideal) ((c : Thread nD τ).loc main_v0_1) := fun i =>
  slope (m ((c : Thread nD τ).loc main_arg0) i) (m ((c : Thread nD τ).loc main_arg1) i)
def total : Buf (Elt Ideal) ((c : Thread nD τ).loc main_v0_2) := fun i =>
  show EReal from ∑ n : Fin 4096, square (m ((c : Thread nD τ).loc main_arg0) (ix2 n (i 1))) (m ((c : Thread nD τ).loc main_arg1) (ix2 n (i 1)))

theorem final2 : (dats m 0 c).arrAt 2 cfg0.N = grad m c := by
  refine (dats m 0 c).arrAt_eq_of_covers 2 _ (by decide +kernel) fun t hf y => ?_
  blk_simp
  rw [after0_2]
  have e0 : ((win0_2.blk t).view.emb y 0).val = t.val * 256 + (y 0).val := by blk_simp [index2]
  have e1 : ((win0_2.blk t).view.emb y 1).val = (y 1).val := by blk_simp [index2]
  generalize (win0_2.blk t).view.emb y = i at e0 e1 ⊢
  exact (out_apply m c t y).trans (congrArg₂ slope (value_blk m c t y i e0 e1) (target_blk m c t y i e0 e1))

theorem final3 : (dats m 0 c).arrAt 3 cfg0.N = grad' m c := by
  refine (dats m 0 c).arrAt_eq_of_covers 3 _ (by decide +kernel) fun t hf y => ?_
  blk_simp
  rw [after0_3]
  have e0 : ((win0_3.blk t).view.emb y 0).val = t.val * 256 + (y 0).val := by blk_simp [index3]
  have e1 : ((win0_3.blk t).view.emb y 1).val = (y 1).val := by blk_simp [index3]
  generalize (win0_3.blk t).view.emb y = i at e0 e1 ⊢
  exact (out_apply' m c t y).trans (congrArg₂ slope (value_blk m c t y i e0 e1) (target_blk m c t y i e0 e1))

theorem final4 : (dats m 0 c).arrAt 4 cfg0.N = total m c := by
  refine (dats m 0 c).arrAt_eq_of_covers 4 _ (by decide +kernel) fun t hf y => ?_
  blk_simp
  rw [after0_4]
  have hN : t.val < 16 := t.isLt
  have e1 : ((win0_4.blk t).view.emb y 1).val = (y 1).val := by blk_simp [index4]
  have ht : t.val % 16 = 15 := (flush0_4 t).mp hf
  generalize (win0_4.blk t).view.emb y = i at e1 ⊢
  rw [Pipeline.eq_sum_fin_of_reset_step_apply_of_flush (fun n h => (outsAt0 m c n h).2.2) 16 (fun _ => (0 : EReal))
    (fun p => part (iblk m c 0 p) (iblk m c 1 p)) (acc_first m c) (acc_next m c) t ht y, zero_add]
  refine Fin.sum_mul_add_congr fun s k hl => ?_
  have hs : s.val * 256 + k.val = (16 * (t.val / 16) + s.val) * 256 + k.val := by omega
  exact congrArg₂ square (value_blk m c _ (ix2 k (y 1)) (ix2 _ (i 1)) hs e1) (target_blk m c _ (ix2 k (y 1)) (ix2 _ (i 1)) hs e1)

end Cert.Kernel34Ideal.Loss

namespace Cert.Proof

open Idealize.ShloMosaic TcCoe Idealize.SL.Sem StableHlo Tactic

theorem frame_Kernel34 : quiescent_Kernel34 := fun m ρ _ => Kernel34.Gen.frame m ρ

theorem frame_Kernel34Ideal : quiescent_Kernel34Ideal := fun m ρ _ => Kernel34Ideal.Gen.frame m ρ

theorem frame_Reference34Ideal : quiescent_Reference34Ideal := fun m ρ _ =>
  (θ_run _ _ _).mono (fun r h => ⟨fun c => (h c).2.2.2, sem_eq_zero_of_no_sems (by decide) r.2⟩)
    (Reference34Ideal.Value.run m ρ)

section
open Reference34Ideal Reference34Ideal.Gen

/-- The reference's first result, read at one place: half of twice the difference, over the width. -/
theorem ref34_at (x y : Vec Ideal S4096x2048 .f32) (i : S4096x2048.Idx) :
    (mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (subf x y)) : FVec Ideal S4096x2048 .f32) i
      = Kernel34Ideal.Loss.slope (x i) (y i) := by
  unfold Kernel34Ideal.Loss.slope
  pointwise
  have h1 : Ideal.ofBits FTy.f32 1056964608#32 = ((1 / 2 : ℝ) : EReal) := by
    simp [Ideal.ofBits, Ideal.ieee, -EReal.coe_mul]; norm_num
  have h2 : Ideal.ofBits FTy.f32 1157627904#32 = ((2048 : ℝ) : EReal) := by
    simp [Ideal.ofBits, Ideal.ieee, -EReal.coe_mul]; norm_num
  have h3 : Ideal.ofBits FTy.f32 1073741824#32 = ((2 : ℝ) : EReal) := by
    simp [Ideal.ofBits, Ideal.ieee, -EReal.coe_mul]; norm_num
  have h4 : Ideal.ofBits FTy.f32 973078528#32 = ((1 / 2048 : ℝ) : EReal) := by
    simp [Ideal.ofBits, Ideal.ieee, -EReal.coe_mul]; norm_num
  have h5 : Ideal.div ((1 / 2 : ℝ) : EReal) ((2048 : ℝ) : EReal) * ((2 : ℝ) : EReal) = ((1 / 2048 : ℝ) : EReal) := by
    unfold Ideal.div
    rw [if_neg (by exact_mod_cast (by norm_num : (2048 : ℝ) ≠ 0)), ← EReal.coe_inv, ← EReal.coe_mul, ← EReal.coe_mul]
    norm_num
  rw [h1, h2, h3, h4, ← mul_assoc (G := EReal), h5, mul_comm (G := EReal)]

/-- A rounding, which keeps the value. -/
theorem rounded34 (v : Vec Ideal S4096x2048 .f32) (i : S4096x2048.Idx) : (truncf .bf16 v bitsLt_bf16_f32 : FVec Ideal S4096x2048 .bf16) i = v i := by
  pointwise

theorem ref34_at' (x y : Vec Ideal S4096x2048 .f32) (i : S1x2048.Idx) :
    (shapeCast _ (Host.reduceAdd (mulf (subf x y) (subf x y)) (constant S_ .f32 0x00000000#32) reducesTo_S4096x2048_S2048_d0 h_S_) shapeCasts_S2048_S1x2048 : FVec Ideal S1x2048 .f32) i
      = ∑ n : Fin 4096, Kernel34Ideal.Loss.square (x (ix2 n (i 1))) (y (ix2 n (i 1))) := by
  unfold Kernel34Ideal.Loss.square
  pointwise

end

theorem value_Kernel34Ideal : algebraic_Kernel34Ideal_Reference34Ideal := by
  intro m ρ m' ρ' _ hag
  refine ⟨Kernel34Ideal.Loss.grad m, Kernel34Ideal.Loss.grad' m, Kernel34Ideal.Loss.total m, ?_, ?_⟩
  · exact (θ_run _ _ _).mono (fun _ h c => ⟨(h c).1.trans (Kernel34Ideal.Loss.final2 m c),
      (h c).2.1.trans (Kernel34Ideal.Loss.final3 m c), (h c).2.2.1.trans (Kernel34Ideal.Loss.final4 m c), (h c).2.2.2⟩) (Kernel34Ideal.Value.run_blocks m ρ)
  · refine (θ_run _ _ _).mono (fun _ h c => ⟨(h c).1.trans ?_, (h c).2.1.trans ?_, (h c).2.2.1.trans ?_, (h c).2.2.2⟩) (Reference34Ideal.Value.run m' ρ')
    · obtain ⟨h0, h1⟩ := hag c
      rw [h0, h1]
      funext i
      exact ref34_at _ _ i
    · obtain ⟨h0, h1⟩ := hag c
      rw [h0, h1]
      funext i
      exact (rounded34 _ i).trans (ref34_at _ _ i)
    · obtain ⟨h0, h1⟩ := hag c
      rw [h0, h1]
      funext i
      exact ref34_at' _ _ i

end Cert.Proof

end
-- ==== Proof.NormRow.lean ====
module
public import Idealize.ShloMosaic.Lib.ValueIdx
public import Idealize.ShloMosaic.Lib.Pointwise
public import Idealize.ShloMosaic.Lib.Pipeline.ValueKit
@[expose] public section
noncomputable section

/-! # The norms of one row, as functions of the row

A row is a function of the column; the mean, the scale and the shift follow the formulas of both programs. -/

namespace Cert.NormRow

open Idealize.ShloMosaic

/-- The mean of a row. -/
def mean (f : Fin 2048 → EReal) : EReal := Ideal.div (∑ k, f k) (Ideal.ofBits FTy.f32 1157627904#32)

/-- The reciprocal root of the mean square of a row, with the small constant added. -/
def scale (f : Fin 2048 → EReal) : EReal := Ideal.rsqrt (mean (fun k => f k * f k) + Ideal.ofBits FTy.f32 897988541#32)

/-- The row divided by its root mean square, times a gain. -/
def rms (f g : Fin 2048 → EReal) (q : Fin 2048) : EReal := f q * scale f * g q

/-- The row less its mean. -/
def centred (f : Fin 2048 → EReal) (q : Fin 2048) : EReal := f q - mean f

/-- The layer norm of a row, with gain and shift. -/
def layer (f g b : Fin 2048 → EReal) (q : Fin 2048) : EReal := centred f q * scale (centred f) * g q + b q

/-- The logistic function. -/
def logistic (x : EReal) : EReal := Ideal.div 1 (1 + Ideal.exp (-x))

/-- The layer norm of a row, times its logistic function. -/
def gated (f g b : Fin 2048 → EReal) (q : Fin 2048) : EReal := layer f g b q * logistic (layer f g b q)

end Cert.NormRow

end
-- ==== Proof.NormT.lean ====
module
public import proofs.«01_k».proof.Proof.Gen.Kernel35.Frame
public import proofs.«01_k».proof.Proof.Gen.Kernel35Ideal.Value
public import proofs.«01_k».proof.Proof.Gen.Reference35Ideal.Run
public import proofs.«01_k».proof.Proof.NormRow
public import proofs.«01_k».proof.Proof.Lib
@[expose] public section
set_option maxRecDepth 16384
noncomputable section
set_option maxHeartbeats 4000000

/-! # The root-mean-square norm, in half precision and transposed

The kernel normalises blocks of 256 rows, stores each block and its transpose; each row depends on that row of the argument
alone. -/

namespace Cert.Kernel35Ideal.Norm

open Idealize.ShloMosaic TcCoe Tactic
open Cert.Kernel35Ideal.Gen

variable (m : (ℓ : Loc nD τ sig) → Buf (Elt Ideal) ℓ) (c : Dev nD)

/-- The value of a block, at one place. -/
theorem body_at (x : Vec Ideal S256x2048 .f32) (g : Vec Ideal S1x2048 .f32) (j : S256x2048.Idx) :
    k0_pay1 (F := Ideal) x g j = NormRow.rms (fun k => x (ix2 (j 0) k)) (fun k => g (ix2 0 k)) (j 1) := by
  unfold k0_pay1 NormRow.rms NormRow.scale NormRow.mean
  pointwise

theorem out_apply (x : Vec Ideal S256x2048 .f32) (g : Vec Ideal S1x2048 .f32) (j : S256x2048.Idx) :
    out0_2 x g j = NormRow.rms (fun k => x (ix2 (j 0) k)) (fun k => g (ix2 0 k)) (j 1) := by
  frame_out
  exact body_at x g j

theorem out_apply' (x : Vec Ideal S256x2048 .f32) (g : Vec Ideal S1x2048 .f32) (j : S2048x256.Idx) :
    out0_3 x g j = NormRow.rms (fun k => x (ix2 (j 1) k)) (fun k => g (ix2 0 k)) (j 0) := by
  frame_out
  refine Eq.trans ?_ (body_at x g (ix2 (j 1) (j 0)))
  unfold k0_pay3
  generalize k0_pay1 (F := Ideal) x g = v
  pointwise

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, t.val] := (by decide +kernel : ∀ t : Fin grid0.N, _)

/-- A row of the block, read from the argument it is cut from. -/
theorem row_blk (t : Fin cfg0.N) (r : Fin 256) (a : Fin 4096) (ha : a.val = t.val * 256 + r.val) :
    (fun k : Fin 2048 => iblk m c 0 t (ix2 r k)) = fun k => m ((c : Thread nD τ).loc main_arg0) (ix2 a k) := by
  funext k
  blk_simp [iblk]
  refine congrArg (m ((c : Thread nD τ).loc main_arg0)) ?_
  blk_ext [index0]

/-- The gain, read from the argument. -/
theorem gain_blk (t : Fin cfg0.N) :
    (fun k : Fin 2048 => iblk m c 1 t (ix2 0 k)) = fun k => m ((c : Thread nD τ).loc main_arg1) (ix1 k) := by
  funext k
  blk_simp [iblk]
  entry_read
  pointwise
  refine congrArg (m ((c : Thread nD τ).loc main_arg1)) ?_
  blk_ext [index1]

/-- The two results. -/
def normed : Buf (Elt Ideal) ((c : Thread nD τ).loc main_v1_0) := fun i =>
  NormRow.rms (fun k => m ((c : Thread nD τ).loc main_arg0) (ix2 (i 0) k)) (fun k => m ((c : Thread nD τ).loc main_arg1) (ix1 k)) (i 1)
def normed' : Buf (Elt Ideal) ((c : Thread nD τ).loc main_v1_1) := fun i =>
  NormRow.rms (fun k => m ((c : Thread nD τ).loc main_arg0) (ix2 (i 1) k)) (fun k => m ((c : Thread nD τ).loc main_arg1) (ix1 k)) (i 0)

theorem final1 : (dats m 0 c).arrAt 2 cfg0.N = normed m c := by
  refine (dats m 0 c).arrAt_eq_of_covers 2 _ (by decide +kernel) fun t hf y => ?_
  blk_simp
  rw [after0_2]
  have e0 : ((win0_2.blk t).view.emb y 0).val = t.val * 256 + (y 0).val := by blk_simp [index2]
  have e1 : ((win0_2.blk t).view.emb y 1).val = (y 1).val := by blk_simp [index2]
  generalize (win0_2.blk t).view.emb y = i at e0 e1 ⊢
  refine (out_apply _ _ y).trans ?_
  rw [row_blk m c t (y 0) (i 0) e0, gain_blk m c t]
  exact congrArg (NormRow.rms _ _) (Fin.ext e1.symm)

theorem final2 : (dats m 0 c).arrAt 3 cfg0.N = normed' m c := by
  refine (dats m 0 c).arrAt_eq_of_covers 3 _ (by decide +kernel) fun t hf y => ?_
  blk_simp
  rw [after0_3]
  have e0 : ((win0_3.blk t).view.emb y 0).val = (y 0).val := by blk_simp [index3]
  have e1 : ((win0_3.blk t).view.emb y 1).val = t.val * 256 + (y 1).val := by blk_simp [index3]
  generalize (win0_3.blk t).view.emb y = i at e0 e1 ⊢
  refine (out_apply' _ _ y).trans ?_
  rw [row_blk m c t (y 1) (i 1) e1, gain_blk m c t]
  exact congrArg (NormRow.rms _ _) (Fin.ext e0.symm)

end Cert.Kernel35Ideal.Norm

namespace Cert.Proof

open Idealize.ShloMosaic TcCoe Idealize.SL.Sem StableHlo Tactic

theorem frame_Kernel35 : quiescent_Kernel35 := fun m ρ _ => Kernel35.Gen.frame m ρ

theorem frame_Kernel35Ideal : quiescent_Kernel35Ideal := fun m ρ _ => Kernel35Ideal.Gen.frame m ρ

theorem frame_Reference35Ideal : quiescent_Reference35Ideal := fun m ρ _ =>
  (θ_run _ _ _).mono (fun r h => ⟨fun c => (h c).2.2, sem_eq_zero_of_no_sems (by decide) r.2⟩)
    (Reference35Ideal.Value.run m ρ)

section
open Reference35Ideal Reference35Ideal.Gen

/-- The reference's first result, read at one place. -/
theorem ref35_at (x : Vec Ideal S4096x2048 .f32) (g : Vec Ideal S2048 .f32) (i : S4096x2048.Idx) :
    (truncf .bf16 (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 g))) bitsLt_bf16_f32 : FVec Ideal S4096x2048 .bf16) i
      = NormRow.rms (fun k => x (ix2 (i 0) k)) (fun k => g (ix1 k)) (i 1) := by
  unfold NormRow.rms NormRow.scale NormRow.mean
  pointwise

/-- A transpose, read at one place. -/
theorem transposed35 (v : Vec Ideal S4096x2048 .bf16) (i : S2048x4096.Idx) :
    transpose S2048x4096 [1, 0] v transposes_S4096x2048_S2048x4096_1_0 i = v (ix2 (i 1) (i 0)) := by
  pointwise

end

theorem value_Kernel35Ideal : algebraic_Kernel35Ideal_Reference35Ideal := by
  intro m ρ m' ρ' _ hag
  refine ⟨Kernel35Ideal.Norm.normed m, Kernel35Ideal.Norm.normed' m, ?_, ?_⟩
  · exact (θ_run _ _ _).mono (fun _ h c => ⟨(h c).1.trans (Kernel35Ideal.Norm.final1 m c),
      (h c).2.1.trans (Kernel35Ideal.Norm.final2 m c), (h c).2.2⟩) (Kernel35Ideal.Value.run_blocks m ρ)
  · refine (θ_run _ _ _).mono (fun _ h c => ⟨(h c).1.trans ?_, (h c).2.1.trans ?_, (h c).2.2⟩) (Reference35Ideal.Value.run m' ρ')
    · obtain ⟨h0, h1⟩ := hag c
      rw [h0, h1]
      funext i
      exact ref35_at _ _ i
    · obtain ⟨h0, h1⟩ := hag c
      rw [h0, h1]
      funext i
      exact (transposed35 _ i).trans (ref35_at _ _ (ix2 (i 1) (i 0)))

end Cert.Proof

end
-- ==== Proof.NormF.lean ====
module
public import proofs.«01_k».proof.Proof.Gen.Kernel36.Frame
public import proofs.«01_k».proof.Proof.Gen.Kernel36Ideal.Value
public import proofs.«01_k».proof.Proof.Gen.Reference36Ideal.Run
public import proofs.«01_k».proof.Proof.NormRow
public import proofs.«01_k».proof.Proof.Lib
@[expose] public section
set_option maxRecDepth 16384
noncomputable section
set_option maxHeartbeats 4000000

/-! # The pooling layer's root-mean-square norm

The kernel normalises blocks of 256 rows; each row depends on that row of the argument alone. -/

namespace Cert.Kernel36Ideal.Norm

open Idealize.ShloMosaic TcCoe Tactic
open Cert.Kernel36Ideal.Gen

variable (m : (ℓ : Loc nD τ sig) → Buf (Elt Ideal) ℓ) (c : Dev nD)

theorem out_apply (x : Vec Ideal S256x2048 .f32) (g : Vec Ideal S1x2048 .f32) (j : S256x2048.Idx) :
    out0_2 x g j = NormRow.rms (fun k => x (ix2 (j 0) k)) (fun k => g (ix2 0 k)) (j 1) := by
  frame_out
  unfold k0_pay1 NormRow.rms NormRow.scale NormRow.mean
  pointwise

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- A row of the block, read from the argument it is cut from. -/
theorem row_blk (t : Fin cfg0.N) (r : Fin 256) (a : Fin 4096) (ha : a.val = t.val * 256 + r.val) :
    (fun k : Fin 2048 => iblk m c 0 t (ix2 r k)) = fun k => m ((c : Thread nD τ).loc main_arg0) (ix2 a k) := by
  funext k
  blk_simp [iblk]
  refine congrArg (m ((c : Thread nD τ).loc main_arg0)) ?_
  blk_ext [index0]

/-- The gain, read from the argument. -/
theorem gain_blk (t : Fin cfg0.N) :
    (fun k : Fin 2048 => iblk m c 1 t (ix2 0 k)) = fun k => m ((c : Thread nD τ).loc main_arg1) (ix1 k) := by
  funext k
  blk_simp [iblk]
  entry_read
  pointwise
  refine congrArg (m ((c : Thread nD τ).loc main_arg1)) ?_
  blk_ext [index1]

/-- The normalised argument. -/
def normed : Buf (Elt Ideal) ((c : Thread nD τ).loc main_v1) := fun i =>
  NormRow.rms (fun k => m ((c : Thread nD τ).loc main_arg0) (ix2 (i 0) k)) (fun k => m ((c : Thread nD τ).loc main_arg1) (ix1 k)) (i 1)

theorem final2 : (dats m 0 c).arrAt 2 cfg0.N = normed m c := by
  refine (dats m 0 c).arrAt_eq_of_covers 2 _ (by decide +kernel) fun t hf y => ?_
  blk_simp
  rw [after0_2]
  have e0 : ((win0_2.blk t).view.emb y 0).val = t.val * 256 + (y 0).val := by blk_simp [index2]
  have e1 : ((win0_2.blk t).view.emb y 1).val = (y 1).val := by blk_simp [index2]
  generalize (win0_2.blk t).view.emb y = i at e0 e1 ⊢
  refine (out_apply _ _ y).trans ?_
  rw [row_blk m c t (y 0) (i 0) e0, gain_blk m c t]
  exact congrArg (NormRow.rms _ _) (Fin.ext e1.symm)

end Cert.Kernel36Ideal.Norm

namespace Cert.Proof

open Idealize.ShloMosaic TcCoe Idealize.SL.Sem StableHlo Tactic

theorem frame_Kernel36 : quiescent_Kernel36 := fun m ρ _ => Kernel36.Gen.frame m ρ

theorem frame_Kernel36Ideal : quiescent_Kernel36Ideal := fun m ρ _ => Kernel36Ideal.Gen.frame m ρ

theorem frame_Reference36Ideal : quiescent_Reference36Ideal := fun m ρ _ =>
  (θ_run _ _ _).mono (fun r h => ⟨fun c => (h c).2, sem_eq_zero_of_no_sems (by decide) r.2⟩)
    (Reference36Ideal.Value.run m ρ)

section
open Reference36Ideal Reference36Ideal.Gen

/-- The reference's result, read at one place. -/
theorem ref36_at (x : Vec Ideal S4096x2048 .f32) (g : Vec Ideal S2048 .f32) (i : S4096x2048.Idx) :
    (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 g)) : FVec Ideal S4096x2048 .f32) i
      = NormRow.rms (fun k => x (ix2 (i 0) k)) (fun k => g (ix1 k)) (i 1) := by
  unfold NormRow.rms NormRow.scale NormRow.mean
  pointwise

end

theorem value_Kernel36Ideal : algebraic_Kernel36Ideal_Reference36Ideal := by
  intro m ρ m' ρ' _ hag
  refine ⟨Kernel36Ideal.Norm.normed m, ?_, ?_⟩
  · exact (θ_run _ _ _).mono (fun _ h c => ⟨(h c).1.trans (Kernel36Ideal.Norm.final2 m c), (h c).2⟩) (Kernel36Ideal.Value.run_blocks m ρ)
  · refine (θ_run _ _ _).mono (fun _ h c => ⟨(h c).1.trans ?_, (h c).2⟩) (Reference36Ideal.Value.run m' ρ')
    obtain ⟨h0, h1⟩ := hag c
    rw [h0, h1]
    funext i
    exact ref36_at _ _ i

end Cert.Proof

end
-- ==== Proof.LnSilu.lean ====
module
public import proofs.«01_k».proof.Proof.Gen.Kernel37.Frame
public import proofs.«01_k».proof.Proof.Gen.Kernel37Ideal.Value
public import proofs.«01_k».proof.Proof.Gen.Reference37Ideal.Run
public import proofs.«01_k».proof.Proof.NormRow
public import proofs.«01_k».proof.Proof.Lib
@[expose] public section
set_option maxRecDepth 16384
noncomputable section
set_option maxHeartbeats 4000000

/-! # The layer norm and its gate, in half precision and transposed

The kernel normalises blocks of 256 rows, applies the gain, the shift and `y * logistic y`, and stores each block and its
transpose; each row depends on that row of the argument alone. -/

namespace Cert.Kernel37Ideal.Gate

open Idealize.ShloMosaic TcCoe Tactic
open Cert.Kernel37Ideal.Gen

variable (m : (ℓ : Loc nD τ sig) → Buf (Elt Ideal) ℓ) (c : Dev nD)

/-- The value of a block, at one place. -/
theorem body_at (x : Vec Ideal S256x2048 .f32) (g : Vec Ideal S1x2048 .f32) (b : Vec Ideal S1x2048 .f32) (j : S256x2048.Idx) :
    k0_pay1 (F := Ideal) x g b j = NormRow.gated (fun k => x (ix2 (j 0) k)) (fun k => g (ix2 0 k)) (fun k => b (ix2 0 k)) (j 1) := by
  unfold k0_pay1 NormRow.gated NormRow.layer NormRow.logistic NormRow.centred NormRow.scale NormRow.mean
  pointwise
  rw [zero_sub]

theorem out_apply (x : Vec Ideal S256x2048 .f32) (g : Vec Ideal S1x2048 .f32) (b : Vec Ideal S1x2048 .f32) (j : S256x2048.Idx) :
    out0_3 x g b j = NormRow.gated (fun k => x (ix2 (j 0) k)) (fun k => g (ix2 0 k)) (fun k => b (ix2 0 k)) (j 1) := by
  frame_out
  exact body_at x g b j

theorem out_apply' (x : Vec Ideal S256x2048 .f32) (g : Vec Ideal S1x2048 .f32) (b : Vec Ideal S1x2048 .f32) (j : S2048x256.Idx) :
    out0_4 x g b j = NormRow.gated (fun k => x (ix2 (j 1) k)) (fun k => g (ix2 0 k)) (fun k => b (ix2 0 k)) (j 0) := by
  frame_out
  refine Eq.trans ?_ (body_at x g b (ix2 (j 1) (j 0)))
  unfold k0_pay3
  generalize k0_pay1 (F := Ideal) x g b = v
  pointwise

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, t.val] := (by decide +kernel : ∀ t : Fin grid0.N, _)

/-- A row of the block, read from the argument it is cut from. -/
theorem row_blk (t : Fin cfg0.N) (r : Fin 256) (a : Fin 4096) (ha : a.val = t.val * 256 + r.val) :
    (fun k : Fin 2048 => iblk m c 0 t (ix2 r k)) = fun k => m ((c : Thread nD τ).loc main_arg0) (ix2 a k) := by
  funext k
  blk_simp [iblk]
  refine congrArg (m ((c : Thread nD τ).loc main_arg0)) ?_
  blk_ext [index0]

/-- The gain, read from the argument. -/
theorem gain_blk (t : Fin cfg0.N) :
    (fun k : Fin 2048 => iblk m c 1 t (ix2 0 k)) = fun k => m ((c : Thread nD τ).loc main_arg1) (ix1 k) := by
  funext k
  blk_simp [iblk]
  entry_read
  pointwise
  refine congrArg (m ((c : Thread nD τ).loc main_arg1)) ?_
  blk_ext [index1]

/-- The shift, read from the argument. -/
theorem shift_blk (t : Fin cfg0.N) :
    (fun k : Fin 2048 => iblk m c 2 t (ix2 0 k)) = fun k => m ((c : Thread nD τ).loc main_arg2) (ix1 k) := by
  funext k
  blk_simp [iblk]
  entry_read
  pointwise
  refine congrArg (m ((c : Thread nD τ).loc main_arg2)) ?_
  blk_ext [index2]

/-- The two results. -/
def normed : Buf (Elt Ideal) ((c : Thread nD τ).loc main_v2_0) := fun i =>
  NormRow.gated (fun k => m ((c : Thread nD τ).loc main_arg0) (ix2 (i 0) k)) (fun k => m ((c : Thread nD τ).loc main_arg1) (ix1 k)) (fun k => m ((c : Thread nD τ).loc main_arg2) (ix1 k)) (i 1)
def normed' : Buf (Elt Ideal) ((c : Thread nD τ).loc main_v2_1) := fun i =>
  NormRow.gated (fun k => m ((c : Thread nD τ).loc main_arg0) (ix2 (i 1) k)) (fun k => m ((c : Thread nD τ).loc main_arg1) (ix1 k)) (fun k => m ((c : Thread nD τ).loc main_arg2) (ix1 k)) (i 0)

theorem final1 : (dats m 0 c).arrAt 3 cfg0.N = normed m c := by
  refine (dats m 0 c).arrAt_eq_of_covers 3 _ (by decide +kernel) fun t hf y => ?_
  blk_simp
  rw [after0_3]
  have e0 : ((win0_3.blk t).view.emb y 0).val = t.val * 256 + (y 0).val := by blk_simp [index3]
  have e1 : ((win0_3.blk t).view.emb y 1).val = (y 1).val := by blk_simp [index3]
  generalize (win0_3.blk t).view.emb y = i at e0 e1 ⊢
  refine (out_apply _ _ _ y).trans ?_
  rw [row_blk m c t (y 0) (i 0) e0, gain_blk m c t, shift_blk m c t]
  exact congrArg (NormRow.gated _ _ _) (Fin.ext e1.symm)

theorem final2 : (dats m 0 c).arrAt 4 cfg0.N = normed' m c := by
  refine (dats m 0 c).arrAt_eq_of_covers 4 _ (by decide +kernel) fun t hf y => ?_
  blk_simp
  rw [after0_4]
  have e0 : ((win0_4.blk t).view.emb y 0).val = (y 0).val := by blk_simp [index4]
  have e1 : ((win0_4.blk t).view.emb y 1).val = t.val * 256 + (y 1).val := by blk_simp [index4]
  generalize (win0_4.blk t).view.emb y = i at e0 e1 ⊢
  refine (out_apply' _ _ _ y).trans ?_
  rw [row_blk m c t (y 1) (i 1) e1, gain_blk m c t, shift_blk m c t]
  exact congrArg (NormRow.gated _ _ _) (Fin.ext e0.symm)

end Cert.Kernel37Ideal.Gate

namespace Cert.Proof

open Idealize.ShloMosaic TcCoe Idealize.SL.Sem StableHlo Tactic

theorem frame_Kernel37 : quiescent_Kernel37 := fun m ρ _ => Kernel37.Gen.frame m ρ

theorem frame_Kernel37Ideal : quiescent_Kernel37Ideal := fun m ρ _ => Kernel37Ideal.Gen.frame m ρ

theorem frame_Reference37Ideal : quiescent_Reference37Ideal := fun m ρ _ =>
  (θ_run _ _ _).mono (fun r h => ⟨fun c => (h c).2.2, sem_eq_zero_of_no_sems (by decide) r.2⟩)
    (Reference37Ideal.Value.run m ρ)

section
open Reference37Ideal Reference37Ideal.Gen

/-- The reference's first result, read at one place. -/
theorem ref37_at (x : Vec Ideal S4096x2048 .f32) (g : Vec Ideal S2048 .f32) (b : Vec Ideal S2048 .f32) (i : S4096x2048.Idx) :
    (truncf .bf16 (mulf (addf (mulf (mulf (subf x (broadcastInDim S4096x2048 ![0, 1] bcast_S4096x1_S4096x2048_0_1 (Host.divf (broadcastInDim S4096x1 ![0] bcast_S4096_S4096x1_0 (Host.reduceAdd x (constant S_ .f32 0x00000000#32) reducesTo_S4096x2048_S4096_d1 h_S_)) (broadcastInDim S4096x1 ![] bcast_S_S4096x1 (constant S_ .f32 0x45000000#32))))) (broadcastInDim S4096x2048 ![0, 1] bcast_S4096x1_S4096x2048_0_1 (Host.rsqrt (addf (Host.divf (broadcastInDim S4096x1 ![0] bcast_S4096_S4096x1_0 (Host.reduceAdd (mulf (subf x (broadcastInDim S4096x2048 ![0, 1] bcast_S4096x1_S4096x2048_0_1 (Host.divf (broadcastInDim S4096x1 ![0] bcast_S4096_S4096x1_0 (Host.reduceAdd x (constant S_ .f32 0x00000000#32) reducesTo_S4096x2048_S4096_d1 h_S_)) (broadcastInDim S4096x1 ![] bcast_S_S4096x1 (constant S_ .f32 0x45000000#32))))) (subf x (broadcastInDim S4096x2048 ![0, 1] bcast_S4096x1_S4096x2048_0_1 (Host.divf (broadcastInDim S4096x1 ![0] bcast_S4096_S4096x1_0 (Host.reduceAdd x (constant S_ .f32 0x00000000#32) reducesTo_S4096x2048_S4096_d1 h_S_)) (broadcastInDim S4096x1 ![] bcast_S_S4096x1 (constant S_ .f32 0x45000000#32)))))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 g))) (broadcastInDim S4096x2048 ![0, 1] bcast_S1x2048_S4096x2048_0_1 (broadcastInDim S1x2048 ![1] bcast_S2048_S1x2048_1 b))) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (mulf (mulf (subf x (broadcastInDim S4096x2048 ![0, 1] bcast_S4096x1_S4096x2048_0_1 (Host.divf (broadcastInDim S4096x1 ![0] bcast_S4096_S4096x1_0 (Host.reduceAdd x (constant S_ .f32 0x00000000#32) reducesTo_S4096x2048_S4096_d1 h_S_)) (broadcastInDim S4096x1 ![] bcast_S_S4096x1 (constant S_ .f32 0x45000000#32))))) (broadcastInDim S4096x2048 ![0, 1] bcast_S4096x1_S4096x2048_0_1 (Host.rsqrt (addf (Host.divf (broadcastInDim S4096x1 ![0] bcast_S4096_S4096x1_0 (Host.reduceAdd (mulf (subf x (broadcastInDim S4096x2048 ![0, 1] bcast_S4096x1_S4096x2048_0_1 (Host.divf (broadcastInDim S4096x1 ![0] bcast_S4096_S4096x1_0 (Host.reduceAdd x (constant S_ .f32 0x00000000#32) reducesTo_S4096x2048_S4096_d1 h_S_)) (broadcastInDim S4096x1 ![] bcast_S_S4096x1 (constant S_ .f32 0x45000000#32))))) (subf x (broadcastInDim S4096x2048 ![0, 1] bcast_S4096x1_S4096x2048_0_1 (Host.divf (broadcastInDim S4096x1 ![0] bcast_S4096_S4096x1_0 (Host.reduceAdd x (constant S_ .f32 0x00000000#32) reducesTo_S4096x2048_S4096_d1 h_S_)) (broadcastInDim S4096x1 ![] bcast_S_S4096x1 (constant S_ .f32 0x45000000#32)))))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 g))) (broadcastInDim S4096x2048 ![0, 1] bcast_S1x2048_S4096x2048_0_1 (broadcastInDim S1x2048 ![1] bcast_S2048_S1x2048_1 b)))))))) bitsLt_bf16_f32 : FVec Ideal S4096x2048 .bf16) i
      = NormRow.gated (fun k => x (ix2 (i 0) k)) (fun k => g (ix1 k)) (fun k => b (ix1 k)) (i 1) := by
  unfold NormRow.gated NormRow.layer NormRow.logistic NormRow.centred NormRow.scale NormRow.mean
  pointwise

/-- A transpose, read at one place. -/
theorem transposed37 (v : Vec Ideal S4096x2048 .bf16) (i : S2048x4096.Idx) :
    transpose S2048x4096 [1, 0] v transposes_S4096x2048_S2048x4096_1_0 i = v (ix2 (i 1) (i 0)) := by
  pointwise

end

theorem value_Kernel37Ideal : algebraic_Kernel37Ideal_Reference37Ideal := by
  intro m ρ m' ρ' _ hag
  refine ⟨Kernel37Ideal.Gate.normed m, Kernel37Ideal.Gate.normed' m, ?_, ?_⟩
  · exact (θ_run _ _ _).mono (fun _ h c => ⟨(h c).1.trans (Kernel37Ideal.Gate.final1 m c),
      (h c).2.1.trans (Kernel37Ideal.Gate.final2 m c), (h c).2.2⟩) (Kernel37Ideal.Value.run_blocks m ρ)
  · refine (θ_run _ _ _).mono (fun _ h c => ⟨(h c).1.trans ?_, (h c).2.1.trans ?_, (h c).2.2⟩) (Reference37Ideal.Value.run m' ρ')
    · obtain ⟨h0, h1, h2⟩ := hag c
      rw [h0, h1, h2]
      funext i
      exact ref37_at _ _ _ i
    · obtain ⟨h0, h1, h2⟩ := hag c
      unfold Reference37Ideal.Value.res_main_v24
      rw [h0, h1, h2]
      funext i
      exact (transposed37 _ i).trans (ref37_at _ _ _ (ix2 (i 1) (i 0)))

end Cert.Proof

end
-- ==== Proof.GateFwd.lean ====
module
public import proofs.«01_k».proof.Proof.Gen.Kernel38.Frame
public import proofs.«01_k».proof.Proof.Gen.Kernel38Ideal.Value
public import proofs.«01_k».proof.Proof.Gen.Reference38Ideal.Run
public import proofs.«01_k».proof.Proof.Lib
public import proofs.«01_k».proof.Proof.NormRow
public import proofs.«01_k».proof.Proof.PoolFwd
@[expose] public section
set_option maxRecDepth 16384
noncomputable section
set_option maxHeartbeats 4000000

/-! # The gate of the feed-forward network

A grid point holds 256 columns of both planes. For each plane the kernel takes three taps over consecutive rows and adds a
shift; the first plane, times its logistic function, gates the second. It stores the result, and its transpose. -/

namespace Cert.Kernel38Ideal.Gate

open Idealize.ShloMosaic TcCoe Tactic
open Cert.Kernel38Ideal.Gen Cert.NormRow
open Cert.Kernel31Ideal.Pool (early)

theorem off1_eq : ∀ k : Fin k0_t1_loop.trips, k0_off1 k = ![0, 256 * k.val - 16, 0] := by decide +kernel
theorem off2_eq : ∀ k : Fin k0_t1_loop.trips, k0_off2 k = ![0, 256 * k.val, 0] := by decide +kernel
theorem off3_eq : ∀ k : Fin k0_t1_loop.trips, k0_off3 k = ![1, 256 * k.val - 16, 0] := by decide +kernel
theorem off4_eq : ∀ k : Fin k0_t1_loop.trips, k0_off4 k = ![1, 256 * k.val, 0] := by decide +kernel
theorem off5_eq : ∀ k : Fin k0_t1_loop.trips, k0_off5 k = ![256 * k.val, 0] := by decide +kernel
theorem off6_eq : ∀ k : Fin k0_t1_loop.trips, k0_off6 k = ![0, 256 * k.val] := by decide +kernel
theorem trips_lt (k : Fin k0_t1_loop.trips) : k.val < 16 := Nat.lt_of_lt_of_le k.isLt k0_t1_abs.2.1

/-- A column of a plane, by row numbers. -/
def column {N : ℕ} (x : (⟨3, ![2, 4096, N]⟩ : Shape).Idx → EReal) (p : Fin 2) (q : Fin N) (n : ℕ) : EReal := if h : n < 4096 then x (ix3 p ⟨n, h⟩ q) else 0

theorem early_in {N : ℕ} (x : (⟨3, ![2, 4096, N]⟩ : Shape).Idx → EReal) (p : Fin 2) (q : Fin N) (s : ℕ) (hs : s < 4096) (n : ℕ) (hn : n = s + 16) :
    early (column x p q) n = x (ix3 p ⟨s, hs⟩ q) := by
  subst hn
  unfold early column
  rw [if_pos (by omega), Nat.add_sub_cancel, dif_pos hs]
theorem early_out (a : ℕ → EReal) (n : ℕ) (hn : n < 16) : early a n = 0 := if_neg (by omega)

/-- Three taps ending at row `n`, and a shift. -/
def taps (a : ℕ → EReal) (w : Fin 3 → EReal) (b : EReal) (n : ℕ) : EReal :=
  w 0 * early a (n + 14) + w 1 * early a (n + 15) + w 2 * early a (n + 16) + b

/-- The gate at row `n` of a column. -/
def blockAt {N : ℕ} (x : (⟨3, ![2, 4096, N]⟩ : Shape).Idx → EReal) (w : (⟨3, ![2, 3, N]⟩ : Shape).Idx → EReal) (b : (⟨3, ![2, 1, N]⟩ : Shape).Idx → EReal) (n : ℕ) (q : Fin N) : EReal :=
  taps (column x 0 q) (fun j => w (ix3 0 j q)) (b (ix3 0 0 q)) n * logistic (taps (column x 0 q) (fun j => w (ix3 0 j q)) (b (ix3 0 0 q)) n)
    * taps (column x 1 q) (fun j => w (ix3 1 j q)) (b (ix3 1 0 q)) n

section
variable (k : Fin k0_t1_loop.trips) (y : Vec Ideal S1x16x256 .bf16) (x : Vec Ideal S1x256x256 .bf16) (w : Vec Ideal S1x3x256 .f32) (b : Vec Ideal S1x1x256 .f32)
  (c : Fin 256) (a : ℕ → EReal)

/-- The sixteen rows before the chunk with the first trip's factor, and the chunk's rows, are entries of one column. -/
def Reads : Prop := (∀ r : Fin 256, x (ix3 0 r c) = a (256 * k.val + 16 + r.val))
  ∧ ∀ r : Fin 16, Scalar.select (Scalar.cmpi .eq (Scf.iv 0#32 1#32 k) 0#32) (0 : EReal) (y (ix3 0 r c)) = a (256 * k.val + r.val)

variable {k y x c a} (H : Reads k y x c a)
include H

/-- A row of the chunk with the sixteen rows in front, `d` rows back. -/
theorem back_row (r : Fin 256) (d : ℕ) (hd : d ≤ 16)
    (h1 : (16 + r.val + 272 - d) % 272 < 16 → (16 + r.val + 272 - d) % 272 < 16) (h2 : ¬ (16 + r.val + 272 - d) % 272 < 16 → (16 + r.val + 272 - d) % 272 - 16 < 256) :
    (if h : (16 + r.val + 272 - d) % 272 < 16 then
      Scalar.select (Scalar.cmpi .eq (Scf.iv 0#32 1#32 k) 0#32) (0 : EReal) (y (ix3 0 ⟨(16 + r.val + 272 - d) % 272, h1 h⟩ c))
     else x (ix3 0 ⟨(16 + r.val + 272 - d) % 272 - 16, h2 h⟩ c)) = a (256 * k.val + r.val + (16 - d)) := by
  have hr := r.isLt
  split
  · next h =>
    refine (H.2 _).trans (congrArg a ?_)
    show 256 * k.val + (16 + r.val + 272 - d) % 272 = _
    omega
  · next h =>
    refine (H.1 _).trans (congrArg a ?_)
    show 256 * k.val + 16 + ((16 + r.val + 272 - d) % 272 - 16) = _
    omega

theorem pay3_apply {v : Fin 3 → EReal} (hw : ∀ j, w (ix3 0 j c) = v j) {s : EReal} (hb : b (ix3 0 0 c) = s) (r : Fin 256) :
    k0_pay3 (F := Ideal) 0#32 1#32 k y x w b (ix2 r c)
    = v 0 * a (256 * k.val + r.val + 14) + v 1 * a (256 * k.val + r.val + 15) + v 2 * a (256 * k.val + r.val + 16) + s := by
  unfold k0_pay3
  pointwise
  rw [hw, hw, hw, hb, back_row H r 2 (by omega), back_row H r 1 (by omega), H.1, show 256 * k.val + 16 + r.val = 256 * k.val + r.val + 16 by omega]

theorem pay4_apply {v : Fin 3 → EReal} (hw : ∀ j, w (ix3 0 j c) = v j) {s : EReal} (hb : b (ix3 0 0 c) = s) (r : Fin 256) :
    k0_pay4 (F := Ideal) (Scf.iv 0#32 1#32 k) 0#32 y x w b (ix2 r c)
    = v 0 * a (256 * k.val + r.val + 14) + v 1 * a (256 * k.val + r.val + 15) + v 2 * a (256 * k.val + r.val + 16) + s := by
  unfold k0_pay4
  pointwise
  rw [hw, hw, hw, hb, back_row H r 2 (by omega), back_row H r 1 (by omega), H.1, show 256 * k.val + 16 + r.val = 256 * k.val + r.val + 16 by omega]
end

/-- The gate, from the two planes' taps. -/
theorem pay1_apply (g v : FVec Ideal S256x256 .f32) (r c : Fin 256) :
    k0_pay1 (F := Ideal) g v (k0_pay5 g) k0_pay6 (ix2 r c) = g (ix2 r c) * logistic (g (ix2 r c)) * v (ix2 r c) := by
  unfold k0_pay1 k0_pay5 k0_pay6 NormRow.logistic
  pointwise
  rw [zero_sub]

theorem pay2_apply (g v e o : FVec Ideal S256x256 .f32) (r c : Fin 256) :
    k0_pay2 (F := Ideal) g v e o (ix2 c r) = k0_pay1 (F := Ideal) g v e o (ix2 r c) := by
  unfold k0_pay2
  generalize k0_pay1 (F := Ideal) g v e o = z
  pointwise

/-- A load of rows of one plane. -/
theorem load3 (arg1 : Memref sig .tc .vmem S2x4096x256 .bf16) (X1 : BufTy.Contents (Elt Ideal) arg1.view.ty) {n : ℕ} {off : Fin 3 → ℕ} (p : Fin 2) (o : ℕ)
    (ho : off = ![p.val, o, 0]) (inb : ∀ a, off a + (![1, n, 256] : Fin 3 → ℕ) a ≤ S2x4096x256.size a) (r : Fin n) (c : Fin 256) :
    View.readAt (Elt Ideal) arg1.view (Rect.unit (s := S2x4096x256) off ![1, n, 256] inb).toLoadRect X1 (ix3 0 r c)
      = column (arg1.view.read (Elt Ideal) X1) p c (o + r.val) := by
  subst ho
  have hr : o + n ≤ 4096 := inb 1
  unfold column
  rw [dif_pos (show o + r.val < 4096 by have := r.isLt; omega)]
  refine congrArg (arg1.view.read (Elt Ideal) X1) (funext fun a => Fin.ext ?_)
  match a with
  | 0 => show p.val + 1 * 0 = p.val; omega
  | 1 => show o + 1 * r.val = o + r.val; omega
  | 2 => show 0 + 1 * c.val = c.val; omega

section
variable (𝒱 : Variants) (cd : Dev nD) (bd : Option 𝒱.V) (i : grid0.Coords) (arg1 : Memref sig .tc .vmem S2x4096x256 .bf16) (harg1 : arg1.IsWhole)
  (arg2 : Memref sig .tc .vmem S2x3x256 .f32) (harg2 : arg2.IsWhole) (arg3 : Memref sig .tc .vmem S2x1x256 .f32) (harg3 : arg3.IsWhole)
  (arg4 : Memref sig .tc .vmem S4096x256 .bf16) (harg4 : arg4.IsWhole) (arg5 : Memref sig .tc .vmem S256x4096 .bf16) (harg5 : arg5.IsWhole)
  (X1 : BufTy.Contents (Elt Ideal) arg1.view.ty) (X2 : BufTy.Contents (Elt Ideal) arg2.view.ty) (X3 : BufTy.Contents (Elt Ideal) arg3.view.ty) (k : Fin k0_t1_loop.trips)

/-- What one trip reads of a plane. -/
theorem reads_of (p : Fin 2) (c : Fin 256) {off off' : Fin 3 → ℕ} (ho : off = ![p.val, 256 * k.val - 16, 0]) (ho' : off' = ![p.val, 256 * k.val, 0]) (inb) (inb') :
    Reads k (View.readAt (Elt Ideal) arg1.view (Rect.unit (s := S2x4096x256) off S1x16x256.size inb).toLoadRect X1)
      (View.readAt (Elt Ideal) arg1.view (Rect.unit (s := S2x4096x256) off' S1x256x256.size inb').toLoadRect X1) c (early (column (arg1.view.read (Elt Ideal) X1) p c)) := by
  have := trips_lt k
  refine ⟨fun r => ?_, fun r => ?_⟩
  · refine (load3 arg1 X1 p _ ho' _ r c).trans ?_
    unfold early
    rw [if_pos (by omega)]
    exact congrArg _ (by omega)
  · rw [Cert.Kernel31Ideal.Pool.first_eq k]
    unfold early
    have := r.isLt
    by_cases h : k.val = 0
    · rw [if_pos h, if_neg (by omega)]
      rfl
    · rw [if_neg h, if_pos (by omega)]
      refine (load3 arg1 X1 p _ ho _ r c).trans (congrArg _ ?_)
      omega

/-- The taps and the shift of one plane, as one trip reads them. -/
theorem taps_of (p : Fin 2) {off : Fin 3 → ℕ} (ho : off = ![p.val, 0, 0]) (inb) (j : Fin 3) (c : Fin 256) :
    View.readAt (Elt Ideal) arg2.view (Rect.unit (s := S2x3x256) off S1x3x256.size inb).toLoadRect X2 (ix3 0 j c) = arg2.view.read (Elt Ideal) X2 (ix3 p j c) := by
  subst ho
  refine congrArg (arg2.view.read (Elt Ideal) X2) (funext fun a => Fin.ext ?_)
  match a with
  | 0 => show p.val + 1 * 0 = p.val; omega
  | 1 => show 0 + 1 * j.val = j.val; omega
  | 2 => show 0 + 1 * c.val = c.val; omega
theorem shift_of (p : Fin 2) {off : Fin 3 → ℕ} (ho : off = ![p.val, 0, 0]) (inb) (c : Fin 256) :
    View.readAt (Elt Ideal) arg3.view (Rect.unit (s := S2x1x256) off S1x1x256.size inb).toLoadRect X3 (ix3 0 0 c) = arg3.view.read (Elt Ideal) X3 (ix3 p 0 c) := by
  subst ho
  refine congrArg (arg3.view.read (Elt Ideal) X3) (funext fun a => Fin.ext ?_)
  match a with
  | 0 => show p.val + 1 * 0 = p.val; omega
  | 1 => rfl
  | 2 => show 0 + 1 * c.val = c.val; omega

/-- One trip's value at its own row. -/
theorem pay_row (c : Fin 256) (n : ℕ) (hn : 256 * k.val ≤ n ∧ n < 256 * k.val + 256) {inb2 : ∀ a, (![0, 0, 0] : Fin 3 → ℕ) a + S1x3x256.size a ≤ S2x3x256.size a} {inb2' : ∀ a, (![1, 0, 0] : Fin 3 → ℕ) a + S1x3x256.size a ≤ S2x3x256.size a}
    {inb3 : ∀ a, (![0, 0, 0] : Fin 3 → ℕ) a + S1x1x256.size a ≤ S2x1x256.size a} {inb3' : ∀ a, (![1, 0, 0] : Fin 3 → ℕ) a + S1x1x256.size a ≤ S2x1x256.size a} :
    k0_pay1 (F := Ideal) (k0_pay3 0#32 1#32 k (View.readAt (Elt Ideal) arg1.view (Rect.unit (s := S2x4096x256) (k0_off1 k) S1x16x256.size (k0_off1_inb k)).toLoadRect X1) (View.readAt (Elt Ideal) arg1.view (Rect.unit (s := S2x4096x256) (k0_off2 k) S1x256x256.size (k0_off2_inb k)).toLoadRect X1) (View.readAt (Elt Ideal) arg2.view (Rect.unit (s := S2x3x256) ![0, 0, 0] S1x3x256.size inb2).toLoadRect X2) (View.readAt (Elt Ideal) arg3.view (Rect.unit (s := S2x1x256) ![0, 0, 0] S1x1x256.size inb3).toLoadRect X3))
      (k0_pay4 (Scf.iv 0#32 1#32 k) 0#32 (View.readAt (Elt Ideal) arg1.view (Rect.unit (s := S2x4096x256) (k0_off3 k) S1x16x256.size (k0_off3_inb k)).toLoadRect X1) (View.readAt (Elt Ideal) arg1.view (Rect.unit (s := S2x4096x256) (k0_off4 k) S1x256x256.size (k0_off4_inb k)).toLoadRect X1) (View.readAt (Elt Ideal) arg2.view (Rect.unit (s := S2x3x256) ![1, 0, 0] S1x3x256.size inb2').toLoadRect X2) (View.readAt (Elt Ideal) arg3.view (Rect.unit (s := S2x1x256) ![1, 0, 0] S1x1x256.size inb3').toLoadRect X3))
      (k0_pay5 (k0_pay3 0#32 1#32 k (View.readAt (Elt Ideal) arg1.view (Rect.unit (s := S2x4096x256) (k0_off1 k) S1x16x256.size (k0_off1_inb k)).toLoadRect X1) (View.readAt (Elt Ideal) arg1.view (Rect.unit (s := S2x4096x256) (k0_off2 k) S1x256x256.size (k0_off2_inb k)).toLoadRect X1) (View.readAt (Elt Ideal) arg2.view (Rect.unit (s := S2x3x256) ![0, 0, 0] S1x3x256.size inb2).toLoadRect X2) (View.readAt (Elt Ideal) arg3.view (Rect.unit (s := S2x1x256) ![0, 0, 0] S1x1x256.size inb3).toLoadRect X3)))
      k0_pay6 (ix2 (⟨n - 256 * k.val, by omega⟩ : Fin 256) c)
      = blockAt (arg1.view.read (Elt Ideal) X1) (arg2.view.read (Elt Ideal) X2) (arg3.view.read (Elt Ideal) X3) n c := by
  have e : 256 * k.val + (n - 256 * k.val) = n := by omega
  refine (pay1_apply _ _ _ _).trans ((congrArg₂ (fun g v : EReal => g * NormRow.logistic g * v)
    (pay3_apply _ _ (reads_of arg1 X1 k 0 c (off1_eq k) (off2_eq k) _ _) (fun j => taps_of arg2 X2 0 rfl inb2 j c) (shift_of arg3 X3 0 rfl inb3 c) _)
    (pay4_apply _ _ (reads_of arg1 X1 k 1 c (off3_eq k) (off4_eq k) _ _) (fun j => taps_of arg2 X2 1 rfl inb2' j c) (shift_of arg3 X3 1 rfl inb3' c) _)).trans ?_)
  dsimp only
  rw [e]
  rfl
theorem pay_row' (c : Fin 256) (n : ℕ) (hn : 256 * k.val ≤ n ∧ n < 256 * k.val + 256) {inb2 : ∀ a, (![0, 0, 0] : Fin 3 → ℕ) a + S1x3x256.size a ≤ S2x3x256.size a} {inb2' : ∀ a, (![1, 0, 0] : Fin 3 → ℕ) a + S1x3x256.size a ≤ S2x3x256.size a}
    {inb3 : ∀ a, (![0, 0, 0] : Fin 3 → ℕ) a + S1x1x256.size a ≤ S2x1x256.size a} {inb3' : ∀ a, (![1, 0, 0] : Fin 3 → ℕ) a + S1x1x256.size a ≤ S2x1x256.size a} :
    k0_pay2 (F := Ideal) (k0_pay3 0#32 1#32 k (View.readAt (Elt Ideal) arg1.view (Rect.unit (s := S2x4096x256) (k0_off1 k) S1x16x256.size (k0_off1_inb k)).toLoadRect X1) (View.readAt (Elt Ideal) arg1.view (Rect.unit (s := S2x4096x256) (k0_off2 k) S1x256x256.size (k0_off2_inb k)).toLoadRect X1) (View.readAt (Elt Ideal) arg2.view (Rect.unit (s := S2x3x256) ![0, 0, 0] S1x3x256.size inb2).toLoadRect X2) (View.readAt (Elt Ideal) arg3.view (Rect.unit (s := S2x1x256) ![0, 0, 0] S1x1x256.size inb3).toLoadRect X3))
      (k0_pay4 (Scf.iv 0#32 1#32 k) 0#32 (View.readAt (Elt Ideal) arg1.view (Rect.unit (s := S2x4096x256) (k0_off3 k) S1x16x256.size (k0_off3_inb k)).toLoadRect X1) (View.readAt (Elt Ideal) arg1.view (Rect.unit (s := S2x4096x256) (k0_off4 k) S1x256x256.size (k0_off4_inb k)).toLoadRect X1) (View.readAt (Elt Ideal) arg2.view (Rect.unit (s := S2x3x256) ![1, 0, 0] S1x3x256.size inb2').toLoadRect X2) (View.readAt (Elt Ideal) arg3.view (Rect.unit (s := S2x1x256) ![1, 0, 0] S1x1x256.size inb3').toLoadRect X3))
      (k0_pay5 (k0_pay3 0#32 1#32 k (View.readAt (Elt Ideal) arg1.view (Rect.unit (s := S2x4096x256) (k0_off1 k) S1x16x256.size (k0_off1_inb k)).toLoadRect X1) (View.readAt (Elt Ideal) arg1.view (Rect.unit (s := S2x4096x256) (k0_off2 k) S1x256x256.size (k0_off2_inb k)).toLoadRect X1) (View.readAt (Elt Ideal) arg2.view (Rect.unit (s := S2x3x256) ![0, 0, 0] S1x3x256.size inb2).toLoadRect X2) (View.readAt (Elt Ideal) arg3.view (Rect.unit (s := S2x1x256) ![0, 0, 0] S1x1x256.size inb3).toLoadRect X3)))
      k0_pay6 (ix2 c (⟨n - 256 * k.val, by omega⟩ : Fin 256))
      = blockAt (arg1.view.read (Elt Ideal) X1) (arg2.view.read (Elt Ideal) X2) (arg3.view.read (Elt Ideal) X3) n c :=
  (pay2_apply _ _ _ _ _ _).trans (pay_row arg1 arg2 arg3 X1 X2 X3 k c n hn)

/-- One trip's effect on the first result's block: its own 256 rows. -/
theorem trip_apply (f : BufTy.Contents (Elt Ideal) arg4.view.ty) (L : List (View.Piece (Elt Ideal) S4096x256 .bf16)) (n : Fin 4096) (c : Fin 256) :
    arg4.view.read (Elt Ideal) (arg4.view.writes (Elt Ideal) f ((tripL_k0_t1 (F := Ideal) 𝒱 cd bd i arg1 harg1 arg2 harg2 arg3 harg3 arg4 harg4 arg5 harg5 X1 X2 X3 k).1 ++ L)) (ix2 n c)
      = if 256 * k.val ≤ n.val ∧ n.val < 256 * k.val + 256 then (blockAt (arg1.view.read (Elt Ideal) X1) (arg2.view.read (Elt Ideal) X2) (arg3.view.read (Elt Ideal) X3) n.val c)
        else arg4.view.read (Elt Ideal) (arg4.view.writes (Elt Ideal) f L) (ix2 n c) := by
  unfold tripL_k0_t1 trip_k0_t1
  dsimp only
  simp only [List.cons_append, List.nil_append]
  by_cases hn : 256 * k.val ≤ n.val ∧ n.val < 256 * k.val + 256
  · rw [if_pos hn]
    refine (View.read_writes_cons_unit_of_mem _ _ _ _ _ _ (ix2 ⟨n.val - 256 * k.val, by omega⟩ c) (off5_eq k) fun a => ?_).trans ?_
    · match a with
      | 0 => show n.val = 256 * k.val + (n.val - 256 * k.val); omega
      | 1 => show c.val = 0 + c.val; omega
    · exact pay_row arg1 arg2 arg3 X1 X2 X3 k c n.val hn
  · rw [if_neg hn]
    have hd : n.val < 256 * k.val ∨ 256 * k.val + 256 ≤ n.val := by omega
    exact View.read_writes_cons_unit_of_not_mem _ _ _ _ _ _ (off5_eq k) 0 hd

/-- One trip's effect on the second result's block: its own 256 columns. -/
theorem trip_apply' (f : BufTy.Contents (Elt Ideal) arg5.view.ty) (L : List (View.Piece (Elt Ideal) S256x4096 .bf16)) (n : Fin 4096) (c : Fin 256) :
    arg5.view.read (Elt Ideal) (arg5.view.writes (Elt Ideal) f ((tripL_k0_t1 (F := Ideal) 𝒱 cd bd i arg1 harg1 arg2 harg2 arg3 harg3 arg4 harg4 arg5 harg5 X1 X2 X3 k).2 ++ L)) (ix2 c n)
      = if 256 * k.val ≤ n.val ∧ n.val < 256 * k.val + 256 then (blockAt (arg1.view.read (Elt Ideal) X1) (arg2.view.read (Elt Ideal) X2) (arg3.view.read (Elt Ideal) X3) n.val c)
        else arg5.view.read (Elt Ideal) (arg5.view.writes (Elt Ideal) f L) (ix2 c n) := by
  unfold tripL_k0_t1 trip_k0_t1
  dsimp only
  simp only [List.cons_append, List.nil_append]
  by_cases hn : 256 * k.val ≤ n.val ∧ n.val < 256 * k.val + 256
  · rw [if_pos hn]
    refine (View.read_writes_cons_unit_of_mem _ _ _ _ _ _ (ix2 c ⟨n.val - 256 * k.val, by omega⟩) (off6_eq k) fun a => ?_).trans ?_
    · match a with
      | 0 => show c.val = 0 + c.val; omega
      | 1 => show n.val = 256 * k.val + (n.val - 256 * k.val); omega
    · exact pay_row' arg1 arg2 arg3 X1 X2 X3 k c n.val hn
  · rw [if_neg hn]
    have hd : n.val < 256 * k.val ∨ 256 * k.val + 256 ≤ n.val := by omega
    exact View.read_writes_cons_unit_of_not_mem _ _ _ _ _ _ (off6_eq k) 1 hd

/-- The results' blocks after the loop. -/
theorem loop_apply (f : BufTy.Contents (Elt Ideal) arg4.view.ty) (f' : BufTy.Contents (Elt Ideal) arg5.view.ty) (n : Fin 4096) (c : Fin 256) :
    arg4.view.read (Elt Ideal) (arg4.view.writes (Elt Ideal) f (pb_k0_t1 (F := Ideal) 𝒱 cd bd i arg1 harg1 arg2 harg2 arg3 harg3 arg4 harg4 arg5 harg5 X1 X2 X3 k0_t1_loop.trips).1) (ix2 n c)
        = (blockAt (arg1.view.read (Elt Ideal) X1) (arg2.view.read (Elt Ideal) X2) (arg3.view.read (Elt Ideal) X3) n.val c)
      ∧ arg5.view.read (Elt Ideal) (arg5.view.writes (Elt Ideal) f' (pb_k0_t1 (F := Ideal) 𝒱 cd bd i arg1 harg1 arg2 harg2 arg3 harg3 arg4 harg4 arg5 harg5 X1 X2 X3 k0_t1_loop.trips).2) (ix2 c n)
        = (blockAt (arg1.view.read (Elt Ideal) X1) (arg2.view.read (Elt Ideal) X2) (arg3.view.read (Elt Ideal) X3) n.val c) := by
  have key : ∀ t, t ≤ k0_t1_loop.trips → n.val < 256 * t →
      arg4.view.read (Elt Ideal) (arg4.view.writes (Elt Ideal) f (pb_k0_t1 (F := Ideal) 𝒱 cd bd i arg1 harg1 arg2 harg2 arg3 harg3 arg4 harg4 arg5 harg5 X1 X2 X3 t).1) (ix2 n c)
        = (blockAt (arg1.view.read (Elt Ideal) X1) (arg2.view.read (Elt Ideal) X2) (arg3.view.read (Elt Ideal) X3) n.val c)
      ∧ arg5.view.read (Elt Ideal) (arg5.view.writes (Elt Ideal) f' (pb_k0_t1 (F := Ideal) 𝒱 cd bd i arg1 harg1 arg2 harg2 arg3 harg3 arg4 harg4 arg5 harg5 X1 X2 X3 t).2) (ix2 c n)
        = (blockAt (arg1.view.read (Elt Ideal) X1) (arg2.view.read (Elt Ideal) X2) (arg3.view.read (Elt Ideal) X3) n.val c) := by
    intro t
    induction t with
    | zero => intro _ h0; omega
    | succ t ih =>
      intro ht hlt
      rw [show pb_k0_t1 (F := Ideal) 𝒱 cd bd i arg1 harg1 arg2 harg2 arg3 harg3 arg4 harg4 arg5 harg5 X1 X2 X3 (t + 1) = _ from
        pb_k0_t1_succ (F := Ideal) 𝒱 cd bd i arg1 harg1 arg2 harg2 arg3 harg3 arg4 harg4 arg5 harg5 X1 X2 X3 ⟨t, ht⟩]
      rw [trip_apply, trip_apply']
      by_cases hc : 256 * t ≤ n.val
      · have hh : 256 * t ≤ n.val ∧ n.val < 256 * t + 256 := ⟨hc, by omega⟩
        exact ⟨if_pos hh, if_pos hh⟩
      · have hh : ¬ (256 * t ≤ n.val ∧ n.val < 256 * t + 256) := fun hh => hc hh.1
        have := ih (by omega) (by omega)
        exact ⟨(if_neg hh).trans this.1, (if_neg hh).trans this.2⟩
  have h16 : k0_t1_loop.trips = 16 := by decide +kernel
  exact key _ le_rfl (by have := n.isLt; omega)

variable (x0 : Vec Ideal S2x4096x256 .bf16) (x1 : Vec Ideal S2x3x256 .f32) (x2 : Vec Ideal S2x1x256 .f32)

/-- What one grid point stores. -/
theorem stored : (kernelRun0_A cd i arg1 harg1 arg2 harg2 arg3 harg3 arg4 harg4 arg5 harg5 x0 x1 x2).1
      = (pb_k0_t1 Variants.none cd none i arg1 harg1 arg2 harg2 arg3 harg3 arg4 harg4 arg5 harg5 (harg1.unread x0) (harg2.unread x1) (harg3.unread x2) k0_t1_loop.trips).1 := by
  unfold kernelRun0_A
  rfl
theorem stored' : (kernelRun0_A cd i arg1 harg1 arg2 harg2 arg3 harg3 arg4 harg4 arg5 harg5 x0 x1 x2).2.1
      = (pb_k0_t1 Variants.none cd none i arg1 harg1 arg2 harg2 arg3 harg3 arg4 harg4 arg5 harg5 (harg1.unread x0) (harg2.unread x1) (harg3.unread x2) k0_t1_loop.trips).2 := by
  unfold kernelRun0_A
  rfl
end

variable (m : (ℓ : Loc nD τ sig) → Buf (Elt Ideal) ℓ) (c : Dev nD)

theorem index0 : ∀ t : Fin cfg0.N, win0_0.index t = ![0, 0, t.val] := (by decide +kernel : ∀ t : Fin grid0.N, _)
theorem index1 : ∀ t : Fin cfg0.N, win0_1.index t = ![0, 0, t.val] := (by decide +kernel : ∀ t : Fin grid0.N, _)
theorem index2 : ∀ t : Fin cfg0.N, win0_2.index t = ![0, 0, t.val] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![t.val, 0] := (by decide +kernel : ∀ t : Fin grid0.N, _)

/-- The results' blocks. -/
theorem out_apply (t : Fin cfg0.N) (n : Fin 4096) (q : Fin 256) :
    (outsAt0 m c t).1 (ix2 n q) = blockAt (iblk m c 0 t) (iblk m c 1 t) (iblk m c 2 t) n.val q := by
  have hc := cover0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 n q)
  have key := (loop_apply Variants.none c none (grid0.coords t) (ms0_0 t) (hs0_0 t) (ms0_1 t) (hs0_1 t) (ms0_2 t) (hs0_2 t) (ms0_3 t) (hs0_3 t) (ms0_4 t) (hs0_4 t)
    ((hs0_0 t).unread (iblk m c 0 t)) ((hs0_1 t).unread (iblk m c 1 t)) ((hs0_2 t).unread (iblk m c 2 t)) (ms0_3 t).view.junk (ms0_4 t).view.junk n q).1
  rw [(hs0_0 t).read_unread, (hs0_1 t).read_unread, (hs0_2 t).read_unread] at key
  unfold outsAt0 out0_A_3
  refine Eq.trans ?_ key
  dsimp only
  rw [stored] at hc ⊢
  exact (View.read_writes_apply_eq_canon _ _ _ _ hc).trans (View.read_writes_apply_eq_canon _ _ _ _ hc).symm
theorem out_apply' (t : Fin cfg0.N) (n : Fin 4096) (q : Fin 256) :
    (outsAt0 m c t).2 (ix2 q n) = blockAt (iblk m c 0 t) (iblk m c 1 t) (iblk m c 2 t) n.val q := by
  have hc := cover0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 q n)
  have key := (loop_apply Variants.none c none (grid0.coords t) (ms0_0 t) (hs0_0 t) (ms0_1 t) (hs0_1 t) (ms0_2 t) (hs0_2 t) (ms0_3 t) (hs0_3 t) (ms0_4 t) (hs0_4 t)
    ((hs0_0 t).unread (iblk m c 0 t)) ((hs0_1 t).unread (iblk m c 1 t)) ((hs0_2 t).unread (iblk m c 2 t)) (ms0_3 t).view.junk (ms0_4 t).view.junk n q).2
  rw [(hs0_0 t).read_unread, (hs0_1 t).read_unread, (hs0_2 t).read_unread] at key
  unfold outsAt0 out0_A_4
  refine Eq.trans ?_ key
  dsimp only
  rw [stored'] at hc ⊢
  exact (View.read_writes_apply_eq_canon _ _ _ _ hc).trans (View.read_writes_apply_eq_canon _ _ _ _ hc).symm

/-- A column of a grid point's block is a column of the argument. -/
theorem column_blk (t : Fin cfg0.N) (p : Fin 2) (q : Fin 256) (b : Fin 5632) (hb : b.val = t.val * 256 + q.val) :
    column (iblk m c 0 t) p q = column (m ((c : Thread nD τ).loc main_arg0)) p b := by
  funext n
  unfold column
  by_cases hn : n < 4096
  · rw [dif_pos hn, dif_pos hn]
    blk_simp [iblk]
    entry_read
    pointwise
    refine congrArg (m ((c : Thread nD τ).loc main_arg0)) ?_
    blk_ext [index0]
  · rw [dif_neg hn, dif_neg hn]
theorem taps_blk (t : Fin cfg0.N) (p : Fin 2) (j : Fin 3) (q : Fin 256) (b : Fin 5632) (hb : b.val = t.val * 256 + q.val) :
    iblk m c 1 t (ix3 p j q) = m ((c : Thread nD τ).loc main_arg1) (ix3 p j b) := by
  blk_simp [iblk]
  refine congrArg (m ((c : Thread nD τ).loc main_arg1)) ?_
  blk_ext [index1]
theorem shift_blk (t : Fin cfg0.N) (p : Fin 2) (q : Fin 256) (b : Fin 5632) (hb : b.val = t.val * 256 + q.val) :
    iblk m c 2 t (ix3 p 0 q) = m ((c : Thread nD τ).loc main_arg2) (ix3 p 0 b) := by
  blk_simp [iblk]
  refine congrArg (m ((c : Thread nD τ).loc main_arg2)) ?_
  blk_ext [index2]

/-- The gate of the arguments, at one place. -/
def at_ (n : ℕ) (q : Fin 5632) : EReal :=
  blockAt (m ((c : Thread nD τ).loc main_arg0)) (m ((c : Thread nD τ).loc main_arg1)) (m ((c : Thread nD τ).loc main_arg2)) n q

/-- A grid point's value is the gate's. -/
theorem at_eq (t : Fin cfg0.N) (n : ℕ) (q : Fin 256) (b : Fin 5632) (hb : b.val = t.val * 256 + q.val) :
    blockAt (iblk m c 0 t) (iblk m c 1 t) (iblk m c 2 t) n q = at_ m c n b := by
  unfold at_ blockAt
  simp only [column_blk m c t _ q b hb, taps_blk m c t _ _ q b hb, shift_blk m c t _ q b hb]

/-- The two results. -/
def gate : Buf (Elt Ideal) ((c : Thread nD τ).loc main_v1_0) := fun i => at_ m c (i 0).val (i 1)
def gate' : Buf (Elt Ideal) ((c : Thread nD τ).loc main_v1_1) := fun i => at_ m c (i 1).val (i 0)

theorem final3 : (dats m 0 c).arrAt 3 cfg0.N = gate m c := by
  refine (dats m 0 c).arrAt_eq_of_covers 3 _ (by decide +kernel) fun t hf y => ?_
  blk_simp
  rw [after0_3]
  have e0 : ((win0_3.blk t).view.emb y 0).val = (y 0).val := by blk_simp [index3]
  have e1 : ((win0_3.blk t).view.emb y 1).val = t.val * 256 + (y 1).val := by blk_simp [index3]
  obtain ⟨n, q, rfl⟩ : ∃ (n : Fin 4096) (q : Fin 256), y = ix2 n q := ⟨y 0, y 1, by funext a; match a with | 0 => rfl | 1 => rfl⟩
  generalize (win0_3.blk t).view.emb (ix2 n q) = i at e0 e1 ⊢
  refine (out_apply m c t n q).trans ((at_eq m c t n.val q (i 1) e1).trans ?_)
  exact congrArg (fun n => at_ m c n (i 1)) e0.symm

theorem final4 : (dats m 0 c).arrAt 4 cfg0.N = gate' m c := by
  refine (dats m 0 c).arrAt_eq_of_covers 4 _ (by decide +kernel) fun t hf y => ?_
  blk_simp
  rw [after0_4]
  have e0 : ((win0_4.blk t).view.emb y 0).val = t.val * 256 + (y 0).val := by blk_simp [index4]
  have e1 : ((win0_4.blk t).view.emb y 1).val = (y 1).val := by blk_simp [index4]
  obtain ⟨q, n, rfl⟩ : ∃ (q : Fin 256) (n : Fin 4096), y = ix2 q n := ⟨y 0, y 1, by funext a; match a with | 0 => rfl | 1 => rfl⟩
  generalize (win0_4.blk t).view.emb (ix2 q n) = i at e0 e1 ⊢
  refine (out_apply' m c t n q).trans ((at_eq m c t n.val q (i 0) e0).trans ?_)
  exact congrArg (fun n => at_ m c n (i 0)) e1.symm

end Cert.Kernel38Ideal.Gate

namespace Cert.Proof

open Idealize.ShloMosaic TcCoe Idealize.SL.Sem StableHlo Tactic
open Cert.NormRow
open Kernel31Ideal.Pool (early)
open Kernel38Ideal.Gate (taps column blockAt)

theorem frame_Kernel38 : quiescent_Kernel38 := fun m ρ _ => Kernel38.Gen.frame m ρ

theorem frame_Kernel38Ideal : quiescent_Kernel38Ideal := fun m ρ _ => Kernel38Ideal.Gen.frame m ρ

theorem frame_Reference38Ideal : quiescent_Reference38Ideal := fun m ρ _ =>
  (θ_run _ _ _).mono (fun r h => ⟨fun c => (h c).2.2, sem_eq_zero_of_no_sems (by decide) r.2⟩)
    (Reference38Ideal.Value.run m ρ)

section
open Reference38Ideal Reference38Ideal.Gen

/-- The reference's taps of both planes. -/
abbrev taps38 (x : Vec Ideal S2x4096x5632 .f32) (w : Vec Ideal S2x3x5632 .f32) (b : Vec Ideal S2x1x5632 .f32) : FVec Ideal S2x4096x5632 .f32 :=
  (addf (Host.reduceAdd (mulf (broadcastInDim S3x2x4096x5632 ![0, 1, 2, 3] bcast_S3x2x1x5632_S3x2x4096x5632_0_1_2_3 (broadcastInDim S3x2x1x5632 ![0, 1, 3] bcast_S3x2x5632_S3x2x1x5632_0_1_3 (transpose S3x2x5632 [1, 0, 2] w transposes_S2x3x5632_S3x2x5632_1_0_2))) ((concatenate S3x2x4096x5632 0 [⟨S1x2x4096x5632, ((broadcastInDim S1x2x4096x5632 ![1, 2, 3] bcast_S2x4096x5632_S1x2x4096x5632_1_2_3 (extractStridedSlice S2x4096x5632 ![0, 0, 0] (concatenate S2x4098x5632 1 [⟨S2x2x5632, (broadcastInDim S2x2x5632 ![] bcast_S_S2x2x5632 (constant (F := Ideal) S_ .f32 0x00000000#32))⟩, ⟨S2x4096x5632, x⟩] concatenates_S2x2x5632_S2x4096x5632_S2x4098x5632_d1) slices_S2x4098x5632_S2x4096x5632_0_0_0)) : (⟨S1x2x4096x5632, .f32⟩ : BufTy).Contents (Elt Ideal))⟩, ⟨S1x2x4096x5632, ((broadcastInDim S1x2x4096x5632 ![1, 2, 3] bcast_S2x4096x5632_S1x2x4096x5632_1_2_3 (extractStridedSlice S2x4096x5632 ![0, 1, 0] (concatenate S2x4098x5632 1 [⟨S2x2x5632, (broadcastInDim S2x2x5632 ![] bcast_S_S2x2x5632 (constant (F := Ideal) S_ .f32 0x00000000#32))⟩, ⟨S2x4096x5632, x⟩] concatenates_S2x2x5632_S2x4096x5632_S2x4098x5632_d1) slices_S2x4098x5632_S2x4096x5632_0_1_0)) : (⟨S1x2x4096x5632, .f32⟩ : BufTy).Contents (Elt Ideal))⟩, ⟨S1x2x4096x5632, ((broadcastInDim S1x2x4096x5632 ![1, 2, 3] bcast_S2x4096x5632_S1x2x4096x5632_1_2_3 (extractStridedSlice S2x4096x5632 ![0, 2, 0] (concatenate S2x4098x5632 1 [⟨S2x2x5632, (broadcastInDim S2x2x5632 ![] bcast_S_S2x2x5632 (constant (F := Ideal) S_ .f32 0x00000000#32))⟩, ⟨S2x4096x5632, x⟩] concatenates_S2x2x5632_S2x4096x5632_S2x4098x5632_d1) slices_S2x4098x5632_S2x4096x5632_0_2_0)) : (⟨S1x2x4096x5632, .f32⟩ : BufTy).Contents (Elt Ideal))⟩] concatenates_S1x2x4096x5632_S1x2x4096x5632_S1x2x4096x5632_S3x2x4096x5632_d0 : (⟨S3x2x4096x5632, .f32⟩ : BufTy).Contents (Elt Ideal)))) (constant (F := Ideal) S_ .f32 0x00000000#32) reducesTo_S3x2x4096x5632_S2x4096x5632_d0 h_S_) (broadcastInDim S2x4096x5632 ![0, 1, 2] bcast_S2x1x5632_S2x4096x5632_0_1_2 b))

theorem taps38_at (x : Vec Ideal S2x4096x5632 .f32) (w : Vec Ideal S2x3x5632 .f32) (b : Vec Ideal S2x1x5632 .f32) (p : Fin 2) (n : Fin 4096) (q : Fin 5632) :
    taps38 x w b (ix3 p n q) = taps (column x p q) (fun j => w (ix3 p j q)) (b (ix3 p 0 q)) n.val := by
  have hn := n.isLt
  unfold taps38
  pointwise
  unfold taps
  rw [Fin.sum_univ_three]
  refine congrArg₂ (fun a b : EReal => a + b) (congrArg₂ (fun a b : EReal => a + b) (congrArg₂ (fun a b : EReal => a + b) (congrArg₂ (fun a b : EReal => a * b) rfl ?_)
    (congrArg₂ (fun a b : EReal => a * b) rfl ?_)) (congrArg₂ (fun a b : EReal => a * b) rfl ?_)) rfl
  · rw [dif_pos (show ((0 : Fin 3).val < 1) by decide)]
    by_cases h : n.val < 2
    · rw [dif_pos h]
      exact (Kernel38Ideal.Gate.early_out _ _ (by omega)).symm
    · rw [dif_neg h]
      exact (Kernel38Ideal.Gate.early_in x p q (n.val - 2) (by omega) _ (by omega)).symm
  · rw [dif_neg (show ¬ ((1 : Fin 3).val < 1) by decide), dif_pos (show ((1 : Fin 3).val - 1 < 1) by decide)]
    by_cases h : 1 + n.val < 2
    · rw [dif_pos h]
      exact (Kernel38Ideal.Gate.early_out _ _ (by omega)).symm
    · rw [dif_neg h]
      exact (Kernel38Ideal.Gate.early_in x p q (1 + n.val - 2) (by omega) _ (by omega)).symm
  · rw [dif_neg (show ¬ ((2 : Fin 3).val < 1) by decide), dif_neg (show ¬ ((2 : Fin 3).val - 1 < 1) by decide)]
    exact (Kernel38Ideal.Gate.early_in x p q n.val (by omega) _ (by omega)).symm

/-- The reference's gate, from the taps of both planes. -/
abbrev gate38 (u : FVec Ideal S2x4096x5632 .f32) : FVec Ideal S4096x5632 .bf16 :=
  truncf .bf16 (mulf (mulf (shapeCast _ (extractStridedSlice S1x4096x5632 ![0, 0, 0] u slices_S2x4096x5632_S1x4096x5632_0_0_0) shapeCasts_S1x4096x5632_S4096x5632) (Host.divf (broadcastInDim S4096x5632 ![] bcast_S_S4096x5632 (constant (F := Ideal) S_ .f32 0x3F800000#32)) (addf (broadcastInDim S4096x5632 ![] bcast_S_S4096x5632 (constant (F := Ideal) S_ .f32 0x3F800000#32)) (Host.exp (Host.negf (shapeCast _ (extractStridedSlice S1x4096x5632 ![0, 0, 0] u slices_S2x4096x5632_S1x4096x5632_0_0_0) shapeCasts_S1x4096x5632_S4096x5632)))))) (shapeCast _ (extractStridedSlice S1x4096x5632 ![1, 0, 0] u slices_S2x4096x5632_S1x4096x5632_1_0_0) shapeCasts_S1x4096x5632_S4096x5632)) bitsLt_bf16_f32

theorem gate38_at (u : FVec Ideal S2x4096x5632 .f32) (i : S4096x5632.Idx) :
    gate38 u i = u (ix3 0 (i 0) (i 1)) * NormRow.logistic (u (ix3 0 (i 0) (i 1))) * u (ix3 1 (i 0) (i 1)) := by
  unfold gate38 NormRow.logistic
  pointwise

/-- A transpose, read at one place. -/
theorem transposed38 (v : Vec Ideal S4096x5632 .bf16) (i : S5632x4096.Idx) :
    transpose S5632x4096 [1, 0] v transposes_S4096x5632_S5632x4096_1_0 i = v (ix2 (i 1) (i 0)) := by
  pointwise

/-- The reference's two results. -/
theorem ref38_eq (m : (ℓ : Loc nD τ sig) → Buf (Elt Ideal) ℓ) (c : Dev nD) : Reference38Ideal.Value.res_main_v22 (F := Ideal) m c =
   gate38 (taps38 (m ((c.tc : Thread nD τ).loc main_arg0)) (m ((c.tc : Thread nD τ).loc main_arg1)) (m ((c.tc : Thread nD τ).loc main_arg2))) := rfl
theorem ref38_eq' (m : (ℓ : Loc nD τ sig) → Buf (Elt Ideal) ℓ) (c : Dev nD) : Reference38Ideal.Value.res_main_v23 (F := Ideal) m c =
   transpose S5632x4096 [1, 0] (Reference38Ideal.Value.res_main_v22 (F := Ideal) m c) transposes_S4096x5632_S5632x4096_1_0 := rfl

theorem ref38_at (m : (ℓ : Loc nD τ sig) → Buf (Elt Ideal) ℓ) (c : Dev nD) (i : S4096x5632.Idx) : Reference38Ideal.Value.res_main_v22 (F := Ideal) m c i =
   blockAt (m ((c.tc : Thread nD τ).loc main_arg0)) (m ((c.tc : Thread nD τ).loc main_arg1)) (m ((c.tc : Thread nD τ).loc main_arg2)) (i 0).val (i 1) := by
  rw [ref38_eq]
  refine (gate38_at _ i).trans ?_
  exact congrArg₂ (fun g v : EReal => g * NormRow.logistic g * v) (taps38_at _ _ _ 0 (i 0) (i 1)) (taps38_at _ _ _ 1 (i 0) (i 1))

end

theorem value_Kernel38Ideal : algebraic_Kernel38Ideal_Reference38Ideal := by
  intro m ρ m' ρ' _ hag
  refine ⟨Kernel38Ideal.Gate.gate m, Kernel38Ideal.Gate.gate' m, ?_, ?_⟩
  · exact (θ_run _ _ _).mono (fun _ h c => ⟨(h c).1.trans (Kernel38Ideal.Gate.final3 m c),
      (h c).2.1.trans (Kernel38Ideal.Gate.final4 m c), (h c).2.2⟩) (Kernel38Ideal.Value.run_blocks m ρ)
  · refine (θ_run _ _ _).mono (fun _ h c => ⟨(h c).1.trans ?_, (h c).2.1.trans ?_, (h c).2.2⟩) (Reference38Ideal.Value.run m' ρ')
    · obtain ⟨h0, h1, h2⟩ := hag c
      funext i
      refine (ref38_at m' c i).trans ?_
      rw [h0, h1, h2]
      rfl
    · obtain ⟨h0, h1, h2⟩ := hag c
      funext i
      refine (congrFun (ref38_eq' m' c) i).trans ((transposed38 _ i).trans ((ref38_at m' c _).trans ?_))
      rw [h0, h1, h2]
      rfl

end Cert.Proof

end
-- ==== Proof.GluFwd.lean ====
module
public import proofs.«01_k».proof.Proof.Gen.Kernel39.Frame
public import proofs.«01_k».proof.Proof.Gen.Kernel39Ideal.Value
public import proofs.«01_k».proof.Proof.Gen.Reference39Ideal.Run
public import proofs.«01_k».proof.Proof.Lib
public import proofs.«01_k».proof.Proof.GluRef
public import proofs.«01_k».proof.Proof.PoolFwd
@[expose] public section
set_option maxRecDepth 16384
noncomputable section
set_option maxHeartbeats 4000000

/-! # The gated depthwise convolution

A grid point holds 128 columns of both halves. At row `n` the kernel takes 31 taps of the gated values of the rows
`n - 30, …, n`, the last tap first, and adds a shift. -/

namespace Cert.Kernel39Ideal.Conv

open Idealize.ShloMosaic TcCoe Tactic
open Cert.Kernel39Ideal.Gen
open Cert.GluCol (past ucol)

theorem off1_eq : ∀ k : Fin k0_t1_loop.trips, k0_off1 k = ![0, 256 * k.val - 32, 0] := by decide +kernel
theorem off2_eq : ∀ k : Fin k0_t1_loop.trips, k0_off2 k = ![0, 256 * k.val, 0] := by decide +kernel
theorem off3_eq : ∀ k : Fin k0_t1_loop.trips, k0_off3 k = ![1, 256 * k.val - 32, 0] := by decide +kernel
theorem off4_eq : ∀ k : Fin k0_t1_loop.trips, k0_off4 k = ![1, 256 * k.val, 0] := by decide +kernel
theorem off5_eq : ∀ k : Fin k0_t1_loop.trips, k0_off5 k = ![256 * k.val, 0] := by decide +kernel
theorem trips_lt (k : Fin k0_t1_loop.trips) : k.val < 16 := Nat.lt_of_lt_of_le k.isLt k0_t1_abs.2.1

/-- A column of a half, by row numbers. -/
def column {N : ℕ} (x : (⟨3, ![2, 4096, N]⟩ : Shape).Idx → EReal) (p : Fin 2) (q : Fin N) (n : ℕ) : EReal := if h : n < 4096 then x (ix3 p ⟨n, h⟩ q) else 0

/-- A column with thirty-two zeros in front. -/
def late (a : ℕ → EReal) (n : ℕ) : EReal := if n < 32 then 0 else a (n - 32)

/-- The gated values of a column. -/
def gated (a g : ℕ → EReal) (n : ℕ) : EReal := a n * Cert.GluCol.gate (g n)

/-- The convolution at row `n` of a column, with a shift. -/
def conv (f : ℕ → EReal) (w : Fin 31 → EReal) (b : EReal) (n : ℕ) : EReal := (∑ j : Fin 31, w j * past f (n + j.val)) + b

/-- The convolution of a block, at one place. -/
def blockAt {N : ℕ} (x : (⟨3, ![2, 4096, N]⟩ : Shape).Idx → EReal) (w : (⟨2, ![31, N]⟩ : Shape).Idx → EReal) (b : (⟨2, ![1, N]⟩ : Shape).Idx → EReal) (n : ℕ) (q : Fin N) : EReal :=
  conv (gated (column x 0 q) (column x 1 q)) (fun j => w (ix2 j q)) (b (ix2 0 q)) n

section
variable (k : Fin k0_t1_loop.trips) (y : Vec Ideal S1x32x128 .bf16) (x : Vec Ideal S1x256x128 .bf16) (c : Fin 128) (a : ℕ → EReal)

/-- The thirty-two rows before the chunk with the first trip's factor, and the chunk's rows, are entries of one column. -/
def Reads : Prop := (∀ r : Fin 256, x (ix3 0 r c) = a (256 * k.val + 32 + r.val))
  ∧ ∀ r : Fin 32, Scalar.select (Scalar.cmpi .eq (Scf.iv 0#32 1#32 k) 0#32) (0 : EReal) (y (ix3 0 r c)) = a (256 * k.val + r.val)

variable {k y x c a} (H : Reads k y x c a)
include H

theorem pay2_apply (s : Fin 288) : k0_pay2 (F := Ideal) 0#32 1#32 k y x (ix2 s c) = a (256 * k.val + s.val) := by
  unfold k0_pay2
  pointwise
  split
  · next h => exact H.2 _
  · next h =>
    refine (H.1 _).trans (congrArg a ?_)
    show 256 * k.val + 32 + (s.val - 32) = _
    omega

theorem pay3_apply (s : Fin 288) : k0_pay3 (F := Ideal) 0#32 1#32 k y x (ix2 s c) = Ideal.exp (-a (256 * k.val + s.val)) := by
  rw [← pay2_apply H, ← zero_sub]
  unfold k0_pay3 k0_pay2
  pointwise
end

/-- The gated rows of a chunk, with the rows in front. -/
theorem pay5_apply (k : Fin k0_t1_loop.trips) (v18 v37 : FVec Ideal S288x128 .f32) (c : Fin 128) (a g : ℕ → EReal)
    (h1 : ∀ s : Fin 288, v18 (ix2 s c) = late a (256 * k.val + s.val)) (h2 : ∀ s : Fin 288, v37 (ix2 s c) = Ideal.exp (-late g (256 * k.val + s.val))) (s : Fin 288) :
    k0_pay5 (F := Ideal) v18 v37 k0_pay4 (ix2 s c) = late (gated a g) (256 * k.val + s.val) := by
  unfold k0_pay5 k0_pay4
  pointwise
  rw [h1, h2]
  unfold late gated Cert.GluCol.gate
  split
  · exact zero_mul _
  · rfl

/-- The rows of a chunk with the rows in front, turned `d` rows on. -/
theorem turned (k : Fin k0_t1_loop.trips) (xs : FVec Ideal S288x128 .f32) (c : Fin 128) (f : ℕ → EReal) (hx : ∀ s : Fin 288, xs (ix2 s c) = late f (256 * k.val + s.val))
    (r : Fin 256) (d : ℕ) (hd : d ≤ 30) (h : (32 + r.val + 288 - d) % 288 < 288) :
    xs (ix2 ⟨(32 + r.val + 288 - d) % 288, h⟩ c) = past f (256 * k.val + r.val + (30 - d)) := by
  have hr := r.isLt
  rw [hx]
  unfold late past
  show (if 256 * k.val + (32 + r.val + 288 - d) % 288 < 32 then 0 else f (256 * k.val + (32 + r.val + 288 - d) % 288 - 32)) = _
  by_cases h0 : 256 * k.val + (32 + r.val + 288 - d) % 288 < 32
  · rw [if_pos h0, if_pos (by omega)]
  · rw [if_neg h0, if_neg (by omega)]
    exact congrArg f (by omega)
theorem straight (k : Fin k0_t1_loop.trips) (xs : FVec Ideal S288x128 .f32) (c : Fin 128) (f : ℕ → EReal) (hx : ∀ s : Fin 288, xs (ix2 s c) = late f (256 * k.val + s.val))
    (r : Fin 256) (h : 32 + r.val < 288) :
    xs (ix2 ⟨32 + r.val, h⟩ c) = past f (256 * k.val + r.val + 30) := by
  rw [hx]
  unfold late past
  show (if 256 * k.val + (32 + r.val) < 32 then 0 else f (256 * k.val + (32 + r.val) - 32)) = _
  rw [if_neg (by omega), if_neg (by omega)]
  exact congrArg f (by omega)

/-- Thirty-one terms, the last one first, with one more term after it. -/
theorem last_first (t : ℕ → EReal) (b : EReal) :
    t 30 + b + t 0 + t 1 + t 2 + t 3 + t 4 + t 5 + t 6 + t 7 + t 8 + t 9 + t 10 + t 11 + t 12 + t 13 + t 14 + t 15 + t 16 + t 17 + t 18 + t 19 + t 20 + t 21 + t 22 + t 23 + t 24 + t 25 + t 26 + t 27 + t 28 + t 29 = (∑ j ∈ Finset.range 31, t j) + b := by
  have e : (∑ j ∈ Finset.range 31, t j) + b = (t 30 + b) + ∑ j ∈ Finset.range 30, t j := by rw [Finset.sum_range_succ _ 30, add_assoc, add_comm]
  rw [e]
  simp only [Finset.sum_range_succ, Finset.sum_range_zero, zero_add, ← add_assoc]

/-- A sum over the taps, by numbers. -/
theorem conv_eq (f : ℕ → EReal) (w : Fin 31 → EReal) (b : EReal) (n : ℕ) :
    conv f w b n = (∑ j ∈ Finset.range 31, (if h : j < 31 then w ⟨j, h⟩ else 0) * past f (n + j)) + b := by
  unfold conv
  rw [← Fin.sum_univ_eq_sum_range (fun j => (if h : j < 31 then w ⟨j, h⟩ else 0) * past f (n + j)) 31]
  refine congrArg (· + b) (Finset.sum_congr rfl fun j _ => ?_)
  rw [dif_pos j.isLt]

section
variable (k : Fin k0_t1_loop.trips) (v18 v37 : FVec Ideal S288x128 .f32) (c : Fin 128) (f : ℕ → EReal) (wt : Fin 31 → Vec Ideal S1x128 .f32) (bv : Vec Ideal S1x128 .f32)

/-- What one trip stores. -/
theorem row_apply (hx : ∀ s : Fin 288, k0_pay5 (F := Ideal) v18 v37 k0_pay4 (ix2 s c) = late f (256 * k.val + s.val)) (r : Fin 256) :
    k0_pay1 (F := Ideal) (k0_pay5 v18 v37 k0_pay4) (k0_pay11 (k0_pay5 v18 v37 k0_pay4) (k0_pay10 (k0_pay5 v18 v37 k0_pay4) (k0_pay8 (k0_pay5 v18 v37 k0_pay4) (k0_pay6 v18 v37 k0_pay4 (wt 30) bv (wt 0) (wt 1) (wt 2) (wt 3)) (k0_pay7 v18 v37 k0_pay4 (wt 4)) (wt 5) (wt 6) (wt 7) (wt 8) (wt 9) (wt 10)) (wt 11) (k0_pay9 (k0_pay5 v18 v37 k0_pay4)) (wt 12) (wt 13) (wt 14) (wt 15) (wt 16) (wt 17)) (wt 18) (wt 19) (wt 20) (wt 21) (wt 22) (wt 23)) (k0_pay12 (k0_pay5 v18 v37 k0_pay4) (wt 24)) (wt 25) (wt 26) (wt 27) (wt 28) (wt 29) (ix2 r c)
      = conv f (fun j => wt j (ix2 0 c)) (bv (ix2 0 c)) (256 * k.val + r.val) := by
  unfold k0_pay1 k0_pay6 k0_pay7 k0_pay8 k0_pay9 k0_pay10 k0_pay11 k0_pay12
  generalize k0_pay5 (F := Ideal) v18 v37 k0_pay4 = xs at hx
  pointwise
  rw [conv_eq, straight k xs c f hx]
  simp (disch := omega) only [turned k xs c f hx, Nat.reduceSub]
  exact last_first (fun j => (if h : j < 31 then wt ⟨j, h⟩ (ix2 0 c) else 0) * past f (256 * k.val + r.val + j)) _
end

/-- A load of rows of one half. -/
theorem load3 (arg1 : Memref sig .tc .vmem S2x4096x128 .bf16) (X1 : BufTy.Contents (Elt Ideal) arg1.view.ty) {n : ℕ} {off : Fin 3 → ℕ} (p : Fin 2) (o : ℕ)
    (ho : off = ![p.val, o, 0]) (inb : ∀ a, off a + (![1, n, 128] : Fin 3 → ℕ) a ≤ S2x4096x128.size a) (r : Fin n) (c : Fin 128) :
    View.readAt (Elt Ideal) arg1.view (Rect.unit (s := S2x4096x128) off ![1, n, 128] inb).toLoadRect X1 (ix3 0 r c)
      = column (arg1.view.read (Elt Ideal) X1) p c (o + r.val) := by
  subst ho
  have hr : o + n ≤ 4096 := inb 1
  unfold column
  rw [dif_pos (show o + r.val < 4096 by have := r.isLt; omega)]
  refine congrArg (arg1.view.read (Elt Ideal) X1) (funext fun a => Fin.ext ?_)
  match a with
  | 0 => show p.val + 1 * 0 = p.val; omega
  | 1 => show o + 1 * r.val = o + r.val; omega
  | 2 => show 0 + 1 * c.val = c.val; omega

section
variable (𝒱 : Variants) (cd : Dev nD) (bd : Option 𝒱.V) (i : grid0.Coords) (arg1 : Memref sig .tc .vmem S2x4096x128 .bf16) (harg1 : arg1.IsWhole)
  (arg2 : Memref sig .tc .vmem S31x128 .f32) (harg2 : arg2.IsWhole) (arg3 : Memref sig .tc .vmem S1x128 .f32) (harg3 : arg3.IsWhole)
  (arg4 : Memref sig .tc .vmem S4096x128 .f32) (harg4 : arg4.IsWhole)
  (X1 : BufTy.Contents (Elt Ideal) arg1.view.ty) (X2 : BufTy.Contents (Elt Ideal) arg2.view.ty) (X3 : BufTy.Contents (Elt Ideal) arg3.view.ty) (k : Fin k0_t1_loop.trips)

/-- What one trip reads of a half. -/
theorem reads_of (p : Fin 2) (c : Fin 128) {off off' : Fin 3 → ℕ} (ho : off = ![p.val, 256 * k.val - 32, 0]) (ho' : off' = ![p.val, 256 * k.val, 0]) (inb) (inb') :
    Reads k (View.readAt (Elt Ideal) arg1.view (Rect.unit (s := S2x4096x128) off S1x32x128.size inb).toLoadRect X1)
      (View.readAt (Elt Ideal) arg1.view (Rect.unit (s := S2x4096x128) off' S1x256x128.size inb').toLoadRect X1) c (late (column (arg1.view.read (Elt Ideal) X1) p c)) := by
  have := trips_lt k
  refine ⟨fun r => ?_, fun r => ?_⟩
  · refine (load3 arg1 X1 p _ ho' _ r c).trans ?_
    unfold late
    rw [if_neg (by omega)]
    exact congrArg _ (by omega)
  · rw [Cert.Kernel31Ideal.Pool.first_eq k]
    unfold late
    have := r.isLt
    by_cases h : k.val = 0
    · rw [if_pos h, if_pos (by omega)]
      rfl
    · rw [if_neg h, if_neg (by omega)]
      refine (load3 arg1 X1 p _ ho _ r c).trans (congrArg _ ?_)
      omega

/-- A tap of a block, as one trip reads it. -/
theorem tap_inb (j : Fin 31) : ∀ a, (![j.val, 0] : Fin 2 → ℕ) a + S1x128.size a ≤ S31x128.size a := fun a => by
  have := j.isLt
  match a with
  | 0 => show j.val + 1 ≤ 31; omega
  | 1 => show 0 + 128 ≤ 128; omega
abbrev tap (j : Fin 31) : Vec Ideal S1x128 .f32 := View.readAt (Elt Ideal) arg2.view (Rect.unit (s := S31x128) ![j.val, 0] S1x128.size (tap_inb j)).toLoadRect X2
abbrev shift : Vec Ideal S1x128 .f32 := View.readAt (Elt Ideal) arg3.view (Rect.unit (s := S1x128) ![0, 0] S1x128.size inb_S1x128_S1x128_0_0).toLoadRect X3
theorem tap_apply (j : Fin 31) (c : Fin 128) : tap arg2 X2 j (ix2 0 c) = arg2.view.read (Elt Ideal) X2 (ix2 j c) := by
  refine congrArg (arg2.view.read (Elt Ideal) X2) (funext fun a => Fin.ext ?_)
  match a with
  | 0 => show j.val + 1 * 0 = j.val; omega
  | 1 => show 0 + 1 * c.val = c.val; omega
theorem shift_apply (c : Fin 128) : shift arg3 X3 (ix2 0 c) = arg3.view.read (Elt Ideal) X3 (ix2 0 c) := by
  refine congrArg (arg3.view.read (Elt Ideal) X3) (funext fun a => Fin.ext ?_)
  match a with
  | 0 => rfl
  | 1 => show 0 + 1 * c.val = c.val; omega

/-- The value half and the gate's exponential of one trip's rows. -/
abbrev half : FVec Ideal S288x128 .f32 := k0_pay2 0#32 1#32 k (View.readAt (Elt Ideal) arg1.view (Rect.unit (s := S2x4096x128) (k0_off1 k) S1x32x128.size (k0_off1_inb k)).toLoadRect X1) (View.readAt (Elt Ideal) arg1.view (Rect.unit (s := S2x4096x128) (k0_off2 k) S1x256x128.size (k0_off2_inb k)).toLoadRect X1)
abbrev expo : FVec Ideal S288x128 .f32 := k0_pay3 0#32 1#32 k (View.readAt (Elt Ideal) arg1.view (Rect.unit (s := S2x4096x128) (k0_off3 k) S1x32x128.size (k0_off3_inb k)).toLoadRect X1) (View.readAt (Elt Ideal) arg1.view (Rect.unit (s := S2x4096x128) (k0_off4 k) S1x256x128.size (k0_off4_inb k)).toLoadRect X1)

/-- One trip's value at its own row. -/
theorem pay_row (c : Fin 128) (n : ℕ) (hn : 256 * k.val ≤ n ∧ n < 256 * k.val + 256) :
    k0_pay1 (F := Ideal) (k0_pay5 (half arg1 X1 k) (expo arg1 X1 k) k0_pay4) (k0_pay11 (k0_pay5 (half arg1 X1 k) (expo arg1 X1 k) k0_pay4) (k0_pay10 (k0_pay5 (half arg1 X1 k) (expo arg1 X1 k) k0_pay4) (k0_pay8 (k0_pay5 (half arg1 X1 k) (expo arg1 X1 k) k0_pay4) (k0_pay6 (half arg1 X1 k) (expo arg1 X1 k) k0_pay4 (tap arg2 X2 30) (shift arg3 X3) (tap arg2 X2 0) (tap arg2 X2 1) (tap arg2 X2 2) (tap arg2 X2 3)) (k0_pay7 (half arg1 X1 k) (expo arg1 X1 k) k0_pay4 (tap arg2 X2 4)) (tap arg2 X2 5) (tap arg2 X2 6) (tap arg2 X2 7) (tap arg2 X2 8) (tap arg2 X2 9) (tap arg2 X2 10)) (tap arg2 X2 11) (k0_pay9 (k0_pay5 (half arg1 X1 k) (expo arg1 X1 k) k0_pay4)) (tap arg2 X2 12) (tap arg2 X2 13) (tap arg2 X2 14) (tap arg2 X2 15) (tap arg2 X2 16) (tap arg2 X2 17)) (tap arg2 X2 18) (tap arg2 X2 19) (tap arg2 X2 20) (tap arg2 X2 21) (tap arg2 X2 22) (tap arg2 X2 23)) (k0_pay12 (k0_pay5 (half arg1 X1 k) (expo arg1 X1 k) k0_pay4) (tap arg2 X2 24)) (tap arg2 X2 25) (tap arg2 X2 26) (tap arg2 X2 27) (tap arg2 X2 28) (tap arg2 X2 29) (ix2 (⟨n - 256 * k.val, by omega⟩ : Fin 256) c)
      = blockAt (arg1.view.read (Elt Ideal) X1) (arg2.view.read (Elt Ideal) X2) (arg3.view.read (Elt Ideal) X3) n c := by
  have e : 256 * k.val + (n - 256 * k.val) = n := by omega
  refine (row_apply k (half arg1 X1 k) (expo arg1 X1 k) c (gated (column (arg1.view.read (Elt Ideal) X1) 0 c) (column (arg1.view.read (Elt Ideal) X1) 1 c)) (tap arg2 X2) (shift arg3 X3)
    (pay5_apply k _ _ c _ _ (pay2_apply (reads_of arg1 X1 k 0 c (off1_eq k) (off2_eq k) _ _)) (pay3_apply (reads_of arg1 X1 k 1 c (off3_eq k) (off4_eq k) _ _))) _).trans ?_
  simp only [tap_apply, shift_apply]
  show conv _ _ _ (256 * k.val + (n - 256 * k.val)) = _
  rw [e]
  rfl

/-- One trip's effect on the result's block: its own 256 rows. -/
theorem trip_apply (f : BufTy.Contents (Elt Ideal) arg4.view.ty) (L : List (View.Piece (Elt Ideal) S4096x128 .f32)) (n : Fin 4096) (c : Fin 128) :
    arg4.view.read (Elt Ideal) (arg4.view.writes (Elt Ideal) f (tripL_k0_t1 (F := Ideal) 𝒱 cd bd i arg1 harg1 arg2 harg2 arg3 harg3 arg4 harg4 X1 X2 X3 k ++ L)) (ix2 n c)
      = if 256 * k.val ≤ n.val ∧ n.val < 256 * k.val + 256 then blockAt (arg1.view.read (Elt Ideal) X1) (arg2.view.read (Elt Ideal) X2) (arg3.view.read (Elt Ideal) X3) n.val c
        else arg4.view.read (Elt Ideal) (arg4.view.writes (Elt Ideal) f L) (ix2 n c) := by
  unfold tripL_k0_t1 trip_k0_t1
  dsimp only
  simp only [List.cons_append, List.nil_append]
  by_cases hn : 256 * k.val ≤ n.val ∧ n.val < 256 * k.val + 256
  · rw [if_pos hn]
    refine (View.read_writes_cons_unit_of_mem _ _ _ _ _ _ (ix2 ⟨n.val - 256 * k.val, by omega⟩ c) (off5_eq k) fun a => ?_).trans ?_
    · match a with
      | 0 => show n.val = 256 * k.val + (n.val - 256 * k.val); omega
      | 1 => show c.val = 0 + c.val; omega
    · exact pay_row arg1 arg2 arg3 X1 X2 X3 k c n.val hn
  · rw [if_neg hn]
    have hd : n.val < 256 * k.val ∨ 256 * k.val + 256 ≤ n.val := by omega
    exact View.read_writes_cons_unit_of_not_mem _ _ _ _ _ _ (off5_eq k) 0 hd

/-- The result's block after the loop. -/
theorem loop_apply (f : BufTy.Contents (Elt Ideal) arg4.view.ty) (n : Fin 4096) (c : Fin 128) :
    arg4.view.read (Elt Ideal) (arg4.view.writes (Elt Ideal) f (pb_k0_t1 (F := Ideal) 𝒱 cd bd i arg1 harg1 arg2 harg2 arg3 harg3 arg4 harg4 X1 X2 X3 k0_t1_loop.trips)) (ix2 n c)
      = blockAt (arg1.view.read (Elt Ideal) X1) (arg2.view.read (Elt Ideal) X2) (arg3.view.read (Elt Ideal) X3) n.val c := by
  have key : ∀ t, t ≤ k0_t1_loop.trips → n.val < 256 * t →
      arg4.view.read (Elt Ideal) (arg4.view.writes (Elt Ideal) f (pb_k0_t1 (F := Ideal) 𝒱 cd bd i arg1 harg1 arg2 harg2 arg3 harg3 arg4 harg4 X1 X2 X3 t)) (ix2 n c)
        = blockAt (arg1.view.read (Elt Ideal) X1) (arg2.view.read (Elt Ideal) X2) (arg3.view.read (Elt Ideal) X3) n.val c := by
    intro t
    induction t with
    | zero => intro _ h0; omega
    | succ t ih =>
      intro ht hlt
      rw [show pb_k0_t1 (F := Ideal) 𝒱 cd bd i arg1 harg1 arg2 harg2 arg3 harg3 arg4 harg4 X1 X2 X3 (t + 1) = _ from
        pb_k0_t1_succ (F := Ideal) 𝒱 cd bd i arg1 harg1 arg2 harg2 arg3 harg3 arg4 harg4 X1 X2 X3 ⟨t, ht⟩]
      rw [trip_apply]
      by_cases hc : 256 * t ≤ n.val
      · exact if_pos ⟨hc, by omega⟩
      · exact (if_neg fun hh => hc hh.1).trans (ih (by omega) (by omega))
  have h16 : k0_t1_loop.trips = 16 := by decide +kernel
  exact key _ le_rfl (by have := n.isLt; omega)

variable (x0 : Vec Ideal S2x4096x128 .bf16) (x1 : Vec Ideal S31x128 .f32) (x2 : Vec Ideal S1x128 .f32)

/-- What one grid point stores. -/
theorem stored : (kernelRun0_A cd i arg1 harg1 arg2 harg2 arg3 harg3 arg4 harg4 x0 x1 x2).1
      = pb_k0_t1 Variants.none cd none i arg1 harg1 arg2 harg2 arg3 harg3 arg4 harg4 (harg1.unread x0) (harg2.unread x1) (harg3.unread x2) k0_t1_loop.trips := by
  unfold kernelRun0_A
  rfl
end

variable (m : (ℓ : Loc nD τ sig) → Buf (Elt Ideal) ℓ) (c : Dev nD)

theorem index0 : ∀ t : Fin cfg0.N, win0_0.index t = ![0, 0, t.val] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)

/-- The result's block. -/
theorem out_apply (t : Fin cfg0.N) (n : Fin 4096) (q : Fin 128) :
    outsAt0 m c t (ix2 n q) = blockAt (iblk m c 0 t) (iblk m c 1 t) (iblk m c 2 t) n.val q := by
  have hc := cover0_A_3 c (grid0.coords t) (ms0_0 t) (hs0_0 t) (ms0_1 t) (hs0_1 t) (ms0_2 t) (hs0_2 t) (ms0_3 t) (hs0_3 t) (iblk m c 0 t) (iblk m c 1 t) (iblk m c 2 t) (ix2 n q)
  have key := loop_apply Variants.none c none (grid0.coords t) (ms0_0 t) (hs0_0 t) (ms0_1 t) (hs0_1 t) (ms0_2 t) (hs0_2 t) (ms0_3 t) (hs0_3 t)
    ((hs0_0 t).unread (iblk m c 0 t)) ((hs0_1 t).unread (iblk m c 1 t)) ((hs0_2 t).unread (iblk m c 2 t)) (ms0_3 t).view.junk n q
  rw [(hs0_0 t).read_unread, (hs0_1 t).read_unread, (hs0_2 t).read_unread] at key
  unfold outsAt0 out0_A_3
  refine Eq.trans ?_ key
  dsimp only
  rw [stored] at hc ⊢
  exact (View.read_writes_apply_eq_canon _ _ _ _ hc).trans (View.read_writes_apply_eq_canon _ _ _ _ hc).symm

/-- A column of a grid point's block is a column of the product plus its bias. -/
theorem column_blk (t : Fin cfg0.N) (p : Fin 2) (q : Fin 128) (b : Fin 2048) (hb : b.val = t.val * 128 + q.val) :
    column (iblk m c 0 t) p q = ucol (m ((c : Thread nD τ).loc main_arg0)) (m ((c : Thread nD τ).loc main_arg1)) p b := by
  funext n
  unfold column ucol
  by_cases hn : n < 4096
  · rw [dif_pos hn, dif_pos hn]
    blk_simp [iblk]
    entry_read
    pointwise
    refine congrArg₂ (fun x y : EReal => x + y) (congrArg (m ((c : Thread nD τ).loc main_arg0)) ?_) (congrArg (m ((c : Thread nD τ).loc main_arg1)) ?_)
    · blk_ext [index0]
    · blk_ext [index0]
  · rw [dif_neg hn, dif_neg hn]
theorem tap_blk (t : Fin cfg0.N) (j : Fin 31) (q : Fin 128) (b : Fin 2048) (hb : b.val = t.val * 128 + q.val) :
    iblk m c 1 t (ix2 j q) = m ((c : Thread nD τ).loc main_arg2) (ix2 j b) := by
  blk_simp [iblk]
  refine congrArg (m ((c : Thread nD τ).loc main_arg2)) ?_
  blk_ext [index1]
theorem shift_blk (t : Fin cfg0.N) (q : Fin 128) (b : Fin 2048) (hb : b.val = t.val * 128 + q.val) :
    iblk m c 2 t (ix2 0 q) = m ((c : Thread nD τ).loc main_arg3) (ix2 0 b) := by
  blk_simp [iblk]
  refine congrArg (m ((c : Thread nD τ).loc main_arg3)) ?_
  blk_ext [index2]

end Cert.Kernel39Ideal.Conv

namespace Cert.GluCol

/-- The convolution of the gated values of the arguments, at one place. -/
def forward (p : (⟨3, ![2, 4096, 2048]⟩ : Idealize.ShloMosaic.Shape).Idx → EReal) (e : (⟨3, ![2, 1, 2048]⟩ : Idealize.ShloMosaic.Shape).Idx → EReal)
    (w : (⟨2, ![31, 2048]⟩ : Idealize.ShloMosaic.Shape).Idx → EReal) (b : (⟨2, ![1, 2048]⟩ : Idealize.ShloMosaic.Shape).Idx → EReal) (n : ℕ) (q : Fin 2048) : EReal :=
  Cert.Kernel39Ideal.Conv.conv (Cert.Kernel39Ideal.Conv.gated (ucol p e 0 q) (ucol p e 1 q)) (fun j => w (Idealize.ShloMosaic.ix2 j q)) (b (Idealize.ShloMosaic.ix2 0 q)) n

end Cert.GluCol

namespace Cert.Kernel39Ideal.Conv

open Idealize.ShloMosaic TcCoe Tactic
open Cert.Kernel39Ideal.Gen

variable (m : (ℓ : Loc nD τ sig) → Buf (Elt Ideal) ℓ) (c : Dev nD)

/-- The result. -/
def convolved : Buf (Elt Ideal) ((c : Thread nD τ).loc main_v3) := fun i =>
  Cert.GluCol.forward (m ((c : Thread nD τ).loc main_arg0)) (m ((c : Thread nD τ).loc main_arg1)) (m ((c : Thread nD τ).loc main_arg2)) (m ((c : Thread nD τ).loc main_arg3)) (i 0).val (i 1)

theorem final3 : (dats m 0 c).arrAt 3 cfg0.N = convolved m c := by
  refine (dats m 0 c).arrAt_eq_of_covers 3 _ (by decide +kernel) fun t hf y => ?_
  blk_simp
  rw [after0_3]
  have e0 : ((win0_3.blk t).view.emb y 0).val = (y 0).val := by blk_simp [index3]
  have e1 : ((win0_3.blk t).view.emb y 1).val = t.val * 128 + (y 1).val := by blk_simp [index3]
  obtain ⟨n, q, rfl⟩ : ∃ (n : Fin 4096) (q : Fin 128), y = ix2 n q := ⟨y 0, y 1, by funext a; match a with | 0 => rfl | 1 => rfl⟩
  generalize (win0_3.blk t).view.emb (ix2 n q) = i at e0 e1 ⊢
  refine (out_apply m c t n q).trans ?_
  unfold convolved Cert.GluCol.forward blockAt
  rw [e0, column_blk m c t 0 q (i 1) e1, column_blk m c t 1 q (i 1) e1, shift_blk m c t q (i 1) e1, show (fun j => iblk m c 1 t (ix2 j q)) = fun j => m ((c : Thread nD τ).loc main_arg2) (ix2 j (i 1)) from
    funext fun j => tap_blk m c t j q (i 1) e1]
  rfl

end Cert.Kernel39Ideal.Conv

namespace Cert.Proof

open Idealize.ShloMosaic TcCoe Idealize.SL.Sem StableHlo Tactic

theorem frame_Kernel39 : quiescent_Kernel39 := fun m ρ _ => Kernel39.Gen.frame m ρ

theorem frame_Kernel39Ideal : quiescent_Kernel39Ideal := fun m ρ _ => Kernel39Ideal.Gen.frame m ρ

theorem frame_Reference39Ideal : quiescent_Reference39Ideal := fun m ρ _ =>
  (θ_run _ _ _).mono (fun r h => ⟨fun c => (h c).2, sem_eq_zero_of_no_sems (by decide) r.2⟩)
    (Reference39Ideal.Value.run m ρ)

section
open Reference39Ideal Reference39Ideal.Gen

/-- The reference's taps of a stack of shifted copies. -/
abbrev conv39 (z : FVec Ideal S31x4096x2048 .f32) (w : Vec Ideal S31x2048 .f32) (b : Vec Ideal S1x2048 .f32) : FVec Ideal S4096x2048 .f32 :=
  addf (Host.reduceAdd (mulf (broadcastInDim S31x4096x2048 ![0, 1, 2] bcast_S31x1x2048_S31x4096x2048_0_1_2 (broadcastInDim S31x1x2048 ![0, 2] bcast_S31x2048_S31x1x2048_0_2 w)) z) (constant (F := Ideal) S_ .f32 0x00000000#32) reducesTo_S31x4096x2048_S4096x2048_d0 h_S_) (broadcastInDim S4096x2048 ![0, 1] bcast_S1x2048_S4096x2048_0_1 b)
theorem conv39_at (z : FVec Ideal S31x4096x2048 .f32) (w : Vec Ideal S31x2048 .f32) (b : Vec Ideal S1x2048 .f32) (i : S4096x2048.Idx) :
    conv39 z w b i = (∑ j : Fin 31, w (ix2 j (i 1)) * z (ix3 j (i 0) (i 1))) + b (ix2 0 (i 1)) := by
  unfold conv39
  pointwise

/-- The reference's result. -/
theorem ref39_eq (m : (ℓ : Loc nD τ sig) → Buf (Elt Ideal) ℓ) (c : Dev nD) : Reference39Ideal.Value.res_main_v85 (F := Ideal) m c =
   conv39 (ReferenceIdeal.Read.val_main_v84 (F := Ideal) (m ((c.tc : Thread nD τ).loc main_arg0)) (m ((c.tc : Thread nD τ).loc main_arg1))) (m ((c.tc : Thread nD τ).loc main_arg2)) (m ((c.tc : Thread nD τ).loc main_arg3)) := rfl

theorem ref39_at (m : (ℓ : Loc nD τ sig) → Buf (Elt Ideal) ℓ) (c : Dev nD) (i : S4096x2048.Idx) : Reference39Ideal.Value.res_main_v85 (F := Ideal) m c i =
   Cert.GluCol.forward (m ((c.tc : Thread nD τ).loc main_arg0)) (m ((c.tc : Thread nD τ).loc main_arg1)) (m ((c.tc : Thread nD τ).loc main_arg2)) (m ((c.tc : Thread nD τ).loc main_arg3)) (i 0).val (i 1) := by
  rw [ref39_eq]
  refine (conv39_at _ _ _ i).trans (congrArg (fun x : EReal => x + _) (Finset.sum_congr rfl fun j _ => congrArg (fun x : EReal => _ * x) ?_))
  exact (ReferenceIdeal.GluRef.v84_at _ _ j (i 0) (i 1)).trans (ReferenceIdeal.GluRef.v18_at _ _ _ _)

end

theorem value_Kernel39Ideal : algebraic_Kernel39Ideal_Reference39Ideal := by
  intro m ρ m' ρ' _ hag
  refine ⟨Kernel39Ideal.Conv.convolved m, ?_, ?_⟩
  · exact (θ_run _ _ _).mono (fun _ h c => ⟨(h c).1.trans (Kernel39Ideal.Conv.final3 m c), (h c).2⟩) (Kernel39Ideal.Value.run_blocks m ρ)
  · refine (θ_run _ _ _).mono (fun _ h c => ⟨(h c).1.trans ?_, (h c).2⟩) (Reference39Ideal.Value.run m' ρ')
    obtain ⟨h0, h1, h2, h3⟩ := hag c
    funext i
    refine (ref39_at m' c i).trans ?_
    rw [h0, h1, h2, h3]
    rfl

end Cert.Proof

end
-- ==== Proof.NormGrad.lean ====
module
public import proofs.«01_k».proof.Proof.NormRow
@[expose] public section
noncomputable section

/-! # The gradient of the norm of one row

The kernel's form of the gradient, and the derivative of the norm by the chain rule, are the same at every extended
real: the reciprocal root is a real number that is not negative, so that it distributes over sums. -/

namespace Cert.NormRow

open Idealize.ShloMosaic

/-- The mean square of a row, with the small constant added. -/
def power (f : Fin 2048 → EReal) : EReal := mean (fun k => f k * f k) + Ideal.ofBits FTy.f32 897988541#32

theorem scale_eq (f : Fin 2048 → EReal) : scale f = Ideal.rsqrt (power f) := rfl

/-- The gradient at one column: `e` is what arrives beside the norm, `d` what arrives through it. -/
def back (x g d : Fin 2048 → EReal) (e : EReal) (q : Fin 2048) : EReal :=
  e + scale x * (d q * g q - x q * scale x * mean (fun k => d k * g k * (x k * scale x)))

/-- The derivative through the mean square, by the chain rule. -/
def slope (x g d : Fin 2048 → EReal) : EReal :=
  Ideal.div ((∑ k, x k * (d k * g k)) * (Ideal.ofBits FTy.f32 3204448256#32 * Ideal.div (scale x) (power x))) (Ideal.ofBits FTy.f32 1157627904#32)

theorem bits_count : Ideal.ofBits FTy.f32 1157627904#32 = ((2048 : ℝ) : EReal) := by
  simp [Ideal.ofBits, Ideal.ieee, -EReal.coe_mul]; norm_num
theorem bits_half : Ideal.ofBits FTy.f32 3204448256#32 = ((-(1 / 2) : ℝ) : EReal) := by
  simp [Ideal.ofBits, Ideal.ieee, -EReal.coe_mul]; norm_num
theorem bits_eps : ∃ r : ℝ, 0 < r ∧ Ideal.ofBits FTy.f32 897988541#32 = (r : EReal) := by
  refine ⟨_, ?_, by simp [Ideal.ofBits, Ideal.ieee, -EReal.coe_mul]; rfl⟩
  positivity

theorem div_count (x : EReal) : Ideal.div x (Ideal.ofBits FTy.f32 1157627904#32) = x * ((2048⁻¹ : ℝ) : EReal) := by
  rw [bits_count, Ideal.div, if_neg (by norm_num), EReal.coe_inv]

theorem sq_nonneg' (x : EReal) : 0 ≤ x * x := by
  rcases le_total 0 x with h | h
  · exact mul_nonneg h h
  · rw [← neg_mul_neg]; exact mul_nonneg (EReal.neg_nonneg.2 h) (EReal.neg_nonneg.2 h)

theorem power_pos (f : Fin 2048 → EReal) : power f = ⊤ ∨ ∃ w : ℝ, 0 < w ∧ power f = (w : EReal) := by
  obtain ⟨r, hr, he⟩ := bits_eps
  have h : 0 ≤ mean (fun k => f k * f k) := by
    unfold mean
    rw [div_count]
    exact mul_nonneg (Finset.sum_nonneg fun k _ => sq_nonneg' _) (EReal.coe_nonneg.2 (by positivity))
  unfold power
  rw [he]
  generalize mean (fun k => f k * f k) = s at h
  induction s with
  | bot => exact absurd h (by simp)
  | top => left; simp
  | coe s => exact .inr ⟨s + r, by have := EReal.coe_nonneg.1 h; linarith, by simp⟩

theorem scale_real (f : Fin 2048 → EReal) : ∃ r : ℝ, 0 ≤ r ∧ scale f = (r : EReal) ∧ Ideal.div (scale f) (power f) = ((r * r * r : ℝ) : EReal) := by
  rw [scale_eq]
  rcases power_pos f with h | ⟨w, hw, h⟩
  · rw [h]
    have e : Ideal.rsqrt ⊤ = ((0 : ℝ) : EReal) := rfl
    refine ⟨0, le_rfl, e, by rw [e]; simp [Ideal.div]⟩
  · rw [h]
    have hs : √w ≠ 0 := (Real.sqrt_pos.2 hw).ne'
    have e : Ideal.rsqrt (w : EReal) = (((√w)⁻¹ : ℝ) : EReal) := by
      show (if w < 0 then (⊥ : EReal) else if w = 0 then ⊤ else (((√w)⁻¹ : ℝ) : EReal)) = _
      rw [if_neg hw.not_gt, if_neg hw.ne']
    refine ⟨(√w)⁻¹, by positivity, e, ?_⟩
    have h2 : (√w)⁻¹ * w⁻¹ = (√w)⁻¹ * (√w)⁻¹ * (√w)⁻¹ := by
      rw [mul_assoc, ← mul_inv (√w) (√w), Real.mul_self_sqrt hw.le]
    rw [e, Ideal.div, if_neg (by simpa using hw.ne'), ← EReal.coe_inv, ← EReal.coe_mul, h2]

/-- A real number that is not negative distributes over a sum. -/
theorem mul_sum_real {ι : Type} (s : Finset ι) (r : ℝ) (hr : 0 ≤ r) (f : ι → EReal) : (r : EReal) * ∑ k ∈ s, f k = ∑ k ∈ s, (r : EReal) * f k := by
  classical
  induction s using Finset.induction_on with
  | empty => simp
  | insert a s h ih =>
    rw [Finset.sum_insert h, Finset.sum_insert h, EReal.left_distrib_of_nonneg_of_ne_top (EReal.coe_nonneg.2 hr) (EReal.coe_ne_top r), ih]

theorem back_eq (x g d : Fin 2048 → EReal) (e : EReal) (q : Fin 2048) :
    back x g d e q = e + d q * g q * scale x + x q * slope x g d + slope x g d * x q := by
  obtain ⟨r, hr, h1, h2⟩ := scale_real x
  unfold back slope mean
  rw [h2, h1, bits_half, div_count, div_count]
  have hs : ∑ k, d k * g k * (x k * (r : EReal)) = (r : EReal) * ∑ k, x k * (d k * g k) := by
    rw [mul_sum_real _ r hr]
    refine Finset.sum_congr rfl fun k _ => ?_
    rw [mul_comm (x k) (r : EReal), mul_left_comm, mul_comm (x k)]
  rw [hs]
  generalize ∑ k, x k * (d k * g k) = S
  generalize d q * g q = a
  generalize x q = y
  have hd : (r : EReal) * (a - y * (r : EReal) * ((r : EReal) * S * ((2048⁻¹ : ℝ) : EReal)))
      = a * r + -(y * S * ((r * r * r * 2048⁻¹ : ℝ) : EReal)) := by
    rw [sub_eq_add_neg, EReal.left_distrib_of_nonneg_of_ne_top (EReal.coe_nonneg.2 hr) (EReal.coe_ne_top r), mul_comm (r : EReal) a]
    simp only [EReal.coe_mul, mul_neg]
    congr 2
    ac_rfl
  have hc : y * (S * (((-(1 / 2) : ℝ) : EReal) * ((r * r * r : ℝ) : EReal)) * ((2048⁻¹ : ℝ) : EReal))
      = -(y * S * ((r * r * r * 2048⁻¹ / 2 : ℝ) : EReal)) := by
    rw [← EReal.coe_mul, mul_assoc S, ← EReal.coe_mul, ← mul_assoc, ← mul_neg, ← EReal.coe_neg]
    congr 2
    ring
  rw [mul_comm _ y, hc, hd, add_assoc (e + a * (r : EReal)), ← add_assoc e]
  congr 1
  have hp : (0 : EReal) ≤ ((r * r * r * 2048⁻¹ / 2 : ℝ) : EReal) := EReal.coe_nonneg.2 (by positivity)
  rw [← mul_neg, ← mul_neg, ← EReal.coe_neg, ← EReal.coe_neg]
  have hn : ∀ t : ℝ, 0 ≤ t → y * S * ((-(t) : ℝ) : EReal) = -(y * S) * (t : EReal) := fun t _ => by
    rw [EReal.coe_neg, mul_neg, neg_mul]
  rw [hn _ (by positivity), hn _ (by positivity), ← EReal.left_distrib_of_nonneg hp hp, ← EReal.coe_add, add_halves]

end Cert.NormRow

end
-- ==== Proof.NormBwd.lean ====
module
public import proofs.«01_k».proof.Proof.Gen.Kernel40.Frame
public import proofs.«01_k».proof.Proof.Gen.Kernel40Ideal.Value
public import proofs.«01_k».proof.Proof.Gen.Reference40Ideal.Run
public import proofs.«01_k».proof.Proof.NormGrad
public import proofs.«01_k».proof.Proof.Lib
@[expose] public section
set_option maxRecDepth 16384
noncomputable section
set_option maxHeartbeats 4000000

/-! # The gradient of the root-mean-square norm

The kernel takes blocks of 256 rows. A row of the gradient depends on that row of the arguments; the gradient of the
gain is accumulated over the blocks. -/

namespace Cert.Kernel40Ideal.Norm

open Idealize.ShloMosaic TcCoe Tactic
open Cert.Kernel40Ideal.Gen

variable (m : (ℓ : Loc nD τ sig) → Buf (Elt Ideal) ℓ) (c : Dev nD)

/-- One block of the gradient. -/
def step (x : Vec Ideal S256x2048 .f32) (g : Vec Ideal S1x2048 .f32) (d e : Vec Ideal S256x2048 .f32) (j : S256x2048.Idx) : EReal :=
  NormRow.back (fun k => x (ix2 (j 0) k)) (fun k => g (ix2 0 k)) (fun k => d (ix2 (j 0) k)) (e j) (j 1)

/-- One row's share of the gradient of the gain. -/
def share (x d : Fin 2048 → EReal) (q : Fin 2048) : EReal := d q * (x q * NormRow.scale x)

/-- One block's share of the gradient of the gain. -/
def part (x d : Vec Ideal S256x2048 .f32) (j : S1x2048.Idx) : EReal :=
  ∑ r : Fin 256, share (fun k => x (ix2 r k)) (fun k => d (ix2 r k)) (j 1)

theorem pay4_apply (x d : Vec Ideal S256x2048 .f32) (g : Vec Ideal S1x2048 .f32) (e : Vec Ideal S256x2048 .f32) (j : S256x2048.Idx) :
    k0_pay4 x d g e j = step x g d e j := by
  unfold k0_pay4 k0_pay3 k0_pay2 step NormRow.back NormRow.scale NormRow.mean
  pointwise

theorem pay5_apply (x d : Vec Ideal S256x2048 .f32) (g : Vec Ideal S1x2048 .f32) (e : Vec Ideal S256x2048 .f32) (j : S256x2048.Idx) :
    k0_pay5 x d g e j = step x g d e j := pay4_apply x d g e j

theorem pay6_apply (x d : Vec Ideal S256x2048 .f32) (j : S1x2048.Idx) : k0_pay6 x d j = part x d j := by
  unfold k0_pay6 k0_pay3 k0_pay2 part share NormRow.scale NormRow.mean
  pointwise

theorem pay1_apply (v w : Vec Ideal S1x2048 .f32) (j : S1x2048.Idx) : k0_pay1 v w j = (show EReal from w j) + (show EReal from v j) := by
  unfold k0_pay1
  pointwise

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)

theorem acc_first (t : Fin cfg0.N) (h : t.val % 16 = 0) (j : S1x2048.Idx) :
    (outsAt0 m c t.val t.isLt).2.2 j = (0 : EReal) + part (iblk m c 0 t) (iblk m c 2 t) j := by
  have hN : t.val < 16 := t.isLt
  rw [outsAt0_A m c t h (by omega)]
  frame_out
  rw [pay6_apply, zero_add]

theorem acc_next (t : Fin cfg0.N) (h : ¬ t.val % 16 = 0) (j : S1x2048.Idx) :
    (outsAt0 m c t.val t.isLt).2.2 j
      = (show EReal from (outsAt0 m c (t.val - 1) (Nat.lt_of_le_of_lt (Nat.sub_le _ _) t.isLt)).2.2 j) + part (iblk m c 0 t) (iblk m c 2 t) j := by
  rw [outsAt0_B m c t h (by omega)]
  frame_out
  rw [pay1_apply, pay6_apply]

theorem out_apply (t : Fin cfg0.N) (j : S256x2048.Idx) :
    (outsAt0 m c t.val t.isLt).1 j = step (iblk m c 0 t) (iblk m c 1 t) (iblk m c 2 t) (iblk m c 3 t) j := by
  have hN : t.val < 16 := t.isLt
  by_cases h : t.val % 16 = 0
  · rw [outsAt0_A m c t h (by omega)]
    frame_out
    rw [pay4_apply]
  · rw [outsAt0_B m c t h (by omega)]
    frame_out
    rw [pay4_apply]

theorem out_apply' (t : Fin cfg0.N) (j : S256x2048.Idx) :
    (outsAt0 m c t.val t.isLt).2.1 j = step (iblk m c 0 t) (iblk m c 1 t) (iblk m c 2 t) (iblk m c 3 t) j := by
  have hN : t.val < 16 := t.isLt
  by_cases h : t.val % 16 = 0
  · rw [outsAt0_A m c t h (by omega)]
    frame_out
    rw [pay5_apply]
  · rw [outsAt0_B m c t h (by omega)]
    frame_out
    rw [pay5_apply]

/-- A row of the block, read from the argument that it is cut from. -/
theorem row_blk (t : Fin cfg0.N) (r : Fin 256) (a : Fin 4096) (ha : a.val = t.val * 256 + r.val) :
    (fun k : Fin 2048 => iblk m c 0 t (ix2 r k)) = fun k => m ((c : Thread nD τ).loc main_arg0) (ix2 a k) := by
  funext k
  blk_simp [iblk]
  refine congrArg (m ((c : Thread nD τ).loc main_arg0)) ?_
  blk_ext [index0]

/-- The same for what arrives through the norm. -/
theorem grad_blk (t : Fin cfg0.N) (r : Fin 256) (a : Fin 4096) (ha : a.val = t.val * 256 + r.val) :
    (fun k : Fin 2048 => iblk m c 2 t (ix2 r k)) = fun k => m ((c : Thread nD τ).loc main_arg2) (ix2 a k) := by
  funext k
  blk_simp [iblk]
  refine congrArg (m ((c : Thread nD τ).loc main_arg2)) ?_
  blk_ext [index2]

/-- The gain, read from the argument. -/
theorem gain_blk (t : Fin cfg0.N) :
    (fun k : Fin 2048 => iblk m c 1 t (ix2 0 k)) = fun k => m ((c : Thread nD τ).loc main_arg1) (ix1 k) := by
  funext k
  blk_simp [iblk]
  entry_read
  pointwise
  refine congrArg (m ((c : Thread nD τ).loc main_arg1)) ?_
  blk_ext [index1]

/-- What arrives beside the norm, read from the argument. -/
theorem beside_blk (t : Fin cfg0.N) (j : S256x2048.Idx) (i : S4096x2048.Idx) (h0 : (i 0).val = t.val * 256 + (j 0).val) (h1 : (i 1).val = (j 1).val) :
    iblk m c 3 t j = m ((c : Thread nD τ).loc main_arg3) i := by
  blk_simp [iblk]
  refine congrArg (m ((c : Thread nD τ).loc main_arg3)) ?_
  blk_ext [index3]

/-- The three results. -/
def grad : Buf (Elt Ideal) ((c : Thread nD τ).loc main_v1_0) := fun i =>
  NormRow.back (fun k => m ((c : Thread nD τ).loc main_arg0) (ix2 (i 0) k)) (fun k => m ((c : Thread nD τ).loc main_arg1) (ix1 k))
    (fun k => m ((c : Thread nD τ).loc main_arg2) (ix2 (i 0) k)) (m ((c : Thread nD τ).loc main_arg3) i) (i 1)
def grad' : Buf (Elt Ideal) ((c : Thread nD τ).loc main_v1_1) := fun i => grad m c i
def total : Buf (Elt Ideal) ((c : Thread nD τ).loc main_v1_2) := fun i =>
  show EReal from ∑ n : Fin 4096, share (fun k => m ((c : Thread nD τ).loc main_arg0) (ix2 n k)) (fun k => m ((c : Thread nD τ).loc main_arg2) (ix2 n k)) (i 1)

theorem block_eq (t : Fin cfg0.N) (y : S256x2048.Idx) (i : S4096x2048.Idx) (e0 : (i 0).val = t.val * 256 + (y 0).val) (e1 : (i 1).val = (y 1).val) :
    step (iblk m c 0 t) (iblk m c 1 t) (iblk m c 2 t) (iblk m c 3 t) y = grad m c i := by
  unfold step
  rw [row_blk m c t (y 0) (i 0) e0, gain_blk m c t, grad_blk m c t (y 0) (i 0) e0, beside_blk m c t y i e0 e1]
  exact congrArg (NormRow.back _ _ _ _) (Fin.ext e1.symm)

theorem share_eq (t : Fin cfg0.N) (r : Fin 256) (a : Fin 4096) (ha : a.val = t.val * 256 + r.val) (q p : Fin 2048) (h : p.val = q.val) :
    share (fun k => iblk m c 0 t (ix2 r k)) (fun k => iblk m c 2 t (ix2 r k)) q
      = share (fun k => m ((c : Thread nD τ).loc main_arg0) (ix2 a k)) (fun k => m ((c : Thread nD τ).loc main_arg2) (ix2 a k)) p := by
  rw [row_blk m c t r a ha, grad_blk m c t r a ha]
  exact congrArg (share _ _) (Fin.ext h.symm)

theorem final4 : (dats m 0 c).arrAt 4 cfg0.N = grad m c := by
  refine (dats m 0 c).arrAt_eq_of_covers 4 _ (by decide +kernel) fun t hf y => ?_
  blk_simp
  rw [after0_4]
  have e0 : ((win0_4.blk t).view.emb y 0).val = t.val * 256 + (y 0).val := by blk_simp [index4]
  have e1 : ((win0_4.blk t).view.emb y 1).val = (y 1).val := by blk_simp [index4]
  generalize (win0_4.blk t).view.emb y = i at e0 e1 ⊢
  refine (out_apply m c t y).trans ?_
  exact block_eq m c t y i e0 e1

theorem final5 : (dats m 0 c).arrAt 5 cfg0.N = grad' m c := by
  refine (dats m 0 c).arrAt_eq_of_covers 5 _ (by decide +kernel) fun t hf y => ?_
  blk_simp
  rw [after0_5]
  have e0 : ((win0_5.blk t).view.emb y 0).val = t.val * 256 + (y 0).val := by blk_simp [index5]
  have e1 : ((win0_5.blk t).view.emb y 1).val = (y 1).val := by blk_simp [index5]
  generalize (win0_5.blk t).view.emb y = i at e0 e1 ⊢
  refine (out_apply' m c t y).trans ?_
  exact block_eq m c t y i e0 e1

theorem final6 : (dats m 0 c).arrAt 6 cfg0.N = total m c := by
  refine (dats m 0 c).arrAt_eq_of_covers 6 _ (by decide +kernel) fun t hf y => ?_
  blk_simp
  rw [after0_6]
  have hN : t.val < 16 := t.isLt
  have e1 : ((win0_6.blk t).view.emb y 1).val = (y 1).val := by blk_simp [index6]
  have ht : t.val % 16 = 15 := (flush0_6 t).mp hf
  generalize (win0_6.blk t).view.emb y = i at e1 ⊢
  rw [Pipeline.eq_sum_fin_of_reset_step_apply_of_flush (fun n h => (outsAt0 m c n h).2.2) 16 (fun _ => (0 : EReal))
    (fun p => part (iblk m c 0 p) (iblk m c 2 p)) (acc_first m c) (acc_next m c) t ht y, zero_add]
  refine Fin.sum_mul_add_congr fun s k hl => ?_
  have hs : s.val * 256 + k.val = (16 * (t.val / 16) + s.val) * 256 + k.val := by omega
  refine share_eq m c _ k _ ?_ (y 1) (i 1) e1
  exact hs

end Cert.Kernel40Ideal.Norm

namespace Cert.Proof

open Idealize.ShloMosaic TcCoe Idealize.SL.Sem StableHlo Tactic

theorem frame_Kernel40 : quiescent_Kernel40 := fun m ρ _ => Kernel40.Gen.frame m ρ

theorem frame_Kernel40Ideal : quiescent_Kernel40Ideal := fun m ρ _ => Kernel40Ideal.Gen.frame m ρ

theorem frame_Reference40Ideal : quiescent_Reference40Ideal := fun m ρ _ =>
  (θ_run _ _ _).mono (fun r h => ⟨fun c => (h c).2.2.2, sem_eq_zero_of_no_sems (by decide) r.2⟩)
    (Reference40Ideal.Value.run m ρ)

section
open Reference40Ideal Reference40Ideal.Gen

/-- The reference's mean squares, with the small constant. -/
def power40 (x : FVec Ideal S4096x2048 .f32) : FVec Ideal S4096x1 .f32 :=
  addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))
def gain40 (g : FVec Ideal S2048 .f32) : FVec Ideal S4096x2048 .f32 :=
  broadcastInDim S4096x2048 ![0, 1] bcast_S1x2048_S4096x2048_0_1 (broadcastInDim S1x2048 ![1] bcast_S2048_S1x2048_1 g)
/-- The reference's derivative through the mean squares. -/
def slope40 (x d : FVec Ideal S4096x2048 .f32) (g : FVec Ideal S2048 .f32) (p : FVec Ideal S4096x1 .f32) : FVec Ideal S4096 .f32 :=
  Host.reduceAdd (Host.divf (mulf (shapeCast _ (Host.reduceAdd (mulf x (mulf d (gain40 g))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt p) p))) (broadcastInDim S4096x1 ![] bcast_S_S4096x1 (constant S_ .f32 0x45000000#32))) (constant S_ .f32 0x00000000#32) reducesTo_S4096x1_S4096_d1 h_S_
def grad40 (x d e : FVec Ideal S4096x2048 .f32) (g : FVec Ideal S2048 .f32) (p : FVec Ideal S4096x1 .f32) (s : FVec Ideal S4096 .f32) : FVec Ideal S4096x2048 .f32 :=
  addf (addf (addf e (mulf (mulf d (gain40 g)) (broadcastInDim S4096x2048 ![0, 1] bcast_S4096x1_S4096x2048_0_1 (Host.rsqrt p)))) (mulf x (broadcastInDim S4096x2048 ![0] bcast_S4096_S4096x2048_0 s))) (mulf (broadcastInDim S4096x2048 ![0] bcast_S4096_S4096x2048_0 s) x)
def total40 (x d : FVec Ideal S4096x2048 .f32) (p : FVec Ideal S4096x1 .f32) : FVec Ideal S1x2048 .f32 :=
  shapeCast _ (Host.reduceAdd (shapeCast _ (Host.reduceAdd (mulf (mulf x (broadcastInDim S4096x2048 ![0, 1] bcast_S4096x1_S4096x2048_0_1 (Host.rsqrt p))) d) (constant S_ .f32 0x00000000#32) reducesTo_S4096x2048_S2048_d0 h_S_) shapeCasts_S2048_S1x2048) (constant S_ .f32 0x00000000#32) reducesTo_S1x2048_S2048_d0 h_S_) shapeCasts_S2048_S1x2048

theorem power40_at (x : FVec Ideal S4096x2048 .f32) (n : Fin 4096) : power40 x (ix2 n 0) = NormRow.power (fun k => x (ix2 n k)) := by
  unfold power40 NormRow.power NormRow.mean
  pointwise
theorem slope40_at (x d : FVec Ideal S4096x2048 .f32) (g : FVec Ideal S2048 .f32) (p : FVec Ideal S4096x1 .f32) (n : Fin 4096) :
    slope40 x d g p (ix1 n) = Ideal.div ((∑ k : Fin 2048, (show EReal from x (ix2 n k)) * ((show EReal from d (ix2 n k)) * (show EReal from g (ix1 k)))) * (Ideal.ofBits FTy.f32 3204448256#32 * Ideal.div (Ideal.rsqrt (p (ix2 n 0))) (p (ix2 n 0)))) (Ideal.ofBits FTy.f32 1157627904#32) := by
  unfold slope40 gain40
  pointwise
  exact Fin.sum_univ_one _
theorem grad40_at (x d e : FVec Ideal S4096x2048 .f32) (g : FVec Ideal S2048 .f32) (p : FVec Ideal S4096x1 .f32) (s : FVec Ideal S4096 .f32) (i : S4096x2048.Idx) :
    grad40 x d e g p s i = (show EReal from e i) + (show EReal from d i) * (show EReal from g (ix1 (i 1))) * Ideal.rsqrt (p (ix2 (i 0) 0)) + (show EReal from x i) * (show EReal from s (ix1 (i 0))) + (show EReal from s (ix1 (i 0))) * (show EReal from x i) := by
  unfold grad40 gain40
  pointwise
theorem total40_at (x d : FVec Ideal S4096x2048 .f32) (p : FVec Ideal S4096x1 .f32) (i : S1x2048.Idx) :
    total40 x d p i = ∑ n : Fin 4096, (show EReal from x (ix2 n (i 1))) * Ideal.rsqrt (p (ix2 n 0)) * (show EReal from d (ix2 n (i 1))) := by
  unfold total40
  pointwise
  exact Fin.sum_univ_one _

/-- The reference's results, read at one place. -/
theorem ref40_at (x d e : FVec Ideal S4096x2048 .f32) (g : FVec Ideal S2048 .f32) (i : S4096x2048.Idx) :
    grad40 x d e g (power40 x) (slope40 x d g (power40 x)) i
      = NormRow.back (fun k => x (ix2 (i 0) k)) (fun k => g (ix1 k)) (fun k => d (ix2 (i 0) k)) (e i) (i 1) := by
  have key : ∀ (n : Fin 4096) (q : Fin 2048), grad40 x d e g (power40 x) (slope40 x d g (power40 x)) (ix2 n q)
      = NormRow.back (fun k => x (ix2 n k)) (fun k => g (ix1 k)) (fun k => d (ix2 n k)) (e (ix2 n q)) q := fun n q => by
    have hs : slope40 x d g (power40 x) (ix1 n) = NormRow.slope (fun k => x (ix2 n k)) (fun k => g (ix1 k)) (fun k => d (ix2 n k)) :=
      (slope40_at x d g _ n).trans (by rw [power40_at]; rfl)
    rw [NormRow.back_eq, ← hs, NormRow.scale_eq, ← power40_at]
    exact grad40_at x d e g _ _ (ix2 n q)
  have hi : i = ix2 (i 0) (i 1) := by funext a; fin_cases a <;> rfl
  exact (congrArg _ hi).trans ((key (i 0) (i 1)).trans (congrArg (fun j => NormRow.back _ _ _ (e j) (i 1)) hi.symm))
theorem rounded40 (x : FVec Ideal S4096x2048 .f32) (i : S4096x2048.Idx) : (truncf .bf16 x bitsLt_bf16_f32 : FVec Ideal S4096x2048 .bf16) i = x i := rfl
theorem ref40_at' (x d : FVec Ideal S4096x2048 .f32) (i : S1x2048.Idx) :
    total40 x d (power40 x) i = ∑ n : Fin 4096, Kernel40Ideal.Norm.share (fun k => x (ix2 n k)) (fun k => d (ix2 n k)) (i 1) := by
  rw [total40_at]
  refine Finset.sum_congr rfl fun n _ => ?_
  rw [power40_at]
  exact mul_comm (G := EReal) _ _

end

theorem value_Kernel40Ideal : algebraic_Kernel40Ideal_Reference40Ideal := by
  intro m ρ m' ρ' _ hag
  refine ⟨Kernel40Ideal.Norm.grad m, Kernel40Ideal.Norm.grad' m, Kernel40Ideal.Norm.total m, ?_, ?_⟩
  · exact (θ_run _ _ _).mono (fun _ h c => ⟨(h c).1.trans (Kernel40Ideal.Norm.final4 m c),
      (h c).2.1.trans (Kernel40Ideal.Norm.final5 m c), (h c).2.2.1.trans (Kernel40Ideal.Norm.final6 m c), (h c).2.2.2⟩) (Kernel40Ideal.Value.run_blocks m ρ)
  · refine (θ_run _ _ _).mono (fun _ h c => ⟨(h c).1.trans ?_, (h c).2.1.trans ?_, (h c).2.2.1.trans ?_, (h c).2.2.2⟩) (Reference40Ideal.Value.run m' ρ')
    · obtain ⟨h0, h1, h2, h3⟩ := hag c
      rw [h0, h1, h2, h3]
      funext i
      exact ref40_at _ _ _ _ i
    · obtain ⟨h0, h1, h2, h3⟩ := hag c
      rw [h0, h1, h2, h3]
      funext i
      exact (rounded40 _ i).trans (ref40_at _ _ _ _ i)
    · obtain ⟨h0, h1, h2, h3⟩ := hag c
      rw [h0, h2]
      funext i
      exact ref40_at' _ _ i

end Cert.Proof

end
-- ==== Proof.LnGrad.lean ====
module
public import proofs.«01_k».proof.Proof.NormGrad
@[expose] public section
noncomputable section

/-! # The gradient of the layer norm of one row, and of the logistic gate after it

Where the reciprocal root is 0, both forms are 0. Elsewhere the row is of real numbers, its differences from the mean add
up to 0, and the two forms are the same by the laws of the reals, if what arrives is real. -/

namespace Cert.NormRow

open Idealize.ShloMosaic

/-- The derivative of a number times its logistic function. -/
def weight (n : EReal) : EReal := logistic n * (1 + n * (1 - logistic n))

/-- The gradient of the layer norm at one column, as the kernel forms it: `c` is the centred row, `a` what arrives. -/
def inner (c a : Fin 2048 → EReal) (q : Fin 2048) : EReal :=
  scale c * (a q - mean a - c q * scale c * mean (fun k => a k * (c k * scale c)))

/-- The gradient of the norm alone, by the chain rule. -/
def chain (c a : Fin 2048 → EReal) (q : Fin 2048) : EReal :=
  a q * scale c + c q * slope c (fun _ => 1) a + slope c (fun _ => 1) a * c q

theorem chain_eq (c a : Fin 2048 → EReal) (q : Fin 2048) : chain c a q = back c (fun _ => 1) a 0 q := by
  rw [back_eq, zero_add, mul_one]
  rfl

theorem slope_gain (c g d : Fin 2048 → EReal) : slope c g d = slope c (fun _ => 1) (fun k => d k * g k) := by
  unfold slope
  simp only [mul_one]

theorem sum_coe {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

theorem real_of_sq (x : EReal) (h : x * x ≠ ⊤) : ∃ r : ℝ, x = (r : EReal) := by
  induction x with
  | bot => exact absurd EReal.bot_mul_bot h
  | top => exact absurd EReal.top_mul_top h
  | coe r => exact ⟨r, rfl⟩

/-- The row is real where its mean square is. -/
theorem real_of_power (f : Fin 2048 → EReal) (h : power f ≠ ⊤) (k : Fin 2048) : ∃ r : ℝ, f k = (r : EReal) := by
  refine real_of_sq _ fun e => h ?_
  obtain ⟨r, hr, he⟩ := bits_eps
  have hs : ∑ j, f j * f j = ⊤ :=
    top_le_iff.1 (e ▸ Finset.single_le_sum (f := fun j => f j * f j) (fun j _ => sq_nonneg' (f j)) (Finset.mem_univ k))
  unfold power mean
  rw [hs, div_count, EReal.top_mul_coe_of_pos (by norm_num), he]
  exact EReal.top_add_coe r

theorem real_of_sub (x y : EReal) (r : ℝ) (h : x - y = (r : EReal)) : ∃ s : ℝ, x = (s : EReal) := by
  induction x with
  | bot => simp [EReal.bot_sub] at h
  | top =>
    induction y with
    | bot => simp at h
    | top => simp at h
    | coe y => simp at h
  | coe s => exact ⟨s, rfl⟩

/-- The differences from the mean are real and add up to 0, where their mean square is real. -/
theorem centred_real (x : Fin 2048 → EReal) (h : power (centred x) ≠ ⊤) :
    ∃ y : Fin 2048 → ℝ, (∀ k, centred x k = (y k : EReal)) ∧ ∑ k, y k = 0 := by
  have hx : ∀ k, ∃ r : ℝ, x k = (r : EReal) := fun k => by
    obtain ⟨r, hr⟩ := real_of_power _ h k
    exact real_of_sub _ _ r hr
  choose u hu using hx
  refine ⟨fun k => u k - (∑ j, u j) * 2048⁻¹, fun k => ?_, ?_⟩
  · unfold centred mean
    simp only [hu, div_count, sum_coe, ← EReal.coe_mul, ← EReal.coe_sub]
  · rw [Finset.sum_sub_distrib, Finset.sum_const, Finset.card_univ, Fintype.card_fin, nsmul_eq_mul]
    push_cast
    ring

theorem inner_eq (x a : Fin 2048 → EReal) (ha : ∀ k, ∃ r : ℝ, a k = (r : EReal)) (q : Fin 2048) :
    inner (centred x) a q = chain (centred x) a q + Ideal.div (∑ k, -chain (centred x) a k) (Ideal.ofBits FTy.f32 1157627904#32) := by
  simp only [chain_eq]
  obtain ⟨r, hr, h1, -⟩ := scale_real (centred x)
  by_cases h : power (centred x) = ⊤
  · have h0 : scale (centred x) = 0 := by rw [scale_eq, h]; rfl
    unfold inner back
    simp only [h0, zero_mul, add_zero, neg_zero, Finset.sum_const_zero, div_count]
  · obtain ⟨y, hy, hs⟩ := centred_real x h
    choose b hb using ha
    unfold inner back mean
    simp only [div_count, h1, hy, hb, mul_one, zero_add, sum_coe, ← EReal.coe_mul, ← EReal.coe_sub, ← EReal.coe_neg, ← EReal.coe_add]
    refine congrArg _ ?_
    generalize (∑ k, b k * (y k * r)) * 2048⁻¹ = M
    have e : ∑ k, -(r * (b k - y k * r * M)) = -(r * ∑ k, b k) := by
      rw [Finset.sum_neg_distrib, ← Finset.mul_sum, Finset.sum_sub_distrib]
      simp only [mul_assoc]
      rw [← Finset.sum_mul, hs]
      ring
    rw [e]
    ring

theorem logistic_real (n : EReal) : ∃ l : ℝ, logistic n = (l : EReal) ∧ (n = ⊤ → l = 1) ∧ (n = ⊥ → l = 0) := by
  induction n with
  | bot =>
    refine ⟨0, ?_, by simp, fun _ => rfl⟩
    unfold logistic
    have e : Ideal.exp (-⊥) = ⊤ := by rw [EReal.neg_bot]; rfl
    rw [e]
    have e1 : (1 : EReal) + ⊤ = ⊤ := EReal.coe_add_top 1
    rw [e1]
    simp [Ideal.div]
  | top =>
    refine ⟨1, ?_, fun _ => rfl, by simp⟩
    unfold logistic
    have e : Ideal.exp (-⊤) = 0 := by rw [EReal.neg_top]; rfl
    rw [e, add_zero]
    simp [Ideal.div]
  | coe r =>
    have e : Ideal.exp (-(r : EReal)) = ((Real.exp (-r) : ℝ) : EReal) := by rw [← EReal.coe_neg]; rfl
    refine ⟨(1 + Real.exp (-r))⁻¹, ?_, by simp, by simp⟩
    unfold logistic
    rw [e, ← EReal.coe_one, ← EReal.coe_add, Ideal.div, if_neg, ← EReal.coe_inv, ← EReal.coe_mul, one_mul]
    have := Real.exp_pos (-r)
    exact_mod_cast (by positivity : (1 + Real.exp (-r)) ≠ 0)

/-- What passes the gate: a real number, in either form. -/
theorem gate_real (s : ℝ) (n : EReal) : ∃ d : ℝ, (s : EReal) * weight n = (d : EReal)
    ∧ (s : EReal) * logistic n + n * (s : EReal) * (logistic n * (1 - logistic n)) = (d : EReal) := by
  obtain ⟨l, hl, h1, h0⟩ := logistic_real n
  unfold weight
  rw [hl]
  induction n with
  | bot =>
    obtain rfl := h0 rfl
    exact ⟨0, by simp, by simp⟩
  | top =>
    obtain rfl := h1 rfl
    have e : (1 : EReal) - ((1 : ℝ) : EReal) = 0 := by rw [← EReal.coe_one, ← EReal.coe_sub, sub_self]; rfl
    exact ⟨s, by rw [e]; simp, by rw [e]; simp⟩
  | coe n =>
    refine ⟨s * (l * (1 + n * (1 - l))), ?_, ?_⟩
    · simp only [← EReal.coe_one, ← EReal.coe_mul, ← EReal.coe_sub, ← EReal.coe_add]
    · simp only [← EReal.coe_one, ← EReal.coe_mul, ← EReal.coe_sub, ← EReal.coe_add]
      refine congrArg _ ?_
      ring

end Cert.NormRow

end
-- ==== Proof.LnBwd.lean ====
module
public import proofs.«01_k».proof.Proof.Gen.Kernel41.Frame
public import proofs.«01_k».proof.Proof.Gen.Kernel41Ideal.Value
public import proofs.«01_k».proof.Proof.Gen.Reference41Ideal.Run
public import proofs.«01_k».proof.Proof.LnGrad
public import proofs.«01_k».proof.Proof.Gen.Pre_finite
public import Idealize.ShloMosaic.Lib.ReduceAll
public import proofs.«01_k».proof.Proof.Lib
@[expose] public section
set_option maxRecDepth 16384
noncomputable section
set_option maxHeartbeats 4000000

/-! # The gradient of the layer norm and of the gate after it

The kernel takes blocks of 256 rows. A row of the gradient depends on that row of the arguments; the gradients of the
gain and of the shift are accumulated over the blocks. -/

namespace Cert.Kernel41Ideal.Norm

open Idealize.ShloMosaic TcCoe Tactic
open Cert.Kernel41Ideal.Gen

variable (m : (ℓ : Loc nD τ sig) → Buf (Elt Ideal) ℓ) (c : Dev nD)

/-- What arrives through the gate at the norm's value. -/
def through (x g b d : Fin 2048 → EReal) (q : Fin 2048) : EReal := d q * NormRow.weight (NormRow.layer x g b q)

/-- One row of the gradient. -/
def rowGrad (x g b d : Fin 2048 → EReal) (q : Fin 2048) : EReal :=
  NormRow.inner (NormRow.centred x) (fun k => through x g b d k * g k) q

/-- One row's share of the gradient of the gain. -/
def share (x g b d : Fin 2048 → EReal) (q : Fin 2048) : EReal :=
  through x g b d q * (NormRow.centred x q * NormRow.scale (NormRow.centred x))

def step (x : Vec Ideal S256x2048 .f32) (g b : Vec Ideal S1x2048 .f32) (d : Vec Ideal S256x2048 .f32) (j : S256x2048.Idx) : EReal :=
  rowGrad (fun k => x (ix2 (j 0) k)) (fun k => g (ix2 0 k)) (fun k => b (ix2 0 k)) (fun k => d (ix2 (j 0) k)) (j 1)
def part (x : Vec Ideal S256x2048 .f32) (g b : Vec Ideal S1x2048 .f32) (d : Vec Ideal S256x2048 .f32) (j : S1x2048.Idx) : EReal :=
  ∑ r : Fin 256, share (fun k => x (ix2 r k)) (fun k => g (ix2 0 k)) (fun k => b (ix2 0 k)) (fun k => d (ix2 r k)) (j 1)
def part' (x : Vec Ideal S256x2048 .f32) (g b : Vec Ideal S1x2048 .f32) (d : Vec Ideal S256x2048 .f32) (j : S1x2048.Idx) : EReal :=
  ∑ r : Fin 256, through (fun k => x (ix2 r k)) (fun k => g (ix2 0 k)) (fun k => b (ix2 0 k)) (fun k => d (ix2 r k)) (j 1)

theorem pay2_at (x : Vec Ideal S256x2048 .f32) (n : Fin 256) : k0_pay2 x (ix2 n 0) = NormRow.scale (NormRow.centred fun k => x (ix2 n k)) := by
  unfold k0_pay2 k0_pay1 NormRow.scale NormRow.centred NormRow.mean
  pointwise

theorem pay3_at (x : Vec Ideal S256x2048 .f32) (n : Fin 256) (q : Fin 2048) :
    k0_pay3 x (ix2 n q) = NormRow.centred (fun k => x (ix2 n k)) q * NormRow.scale (NormRow.centred fun k => x (ix2 n k)) := by
  unfold k0_pay3 k0_pay2 k0_pay1 NormRow.scale NormRow.centred NormRow.mean
  pointwise

/-- The gate's part of the payload, with the normalised block as it comes. -/
theorem pay4_at (x : Vec Ideal S256x2048 .f32) (g b : Vec Ideal S1x2048 .f32) (d : Vec Ideal S256x2048 .f32) (n : Fin 256) (q : Fin 2048) :
    k0_pay4 x g b d (ix2 n q) = through (fun k => x (ix2 n k)) (fun k => g (ix2 0 k)) (fun k => b (ix2 0 k)) (fun k => d (ix2 n k)) q := by
  unfold through NormRow.weight NormRow.logistic NormRow.layer
  rw [← pay3_at]
  unfold k0_pay4
  generalize k0_pay3 x = v
  pointwise
  rw [zero_sub]

theorem pay5_at (r : FVec Ideal S256x1 .f32) (h a : FVec Ideal S256x2048 .f32) (g : Vec Ideal S1x2048 .f32) (j : S256x2048.Idx) :
    k0_pay5 r h a g j = (show EReal from r (ix2 (j 0) 0)) * ((show EReal from a (ix2 (j 0) (j 1))) * (show EReal from g (ix2 0 (j 1)))
      - NormRow.mean (fun k => (show EReal from a (ix2 (j 0) k)) * (show EReal from g (ix2 0 k)))
      - (show EReal from h (ix2 (j 0) (j 1))) * NormRow.mean (fun k => (show EReal from a (ix2 (j 0) k)) * (show EReal from g (ix2 0 k)) * (show EReal from h (ix2 (j 0) k)))) := by
  unfold k0_pay5 NormRow.mean
  pointwise

theorem grad_at (x : Vec Ideal S256x2048 .f32) (g b : Vec Ideal S1x2048 .f32) (d : Vec Ideal S256x2048 .f32) (j : S256x2048.Idx) : k0_pay5 (k0_pay2 x) (k0_pay3 x) (k0_pay4 x g b d) g j = step x g b d j := by
  refine (pay5_at _ _ _ g j).trans ?_
  unfold step rowGrad NormRow.inner
  refine congrArg₂ (fun a b : EReal => a * b) (pay2_at x (j 0)) (congrArg₂ (fun a b : EReal => a - b) (congrArg₂ (fun a b : EReal => a - b) ?_ ?_) (congrArg₂ (fun a b : EReal => a * b) (pay3_at x (j 0) (j 1)) ?_))
  · exact congrArg (fun a : EReal => a * _) (pay4_at x g b d (j 0) (j 1))
  · exact congrArg NormRow.mean (funext fun k => congrArg (fun a : EReal => a * _) (pay4_at x g b d (j 0) k))
  · exact congrArg NormRow.mean (funext fun k => congrArg₂ (fun a b : EReal => a * b) (congrArg (fun a : EReal => a * _) (pay4_at x g b d (j 0) k)) (pay3_at x (j 0) k))

theorem pay6_at (h a : FVec Ideal S256x2048 .f32) (j : S1x2048.Idx) :
    k0_pay6 h a j = ∑ r : Fin 256, (show EReal from a (ix2 r (j 1))) * (show EReal from h (ix2 r (j 1))) := by
  unfold k0_pay6
  pointwise
theorem pay7_at (h a : FVec Ideal S256x2048 .f32) (v : Vec Ideal S1x2048 .f32) (j : S1x2048.Idx) : k0_pay7 h a v j = (show EReal from v j) + (show EReal from k0_pay6 h a j) := by
  unfold k0_pay7
  generalize k0_pay6 h a = w
  pointwise
theorem pay8_at (a : FVec Ideal S256x2048 .f32) (j : S1x2048.Idx) : k0_pay8 a j = ∑ r : Fin 256, (show EReal from a (ix2 r (j 1))) := by
  unfold k0_pay8
  pointwise
theorem pay9_at (a : FVec Ideal S256x2048 .f32) (v : Vec Ideal S1x2048 .f32) (j : S1x2048.Idx) : k0_pay9 a v j = (show EReal from v j) + (show EReal from k0_pay8 a j) := by
  unfold k0_pay9
  generalize k0_pay8 a = w
  pointwise

theorem part_at (x : Vec Ideal S256x2048 .f32) (g b : Vec Ideal S1x2048 .f32) (d : Vec Ideal S256x2048 .f32) (j : S1x2048.Idx) : k0_pay6 (k0_pay3 x) (k0_pay4 x g b d) j = part x g b d j :=
  (pay6_at _ _ j).trans (Finset.sum_congr rfl fun r _ => congrArg₂ (fun a b : EReal => a * b) (pay4_at x g b d r (j 1)) (pay3_at x r (j 1)))
theorem part_at' (x : Vec Ideal S256x2048 .f32) (g b : Vec Ideal S1x2048 .f32) (d : Vec Ideal S256x2048 .f32) (j : S1x2048.Idx) : k0_pay8 (k0_pay4 x g b d) j = part' x g b d j :=
  (pay8_at _ j).trans (Finset.sum_congr rfl fun r _ => pay4_at x g b d r (j 1))

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)

theorem out_apply (t : Fin cfg0.N) (j : S256x2048.Idx) :
    (outsAt0 m c t.val t.isLt).1 j = step (iblk m c 0 t) (iblk m c 1 t) (iblk m c 2 t) (iblk m c 3 t) j := by
  have hN : t.val < 16 := t.isLt
  by_cases h : t.val % 16 = 0
  · rw [outsAt0_A m c t h (by omega) h (by omega)]
    frame_out
    rw [grad_at]
  · rw [outsAt0_B m c t h (by omega) h (by omega)]
    frame_out
    rw [grad_at]

theorem acc_first (t : Fin cfg0.N) (h : t.val % 16 = 0) (j : S1x2048.Idx) :
    (outsAt0 m c t.val t.isLt).2.1 j = (0 : EReal) + part (iblk m c 0 t) (iblk m c 1 t) (iblk m c 2 t) (iblk m c 3 t) j := by
  have hN : t.val < 16 := t.isLt
  rw [outsAt0_A m c t h (by omega) h (by omega)]
  frame_out
  rw [part_at, zero_add]

theorem acc_next (t : Fin cfg0.N) (h : ¬ t.val % 16 = 0) (j : S1x2048.Idx) :
    (outsAt0 m c t.val t.isLt).2.1 j
      = (show EReal from (outsAt0 m c (t.val - 1) (Nat.lt_of_le_of_lt (Nat.sub_le _ _) t.isLt)).2.1 j) + part (iblk m c 0 t) (iblk m c 1 t) (iblk m c 2 t) (iblk m c 3 t) j := by
  rw [outsAt0_B m c t h (by omega) h (by omega)]
  frame_out
  rw [pay7_at, part_at]

theorem sum_first (t : Fin cfg0.N) (h : t.val % 16 = 0) (j : S1x2048.Idx) :
    (outsAt0 m c t.val t.isLt).2.2 j = (0 : EReal) + part' (iblk m c 0 t) (iblk m c 1 t) (iblk m c 2 t) (iblk m c 3 t) j := by
  have hN : t.val < 16 := t.isLt
  rw [outsAt0_A m c t h (by omega) h (by omega)]
  frame_out
  rw [part_at', zero_add]

theorem sum_next (t : Fin cfg0.N) (h : ¬ t.val % 16 = 0) (j : S1x2048.Idx) :
    (outsAt0 m c t.val t.isLt).2.2 j
      = (show EReal from (outsAt0 m c (t.val - 1) (Nat.lt_of_le_of_lt (Nat.sub_le _ _) t.isLt)).2.2 j) + part' (iblk m c 0 t) (iblk m c 1 t) (iblk m c 2 t) (iblk m c 3 t) j := by
  rw [outsAt0_B m c t h (by omega) h (by omega)]
  frame_out
  rw [pay9_at, part_at']

/-- A row of the block, read from the argument that it is cut from. -/
theorem row_blk (t : Fin cfg0.N) (r : Fin 256) (a : Fin 4096) (ha : a.val = t.val * 256 + r.val) :
    (fun k : Fin 2048 => iblk m c 0 t (ix2 r k)) = fun k => m ((c : Thread nD τ).loc main_arg0) (ix2 a k) := by
  funext k
  blk_simp [iblk]
  refine congrArg (m ((c : Thread nD τ).loc main_arg0)) ?_
  blk_ext [index0]

/-- The same for what arrives. -/
theorem grad_blk (t : Fin cfg0.N) (r : Fin 256) (a : Fin 4096) (ha : a.val = t.val * 256 + r.val) :
    (fun k : Fin 2048 => iblk m c 3 t (ix2 r k)) = fun k => m ((c : Thread nD τ).loc main_arg3) (ix2 a k) := by
  funext k
  blk_simp [iblk]
  refine congrArg (m ((c : Thread nD τ).loc main_arg3)) ?_
  blk_ext [index3]

/-- The gain, read from the argument. -/
theorem gain_blk (t : Fin cfg0.N) :
    (fun k : Fin 2048 => iblk m c 1 t (ix2 0 k)) = fun k => m ((c : Thread nD τ).loc main_arg1) (ix1 k) := by
  funext k
  blk_simp [iblk]
  entry_read
  pointwise
  refine congrArg (m ((c : Thread nD τ).loc main_arg1)) ?_
  blk_ext [index1]

/-- The shift, read from the argument. -/
theorem shift_blk (t : Fin cfg0.N) :
    (fun k : Fin 2048 => iblk m c 2 t (ix2 0 k)) = fun k => m ((c : Thread nD τ).loc main_arg2) (ix1 k) := by
  funext k
  blk_simp [iblk]
  entry_read
  pointwise
  refine congrArg (m ((c : Thread nD τ).loc main_arg2)) ?_
  blk_ext [index2]

/-- The three results. -/
def grad : Buf (Elt Ideal) ((c : Thread nD τ).loc main_v2_0) := fun i =>
  rowGrad (fun k => m ((c : Thread nD τ).loc main_arg0) (ix2 (i 0) k)) (fun k => m ((c : Thread nD τ).loc main_arg1) (ix1 k))
    (fun k => m ((c : Thread nD τ).loc main_arg2) (ix1 k)) (fun k => m ((c : Thread nD τ).loc main_arg3) (ix2 (i 0) k)) (i 1)
def total : Buf (Elt Ideal) ((c : Thread nD τ).loc main_v2_1) := fun i =>
  show EReal from ∑ n : Fin 4096, share (fun k => m ((c : Thread nD τ).loc main_arg0) (ix2 n k)) (fun k => m ((c : Thread nD τ).loc main_arg1) (ix1 k))
    (fun k => m ((c : Thread nD τ).loc main_arg2) (ix1 k)) (fun k => m ((c : Thread nD τ).loc main_arg3) (ix2 n k)) (i 1)
def total' : Buf (Elt Ideal) ((c : Thread nD τ).loc main_v2_2) := fun i =>
  show EReal from ∑ n : Fin 4096, through (fun k => m ((c : Thread nD τ).loc main_arg0) (ix2 n k)) (fun k => m ((c : Thread nD τ).loc main_arg1) (ix1 k))
    (fun k => m ((c : Thread nD τ).loc main_arg2) (ix1 k)) (fun k => m ((c : Thread nD τ).loc main_arg3) (ix2 n k)) (i 1)

/-- A function of the rows of a block, read from the arguments. -/
theorem rows_eq (f : (Fin 2048 → EReal) → (Fin 2048 → EReal) → (Fin 2048 → EReal) → (Fin 2048 → EReal) → Fin 2048 → EReal)
    (t : Fin cfg0.N) (r : Fin 256) (a : Fin 4096) (ha : a.val = t.val * 256 + r.val) (q p : Fin 2048) (h : p.val = q.val) :
    f (fun k => iblk m c 0 t (ix2 r k)) (fun k => iblk m c 1 t (ix2 0 k)) (fun k => iblk m c 2 t (ix2 0 k)) (fun k => iblk m c 3 t (ix2 r k)) q
      = f (fun k => m ((c : Thread nD τ).loc main_arg0) (ix2 a k)) (fun k => m ((c : Thread nD τ).loc main_arg1) (ix1 k))
        (fun k => m ((c : Thread nD τ).loc main_arg2) (ix1 k)) (fun k => m ((c : Thread nD τ).loc main_arg3) (ix2 a k)) p := by
  rw [row_blk m c t r a ha, gain_blk m c t, shift_blk m c t, grad_blk m c t r a ha]
  exact congrArg _ (Fin.ext h.symm)

theorem final4 : (dats m 0 c).arrAt 4 cfg0.N = grad m c := by
  refine (dats m 0 c).arrAt_eq_of_covers 4 _ (by decide +kernel) fun t hf y => ?_
  blk_simp
  rw [after0_4]
  have e0 : ((win0_4.blk t).view.emb y 0).val = t.val * 256 + (y 0).val := by blk_simp [index4]
  have e1 : ((win0_4.blk t).view.emb y 1).val = (y 1).val := by blk_simp [index4]
  generalize (win0_4.blk t).view.emb y = i at e0 e1 ⊢
  refine (out_apply m c t y).trans ?_
  exact rows_eq m c rowGrad t (y 0) (i 0) e0 (y 1) (i 1) e1

theorem final5 : (dats m 0 c).arrAt 5 cfg0.N = total m c := by
  refine (dats m 0 c).arrAt_eq_of_covers 5 _ (by decide +kernel) fun t hf y => ?_
  blk_simp
  rw [after0_5]
  have hN : t.val < 16 := t.isLt
  have e1 : ((win0_5.blk t).view.emb y 1).val = (y 1).val := by blk_simp [index5]
  have ht : t.val % 16 = 15 := (flush0_5 t).mp hf
  generalize (win0_5.blk t).view.emb y = i at e1 ⊢
  rw [Pipeline.eq_sum_fin_of_reset_step_apply_of_flush (fun n h => (outsAt0 m c n h).2.1) 16 (fun _ => (0 : EReal))
    (fun t => part (iblk m c 0 t) (iblk m c 1 t) (iblk m c 2 t) (iblk m c 3 t)) (acc_first m c) (acc_next m c) t ht y, zero_add]
  refine Fin.sum_mul_add_congr fun s k hl => ?_
  have hs : s.val * 256 + k.val = (16 * (t.val / 16) + s.val) * 256 + k.val := by omega
  refine rows_eq m c share _ k _ ?_ (y 1) (i 1) e1
  exact hs

theorem final6 : (dats m 0 c).arrAt 6 cfg0.N = total' m c := by
  refine (dats m 0 c).arrAt_eq_of_covers 6 _ (by decide +kernel) fun t hf y => ?_
  blk_simp
  rw [after0_6]
  have hN : t.val < 16 := t.isLt
  have e1 : ((win0_6.blk t).view.emb y 1).val = (y 1).val := by blk_simp [index6]
  have ht : t.val % 16 = 15 := (flush0_6 t).mp hf
  generalize (win0_6.blk t).view.emb y = i at e1 ⊢
  rw [Pipeline.eq_sum_fin_of_reset_step_apply_of_flush (fun n h => (outsAt0 m c n h).2.2) 16 (fun _ => (0 : EReal))
    (fun t => part' (iblk m c 0 t) (iblk m c 1 t) (iblk m c 2 t) (iblk m c 3 t)) (sum_first m c) (sum_next m c) t ht y, zero_add]
  refine Fin.sum_mul_add_congr fun s k hl => ?_
  have hs : s.val * 256 + k.val = (16 * (t.val / 16) + s.val) * 256 + k.val := by omega
  refine rows_eq m c through _ k _ ?_ (y 1) (i 1) e1
  exact hs

end Cert.Kernel41Ideal.Norm

namespace Cert.Proof

open Idealize.ShloMosaic TcCoe Idealize.SL.Sem StableHlo Tactic

theorem frame_Kernel41 : quiescent_Kernel41 := fun m ρ _ => Kernel41.Gen.frame m ρ

theorem frame_Kernel41Ideal : quiescent_Kernel41Ideal := fun m ρ _ => Kernel41Ideal.Gen.frame m ρ

theorem frame_Reference41Ideal : quiescent_Reference41Ideal := fun m ρ _ =>
  (θ_run _ _ _).mono (fun r h => ⟨fun c => (h c).2.2.2, sem_eq_zero_of_no_sems (by decide) r.2⟩)
    (Reference41Ideal.Value.run m ρ)

/-- The frames hold without the precondition, and so with it. -/
theorem frame_Kernel41Ideal_finite : quiescent_Kernel41Ideal_pre_finite := fun m ρ _ => frame_Kernel41Ideal m ρ trivial

theorem frame_Reference41Ideal_finite : quiescent_Reference41Ideal_pre_finite := fun m ρ _ => frame_Reference41Ideal m ρ trivial

section
open Reference41Ideal Reference41Ideal.Gen

/-- The reference, step by step: the differences from the mean, their mean squares, the reciprocal roots, the norm's
    value, what passes the gate, and the gradients. -/
def diff41 (x : FVec Ideal S4096x2048 .f32) : FVec Ideal S4096x2048 .f32 :=
  subf x (broadcastInDim S4096x2048 ![0, 1] bcast_S4096x1_S4096x2048_0_1 (Host.divf (broadcastInDim S4096x1 ![0] bcast_S4096_S4096x1_0 (Host.reduceAdd x (constant S_ .f32 0x00000000#32) reducesTo_S4096x2048_S4096_d1 h_S_)) (broadcastInDim S4096x1 ![] bcast_S_S4096x1 (constant S_ .f32 0x45000000#32))))
def power41 (y : FVec Ideal S4096x2048 .f32) : FVec Ideal S4096x1 .f32 :=
  addf (Host.divf (broadcastInDim S4096x1 ![0] bcast_S4096_S4096x1_0 (Host.reduceAdd (mulf y y) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))
def hat41 (y : FVec Ideal S4096x2048 .f32) (p : FVec Ideal S4096x1 .f32) : FVec Ideal S4096x2048 .f32 :=
  mulf y (broadcastInDim S4096x2048 ![0, 1] bcast_S4096x1_S4096x2048_0_1 (Host.rsqrt p))
def wide41 (g : FVec Ideal S2048 .f32) : FVec Ideal S4096x2048 .f32 :=
  broadcastInDim S4096x2048 ![0, 1] bcast_S1x2048_S4096x2048_0_1 (broadcastInDim S1x2048 ![1] bcast_S2048_S1x2048_1 g)
def norm41 (h : FVec Ideal S4096x2048 .f32) (g b : FVec Ideal S2048 .f32) : FVec Ideal S4096x2048 .f32 :=
  addf (mulf h (wide41 g)) (wide41 b)
def sig41 (n : FVec Ideal S4096x2048 .f32) : FVec Ideal S4096x2048 .f32 :=
  Host.divf (broadcastInDim S4096x2048 ![] bcast_S_S4096x2048 (constant S_ .f32 0x3F800000#32)) (addf (broadcastInDim S4096x2048 ![] bcast_S_S4096x2048 (constant S_ .f32 0x3F800000#32)) (Host.exp (Host.negf n)))
def gate41 (n l d : FVec Ideal S4096x2048 .f32) : FVec Ideal S4096x2048 .f32 :=
  addf (mulf d l) (mulf (mulf n d) (mulf l (subf (broadcastInDim S4096x2048 ![] bcast_S_S4096x2048 (constant S_ .f32 0x3F800000#32)) l)))
def slope41 (y a : FVec Ideal S4096x2048 .f32) (p : FVec Ideal S4096x1 .f32) : FVec Ideal S4096 .f32 :=
  Host.reduceAdd (Host.divf (mulf (shapeCast _ (Host.reduceAdd (mulf y a) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt p) p))) (broadcastInDim S4096x1 ![] bcast_S_S4096x1 (constant S_ .f32 0x45000000#32))) (constant S_ .f32 0x00000000#32) reducesTo_S4096x1_S4096_d1 h_S_
def chain41 (y a : FVec Ideal S4096x2048 .f32) (p : FVec Ideal S4096x1 .f32) (s : FVec Ideal S4096 .f32) : FVec Ideal S4096x2048 .f32 :=
  addf (addf (mulf a (broadcastInDim S4096x2048 ![0, 1] bcast_S4096x1_S4096x2048_0_1 (Host.rsqrt p))) (mulf y (broadcastInDim S4096x2048 ![0] bcast_S4096_S4096x2048_0 s))) (mulf (broadcastInDim S4096x2048 ![0] bcast_S4096_S4096x2048_0 s) y)
def back41 (w : FVec Ideal S4096x2048 .f32) : FVec Ideal S4096 .f32 :=
  Host.reduceAdd (Host.divf (shapeCast _ (Host.reduceAdd (Host.negf w) (constant S_ .f32 0x00000000#32) reducesTo_S4096x2048_S4096_d1 h_S_) shapeCasts_S4096_S4096x1) (broadcastInDim S4096x1 ![] bcast_S_S4096x1 (constant S_ .f32 0x45000000#32))) (constant S_ .f32 0x00000000#32) reducesTo_S4096x1_S4096_d1 h_S_
def grad41 (w : FVec Ideal S4096x2048 .f32) (s : FVec Ideal S4096 .f32) : FVec Ideal S4096x2048 .f32 :=
  addf w (broadcastInDim S4096x2048 ![0] bcast_S4096_S4096x2048_0 s)
def total41 (v : FVec Ideal S4096x2048 .f32) : FVec Ideal S1x2048 .f32 :=
  shapeCast _ (Host.reduceAdd (shapeCast _ (Host.reduceAdd v (constant S_ .f32 0x00000000#32) reducesTo_S4096x2048_S2048_d0 h_S_) shapeCasts_S2048_S1x2048) (constant S_ .f32 0x00000000#32) reducesTo_S1x2048_S2048_d0 h_S_) shapeCasts_S2048_S1x2048

/-- The compositions. -/
def xhat41 (x : FVec Ideal S4096x2048 .f32) : FVec Ideal S4096x2048 .f32 := hat41 (diff41 x) (power41 (diff41 x))
def val41 (x : FVec Ideal S4096x2048 .f32) (g b : FVec Ideal S2048 .f32) : FVec Ideal S4096x2048 .f32 := norm41 (xhat41 x) g b
def pass41 (x : FVec Ideal S4096x2048 .f32) (g b : FVec Ideal S2048 .f32) (d : FVec Ideal S4096x2048 .f32) : FVec Ideal S4096x2048 .f32 :=
  gate41 (val41 x g b) (sig41 (val41 x g b)) d
def arr41 (x : FVec Ideal S4096x2048 .f32) (g b : FVec Ideal S2048 .f32) (d : FVec Ideal S4096x2048 .f32) : FVec Ideal S4096x2048 .f32 :=
  mulf (pass41 x g b d) (wide41 g)
def inner41 (y a : FVec Ideal S4096x2048 .f32) : FVec Ideal S4096x2048 .f32 := chain41 y a (power41 y) (slope41 y a (power41 y))
def outer41 (w : FVec Ideal S4096x2048 .f32) : FVec Ideal S4096x2048 .f32 := grad41 w (back41 w)

variable (m : (ℓ : Loc nD τ sig) → Buf (Elt Ideal) ℓ) (c : Dev nD)

theorem res41 : Reference41Ideal.Value.res_out0 m c = outer41 (inner41 (diff41 (m ((c.tc : Thread nD τ).loc main_arg0)))
    (arr41 (m ((c.tc : Thread nD τ).loc main_arg0)) (m ((c.tc : Thread nD τ).loc main_arg1)) (m ((c.tc : Thread nD τ).loc main_arg2)) (m ((c.tc : Thread nD τ).loc main_arg3)))) := rfl
theorem res41' : Reference41Ideal.Value.res_out1 m c = total41 (mulf (xhat41 (m ((c.tc : Thread nD τ).loc main_arg0)))
    (pass41 (m ((c.tc : Thread nD τ).loc main_arg0)) (m ((c.tc : Thread nD τ).loc main_arg1)) (m ((c.tc : Thread nD τ).loc main_arg2)) (m ((c.tc : Thread nD τ).loc main_arg3)))) := rfl
theorem res41'' : Reference41Ideal.Value.res_out2 m c = total41
    (pass41 (m ((c.tc : Thread nD τ).loc main_arg0)) (m ((c.tc : Thread nD τ).loc main_arg1)) (m ((c.tc : Thread nD τ).loc main_arg2)) (m ((c.tc : Thread nD τ).loc main_arg3))) := rfl

theorem diff41_at (x : FVec Ideal S4096x2048 .f32) (n : Fin 4096) (q : Fin 2048) : diff41 x (ix2 n q) = NormRow.centred (fun k => x (ix2 n k)) q := by
  unfold diff41 NormRow.centred NormRow.mean
  pointwise
theorem power41_at (y : FVec Ideal S4096x2048 .f32) (n : Fin 4096) : power41 y (ix2 n 0) = NormRow.power (fun k => y (ix2 n k)) := by
  unfold power41 NormRow.power NormRow.mean
  pointwise
theorem diff41_row (x : FVec Ideal S4096x2048 .f32) (n : Fin 4096) : (fun k => diff41 x (ix2 n k)) = NormRow.centred (fun k => x (ix2 n k)) :=
  funext fun k => diff41_at x n k
theorem hat41_at (y : FVec Ideal S4096x2048 .f32) (p : FVec Ideal S4096x1 .f32) (n : Fin 4096) (q : Fin 2048) :
    hat41 y p (ix2 n q) = (show EReal from y (ix2 n q)) * Ideal.rsqrt (p (ix2 n 0)) := by
  unfold hat41
  pointwise
theorem xhat41_at (x : FVec Ideal S4096x2048 .f32) (n : Fin 4096) (q : Fin 2048) :
    xhat41 x (ix2 n q) = NormRow.centred (fun k => x (ix2 n k)) q * NormRow.scale (NormRow.centred fun k => x (ix2 n k)) := by
  unfold xhat41
  refine (hat41_at _ _ n q).trans ?_
  rw [power41_at, diff41_row]
  exact congrArg (fun a : EReal => a * _) (diff41_at x n q)
theorem norm41_at (h : FVec Ideal S4096x2048 .f32) (g b : FVec Ideal S2048 .f32) (n : Fin 4096) (q : Fin 2048) :
    norm41 h g b (ix2 n q) = (show EReal from h (ix2 n q)) * (show EReal from g (ix1 q)) + (show EReal from b (ix1 q)) := by
  unfold norm41 wide41
  pointwise
theorem val41_at (x : FVec Ideal S4096x2048 .f32) (g b : FVec Ideal S2048 .f32) (n : Fin 4096) (q : Fin 2048) :
    val41 x g b (ix2 n q) = NormRow.layer (fun k => x (ix2 n k)) (fun k => g (ix1 k)) (fun k => b (ix1 k)) q :=
  (norm41_at _ g b n q).trans (congrArg (fun a : EReal => a * g (ix1 q) + b (ix1 q)) (xhat41_at x n q))
theorem sig41_at (n : FVec Ideal S4096x2048 .f32) (j : S4096x2048.Idx) : sig41 n j = NormRow.logistic (n j) := by
  unfold sig41 NormRow.logistic
  pointwise
theorem gate41_at (n l d : FVec Ideal S4096x2048 .f32) (j : S4096x2048.Idx) :
    gate41 n l d j = (show EReal from d j) * (show EReal from l j) + (show EReal from n j) * (show EReal from d j) * ((show EReal from l j) * (1 - (show EReal from l j))) := by
  unfold gate41
  pointwise
theorem slope41_at (y a : FVec Ideal S4096x2048 .f32) (n : Fin 4096) :
    slope41 y a (power41 y) (ix1 n) = NormRow.slope (fun k => y (ix2 n k)) (fun _ => 1) (fun k => a (ix2 n k)) := by
  unfold NormRow.slope
  rw [NormRow.scale_eq, ← power41_at]
  generalize power41 y = p
  simp only [mul_one]
  unfold slope41
  pointwise
  exact Fin.sum_univ_one _
theorem chain41_at (y a : FVec Ideal S4096x2048 .f32) (p : FVec Ideal S4096x1 .f32) (s : FVec Ideal S4096 .f32) (n : Fin 4096) (q : Fin 2048) :
    chain41 y a p s (ix2 n q) = (show EReal from a (ix2 n q)) * Ideal.rsqrt (p (ix2 n 0)) + (show EReal from y (ix2 n q)) * (show EReal from s (ix1 n)) + (show EReal from s (ix1 n)) * (show EReal from y (ix2 n q)) := by
  unfold chain41
  pointwise
theorem inner41_at (y a : FVec Ideal S4096x2048 .f32) (n : Fin 4096) (q : Fin 2048) :
    inner41 y a (ix2 n q) = NormRow.chain (fun k => y (ix2 n k)) (fun k => a (ix2 n k)) q := by
  unfold NormRow.chain
  rw [← slope41_at, NormRow.scale_eq, ← power41_at]
  exact chain41_at y a _ _ n q
theorem back41_at (w : FVec Ideal S4096x2048 .f32) (n : Fin 4096) :
    back41 w (ix1 n) = Ideal.div (∑ k : Fin 2048, -(show EReal from w (ix2 n k))) (Ideal.ofBits FTy.f32 1157627904#32) := by
  unfold back41
  pointwise
  exact Fin.sum_univ_one _
theorem grad41_at (w : FVec Ideal S4096x2048 .f32) (s : FVec Ideal S4096 .f32) (n : Fin 4096) (q : Fin 2048) :
    grad41 w s (ix2 n q) = (show EReal from w (ix2 n q)) + (show EReal from s (ix1 n)) := by
  unfold grad41
  pointwise
theorem total41_at (v : FVec Ideal S4096x2048 .f32) (i : S1x2048.Idx) : total41 v i = ∑ n : Fin 4096, (show EReal from v (ix2 n (i 1))) := by
  unfold total41
  pointwise
  exact Fin.sum_univ_one _
theorem arr41_at (x d : FVec Ideal S4096x2048 .f32) (g b : FVec Ideal S2048 .f32) (n : Fin 4096) (q : Fin 2048) :
    arr41 x g b d (ix2 n q) = (show EReal from pass41 x g b d (ix2 n q)) * (show EReal from g (ix1 q)) := by
  unfold arr41 wide41
  generalize pass41 x g b d = v
  pointwise

/-- What passes the gate, read in one row, if what arrives is real. -/
theorem pass41_at (x d : FVec Ideal S4096x2048 .f32) (g b : FVec Ideal S2048 .f32) (hd : ∀ j, ∃ r : ℝ, d j = (r : EReal)) (n : Fin 4096) (q : Fin 2048) :
    ∃ r : ℝ, pass41 x g b d (ix2 n q) = (r : EReal)
      ∧ Kernel41Ideal.Norm.through (fun k => x (ix2 n k)) (fun k => g (ix1 k)) (fun k => b (ix1 k)) (fun k => d (ix2 n k)) q = (r : EReal) := by
  obtain ⟨s, hs⟩ := hd (ix2 n q)
  obtain ⟨r, h1, h2⟩ := NormRow.gate_real s (NormRow.layer (fun k => x (ix2 n k)) (fun k => g (ix1 k)) (fun k => b (ix1 k)) q)
  refine ⟨r, (gate41_at _ _ d (ix2 n q)).trans ?_, ?_⟩
  · rw [sig41_at, val41_at, hs]
    exact h2
  · unfold Kernel41Ideal.Norm.through
    exact (congrArg (fun a : EReal => a * _) hs).trans h1

/-- The reference's results, read at one place. -/
theorem ref41_at (x d : FVec Ideal S4096x2048 .f32) (g b : FVec Ideal S2048 .f32) (hg : ∀ j, ∃ r : ℝ, g j = (r : EReal)) (hd : ∀ j, ∃ r : ℝ, d j = (r : EReal)) (n : Fin 4096) (q : Fin 2048) :
    outer41 (inner41 (diff41 x) (arr41 x g b d)) (ix2 n q)
      = Kernel41Ideal.Norm.rowGrad (fun k => x (ix2 n k)) (fun k => g (ix1 k)) (fun k => b (ix1 k)) (fun k => d (ix2 n k)) q := by
  have ha : (fun k => arr41 x g b d (ix2 n k)) = fun k =>
      Kernel41Ideal.Norm.through (fun k => x (ix2 n k)) (fun k => g (ix1 k)) (fun k => b (ix1 k)) (fun k => d (ix2 n k)) k * (show EReal from g (ix1 k)) := by
    funext k
    obtain ⟨r, h1, h2⟩ := pass41_at x d g b hd n k
    refine (arr41_at x d g b n k).trans ?_
    rw [h1, h2]
  have hr : ∀ k, ∃ r : ℝ, Kernel41Ideal.Norm.through (fun k => x (ix2 n k)) (fun k => g (ix1 k)) (fun k => b (ix1 k)) (fun k => d (ix2 n k)) k * (show EReal from g (ix1 k)) = (r : EReal) := fun k => by
    obtain ⟨r, -, h2⟩ := pass41_at x d g b hd n k
    obtain ⟨s, hs⟩ := hg (ix1 k)
    refine ⟨r * s, ?_⟩
    rw [h2, EReal.coe_mul]
    exact congrArg (fun a : EReal => _ * a) hs
  unfold Kernel41Ideal.Norm.rowGrad
  refine Eq.trans ?_ (NormRow.inner_eq _ _ hr q).symm
  have hw : ∀ k, inner41 (diff41 x) (arr41 x g b d) (ix2 n k) = NormRow.chain (NormRow.centred fun k => x (ix2 n k)) (fun k =>
      Kernel41Ideal.Norm.through (fun k => x (ix2 n k)) (fun k => g (ix1 k)) (fun k => b (ix1 k)) (fun k => d (ix2 n k)) k * (show EReal from g (ix1 k))) k := fun k => by
    rw [inner41_at, diff41_row, ha]
  refine (grad41_at _ _ n q).trans ?_
  rw [back41_at]
  refine congrArg₂ (fun a b : EReal => a + b) (hw q) (congrArg (fun a : EReal => Ideal.div a _) (Finset.sum_congr rfl fun k _ => congrArg (fun a : EReal => -a) (hw k)))

theorem ref41_at' (x d : FVec Ideal S4096x2048 .f32) (g b : FVec Ideal S2048 .f32) (hd : ∀ j, ∃ r : ℝ, d j = (r : EReal)) (i : S1x2048.Idx) :
    total41 (mulf (xhat41 x) (pass41 x g b d)) i
      = ∑ n : Fin 4096, Kernel41Ideal.Norm.share (fun k => x (ix2 n k)) (fun k => g (ix1 k)) (fun k => b (ix1 k)) (fun k => d (ix2 n k)) (i 1) := by
  refine (total41_at _ i).trans (Finset.sum_congr rfl fun n _ => ?_)
  obtain ⟨r, h1, h2⟩ := pass41_at x d g b hd n (i 1)
  refine Eq.trans (b := (show EReal from xhat41 x (ix2 n (i 1))) * (show EReal from pass41 x g b d (ix2 n (i 1)))) ?_ ?_
  · generalize xhat41 x = v
    generalize pass41 x g b d = w
    pointwise
  · unfold Kernel41Ideal.Norm.share
    rw [h2]
    exact (congrArg₂ (fun a b : EReal => a * b) (xhat41_at x n (i 1)) h1).trans (mul_comm (G := EReal) _ _)

theorem ref41_at'' (x d : FVec Ideal S4096x2048 .f32) (g b : FVec Ideal S2048 .f32) (hd : ∀ j, ∃ r : ℝ, d j = (r : EReal)) (i : S1x2048.Idx) :
    total41 (pass41 x g b d) i
      = ∑ n : Fin 4096, Kernel41Ideal.Norm.through (fun k => x (ix2 n k)) (fun k => g (ix1 k)) (fun k => b (ix1 k)) (fun k => d (ix2 n k)) (i 1) := by
  refine (total41_at _ i).trans (Finset.sum_congr rfl fun n _ => ?_)
  obtain ⟨r, h1, h2⟩ := pass41_at x d g b hd n (i 1)
  exact h1.trans h2.symm

end

section
open Pre_finite Pre_finite.Gen

theorem ofBool_one (b : Bool) : BitVec.ofBool b = 1#1 ↔ b = true := by cases b <;> decide

/-- A number below the infinite one in absolute value is real. -/
theorem real_of_abs (x : EReal) (h : Ideal.cmp .olt (max x (-x)) (Ideal.ofBits FTy.f32 0x7F800000#32) = 1#1) : ∃ r : ℝ, x = (r : EReal) := by
  have ht : Ideal.ofBits FTy.f32 0x7F800000#32 = ⊤ := by simp [Ideal.ofBits, Ideal.ieee]
  rw [ht] at h
  replace h : BitVec.ofBool (decide (max x (-x) < ⊤)) = 1#1 := h
  simp only [ofBool_one, decide_eq_true_eq] at h
  induction x using EReal.rec with
  | bot => simp at h
  | coe r => exact ⟨r, rfl⟩
  | top => simp at h

/-- The precondition says that the gain and what arrives are real. -/
theorem finite41 (x : FVec Ideal S4096x2048 .f32) (g b : FVec Ideal S2048 .f32) (d : FVec Ideal S4096x2048 .f32)
    (h : Pre_finite.fn (F := Ideal) x g b d = fun _ => 1#1) : (∀ j, ∃ r : ℝ, g j = (r : EReal)) ∧ ∀ j, ∃ r : ℝ, d j = (r : EReal) := by
  haveI : Subsingleton S_.Idx := ⟨fun a b => funext fun k => k.elim0⟩
  obtain ⟨h1, h2⟩ := IntOp.andi_eq_one.1 (congrFun h fun k => k.elim0)
  exact ⟨fun j => real_of_abs _ (Host.reduce_andi_all _ _ _ _ _ h1 j), fun j => real_of_abs _ (Host.reduce_andi_all _ _ _ _ _ h2 j)⟩

end

theorem value_Kernel41Ideal : algebraic_Kernel41Ideal_Reference41Ideal_pre_finite := by
  intro m ρ m' ρ' hp hag
  refine ⟨Kernel41Ideal.Norm.grad m, Kernel41Ideal.Norm.total m, Kernel41Ideal.Norm.total' m, ?_, ?_⟩
  · exact (θ_run _ _ _).mono (fun _ h c => ⟨(h c).1.trans (Kernel41Ideal.Norm.final4 m c),
      (h c).2.1.trans (Kernel41Ideal.Norm.final5 m c), (h c).2.2.1.trans (Kernel41Ideal.Norm.final6 m c), (h c).2.2.2⟩) (Kernel41Ideal.Value.run_blocks m ρ)
  · refine (θ_run _ _ _).mono (fun _ h c => ⟨(h c).1.trans ?_, (h c).2.1.trans ?_, (h c).2.2.1.trans ?_, (h c).2.2.2⟩) (Reference41Ideal.Value.run m' ρ')
    · obtain ⟨h0, h1, h2, h3⟩ := hag c
      obtain ⟨hg, hd⟩ := finite41 _ _ _ _ (hp c)
      refine (res41 m' c).trans ?_
      rw [h0, h1, h2, h3]
      funext i
      have hi : i = ix2 (i 0) (i 1) := by funext a; fin_cases a <;> rfl
      exact (congrArg _ hi).trans (ref41_at _ _ _ _ hg hd (i 0) (i 1))
    · obtain ⟨h0, h1, h2, h3⟩ := hag c
      obtain ⟨hg, hd⟩ := finite41 _ _ _ _ (hp c)
      refine (res41' m' c).trans ?_
      rw [h0, h1, h2, h3]
      funext i
      exact ref41_at' _ _ _ _ hd i
    · obtain ⟨h0, h1, h2, h3⟩ := hag c
      obtain ⟨hg, hd⟩ := finite41 _ _ _ _ (hp c)
      refine (res41'' m' c).trans ?_
      rw [h0, h1, h2, h3]
      funext i
      exact ref41_at'' _ _ _ _ hd i

end Cert.Proof

end
-- ==== Proof.RopeFwd.lean ====
module
public import proofs.«01_k».proof.Proof.Gen.Kernel42.Frame
public import proofs.«01_k».proof.Proof.Gen.Kernel42Ideal.Value
public import proofs.«01_k».proof.Proof.Gen.Reference42Ideal.Run
public import proofs.«01_k».proof.Proof.LnBwd
public import proofs.«01_k».proof.Proof.Gen.Pre_finite_gain
public import Idealize.ShloMosaic.Lib.ReduceAll
public import proofs.«01_k».proof.Proof.Lib
@[expose] public section
set_option maxRecDepth 16384
noncomputable section
set_option maxHeartbeats 4000000

/-! # The norm and the rotation of the queries

Each row of a head is normalised, then its first sixteen columns are turned by angles that depend on the position.
The kernel finds the other column of each pair by a product with a matrix of zeros and ones, taken on a sum of three
parts of the row; the reference exchanges the two halves of the columns. -/

namespace Cert.RopeRow

open Idealize.ShloMosaic

/-- The mean of a row. -/
def mean (f : Fin 64 → EReal) : EReal := Ideal.div (∑ k, f k) (Ideal.ofBits FTy.f32 1115684864#32)

/-- The reciprocal root of the mean square of a row, with the small constant added. -/
def scale (f : Fin 64 → EReal) : EReal := Ideal.rsqrt (mean (fun k => f k * f k) + Ideal.ofBits FTy.f32 897988541#32)

/-- The row divided by its root mean square, times a gain. -/
def rms (f g : Fin 64 → EReal) (q : Fin 64) : EReal := f q * scale f * g q

/-- The product of a row, in three parts, with the matrix of the pairs. -/
def paired (y : Fin 64 → EReal) (w : Fin 64 → Fin 64 → EReal) (q : Fin 64) : EReal :=
  ∑ k, y k * w k q + ∑ k, (y k - y k) * w k q + ∑ k, (y k - y k - (y k - y k)) * w k q

/-- The turned row. -/
def turned (y u v : Fin 64 → EReal) (w : Fin 64 → Fin 64 → EReal) (q : Fin 64) : EReal :=
  (y q * u q + paired y w q * v q) * Ideal.ofBits FTy.f32 1040187392#32

/-- The other column of a pair. -/
def other (q : Fin 64) : Fin 64 := if q.val < 8 then q + 8 else if q.val < 16 then q - 8 else q

theorem bits_count : Ideal.ofBits FTy.f32 1115684864#32 = ((64 : ℝ) : EReal) := by
  simp [Ideal.ofBits, Ideal.ieee, -EReal.coe_mul]; norm_num

theorem scale_cases (f : Fin 64 → EReal) : (∃ r : ℝ, scale f = (r : EReal)) ∧ ((∑ k, f k * f k) = ⊤ → scale f = 0) := by
  obtain ⟨e, he, hb⟩ := NormRow.bits_eps
  have h : 0 ≤ ∑ k, f k * f k := Finset.sum_nonneg fun k _ => NormRow.sq_nonneg' _
  unfold scale mean
  rw [bits_count, hb, Ideal.div, if_neg (by norm_num)]
  generalize (∑ k, f k * f k) = s at h
  induction s with
  | bot => exact absurd h (by simp)
  | top =>
    have t : (⊤ : EReal) * ((64 : ℝ) : EReal)⁻¹ = ⊤ := by rw [← EReal.coe_inv]; exact EReal.top_mul_coe_of_pos (by norm_num)
    rw [t, EReal.top_add_coe]
    exact ⟨⟨0, rfl⟩, fun _ => rfl⟩
  | coe s =>
    have hs := EReal.coe_nonneg.1 h
    rw [← EReal.coe_inv, ← EReal.coe_mul, ← EReal.coe_add]
    have hw : 0 < s * 64⁻¹ + e := by positivity
    refine ⟨⟨(√(s * 64⁻¹ + e))⁻¹, ?_⟩, fun h => absurd h (EReal.coe_ne_top s)⟩
    show (if s * 64⁻¹ + e < 0 then (⊥ : EReal) else if s * 64⁻¹ + e = 0 then ⊤ else (((√(s * 64⁻¹ + e))⁻¹ : ℝ) : EReal)) = _
    rw [if_neg hw.not_gt, if_neg hw.ne']

/-- The normalised row is real at a real gain, whatever the row is. -/
theorem rms_real (f g : Fin 64 → EReal) (hg : ∀ k, ∃ r : ℝ, g k = (r : EReal)) (q : Fin 64) : ∃ r : ℝ, rms f g q = (r : EReal) := by
  obtain ⟨⟨s, hs⟩, ht⟩ := scale_cases f
  obtain ⟨u, hu⟩ := hg q
  unfold rms
  by_cases hq : f q * f q = ⊤
  · have h : (∑ k, f k * f k) = ⊤ := top_le_iff.1 (hq ▸ Finset.single_le_sum (f := fun k => f k * f k) (fun k _ => NormRow.sq_nonneg' _) (Finset.mem_univ q))
    rw [ht h, mul_zero, zero_mul]
    exact ⟨0, rfl⟩
  · rw [hs, hu]
    generalize f q = x at hq
    induction x with
    | bot => exact absurd EReal.bot_mul_bot hq
    | top => exact absurd EReal.top_mul_top hq
    | coe x => exact ⟨x * s * u, by rw [EReal.coe_mul, EReal.coe_mul]⟩

/-- At a real row the three parts together are the row, and the product is the other column of the pair. -/
theorem paired_eq (y : Fin 64 → EReal) (hy : ∀ k, ∃ r : ℝ, y k = (r : EReal)) (w : Fin 64 → Fin 64 → EReal)
    (hw : ∀ k q, w k q = if k = other q then 1 else 0) (q : Fin 64) : paired y w q = y (other q) := by
  have h0 : ∀ k, y k - y k = 0 := fun k => by
    obtain ⟨r, hr⟩ := hy k
    rw [hr, ← EReal.coe_sub, sub_self, EReal.coe_zero]
  unfold paired
  simp only [h0, hw, sub_zero, zero_mul, mul_ite, mul_one, mul_zero, Finset.sum_const_zero, add_zero, Finset.sum_ite_eq', Finset.mem_univ, if_true]

end Cert.RopeRow

namespace Cert.Kernel42Ideal.Rope

open Idealize.ShloMosaic TcCoe Tactic
open Cert.Kernel42Ideal.Gen

variable (m : (ℓ : Loc nD τ sig) → Buf (Elt Ideal) ℓ) (c : Dev nD)

/-- The normalised block. -/
def normed (v0 : Vec Ideal S1x4096x64 .f32) (v12 : Vec Ideal S1x64 .f32) : FVec Ideal S4096x64 .f32 :=
  have v1 : FVec Ideal S4096x64 .f32 := shapeCast S4096x64 v0 shapeCasts_S1x4096x64_S4096x64
  have v2 : FVec Ideal S4096x64 .f32 := mulf v1 v1
  have v3 : FVec Ideal S4096 .f32 := multiReduction .add [1] S4096 v2 0x00000000#32 reduces_S4096x64_S4096 (.inl rfl) rfl
  have v4 : FVec Ideal S4096x1 .f32 := shapeCast S4096x1 v3 shapeCasts_S4096_S4096x1
  have cst_2 : Ideal .f32 := Scalar.ofBits .f32 0x42800000#32
  have v5 : FVec Ideal S4096x1 .f32 := broadcast S4096x1 cst_2
  have v6 : FVec Ideal S4096x1 .f32 := divf v4 v5
  have cst_3 : Ideal .f32 := Scalar.ofBits .f32 0x358637BD#32
  have v7 : FVec Ideal S4096x1 .f32 := broadcast S4096x1 cst_3
  have v8 : FVec Ideal S4096x1 .f32 := addf v6 v7
  have v9 : FVec Ideal S4096x1 .f32 := rsqrt v8
  have v10 : FVec Ideal S4096x64 .f32 := broadcastTo S4096x64 v9 broadcasts_S4096x1_S4096x64
  have v11 : FVec Ideal S4096x64 .f32 := mulf v1 v10
  have v13 : FVec Ideal S1x64 .f32 := shapeCast S1x64 v12 shapeCasts_S1x64_S1x64
  have v14 : FVec Ideal S4096x64 .f32 := broadcastTo S4096x64 v13 broadcasts_S1x64_S4096x64
  have v15 : FVec Ideal S4096x64 .f32 := mulf v11 v14
  v15

/-- The turned block. -/
def turnedBlk (v15 : FVec Ideal S4096x64 .f32) (v16 : Vec Ideal S4096x64 .f32) (v19 : Vec Ideal S64x64 .f32) (v34 : Vec Ideal S4096x64 .f32) : FVec Ideal S4096x64 .f32 :=
  have v17 : FVec Ideal S4096x64 .f32 := shapeCast S4096x64 v16 shapeCasts_S4096x64_S4096x64
  have v18 : FVec Ideal S4096x64 .f32 := mulf v15 v17
  have v20 : FVec Ideal S64x64 .f32 := shapeCast S64x64 v19 shapeCasts_S64x64_S64x64
  have v21 : FVec Ideal S4096x64 .bf16 := truncf .bf16 v15 bitsLt_bf16_f32
  have v22 : FVec Ideal S4096x64 .f32 := extf .f32 v21 bitsLt_bf16_f32
  have v23 : FVec Ideal S4096x64 .f32 := subf v15 v22
  have v24 : FVec Ideal S4096x64 .bf16 := truncf .bf16 v23 bitsLt_bf16_f32
  have v25 : FVec Ideal S4096x64 .f32 := extf .f32 v24 bitsLt_bf16_f32
  have v26 : FVec Ideal S4096x64 .f32 := subf v23 v25
  have v27 : FVec Ideal S4096x64 .bf16 := truncf .bf16 v26 bitsLt_bf16_f32
  have v28 : FVec Ideal S64x64 .bf16 := truncf .bf16 v20 bitsLt_bf16_f32
  have cst_10 : FVec Ideal S4096x64 .f32 := constant S4096x64 .f32 0x00000000#32
  have v29 : FVec Ideal S4096x64 .f32 := matmul dot_S4096x64_S64x64_S4096x64_1_0_0_1_n_n none v21 v28 cst_10
  have cst_11 : FVec Ideal S4096x64 .f32 := constant S4096x64 .f32 0x00000000#32
  have v30 : FVec Ideal S4096x64 .f32 := matmul dot_S4096x64_S64x64_S4096x64_1_0_0_1_n_n none v24 v28 cst_11
  have v31 : FVec Ideal S4096x64 .f32 := addf v29 v30
  have cst_12 : FVec Ideal S4096x64 .f32 := constant S4096x64 .f32 0x00000000#32
  have v32 : FVec Ideal S4096x64 .f32 := matmul dot_S4096x64_S64x64_S4096x64_1_0_0_1_n_n none v27 v28 cst_12
  have v33 : FVec Ideal S4096x64 .f32 := addf v31 v32
  have v35 : FVec Ideal S4096x64 .f32 := shapeCast S4096x64 v34 shapeCasts_S4096x64_S4096x64
  have v36 : FVec Ideal S4096x64 .f32 := mulf v33 v35
  have v37 : FVec Ideal S4096x64 .f32 := addf v18 v36
  have cst_15 : Ideal .f32 := Scalar.ofBits .f32 0x3E000000#32
  have v38 : FVec Ideal S4096x64 .f32 := broadcast S4096x64 cst_15
  have v39 : FVec Ideal S4096x64 .f32 := mulf v37 v38
  v39

theorem normed_at (v0 : Vec Ideal S1x4096x64 .f32) (v12 : Vec Ideal S1x64 .f32) (j : S4096x64.Idx) :
    normed v0 v12 j = RopeRow.rms (fun k => v0 (ix3 0 (j 0) k)) (fun k => v12 (ix2 0 k)) (j 1) := by
  unfold normed RopeRow.rms RopeRow.scale RopeRow.mean
  pointwise

theorem turned_at (y : FVec Ideal S4096x64 .f32) (u : Vec Ideal S4096x64 .f32) (w : Vec Ideal S64x64 .f32) (v : Vec Ideal S4096x64 .f32) (j : S4096x64.Idx) :
    turnedBlk y u w v j = RopeRow.turned (fun k => y (ix2 (j 0) k)) (fun k => u (ix2 (j 0) k)) (fun k => v (ix2 (j 0) k)) (fun k q => w (ix2 k q)) (j 1) := by
  unfold turnedBlk RopeRow.turned RopeRow.paired
  pointwise

theorem pay_at (x : Vec Ideal S1x4096x64 .f32) (g : Vec Ideal S1x64 .f32) (u : Vec Ideal S4096x64 .f32) (w : Vec Ideal S64x64 .f32) (v : Vec Ideal S4096x64 .f32) (j : S4096x64.Idx) :
    k0_pay2 x g u w v j = RopeRow.turned (RopeRow.rms (fun k => x (ix3 0 (j 0) k)) (fun k => g (ix2 0 k))) (fun k => u (ix2 (j 0) k)) (fun k => v (ix2 (j 0) k)) (fun k q => w (ix2 k q)) (j 1) := by
  refine (turned_at (normed x g) u w v j).trans ?_
  rw [show (fun k => normed x g (ix2 (j 0) k)) = RopeRow.rms (fun k => x (ix3 0 (j 0) k)) (fun k => g (ix2 0 k)) from funext fun k => normed_at x g (ix2 (j 0) k)]

theorem out_apply (x : Vec Ideal S1x4096x64 .f32) (g : Vec Ideal S1x64 .f32) (u v : Vec Ideal S4096x64 .f32) (w : Vec Ideal S64x64 .f32) (y : S1x4096x64.Idx) :
    out0_5 x g u v w y = RopeRow.turned (RopeRow.rms (fun k => x (ix3 0 (y 1) k)) (fun k => g (ix2 0 k))) (fun k => u (ix2 (y 1) k)) (fun k => v (ix2 (y 1) k)) (fun k q => w (ix2 k q)) (y 2) := by
  frame_out
  unfold k0_pay1
  generalize hz : k0_pay2 x g u w v = z
  pointwise
  subst hz
  exact pay_at x g u w v (ix2 (y 1) (y 2))

theorem index0 : ∀ t : Fin cfg0.N, win0_0.index t = ![t.val, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0, 0] := (by decide +kernel : ∀ t : Fin grid0.N, _)

/-- A row of the block, read from the argument it is cut from. -/
theorem row_blk (t : Fin cfg0.N) (r : Fin 4096) (a : Fin 32) (b : Fin 4096) (ha : a.val = t.val) (hb : b.val = r.val) :
    (fun k : Fin 64 => iblk m c 0 t (ix3 0 r k)) = fun k => m ((c : Thread nD τ).loc main_arg0) (ix3 a b k) := by
  funext k
  blk_simp [iblk]
  refine congrArg (m ((c : Thread nD τ).loc main_arg0)) ?_
  blk_ext [index0]

theorem gain_entry : V m c main_v40 = shapeCast S1x64 (m ((c : Thread nD τ).loc main_arg1)) shapeCasts_S64_S1x64 := by
  rfl

/-- The gain, read from the argument. -/
theorem gain_blk (t : Fin cfg0.N) :
    (fun k : Fin 64 => iblk m c 1 t (ix2 0 k)) = fun k => m ((c : Thread nD τ).loc main_arg1) (ix1 k) := by
  funext k
  blk_simp [iblk]
  have e : ((View.whole main_v40).slice (win0_1.rect t)).emb (ix2 0 k) = (ix2 0 k : S1x64.Idx) := by blk_ext [index1]
  refine (congrArg (V m c main_v40) e).trans ?_
  refine (congrFun (gain_entry m c) _).trans ?_
  pointwise

/-- The angles, by position and frequency. -/
def angle (p : IVec S4096 32) : FVec Ideal S4096x8 .f32 :=
  mulf (broadcastInDim S4096x8 ![0, 1] bcast_S4096x1_S4096x8_0_1 (broadcastInDim S4096x1 ![0] bcast_S4096_S4096x1_0 (sitofp .f32 p))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- The cosines by column. -/
def cosines (a : FVec Ideal S4096x8 .f32) : FVec Ideal S4096x64 .f32 :=
  concatenate S4096x64 1 [⟨S4096x8, Host.cos a⟩, ⟨S4096x8, Host.cos a⟩, ⟨S4096x48, broadcastInDim S4096x48 ![] bcast_S_S4096x48 (constant S_ .f32 0x3F800000#32)⟩] concatenates_S4096x8_S4096x8_S4096x48_S4096x64_d1

/-- The sines by column, with their signs. -/
def sines (a : FVec Ideal S4096x8 .f32) : FVec Ideal S4096x64 .f32 :=
  concatenate S4096x64 1 [⟨S4096x8, Host.negf (Host.sin a)⟩, ⟨S4096x8, Host.sin a⟩, ⟨S4096x48, broadcastInDim S4096x48 ![] bcast_S_S4096x48 (constant S_ .f32 0x00000000#32)⟩] concatenates_S4096x8_S4096x8_S4096x48_S4096x64_d1

theorem cos_blk (t : Fin cfg0.N) (r b : Fin 4096) (hb : b.val = r.val) :
    (fun k : Fin 64 => iblk m c 2 t (ix2 r k)) = fun k => cosines (angle (m ((c : Thread nD τ).loc main_arg2))) (ix2 b k) := by
  funext k
  blk_simp [iblk]
  entry_read
  refine congrArg (cosines (angle (m ((c : Thread nD τ).loc main_arg2)))) ?_
  blk_ext [index2]

theorem sin_blk (t : Fin cfg0.N) (r b : Fin 4096) (hb : b.val = r.val) :
    (fun k : Fin 64 => iblk m c 3 t (ix2 r k)) = fun k => sines (angle (m ((c : Thread nD τ).loc main_arg2))) (ix2 b k) := by
  funext k
  blk_simp [iblk]
  entry_read
  refine congrArg (sines (angle (m ((c : Thread nD τ).loc main_arg2)))) ?_
  blk_ext [index3]

/-- The other column of each pair, in machine numbers. -/
def partner : IVec S64 32 :=
  select (cmpi .slt (iotaInDim S64 32 0) (broadcastInDim S64 ![] bcast_S_S64 (constantI S_ 32 8#32))) (addi (iotaInDim S64 32 0) (broadcastInDim S64 ![] bcast_S_S64 (constantI S_ 32 8#32)))
    (select (cmpi .slt (iotaInDim S64 32 0) (broadcastInDim S64 ![] bcast_S_S64 (constantI S_ 32 16#32))) (subi (iotaInDim S64 32 0) (broadcastInDim S64 ![] bcast_S_S64 (constantI S_ 32 8#32))) (iotaInDim S64 32 0))

/-- The matrix of the pairs. -/
def pairs : FVec Ideal S64x64 .f32 :=
  uitofp .f32 (cmpi .eq (broadcastInDim S64x64 ![0, 1] bcast_S64x1_S64x64_0_1 (broadcastInDim S64x1 ![0] bcast_S64_S64x1_0 (iotaInDim S64 32 0)))
    (broadcastInDim S64x64 ![0, 1] bcast_S1x64_S64x64_0_1 (broadcastInDim S1x64 ![1] bcast_S64_S1x64_1 partner)))

theorem pairs_entry : V m c main_v39 = pairs := by
  rfl

theorem pairs_blk (t : Fin cfg0.N) :
    (fun k q : Fin 64 => iblk m c 4 t (ix2 k q)) = fun k q => if k = RopeRow.other q then (1 : EReal) else 0 := by
  funext k q
  blk_simp [iblk]
  have e : ((View.whole main_v39).slice (win0_4.rect t)).emb (ix2 k q) = (ix2 k q : S64x64.Idx) := by blk_ext [index4]
  refine (congrArg (V m c main_v39) e).trans ?_
  refine (congrFun (pairs_entry m c) _).trans ?_
  unfold pairs partner
  pointwise
  have h : ∀ k q : Fin 64, (IntOp.cmpi CmpIPredicate.eq (BitVec.ofNat 32 ↑k)
        (Scalar.select (IntOp.cmpi CmpIPredicate.slt (BitVec.ofNat 32 ↑q) 8#32) (IntOp.addi (BitVec.ofNat 32 ↑q) 8#32)
          (Scalar.select (IntOp.cmpi CmpIPredicate.slt (BitVec.ofNat 32 ↑q) 16#32)
            (IntOp.subi (BitVec.ofNat 32 ↑q) 8#32) (BitVec.ofNat 32 ↑q)))) = if k = RopeRow.other q then 1#1 else 0#1 := by decide +kernel
  rw [h]
  split
  · show (((1#1).toNat : ℝ) : EReal) = 1
    norm_num
  · show (((0#1).toNat : ℝ) : EReal) = 0
    norm_num

/-- The turned queries. -/
def queries : Buf (Elt Ideal) ((c : Thread nD τ).loc main_v41) := fun i =>
  RopeRow.turned (RopeRow.rms (fun k => m ((c : Thread nD τ).loc main_arg0) (ix3 (i 0) (i 1) k)) (fun k => m ((c : Thread nD τ).loc main_arg1) (ix1 k)))
    (fun k => cosines (angle (m ((c : Thread nD τ).loc main_arg2))) (ix2 (i 1) k)) (fun k => sines (angle (m ((c : Thread nD τ).loc main_arg2))) (ix2 (i 1) k))
    (fun k q => if k = RopeRow.other q then 1 else 0) (i 2)

theorem final5 : (dats m 0 c).arrAt 5 cfg0.N = queries m c := by
  refine (dats m 0 c).arrAt_eq_of_covers 5 _ (by decide +kernel) fun t hf y => ?_
  blk_simp
  rw [after0_5]
  have hy : (y 0).val < 1 := (y 0).isLt
  have e0 : ((win0_5.blk t).view.emb y 0).val = t.val := by blk_simp [index5]
  have e1 : ((win0_5.blk t).view.emb y 1).val = (y 1).val := by blk_simp [index5]
  have e2 : ((win0_5.blk t).view.emb y 2).val = (y 2).val := by blk_simp [index5]
  generalize (win0_5.blk t).view.emb y = i at e0 e1 e2 ⊢
  refine (out_apply _ _ _ _ _ y).trans ?_
  rw [row_blk m c t (y 1) (i 0) (i 1) e0 e1, gain_blk m c t, cos_blk m c t (y 1) (i 1) e1, sin_blk m c t (y 1) (i 1) e1, pairs_blk m c t]
  exact congrArg (RopeRow.turned _ _ _ _) (Fin.ext e2.symm)

/-- The tables by column. -/
theorem cosines_at (a : FVec Ideal S4096x8 .f32) (b : Fin 4096) (q : Fin 64) :
    cosines a (ix2 b q) = if h : q.val < 8 then Ideal.cos (a (ix2 b ⟨q.val, h⟩)) else if h' : q.val < 16 then Ideal.cos (a (ix2 b ⟨q.val - 8, by omega⟩)) else 1 := by
  unfold cosines
  pointwise
  split
  · rfl
  · by_cases h' : q.val < 16
    · rw [dif_pos h', dif_pos (by omega)]
    · rw [dif_neg h', dif_neg (by omega)]

theorem sines_at (a : FVec Ideal S4096x8 .f32) (b : Fin 4096) (q : Fin 64) :
    sines a (ix2 b q) = if h : q.val < 8 then -Ideal.sin (a (ix2 b ⟨q.val, h⟩)) else if h' : q.val < 16 then Ideal.sin (a (ix2 b ⟨q.val - 8, by omega⟩)) else 0 := by
  unfold sines
  pointwise
  split
  · rfl
  · by_cases h' : q.val < 16
    · rw [dif_pos h', dif_pos (by omega)]
    · rw [dif_neg h', dif_neg (by omega)]

end Cert.Kernel42Ideal.Rope

namespace Cert.Proof

open Idealize.ShloMosaic TcCoe Idealize.SL.Sem StableHlo Tactic

theorem frame_Kernel42 : quiescent_Kernel42 := fun m ρ _ => Kernel42.Gen.frame m ρ

theorem frame_Kernel42Ideal : quiescent_Kernel42Ideal := fun m ρ _ => Kernel42Ideal.Gen.frame m ρ

theorem frame_Kernel42Ideal_finite_gain : quiescent_Kernel42Ideal_pre_finite_gain := fun m ρ _ => frame_Kernel42Ideal m ρ trivial

theorem frame_Reference42Ideal : quiescent_Reference42Ideal := fun m ρ _ =>
  (θ_run _ _ _).mono (fun r h => ⟨fun c => (h c).2, sem_eq_zero_of_no_sems (by decide) r.2⟩)
    (Reference42Ideal.Value.run m ρ)

theorem frame_Reference42Ideal_finite_gain : quiescent_Reference42Ideal_pre_finite_gain := fun m ρ _ => frame_Reference42Ideal m ρ trivial

section
open Reference42Ideal Reference42Ideal.Gen

/-- The reference's normalised argument. -/
def norm42 (x : FVec Ideal S32x4096x64 .f32) (g : FVec Ideal S64 .f32) : FVec Ideal S32x4096x64 .f32 :=
  mulf (mulf x (broadcastInDim S32x4096x64 ![0, 1, 2] bcast_S32x4096x1_S32x4096x64_0_1_2 (Host.rsqrt (addf (Host.divf (broadcastInDim S32x4096x1 ![0, 1] bcast_S32x4096_S32x4096x1_0_1 (Host.reduceAdd (mulf x x) (constant S_ .f32 0x00000000#32) reducesTo_S32x4096x64_S32x4096_d2 h_S_)) (broadcastInDim S32x4096x1 ![] bcast_S_S32x4096x1 (constant S_ .f32 0x42800000#32))) (broadcastInDim S32x4096x1 ![] bcast_S_S32x4096x1 (constant S_ .f32 0x358637BD#32)))))) (broadcastInDim S32x4096x64 ![0, 1, 2] bcast_S1x1x64_S32x4096x64_0_1_2 (broadcastInDim S1x1x64 ![2] bcast_S64_S1x1x64_2 g))

theorem norm42_at (x : FVec Ideal S32x4096x64 .f32) (g : FVec Ideal S64 .f32) (a : Fin 32) (b : Fin 4096) (q : Fin 64) :
    norm42 x g (ix3 a b q) = RopeRow.rms (fun k => x (ix3 a b k)) (fun k => g (ix1 k)) q := by
  unfold norm42 RopeRow.rms RopeRow.scale RopeRow.mean
  pointwise

/-- The angles, by position and frequency. -/
def angle42 (p : IVec S4096 32) : FVec Ideal S4096x8 .f32 :=
  mulf (broadcastInDim S4096x8 ![0, 1] bcast_S4096x1_S4096x8_0_1 (broadcastInDim S4096x1 ![0] bcast_S4096_S4096x1_0 (sitofp .f32 p))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- The reference's turned rows, of the normalised ones and the angles. -/
def turn42 (y : FVec Ideal S32x4096x64 .f32) (a : FVec Ideal S4096x8 .f32) : FVec Ideal S32x4096x64 .bf16 :=
  truncf .bf16 (mulf ((concatenate S32x4096x64 2 [⟨S32x4096x8, ((subf (mulf (extractStridedSlice S32x4096x8 ![0, 0, 0] y slices_S32x4096x64_S32x4096x8_0_0_0) (broadcastInDim S32x4096x8 ![0, 1, 2] bcast_S1x4096x8_S32x4096x8_0_1_2 (broadcastInDim S1x4096x8 ![1, 2] bcast_S4096x8_S1x4096x8_1_2 (Host.cos a)))) (mulf (extractStridedSlice S32x4096x8 ![0, 0, 8] y slices_S32x4096x64_S32x4096x8_0_0_8) (broadcastInDim S32x4096x8 ![0, 1, 2] bcast_S1x4096x8_S32x4096x8_0_1_2 (broadcastInDim S1x4096x8 ![1, 2] bcast_S4096x8_S1x4096x8_1_2 (Host.sin a))))) : (⟨S32x4096x8, .f32⟩ : BufTy).Contents (Elt Ideal))⟩, ⟨S32x4096x8, ((addf (mulf (extractStridedSlice S32x4096x8 ![0, 0, 8] y slices_S32x4096x64_S32x4096x8_0_0_8) (broadcastInDim S32x4096x8 ![0, 1, 2] bcast_S1x4096x8_S32x4096x8_0_1_2 (broadcastInDim S1x4096x8 ![1, 2] bcast_S4096x8_S1x4096x8_1_2 (Host.cos a)))) (mulf (extractStridedSlice S32x4096x8 ![0, 0, 0] y slices_S32x4096x64_S32x4096x8_0_0_0) (broadcastInDim S32x4096x8 ![0, 1, 2] bcast_S1x4096x8_S32x4096x8_0_1_2 (broadcastInDim S1x4096x8 ![1, 2] bcast_S4096x8_S1x4096x8_1_2 (Host.sin a))))) : (⟨S32x4096x8, .f32⟩ : BufTy).Contents (Elt Ideal))⟩, ⟨S32x4096x48, ((extractStridedSlice S32x4096x48 ![0, 0, 16] y slices_S32x4096x64_S32x4096x48_0_0_16) : (⟨S32x4096x48, .f32⟩ : BufTy).Contents (Elt Ideal))⟩] concatenates_S32x4096x8_S32x4096x8_S32x4096x48_S32x4096x64_d2 : (⟨S32x4096x64, .f32⟩ : BufTy).Contents (Elt Ideal))) (broadcastInDim S32x4096x64 ![] bcast_S_S32x4096x64 (constant S_ .f32 0x3E000000#32))) bitsLt_bf16_f32

theorem turn42_at (y : FVec Ideal S32x4096x64 .f32) (a : FVec Ideal S4096x8 .f32) (u : Fin 32) (b : Fin 4096) (q : Fin 64) :
    turn42 y a (ix3 u b q) = (if h : q.val < 8 then y (ix3 u b q) * Ideal.cos (a (ix2 b ⟨q.val, h⟩)) - y (ix3 u b ⟨q.val + 8, by omega⟩) * Ideal.sin (a (ix2 b ⟨q.val, h⟩))
      else if h' : q.val < 16 then y (ix3 u b q) * Ideal.cos (a (ix2 b ⟨q.val - 8, by omega⟩)) + y (ix3 u b ⟨q.val - 8, by omega⟩) * Ideal.sin (a (ix2 b ⟨q.val - 8, by omega⟩))
      else y (ix3 u b q)) * Ideal.ofBits FTy.f32 1040187392#32 := by
  unfold turn42
  pointwise
  refine congrArg (fun z : EReal => z * _) ?_
  have e (n : ℕ) (hn : n < 64) (k : Fin 64) (h : n = k.val) : y (ix3 u b ⟨n, hn⟩) = y (ix3 u b k) := congrArg (fun k => y (ix3 u b k)) (Fin.ext h)
  by_cases h : q.val < 8
  · rw [dif_pos h, dif_pos h, e (8 + q.val) _ ⟨q.val + 8, by omega⟩ (Nat.add_comm _ _)]
  · by_cases h' : q.val < 16
    · rw [dif_neg h, dif_neg h, dif_pos h', dif_pos (by omega), e (8 + (q.val - 8)) _ q (by omega)]
    · rw [dif_neg h, dif_neg h, dif_neg h', dif_neg (by omega), e (16 + (q.val - 8 - 8)) _ q (by omega)]

/-- The turned row of the kernel is that of the reference, at a real gain. -/
theorem turned_eq (x : FVec Ideal S32x4096x64 .f32) (g : FVec Ideal S64 .f32) (p : IVec S4096 32) (hg : ∀ k, ∃ r : ℝ, g k = (r : EReal)) (u : Fin 32) (b : Fin 4096) (q : Fin 64) :
    turn42 (norm42 x g) (angle42 p) (ix3 u b q)
      = RopeRow.turned (RopeRow.rms (fun k => x (ix3 u b k)) (fun k => g (ix1 k))) (fun k => Kernel42Ideal.Rope.cosines (angle42 p) (ix2 b k))
          (fun k => Kernel42Ideal.Rope.sines (angle42 p) (ix2 b k)) (fun k q => if k = RopeRow.other q then 1 else 0) q := by
  have hr := RopeRow.rms_real (fun k => x (ix3 u b k)) (fun k => g (ix1 k)) fun k => hg (ix1 k)
  refine (turn42_at (norm42 x g) (angle42 p) u b q).trans ?_
  generalize angle42 p = a
  unfold RopeRow.turned
  rw [RopeRow.paired_eq _ hr _ (fun _ _ => rfl)]
  beta_reduce
  rw [Kernel42Ideal.Rope.cosines_at, Kernel42Ideal.Rope.sines_at]
  simp only [norm42_at]
  refine congrArg (fun z : EReal => z * _) ?_
  by_cases h : q.val < 8
  · have ho : RopeRow.other q = ⟨q.val + 8, by omega⟩ := by
      unfold RopeRow.other
      rw [if_pos h]
      exact Fin.ext (by rw [Fin.val_add]; exact Nat.mod_eq_of_lt (by show q.val + 8 < 64; omega))
    rw [dif_pos h, dif_pos h, dif_pos h, ho, mul_neg, sub_eq_add_neg]
  · by_cases h' : q.val < 16
    · have ho : RopeRow.other q = ⟨q.val - 8, by omega⟩ := by
        unfold RopeRow.other
        rw [if_neg h, if_pos h']
        exact Fin.ext (by rw [Fin.sub_val_of_le (by show 8 ≤ q.val; omega)]; rfl)
      rw [dif_neg h, dif_neg h, dif_neg h, dif_pos h', dif_pos h', dif_pos h', ho]
    · rw [dif_neg h, dif_neg h, dif_neg h, dif_neg h', dif_neg h', dif_neg h', mul_one, mul_zero, add_zero]

theorem res42 (m : (ℓ : Loc nD τ sig) → Buf (Elt Ideal) ℓ) (c : Dev nD) :
    Reference42Ideal.Value.res_out0 m c = turn42 (norm42 (m ((c.tc : Thread nD τ).loc main_arg0)) (m ((c.tc : Thread nD τ).loc main_arg1))) (angle42 (m ((c.tc : Thread nD τ).loc main_arg2))) := rfl

end

section
open Pre_finite_gain Pre_finite_gain.Gen

/-- The precondition says that the gain is real. -/
theorem finite42 (x : FVec Ideal S32x4096x64 .f32) (g : FVec Ideal S64 .f32) (p : IVec S4096 32)
    (h : Pre_finite_gain.fn (F := Ideal) x g p = fun _ => 1#1) : ∀ j, ∃ r : ℝ, g j = (r : EReal) := by
  haveI : Subsingleton S_.Idx := ⟨fun a b => funext fun k => k.elim0⟩
  exact fun j => real_of_abs _ (Host.reduce_andi_all _ _ _ _ _ (congrFun h fun k => k.elim0) j)

end

theorem value_Kernel42Ideal : algebraic_Kernel42Ideal_Reference42Ideal_pre_finite_gain := by
  intro m ρ m' ρ' hp hag
  refine ⟨Kernel42Ideal.Rope.queries m, ?_, ?_⟩
  · exact (θ_run _ _ _).mono (fun _ h c => ⟨(h c).1.trans (Kernel42Ideal.Rope.final5 m c), (h c).2⟩) (Kernel42Ideal.Value.run_blocks m ρ)
  · refine (θ_run _ _ _).mono (fun _ h c => ⟨(h c).1.trans ?_, (h c).2⟩) (Reference42Ideal.Value.run m' ρ')
    obtain ⟨h0, h1, h2⟩ := hag c
    have hg := finite42 _ _ _ (hp c)
    refine (res42 m' c).trans ?_
    rw [h0, h1, h2]
    funext i
    have hi : i = ix3 (i 0) (i 1) (i 2) := by funext a; fin_cases a <;> rfl
    exact (congrArg _ hi).trans (turned_eq _ _ _ hg (i 0) (i 1) (i 2))

end Cert.Proof

end
-- ==== Proof.AttnFwd.lean ====
module
public import proofs.«01_k».proof.Proof.Gen.Kernel43.Frame
public import proofs.«01_k».proof.Proof.Gen.Kernel43Ideal.Value
public import proofs.«01_k».proof.Proof.Gen.Reference43Ideal.Run
public import Idealize.ShloMosaic.Lib.ReduceAll
public import proofs.«01_k».proof.Proof.Lib
@[expose] public section
set_option maxRecDepth 16384
noncomputable section
set_option maxHeartbeats 4000000

/-! # The forward pass of the attention

Each row of a block attends to the keys of its own block and of the one before it, a sink among the scores. The kernel
takes the block itself in place of the one before the first, the reference zeros; the window masks both. -/

namespace Cert.AttRow

open Idealize.ShloMosaic

/-- The scores of a row: its products with the keys, -∞ out of the window. -/
def score (q : Fin 64 → EReal) (k : Fin 256 → Fin 64 → EReal) (ok : Fin 256 → BitVec 1) (j : Fin 256) : EReal :=
  Scalar.select (ok j) (∑ x, q x * k j x) ⊥

/-- The largest score, the sink among them. -/
def top (s : Fin 256 → EReal) (z : EReal) : EReal := max (Finset.fold max (Ideal.ofBits FTy.f32 4286578688#32) s Finset.univ) z

/-- A weight, not yet divided. -/
def weight (s : Fin 256 → EReal) (z : EReal) (j : Fin 256) : EReal := Ideal.exp (s j - top s z)

/-- The result of a row: the values in the measure of the weights. -/
def att (q : Fin 64 → EReal) (k v : Fin 256 → Fin 64 → EReal) (ok : Fin 256 → BitVec 1) (z : EReal) (d : Fin 64) : EReal :=
  Ideal.div (∑ j, weight (score q k ok) z j * v j d) (∑ j, weight (score q k ok) z j + Ideal.exp (z - top (score q k ok) z))

/-- Only the keys and the values in the window count: a weight out of it is zero. -/
theorem att_congr (q : Fin 64 → EReal) (k k' v v' : Fin 256 → Fin 64 → EReal) (ok : Fin 256 → BitVec 1) (z : EReal) (d : Fin 64)
    (h : ∀ j, ok j = 1 → k j = k' j ∧ v j = v' j) : att q k v ok z d = att q k' v' ok z d := by
  have hs : score q k ok = score q k' ok := funext fun j => by
    unfold score Scalar.select
    by_cases ho : ok j = 1
    · rw [if_pos ho, if_pos ho, (h j ho).1]
    · rw [if_neg ho, if_neg ho]
  have hw (j : Fin 256) : weight (score q k' ok) z j * v j d = weight (score q k' ok) z j * v' j d := by
    by_cases ho : ok j = 1
    · rw [(h j ho).2]
    · have h0 : weight (score q k' ok) z j = 0 := by
        unfold weight
        have : score q k' ok j = ⊥ := if_neg ho
        rw [this, EReal.bot_sub]
        rfl
      rw [h0, zero_mul, zero_mul]
  unfold att
  rw [hs, Finset.sum_congr rfl fun j _ => hw j]

/-- The window: of the row's own block the columns up to it, of the block before it, if there is one, those behind it. -/
def window (n : Fin 32) (r : Fin 128) (j : Fin 256) : BitVec 1 :=
  if j.val < 128 then (if r.val < j.val ∧ 0 < n.val then 1#1 else 0#1) else (if j.val - 128 ≤ r.val then 1#1 else 0#1)

/-- The row of keys or values a column of a block stands for. -/
def place (n : Fin 32) (j : Fin 256) : Fin 4096 :=
  if h : j.val < 128 then ⟨(n.val - 1) * 128 + j.val, by omega⟩ else ⟨n.val * 128 + (j.val - 128), by omega⟩

/-- The group of a head, the block and the row in it of a position. -/
def group (a : Fin 32) : Fin 4 := ⟨a.val / 8, by omega⟩
def block (b : Fin 4096) : Fin 32 := ⟨b.val / 128, by omega⟩
def row (b : Fin 4096) : Fin 128 := ⟨b.val % 128, by omega⟩

end Cert.AttRow

namespace Cert.Kernel43Ideal.Attn

open Cert.Kernel43Ideal Cert.Kernel43Ideal.Gen Cert.Kernel43Ideal.Value Idealize.ShloMosaic Idealize.ShloMosaic.TcCoe Idealize.ShloMosaic.Tactic

/-- The scores of a head: the products of queries and keys, the mask where a pair is out of the window. -/
def scores (k2 : FVec Ideal S256x64 .bf16) (ok : IVec S128x256 1) (q : FVec Ideal S128x64 .bf16) : FVec Ideal S128x256 .f32 :=
  have cst_93 : FVec Ideal S128x256 .f32 := constant S128x256 .f32 0x00000000#32
  have v244 : FVec Ideal S128x256 .f32 := matmul dot_S128x64_S256x64_S128x256_1_1_0_0_n_n none q k2 cst_93
  have cst_94 : Ideal .f32 := Named.named κ "mask" 0xF149F2CA#32
  have v245 : FVec Ideal S128x256 .f32 := broadcast S128x256 cst_94
  have v246 : FVec Ideal S128x256 .f32 := select ok v244 v245
  v246

/-- The largest score of each row, the sink among them. -/
def tops (s : FVec Ideal S128x256 .f32) (z : Elt Ideal .f32) : FVec Ideal S128x1 .f32 :=
  have v247 : FVec Ideal S128 .f32 := multiReduction .maximumf [1] S128 s 0xFF800000#32 reduces_S128x256_S128 (.inl rfl) rfl
  have v248 : FVec Ideal S128x1 .f32 := shapeCast S128x1 v247 shapeCasts_S128_S128x1
  have v249 : FVec Ideal S128x1 .f32 := broadcast S128x1 z
  have v250 : FVec Ideal S128x1 .f32 := maximumf v248 v249
  v250

/-- The weights, not yet divided. -/
def weights (s : FVec Ideal S128x256 .f32) (t : FVec Ideal S128x1 .f32) : FVec Ideal S128x256 .f32 :=
  have v251 : FVec Ideal S128x256 .f32 := broadcastTo S128x256 t broadcasts_S128x1_S128x256
  have v252 : FVec Ideal S128x256 .f32 := subf s v251
  have v253 : FVec Ideal S128x256 .f32 := exp v252
  v253

/-- The head's result, of the weights. -/
def mixed (v2 : FVec Ideal S256x64 .bf16) (z : Elt Ideal .f32) (t : FVec Ideal S128x1 .f32) (p : FVec Ideal S128x256 .f32) : FVec Ideal S1x128x64 .bf16 :=
  have v254 : FVec Ideal S128x1 .f32 := broadcast S128x1 z
  have v255 : FVec Ideal S128x1 .f32 := subf v254 t
  have v256 : FVec Ideal S128x1 .f32 := exp v255
  have v257 : FVec Ideal S128 .f32 := multiReduction .add [1] S128 p 0x00000000#32 reduces_S128x256_S128 (.inl rfl) rfl
  have v258 : FVec Ideal S128x1 .f32 := shapeCast S128x1 v257 shapeCasts_S128_S128x1
  have v259 : FVec Ideal S128x1 .f32 := addf v258 v256
  have v260 : FVec Ideal S128x256 .bf16 := truncf .bf16 p bitsLt_bf16_f32
  have cst_97 : FVec Ideal S128x64 .f32 := constant S128x64 .f32 0x00000000#32
  have v261 : FVec Ideal S128x64 .f32 := matmul dot_S128x256_S256x64_S128x64_1_0_0_1_n_n none v260 v2 cst_97
  have v262 : FVec Ideal S128x64 .f32 := broadcastTo S128x64 v259 broadcasts_S128x1_S128x64
  have v263 : FVec Ideal S128x64 .f32 := divf v261 v262
  have v264 : FVec Ideal S128x64 .bf16 := truncf .bf16 v263 bitsLt_bf16_f32
  have v267 : FVec Ideal S1x128x64 .bf16 := shapeCast S1x128x64 v264 shapeCasts_S128x64_S1x128x64
  v267

/-- One head. -/
def head (k2 v2 : FVec Ideal S256x64 .bf16) (ok : IVec S128x256 1) (q : Vec Ideal S1x128x64 .bf16) (z : Elt Ideal .f32) : FVec Ideal S1x128x64 .bf16 :=
  mixed v2 z (tops (scores k2 ok (shapeCast S128x64 q shapeCasts_S1x128x64_S128x64)) z)
    (weights (scores k2 ok (shapeCast S128x64 q shapeCasts_S1x128x64_S128x64)) (tops (scores k2 ok (shapeCast S128x64 q shapeCasts_S1x128x64_S128x64)) z))

theorem mask_eq : Named.named (F := Ideal) (φ := .f32) κ "mask" 0xF149F2CA#32 = (⊥ : EReal) := IdealRules.named_const.ideal_named_scalar _ _ _ _ rfl

theorem scores_at (k2 : FVec Ideal S256x64 .bf16) (ok : IVec S128x256 1) (q : FVec Ideal S128x64 .bf16) (r : Fin 128) (j : Fin 256) :
    scores k2 ok q (ix2 r j) = AttRow.score (fun x => q (ix2 r x)) (fun j x => k2 (ix2 j x)) (fun j => ok (ix2 r j)) j := by
  unfold scores AttRow.score
  pointwise
  exact congrArg (Scalar.select _ _) mask_eq

theorem tops_at (s : FVec Ideal S128x256 .f32) (z : Elt Ideal .f32) (r : Fin 128) : tops s z (ix2 r 0) = AttRow.top (fun j => s (ix2 r j)) z := by
  unfold tops AttRow.top
  pointwise

theorem weights_at (s : FVec Ideal S128x256 .f32) (t : FVec Ideal S128x1 .f32) (r : Fin 128) (j : Fin 256) : weights s t (ix2 r j) = Ideal.exp (s (ix2 r j) - t (ix2 r 0)) := by
  unfold weights
  pointwise

theorem mixed_at (v2 : FVec Ideal S256x64 .bf16) (z : Elt Ideal .f32) (t : FVec Ideal S128x1 .f32) (p : FVec Ideal S128x256 .f32) (r : Fin 128) (d : Fin 64) :
    mixed v2 z t p (ix3 0 r d) = Ideal.div (∑ x, p (ix2 r x) * v2 (ix2 x d)) (∑ x, p (ix2 r x) + Ideal.exp (z - t (ix2 r 0))) := by
  unfold mixed
  pointwise

theorem head_at (k2 v2 : FVec Ideal S256x64 .bf16) (ok : IVec S128x256 1) (q : Vec Ideal S1x128x64 .bf16) (z : Elt Ideal .f32) (r : Fin 128) (d : Fin 64) :
    head k2 v2 ok q z (ix3 0 r d) = AttRow.att (fun x => q (ix3 0 r x)) (fun j x => k2 (ix2 j x)) (fun j x => v2 (ix2 j x)) (fun j => ok (ix2 r j)) z d := by
  have hq (x : Fin 64) : shapeCast S128x64 q shapeCasts_S1x128x64_S128x64 (ix2 r x) = q (ix3 0 r x) := by pointwise
  unfold head
  rw [mixed_at]
  simp only [weights_at, tops_at, scores_at, hq]
  rfl

theorem keys_at (a b : Vec Ideal S1x128x64 .bf16) (j : Fin 256) (d : Fin 64) :
    k0_pay2 a b (ix2 j d) = if h : j.val < 128 then a (ix3 0 ⟨j.val, h⟩ d) else b (ix3 0 ⟨j.val - 128, by omega⟩ d) := by
  unfold k0_pay2
  pointwise

theorem window_at (i : grid0.Coords) (n : Fin 32) (hn : (i 1).val = n.val) (r : Fin 128) (j : Fin 256) : k0_pay4 i (ix2 r j) = AttRow.window n r j := by
  unfold k0_pay4
  pointwise
  rw [hn]
  have h0 : ∀ r : Fin 128, IntOp.andi (BitVec.ofNat 32 r.val) 127#32 = BitVec.ofNat 32 r.val := by decide +kernel
  have h1 : ∀ (r : Fin 128) (j : Fin 256), IntOp.andi (IntOp.cmpi CmpIPredicate.sge (BitVec.ofNat 32 j.val) 128#32)
      (IntOp.cmpi CmpIPredicate.sle (IntOp.subi (BitVec.ofNat 32 j.val) 128#32) (BitVec.ofNat 32 r.val)) = if j.val < 128 then 0#1 else if j.val - 128 ≤ r.val then 1#1 else 0#1 := by decide +kernel
  have h2 : ∀ (r : Fin 128) (j : Fin 256), IntOp.andi (IntOp.cmpi CmpIPredicate.slt (BitVec.ofNat 32 j.val) 128#32)
      (IntOp.cmpi CmpIPredicate.sgt (BitVec.ofNat 32 j.val) (BitVec.ofNat 32 r.val)) = if j.val < 128 then (if r.val < j.val then 1#1 else 0#1) else 0#1 := by decide +kernel
  have h3 : ∀ n : Fin 32, Scalar.cmpi CmpIPredicate.sgt (BitVec.ofNat 32 n.val) 0#32 = if 0 < n.val then 1#1 else 0#1 := by decide +kernel
  rw [h0, h1, h2, h3]
  unfold AttRow.window
  split_ifs <;> first | rfl | (exfalso; omega)

/-- The sink a head reads. -/
theorem sink_off (i : grid0.Coords) (g : ℕ) (hg : g < 8) (o : BitVec 32) (ho : o = BitVec.ofNat 32 g) : k0_off1 i o 0 = (i 0).val * 8 + g := by
  have h : ∀ (u : Fin 4) (g : Fin 8), (Scalar.addi (Scalar.muli (BitVec.ofNat 32 u.val) 8#32) (BitVec.ofNat 32 g.val)).toNat = u.val * 8 + g.val := by decide +kernel
  subst ho
  exact h (i 0) ⟨g, hg⟩

/-- The result of a block, from the blocks it reads. -/
def blockOut (i : grid0.Coords) (x0 : Vec Ideal S8x128x64 .bf16) (x1 x2 x3 x4 : Vec Ideal S1x128x64 .bf16) (x5 : Vec Ideal S32 .f32) (y : S8x128x64.Idx) : EReal :=
  AttRow.att (fun x => x0 (ix3 (y 0) (y 1) x)) (fun j x => k0_pay2 x2 x1 (ix2 j x)) (fun j x => k0_pay3 x4 x3 (ix2 j x)) (fun j => k0_pay4 i (ix2 (y 1) j))
    (x5 (ix1 ⟨(i 0).val * 8 + (y 0).val, by have h0 : (i 0).val < 4 := (i 0).isLt; have h1 : (y 0).val < 8 := (y 0).isLt; omega⟩)) (y 2)

/-- The piece of a head is its part of the block's result. -/
theorem piece (i : grid0.Coords) (x0 : Vec Ideal S8x128x64 .bf16) (x1 x2 x3 x4 : Vec Ideal S1x128x64 .bf16) (x5 : Vec Ideal S32 .f32) (g : ℕ) (hg : g < 8) (o : BitVec 32) (ho : o = BitVec.ofNat 32 g)
    (inb : ∀ a, (![g, 0, 0] : Fin 3 → ℕ) a + (![1, 128, 64] : Fin 3 → ℕ) a ≤ S8x128x64.size a) (hb : ∀ a, k0_off1 i o a + (![1] : Fin 1 → ℕ) a ≤ S32.size a) (hf : 0 < (⟨1, ![1]⟩ : Shape).numel)
    (x : S1x128x64.Idx) :
    head (k0_pay2 x2 x1) (k0_pay3 x4 x3) (k0_pay4 i) (View.ld x0 (Rect.unit ![g, 0, 0] ![1, 128, 64] inb)) (View.ld x5 (Rect.unit (k0_off1 i o) ![1] hb) (Shape.Idx.first hf)) x
      = blockOut i x0 x1 x2 x3 x4 x5 ((Rect.unit (s := S8x128x64) ![g, 0, 0] ![1, 128, 64] inb).emb x) := by
  have h0 : (x 0).val < 1 := (x 0).isLt
  have hx : x = ix3 0 (x 1) (x 2) := by
    funext a; fin_cases a
    · exact Fin.ext (by show (x 0).val = 0; omega)
    · rfl
    · rfl
  have e : ∀ a, ((Rect.unit (s := S8x128x64) ![g, 0, 0] ![1, 128, 64] inb).emb x a).val = (![g, 0, 0] : Fin 3 → ℕ) a + (x a).val := fun a => by
    show ![g, 0, 0] a + 1 * (x a).val = _
    rw [Nat.one_mul]
  generalize (Rect.unit (s := S8x128x64) ![g, 0, 0] ![1, 128, 64] inb).emb x = y at e ⊢
  have e0 : (y 0).val = g := (e 0).trans (by show g + (x 0).val = g; omega)
  have e1 : y 1 = x 1 := Fin.ext ((e 1).trans (Nat.zero_add _))
  have e2 : y 2 = x 2 := Fin.ext ((e 2).trans (Nat.zero_add _))
  refine (congrArg _ hx).trans ((head_at _ _ _ _ _ (x 1) (x 2)).trans ?_)
  unfold blockOut
  have hq : (fun k : Fin 64 => View.ld x0 (Rect.unit ![g, 0, 0] ![1, 128, 64] inb) (ix3 0 (x 1) k)) = fun k => x0 (ix3 (y 0) (x 1) k) := funext fun k =>
    View.ld_unit_apply_of x0 _ _ inb _ _ fun a => by
      fin_cases a
      · exact e0
      · exact (Nat.zero_add _).symm
      · exact (Nat.zero_add _).symm
  have hz : View.ld x5 (Rect.unit (k0_off1 i o) ![1] hb) (Shape.Idx.first hf)
      = x5 (ix1 ⟨(i 0).val * 8 + (y 0).val, by have h0 : (i 0).val < 4 := (i 0).isLt; have h1 : (y 0).val < 8 := (y 0).isLt; omega⟩) :=
    View.ld_unit_apply_of x5 _ _ hb _ _ fun a => by
      have ha : a = 0 := Fin.ext (by have : a.val < 1 := a.isLt; show a.val = 0; omega)
      subst ha
      show (i 0).val * 8 + (y 0).val = k0_off1 i o 0 + 0
      rw [sink_off i g hg o ho, e0, Nat.add_zero]
  rw [e1, e2, hz, hq]

section
variable (k2 v2 : FVec Ideal S256x64 .bf16) (ok : IVec S128x256 1) (q a b : Vec Ideal S1x128x64 .bf16) (z : Elt Ideal .f32)

theorem pay0 : k0_pay6 v2 ok z (k0_pay5 a b q) = head (k0_pay2 a b) v2 ok q z := rfl
theorem pay1 : k0_pay12 v2 (k0_pay9 k2 ok q z) (k0_pay10 k2 ok q z) (k0_pay11 k2 ok q z) = head k2 v2 ok q z := rfl
theorem pay2 : k0_pay13 k2 v2 ok q z = head k2 v2 ok q z := rfl
theorem pay3 : k0_pay14 k2 v2 ok q z = head k2 v2 ok q z := rfl
theorem pay4 : k0_pay16 v2 z (k0_pay15 k2 ok q) = head k2 v2 ok q z := rfl
theorem pay5 : k0_pay22 v2 (k0_pay20 k2 ok q z) (k0_pay21 k2 ok q z) (constant S128x64 FTy.f32 0#32) = head k2 v2 ok q z := rfl
theorem pay6 : k0_pay23 k2 v2 ok q z = head k2 v2 ok q z := rfl
theorem pay7 : k0_pay1 k2 v2 ok (k0_pay24 q) z = head k2 v2 ok q z := rfl

end

section
variable (c : Dev nD) (i : grid0.Coords) (arg2 : Memref sig .tc .vmem S8x128x64 .bf16) (harg2 : arg2.IsWhole) (arg3 : Memref sig .tc .vmem S1x128x64 .bf16) (harg3 : arg3.IsWhole) (arg4 : Memref sig .tc .vmem S1x128x64 .bf16) (harg4 : arg4.IsWhole) (arg5 : Memref sig .tc .vmem S1x128x64 .bf16) (harg5 : arg5.IsWhole) (arg6 : Memref sig .tc .vmem S1x128x64 .bf16) (harg6 : arg6.IsWhole) (arg7 : Memref sig .tc .smem S32 .f32) (harg7 : arg7.IsWhole) (arg8 : Memref sig .tc .vmem S8x128x64 .bf16) (harg8 : arg8.IsWhole)

theorem out_apply (x0 : Vec Ideal S8x128x64 .bf16) (x1 x2 x3 x4 : Vec Ideal S1x128x64 .bf16) (x5 : Vec Ideal S32 .f32) (y : S8x128x64.Idx) :
    out0_A_6 c i arg2 harg2 arg3 harg3 arg4 harg4 arg5 harg5 arg6 harg6 arg7 harg7 arg8 harg8 x0 x1 x2 x3 x4 x5 y = blockOut i x0 x1 x2 x3 x4 x5 y := by
  frame_out
  refine View.canon_apply_of_pieces (Val := Elt Ideal) (e := .bf16) (blockOut i x0 x1 x2 x3 x4 x5) _ ?_ y ?_
  · refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩⟩⟩
    · exact fun x => (congrFun (pay7 _ _ _ _ _) x).trans (piece i x0 x1 x2 x3 x4 x5 7 (by decide) 7#32 rfl _ _ _ x)
    · exact fun x => (congrFun (pay6 _ _ _ _ _) x).trans (piece i x0 x1 x2 x3 x4 x5 6 (by decide) 6#32 rfl _ _ _ x)
    · exact fun x => (congrFun (pay5 _ _ _ _ _) x).trans (piece i x0 x1 x2 x3 x4 x5 5 (by decide) 5#32 rfl _ _ _ x)
    · exact fun x => (congrFun (pay4 _ _ _ _ _) x).trans (piece i x0 x1 x2 x3 x4 x5 4 (by decide) 4#32 rfl _ _ _ x)
    · exact fun x => (congrFun (pay3 _ _ _ _ _) x).trans (piece i x0 x1 x2 x3 x4 x5 3 (by decide) 3#32 rfl _ _ _ x)
    · exact fun x => (congrFun (pay2 _ _ _ _ _) x).trans (piece i x0 x1 x2 x3 x4 x5 2 (by decide) 2#32 rfl _ _ _ x)
    · exact fun x => (congrFun (pay1 _ _ _ _ _) x).trans (piece i x0 x1 x2 x3 x4 x5 1 (by decide) 1#32 rfl _ _ _ x)
    · exact fun x => (congrFun (pay0 _ _ _ _ _ _) x).trans (piece i x0 x1 x2 x3 x4 x5 0 (by decide) 0#32 rfl _ _ _ x)
  · exact View.cover_of_tiledL _ (![1, 128, 64] : Fin S8x128x64.rank → ℕ) (by sl_kernel_rfl) y

end

variable (m : (ℓ : Loc nD τ sig) → Buf (Elt Ideal) ℓ) (c : Dev nD)

theorem index0 : ∀ t : Fin cfg0.N, win0_0.index t = ![t.val / 32, t.val % 32, 0] := (by decide +kernel : ∀ t : Fin grid0.N, _)
theorem index1 : ∀ t : Fin cfg0.N, win0_1.index t = ![t.val / 32, t.val % 32, 0] := (by decide +kernel : ∀ t : Fin grid0.N, _)
theorem index2 : ∀ t : Fin cfg0.N, win0_2.index t = ![t.val / 32, t.val % 32 - 1, 0] := (by decide +kernel : ∀ t : Fin grid0.N, _)
theorem index3 : ∀ t : Fin cfg0.N, win0_3.index t = ![t.val / 32, t.val % 32, 0] := (by decide +kernel : ∀ t : Fin grid0.N, _)
theorem index4 : ∀ t : Fin cfg0.N, win0_4.index t = ![t.val / 32, t.val % 32 - 1, 0] := (by decide +kernel : ∀ t : Fin grid0.N, _)
theorem index5 : ∀ t : Fin cfg0.N, win0_5.index t = ![0] := (by decide +kernel : ∀ t : Fin grid0.N, _)
theorem index6 : ∀ t : Fin cfg0.N, win0_6.index t = ![t.val / 32, t.val % 32, 0] := (by decide +kernel : ∀ t : Fin grid0.N, _)
theorem coord0 : ∀ t : Fin cfg0.N, (grid0.coords t 0).val = t.val / 32 := (by decide +kernel : ∀ t : Fin grid0.N, _)
theorem coord1 : ∀ t : Fin cfg0.N, (grid0.coords t 1).val = t.val % 32 := (by decide +kernel : ∀ t : Fin grid0.N, _)

theorem q_entry (i : S32x4096x64.Idx) : (V m c main_v0 i : EReal) = m ((c : Thread nD τ).loc main_arg0) i := rfl
theorem k_entry (i : S4x4096x64.Idx) : (V m c main_v1 i : EReal) = m ((c : Thread nD τ).loc main_arg1) i := rfl
theorem v_entry (i : S4x4096x64.Idx) : (V m c main_v2 i : EReal) = m ((c : Thread nD τ).loc main_arg2) i := rfl

/-- The queries of a block, read from the argument. -/
theorem q_blk (t : Fin cfg0.N) (g : Fin 8) (r : Fin 128) (a : Fin 32) (b : Fin 4096) (ha : a.val = t.val / 32 * 8 + g.val) (hb : b.val = t.val % 32 * 128 + r.val) (x : Fin 64) :
    (iblk m c 0 t (ix3 g r x) : EReal) = m ((c : Thread nD τ).loc main_arg0) (ix3 a b x) := by
  blk_simp [iblk]
  have e : ((View.whole main_v0).slice (win0_0.rect t)).emb (ix3 g r x) = (ix3 a b x : S32x4096x64.Idx) := by blk_ext [index0]
  exact (congrArg (V m c main_v0) e).trans (q_entry m c _)

/-- The keys of a block and of the one before it. -/
theorem k_blk (t : Fin cfg0.N) (u : Fin 4) (hu : u.val = t.val / 32) (n : Fin 32) (hn : n.val = t.val % 32) (j : Fin 256) (x : Fin 64) :
    k0_pay2 (iblk m c 2 t) (iblk m c 1 t) (ix2 j x) = m ((c : Thread nD τ).loc main_arg1) (ix3 u (AttRow.place n j) x) := by
  rw [keys_at]
  unfold AttRow.place
  by_cases h : j.val < 128
  · rw [dif_pos h, dif_pos h]
    blk_simp [iblk]
    have e : ((View.whole main_v1).slice (win0_2.rect t)).emb (ix3 0 ⟨j.val, h⟩ x) = (ix3 u ⟨(n.val - 1) * 128 + j.val, by omega⟩ x : S4x4096x64.Idx) := by blk_ext [index2]
    exact (congrArg (V m c main_v1) e).trans (k_entry m c _)
  · rw [dif_neg h, dif_neg h]
    blk_simp [iblk]
    have e : ((View.whole main_v1).slice (win0_1.rect t)).emb (ix3 0 ⟨j.val - 128, by omega⟩ x) = (ix3 u ⟨n.val * 128 + (j.val - 128), by omega⟩ x : S4x4096x64.Idx) := by blk_ext [index1]
    exact (congrArg (V m c main_v1) e).trans (k_entry m c _)

/-- The values likewise. -/
theorem v_blk (t : Fin cfg0.N) (u : Fin 4) (hu : u.val = t.val / 32) (n : Fin 32) (hn : n.val = t.val % 32) (j : Fin 256) (x : Fin 64) :
    k0_pay3 (iblk m c 4 t) (iblk m c 3 t) (ix2 j x) = m ((c : Thread nD τ).loc main_arg2) (ix3 u (AttRow.place n j) x) := by
  refine (keys_at (iblk m c 4 t) (iblk m c 3 t) j x).trans ?_
  unfold AttRow.place
  by_cases h : j.val < 128
  · rw [dif_pos h, dif_pos h]
    blk_simp [iblk]
    have e : ((View.whole main_v2).slice (win0_4.rect t)).emb (ix3 0 ⟨j.val, h⟩ x) = (ix3 u ⟨(n.val - 1) * 128 + j.val, by omega⟩ x : S4x4096x64.Idx) := by blk_ext [index4]
    exact (congrArg (V m c main_v2) e).trans (v_entry m c _)
  · rw [dif_neg h, dif_neg h]
    blk_simp [iblk]
    have e : ((View.whole main_v2).slice (win0_3.rect t)).emb (ix3 0 ⟨j.val - 128, by omega⟩ x) = (ix3 u ⟨n.val * 128 + (j.val - 128), by omega⟩ x : S4x4096x64.Idx) := by blk_ext [index3]
    exact (congrArg (V m c main_v2) e).trans (v_entry m c _)

/-- The sinks. -/
theorem z_blk (t : Fin cfg0.N) (a b : Fin 32) (h : b.val = a.val) : (iblk m c 5 t (ix1 a) : EReal) = m ((c : Thread nD τ).loc main_arg3) (ix1 b) := by
  blk_simp [iblk]
  refine congrArg (m ((c : Thread nD τ).loc main_arg3)) ?_
  blk_ext [index5]

/-- The result of the attention. -/
def attended : Buf (Elt Ideal) ((c : Thread nD τ).loc main_v3) := fun (i : S32x4096x64.Idx) =>
  AttRow.att (fun x => m ((c : Thread nD τ).loc main_arg0) (ix3 (i 0) (i 1) x))
    (fun j x => m ((c : Thread nD τ).loc main_arg1) (ix3 (AttRow.group (i 0)) (AttRow.place (AttRow.block (i 1)) j) x))
    (fun j x => m ((c : Thread nD τ).loc main_arg2) (ix3 (AttRow.group (i 0)) (AttRow.place (AttRow.block (i 1)) j) x))
    (AttRow.window (AttRow.block (i 1)) (AttRow.row (i 1))) (m ((c : Thread nD τ).loc main_arg3) (ix1 (i 0))) (i 2)

theorem final6 : (dats m 0 c).arrAt 6 cfg0.N = attended m c := by
  refine (dats m 0 c).arrAt_eq_of_covers 6 _ (by decide +kernel) fun t hf y => ?_
  blk_simp
  rw [after0_6]
  have h0 : (y 0).val < 8 := (y 0).isLt
  have h1 : (y 1).val < 128 := (y 1).isLt
  have ht : t.val < 128 := t.isLt
  have e0 : ((win0_6.blk t).view.emb y 0).val = t.val / 32 * 8 + (y 0).val := by blk_simp [index6]
  have e1 : ((win0_6.blk t).view.emb y 1).val = t.val % 32 * 128 + (y 1).val := by blk_simp [index6]
  have e2 : ((win0_6.blk t).view.emb y 2).val = (y 2).val := by blk_simp [index6]
  generalize (win0_6.blk t).view.emb y = i at e0 e1 e2 ⊢
  refine (out_apply c (grid0.coords t) _ _ _ _ _ _ _ _ _ _ _ _ _ _ (iblk m c 0 t) (iblk m c 1 t) (iblk m c 2 t) (iblk m c 3 t) (iblk m c 4 t) (iblk m c 5 t) y).trans ?_
  unfold blockOut attended
  have eu : (AttRow.group (i 0)).val = t.val / 32 := by show (i 0).val / 8 = _; omega
  have en : (AttRow.block (i 1)).val = t.val % 32 := by show (i 1).val / 128 = _; omega
  have er : AttRow.row (i 1) = y 1 := Fin.ext (by show (i 1).val % 128 = _; omega)
  have hq : (fun x : Fin 64 => (iblk m c 0 t (ix3 (y 0) (y 1) x) : EReal)) = fun x => m ((c : Thread nD τ).loc main_arg0) (ix3 (i 0) (i 1) x) := funext fun x => q_blk m c t (y 0) (y 1) (i 0) (i 1) e0 e1 x
  have hk : (fun (j : Fin 256) (x : Fin 64) => (k0_pay2 (iblk m c 2 t) (iblk m c 1 t) (ix2 j x) : EReal)) = fun j x => m ((c : Thread nD τ).loc main_arg1) (ix3 (AttRow.group (i 0)) (AttRow.place (AttRow.block (i 1)) j) x) :=
    funext fun j => funext fun x => k_blk m c t _ eu _ en j x
  have hv : (fun (j : Fin 256) (x : Fin 64) => (k0_pay3 (iblk m c 4 t) (iblk m c 3 t) (ix2 j x) : EReal)) = fun j x => m ((c : Thread nD τ).loc main_arg2) (ix3 (AttRow.group (i 0)) (AttRow.place (AttRow.block (i 1)) j) x) :=
    funext fun j => funext fun x => v_blk m c t _ eu _ en j x
  have hok : (fun j : Fin 256 => k0_pay4 (grid0.coords t) (ix2 (y 1) j)) = AttRow.window (AttRow.block (i 1)) (AttRow.row (i 1)) := by
    rw [er]
    exact funext fun j => window_at _ _ ((coord1 t).trans en.symm) (y 1) j
  have hc := coord0 t
  have hz : (iblk m c 5 t (ix1 ⟨(grid0.coords t 0).val * 8 + (y 0).val, by omega⟩) : EReal) = m ((c : Thread nD τ).loc main_arg3) (ix1 (i 0)) := z_blk m c t _ _ (by show (i 0).val = _ * 8 + _; omega)
  rw [hq, hk, hv, hok]
  exact congr (congrArg (AttRow.att _ _ _ _) hz) (Fin.ext e2.symm)

end Cert.Kernel43Ideal.Attn

namespace Cert.Reference43Ideal.Attn

open Idealize.ShloMosaic TcCoe Tactic
open Cert.Reference43Ideal.Gen

/-- The keys or the values a block sees: those of the block before it, zeros for the first block, and its own. -/
def band (a : FVec Ideal S4x4096x64 .f32) : FVec Ideal S4x32x256x64 .f32 :=
  concatenate S4x32x256x64 2 [⟨S4x32x128x64, (concatenate S4x32x128x64 1 [⟨S4x1x128x64, (broadcastInDim S4x1x128x64 ![] bcast_S_S4x1x128x64 (constant S_ .f32 0x00000000#32))⟩, ⟨S4x31x128x64, (extractStridedSlice S4x31x128x64 ![0, 0, 0, 0] (shapeCast _ a shapeCasts_S4x4096x64_S4x32x128x64) slices_S4x32x128x64_S4x31x128x64_0_0_0_0)⟩] concatenates_S4x1x128x64_S4x31x128x64_S4x32x128x64_d1)⟩, ⟨S4x32x128x64, (shapeCast _ a shapeCasts_S4x4096x64_S4x32x128x64)⟩] concatenates_S4x32x128x64_S4x32x128x64_S4x32x256x64_d2

/-- The pairs in the window. -/
def valid : IVec S32x128x256 1 :=
  andi (broadcastInDim S32x128x256 ![0, 1, 2] bcast_S1x128x256_S32x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S32x128x256 ![0, 1, 2] bcast_S32x1x256_S32x128x256_0_1_2 (cmpi .sge (subi (addi (broadcastInDim S32x1x256 ![0, 1, 2] bcast_S32x1x1_S32x1x256_0_1_2 (muli (broadcastInDim S32x1x1 ![0] bcast_S32_S32x1x1_0 (iotaInDim S32 32 0)) (broadcastInDim S32x1x1 ![] bcast_S_S32x1x1 (constantI S_ 32 128#32)))) (broadcastInDim S32x1x256 ![0, 1, 2] bcast_S1x1x256_S32x1x256_0_1_2 (broadcastInDim S1x1x256 ![2] bcast_S256_S1x1x256_2 (iotaInDim S256 32 0)))) (broadcastInDim S32x1x256 ![] bcast_S_S32x1x256 (constantI S_ 32 128#32))) (broadcastInDim S32x1x256 ![] bcast_S_S32x1x256 (constantI S_ 32 0#32))))

/-- The scores, -∞ out of the window. -/
def scores (q : FVec Ideal S32x4096x64 .f32) (k : FVec Ideal S4x32x256x64 .f32) (ok : IVec S32x128x256 1) : FVec Ideal S4x8x32x128x256 .f32 :=
  select (broadcastInDim S4x8x32x128x256 ![2, 3, 4] bcast_S32x128x256_S4x8x32x128x256_2_3_4 ok) (transpose S4x8x32x128x256 [0, 3, 1, 4, 2] (Host.dotGeneral dot_S4x32x256x64_S4x8x32x128x64_S4x32x256x8x128_3_4_2_13_01_02 none k (shapeCast _ q shapeCasts_S32x4096x64_S4x8x32x128x64)) transposes_S4x32x256x8x128_S4x8x32x128x256_0_3_1_4_2) (broadcastInDim S4x8x32x128x256 ![] bcast_S_S4x8x32x128x256 (id (constant S_ .f32 0xFF800000#32)))

/-- The largest score of each row. -/
def rowTops (s : FVec Ideal S4x8x32x128x256 .f32) : FVec Ideal S4x8x32x128 .f32 :=
  Host.reduce FloatOps.maximumf s (constant S_ .f32 0xFF800000#32) reducesTo_S4x8x32x128x256_S4x8x32x128_d4 h_S_

/-- The same with the sink. -/
def tops (s : FVec Ideal S4x8x32x128 .f32) (z : FVec Ideal S32 .f32) : FVec Ideal S4x8x32x128x1 .f32 :=
  maximumf (broadcastInDim S4x8x32x128x1 ![0, 1, 2, 3] bcast_S4x8x32x128_S4x8x32x128x1_0_1_2_3 s) (broadcastInDim S4x8x32x128x1 ![0, 1, 2, 3, 4] bcast_S4x8x1x1x1_S4x8x32x128x1_0_1_2_3_4 (shapeCast _ z shapeCasts_S32_S4x8x1x1x1))

/-- The weights, not yet divided. -/
def weights (s : FVec Ideal S4x8x32x128x256 .f32) (t : FVec Ideal S4x8x32x128x1 .f32) : FVec Ideal S4x8x32x128x256 .f32 :=
  Host.exp (subf s (broadcastInDim S4x8x32x128x256 ![0, 1, 2, 3, 4] bcast_S4x8x32x128x1_S4x8x32x128x256_0_1_2_3_4 t))

/-- The result by group, block and row, of the weights. -/
def mixed (v : FVec Ideal S4x32x256x64 .f32) (z : FVec Ideal S32 .f32) (t : FVec Ideal S4x8x32x128x1 .f32) (p : FVec Ideal S4x8x32x128x256 .f32) : FVec Ideal S4x8x32x128x64 .f32 :=
  Host.divf (transpose S4x8x32x128x64 [0, 3, 1, 4, 2] (Host.dotGeneral dot_S4x32x256x64_S4x8x32x128x256_S4x32x64x8x128_2_4_3_13_01_02 none v p) transposes_S4x32x64x8x128_S4x8x32x128x64_0_3_1_4_2) (broadcastInDim S4x8x32x128x64 ![0, 1, 2, 3, 4] bcast_S4x8x32x128x1_S4x8x32x128x64_0_1_2_3_4 (addf (broadcastInDim S4x8x32x128x1 ![0, 1, 2, 3] bcast_S4x8x32x128_S4x8x32x128x1_0_1_2_3 (Host.reduceAdd p (constant S_ .f32 0x00000000#32) reducesTo_S4x8x32x128x256_S4x8x32x128_d4 h_S_)) (Host.exp (subf (broadcastInDim S4x8x32x128x1 ![0, 1, 2, 3, 4] bcast_S4x8x1x1x1_S4x8x32x128x1_0_1_2_3_4 (shapeCast _ z shapeCasts_S32_S4x8x1x1x1)) t))))

/-- The reference's result. -/
def out43 (q : FVec Ideal S32x4096x64 .f32) (k v : FVec Ideal S4x4096x64 .f32) (z : FVec Ideal S32 .f32) : FVec Ideal S32x4096x64 .bf16 :=
  truncf .bf16 (shapeCast S32x4096x64 (mixed (band v) z (tops (rowTops (scores q (band k) valid)) z)
    (weights (scores q (band k) valid) (tops (rowTops (scores q (band k) valid)) z))) shapeCasts_S4x8x32x128x64_S32x4096x64) bitsLt_bf16_f32

theorem out_eq (m : (ℓ : Loc nD τ sig) → Buf (Elt Ideal) ℓ) (c : Dev nD) :
    Reference43Ideal.Value.res_out0 m c = out43 (m ((c.tc : Thread nD τ).loc main_arg0)) (m ((c.tc : Thread nD τ).loc main_arg1)) (m ((c.tc : Thread nD τ).loc main_arg2)) (m ((c.tc : Thread nD τ).loc main_arg3)) := rfl

/-- A row of the band is the row of its place, or of zeros before the first block. -/
theorem band_at (a : FVec Ideal S4x4096x64 .f32) (u : Fin 4) (n : Fin 32) (j : Fin 256) (d : Fin 64) :
    band a (ix4 u n j d) = if j.val < 128 ∧ n.val < 1 then 0 else a (ix3 u (AttRow.place n j) d) := by
  unfold band
  pointwise
  unfold AttRow.place
  by_cases h : j.val < 128
  · by_cases h' : n.val < 1
    · rw [dif_pos h, dif_pos h', if_pos ⟨h, h'⟩]
    · rw [dif_pos h, dif_neg h', if_neg (show ¬(j.val < 128 ∧ n.val < 1) from fun hh => h' hh.2), dif_pos h]
  · rw [dif_neg h, if_neg (show ¬(j.val < 128 ∧ n.val < 1) from fun hh => h hh.1), dif_neg h]

theorem valid_at (n : Fin 32) (r : Fin 128) (j : Fin 256) : valid (ix3 n r j) = AttRow.window n r j := by
  unfold valid
  pointwise
  have h1 : ∀ (r : Fin 128) (j : Fin 256), IntOp.andi
      (IntOp.cmpi CmpIPredicate.sge (IntOp.subi (IntOp.addi (BitVec.ofNat 32 r.val) 128#32) (BitVec.ofNat 32 j.val)) 0#32)
      (IntOp.cmpi CmpIPredicate.slt (IntOp.subi (IntOp.addi (BitVec.ofNat 32 r.val) 128#32) (BitVec.ofNat 32 j.val)) 128#32)
        = if (if j.val < 128 then r.val < j.val else j.val - 128 ≤ r.val) then 1#1 else 0#1 := by decide +kernel
  have h2 : ∀ (n : Fin 32) (j : Fin 256), IntOp.cmpi CmpIPredicate.sge
      (IntOp.subi (IntOp.addi (IntOp.muli (BitVec.ofNat 32 n.val) 128#32) (BitVec.ofNat 32 j.val)) 128#32) 0#32 = if j.val < 128 ∧ n.val < 1 then 0#1 else 1#1 := by decide +kernel
  rw [h1, h2]
  unfold AttRow.window
  split_ifs <;> first | rfl | (exfalso; omega)

theorem scores_at (q : FVec Ideal S32x4096x64 .f32) (k : FVec Ideal S4x32x256x64 .f32) (ok : IVec S32x128x256 1) (u : Fin 4) (g : Fin 8) (n : Fin 32) (r : Fin 128) (j : Fin 256)
    (a : Fin 32) (ha : a.val = u.val * 8 + g.val) (b : Fin 4096) (hb : b.val = n.val * 128 + r.val) :
    scores q k ok (ix5 u g n r j) = AttRow.score (fun x => q (ix3 a b x)) (fun j x => k (ix4 u n j x)) (fun j => ok (ix3 n r j)) j := by
  have hbot : (id (constant S_ .f32 0xFF800000#32) : FVec Ideal S_ .f32) ix0 = (⊥ : EReal) := by
    show Ideal.ofBits .f32 0xFF800000#32 = ⊥
    simp [Ideal.ofBits, Ideal.ieee]
  unfold scores AttRow.score
  pointwise
  obtain ⟨a, pa⟩ := a
  obtain ⟨b, pb⟩ := b
  change a = _ at ha
  change b = _ at hb
  subst ha hb
  rw [hbot]
  exact congrArg (fun s : EReal => Scalar.select _ s ⊥) (Finset.sum_congr rfl fun x _ => mul_comm _ _)

theorem rowTops_at (s : FVec Ideal S4x8x32x128x256 .f32) (u : Fin 4) (g : Fin 8) (n : Fin 32) (r : Fin 128) :
    rowTops s (ix4 u g n r) = Finset.fold max (Ideal.ofBits FTy.f32 4286578688#32) (fun x => s (ix5 u g n r x)) Finset.univ := by
  unfold rowTops
  pointwise

theorem tops_at (s : FVec Ideal S4x8x32x128 .f32) (z : FVec Ideal S32 .f32) (u : Fin 4) (g : Fin 8) (n : Fin 32) (r : Fin 128)
    (a : Fin 32) (ha : a.val = u.val * 8 + g.val) : tops s z (ix5 u g n r 0) = max (s (ix4 u g n r)) (z (ix1 a)) := by
  unfold tops
  pointwise
  exact congrArg (fun a => max (s (ix4 u g n r)) (z (ix1 a))) (Fin.ext ha.symm)

theorem weights_at (s : FVec Ideal S4x8x32x128x256 .f32) (t : FVec Ideal S4x8x32x128x1 .f32) (u : Fin 4) (g : Fin 8) (n : Fin 32) (r : Fin 128) (j : Fin 256) :
    weights s t (ix5 u g n r j) = Ideal.exp (s (ix5 u g n r j) - t (ix5 u g n r 0)) := by
  unfold weights
  pointwise

theorem mixed_at (v : FVec Ideal S4x32x256x64 .f32) (z : FVec Ideal S32 .f32) (t : FVec Ideal S4x8x32x128x1 .f32) (p : FVec Ideal S4x8x32x128x256 .f32) (u : Fin 4) (g : Fin 8) (n : Fin 32) (r : Fin 128) (d : Fin 64)
    (a : Fin 32) (ha : a.val = u.val * 8 + g.val) :
    mixed v z t p (ix5 u g n r d) = Ideal.div (∑ x, p (ix5 u g n r x) * v (ix4 u n x d)) (∑ x, p (ix5 u g n r x) + Ideal.exp (z (ix1 a) - t (ix5 u g n r 0))) := by
  unfold mixed
  pointwise
  have hz : (⟨u.val * 8 + g.val, by omega⟩ : Fin 32) = a := Fin.ext ha.symm
  rw [hz]
  exact congrArg (fun s : EReal => Ideal.div s _) (Finset.sum_congr rfl fun x _ => mul_comm _ _)

theorem out_at (x : FVec Ideal S4x8x32x128x64 .f32) (a : Fin 32) (b : Fin 4096) (d : Fin 64) :
    truncf .bf16 (shapeCast S32x4096x64 x shapeCasts_S4x8x32x128x64_S32x4096x64) bitsLt_bf16_f32 (ix3 a b d)
      = x (ix5 ⟨a.val / 8, by omega⟩ ⟨a.val % 8, by omega⟩ ⟨b.val / 128, by omega⟩ ⟨b.val % 128, by omega⟩ d) := by
  pointwise

/-- A query's row of the mixed values is its row of attention. -/
theorem mixed_row (q : FVec Ideal S32x4096x64 .f32) (k v : FVec Ideal S4x4096x64 .f32) (z : FVec Ideal S32 .f32) (u : Fin 4) (g : Fin 8) (n : Fin 32) (r : Fin 128)
    (d : Fin 64) (a : Fin 32) (ha : a.val = u.val * 8 + g.val) (b : Fin 4096) (hb : b.val = n.val * 128 + r.val) :
    mixed (band v) z (tops (rowTops (scores q (band k) valid)) z) (weights (scores q (band k) valid) (tops (rowTops (scores q (band k) valid)) z)) (ix5 u g n r d)
      = AttRow.att (fun x => q (ix3 a b x)) (fun j x => k (ix3 u (AttRow.place n j) x)) (fun j x => v (ix3 u (AttRow.place n j) x))
        (AttRow.window n r) (z (ix1 a)) d := by
  refine (mixed_at _ z _ _ u g n r d a ha).trans ?_
  have hs (j : Fin 256) : scores q (band k) valid (ix5 u g n r j) = AttRow.score (fun x => q (ix3 a b x)) (fun j x => band k (ix4 u n j x)) (AttRow.window n r) j :=
    (scores_at q (band k) valid u g n r j a ha b hb).trans (congrArg (fun ok => AttRow.score _ _ ok j) (funext fun j => valid_at n r j))
  generalize scores q (band k) valid = s at hs ⊢
  have ht : tops (rowTops s) z (ix5 u g n r 0) = AttRow.top (AttRow.score (fun x => q (ix3 a b x)) (fun j x => band k (ix4 u n j x)) (AttRow.window n r)) (z (ix1 a)) := by
    refine (tops_at _ z u g n r a ha).trans ?_
    rw [rowTops_at, funext hs]
    rfl
  generalize tops (rowTops s) z = t at ht ⊢
  have hw (j : Fin 256) : weights s t (ix5 u g n r j) = AttRow.weight (AttRow.score (fun x => q (ix3 a b x)) (fun j x => band k (ix4 u n j x)) (AttRow.window n r)) (z (ix1 a)) j := by
    rw [weights_at, hs, ht]
    rfl
  generalize weights s t = p at hw ⊢
  rw [ht, funext hw]
  refine Eq.trans (b := AttRow.att (fun x => q (ix3 a b x)) (fun j x => band k (ix4 u n j x)) (fun j x => band v (ix4 u n j x)) (AttRow.window n r) (z (ix1 a)) d) ?_
    (AttRow.att_congr _ _ _ _ _ _ _ _ fun j hj => ?_)
  · unfold AttRow.att
    simp only [hw]
  · have h : ¬(j.val < 128 ∧ n.val < 1) := fun hh => by
      unfold AttRow.window at hj
      rw [if_pos hh.1, if_neg (show ¬(r.val < j.val ∧ 0 < n.val) from fun h' => absurd h'.2 (by omega))] at hj
      exact absurd hj (by decide)
    exact ⟨funext fun x => (band_at k u n j x).trans (if_neg h), funext fun x => (band_at v u n j x).trans (if_neg h)⟩

/-- The reference's result at a position. -/
theorem out43_at (q : FVec Ideal S32x4096x64 .f32) (k v : FVec Ideal S4x4096x64 .f32) (z : FVec Ideal S32 .f32) (a : Fin 32) (b : Fin 4096) (d : Fin 64) :
    out43 q k v z (ix3 a b d) = AttRow.att (fun x => q (ix3 a b x)) (fun j x => k (ix3 (AttRow.group a) (AttRow.place (AttRow.block b) j) x))
      (fun j x => v (ix3 (AttRow.group a) (AttRow.place (AttRow.block b) j) x)) (AttRow.window (AttRow.block b) (AttRow.row b)) (z (ix1 a)) d :=
  (out_at _ a b d).trans (mixed_row q k v z (AttRow.group a) ⟨a.val % 8, by omega⟩ (AttRow.block b) (AttRow.row b) d a
    (by show a.val = a.val / 8 * 8 + a.val % 8; omega) b (by show b.val = b.val / 128 * 128 + b.val % 128; omega))

end Cert.Reference43Ideal.Attn

namespace Cert.Proof

open Idealize.ShloMosaic TcCoe Idealize.SL.Sem StableHlo Tactic

theorem frame_Kernel43 : quiescent_Kernel43 := fun m ρ _ => Kernel43.Gen.frame m ρ

theorem frame_Kernel43Ideal : quiescent_Kernel43Ideal := fun m ρ _ => Kernel43Ideal.Gen.frame m ρ

theorem frame_Reference43Ideal : quiescent_Reference43Ideal := fun m ρ _ =>
  (θ_run _ _ _).mono (fun r h => ⟨fun c => (h c).2, sem_eq_zero_of_no_sems (by decide) r.2⟩)
    (Reference43Ideal.Value.run m ρ)

theorem preserves_Kernel43Ideal : preserves_Kernel43_Kernel43Ideal :=
  IdealRules.named_const.statement Kernel43Ideal.κ "mask" .f32 0xF149F2CA#32 ⊥ rfl

theorem value_Kernel43Ideal : algebraic_Kernel43Ideal_Reference43Ideal := by
  intro m ρ m' ρ' hp hag
  refine ⟨Kernel43Ideal.Attn.attended m, ?_, ?_⟩
  · exact (θ_run _ _ _).mono (fun _ h c => ⟨(h c).1.trans (Kernel43Ideal.Attn.final6 m c), (h c).2⟩) (Kernel43Ideal.Value.run_blocks m ρ)
  · refine (θ_run _ _ _).mono (fun _ h c => ⟨(h c).1.trans ?_, (h c).2⟩) (Reference43Ideal.Value.run m' ρ')
    obtain ⟨h0, h1, h2, h3⟩ := hag c
    refine (Reference43Ideal.Attn.out_eq m' c).trans ?_
    rw [h0, h1, h2, h3]
    funext i
    have hi : i = ix3 (i 0) (i 1) (i 2) := by funext a; fin_cases a <;> rfl
    exact (congrArg _ hi).trans (Reference43Ideal.Attn.out43_at _ _ _ _ (i 0) (i 1) (i 2))

end Cert.Proof

end
-- ==== Proof.lean ====
module

public import proofs.«01_k».proof.Proof.GluClaim
public import proofs.«01_k».proof.Proof.Gen.ReferenceIdeal
public import proofs.«01_k».proof.Proof.UpW
public import proofs.«01_k».proof.Proof.UpX
public import proofs.«01_k».proof.Proof.DownW
public import proofs.«01_k».proof.Proof.DownX
public import proofs.«01_k».proof.Proof.UpF
public import proofs.«01_k».proof.Proof.DownF
public import proofs.«01_k».proof.Proof.ConfInW
public import proofs.«01_k».proof.Proof.ConfInX
public import proofs.«01_k».proof.Proof.ConfOutW
public import proofs.«01_k».proof.Proof.ConfOutX
public import proofs.«01_k».proof.Proof.ConfInF
public import proofs.«01_k».proof.Proof.ConfOutF
public import proofs.«01_k».proof.Proof.QkvW
public import proofs.«01_k».proof.Proof.QkvX
public import proofs.«01_k».proof.Proof.QkvF
public import proofs.«01_k».proof.Proof.AttOutF
public import proofs.«01_k».proof.Proof.StepUp
public import proofs.«01_k».proof.Proof.StepDown
public import proofs.«01_k».proof.Proof.StepConfIn
public import proofs.«01_k».proof.Proof.StepConfOut
public import proofs.«01_k».proof.Proof.StepQkv
public import proofs.«01_k».proof.Proof.StepGroup
public import proofs.«01_k».proof.Proof.StepConfTaps
public import proofs.«01_k».proof.Proof.StepFfnTaps
public import proofs.«01_k».proof.Proof.StepSmall
public import proofs.«01_k».proof.Proof.PoolBwd
public import proofs.«01_k».proof.Proof.PoolX
public import proofs.«01_k».proof.Proof.PoolW
public import proofs.«01_k».proof.Proof.PoolF
public import proofs.«01_k».proof.Proof.PoolFwd
public import proofs.«01_k».proof.Proof.Scale
public import proofs.«01_k».proof.Proof.Rows
public import proofs.«01_k».proof.Proof.Loss
public import proofs.«01_k».proof.Proof.NormT
public import proofs.«01_k».proof.Proof.NormF
public import proofs.«01_k».proof.Proof.LnSilu
public import proofs.«01_k».proof.Proof.GateFwd
public import proofs.«01_k».proof.Proof.GluFwd
public import proofs.«01_k».proof.Proof.NormBwd
public import proofs.«01_k».proof.Proof.LnBwd
public import proofs.«01_k».proof.Proof.RopeFwd
public import proofs.«01_k».proof.Proof.AttnFwd
public import Idealize.ShloMosaic.Adequacy
public import Idealize.ShloMosaic.Init

@[expose] public section

noncomputable section

namespace Cert.Proof

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Kernel42.Gen.facts, Cert.Kernel42Ideal.Gen.facts, Cert.Reference42Ideal.Gen.facts,
  Cert.Kernel43.Gen.facts, Cert.Kernel43Ideal.Gen.facts, Cert.Reference43Ideal.Gen.facts,
  Cert.Pre_finite.Gen.facts, Cert.Pre_finite_gain.Gen.facts,
  frame_Kernel, frame_KernelIdeal, frame_ReferenceIdeal,
  frame_Kernel2, frame_Kernel2Ideal, frame_Reference2Ideal,
  frame_Kernel3, frame_Kernel3Ideal, frame_Reference3Ideal,
  frame_Kernel4, frame_Kernel4Ideal, frame_Reference4Ideal,
  frame_Kernel5, frame_Kernel5Ideal, frame_Reference5Ideal,
  frame_Kernel6, frame_Kernel6Ideal, frame_Reference6Ideal,
  frame_Kernel7, frame_Kernel7Ideal, frame_Reference7Ideal,
  frame_Kernel8, frame_Kernel8Ideal, frame_Reference8Ideal,
  frame_Kernel9, frame_Kernel9Ideal, frame_Reference9Ideal,
  frame_Kernel10, frame_Kernel10Ideal, frame_Reference10Ideal,
  frame_Kernel11, frame_Kernel11Ideal, frame_Reference11Ideal,
  frame_Kernel12, frame_Kernel12Ideal, frame_Reference12Ideal,
  frame_Kernel13, frame_Kernel13Ideal, frame_Reference13Ideal,
  frame_Kernel14, frame_Kernel14Ideal, frame_Reference14Ideal,
  frame_Kernel15, frame_Kernel15Ideal, frame_Reference15Ideal,
  frame_Kernel16, frame_Kernel16Ideal, frame_Reference16Ideal,
  frame_Kernel17, frame_Kernel17Ideal, frame_Reference17Ideal,
  frame_Kernel18, frame_Kernel18Ideal, frame_Reference18Ideal,
  frame_Kernel19, frame_Kernel19Ideal, frame_Reference19Ideal,
  frame_Kernel20, frame_Kernel20Ideal, frame_Reference20Ideal,
  frame_Kernel21, frame_Kernel21Ideal, frame_Reference21Ideal,
  frame_Kernel22, frame_Kernel22Ideal, frame_Reference22Ideal,
  frame_Kernel23, frame_Kernel23Ideal, frame_Reference23Ideal,
  frame_Kernel24, frame_Kernel24Ideal, frame_Reference24Ideal,
  frame_Kernel25, frame_Kernel25Ideal, frame_Reference25Ideal,
  frame_Kernel26, frame_Kernel26Ideal, frame_Reference26Ideal,
  frame_Kernel27, frame_Kernel27Ideal, frame_Reference27Ideal,
  frame_Kernel28, frame_Kernel28Ideal, frame_Reference28Ideal,
  frame_Kernel29, frame_Kernel29Ideal, frame_Reference29Ideal,
  frame_Kernel30, frame_Kernel30Ideal, frame_Reference30Ideal,
  frame_Kernel31, frame_Kernel31Ideal, frame_Reference31Ideal,
  frame_Kernel32, frame_Kernel32Ideal, frame_Reference32Ideal,
  frame_Kernel33, frame_Kernel33Ideal, frame_Reference33Ideal,
  frame_Kernel34, frame_Kernel34Ideal, frame_Reference34Ideal,
  frame_Kernel35, frame_Kernel35Ideal, frame_Reference35Ideal,
  frame_Kernel36, frame_Kernel36Ideal, frame_Reference36Ideal,
  frame_Kernel37, frame_Kernel37Ideal, frame_Reference37Ideal,
  frame_Kernel38, frame_Kernel38Ideal, frame_Reference38Ideal,
  frame_Kernel39, frame_Kernel39Ideal, frame_Reference39Ideal,
  frame_Kernel40, frame_Kernel40Ideal, frame_Reference40Ideal,
  frame_Kernel41, frame_Kernel41Ideal, frame_Kernel41Ideal_finite, frame_Reference41Ideal, frame_Reference41Ideal_finite,
  frame_Kernel42, frame_Kernel42Ideal, frame_Kernel42Ideal_finite_gain, frame_Reference42Ideal, frame_Reference42Ideal_finite_gain,
  frame_Kernel43, frame_Kernel43Ideal, frame_Reference43Ideal,
  trivial, value_KernelIdeal,
  trivial, value_Kernel2Ideal,
  trivial, value_Kernel3Ideal,
  trivial, value_Kernel4Ideal,
  trivial, value_Kernel5Ideal,
  trivial, value_Kernel6Ideal,
  trivial, value_Kernel7Ideal,
  trivial, value_Kernel8Ideal,
  trivial, value_Kernel9Ideal,
  trivial, value_Kernel10Ideal,
  trivial, value_Kernel11Ideal,
  trivial, value_Kernel12Ideal,
  trivial, value_Kernel13Ideal,
  trivial, value_Kernel14Ideal,
  trivial, value_Kernel15Ideal,
  trivial, value_Kernel16Ideal,
  trivial, value_Kernel17Ideal,
  trivial, value_Kernel18Ideal,
  trivial, value_Kernel19Ideal,
  trivial, value_Kernel20Ideal,
  trivial, value_Kernel21Ideal,
  trivial, value_Kernel22Ideal,
  trivial, value_Kernel23Ideal,
  trivial, value_Kernel24Ideal,
  trivial, value_Kernel25Ideal,
  trivial, value_Kernel26Ideal,
  trivial, value_Kernel27Ideal,
  trivial, value_Kernel28Ideal,
  trivial, value_Kernel29Ideal,
  trivial, value_Kernel30Ideal,
  trivial, value_Kernel31Ideal,
  trivial, value_Kernel32Ideal,
  trivial, value_Kernel33Ideal,
  trivial, value_Kernel34Ideal,
  trivial, value_Kernel35Ideal,
  trivial, value_Kernel36Ideal,
  trivial, value_Kernel37Ideal,
  trivial, value_Kernel38Ideal,
  trivial, value_Kernel39Ideal,
  trivial, value_Kernel40Ideal,
  trivial, value_Kernel41Ideal,
  trivial, value_Kernel42Ideal,
  preserves_Kernel43Ideal, value_Kernel43Ideal⟩

end Cert.Proof

end
